-- ==== Defs.lean ====
def Pre_Kernel [hPre_sizes_fill_rows : Cert.Pre_sizes_fill_rows.Facts] (m : (ℓ : Loc Cert.Kernel.nD Cert.Kernel.τ Cert.Kernel.sig) → Buf (Elt Bits) ℓ) : Prop :=
  ∀ c : Dev Cert.Kernel.nD,
    (Cert.Pre_sizes_fill_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_fill_rows : Cert.Pre_sizes_fill_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fill_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fill_rows [hPre_sizes_fill_rows : Cert.Pre_sizes_fill_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fill_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_fill_rows : Cert.Pre_sizes_fill_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_fill_rows : Cert.Pre_sizes_fill_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_fill_rows [hReferenceIdeal : Cert.ReferenceIdeal.Facts] [hPre_sizes_fill_rows : Cert.Pre_sizes_fill_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fill_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fill_rows : Cert.Pre_sizes_fill_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_fill_rows : Cert.Pre_sizes_fill_rows.Facts),
    quiescent_Kernel (hKernel := hKernel) (hPre_sizes_fill_rows := hPre_sizes_fill_rows)
    ∧ quiescent_KernelIdeal (hKernelIdeal := hKernelIdeal) (hPre_sizes_fill_rows := hPre_sizes_fill_rows)
    ∧ quiescent_ReferenceIdeal (hReferenceIdeal := hReferenceIdeal)
    ∧ quiescent_ReferenceIdeal_pre_sizes_fill_rows (hReferenceIdeal := hReferenceIdeal) (hPre_sizes_fill_rows := hPre_sizes_fill_rows)
    ∧ preserves_Kernel_KernelIdeal
    ∧ algebraic_KernelIdeal_ReferenceIdeal (hKernelIdeal := hKernelIdeal) (hReferenceIdeal := hReferenceIdeal) (hPre_sizes_fill_rows := hPre_sizes_fill_rows)
-- ==== Pre_sizes_fill_rows.lean ====
abbrev S3072x7168 : Shape := ⟨2, ![3072, 7168]⟩
abbrev S13 : Shape := ⟨1, ![13]⟩
abbrev S13x7168x4096 : Shape := ⟨3, ![13, 7168, 4096]⟩
abbrev S13x4096 : Shape := ⟨2, ![13, 4096]⟩
abbrev S1 : Shape := ⟨1, ![1]⟩
abbrev S_ : Shape := ⟨0, ![]⟩

class Facts : Prop where
  slices_S13_S1_0 : S13.Slices ![0] S1
  shapeCasts_S1_S_ : S1.ShapeCasts S_
  slices_S13_S1_1 : S13.Slices ![1] S1
  slices_S13_S1_2 : S13.Slices ![2] S1
  slices_S13_S1_3 : S13.Slices ![3] S1
  slices_S13_S1_4 : S13.Slices ![4] S1
  slices_S13_S1_5 : S13.Slices ![5] S1
  slices_S13_S1_6 : S13.Slices ![6] S1
  slices_S13_S1_7 : S13.Slices ![7] S1
  slices_S13_S1_8 : S13.Slices ![8] S1
  slices_S13_S1_9 : S13.Slices ![9] S1
  slices_S13_S1_10 : S13.Slices ![10] S1
  slices_S13_S1_11 : S13.Slices ![11] S1
  slices_S13_S1_12 : S13.Slices ![12] S1
  bcast_S_S13 : S_.BroadcastsInDim S13 (![] : Fin 0 → Fin S13.rank)

variable [Facts]

def fn_part2 {F : FTy → Type} [FloatOps F] (main_v42 : IVec S13 1) (main_v44 : IVec S13 1) : IVec S13 1 :=
  let main_v45 : IVec S13 1 := andi main_v42 main_v44
  main_v45

def fn_part1 {F : FTy → Type} [FloatOps F] (main_arg1 : IVec S13 32) (main_v22 : IVec S_ 32) (main_v23 : IVec S1 32) : IVec S13 1 :=
  let main_v24 : IVec S_ 32 := shapeCast S_ main_v23 shapeCasts_S1_S_
  let main_v25 : IVec S_ 32 := addi main_v22 main_v24
  let main_v26 : IVec S1 32 := (extractStridedSlice S1 ![9] · slices_S13_S1_9) main_arg1
  let main_v27 : IVec S_ 32 := shapeCast S_ main_v26 shapeCasts_S1_S_
  let main_v28 : IVec S_ 32 := addi main_v25 main_v27
  let main_v29 : IVec S1 32 := (extractStridedSlice S1 ![10] · slices_S13_S1_10) main_arg1
  let main_v30 : IVec S_ 32 := shapeCast S_ main_v29 shapeCasts_S1_S_
  let main_v31 : IVec S_ 32 := addi main_v28 main_v30
  let main_v32 : IVec S1 32 := (extractStridedSlice S1 ![11] · slices_S13_S1_11) main_arg1
  let main_v33 : IVec S_ 32 := shapeCast S_ main_v32 shapeCasts_S1_S_
  let main_v34 : IVec S_ 32 := addi main_v31 main_v33
  let main_v35 : IVec S1 32 := (extractStridedSlice S1 ![12] · slices_S13_S1_12) main_arg1
  let main_v36 : IVec S_ 32 := shapeCast S_ main_v35 shapeCasts_S1_S_
  let main_v37 : IVec S_ 32 := addi main_v34 main_v36
  let main_c : IVec S_ 32 := constantI S_ 32 0#32
  let main_v38 : IVec S13 32 := broadcastInDim S13 ![] bcast_S_S13 main_c
  let main_v39 : IVec S13 1 := cmpi .sge main_arg1 main_v38
  let main_c_0 : IVec S_ 32 := constantI S_ 32 3072#32
  let main_v40 : IVec S13 32 := broadcastInDim S13 ![] bcast_S_S13 main_c_0
  let main_v41 : IVec S13 1 := cmpi .sle main_arg1 main_v40
  let main_v42 : IVec S13 1 := andi main_v39 main_v41
  let main_c_1 : IVec S_ 32 := constantI S_ 32 3072#32
  let main_v43 : IVec S_ 1 := cmpi .eq main_v37 main_c_1
  let main_v44 : IVec S13 1 := broadcastInDim S13 ![] bcast_S_S13 main_v43
  fn_part2 (F := F) main_v42 main_v44

def fn {F : FTy → Type} [FloatOps F] (main_arg0 : FVec F S3072x7168 .bf16) (main_arg1 : IVec S13 32) (main_arg2 : FVec F S13x7168x4096 .fp8e4m3) (main_arg3 : FVec F S13x4096 .f32) : IVec S13 1 :=
  let main_v0 : IVec S1 32 := (extractStridedSlice S1 ![0] · slices_S13_S1_0) main_arg1
  let main_v1 : IVec S_ 32 := shapeCast S_ main_v0 shapeCasts_S1_S_
  let main_v2 : IVec S1 32 := (extractStridedSlice S1 ![1] · slices_S13_S1_1) main_arg1
  let main_v3 : IVec S_ 32 := shapeCast S_ main_v2 shapeCasts_S1_S_
  let main_v4 : IVec S_ 32 := addi main_v1 main_v3
  let main_v5 : IVec S1 32 := (extractStridedSlice S1 ![2] · slices_S13_S1_2) main_arg1
  let main_v6 : IVec S_ 32 := shapeCast S_ main_v5 shapeCasts_S1_S_
  let main_v7 : IVec S_ 32 := addi main_v4 main_v6
  let main_v8 : IVec S1 32 := (extractStridedSlice S1 ![3] · slices_S13_S1_3) main_arg1
  let main_v9 : IVec S_ 32 := shapeCast S_ main_v8 shapeCasts_S1_S_
  let main_v10 : IVec S_ 32 := addi main_v7 main_v9
  let main_v11 : IVec S1 32 := (extractStridedSlice S1 ![4] · slices_S13_S1_4) main_arg1
  let main_v12 : IVec S_ 32 := shapeCast S_ main_v11 shapeCasts_S1_S_
  let main_v13 : IVec S_ 32 := addi main_v10 main_v12
  let main_v14 : IVec S1 32 := (extractStridedSlice S1 ![5] · slices_S13_S1_5) main_arg1
  let main_v15 : IVec S_ 32 := shapeCast S_ main_v14 shapeCasts_S1_S_
  let main_v16 : IVec S_ 32 := addi main_v13 main_v15
  let main_v17 : IVec S1 32 := (extractStridedSlice S1 ![6] · slices_S13_S1_6) main_arg1
  let main_v18 : IVec S_ 32 := shapeCast S_ main_v17 shapeCasts_S1_S_
  let main_v19 : IVec S_ 32 := addi main_v16 main_v18
  let main_v20 : IVec S1 32 := (extractStridedSlice S1 ![7] · slices_S13_S1_7) main_arg1
  let main_v21 : IVec S_ 32 := shapeCast S_ main_v20 shapeCasts_S1_S_
  let main_v22 : IVec S_ 32 := addi main_v19 main_v21
  let main_v23 : IVec S1 32 := (extractStridedSlice S1 ![8] · slices_S13_S1_8) main_arg1
  fn_part1 (F := F) main_arg1 main_v22 main_v23
-- ==== Kernel.lean ====
abbrev S3072x7168 : Shape := ⟨2, ![3072, 7168]⟩
abbrev S13 : Shape := ⟨1, ![13]⟩
abbrev S13x7168x4096 : Shape := ⟨3, ![13, 7168, 4096]⟩
abbrev S13x4096 : Shape := ⟨2, ![13, 4096]⟩
abbrev S3072x2048 : Shape := ⟨2, ![3072, 2048]⟩
abbrev S1x3072 : Shape := ⟨2, ![1, 3072]⟩
abbrev S3072x128 : Shape := ⟨2, ![3072, 128]⟩
abbrev S3x2x7168x256 : Shape := ⟨4, ![3, 2, 7168, 256]⟩
abbrev S2x64x7168 : Shape := ⟨3, ![2, 64, 7168]⟩
abbrev S2x128x2048 : Shape := ⟨3, ![2, 128, 2048]⟩
abbrev S14 : Shape := ⟨1, ![14]⟩
abbrev S3 : Shape := ⟨1, ![3]⟩
abbrev S2 : Shape := ⟨1, ![2]⟩
abbrev S1 : Shape := ⟨1, ![1]⟩
abbrev S_ : Shape := ⟨0, ![]⟩
abbrev S1x64x7168 : Shape := ⟨3, ![1, 64, 7168]⟩
abbrev S64x7168 : Shape := ⟨2, ![64, 7168]⟩
abbrev S1x1x7168x256 : Shape := ⟨4, ![1, 1, 7168, 256]⟩
abbrev S7168x256 : Shape := ⟨2, ![7168, 256]⟩
abbrev S1x7168x256 : Shape := ⟨3, ![1, 7168, 256]⟩
abbrev S64x128 : Shape := ⟨2, ![64, 128]⟩
abbrev S64 : Shape := ⟨1, ![64]⟩
abbrev S64x1 : Shape := ⟨2, ![64, 1]⟩
abbrev S1x256 : Shape := ⟨2, ![1, 256]⟩
abbrev S128x7168 : Shape := ⟨2, ![128, 7168]⟩
abbrev S128x256 : Shape := ⟨2, ![128, 256]⟩
abbrev S128x128 : Shape := ⟨2, ![128, 128]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩
abbrev S1x128 : Shape := ⟨2, ![1, 128]⟩
abbrev S3072x1 : Shape := ⟨2, ![3072, 1]⟩

abbrev nBuf : Space → Nat
  | .hbm => 7
  | .vmem => 8
  | .smem => 3
  | _ => 0

abbrev bufTy : (tb : Table) → Fin (tcTables nBuf tb) → BufTy
  | .hbm, ⟨0, _⟩ => ⟨S3072x7168, .bf16⟩
  | .hbm, ⟨1, _⟩ => ⟨S13, .i32⟩
  | .hbm, ⟨2, _⟩ => ⟨S13x7168x4096, .fp8e4m3⟩
  | .hbm, ⟨3, _⟩ => ⟨S13x4096, .f32⟩
  | .hbm, ⟨4, _⟩ => ⟨S3072x2048, .fp8e4m3⟩
  | .hbm, ⟨5, _⟩ => ⟨S1x3072, .f32⟩
  | .hbm, ⟨6, _⟩ => ⟨S3072x1, .f32⟩
  | .local _ .vmem, ⟨0, _⟩ => ⟨S13x4096, .f32⟩
  | .local _ .vmem, ⟨1, _⟩ => ⟨S1x3072, .f32⟩
  | .local _ .vmem, ⟨2, _⟩ => ⟨S3072x7168, .fp8e4m3⟩
  | .local _ .vmem, ⟨3, _⟩ => ⟨S3072x128, .f32⟩
  | .local _ .vmem, ⟨4, _⟩ => ⟨S3072x2048, .f32⟩
  | .local _ .vmem, ⟨5, _⟩ => ⟨S3x2x7168x256, .fp8e4m3⟩
  | .local _ .vmem, ⟨6, _⟩ => ⟨S2x64x7168, .bf16⟩
  | .local _ .vmem, ⟨7, _⟩ => ⟨S2x128x2048, .fp8e4m3⟩
  | .local _ .smem, ⟨0, _⟩ => ⟨S13, .i32⟩
  | .local _ .smem, ⟨1, _⟩ => ⟨S13, .i32⟩
  | .local _ .smem, ⟨2, _⟩ => ⟨S14, .i32⟩
  | _, _ => ⟨S3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_scratch6 : Ref sig .tc := ⟨.smem, 1, rfl⟩
abbrev cc0_scratch7 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c13_i32 : BitVec 32 := 13#32
  let v0 : BitVec 32 := Scalar.addi c0_i32_1 c13_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg17 : BitVec 32 := Scf.iv c0_i32_1 c1_i32 k0_t1
  let v46 : Index := Scalar.indexCast arg17
  ![v46.toNat]
def k0_off2 (k0_t1 : Fin k0_t1_loop.trips) : Fin 1 → Nat :=
  let c0_i32_1 : BitVec 32 := 0#32
  let c1_i32 : BitVec 32 := 1#32
  let arg17 : BitVec 32 := Scf.iv c0_i32_1 c1_i32 k0_t1
  let v48 : Index := Scalar.indexCast arg17
  ![v48.toNat]
def k0_off3 (arg19 : BitVec 32) : Fin 1 → Nat :=
  let v57 : Index := Scalar.indexCast arg19
  ![v57.toNat]
def k0_cond1 (v49 : BitVec 32) : BitVec 1 :=
  let c0_i32_37 : BitVec 32 := 0#32
  let v50 : BitVec 1 := Scalar.cmpi .sgt v49 c0_i32_37
  let v51 : BitVec 32 := Scalar.extui v50
  let c0_i32_38 : BitVec 32 := 0#32
  let v52 : BitVec 1 := Scalar.cmpi .ne v51 c0_i32_38
  v52

def k0_chk1 (arg19 : BitVec 32) (v49 : BitVec 32) : Prop :=
  (∀ (k0_h1 : k0_cond1 v49 = 1#1), ∀ a, (k0_off3 arg19) a + S1.size a ≤ S13.size a)
theorem k0_off3_inb : ∀ (arg19 : BitVec 32) (v49 : BitVec 32) (k0_hw1 : k0_chk1 arg19 v49), ∀ (k0_h1 : k0_cond1 v49 = 1#1), ∀ a, (k0_off3 arg19) a + S1.size a ≤ S13.size a := fun arg19 v49 k0_hw1 k0_h1 => k0_hw1 k0_h1

def k0_mult1 : BitVec 32 :=
  let c0_i32_3 : BitVec 32 := 0#32
  c0_i32_3
def k0_mult2 : BitVec 32 :=
  let c64_i32 : BitVec 32 := 64#32
  c64_i32
def k0_off4 (v1_1 : BitVec 32) : Fin 1 → Nat :=
  let c0_i32_38 : BitVec 32 := 0#32
  let v47 : BitVec 32 := Scalar.remsi c0_i32_38 v1_1
  let v48 : Index := Scalar.indexCast v47
  ![v48.toNat]
def k0_cond2 (v1_1 : BitVec 32) : BitVec 1 :=
  let c8_i32 : BitVec 32 := 8#32
  let v3 : BitVec 32 := Scalar.muli v1_1 c8_i32
  let c0_i32_14 : BitVec 32 := 0#32
  let v16 : BitVec 1 := Scalar.cmpi .sgt v3 c0_i32_14
  let v17 : BitVec 32 := Scalar.extui v16
  let c0_i32_15 : BitVec 32 := 0#32
  let v18 : BitVec 1 := Scalar.cmpi .ne v17 c0_i32_15
  v18

def k0_mult3 (v1_1 : BitVec 32) : BitVec 32 :=
  let c0_i32_37 : BitVec 32 := 0#32
  let v46 : BitVec 32 := Scalar.divsi c0_i32_37 v1_1
  let c256_i32 : BitVec 32 := 256#32
  let v51 : BitVec 32 := Scalar.muli v46 c256_i32
  v51
def k0_mult4 (v1_1 : BitVec 32) : BitVec 32 :=
  let c0_i32_37 : BitVec 32 := 0#32
  let v46 : BitVec 32 := Scalar.divsi c0_i32_37 v1_1
  let c256_i32_41 : BitVec 32 := 256#32
  let v54 : BitVec 32 := Scalar.muli v46 c256_i32_41
  v54
def k0_off5 : Fin 1 → Nat :=
  let c0_i32_39 : BitVec 32 := 0#32
  let c3_i32 : BitVec 32 := 3#32
  let v50 : BitVec 32 := Scalar.remsi c0_i32_39 c3_i32
  ![v50.toNat]
def k0_off6 : Fin 4 → Nat :=
  let c0_i32_39 : BitVec 32 := 0#32
  let c3_i32 : BitVec 32 := 3#32
  let v50 : BitVec 32 := Scalar.remsi c0_i32_39 c3_i32
  let c0_i32_42 : BitVec 32 := 0#32
  let c0_i32_43 : BitVec 32 := 0#32
  let c0_i32_44 : BitVec 32 := 0#32
  ![v50.toNat, 0, 0, 0]
def k0_off7 (v1_1 : BitVec 32) (v49 : BitVec 32) (c0_i32_40 : BitVec 32) : Fin 3 → Nat :=
  let c0_i32_45 : BitVec 32 := 0#32
  let c0_i32_37 : BitVec 32 := 0#32
  let v46 : BitVec 32 := Scalar.divsi c0_i32_37 v1_1
  let c256_i32 : BitVec 32 := 256#32
  let v51 : BitVec 32 := Scalar.muli v46 c256_i32
  let v52 : BitVec 32 := v51
  let v53 : BitVec 32 := Scalar.addi c0_i32_40 v52
  ![v49.toNat, 0, v53.toNat]

def k0_chk3 (v1_1 : BitVec 32) (v49 : BitVec 32) : Prop :=
  (∀ (k0_h2 : k0_cond2 v1_1 = 1#1), ∀ (r : Fin 2), ∀ a, (k0_off7 v1_1 v49 (BitVec.ofNat 32 (2048 * r.val))) a + S1x7168x256.size a ≤ S13x7168x4096.size a) ∧
  (∀ (k0_h2 : k0_cond2 v1_1 = 1#1), ∀ (r : Fin 2), ∀ (hinb : ∀ a, (k0_off7 v1_1 v49 (BitVec.ofNat 32 (2048 * r.val))) a + S1x7168x256.size a ≤ S13x7168x4096.size a), (Rect.unit (s := S13x7168x4096) (k0_off7 v1_1 v49 (BitVec.ofNat 32 (2048 * r.val))) S1x7168x256.size hinb).WholeWords (EltTy.packing .fp8e4m3))
theorem k0_off7_inb : ∀ (v1_1 : BitVec 32) (v49 : BitVec 32) (k0_hw3 : k0_chk3 v1_1 v49), ∀ (k0_h2 : k0_cond2 v1_1 = 1#1), ∀ (r : Fin 2), ∀ a, (k0_off7 v1_1 v49 (BitVec.ofNat 32 (2048 * r.val))) a + S1x7168x256.size a ≤ S13x7168x4096.size a := fun v1_1 v49 k0_hw3 k0_h2 r => k0_hw3.1 k0_h2 r
theorem k0_off7_wordsfp8e4m3 : ∀ (v1_1 : BitVec 32) (v49 : BitVec 32) (k0_hw3 : k0_chk3 v1_1 v49), ∀ (k0_h2 : k0_cond2 v1_1 = 1#1), ∀ (r : Fin 2), (Rect.unit (s := S13x7168x4096) (k0_off7 v1_1 v49 (BitVec.ofNat 32 (2048 * r.val))) S1x7168x256.size (k0_off7_inb v1_1 v49 k0_hw3 k0_h2 r)).WholeWords (EltTy.packing .fp8e4m3) := fun v1_1 v49 k0_hw3 k0_h2 r => k0_hw3.2 k0_h2 r (k0_off7_inb v1_1 v49 k0_hw3 k0_h2 r)

def k0_off8 : Fin 1 → Nat :=
  let c0_i32_39 : BitVec 32 := 0#32
  let c3_i32 : BitVec 32 := 3#32
  let v50 : BitVec 32 := Scalar.remsi c0_i32_39 c3_i32
  ![v50.toNat]
def k0_off9 : Fin 4 → Nat :=
  let c0_i32_39 : BitVec 32 := 0#32
  let c3_i32 : BitVec 32 := 3#32
  let v50 : BitVec 32 := Scalar.remsi c0_i32_39 c3_i32
  let c1_i32_46 : BitVec 32 := 1#32
  let c0_i32_47 : BitVec 32 := 0#32
  let c0_i32_48 : BitVec 32 := 0#32
  ![v50.toNat, 1, 0, 0]
def k0_off10 (v1_1 : BitVec 32) : Fin 1 → Nat :=
  let c1_i32_38 : BitVec 32 := 1#32
  let v47 : BitVec 32 := Scalar.remsi c1_i32_38 v1_1
  let v48 : Index := Scalar.indexCast v47
  ![v48.toNat]
def k0_cond3 (v1_1 : BitVec 32) : BitVec 1 :=
  let c8_i32 : BitVec 32 := 8#32
  let v3 : BitVec 32 := Scalar.muli v1_1 c8_i32
  let c1_i32_16 : BitVec 32 := 1#32
  let v19 : BitVec 1 := Scalar.cmpi .sgt v3 c1_i32_16
  let v20 : BitVec 32 := Scalar.extui v19
  let c0_i32_17 : BitVec 32 := 0#32
  let v21 : BitVec 1 := Scalar.cmpi .ne v20 c0_i32_17
  v21

def k0_mult5 (v1_1 : BitVec 32) : BitVec 32 :=
  let c1_i32_37 : BitVec 32 := 1#32
  let v46 : BitVec 32 := Scalar.divsi c1_i32_37 v1_1
  let c256_i32 : BitVec 32 := 256#32
  let v51 : BitVec 32 := Scalar.muli v46 c256_i32
  v51
def k0_mult6 (v1_1 : BitVec 32) : BitVec 32 :=
  let c1_i32_37 : BitVec 32 := 1#32
  let v46 : BitVec 32 := Scalar.divsi c1_i32_37 v1_1
  let c256_i32_41 : BitVec 32 := 256#32
  let v54 : BitVec 32 := Scalar.muli v46 c256_i32_41
  v54
def k0_off11 : Fin 1 → Nat :=
  let c1_i32_39 : BitVec 32 := 1#32
  let c3_i32 : BitVec 32 := 3#32
  let v50 : BitVec 32 := Scalar.remsi c1_i32_39 c3_i32
  ![v50.toNat]
def k0_off12 : Fin 4 → Nat :=
  let c1_i32_39 : BitVec 32 := 1#32
  let c3_i32 : BitVec 32 := 3#32
  let v50 : BitVec 32 := Scalar.remsi c1_i32_39 c3_i32
  let c0_i32_42 : BitVec 32 := 0#32
  let c0_i32_43 : BitVec 32 := 0#32
  let c0_i32_44 : BitVec 32 := 0#32
  ![v50.toNat, 0, 0, 0]
def k0_off13 (v1_1 : BitVec 32) (v49 : BitVec 32) (c0_i32_40 : BitVec 32) : Fin 3 → Nat :=
  let c0_i32_45 : BitVec 32 := 0#32
  let c1_i32_37 : BitVec 32 := 1#32
  let v46 : BitVec 32 := Scalar.divsi c1_i32_37 v1_1
  let c256_i32 : BitVec 32 := 256#32
  let v51 : BitVec 32 := Scalar.muli v46 c256_i32
  let v52 : BitVec 32 := v51
  let v53 : BitVec 32 := Scalar.addi c0_i32_40 v52
  ![v49.toNat, 0, v53.toNat]

def k0_chk4 (v1_1 : BitVec 32) (v49 : BitVec 32) : Prop :=
  (∀ (k0_h3 : k0_cond3 v1_1 = 1#1), ∀ (r : Fin 2), ∀ a, (k0_off13 v1_1 v49 (BitVec.ofNat 32 (2048 * r.val))) a + S1x7168x256.size a ≤ S13x7168x4096.size a) ∧
  (∀ (k0_h3 : k0_cond3 v1_1 = 1#1), ∀ (r : Fin 2), ∀ (hinb : ∀ a, (k0_off13 v1_1 v49 (BitVec.ofNat 32 (2048 * r.val))) a + S1x7168x256.size a ≤ S13x7168x4096.size a), (Rect.unit (s := S13x7168x4096) (k0_off13 v1_1 v49 (BitVec.ofNat 32 (2048 * r.val))) S1x7168x256.size hinb).WholeWords (EltTy.packing .fp8e4m3))
theorem k0_off13_inb : ∀ (v1_1 : BitVec 32) (v49 : BitVec 32) (k0_hw4 : k0_chk4 v1_1 v49), ∀ (k0_h3 : k0_cond3 v1_1 = 1#1), ∀ (r : Fin 2), ∀ a, (k0_off13 v1_1 v49 (BitVec.ofNat 32 (2048 * r.val))) a + S1x7168x256.size a ≤ S13x7168x4096.size a := fun v1_1 v49 k0_hw4 k0_h3 r => k0_hw4.1 k0_h3 r
theorem k0_off13_wordsfp8e4m3 : ∀ (v1_1 : BitVec 32) (v49 : BitVec 32) (k0_hw4 : k0_chk4 v1_1 v49), ∀ (k0_h3 : k0_cond3 v1_1 = 1#1), ∀ (r : Fin 2), (Rect.unit (s := S13x7168x4096) (k0_off13 v1_1 v49 (BitVec.ofNat 32 (2048 * r.val))) S1x7168x256.size (k0_off13_inb v1_1 v49 k0_hw4 k0_h3 r)).WholeWords (EltTy.packing .fp8e4m3) := fun v1_1 v49 k0_hw4 k0_h3 r => k0_hw4.2 k0_h3 r (k0_off13_inb v1_1 v49 k0_hw4 k0_h3 r)

def k0_off14 : Fin 1 → Nat :=
  let c1_i32_39 : BitVec 32 := 1#32
  let c3_i32 : BitVec 32 := 3#32
  let v50 : BitVec 32 := Scalar.remsi c1_i32_39 c3_i32
  ![v50.toNat]
def k0_off15 : Fin 4 → Nat :=
  let c1_i32_39 : BitVec 32 := 1#32
  let c3_i32 : BitVec 32 := 3#32
  let v50 : BitVec 32 := Scalar.remsi c1_i32_39 c3_i32
  let c1_i32_46 : BitVec 32 := 1#32
  let c0_i32_47 : BitVec 32 := 0#32
  let c0_i32_48 : BitVec 32 := 0#32
  ![v50.toNat, 1, 0, 0]
@[reducible] def k0_t2_loop (v1_1 : BitVec 32) : Scf.Loop 32 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_22 : BitVec 32 := 1#32
  ⟨c0_i32_19, v30, c1_i32_22⟩
def k0_off16 (v1_1 : BitVec 32) (k0_t2 : Fin (k0_t2_loop v1_1).trips) : Fin 1 → Nat :=
  let c0_i32_19 : BitVec 32 := 0#32
  let c1_i32_22 : BitVec 32 := 1#32
  let arg17 : BitVec 32 := Scf.iv c0_i32_19 c1_i32_22 k0_t2
  let v47 : BitVec 32 := Scalar.remsi arg17 v1_1
  let v48 : Index := Scalar.indexCast v47
  ![v48.toNat]
def k0_off17 (v49 : BitVec 32) : Fin 1 → Nat :=
  let v51 : Index := Scalar.indexCast v49
  ![v51.toNat]

def k0_off18 (v49 : BitVec 32) : Fin 1 → Nat :=
  let c1_i32_37 : BitVec 32 := 1#32
  let v53 : BitVec 32 := Scalar.addi v49 c1_i32_37
  let v54 : Index := Scalar.indexCast v53
  ![v54.toNat]
@[reducible] def k0_t3_loop (arg18 : BitVec 32) (v55 : BitVec 32) : Scf.Loop 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_43 : BitVec 32 := 1#32
  ⟨arg18, v64, c1_i32_43⟩

def k0_mult7 (arg18 : BitVec 32) (v55 : BitVec 32) (k0_t3 : Fin (k0_t3_loop arg18 v55).trips) : BitVec 32 :=
  let c1_i32_43 : BitVec 32 := 1#32
  let arg19 : BitVec 32 := Scf.iv arg18 c1_i32_43 k0_t3
  let c64_i32_68 : BitVec 32 := 64#32
  let v115 : BitVec 32 := Scalar.muli arg19 c64_i32_68
  v115
def k0_off19 (arg18 : BitVec 32) (v55 : BitVec 32) (k0_t3 : Fin (k0_t3_loop arg18 v55).trips) : Fin 1 → Nat :=
  let c1_i32_43 : BitVec 32 := 1#32
  let arg19 : BitVec 32 := Scf.iv arg18 c1_i32_43 k0_t3
  let c2_i32 : BitVec 32 := 2#32
  let v114 : BitVec 32 := Scalar.remsi arg19 c2_i32
  ![v114.toNat]
def k0_off20 (arg18 : BitVec 32) (v55 : BitVec 32) (k0_t3 : Fin (k0_t3_loop arg18 v55).trips) : Fin 3 → Nat :=
  let c1_i32_43 : BitVec 32 := 1#32
  let arg19 : BitVec 32 := Scf.iv arg18 c1_i32_43 k0_t3
  let c2_i32 : BitVec 32 := 2#32
  let v114 : BitVec 32 := Scalar.remsi arg19 c2_i32
  let c0_i32_69 : BitVec 32 := 0#32
  let c0_i32_70 : BitVec 32 := 0#32
  ![v114.toNat, 0, 0]
def k0_off21 (arg18 : BitVec 32) (v55 : BitVec 32) (k0_t3 : Fin (k0_t3_loop arg18 v55).trips) : Fin 2 → Nat :=
  let c1_i32_43 : BitVec 32 := 1#32
  let arg19 : BitVec 32 := Scf.iv arg18 c1_i32_43 k0_t3
  let c64_i32_68 : BitVec 32 := 64#32
  let v115 : BitVec 32 := Scalar.muli arg19 c64_i32_68
  let v116 : BitVec 32 := v115
  let c0_i32_71 : BitVec 32 := 0#32
  ![v116.toNat, 0]
def k0_off22 (arg18 : BitVec 32) (v55 : BitVec 32) (k0_t3 : Fin (k0_t3_loop arg18 v55).trips) : Fin 3 → Nat :=
  let c1_i32_43 : BitVec 32 := 1#32
  let arg19 : BitVec 32 := Scf.iv arg18 c1_i32_43 k0_t3
  let c2_i32 : BitVec 32 := 2#32
  let v114 : BitVec 32 := Scalar.remsi arg19 c2_i32
  let v122 : Index := Scalar.indexCast v114
  let c0_72 : Index := 0#32
  let c0_73 : Index := 0#32
  ![v122.toNat, 0, 0]
def k0_mult8 (arg18 : BitVec 32) (v55 : BitVec 32) (k0_t3 : Fin (k0_t3_loop arg18 v55).trips) : BitVec 32 :=
  let c1_i32_43 : BitVec 32 := 1#32
  let arg19 : BitVec 32 := Scf.iv arg18 c1_i32_43 k0_t3
  let c64_i32_97 : BitVec 32 := 64#32
  let v377 : BitVec 32 := Scalar.muli arg19 c64_i32_97
  v377
def k0_off23 (arg18 : BitVec 32) (v55 : BitVec 32) (k0_t3 : Fin (k0_t3_loop arg18 v55).trips) : Fin 2 → Nat :=
  let c1_i32_43 : BitVec 32 := 1#32
  let arg19 : BitVec 32 := Scf.iv arg18 c1_i32_43 k0_t3
  let c64_i32_97 : BitVec 32 := 64#32
  let v377 : BitVec 32 := Scalar.muli arg19 c64_i32_97
  let v378 : BitVec 32 := v377
  let v381 : Index := Scalar.indexCast v378
  let c0_98 : Index := 0#32
  ![v381.toNat, 0]
def k0_off24 (arg18 : BitVec 32) (v55 : BitVec 32) (k0_t3 : Fin (k0_t3_loop arg18 v55).trips) : Fin 2 → Nat :=
  let c1_i32_43 : BitVec 32 := 1#32
  let arg19 : BitVec 32 := Scf.iv arg18 c1_i32_43 k0_t3
  let c64_i32_97 : BitVec 32 := 64#32
  let v377 : BitVec 32 := Scalar.muli arg19 c64_i32_97
  let v378 : BitVec 32 := v377
  let v395 : Index := Scalar.indexCast v378
  let c0_101 : Index := 0#32
  ![v395.toNat, 0]
def k0_mult9 (arg18 : BitVec 32) (v55 : BitVec 32) (k0_t3 : Fin (k0_t3_loop arg18 v55).trips) : BitVec 32 :=
  let c1_i32_43 : BitVec 32 := 1#32
  let arg19 : BitVec 32 := Scf.iv arg18 c1_i32_43 k0_t3
  let c2_i32_105 : BitVec 32 := 2#32
  let v403 : BitVec 32 := Scalar.addi arg19 c2_i32_105
  let c64_i32_106 : BitVec 32 := 64#32
  let v404 : BitVec 32 := Scalar.muli v403 c64_i32_106
  v404
def k0_cond4 (arg18 : BitVec 32) (v55 : BitVec 32) (k0_t3 : Fin (k0_t3_loop arg18 v55).trips) : BitVec 1 :=
  let c1_i32_43 : BitVec 32 := 1#32
  let arg19 : BitVec 32 := Scf.iv arg18 c1_i32_43 k0_t3
  let c2_i32_102 : BitVec 32 := 2#32
  let v399 : BitVec 32 := Scalar.addi arg19 c2_i32_102
  let c48_i32 : BitVec 32 := 48#32
  let v400 : BitVec 1 := Scalar.cmpi .slt v399 c48_i32
  let v401 : BitVec 32 := Scalar.extui v400
  let c0_i32_103 : BitVec 32 := 0#32
  let v402 : BitVec 1 := Scalar.cmpi .ne v401 c0_i32_103
  v402

def k0_off25 (arg18 : BitVec 32) (v55 : BitVec 32) (k0_t3 : Fin (k0_t3_loop arg18 v55).trips) : Fin 1 → Nat :=
  let c1_i32_43 : BitVec 32 := 1#32
  let arg19 : BitVec 32 := Scf.iv arg18 c1_i32_43 k0_t3
  let c2_i32 : BitVec 32 := 2#32
  let v114 : BitVec 32 := Scalar.remsi arg19 c2_i32
  ![v114.toNat]
def k0_off26 (arg18 : BitVec 32) (v55 : BitVec 32) (k0_t3 : Fin (k0_t3_loop arg18 v55).trips) : Fin 3 → Nat :=
  let c1_i32_43 : BitVec 32 := 1#32
  let arg19 : BitVec 32 := Scf.iv arg18 c1_i32_43 k0_t3
  let c2_i32 : BitVec 32 := 2#32
  let v114 : BitVec 32 := Scalar.remsi arg19 c2_i32
  let c0_i32_107 : BitVec 32 := 0#32
  let c0_i32_108 : BitVec 32 := 0#32
  ![v114.toNat, 0, 0]
def k0_off27 (arg18 : BitVec 32) (v55 : BitVec 32) (k0_t3 : Fin (k0_t3_loop arg18 v55).trips) : Fin 2 → Nat :=
  let c1_i32_43 : BitVec 32 := 1#32
  let arg19 : BitVec 32 := Scf.iv arg18 c1_i32_43 k0_t3
  let c2_i32_105 : BitVec 32 := 2#32
  let v403 : BitVec 32 := Scalar.addi arg19 c2_i32_105
  let c64_i32_106 : BitVec 32 := 64#32
  let v404 : BitVec 32 := Scalar.muli v403 c64_i32_106
  let v405 : BitVec 32 := v404
  let c0_i32_109 : BitVec 32 := 0#32
  ![v405.toNat, 0]
@[reducible] def k0_t4_loop (arg18 : BitVec 32) (v55 : BitVec 32) : Scf.Loop 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let v61 : BitVec 32 := Scalar.addi arg18 v60
  let c1_i32_44 : BitVec 32 := 1#32
  ⟨v64, v61, c1_i32_44⟩
def k0_mult10 (arg18 : BitVec 32) (v55 : BitVec 32) (k0_t4 : Fin (k0_t4_loop arg18 v55).trips) : BitVec 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c64_i32_68 : BitVec 32 := 64#32
  let v115 : BitVec 32 := Scalar.muli arg19 c64_i32_68
  v115
def k0_off28 (arg18 : BitVec 32) (v55 : BitVec 32) (k0_t4 : Fin (k0_t4_loop arg18 v55).trips) : Fin 1 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32 : BitVec 32 := 2#32
  let v114 : BitVec 32 := Scalar.remsi arg19 c2_i32
  ![v114.toNat]
def k0_off29 (arg18 : BitVec 32) (v55 : BitVec 32) (k0_t4 : Fin (k0_t4_loop arg18 v55).trips) : Fin 3 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32 : BitVec 32 := 2#32
  let v114 : BitVec 32 := Scalar.remsi arg19 c2_i32
  let c0_i32_69 : BitVec 32 := 0#32
  let c0_i32_70 : BitVec 32 := 0#32
  ![v114.toNat, 0, 0]
def k0_off30 (arg18 : BitVec 32) (v55 : BitVec 32) (k0_t4 : Fin (k0_t4_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c64_i32_68 : BitVec 32 := 64#32
  let v115 : BitVec 32 := Scalar.muli arg19 c64_i32_68
  let v116 : BitVec 32 := v115
  let c0_i32_71 : BitVec 32 := 0#32
  ![v116.toNat, 0]
def k0_off31 (arg18 : BitVec 32) (v55 : BitVec 32) (k0_t4 : Fin (k0_t4_loop arg18 v55).trips) : Fin 3 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32 : BitVec 32 := 2#32
  let v114 : BitVec 32 := Scalar.remsi arg19 c2_i32
  let v122 : Index := Scalar.indexCast v114
  let c0_72 : Index := 0#32
  let c0_73 : Index := 0#32
  ![v122.toNat, 0, 0]
def k0_mult11 (arg18 : BitVec 32) (v55 : BitVec 32) (k0_t4 : Fin (k0_t4_loop arg18 v55).trips) : BitVec 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c64_i32_97 : BitVec 32 := 64#32
  let v377 : BitVec 32 := Scalar.muli arg19 c64_i32_97
  v377
def k0_off32 (arg18 : BitVec 32) (v55 : BitVec 32) (k0_t4 : Fin (k0_t4_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c64_i32_97 : BitVec 32 := 64#32
  let v377 : BitVec 32 := Scalar.muli arg19 c64_i32_97
  let v378 : BitVec 32 := v377
  let v381 : Index := Scalar.indexCast v378
  let c0_98 : Index := 0#32
  ![v381.toNat, 0]
def k0_off33 (arg18 : BitVec 32) (v55 : BitVec 32) (k0_t4 : Fin (k0_t4_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c64_i32_97 : BitVec 32 := 64#32
  let v377 : BitVec 32 := Scalar.muli arg19 c64_i32_97
  let v378 : BitVec 32 := v377
  let v395 : Index := Scalar.indexCast v378
  let c0_101 : Index := 0#32
  ![v395.toNat, 0]
def k0_mult12 (arg18 : BitVec 32) (v55 : BitVec 32) (k0_t4 : Fin (k0_t4_loop arg18 v55).trips) : BitVec 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32_105 : BitVec 32 := 2#32
  let v403 : BitVec 32 := Scalar.addi arg19 c2_i32_105
  let c64_i32_106 : BitVec 32 := 64#32
  let v404 : BitVec 32 := Scalar.muli v403 c64_i32_106
  v404
def k0_cond5 (arg18 : BitVec 32) (v55 : BitVec 32) (k0_t4 : Fin (k0_t4_loop arg18 v55).trips) : BitVec 1 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32_102 : BitVec 32 := 2#32
  let v399 : BitVec 32 := Scalar.addi arg19 c2_i32_102
  let c48_i32 : BitVec 32 := 48#32
  let v400 : BitVec 1 := Scalar.cmpi .slt v399 c48_i32
  let v401 : BitVec 32 := Scalar.extui v400
  let c0_i32_103 : BitVec 32 := 0#32
  let v402 : BitVec 1 := Scalar.cmpi .ne v401 c0_i32_103
  v402

def k0_off34 (arg18 : BitVec 32) (v55 : BitVec 32) (k0_t4 : Fin (k0_t4_loop arg18 v55).trips) : Fin 1 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32 : BitVec 32 := 2#32
  let v114 : BitVec 32 := Scalar.remsi arg19 c2_i32
  ![v114.toNat]
def k0_off35 (arg18 : BitVec 32) (v55 : BitVec 32) (k0_t4 : Fin (k0_t4_loop arg18 v55).trips) : Fin 3 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32 : BitVec 32 := 2#32
  let v114 : BitVec 32 := Scalar.remsi arg19 c2_i32
  let c0_i32_107 : BitVec 32 := 0#32
  let c0_i32_108 : BitVec 32 := 0#32
  ![v114.toNat, 0, 0]
def k0_off36 (arg18 : BitVec 32) (v55 : BitVec 32) (k0_t4 : Fin (k0_t4_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t4
  let c2_i32_105 : BitVec 32 := 2#32
  let v403 : BitVec 32 := Scalar.addi arg19 c2_i32_105
  let c64_i32_106 : BitVec 32 := 64#32
  let v404 : BitVec 32 := Scalar.muli v403 c64_i32_106
  let v405 : BitVec 32 := v404
  let c0_i32_109 : BitVec 32 := 0#32
  ![v405.toNat, 0]
def k0_off37 (v1_1 : BitVec 32) (k0_t2 : Fin (k0_t2_loop v1_1).trips) : Fin 1 → Nat :=
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let v117 : BitVec 32 := Scalar.remsi v115 v1_1
  let v118 : Index := Scalar.indexCast v117
  ![v118.toNat]
def k0_cond6 (v1_1 : BitVec 32) (k0_t2 : Fin (k0_t2_loop v1_1).trips) : BitVec 1 :=
  let c0_i32_19 : BitVec 32 := 0#32
  let c1_i32_22 : BitVec 32 := 1#32
  let arg17 : BitVec 32 := Scf.iv c0_i32_19 c1_i32_22 k0_t2
  let c3_i32_45 : BitVec 32 := 3#32
  let v67 : BitVec 32 := Scalar.addi arg17 c3_i32_45
  let c1_i32_46 : BitVec 32 := 1#32
  let v68 : BitVec 32 := Scalar.subi v67 c1_i32_46
  let c8_i32 : BitVec 32 := 8#32
  let v3 : BitVec 32 := Scalar.muli v1_1 c8_i32
  let v69 : BitVec 1 := Scalar.cmpi .slt v68 v3
  let v70 : BitVec 32 := Scalar.extui v69
  let c0_i32_47 : BitVec 32 := 0#32
  let v71 : BitVec 1 := Scalar.cmpi .ne v70 c0_i32_47
  v71

def k0_mult13 (v1_1 : BitVec 32) (k0_t2 : Fin (k0_t2_loop v1_1).trips) : BitVec 32 :=
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let v116 : BitVec 32 := Scalar.divsi v115 v1_1
  let c256_i32_71 : BitVec 32 := 256#32
  let v121 : BitVec 32 := Scalar.muli v116 c256_i32_71
  v121
def k0_mult14 (v1_1 : BitVec 32) (k0_t2 : Fin (k0_t2_loop v1_1).trips) : BitVec 32 :=
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let v116 : BitVec 32 := Scalar.divsi v115 v1_1
  let c256_i32_73 : BitVec 32 := 256#32
  let v124 : BitVec 32 := Scalar.muli v116 c256_i32_73
  v124
def k0_off38 (v1_1 : BitVec 32) (k0_t2 : Fin (k0_t2_loop v1_1).trips) : Fin 1 → Nat :=
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  ![v120.toNat]
def k0_off39 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  let c0_i32_75 : BitVec 32 := 0#32
  let c0_i32_76 : BitVec 32 := 0#32
  let c0_i32_77 : BitVec 32 := 0#32
  ![v120.toNat, 0, 0, 0]
def k0_off40 (v1_1 : BitVec 32) (k0_t2 : Fin (k0_t2_loop v1_1).trips) (v119 : BitVec 32) (c0_i32_72 : BitVec 32) : Fin 3 → Nat :=
  let c0_i32_78 : BitVec 32 := 0#32
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let v116 : BitVec 32 := Scalar.divsi v115 v1_1
  let c256_i32_71 : BitVec 32 := 256#32
  let v121 : BitVec 32 := Scalar.muli v116 c256_i32_71
  let v122 : BitVec 32 := v121
  let v123 : BitVec 32 := Scalar.addi c0_i32_72 v122
  ![v119.toNat, 0, v123.toNat]

def k0_chk7 (v1_1 : BitVec 32) (k0_t2 : Fin (k0_t2_loop v1_1).trips) (v119 : BitVec 32) : Prop :=
  (∀ (k0_h6 : k0_cond6 v1_1 k0_t2 = 1#1), ∀ (r : Fin 2), ∀ a, (k0_off40 v1_1 k0_t2 v119 (BitVec.ofNat 32 (2048 * r.val))) a + S1x7168x256.size a ≤ S13x7168x4096.size a) ∧
  (∀ (k0_h6 : k0_cond6 v1_1 k0_t2 = 1#1), ∀ (r : Fin 2), ∀ (hinb : ∀ a, (k0_off40 v1_1 k0_t2 v119 (BitVec.ofNat 32 (2048 * r.val))) a + S1x7168x256.size a ≤ S13x7168x4096.size a), (Rect.unit (s := S13x7168x4096) (k0_off40 v1_1 k0_t2 v119 (BitVec.ofNat 32 (2048 * r.val))) S1x7168x256.size hinb).WholeWords (EltTy.packing .fp8e4m3))
theorem k0_off40_inb : ∀ (v1_1 : BitVec 32) (k0_t2 : Fin (k0_t2_loop v1_1).trips) (v119 : BitVec 32) (k0_hw7 : k0_chk7 v1_1 k0_t2 v119), ∀ (k0_h6 : k0_cond6 v1_1 k0_t2 = 1#1), ∀ (r : Fin 2), ∀ a, (k0_off40 v1_1 k0_t2 v119 (BitVec.ofNat 32 (2048 * r.val))) a + S1x7168x256.size a ≤ S13x7168x4096.size a := fun v1_1 k0_t2 v119 k0_hw7 k0_h6 r => k0_hw7.1 k0_h6 r
theorem k0_off40_wordsfp8e4m3 : ∀ (v1_1 : BitVec 32) (k0_t2 : Fin (k0_t2_loop v1_1).trips) (v119 : BitVec 32) (k0_hw7 : k0_chk7 v1_1 k0_t2 v119), ∀ (k0_h6 : k0_cond6 v1_1 k0_t2 = 1#1), ∀ (r : Fin 2), (Rect.unit (s := S13x7168x4096) (k0_off40 v1_1 k0_t2 v119 (BitVec.ofNat 32 (2048 * r.val))) S1x7168x256.size (k0_off40_inb v1_1 k0_t2 v119 k0_hw7 k0_h6 r)).WholeWords (EltTy.packing .fp8e4m3) := fun v1_1 k0_t2 v119 k0_hw7 k0_h6 r => k0_hw7.2 k0_h6 r (k0_off40_inb v1_1 k0_t2 v119 k0_hw7 k0_h6 r)

def k0_off41 (v1_1 : BitVec 32) (k0_t2 : Fin (k0_t2_loop v1_1).trips) : Fin 1 → Nat :=
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  ![v120.toNat]
def k0_off42 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  let c1_i32_79 : BitVec 32 := 1#32
  let c0_i32_80 : BitVec 32 := 0#32
  let c0_i32_81 : BitVec 32 := 0#32
  ![v120.toNat, 1, 0, 0]
def k0_mult15 (v1_1 : BitVec 32) (k0_t2 : Fin (k0_t2_loop v1_1).trips) : BitVec 32 :=
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32 : BitVec 32 := 256#32
  let v72 : BitVec 32 := Scalar.muli v46 c256_i32
  v72
def k0_mult16 (v1_1 : BitVec 32) (k0_t2 : Fin (k0_t2_loop v1_1).trips) : BitVec 32 :=
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32_49 : BitVec 32 := 256#32
  let v75 : BitVec 32 := Scalar.muli v46 c256_i32_49
  v75
def k0_off43 (v1_1 : BitVec 32) (k0_t2 : Fin (k0_t2_loop v1_1).trips) : Fin 1 → Nat :=
  let c0_i32_19 : BitVec 32 := 0#32
  let c1_i32_22 : BitVec 32 := 1#32
  let arg17 : BitVec 32 := Scf.iv c0_i32_19 c1_i32_22 k0_t2
  let c3_i32 : BitVec 32 := 3#32
  let v50 : BitVec 32 := Scalar.remsi arg17 c3_i32
  ![v50.toNat]
def k0_off44 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32 : BitVec 32 := 3#32
  let v50 : BitVec 32 := Scalar.remsi arg17 c3_i32
  let c0_i32_50 : BitVec 32 := 0#32
  let c0_i32_51 : BitVec 32 := 0#32
  let c0_i32_52 : BitVec 32 := 0#32
  ![v50.toNat, 0, 0, 0]
def k0_off45 (v1_1 : BitVec 32) (k0_t2 : Fin (k0_t2_loop v1_1).trips) (v49 : BitVec 32) (c0_i32_48 : BitVec 32) : Fin 3 → Nat :=
  let c0_i32_53 : BitVec 32 := 0#32
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32 : BitVec 32 := 256#32
  let v72 : BitVec 32 := Scalar.muli v46 c256_i32
  let v73 : BitVec 32 := v72
  let v74 : BitVec 32 := Scalar.addi c0_i32_48 v73
  ![v49.toNat, 0, v74.toNat]
def k0_off46 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32 : BitVec 32 := 3#32
  let v50 : BitVec 32 := Scalar.remsi arg17 c3_i32
  let c1_i32_54 : BitVec 32 := 1#32
  let c0_i32_55 : BitVec 32 := 0#32
  let c0_i32_56 : BitVec 32 := 0#32
  ![v50.toNat, 1, 0, 0]
def k0_mult17 (v1_1 : BitVec 32) (k0_t2 : Fin (k0_t2_loop v1_1).trips) : BitVec 32 :=
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32_61 : BitVec 32 := 256#32
  let v96 : BitVec 32 := Scalar.muli v46 c256_i32_61
  v96
def k0_off47 (v1_1 : BitVec 32) (k0_t2 : Fin (k0_t2_loop v1_1).trips) (v49 : BitVec 32) : Fin 2 → Nat :=
  let v98 : Index := Scalar.indexCast v49
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32_61 : BitVec 32 := 256#32
  let v96 : BitVec 32 := Scalar.muli v46 c256_i32_61
  let v97 : BitVec 32 := v96
  let v99 : Index := Scalar.indexCast v97
  ![v98.toNat, v99.toNat]
def k0_mult18 (v1_1 : BitVec 32) (k0_t2 : Fin (k0_t2_loop v1_1).trips) : BitVec 32 :=
  let c2048_i32_62 : BitVec 32 := 2048#32
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32_61 : BitVec 32 := 256#32
  let v96 : BitVec 32 := Scalar.muli v46 c256_i32_61
  let v97 : BitVec 32 := v96
  let v101 : BitVec 32 := Scalar.addi c2048_i32_62 v97
  v101
def k0_off48 (v1_1 : BitVec 32) (k0_t2 : Fin (k0_t2_loop v1_1).trips) (v49 : BitVec 32) : Fin 2 → Nat :=
  let v103 : Index := Scalar.indexCast v49
  let c2048_i32_62 : BitVec 32 := 2048#32
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32_61 : BitVec 32 := 256#32
  let v96 : BitVec 32 := Scalar.muli v46 c256_i32_61
  let v97 : BitVec 32 := v96
  let v101 : BitVec 32 := Scalar.addi c2048_i32_62 v97
  let v102 : BitVec 32 := v101
  let v104 : Index := Scalar.indexCast v102
  ![v103.toNat, v104.toNat]

def k0_chk5 (v1_1 : BitVec 32) (k0_t2 : Fin (k0_t2_loop v1_1).trips) (v49 : BitVec 32) : Prop :=
  (∀ a, (k0_off17 v49) a + S1.size a ≤ S14.size a) ∧
  (∀ a, (k0_off18 v49) a + S1.size a ≤ S14.size a) ∧
  (∀ (r : Fin 2), ∀ a, (k0_off45 v1_1 k0_t2 v49 (BitVec.ofNat 32 (2048 * r.val))) a + S1x7168x256.size a ≤ S13x7168x4096.size a) ∧
  (∀ (r : Fin 2), ∀ (hinb : ∀ a, (k0_off45 v1_1 k0_t2 v49 (BitVec.ofNat 32 (2048 * r.val))) a + S1x7168x256.size a ≤ S13x7168x4096.size a), (Rect.unit (s := S13x7168x4096) (k0_off45 v1_1 k0_t2 v49 (BitVec.ofNat 32 (2048 * r.val))) S1x7168x256.size hinb).WholeWords (EltTy.packing .fp8e4m3)) ∧
  (∀ a, (k0_off47 v1_1 k0_t2 v49) a + S1x256.size a ≤ S13x4096.size a) ∧
  (∀ a, (k0_off48 v1_1 k0_t2 v49) a + S1x256.size a ≤ S13x4096.size a)
theorem k0_off17_inb : ∀ (v1_1 : BitVec 32) (k0_t2 : Fin (k0_t2_loop v1_1).trips) (v49 : BitVec 32) (k0_hw5 : k0_chk5 v1_1 k0_t2 v49), ∀ a, (k0_off17 v49) a + S1.size a ≤ S14.size a := fun v1_1 k0_t2 v49 k0_hw5 => k0_hw5.1
theorem k0_off18_inb : ∀ (v1_1 : BitVec 32) (k0_t2 : Fin (k0_t2_loop v1_1).trips) (v49 : BitVec 32) (k0_hw5 : k0_chk5 v1_1 k0_t2 v49), ∀ a, (k0_off18 v49) a + S1.size a ≤ S14.size a := fun v1_1 k0_t2 v49 k0_hw5 => k0_hw5.2.1
theorem k0_off45_inb : ∀ (v1_1 : BitVec 32) (k0_t2 : Fin (k0_t2_loop v1_1).trips) (v49 : BitVec 32) (k0_hw5 : k0_chk5 v1_1 k0_t2 v49), ∀ (r : Fin 2), ∀ a, (k0_off45 v1_1 k0_t2 v49 (BitVec.ofNat 32 (2048 * r.val))) a + S1x7168x256.size a ≤ S13x7168x4096.size a := fun v1_1 k0_t2 v49 k0_hw5 r => k0_hw5.2.2.1 r
theorem k0_off45_wordsfp8e4m3 : ∀ (v1_1 : BitVec 32) (k0_t2 : Fin (k0_t2_loop v1_1).trips) (v49 : BitVec 32) (k0_hw5 : k0_chk5 v1_1 k0_t2 v49), ∀ (r : Fin 2), (Rect.unit (s := S13x7168x4096) (k0_off45 v1_1 k0_t2 v49 (BitVec.ofNat 32 (2048 * r.val))) S1x7168x256.size (k0_off45_inb v1_1 k0_t2 v49 k0_hw5 r)).WholeWords (EltTy.packing .fp8e4m3) := fun v1_1 k0_t2 v49 k0_hw5 r => k0_hw5.2.2.2.1 r (k0_off45_inb v1_1 k0_t2 v49 k0_hw5 r)
theorem k0_off47_inb : ∀ (v1_1 : BitVec 32) (k0_t2 : Fin (k0_t2_loop v1_1).trips) (v49 : BitVec 32) (k0_hw5 : k0_chk5 v1_1 k0_t2 v49), ∀ a, (k0_off47 v1_1 k0_t2 v49) a + S1x256.size a ≤ S13x4096.size a := fun v1_1 k0_t2 v49 k0_hw5 => k0_hw5.2.2.2.2.1
theorem k0_off48_inb : ∀ (v1_1 : BitVec 32) (k0_t2 : Fin (k0_t2_loop v1_1).trips) (v49 : BitVec 32) (k0_hw5 : k0_chk5 v1_1 k0_t2 v49), ∀ a, (k0_off48 v1_1 k0_t2 v49) a + S1x256.size a ≤ S13x4096.size a := fun v1_1 k0_t2 v49 k0_hw5 => k0_hw5.2.2.2.2.2

@[reducible] def k0_t5_loop (v52 : BitVec 32) (v55 : BitVec 32) : Scf.Loop 32 :=
  let c0_i32_63 : BitVec 32 := 0#32
  let c32_i32 : BitVec 32 := 32#32
  let v90 : BitVec 32 := Scalar.divsi v52 c32_i32
  let c32_i32_58 : BitVec 32 := 32#32
  let v91 : BitVec 32 := Scalar.muli v90 c32_i32_58
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_66 : BitVec 32 := 1#32
  ⟨c0_i32_63, v110, c1_i32_66⟩
def k0_mult19 (v52 : BitVec 32) (v55 : BitVec 32) (k0_t5 : Fin (k0_t5_loop v52 v55).trips) : BitVec 32 :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t5
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  v116
def k0_off49 (v52 : BitVec 32) (v55 : BitVec 32) (k0_t5 : Fin (k0_t5_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t5
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v118 : Index := Scalar.indexCast v117
  let c0_70 : Index := 0#32
  ![v118.toNat, 0]
def k0_off50 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32 : BitVec 32 := 3#32
  let v50 : BitVec 32 := Scalar.remsi arg17 c3_i32
  let v120 : Index := Scalar.indexCast v50
  let c0_71 : Index := 0#32
  let c0_72 : Index := 0#32
  let c0_73 : Index := 0#32
  ![v120.toNat, 0, 0, 0]
def k0_off51 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32 : BitVec 32 := 3#32
  let v50 : BitVec 32 := Scalar.remsi arg17 c3_i32
  let v124 : Index := Scalar.indexCast v50
  let c1 : Index := 1#32
  let c0_75 : Index := 0#32
  let c0_76 : Index := 0#32
  ![v124.toNat, 1, 0, 0]
def k0_off52 (v52 : BitVec 32) (v55 : BitVec 32) (k0_t5 : Fin (k0_t5_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t5
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v128 : Index := Scalar.indexCast v117
  let c0_78 : Index := 0#32
  ![v128.toNat, 0]
def k0_off53 (v1_1 : BitVec 32) (k0_t2 : Fin (k0_t2_loop v1_1).trips) (v52 : BitVec 32) (v55 : BitVec 32) (k0_t5 : Fin (k0_t5_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t5
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v148 : Index := Scalar.indexCast v117
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32_61 : BitVec 32 := 256#32
  let v96 : BitVec 32 := Scalar.muli v46 c256_i32_61
  let v97 : BitVec 32 := v96
  let v149 : Index := Scalar.indexCast v97
  ![v148.toNat, v149.toNat]
@[reducible] def k0_t6_loop (v52 : BitVec 32) (v55 : BitVec 32) : Scf.Loop 32 :=
  let c0_i32_63 : BitVec 32 := 0#32
  let c32_i32 : BitVec 32 := 32#32
  let v90 : BitVec 32 := Scalar.divsi v52 c32_i32
  let c32_i32_58 : BitVec 32 := 32#32
  let v91 : BitVec 32 := Scalar.muli v90 c32_i32_58
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let v107 : BitVec 32 := Scalar.addi c0_i32_63 v106
  let c1_i32_67 : BitVec 32 := 1#32
  ⟨v110, v107, c1_i32_67⟩
def k0_mult20 (v52 : BitVec 32) (v55 : BitVec 32) (k0_t6 : Fin (k0_t6_loop v52 v55).trips) : BitVec 32 :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t6
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  v116
def k0_off54 (v52 : BitVec 32) (v55 : BitVec 32) (k0_t6 : Fin (k0_t6_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t6
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v118 : Index := Scalar.indexCast v117
  let c0_70 : Index := 0#32
  ![v118.toNat, 0]
def k0_off55 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32 : BitVec 32 := 3#32
  let v50 : BitVec 32 := Scalar.remsi arg17 c3_i32
  let v120 : Index := Scalar.indexCast v50
  let c0_71 : Index := 0#32
  let c0_72 : Index := 0#32
  let c0_73 : Index := 0#32
  ![v120.toNat, 0, 0, 0]
def k0_off56 (v1_1 : BitVec 32) (k0_t2 : Fin (k0_t2_loop v1_1).trips) : Fin 4 → Nat :=
  let c0_i32_19 : BitVec 32 := 0#32
  let c1_i32_22 : BitVec 32 := 1#32
  let arg17 : BitVec 32 := Scf.iv c0_i32_19 c1_i32_22 k0_t2
  let c3_i32 : BitVec 32 := 3#32
  let v50 : BitVec 32 := Scalar.remsi arg17 c3_i32
  let v124 : Index := Scalar.indexCast v50
  let c1 : Index := 1#32
  let c0_75 : Index := 0#32
  let c0_76 : Index := 0#32
  ![v124.toNat, 1, 0, 0]
def k0_off57 (v52 : BitVec 32) (v55 : BitVec 32) (k0_t6 : Fin (k0_t6_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t6
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v128 : Index := Scalar.indexCast v117
  let c0_78 : Index := 0#32
  ![v128.toNat, 0]
def k0_off58 (v1_1 : BitVec 32) (k0_t2 : Fin (k0_t2_loop v1_1).trips) (v52 : BitVec 32) (v55 : BitVec 32) (k0_t6 : Fin (k0_t6_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t6
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v148 : Index := Scalar.indexCast v117
  let c0_i32_19 : BitVec 32 := 0#32
  let c1_i32_22 : BitVec 32 := 1#32
  let arg17 : BitVec 32 := Scf.iv c0_i32_19 c1_i32_22 k0_t2
  let v46 : BitVec 32 := Scalar.divsi arg17 v1_1
  let c256_i32_61 : BitVec 32 := 256#32
  let v96 : BitVec 32 := Scalar.muli v46 c256_i32_61
  let v97 : BitVec 32 := v96
  let v149 : Index := Scalar.indexCast v97
  ![v148.toNat, v149.toNat]

def k0_chk6_0 (v1_1 : BitVec 32) (k0_t2 : Fin (k0_t2_loop v1_1).trips) (arg18 : BitVec 32) (v52 : BitVec 32) (v55 : BitVec 32) : Prop :=
  ((k0_t3_loop arg18 v55).OK) ∧
  (∀ k0_t3 : Fin (k0_t3_loop arg18 v55).trips, 64 ∣ (k0_mult7 arg18 v55 k0_t3).toNat) ∧
  (∀ k0_t3 : Fin (k0_t3_loop arg18 v55).trips, ∀ a, (k0_off19 arg18 v55 k0_t3) a + S1.size a ≤ S2.size a) ∧
  (∀ k0_t3 : Fin (k0_t3_loop arg18 v55).trips, ∀ a, (k0_off20 arg18 v55 k0_t3) a + S1x64x7168.size a ≤ S2x64x7168.size a) ∧
  (∀ k0_t3 : Fin (k0_t3_loop arg18 v55).trips, ∀ a, (k0_off21 arg18 v55 k0_t3) a + S64x7168.size a ≤ S3072x7168.size a) ∧
  (∀ k0_t3 : Fin (k0_t3_loop arg18 v55).trips, ∀ (hinb : ∀ a, (k0_off21 arg18 v55 k0_t3) a + S64x7168.size a ≤ S3072x7168.size a), (Rect.unit (s := S3072x7168) (k0_off21 arg18 v55 k0_t3) S64x7168.size hinb).WholeWords (EltTy.packing .bf16)) ∧
  (∀ k0_t3 : Fin (k0_t3_loop arg18 v55).trips, ∀ (hinb : ∀ a, (k0_off20 arg18 v55 k0_t3) a + S1x64x7168.size a ≤ S2x64x7168.size a), (Rect.unit (s := S2x64x7168) (k0_off20 arg18 v55 k0_t3) S1x64x7168.size hinb).WholeWords (EltTy.packing .bf16)) ∧
  (∀ k0_t3 : Fin (k0_t3_loop arg18 v55).trips, ∀ a, (k0_off22 arg18 v55 k0_t3) a + S1x64x7168.size a ≤ S2x64x7168.size a) ∧
  (∀ k0_t3 : Fin (k0_t3_loop arg18 v55).trips, 64 ∣ (k0_mult8 arg18 v55 k0_t3).toNat) ∧
  (∀ k0_t3 : Fin (k0_t3_loop arg18 v55).trips, ∀ a, (k0_off23 arg18 v55 k0_t3) a + S64x128.size a ≤ S3072x128.size a) ∧
  (∀ k0_t3 : Fin (k0_t3_loop arg18 v55).trips, ∀ a, (k0_off24 arg18 v55 k0_t3) a + S64x7168.size a ≤ S3072x7168.size a) ∧
  (∀ k0_t3 : Fin (k0_t3_loop arg18 v55).trips, ∀ (hinb : ∀ a, (k0_off24 arg18 v55 k0_t3) a + S64x7168.size a ≤ S3072x7168.size a), (Rect.unit (s := S3072x7168) (k0_off24 arg18 v55 k0_t3) S64x7168.size hinb).PackedRows (EltTy.packing .fp8e4m3)) ∧
  (∀ k0_t3 : Fin (k0_t3_loop arg18 v55).trips, ∀ (k0_h4 : k0_cond4 arg18 v55 k0_t3 = 1#1), 64 ∣ (k0_mult9 arg18 v55 k0_t3).toNat) ∧
  (∀ k0_t3 : Fin (k0_t3_loop arg18 v55).trips, ∀ (k0_h4 : k0_cond4 arg18 v55 k0_t3 = 1#1), ∀ a, (k0_off25 arg18 v55 k0_t3) a + S1.size a ≤ S2.size a) ∧
  (∀ k0_t3 : Fin (k0_t3_loop arg18 v55).trips, ∀ (k0_h4 : k0_cond4 arg18 v55 k0_t3 = 1#1), ∀ a, (k0_off26 arg18 v55 k0_t3) a + S1x64x7168.size a ≤ S2x64x7168.size a) ∧
  (∀ k0_t3 : Fin (k0_t3_loop arg18 v55).trips, ∀ (k0_h4 : k0_cond4 arg18 v55 k0_t3 = 1#1), ∀ a, (k0_off27 arg18 v55 k0_t3) a + S64x7168.size a ≤ S3072x7168.size a) ∧
  (∀ k0_t3 : Fin (k0_t3_loop arg18 v55).trips, ∀ (k0_h4 : k0_cond4 arg18 v55 k0_t3 = 1#1), ∀ (hinb : ∀ a, (k0_off27 arg18 v55 k0_t3) a + S64x7168.size a ≤ S3072x7168.size a), (Rect.unit (s := S3072x7168) (k0_off27 arg18 v55 k0_t3) S64x7168.size hinb).WholeWords (EltTy.packing .bf16)) ∧
  (∀ k0_t3 : Fin (k0_t3_loop arg18 v55).trips, ∀ (k0_h4 : k0_cond4 arg18 v55 k0_t3 = 1#1), ∀ (hinb : ∀ a, (k0_off26 arg18 v55 k0_t3) a + S1x64x7168.size a ≤ S2x64x7168.size a), (Rect.unit (s := S2x64x7168) (k0_off26 arg18 v55 k0_t3) S1x64x7168.size hinb).WholeWords (EltTy.packing .bf16)) ∧
  ((k0_t4_loop arg18 v55).OK) ∧
  (∀ k0_t4 : Fin (k0_t4_loop arg18 v55).trips, 64 ∣ (k0_mult10 arg18 v55 k0_t4).toNat) ∧
  (∀ k0_t4 : Fin (k0_t4_loop arg18 v55).trips, ∀ a, (k0_off28 arg18 v55 k0_t4) a + S1.size a ≤ S2.size a) ∧
  (∀ k0_t4 : Fin (k0_t4_loop arg18 v55).trips, ∀ a, (k0_off29 arg18 v55 k0_t4) a + S1x64x7168.size a ≤ S2x64x7168.size a) ∧
  (∀ k0_t4 : Fin (k0_t4_loop arg18 v55).trips, ∀ a, (k0_off30 arg18 v55 k0_t4) a + S64x7168.size a ≤ S3072x7168.size a) ∧
  (∀ k0_t4 : Fin (k0_t4_loop arg18 v55).trips, ∀ (hinb : ∀ a, (k0_off30 arg18 v55 k0_t4) a + S64x7168.size a ≤ S3072x7168.size a), (Rect.unit (s := S3072x7168) (k0_off30 arg18 v55 k0_t4) S64x7168.size hinb).WholeWords (EltTy.packing .bf16)) ∧
  (∀ k0_t4 : Fin (k0_t4_loop arg18 v55).trips, ∀ (hinb : ∀ a, (k0_off29 arg18 v55 k0_t4) a + S1x64x7168.size a ≤ S2x64x7168.size a), (Rect.unit (s := S2x64x7168) (k0_off29 arg18 v55 k0_t4) S1x64x7168.size hinb).WholeWords (EltTy.packing .bf16)) ∧
  (∀ k0_t4 : Fin (k0_t4_loop arg18 v55).trips, ∀ a, (k0_off31 arg18 v55 k0_t4) a + S1x64x7168.size a ≤ S2x64x7168.size a) ∧
  (∀ k0_t4 : Fin (k0_t4_loop arg18 v55).trips, 64 ∣ (k0_mult11 arg18 v55 k0_t4).toNat) ∧
  (∀ k0_t4 : Fin (k0_t4_loop arg18 v55).trips, ∀ a, (k0_off32 arg18 v55 k0_t4) a + S64x128.size a ≤ S3072x128.size a) ∧
  (∀ k0_t4 : Fin (k0_t4_loop arg18 v55).trips, ∀ a, (k0_off33 arg18 v55 k0_t4) a + S64x7168.size a ≤ S3072x7168.size a) ∧
  (∀ k0_t4 : Fin (k0_t4_loop arg18 v55).trips, ∀ (hinb : ∀ a, (k0_off33 arg18 v55 k0_t4) a + S64x7168.size a ≤ S3072x7168.size a), (Rect.unit (s := S3072x7168) (k0_off33 arg18 v55 k0_t4) S64x7168.size hinb).PackedRows (EltTy.packing .fp8e4m3)) ∧
  (∀ k0_t4 : Fin (k0_t4_loop arg18 v55).trips, ∀ (k0_h5 : k0_cond5 arg18 v55 k0_t4 = 1#1), 64 ∣ (k0_mult12 arg18 v55 k0_t4).toNat) ∧
  (∀ k0_t4 : Fin (k0_t4_loop arg18 v55).trips, ∀ (k0_h5 : k0_cond5 arg18 v55 k0_t4 = 1#1), ∀ a, (k0_off34 arg18 v55 k0_t4) a + S1.size a ≤ S2.size a)
def k0_chk6_1 (v1_1 : BitVec 32) (k0_t2 : Fin (k0_t2_loop v1_1).trips) (arg18 : BitVec 32) (v52 : BitVec 32) (v55 : BitVec 32) : Prop :=
  (∀ k0_t4 : Fin (k0_t4_loop arg18 v55).trips, ∀ (k0_h5 : k0_cond5 arg18 v55 k0_t4 = 1#1), ∀ a, (k0_off35 arg18 v55 k0_t4) a + S1x64x7168.size a ≤ S2x64x7168.size a) ∧
  (∀ k0_t4 : Fin (k0_t4_loop arg18 v55).trips, ∀ (k0_h5 : k0_cond5 arg18 v55 k0_t4 = 1#1), ∀ a, (k0_off36 arg18 v55 k0_t4) a + S64x7168.size a ≤ S3072x7168.size a) ∧
  (∀ k0_t4 : Fin (k0_t4_loop arg18 v55).trips, ∀ (k0_h5 : k0_cond5 arg18 v55 k0_t4 = 1#1), ∀ (hinb : ∀ a, (k0_off36 arg18 v55 k0_t4) a + S64x7168.size a ≤ S3072x7168.size a), (Rect.unit (s := S3072x7168) (k0_off36 arg18 v55 k0_t4) S64x7168.size hinb).WholeWords (EltTy.packing .bf16)) ∧
  (∀ k0_t4 : Fin (k0_t4_loop arg18 v55).trips, ∀ (k0_h5 : k0_cond5 arg18 v55 k0_t4 = 1#1), ∀ (hinb : ∀ a, (k0_off35 arg18 v55 k0_t4) a + S1x64x7168.size a ≤ S2x64x7168.size a), (Rect.unit (s := S2x64x7168) (k0_off35 arg18 v55 k0_t4) S1x64x7168.size hinb).WholeWords (EltTy.packing .bf16)) ∧
  ((k0_t5_loop v52 v55).OK) ∧
  (∀ k0_t5 : Fin (k0_t5_loop v52 v55).trips, 32 ∣ (k0_mult19 v52 v55 k0_t5).toNat) ∧
  (∀ k0_t5 : Fin (k0_t5_loop v52 v55).trips, ∀ a, (k0_off49 v52 v55 k0_t5) a + S128x7168.size a ≤ S3072x7168.size a) ∧
  (∀ k0_t5 : Fin (k0_t5_loop v52 v55).trips, ∀ a, (k0_off50 v1_1 k0_t2) a + S1x1x7168x256.size a ≤ S3x2x7168x256.size a) ∧
  (∀ k0_t5 : Fin (k0_t5_loop v52 v55).trips, ∀ a, (k0_off51 v1_1 k0_t2) a + S1x1x7168x256.size a ≤ S3x2x7168x256.size a) ∧
  (∀ k0_t5 : Fin (k0_t5_loop v52 v55).trips, ∀ a, (k0_off52 v52 v55 k0_t5) a + S128x128.size a ≤ S3072x128.size a) ∧
  (∀ k0_t5 : Fin (k0_t5_loop v52 v55).trips, ∀ a, (k0_off53 v1_1 k0_t2 v52 v55 k0_t5) a + S128x256.size a ≤ S3072x2048.size a) ∧
  ((k0_t6_loop v52 v55).OK) ∧
  (∀ k0_t6 : Fin (k0_t6_loop v52 v55).trips, 32 ∣ (k0_mult20 v52 v55 k0_t6).toNat) ∧
  (∀ k0_t6 : Fin (k0_t6_loop v52 v55).trips, ∀ a, (k0_off54 v52 v55 k0_t6) a + S128x7168.size a ≤ S3072x7168.size a) ∧
  (∀ k0_t6 : Fin (k0_t6_loop v52 v55).trips, ∀ a, (k0_off55 v1_1 k0_t2) a + S1x1x7168x256.size a ≤ S3x2x7168x256.size a) ∧
  (∀ k0_t6 : Fin (k0_t6_loop v52 v55).trips, ∀ a, (k0_off56 v1_1 k0_t2) a + S1x1x7168x256.size a ≤ S3x2x7168x256.size a) ∧
  (∀ k0_t6 : Fin (k0_t6_loop v52 v55).trips, ∀ a, (k0_off57 v52 v55 k0_t6) a + S128x128.size a ≤ S3072x128.size a) ∧
  (∀ k0_t6 : Fin (k0_t6_loop v52 v55).trips, ∀ a, (k0_off58 v1_1 k0_t2 v52 v55 k0_t6) a + S128x256.size a ≤ S3072x2048.size a)
def k0_chk6 (v1_1 : BitVec 32) (k0_t2 : Fin (k0_t2_loop v1_1).trips) (arg18 : BitVec 32) (v52 : BitVec 32) (v55 : BitVec 32) : Prop :=
  k0_chk6_0 v1_1 k0_t2 arg18 v52 v55 ∧
  k0_chk6_1 v1_1 k0_t2 arg18 v52 v55
theorem k0_t3_ok : ∀ (v1_1 : BitVec 32) (k0_t2 : Fin (k0_t2_loop v1_1).trips) (arg18 : BitVec 32) (v52 : BitVec 32) (v55 : BitVec 32) (k0_hw6 : k0_chk6 v1_1 k0_t2 arg18 v52 v55), (k0_t3_loop arg18 v55).OK := fun v1_1 k0_t2 arg18 v52 v55 k0_hw6 => k0_hw6.1.1
theorem k0_mult7_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), 64 ∣ (k0_mult7 arg18 v55 k0_t3).toNat := fun v1_1 k0_t2 arg18 v52 v55 k0_hw6 k0_t3 => k0_hw6.1.2.1 k0_t3
theorem k0_off19_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ a, (k0_off19 arg18 v55 k0_t3) a + S1.size a ≤ S2.size a := fun v1_1 k0_t2 arg18 v52 v55 k0_hw6 k0_t3 => k0_hw6.1.2.2.1 k0_t3
theorem k0_off20_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ a, (k0_off20 arg18 v55 k0_t3) a + S1x64x7168.size a ≤ S2x64x7168.size a := fun v1_1 k0_t2 arg18 v52 v55 k0_hw6 k0_t3 => k0_hw6.1.2.2.2.1 k0_t3
theorem k0_off21_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ a, (k0_off21 arg18 v55 k0_t3) a + S64x7168.size a ≤ S3072x7168.size a := fun v1_1 k0_t2 arg18 v52 v55 k0_hw6 k0_t3 => k0_hw6.1.2.2.2.2.1 k0_t3
theorem k0_off21_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), (Rect.unit (s := S3072x7168) (k0_off21 arg18 v55 k0_t3) S64x7168.size (k0_off21_inb v1_1 k0_t2 arg18 v52 v55 k0_hw6 k0_t3)).WholeWords (EltTy.packing .bf16) := fun v1_1 k0_t2 arg18 v52 v55 k0_hw6 k0_t3 => k0_hw6.1.2.2.2.2.2.1 k0_t3 (k0_off21_inb v1_1 k0_t2 arg18 v52 v55 k0_hw6 k0_t3)
theorem k0_off20_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), (Rect.unit (s := S2x64x7168) (k0_off20 arg18 v55 k0_t3) S1x64x7168.size (k0_off20_inb v1_1 k0_t2 arg18 v52 v55 k0_hw6 k0_t3)).WholeWords (EltTy.packing .bf16) := fun v1_1 k0_t2 arg18 v52 v55 k0_hw6 k0_t3 => k0_hw6.1.2.2.2.2.2.2.1 k0_t3 (k0_off20_inb v1_1 k0_t2 arg18 v52 v55 k0_hw6 k0_t3)
theorem k0_off22_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ a, (k0_off22 arg18 v55 k0_t3) a + S1x64x7168.size a ≤ S2x64x7168.size a := fun v1_1 k0_t2 arg18 v52 v55 k0_hw6 k0_t3 => k0_hw6.1.2.2.2.2.2.2.2.1 k0_t3
theorem k0_mult8_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), 64 ∣ (k0_mult8 arg18 v55 k0_t3).toNat := fun v1_1 k0_t2 arg18 v52 v55 k0_hw6 k0_t3 => k0_hw6.1.2.2.2.2.2.2.2.2.1 k0_t3
theorem k0_off23_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ a, (k0_off23 arg18 v55 k0_t3) a + S64x128.size a ≤ S3072x128.size a := fun v1_1 k0_t2 arg18 v52 v55 k0_hw6 k0_t3 => k0_hw6.1.2.2.2.2.2.2.2.2.2.1 k0_t3
theorem k0_off24_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ a, (k0_off24 arg18 v55 k0_t3) a + S64x7168.size a ≤ S3072x7168.size a := fun v1_1 k0_t2 arg18 v52 v55 k0_hw6 k0_t3 => k0_hw6.1.2.2.2.2.2.2.2.2.2.2.1 k0_t3
theorem k0_off24_packedfp8e4m3 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), (Rect.unit (s := S3072x7168) (k0_off24 arg18 v55 k0_t3) S64x7168.size (k0_off24_inb v1_1 k0_t2 arg18 v52 v55 k0_hw6 k0_t3)).PackedRows (EltTy.packing .fp8e4m3) := fun v1_1 k0_t2 arg18 v52 v55 k0_hw6 k0_t3 => k0_hw6.1.2.2.2.2.2.2.2.2.2.2.2.1 k0_t3 (k0_off24_inb v1_1 k0_t2 arg18 v52 v55 k0_hw6 k0_t3)
theorem k0_mult9_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ (k0_h4 : k0_cond4 arg18 v55 k0_t3 = 1#1), 64 ∣ (k0_mult9 arg18 v55 k0_t3).toNat := fun v1_1 k0_t2 arg18 v52 v55 k0_hw6 k0_t3 k0_h4 => k0_hw6.1.2.2.2.2.2.2.2.2.2.2.2.2.1 k0_t3 k0_h4
theorem k0_off25_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ (k0_h4 : k0_cond4 arg18 v55 k0_t3 = 1#1), ∀ a, (k0_off25 arg18 v55 k0_t3) a + S1.size a ≤ S2.size a := fun v1_1 k0_t2 arg18 v52 v55 k0_hw6 k0_t3 k0_h4 => k0_hw6.1.2.2.2.2.2.2.2.2.2.2.2.2.2.1 k0_t3 k0_h4
theorem k0_off26_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ (k0_h4 : k0_cond4 arg18 v55 k0_t3 = 1#1), ∀ a, (k0_off26 arg18 v55 k0_t3) a + S1x64x7168.size a ≤ S2x64x7168.size a := fun v1_1 k0_t2 arg18 v52 v55 k0_hw6 k0_t3 k0_h4 => k0_hw6.1.2.2.2.2.2.2.2.2.2.2.2.2.2.2.1 k0_t3 k0_h4
theorem k0_off27_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ (k0_h4 : k0_cond4 arg18 v55 k0_t3 = 1#1), ∀ a, (k0_off27 arg18 v55 k0_t3) a + S64x7168.size a ≤ S3072x7168.size a := fun v1_1 k0_t2 arg18 v52 v55 k0_hw6 k0_t3 k0_h4 => k0_hw6.1.2.2.2.2.2.2.2.2.2.2.2.2.2.2.2.1 k0_t3 k0_h4
theorem k0_off27_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ (k0_h4 : k0_cond4 arg18 v55 k0_t3 = 1#1), (Rect.unit (s := S3072x7168) (k0_off27 arg18 v55 k0_t3) S64x7168.size (k0_off27_inb v1_1 k0_t2 arg18 v52 v55 k0_hw6 k0_t3 k0_h4)).WholeWords (EltTy.packing .bf16) := fun v1_1 k0_t2 arg18 v52 v55 k0_hw6 k0_t3 k0_h4 => k0_hw6.1.2.2.2.2.2.2.2.2.2.2.2.2.2.2.2.2.1 k0_t3 k0_h4 (k0_off27_inb v1_1 k0_t2 arg18 v52 v55 k0_hw6 k0_t3 k0_h4)
theorem k0_off26_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t3 : Fin (k0_t3_loop arg18 v55).trips), ∀ (k0_h4 : k0_cond4 arg18 v55 k0_t3 = 1#1), (Rect.unit (s := S2x64x7168) (k0_off26 arg18 v55 k0_t3) S1x64x7168.size (k0_off26_inb v1_1 k0_t2 arg18 v52 v55 k0_hw6 k0_t3 k0_h4)).WholeWords (EltTy.packing .bf16) := fun v1_1 k0_t2 arg18 v52 v55 k0_hw6 k0_t3 k0_h4 => k0_hw6.1.2.2.2.2.2.2.2.2.2.2.2.2.2.2.2.2.2.1 k0_t3 k0_h4 (k0_off26_inb v1_1 k0_t2 arg18 v52 v55 k0_hw6 k0_t3 k0_h4)
theorem k0_t4_ok : ∀ (v1_1 : BitVec 32) (k0_t2 : Fin (k0_t2_loop v1_1).trips) (arg18 : BitVec 32) (v52 : BitVec 32) (v55 : BitVec 32) (k0_hw6 : k0_chk6 v1_1 k0_t2 arg18 v52 v55), (k0_t4_loop arg18 v55).OK := fun v1_1 k0_t2 arg18 v52 v55 k0_hw6 => k0_hw6.1.2.2.2.2.2.2.2.2.2.2.2.2.2.2.2.2.2.2.1
theorem k0_mult10_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), 64 ∣ (k0_mult10 arg18 v55 k0_t4).toNat := fun v1_1 k0_t2 arg18 v52 v55 k0_hw6 k0_t4 => k0_hw6.1.2.2.2.2.2.2.2.2.2.2.2.2.2.2.2.2.2.2.2.1 k0_t4
theorem k0_off28_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ a, (k0_off28 arg18 v55 k0_t4) a + S1.size a ≤ S2.size a := fun v1_1 k0_t2 arg18 v52 v55 k0_hw6 k0_t4 => k0_hw6.1.2.2.2.2.2.2.2.2.2.2.2.2.2.2.2.2.2.2.2.2.1 k0_t4
theorem k0_off29_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ a, (k0_off29 arg18 v55 k0_t4) a + S1x64x7168.size a ≤ S2x64x7168.size a := fun v1_1 k0_t2 arg18 v52 v55 k0_hw6 k0_t4 => k0_hw6.1.2.2.2.2.2.2.2.2.2.2.2.2.2.2.2.2.2.2.2.2.2.1 k0_t4
theorem k0_off30_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ a, (k0_off30 arg18 v55 k0_t4) a + S64x7168.size a ≤ S3072x7168.size a := fun v1_1 k0_t2 arg18 v52 v55 k0_hw6 k0_t4 => k0_hw6.1.2.2.2.2.2.2.2.2.2.2.2.2.2.2.2.2.2.2.2.2.2.2.1 k0_t4
theorem k0_off30_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), (Rect.unit (s := S3072x7168) (k0_off30 arg18 v55 k0_t4) S64x7168.size (k0_off30_inb v1_1 k0_t2 arg18 v52 v55 k0_hw6 k0_t4)).WholeWords (EltTy.packing .bf16) := fun v1_1 k0_t2 arg18 v52 v55 k0_hw6 k0_t4 => k0_hw6.1.2.2.2.2.2.2.2.2.2.2.2.2.2.2.2.2.2.2.2.2.2.2.2.1 k0_t4 (k0_off30_inb v1_1 k0_t2 arg18 v52 v55 k0_hw6 k0_t4)
theorem k0_off29_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), (Rect.unit (s := S2x64x7168) (k0_off29 arg18 v55 k0_t4) S1x64x7168.size (k0_off29_inb v1_1 k0_t2 arg18 v52 v55 k0_hw6 k0_t4)).WholeWords (EltTy.packing .bf16) := fun v1_1 k0_t2 arg18 v52 v55 k0_hw6 k0_t4 => k0_hw6.1.2.2.2.2.2.2.2.2.2.2.2.2.2.2.2.2.2.2.2.2.2.2.2.2.1 k0_t4 (k0_off29_inb v1_1 k0_t2 arg18 v52 v55 k0_hw6 k0_t4)
theorem k0_off31_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ a, (k0_off31 arg18 v55 k0_t4) a + S1x64x7168.size a ≤ S2x64x7168.size a := fun v1_1 k0_t2 arg18 v52 v55 k0_hw6 k0_t4 => k0_hw6.1.2.2.2.2.2.2.2.2.2.2.2.2.2.2.2.2.2.2.2.2.2.2.2.2.2.1 k0_t4
theorem k0_mult11_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), 64 ∣ (k0_mult11 arg18 v55 k0_t4).toNat := fun v1_1 k0_t2 arg18 v52 v55 k0_hw6 k0_t4 => k0_hw6.1.2.2.2.2.2.2.2.2.2.2.2.2.2.2.2.2.2.2.2.2.2.2.2.2.2.2.1 k0_t4
theorem k0_off32_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ a, (k0_off32 arg18 v55 k0_t4) a + S64x128.size a ≤ S3072x128.size a := fun v1_1 k0_t2 arg18 v52 v55 k0_hw6 k0_t4 => k0_hw6.1.2.2.2.2.2.2.2.2.2.2.2.2.2.2.2.2.2.2.2.2.2.2.2.2.2.2.2.1 k0_t4
theorem k0_off33_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ a, (k0_off33 arg18 v55 k0_t4) a + S64x7168.size a ≤ S3072x7168.size a := fun v1_1 k0_t2 arg18 v52 v55 k0_hw6 k0_t4 => k0_hw6.1.2.2.2.2.2.2.2.2.2.2.2.2.2.2.2.2.2.2.2.2.2.2.2.2.2.2.2.2.1 k0_t4
theorem k0_off33_packedfp8e4m3 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), (Rect.unit (s := S3072x7168) (k0_off33 arg18 v55 k0_t4) S64x7168.size (k0_off33_inb v1_1 k0_t2 arg18 v52 v55 k0_hw6 k0_t4)).PackedRows (EltTy.packing .fp8e4m3) := fun v1_1 k0_t2 arg18 v52 v55 k0_hw6 k0_t4 => k0_hw6.1.2.2.2.2.2.2.2.2.2.2.2.2.2.2.2.2.2.2.2.2.2.2.2.2.2.2.2.2.2.1 k0_t4 (k0_off33_inb v1_1 k0_t2 arg18 v52 v55 k0_hw6 k0_t4)
theorem k0_mult12_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ (k0_h5 : k0_cond5 arg18 v55 k0_t4 = 1#1), 64 ∣ (k0_mult12 arg18 v55 k0_t4).toNat := fun v1_1 k0_t2 arg18 v52 v55 k0_hw6 k0_t4 k0_h5 => k0_hw6.1.2.2.2.2.2.2.2.2.2.2.2.2.2.2.2.2.2.2.2.2.2.2.2.2.2.2.2.2.2.2.1 k0_t4 k0_h5
theorem k0_off34_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ (k0_h5 : k0_cond5 arg18 v55 k0_t4 = 1#1), ∀ a, (k0_off34 arg18 v55 k0_t4) a + S1.size a ≤ S2.size a := fun v1_1 k0_t2 arg18 v52 v55 k0_hw6 k0_t4 k0_h5 => k0_hw6.1.2.2.2.2.2.2.2.2.2.2.2.2.2.2.2.2.2.2.2.2.2.2.2.2.2.2.2.2.2.2.2 k0_t4 k0_h5
theorem k0_off35_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ (k0_h5 : k0_cond5 arg18 v55 k0_t4 = 1#1), ∀ a, (k0_off35 arg18 v55 k0_t4) a + S1x64x7168.size a ≤ S2x64x7168.size a := fun v1_1 k0_t2 arg18 v52 v55 k0_hw6 k0_t4 k0_h5 => k0_hw6.2.1 k0_t4 k0_h5
theorem k0_off36_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ (k0_h5 : k0_cond5 arg18 v55 k0_t4 = 1#1), ∀ a, (k0_off36 arg18 v55 k0_t4) a + S64x7168.size a ≤ S3072x7168.size a := fun v1_1 k0_t2 arg18 v52 v55 k0_hw6 k0_t4 k0_h5 => k0_hw6.2.2.1 k0_t4 k0_h5
theorem k0_off36_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ (k0_h5 : k0_cond5 arg18 v55 k0_t4 = 1#1), (Rect.unit (s := S3072x7168) (k0_off36 arg18 v55 k0_t4) S64x7168.size (k0_off36_inb v1_1 k0_t2 arg18 v52 v55 k0_hw6 k0_t4 k0_h5)).WholeWords (EltTy.packing .bf16) := fun v1_1 k0_t2 arg18 v52 v55 k0_hw6 k0_t4 k0_h5 => k0_hw6.2.2.2.1 k0_t4 k0_h5 (k0_off36_inb v1_1 k0_t2 arg18 v52 v55 k0_hw6 k0_t4 k0_h5)
theorem k0_off35_wordsbf16 : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t4 : Fin (k0_t4_loop arg18 v55).trips), ∀ (k0_h5 : k0_cond5 arg18 v55 k0_t4 = 1#1), (Rect.unit (s := S2x64x7168) (k0_off35 arg18 v55 k0_t4) S1x64x7168.size (k0_off35_inb v1_1 k0_t2 arg18 v52 v55 k0_hw6 k0_t4 k0_h5)).WholeWords (EltTy.packing .bf16) := fun v1_1 k0_t2 arg18 v52 v55 k0_hw6 k0_t4 k0_h5 => k0_hw6.2.2.2.2.1 k0_t4 k0_h5 (k0_off35_inb v1_1 k0_t2 arg18 v52 v55 k0_hw6 k0_t4 k0_h5)
theorem k0_t5_ok : ∀ (v1_1 : BitVec 32) (k0_t2 : Fin (k0_t2_loop v1_1).trips) (arg18 : BitVec 32) (v52 : BitVec 32) (v55 : BitVec 32) (k0_hw6 : k0_chk6 v1_1 k0_t2 arg18 v52 v55), (k0_t5_loop v52 v55).OK := fun v1_1 k0_t2 arg18 v52 v55 k0_hw6 => k0_hw6.2.2.2.2.2.1
theorem k0_mult19_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t5 : Fin (k0_t5_loop v52 v55).trips), 32 ∣ (k0_mult19 v52 v55 k0_t5).toNat := fun v1_1 k0_t2 arg18 v52 v55 k0_hw6 k0_t5 => k0_hw6.2.2.2.2.2.2.1 k0_t5
theorem k0_off49_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t5 : Fin (k0_t5_loop v52 v55).trips), ∀ a, (k0_off49 v52 v55 k0_t5) a + S128x7168.size a ≤ S3072x7168.size a := fun v1_1 k0_t2 arg18 v52 v55 k0_hw6 k0_t5 => k0_hw6.2.2.2.2.2.2.2.1 k0_t5
theorem k0_off50_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t5 : Fin (k0_t5_loop v52 v55).trips), ∀ a, (k0_off50 v1_1 k0_t2) a + S1x1x7168x256.size a ≤ S3x2x7168x256.size a := fun v1_1 k0_t2 arg18 v52 v55 k0_hw6 k0_t5 => k0_hw6.2.2.2.2.2.2.2.2.1 k0_t5
theorem k0_off51_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t5 : Fin (k0_t5_loop v52 v55).trips), ∀ a, (k0_off51 v1_1 k0_t2) a + S1x1x7168x256.size a ≤ S3x2x7168x256.size a := fun v1_1 k0_t2 arg18 v52 v55 k0_hw6 k0_t5 => k0_hw6.2.2.2.2.2.2.2.2.2.1 k0_t5
theorem k0_off52_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t5 : Fin (k0_t5_loop v52 v55).trips), ∀ a, (k0_off52 v52 v55 k0_t5) a + S128x128.size a ≤ S3072x128.size a := fun v1_1 k0_t2 arg18 v52 v55 k0_hw6 k0_t5 => k0_hw6.2.2.2.2.2.2.2.2.2.2.1 k0_t5
theorem k0_off53_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t5 : Fin (k0_t5_loop v52 v55).trips), ∀ a, (k0_off53 v1_1 k0_t2 v52 v55 k0_t5) a + S128x256.size a ≤ S3072x2048.size a := fun v1_1 k0_t2 arg18 v52 v55 k0_hw6 k0_t5 => k0_hw6.2.2.2.2.2.2.2.2.2.2.2.1 k0_t5
theorem k0_t6_ok : ∀ (v1_1 : BitVec 32) (k0_t2 : Fin (k0_t2_loop v1_1).trips) (arg18 : BitVec 32) (v52 : BitVec 32) (v55 : BitVec 32) (k0_hw6 : k0_chk6 v1_1 k0_t2 arg18 v52 v55), (k0_t6_loop v52 v55).OK := fun v1_1 k0_t2 arg18 v52 v55 k0_hw6 => k0_hw6.2.2.2.2.2.2.2.2.2.2.2.2.1
theorem k0_mult20_dvd : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t6 : Fin (k0_t6_loop v52 v55).trips), 32 ∣ (k0_mult20 v52 v55 k0_t6).toNat := fun v1_1 k0_t2 arg18 v52 v55 k0_hw6 k0_t6 => k0_hw6.2.2.2.2.2.2.2.2.2.2.2.2.2.1 k0_t6
theorem k0_off54_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t6 : Fin (k0_t6_loop v52 v55).trips), ∀ a, (k0_off54 v52 v55 k0_t6) a + S128x7168.size a ≤ S3072x7168.size a := fun v1_1 k0_t2 arg18 v52 v55 k0_hw6 k0_t6 => k0_hw6.2.2.2.2.2.2.2.2.2.2.2.2.2.2.1 k0_t6
theorem k0_off55_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t6 : Fin (k0_t6_loop v52 v55).trips), ∀ a, (k0_off55 v1_1 k0_t2) a + S1x1x7168x256.size a ≤ S3x2x7168x256.size a := fun v1_1 k0_t2 arg18 v52 v55 k0_hw6 k0_t6 => k0_hw6.2.2.2.2.2.2.2.2.2.2.2.2.2.2.2.1 k0_t6
theorem k0_off56_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t6 : Fin (k0_t6_loop v52 v55).trips), ∀ a, (k0_off56 v1_1 k0_t2) a + S1x1x7168x256.size a ≤ S3x2x7168x256.size a := fun v1_1 k0_t2 arg18 v52 v55 k0_hw6 k0_t6 => k0_hw6.2.2.2.2.2.2.2.2.2.2.2.2.2.2.2.2.1 k0_t6
theorem k0_off57_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t6 : Fin (k0_t6_loop v52 v55).trips), ∀ a, (k0_off57 v52 v55 k0_t6) a + S128x128.size a ≤ S3072x128.size a := fun v1_1 k0_t2 arg18 v52 v55 k0_hw6 k0_t6 => k0_hw6.2.2.2.2.2.2.2.2.2.2.2.2.2.2.2.2.2.1 k0_t6
theorem k0_off58_inb : ∀ (v1_1 : BitVec 32) (k0_t2 : Fin (k0_t2_loop v1_1).trips) (arg18 : BitVec 32) (v52 : BitVec 32) (v55 : BitVec 32) (k0_hw6 : k0_chk6 v1_1 k0_t2 arg18 v52 v55) (k0_t6 : Fin (k0_t6_loop v52 v55).trips), ∀ a, (k0_off58 v1_1 k0_t2 v52 v55 k0_t6) a + S128x256.size a ≤ S3072x2048.size a := fun v1_1 k0_t2 arg18 v52 v55 k0_hw6 k0_t6 => k0_hw6.2.2.2.2.2.2.2.2.2.2.2.2.2.2.2.2.2.2 k0_t6

@[reducible] def k0_t7_loop (v1_1 : BitVec 32) : Scf.Loop 32 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let v27 : BitVec 32 := Scalar.addi c0_i32_19 v26
  let c1_i32_23 : BitVec 32 := 1#32
  ⟨v30, v27, c1_i32_23⟩
def k0_off59 (v1_1 : BitVec 32) (k0_t7 : Fin (k0_t7_loop v1_1).trips) : Fin 1 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v47 : BitVec 32 := Scalar.remsi arg17 v1_1
  let v48 : Index := Scalar.indexCast v47
  ![v48.toNat]
def k0_off60 (v49 : BitVec 32) : Fin 1 → Nat :=
  let v51 : Index := Scalar.indexCast v49
  ![v51.toNat]

def k0_off61 (v49 : BitVec 32) : Fin 1 → Nat :=
  let c1_i32_37 : BitVec 32 := 1#32
  let v53 : BitVec 32 := Scalar.addi v49 c1_i32_37
  let v54 : Index := Scalar.indexCast v53
  ![v54.toNat]
@[reducible] def k0_t8_loop (arg18 : BitVec 32) (v55 : BitVec 32) : Scf.Loop 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_43 : BitVec 32 := 1#32
  ⟨arg18, v64, c1_i32_43⟩

def k0_mult21 (arg18 : BitVec 32) (v55 : BitVec 32) (k0_t8 : Fin (k0_t8_loop arg18 v55).trips) : BitVec 32 :=
  let c1_i32_43 : BitVec 32 := 1#32
  let arg19 : BitVec 32 := Scf.iv arg18 c1_i32_43 k0_t8
  let c64_i32_68 : BitVec 32 := 64#32
  let v115 : BitVec 32 := Scalar.muli arg19 c64_i32_68
  v115
def k0_off62 (arg18 : BitVec 32) (v55 : BitVec 32) (k0_t8 : Fin (k0_t8_loop arg18 v55).trips) : Fin 1 → Nat :=
  let c1_i32_43 : BitVec 32 := 1#32
  let arg19 : BitVec 32 := Scf.iv arg18 c1_i32_43 k0_t8
  let c2_i32 : BitVec 32 := 2#32
  let v114 : BitVec 32 := Scalar.remsi arg19 c2_i32
  ![v114.toNat]
def k0_off63 (arg18 : BitVec 32) (v55 : BitVec 32) (k0_t8 : Fin (k0_t8_loop arg18 v55).trips) : Fin 3 → Nat :=
  let c1_i32_43 : BitVec 32 := 1#32
  let arg19 : BitVec 32 := Scf.iv arg18 c1_i32_43 k0_t8
  let c2_i32 : BitVec 32 := 2#32
  let v114 : BitVec 32 := Scalar.remsi arg19 c2_i32
  let c0_i32_69 : BitVec 32 := 0#32
  let c0_i32_70 : BitVec 32 := 0#32
  ![v114.toNat, 0, 0]
def k0_off64 (arg18 : BitVec 32) (v55 : BitVec 32) (k0_t8 : Fin (k0_t8_loop arg18 v55).trips) : Fin 2 → Nat :=
  let c1_i32_43 : BitVec 32 := 1#32
  let arg19 : BitVec 32 := Scf.iv arg18 c1_i32_43 k0_t8
  let c64_i32_68 : BitVec 32 := 64#32
  let v115 : BitVec 32 := Scalar.muli arg19 c64_i32_68
  let v116 : BitVec 32 := v115
  let c0_i32_71 : BitVec 32 := 0#32
  ![v116.toNat, 0]
def k0_off65 (arg18 : BitVec 32) (v55 : BitVec 32) (k0_t8 : Fin (k0_t8_loop arg18 v55).trips) : Fin 3 → Nat :=
  let c1_i32_43 : BitVec 32 := 1#32
  let arg19 : BitVec 32 := Scf.iv arg18 c1_i32_43 k0_t8
  let c2_i32 : BitVec 32 := 2#32
  let v114 : BitVec 32 := Scalar.remsi arg19 c2_i32
  let v122 : Index := Scalar.indexCast v114
  let c0_72 : Index := 0#32
  let c0_73 : Index := 0#32
  ![v122.toNat, 0, 0]
def k0_mult22 (arg18 : BitVec 32) (v55 : BitVec 32) (k0_t8 : Fin (k0_t8_loop arg18 v55).trips) : BitVec 32 :=
  let c1_i32_43 : BitVec 32 := 1#32
  let arg19 : BitVec 32 := Scf.iv arg18 c1_i32_43 k0_t8
  let c64_i32_97 : BitVec 32 := 64#32
  let v377 : BitVec 32 := Scalar.muli arg19 c64_i32_97
  v377
def k0_off66 (arg18 : BitVec 32) (v55 : BitVec 32) (k0_t8 : Fin (k0_t8_loop arg18 v55).trips) : Fin 2 → Nat :=
  let c1_i32_43 : BitVec 32 := 1#32
  let arg19 : BitVec 32 := Scf.iv arg18 c1_i32_43 k0_t8
  let c64_i32_97 : BitVec 32 := 64#32
  let v377 : BitVec 32 := Scalar.muli arg19 c64_i32_97
  let v378 : BitVec 32 := v377
  let v381 : Index := Scalar.indexCast v378
  let c0_98 : Index := 0#32
  ![v381.toNat, 0]
def k0_off67 (arg18 : BitVec 32) (v55 : BitVec 32) (k0_t8 : Fin (k0_t8_loop arg18 v55).trips) : Fin 2 → Nat :=
  let c1_i32_43 : BitVec 32 := 1#32
  let arg19 : BitVec 32 := Scf.iv arg18 c1_i32_43 k0_t8
  let c64_i32_97 : BitVec 32 := 64#32
  let v377 : BitVec 32 := Scalar.muli arg19 c64_i32_97
  let v378 : BitVec 32 := v377
  let v395 : Index := Scalar.indexCast v378
  let c0_101 : Index := 0#32
  ![v395.toNat, 0]
def k0_mult23 (arg18 : BitVec 32) (v55 : BitVec 32) (k0_t8 : Fin (k0_t8_loop arg18 v55).trips) : BitVec 32 :=
  let c1_i32_43 : BitVec 32 := 1#32
  let arg19 : BitVec 32 := Scf.iv arg18 c1_i32_43 k0_t8
  let c2_i32_105 : BitVec 32 := 2#32
  let v403 : BitVec 32 := Scalar.addi arg19 c2_i32_105
  let c64_i32_106 : BitVec 32 := 64#32
  let v404 : BitVec 32 := Scalar.muli v403 c64_i32_106
  v404
def k0_cond7 (arg18 : BitVec 32) (v55 : BitVec 32) (k0_t8 : Fin (k0_t8_loop arg18 v55).trips) : BitVec 1 :=
  let c1_i32_43 : BitVec 32 := 1#32
  let arg19 : BitVec 32 := Scf.iv arg18 c1_i32_43 k0_t8
  let c2_i32_102 : BitVec 32 := 2#32
  let v399 : BitVec 32 := Scalar.addi arg19 c2_i32_102
  let c48_i32 : BitVec 32 := 48#32
  let v400 : BitVec 1 := Scalar.cmpi .slt v399 c48_i32
  let v401 : BitVec 32 := Scalar.extui v400
  let c0_i32_103 : BitVec 32 := 0#32
  let v402 : BitVec 1 := Scalar.cmpi .ne v401 c0_i32_103
  v402

def k0_off68 (arg18 : BitVec 32) (v55 : BitVec 32) (k0_t8 : Fin (k0_t8_loop arg18 v55).trips) : Fin 1 → Nat :=
  let c1_i32_43 : BitVec 32 := 1#32
  let arg19 : BitVec 32 := Scf.iv arg18 c1_i32_43 k0_t8
  let c2_i32 : BitVec 32 := 2#32
  let v114 : BitVec 32 := Scalar.remsi arg19 c2_i32
  ![v114.toNat]
def k0_off69 (arg18 : BitVec 32) (v55 : BitVec 32) (k0_t8 : Fin (k0_t8_loop arg18 v55).trips) : Fin 3 → Nat :=
  let c1_i32_43 : BitVec 32 := 1#32
  let arg19 : BitVec 32 := Scf.iv arg18 c1_i32_43 k0_t8
  let c2_i32 : BitVec 32 := 2#32
  let v114 : BitVec 32 := Scalar.remsi arg19 c2_i32
  let c0_i32_107 : BitVec 32 := 0#32
  let c0_i32_108 : BitVec 32 := 0#32
  ![v114.toNat, 0, 0]
def k0_off70 (arg18 : BitVec 32) (v55 : BitVec 32) (k0_t8 : Fin (k0_t8_loop arg18 v55).trips) : Fin 2 → Nat :=
  let c1_i32_43 : BitVec 32 := 1#32
  let arg19 : BitVec 32 := Scf.iv arg18 c1_i32_43 k0_t8
  let c2_i32_105 : BitVec 32 := 2#32
  let v403 : BitVec 32 := Scalar.addi arg19 c2_i32_105
  let c64_i32_106 : BitVec 32 := 64#32
  let v404 : BitVec 32 := Scalar.muli v403 c64_i32_106
  let v405 : BitVec 32 := v404
  let c0_i32_109 : BitVec 32 := 0#32
  ![v405.toNat, 0]
@[reducible] def k0_t9_loop (arg18 : BitVec 32) (v55 : BitVec 32) : Scf.Loop 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let v61 : BitVec 32 := Scalar.addi arg18 v60
  let c1_i32_44 : BitVec 32 := 1#32
  ⟨v64, v61, c1_i32_44⟩
def k0_mult24 (arg18 : BitVec 32) (v55 : BitVec 32) (k0_t9 : Fin (k0_t9_loop arg18 v55).trips) : BitVec 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c64_i32_68 : BitVec 32 := 64#32
  let v115 : BitVec 32 := Scalar.muli arg19 c64_i32_68
  v115
def k0_off71 (arg18 : BitVec 32) (v55 : BitVec 32) (k0_t9 : Fin (k0_t9_loop arg18 v55).trips) : Fin 1 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32 : BitVec 32 := 2#32
  let v114 : BitVec 32 := Scalar.remsi arg19 c2_i32
  ![v114.toNat]
def k0_off72 (arg18 : BitVec 32) (v55 : BitVec 32) (k0_t9 : Fin (k0_t9_loop arg18 v55).trips) : Fin 3 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32 : BitVec 32 := 2#32
  let v114 : BitVec 32 := Scalar.remsi arg19 c2_i32
  let c0_i32_69 : BitVec 32 := 0#32
  let c0_i32_70 : BitVec 32 := 0#32
  ![v114.toNat, 0, 0]
def k0_off73 (arg18 : BitVec 32) (v55 : BitVec 32) (k0_t9 : Fin (k0_t9_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c64_i32_68 : BitVec 32 := 64#32
  let v115 : BitVec 32 := Scalar.muli arg19 c64_i32_68
  let v116 : BitVec 32 := v115
  let c0_i32_71 : BitVec 32 := 0#32
  ![v116.toNat, 0]
def k0_off74 (arg18 : BitVec 32) (v55 : BitVec 32) (k0_t9 : Fin (k0_t9_loop arg18 v55).trips) : Fin 3 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32 : BitVec 32 := 2#32
  let v114 : BitVec 32 := Scalar.remsi arg19 c2_i32
  let v122 : Index := Scalar.indexCast v114
  let c0_72 : Index := 0#32
  let c0_73 : Index := 0#32
  ![v122.toNat, 0, 0]
def k0_mult25 (arg18 : BitVec 32) (v55 : BitVec 32) (k0_t9 : Fin (k0_t9_loop arg18 v55).trips) : BitVec 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c64_i32_97 : BitVec 32 := 64#32
  let v377 : BitVec 32 := Scalar.muli arg19 c64_i32_97
  v377
def k0_off75 (arg18 : BitVec 32) (v55 : BitVec 32) (k0_t9 : Fin (k0_t9_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c64_i32_97 : BitVec 32 := 64#32
  let v377 : BitVec 32 := Scalar.muli arg19 c64_i32_97
  let v378 : BitVec 32 := v377
  let v381 : Index := Scalar.indexCast v378
  let c0_98 : Index := 0#32
  ![v381.toNat, 0]
def k0_off76 (arg18 : BitVec 32) (v55 : BitVec 32) (k0_t9 : Fin (k0_t9_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c64_i32_97 : BitVec 32 := 64#32
  let v377 : BitVec 32 := Scalar.muli arg19 c64_i32_97
  let v378 : BitVec 32 := v377
  let v395 : Index := Scalar.indexCast v378
  let c0_101 : Index := 0#32
  ![v395.toNat, 0]
def k0_mult26 (arg18 : BitVec 32) (v55 : BitVec 32) (k0_t9 : Fin (k0_t9_loop arg18 v55).trips) : BitVec 32 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32_105 : BitVec 32 := 2#32
  let v403 : BitVec 32 := Scalar.addi arg19 c2_i32_105
  let c64_i32_106 : BitVec 32 := 64#32
  let v404 : BitVec 32 := Scalar.muli v403 c64_i32_106
  v404
def k0_cond8 (arg18 : BitVec 32) (v55 : BitVec 32) (k0_t9 : Fin (k0_t9_loop arg18 v55).trips) : BitVec 1 :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32_102 : BitVec 32 := 2#32
  let v399 : BitVec 32 := Scalar.addi arg19 c2_i32_102
  let c48_i32 : BitVec 32 := 48#32
  let v400 : BitVec 1 := Scalar.cmpi .slt v399 c48_i32
  let v401 : BitVec 32 := Scalar.extui v400
  let c0_i32_103 : BitVec 32 := 0#32
  let v402 : BitVec 1 := Scalar.cmpi .ne v401 c0_i32_103
  v402

def k0_off77 (arg18 : BitVec 32) (v55 : BitVec 32) (k0_t9 : Fin (k0_t9_loop arg18 v55).trips) : Fin 1 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32 : BitVec 32 := 2#32
  let v114 : BitVec 32 := Scalar.remsi arg19 c2_i32
  ![v114.toNat]
def k0_off78 (arg18 : BitVec 32) (v55 : BitVec 32) (k0_t9 : Fin (k0_t9_loop arg18 v55).trips) : Fin 3 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32 : BitVec 32 := 2#32
  let v114 : BitVec 32 := Scalar.remsi arg19 c2_i32
  let c0_i32_107 : BitVec 32 := 0#32
  let c0_i32_108 : BitVec 32 := 0#32
  ![v114.toNat, 0, 0]
def k0_off79 (arg18 : BitVec 32) (v55 : BitVec 32) (k0_t9 : Fin (k0_t9_loop arg18 v55).trips) : Fin 2 → Nat :=
  let c64_i32_38 : BitVec 32 := 64#32
  let v56 : BitVec 32 := Scalar.addi v55 c64_i32_38
  let c1_i32_39 : BitVec 32 := 1#32
  let v57 : BitVec 32 := Scalar.subi v56 c1_i32_39
  let c64_i32_40 : BitVec 32 := 64#32
  let v58 : BitVec 32 := Scalar.divsi v57 c64_i32_40
  let v59 : BitVec 32 := Scalar.maxsi arg18 v58
  let v60 : BitVec 32 := Scalar.subi v59 arg18
  let c1_i32_42 : BitVec 32 := 1#32
  let v62 : BitVec 32 := Scalar.divsi v60 c1_i32_42
  let v63 : BitVec 32 := Scalar.muli v62 c1_i32_42
  let v64 : BitVec 32 := Scalar.addi arg18 v63
  let c1_i32_44 : BitVec 32 := 1#32
  let arg19 : BitVec 32 := Scf.iv v64 c1_i32_44 k0_t9
  let c2_i32_105 : BitVec 32 := 2#32
  let v403 : BitVec 32 := Scalar.addi arg19 c2_i32_105
  let c64_i32_106 : BitVec 32 := 64#32
  let v404 : BitVec 32 := Scalar.muli v403 c64_i32_106
  let v405 : BitVec 32 := v404
  let c0_i32_109 : BitVec 32 := 0#32
  ![v405.toNat, 0]
def k0_off80 (v1_1 : BitVec 32) (k0_t7 : Fin (k0_t7_loop v1_1).trips) : Fin 1 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let v117 : BitVec 32 := Scalar.remsi v115 v1_1
  let v118 : Index := Scalar.indexCast v117
  ![v118.toNat]
def k0_cond9 (v1_1 : BitVec 32) (k0_t7 : Fin (k0_t7_loop v1_1).trips) : BitVec 1 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_45 : BitVec 32 := 3#32
  let v67 : BitVec 32 := Scalar.addi arg17 c3_i32_45
  let c1_i32_46 : BitVec 32 := 1#32
  let v68 : BitVec 32 := Scalar.subi v67 c1_i32_46
  let v69 : BitVec 1 := Scalar.cmpi .slt v68 v3
  let v70 : BitVec 32 := Scalar.extui v69
  let c0_i32_47 : BitVec 32 := 0#32
  let v71 : BitVec 1 := Scalar.cmpi .ne v70 c0_i32_47
  v71

def k0_mult27 (v1_1 : BitVec 32) (k0_t7 : Fin (k0_t7_loop v1_1).trips) : BitVec 32 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let v116 : BitVec 32 := Scalar.divsi v115 v1_1
  let c256_i32_71 : BitVec 32 := 256#32
  let v121 : BitVec 32 := Scalar.muli v116 c256_i32_71
  v121
def k0_mult28 (v1_1 : BitVec 32) (k0_t7 : Fin (k0_t7_loop v1_1).trips) : BitVec 32 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let v116 : BitVec 32 := Scalar.divsi v115 v1_1
  let c256_i32_73 : BitVec 32 := 256#32
  let v124 : BitVec 32 := Scalar.muli v116 c256_i32_73
  v124
def k0_off81 (v1_1 : BitVec 32) (k0_t7 : Fin (k0_t7_loop v1_1).trips) : Fin 1 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  ![v120.toNat]
def k0_off82 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  let c0_i32_75 : BitVec 32 := 0#32
  let c0_i32_76 : BitVec 32 := 0#32
  let c0_i32_77 : BitVec 32 := 0#32
  ![v120.toNat, 0, 0, 0]
def k0_off83 (v1_1 : BitVec 32) (k0_t7 : Fin (k0_t7_loop v1_1).trips) (v119 : BitVec 32) (c0_i32_72 : BitVec 32) : Fin 3 → Nat :=
  let c0_i32_78 : BitVec 32 := 0#32
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let v116 : BitVec 32 := Scalar.divsi v115 v1_1
  let c256_i32_71 : BitVec 32 := 256#32
  let v121 : BitVec 32 := Scalar.muli v116 c256_i32_71
  let v122 : BitVec 32 := v121
  let v123 : BitVec 32 := Scalar.addi c0_i32_72 v122
  ![v119.toNat, 0, v123.toNat]

def k0_chk10 (v1_1 : BitVec 32) (k0_t7 : Fin (k0_t7_loop v1_1).trips) (v119 : BitVec 32) : Prop :=
  (∀ (k0_h9 : k0_cond9 v1_1 k0_t7 = 1#1), ∀ (r : Fin 2), ∀ a, (k0_off83 v1_1 k0_t7 v119 (BitVec.ofNat 32 (2048 * r.val))) a + S1x7168x256.size a ≤ S13x7168x4096.size a) ∧
  (∀ (k0_h9 : k0_cond9 v1_1 k0_t7 = 1#1), ∀ (r : Fin 2), ∀ (hinb : ∀ a, (k0_off83 v1_1 k0_t7 v119 (BitVec.ofNat 32 (2048 * r.val))) a + S1x7168x256.size a ≤ S13x7168x4096.size a), (Rect.unit (s := S13x7168x4096) (k0_off83 v1_1 k0_t7 v119 (BitVec.ofNat 32 (2048 * r.val))) S1x7168x256.size hinb).WholeWords (EltTy.packing .fp8e4m3))
theorem k0_off83_inb : ∀ (v1_1 : BitVec 32) (k0_t7 : Fin (k0_t7_loop v1_1).trips) (v119 : BitVec 32) (k0_hw10 : k0_chk10 v1_1 k0_t7 v119), ∀ (k0_h9 : k0_cond9 v1_1 k0_t7 = 1#1), ∀ (r : Fin 2), ∀ a, (k0_off83 v1_1 k0_t7 v119 (BitVec.ofNat 32 (2048 * r.val))) a + S1x7168x256.size a ≤ S13x7168x4096.size a := fun v1_1 k0_t7 v119 k0_hw10 k0_h9 r => k0_hw10.1 k0_h9 r
theorem k0_off83_wordsfp8e4m3 : ∀ (v1_1 : BitVec 32) (k0_t7 : Fin (k0_t7_loop v1_1).trips) (v119 : BitVec 32) (k0_hw10 : k0_chk10 v1_1 k0_t7 v119), ∀ (k0_h9 : k0_cond9 v1_1 k0_t7 = 1#1), ∀ (r : Fin 2), (Rect.unit (s := S13x7168x4096) (k0_off83 v1_1 k0_t7 v119 (BitVec.ofNat 32 (2048 * r.val))) S1x7168x256.size (k0_off83_inb v1_1 k0_t7 v119 k0_hw10 k0_h9 r)).WholeWords (EltTy.packing .fp8e4m3) := fun v1_1 k0_t7 v119 k0_hw10 k0_h9 r => k0_hw10.2 k0_h9 r (k0_off83_inb v1_1 k0_t7 v119 k0_hw10 k0_h9 r)

def k0_off84 (v1_1 : BitVec 32) (k0_t7 : Fin (k0_t7_loop v1_1).trips) : Fin 1 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  ![v120.toNat]
def k0_off85 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32_68 : BitVec 32 := 3#32
  let v114 : BitVec 32 := Scalar.addi arg17 c3_i32_68
  let c1_i32_69 : BitVec 32 := 1#32
  let v115 : BitVec 32 := Scalar.subi v114 c1_i32_69
  let c3_i32_70 : BitVec 32 := 3#32
  let v120 : BitVec 32 := Scalar.remsi v115 c3_i32_70
  let c1_i32_79 : BitVec 32 := 1#32
  let c0_i32_80 : BitVec 32 := 0#32
  let c0_i32_81 : BitVec 32 := 0#32
  ![v120.toNat, 1, 0, 0]
def k0_mult29 (v1_1 : BitVec 32) (k0_t7 : Fin (k0_t7_loop v1_1).trips) : BitVec 32 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32 : BitVec 32 := 256#32
  let v72 : BitVec 32 := Scalar.muli v46 c256_i32
  v72
def k0_mult30 (v1_1 : BitVec 32) (k0_t7 : Fin (k0_t7_loop v1_1).trips) : BitVec 32 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32_49 : BitVec 32 := 256#32
  let v75 : BitVec 32 := Scalar.muli v46 c256_i32_49
  v75
def k0_off86 (v1_1 : BitVec 32) (k0_t7 : Fin (k0_t7_loop v1_1).trips) : Fin 1 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32 : BitVec 32 := 3#32
  let v50 : BitVec 32 := Scalar.remsi arg17 c3_i32
  ![v50.toNat]
def k0_off87 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32 : BitVec 32 := 3#32
  let v50 : BitVec 32 := Scalar.remsi arg17 c3_i32
  let c0_i32_50 : BitVec 32 := 0#32
  let c0_i32_51 : BitVec 32 := 0#32
  let c0_i32_52 : BitVec 32 := 0#32
  ![v50.toNat, 0, 0, 0]
def k0_off88 (v1_1 : BitVec 32) (k0_t7 : Fin (k0_t7_loop v1_1).trips) (v49 : BitVec 32) (c0_i32_48 : BitVec 32) : Fin 3 → Nat :=
  let c0_i32_53 : BitVec 32 := 0#32
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32 : BitVec 32 := 256#32
  let v72 : BitVec 32 := Scalar.muli v46 c256_i32
  let v73 : BitVec 32 := v72
  let v74 : BitVec 32 := Scalar.addi c0_i32_48 v73
  ![v49.toNat, 0, v74.toNat]
def k0_off89 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32 : BitVec 32 := 3#32
  let v50 : BitVec 32 := Scalar.remsi arg17 c3_i32
  let c1_i32_54 : BitVec 32 := 1#32
  let c0_i32_55 : BitVec 32 := 0#32
  let c0_i32_56 : BitVec 32 := 0#32
  ![v50.toNat, 1, 0, 0]
def k0_mult31 (v1_1 : BitVec 32) (k0_t7 : Fin (k0_t7_loop v1_1).trips) : BitVec 32 :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32_61 : BitVec 32 := 256#32
  let v96 : BitVec 32 := Scalar.muli v46 c256_i32_61
  v96
def k0_off90 (v1_1 : BitVec 32) (k0_t7 : Fin (k0_t7_loop v1_1).trips) (v49 : BitVec 32) : Fin 2 → Nat :=
  let v98 : Index := Scalar.indexCast v49
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32_61 : BitVec 32 := 256#32
  let v96 : BitVec 32 := Scalar.muli v46 c256_i32_61
  let v97 : BitVec 32 := v96
  let v99 : Index := Scalar.indexCast v97
  ![v98.toNat, v99.toNat]
def k0_mult32 (v1_1 : BitVec 32) (k0_t7 : Fin (k0_t7_loop v1_1).trips) : BitVec 32 :=
  let c2048_i32_62 : BitVec 32 := 2048#32
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32_61 : BitVec 32 := 256#32
  let v96 : BitVec 32 := Scalar.muli v46 c256_i32_61
  let v97 : BitVec 32 := v96
  let v101 : BitVec 32 := Scalar.addi c2048_i32_62 v97
  v101

def k0_chk2_0 (v1_1 : BitVec 32) : Prop :=
  (∀ (k0_h2 : k0_cond2 v1_1 = 1#1), ∀ a, (k0_off4 v1_1) a + S1.size a ≤ S13.size a) ∧
  (∀ (k0_h2 : k0_cond2 v1_1 = 1#1), 256 ∣ (k0_mult3 v1_1).toNat) ∧
  (∀ (k0_h2 : k0_cond2 v1_1 = 1#1), 256 ∣ (k0_mult4 v1_1).toNat) ∧
  (∀ (k0_h3 : k0_cond3 v1_1 = 1#1), ∀ a, (k0_off10 v1_1) a + S1.size a ≤ S13.size a) ∧
  (∀ (k0_h3 : k0_cond3 v1_1 = 1#1), 256 ∣ (k0_mult5 v1_1).toNat) ∧
  (∀ (k0_h3 : k0_cond3 v1_1 = 1#1), 256 ∣ (k0_mult6 v1_1).toNat) ∧
  ((k0_t2_loop v1_1).OK) ∧
  (∀ k0_t2 : Fin (k0_t2_loop v1_1).trips, ∀ a, (k0_off16 v1_1 k0_t2) a + S1.size a ≤ S13.size a) ∧
  (∀ k0_t2 : Fin (k0_t2_loop v1_1).trips, ∀ (k0_h6 : k0_cond6 v1_1 k0_t2 = 1#1), ∀ a, (k0_off37 v1_1 k0_t2) a + S1.size a ≤ S13.size a) ∧
  (∀ k0_t2 : Fin (k0_t2_loop v1_1).trips, ∀ (k0_h6 : k0_cond6 v1_1 k0_t2 = 1#1), 256 ∣ (k0_mult13 v1_1 k0_t2).toNat) ∧
  (∀ k0_t2 : Fin (k0_t2_loop v1_1).trips, ∀ (k0_h6 : k0_cond6 v1_1 k0_t2 = 1#1), 256 ∣ (k0_mult14 v1_1 k0_t2).toNat) ∧
  (∀ k0_t2 : Fin (k0_t2_loop v1_1).trips, ∀ (k0_h6 : k0_cond6 v1_1 k0_t2 = 1#1), ∀ a, (k0_off38 v1_1 k0_t2) a + S1.size a ≤ S3.size a) ∧
  (∀ k0_t2 : Fin (k0_t2_loop v1_1).trips, ∀ (k0_h6 : k0_cond6 v1_1 k0_t2 = 1#1), ∀ a, (k0_off39 v1_1 k0_t2) a + S1x1x7168x256.size a ≤ S3x2x7168x256.size a) ∧
  (∀ k0_t2 : Fin (k0_t2_loop v1_1).trips, ∀ (k0_h6 : k0_cond6 v1_1 k0_t2 = 1#1), ∀ (hinb : ∀ a, (k0_off39 v1_1 k0_t2) a + S1x1x7168x256.size a ≤ S3x2x7168x256.size a), (Rect.unit (s := S3x2x7168x256) (k0_off39 v1_1 k0_t2) S1x1x7168x256.size hinb).WholeWords (EltTy.packing .fp8e4m3)) ∧
  (∀ k0_t2 : Fin (k0_t2_loop v1_1).trips, ∀ (k0_h6 : k0_cond6 v1_1 k0_t2 = 1#1), ∀ a, (k0_off41 v1_1 k0_t2) a + S1.size a ≤ S3.size a) ∧
  (∀ k0_t2 : Fin (k0_t2_loop v1_1).trips, ∀ (k0_h6 : k0_cond6 v1_1 k0_t2 = 1#1), ∀ a, (k0_off42 v1_1 k0_t2) a + S1x1x7168x256.size a ≤ S3x2x7168x256.size a) ∧
  (∀ k0_t2 : Fin (k0_t2_loop v1_1).trips, ∀ (k0_h6 : k0_cond6 v1_1 k0_t2 = 1#1), ∀ (hinb : ∀ a, (k0_off42 v1_1 k0_t2) a + S1x1x7168x256.size a ≤ S3x2x7168x256.size a), (Rect.unit (s := S3x2x7168x256) (k0_off42 v1_1 k0_t2) S1x1x7168x256.size hinb).WholeWords (EltTy.packing .fp8e4m3)) ∧
  (∀ k0_t2 : Fin (k0_t2_loop v1_1).trips, 256 ∣ (k0_mult15 v1_1 k0_t2).toNat) ∧
  (∀ k0_t2 : Fin (k0_t2_loop v1_1).trips, 256 ∣ (k0_mult16 v1_1 k0_t2).toNat) ∧
  (∀ k0_t2 : Fin (k0_t2_loop v1_1).trips, ∀ a, (k0_off43 v1_1 k0_t2) a + S1.size a ≤ S3.size a) ∧
  (∀ k0_t2 : Fin (k0_t2_loop v1_1).trips, ∀ a, (k0_off44 v1_1 k0_t2) a + S1x1x7168x256.size a ≤ S3x2x7168x256.size a) ∧
  (∀ k0_t2 : Fin (k0_t2_loop v1_1).trips, ∀ (hinb : ∀ a, (k0_off44 v1_1 k0_t2) a + S1x1x7168x256.size a ≤ S3x2x7168x256.size a), (Rect.unit (s := S3x2x7168x256) (k0_off44 v1_1 k0_t2) S1x1x7168x256.size hinb).WholeWords (EltTy.packing .fp8e4m3)) ∧
  (∀ k0_t2 : Fin (k0_t2_loop v1_1).trips, ∀ a, (k0_off46 v1_1 k0_t2) a + S1x1x7168x256.size a ≤ S3x2x7168x256.size a) ∧
  (∀ k0_t2 : Fin (k0_t2_loop v1_1).trips, ∀ (hinb : ∀ a, (k0_off46 v1_1 k0_t2) a + S1x1x7168x256.size a ≤ S3x2x7168x256.size a), (Rect.unit (s := S3x2x7168x256) (k0_off46 v1_1 k0_t2) S1x1x7168x256.size hinb).WholeWords (EltTy.packing .fp8e4m3)) ∧
  (∀ k0_t2 : Fin (k0_t2_loop v1_1).trips, 256 ∣ (k0_mult17 v1_1 k0_t2).toNat) ∧
  (∀ k0_t2 : Fin (k0_t2_loop v1_1).trips, 256 ∣ (k0_mult18 v1_1 k0_t2).toNat) ∧
  ((k0_t7_loop v1_1).OK) ∧
  (∀ k0_t7 : Fin (k0_t7_loop v1_1).trips, ∀ a, (k0_off59 v1_1 k0_t7) a + S1.size a ≤ S13.size a) ∧
  (∀ k0_t7 : Fin (k0_t7_loop v1_1).trips, ∀ (k0_h9 : k0_cond9 v1_1 k0_t7 = 1#1), ∀ a, (k0_off80 v1_1 k0_t7) a + S1.size a ≤ S13.size a) ∧
  (∀ k0_t7 : Fin (k0_t7_loop v1_1).trips, ∀ (k0_h9 : k0_cond9 v1_1 k0_t7 = 1#1), 256 ∣ (k0_mult27 v1_1 k0_t7).toNat) ∧
  (∀ k0_t7 : Fin (k0_t7_loop v1_1).trips, ∀ (k0_h9 : k0_cond9 v1_1 k0_t7 = 1#1), 256 ∣ (k0_mult28 v1_1 k0_t7).toNat) ∧
  (∀ k0_t7 : Fin (k0_t7_loop v1_1).trips, ∀ (k0_h9 : k0_cond9 v1_1 k0_t7 = 1#1), ∀ a, (k0_off81 v1_1 k0_t7) a + S1.size a ≤ S3.size a)
def k0_chk2_1 (v1_1 : BitVec 32) : Prop :=
  (∀ k0_t7 : Fin (k0_t7_loop v1_1).trips, ∀ (k0_h9 : k0_cond9 v1_1 k0_t7 = 1#1), ∀ a, (k0_off82 v1_1 k0_t7) a + S1x1x7168x256.size a ≤ S3x2x7168x256.size a) ∧
  (∀ k0_t7 : Fin (k0_t7_loop v1_1).trips, ∀ (k0_h9 : k0_cond9 v1_1 k0_t7 = 1#1), ∀ (hinb : ∀ a, (k0_off82 v1_1 k0_t7) a + S1x1x7168x256.size a ≤ S3x2x7168x256.size a), (Rect.unit (s := S3x2x7168x256) (k0_off82 v1_1 k0_t7) S1x1x7168x256.size hinb).WholeWords (EltTy.packing .fp8e4m3)) ∧
  (∀ k0_t7 : Fin (k0_t7_loop v1_1).trips, ∀ (k0_h9 : k0_cond9 v1_1 k0_t7 = 1#1), ∀ a, (k0_off84 v1_1 k0_t7) a + S1.size a ≤ S3.size a) ∧
  (∀ k0_t7 : Fin (k0_t7_loop v1_1).trips, ∀ (k0_h9 : k0_cond9 v1_1 k0_t7 = 1#1), ∀ a, (k0_off85 v1_1 k0_t7) a + S1x1x7168x256.size a ≤ S3x2x7168x256.size a) ∧
  (∀ k0_t7 : Fin (k0_t7_loop v1_1).trips, ∀ (k0_h9 : k0_cond9 v1_1 k0_t7 = 1#1), ∀ (hinb : ∀ a, (k0_off85 v1_1 k0_t7) a + S1x1x7168x256.size a ≤ S3x2x7168x256.size a), (Rect.unit (s := S3x2x7168x256) (k0_off85 v1_1 k0_t7) S1x1x7168x256.size hinb).WholeWords (EltTy.packing .fp8e4m3)) ∧
  (∀ k0_t7 : Fin (k0_t7_loop v1_1).trips, 256 ∣ (k0_mult29 v1_1 k0_t7).toNat) ∧
  (∀ k0_t7 : Fin (k0_t7_loop v1_1).trips, 256 ∣ (k0_mult30 v1_1 k0_t7).toNat) ∧
  (∀ k0_t7 : Fin (k0_t7_loop v1_1).trips, ∀ a, (k0_off86 v1_1 k0_t7) a + S1.size a ≤ S3.size a) ∧
  (∀ k0_t7 : Fin (k0_t7_loop v1_1).trips, ∀ a, (k0_off87 v1_1 k0_t7) a + S1x1x7168x256.size a ≤ S3x2x7168x256.size a) ∧
  (∀ k0_t7 : Fin (k0_t7_loop v1_1).trips, ∀ (hinb : ∀ a, (k0_off87 v1_1 k0_t7) a + S1x1x7168x256.size a ≤ S3x2x7168x256.size a), (Rect.unit (s := S3x2x7168x256) (k0_off87 v1_1 k0_t7) S1x1x7168x256.size hinb).WholeWords (EltTy.packing .fp8e4m3)) ∧
  (∀ k0_t7 : Fin (k0_t7_loop v1_1).trips, ∀ a, (k0_off89 v1_1 k0_t7) a + S1x1x7168x256.size a ≤ S3x2x7168x256.size a) ∧
  (∀ k0_t7 : Fin (k0_t7_loop v1_1).trips, ∀ (hinb : ∀ a, (k0_off89 v1_1 k0_t7) a + S1x1x7168x256.size a ≤ S3x2x7168x256.size a), (Rect.unit (s := S3x2x7168x256) (k0_off89 v1_1 k0_t7) S1x1x7168x256.size hinb).WholeWords (EltTy.packing .fp8e4m3)) ∧
  (∀ k0_t7 : Fin (k0_t7_loop v1_1).trips, 256 ∣ (k0_mult31 v1_1 k0_t7).toNat) ∧
  (∀ k0_t7 : Fin (k0_t7_loop v1_1).trips, 256 ∣ (k0_mult32 v1_1 k0_t7).toNat)
def k0_chk2 (v1_1 : BitVec 32) : Prop :=
  k0_chk2_0 v1_1 ∧
  k0_chk2_1 v1_1
theorem k0_off4_inb : ∀ (v1_1 : BitVec 32) (k0_hw2 : k0_chk2 v1_1), ∀ (k0_h2 : k0_cond2 v1_1 = 1#1), ∀ a, (k0_off4 v1_1) a + S1.size a ≤ S13.size a := fun v1_1 k0_hw2 k0_h2 => k0_hw2.1.1 k0_h2
theorem k0_mult3_dvd : ∀ (v1_1 : BitVec 32) (k0_hw2 : k0_chk2 v1_1), ∀ (k0_h2 : k0_cond2 v1_1 = 1#1), 256 ∣ (k0_mult3 v1_1).toNat := fun v1_1 k0_hw2 k0_h2 => k0_hw2.1.2.1 k0_h2
theorem k0_mult4_dvd : ∀ (v1_1 : BitVec 32) (k0_hw2 : k0_chk2 v1_1), ∀ (k0_h2 : k0_cond2 v1_1 = 1#1), 256 ∣ (k0_mult4 v1_1).toNat := fun v1_1 k0_hw2 k0_h2 => k0_hw2.1.2.2.1 k0_h2
theorem k0_off10_inb : ∀ (v1_1 : BitVec 32) (k0_hw2 : k0_chk2 v1_1), ∀ (k0_h3 : k0_cond3 v1_1 = 1#1), ∀ a, (k0_off10 v1_1) a + S1.size a ≤ S13.size a := fun v1_1 k0_hw2 k0_h3 => k0_hw2.1.2.2.2.1 k0_h3
theorem k0_mult5_dvd : ∀ (v1_1 : BitVec 32) (k0_hw2 : k0_chk2 v1_1), ∀ (k0_h3 : k0_cond3 v1_1 = 1#1), 256 ∣ (k0_mult5 v1_1).toNat := fun v1_1 k0_hw2 k0_h3 => k0_hw2.1.2.2.2.2.1 k0_h3
theorem k0_mult6_dvd : ∀ (v1_1 : BitVec 32) (k0_hw2 : k0_chk2 v1_1), ∀ (k0_h3 : k0_cond3 v1_1 = 1#1), 256 ∣ (k0_mult6 v1_1).toNat := fun v1_1 k0_hw2 k0_h3 => k0_hw2.1.2.2.2.2.2.1 k0_h3
theorem k0_t2_ok : ∀ (v1_1 : BitVec 32) (k0_hw2 : k0_chk2 v1_1), (k0_t2_loop v1_1).OK := fun v1_1 k0_hw2 => k0_hw2.1.2.2.2.2.2.2.1
theorem k0_off16_inb : ∀ (v1_1 : BitVec 32) (k0_hw2 : k0_chk2 v1_1) (k0_t2 : Fin (k0_t2_loop v1_1).trips), ∀ a, (k0_off16 v1_1 k0_t2) a + S1.size a ≤ S13.size a := fun v1_1 k0_hw2 k0_t2 => k0_hw2.1.2.2.2.2.2.2.2.1 k0_t2
theorem k0_off37_inb : ∀ (v1_1 : BitVec 32) (k0_hw2 : k0_chk2 v1_1) (k0_t2 : Fin (k0_t2_loop v1_1).trips), ∀ (k0_h6 : k0_cond6 v1_1 k0_t2 = 1#1), ∀ a, (k0_off37 v1_1 k0_t2) a + S1.size a ≤ S13.size a := fun v1_1 k0_hw2 k0_t2 k0_h6 => k0_hw2.1.2.2.2.2.2.2.2.2.1 k0_t2 k0_h6
theorem k0_mult13_dvd : ∀ (v1_1 : BitVec 32) (k0_hw2 : k0_chk2 v1_1) (k0_t2 : Fin (k0_t2_loop v1_1).trips), ∀ (k0_h6 : k0_cond6 v1_1 k0_t2 = 1#1), 256 ∣ (k0_mult13 v1_1 k0_t2).toNat := fun v1_1 k0_hw2 k0_t2 k0_h6 => k0_hw2.1.2.2.2.2.2.2.2.2.2.1 k0_t2 k0_h6
theorem k0_mult14_dvd : ∀ (v1_1 : BitVec 32) (k0_hw2 : k0_chk2 v1_1) (k0_t2 : Fin (k0_t2_loop v1_1).trips), ∀ (k0_h6 : k0_cond6 v1_1 k0_t2 = 1#1), 256 ∣ (k0_mult14 v1_1 k0_t2).toNat := fun v1_1 k0_hw2 k0_t2 k0_h6 => k0_hw2.1.2.2.2.2.2.2.2.2.2.2.1 k0_t2 k0_h6
theorem k0_off38_inb : ∀ (v1_1 : BitVec 32) (k0_hw2 : k0_chk2 v1_1) (k0_t2 : Fin (k0_t2_loop v1_1).trips), ∀ (k0_h6 : k0_cond6 v1_1 k0_t2 = 1#1), ∀ a, (k0_off38 v1_1 k0_t2) a + S1.size a ≤ S3.size a := fun v1_1 k0_hw2 k0_t2 k0_h6 => k0_hw2.1.2.2.2.2.2.2.2.2.2.2.2.1 k0_t2 k0_h6
theorem k0_off39_inb : ∀ (v1_1 : BitVec 32) (k0_hw2 : k0_chk2 v1_1) (k0_t2 : Fin (k0_t2_loop v1_1).trips), ∀ (k0_h6 : k0_cond6 v1_1 k0_t2 = 1#1), ∀ a, (k0_off39 v1_1 k0_t2) a + S1x1x7168x256.size a ≤ S3x2x7168x256.size a := fun v1_1 k0_hw2 k0_t2 k0_h6 => k0_hw2.1.2.2.2.2.2.2.2.2.2.2.2.2.1 k0_t2 k0_h6
theorem k0_off39_wordsfp8e4m3 : ∀ (v1_1 : BitVec 32) (k0_hw2 : k0_chk2 v1_1) (k0_t2 : Fin (k0_t2_loop v1_1).trips), ∀ (k0_h6 : k0_cond6 v1_1 k0_t2 = 1#1), (Rect.unit (s := S3x2x7168x256) (k0_off39 v1_1 k0_t2) S1x1x7168x256.size (k0_off39_inb v1_1 k0_hw2 k0_t2 k0_h6)).WholeWords (EltTy.packing .fp8e4m3) := fun v1_1 k0_hw2 k0_t2 k0_h6 => k0_hw2.1.2.2.2.2.2.2.2.2.2.2.2.2.2.1 k0_t2 k0_h6 (k0_off39_inb v1_1 k0_hw2 k0_t2 k0_h6)
theorem k0_off41_inb : ∀ (v1_1 : BitVec 32) (k0_hw2 : k0_chk2 v1_1) (k0_t2 : Fin (k0_t2_loop v1_1).trips), ∀ (k0_h6 : k0_cond6 v1_1 k0_t2 = 1#1), ∀ a, (k0_off41 v1_1 k0_t2) a + S1.size a ≤ S3.size a := fun v1_1 k0_hw2 k0_t2 k0_h6 => k0_hw2.1.2.2.2.2.2.2.2.2.2.2.2.2.2.2.1 k0_t2 k0_h6
theorem k0_off42_inb : ∀ (v1_1 : BitVec 32) (k0_hw2 : k0_chk2 v1_1) (k0_t2 : Fin (k0_t2_loop v1_1).trips), ∀ (k0_h6 : k0_cond6 v1_1 k0_t2 = 1#1), ∀ a, (k0_off42 v1_1 k0_t2) a + S1x1x7168x256.size a ≤ S3x2x7168x256.size a := fun v1_1 k0_hw2 k0_t2 k0_h6 => k0_hw2.1.2.2.2.2.2.2.2.2.2.2.2.2.2.2.2.1 k0_t2 k0_h6
theorem k0_off42_wordsfp8e4m3 : ∀ (v1_1 : BitVec 32) (k0_hw2 : k0_chk2 v1_1) (k0_t2 : Fin (k0_t2_loop v1_1).trips), ∀ (k0_h6 : k0_cond6 v1_1 k0_t2 = 1#1), (Rect.unit (s := S3x2x7168x256) (k0_off42 v1_1 k0_t2) S1x1x7168x256.size (k0_off42_inb v1_1 k0_hw2 k0_t2 k0_h6)).WholeWords (EltTy.packing .fp8e4m3) := fun v1_1 k0_hw2 k0_t2 k0_h6 => k0_hw2.1.2.2.2.2.2.2.2.2.2.2.2.2.2.2.2.2.1 k0_t2 k0_h6 (k0_off42_inb v1_1 k0_hw2 k0_t2 k0_h6)
theorem k0_mult15_dvd : ∀ (v1_1 : BitVec 32) (k0_hw2 : k0_chk2 v1_1) (k0_t2 : Fin (k0_t2_loop v1_1).trips), 256 ∣ (k0_mult15 v1_1 k0_t2).toNat := fun v1_1 k0_hw2 k0_t2 => k0_hw2.1.2.2.2.2.2.2.2.2.2.2.2.2.2.2.2.2.2.1 k0_t2
theorem k0_mult16_dvd : ∀ (v1_1 : BitVec 32) (k0_hw2 : k0_chk2 v1_1) (k0_t2 : Fin (k0_t2_loop v1_1).trips), 256 ∣ (k0_mult16 v1_1 k0_t2).toNat := fun v1_1 k0_hw2 k0_t2 => k0_hw2.1.2.2.2.2.2.2.2.2.2.2.2.2.2.2.2.2.2.2.1 k0_t2
theorem k0_off43_inb : ∀ (v1_1 : BitVec 32) (k0_hw2 : k0_chk2 v1_1) (k0_t2 : Fin (k0_t2_loop v1_1).trips), ∀ a, (k0_off43 v1_1 k0_t2) a + S1.size a ≤ S3.size a := fun v1_1 k0_hw2 k0_t2 => k0_hw2.1.2.2.2.2.2.2.2.2.2.2.2.2.2.2.2.2.2.2.2.1 k0_t2
theorem k0_off44_inb : ∀ (v1_1 : BitVec 32) (k0_hw2 : k0_chk2 v1_1) (k0_t2 : Fin (k0_t2_loop v1_1).trips), ∀ a, (k0_off44 v1_1 k0_t2) a + S1x1x7168x256.size a ≤ S3x2x7168x256.size a := fun v1_1 k0_hw2 k0_t2 => k0_hw2.1.2.2.2.2.2.2.2.2.2.2.2.2.2.2.2.2.2.2.2.2.1 k0_t2
theorem k0_off44_wordsfp8e4m3 : ∀ (v1_1 : BitVec 32) (k0_hw2 : k0_chk2 v1_1) (k0_t2 : Fin (k0_t2_loop v1_1).trips), (Rect.unit (s := S3x2x7168x256) (k0_off44 v1_1 k0_t2) S1x1x7168x256.size (k0_off44_inb v1_1 k0_hw2 k0_t2)).WholeWords (EltTy.packing .fp8e4m3) := fun v1_1 k0_hw2 k0_t2 => k0_hw2.1.2.2.2.2.2.2.2.2.2.2.2.2.2.2.2.2.2.2.2.2.2.1 k0_t2 (k0_off44_inb v1_1 k0_hw2 k0_t2)
theorem k0_off46_inb : ∀ (v1_1 : BitVec 32) (k0_hw2 : k0_chk2 v1_1) (k0_t2 : Fin (k0_t2_loop v1_1).trips), ∀ a, (k0_off46 v1_1 k0_t2) a + S1x1x7168x256.size a ≤ S3x2x7168x256.size a := fun v1_1 k0_hw2 k0_t2 => k0_hw2.1.2.2.2.2.2.2.2.2.2.2.2.2.2.2.2.2.2.2.2.2.2.2.1 k0_t2
theorem k0_off46_wordsfp8e4m3 : ∀ (v1_1 : BitVec 32) (k0_hw2 : k0_chk2 v1_1) (k0_t2 : Fin (k0_t2_loop v1_1).trips), (Rect.unit (s := S3x2x7168x256) (k0_off46 v1_1 k0_t2) S1x1x7168x256.size (k0_off46_inb v1_1 k0_hw2 k0_t2)).WholeWords (EltTy.packing .fp8e4m3) := fun v1_1 k0_hw2 k0_t2 => k0_hw2.1.2.2.2.2.2.2.2.2.2.2.2.2.2.2.2.2.2.2.2.2.2.2.2.1 k0_t2 (k0_off46_inb v1_1 k0_hw2 k0_t2)
theorem k0_mult17_dvd : ∀ (v1_1 : BitVec 32) (k0_hw2 : k0_chk2 v1_1) (k0_t2 : Fin (k0_t2_loop v1_1).trips), 256 ∣ (k0_mult17 v1_1 k0_t2).toNat := fun v1_1 k0_hw2 k0_t2 => k0_hw2.1.2.2.2.2.2.2.2.2.2.2.2.2.2.2.2.2.2.2.2.2.2.2.2.2.1 k0_t2
theorem k0_mult18_dvd : ∀ (v1_1 : BitVec 32) (k0_hw2 : k0_chk2 v1_1) (k0_t2 : Fin (k0_t2_loop v1_1).trips), 256 ∣ (k0_mult18 v1_1 k0_t2).toNat := fun v1_1 k0_hw2 k0_t2 => k0_hw2.1.2.2.2.2.2.2.2.2.2.2.2.2.2.2.2.2.2.2.2.2.2.2.2.2.2.1 k0_t2
theorem k0_t7_ok : ∀ (v1_1 : BitVec 32) (k0_hw2 : k0_chk2 v1_1), (k0_t7_loop v1_1).OK := fun v1_1 k0_hw2 => k0_hw2.1.2.2.2.2.2.2.2.2.2.2.2.2.2.2.2.2.2.2.2.2.2.2.2.2.2.2.1
theorem k0_off59_inb : ∀ (v1_1 : BitVec 32) (k0_hw2 : k0_chk2 v1_1) (k0_t7 : Fin (k0_t7_loop v1_1).trips), ∀ a, (k0_off59 v1_1 k0_t7) a + S1.size a ≤ S13.size a := fun v1_1 k0_hw2 k0_t7 => k0_hw2.1.2.2.2.2.2.2.2.2.2.2.2.2.2.2.2.2.2.2.2.2.2.2.2.2.2.2.2.1 k0_t7
theorem k0_off80_inb : ∀ (v1_1 : BitVec 32) (k0_hw2 : k0_chk2 v1_1) (k0_t7 : Fin (k0_t7_loop v1_1).trips), ∀ (k0_h9 : k0_cond9 v1_1 k0_t7 = 1#1), ∀ a, (k0_off80 v1_1 k0_t7) a + S1.size a ≤ S13.size a := fun v1_1 k0_hw2 k0_t7 k0_h9 => k0_hw2.1.2.2.2.2.2.2.2.2.2.2.2.2.2.2.2.2.2.2.2.2.2.2.2.2.2.2.2.2.1 k0_t7 k0_h9
theorem k0_mult27_dvd : ∀ (v1_1 : BitVec 32) (k0_hw2 : k0_chk2 v1_1) (k0_t7 : Fin (k0_t7_loop v1_1).trips), ∀ (k0_h9 : k0_cond9 v1_1 k0_t7 = 1#1), 256 ∣ (k0_mult27 v1_1 k0_t7).toNat := fun v1_1 k0_hw2 k0_t7 k0_h9 => k0_hw2.1.2.2.2.2.2.2.2.2.2.2.2.2.2.2.2.2.2.2.2.2.2.2.2.2.2.2.2.2.2.1 k0_t7 k0_h9
theorem k0_mult28_dvd : ∀ (v1_1 : BitVec 32) (k0_hw2 : k0_chk2 v1_1) (k0_t7 : Fin (k0_t7_loop v1_1).trips), ∀ (k0_h9 : k0_cond9 v1_1 k0_t7 = 1#1), 256 ∣ (k0_mult28 v1_1 k0_t7).toNat := fun v1_1 k0_hw2 k0_t7 k0_h9 => k0_hw2.1.2.2.2.2.2.2.2.2.2.2.2.2.2.2.2.2.2.2.2.2.2.2.2.2.2.2.2.2.2.2.1 k0_t7 k0_h9
theorem k0_off81_inb : ∀ (v1_1 : BitVec 32) (k0_hw2 : k0_chk2 v1_1) (k0_t7 : Fin (k0_t7_loop v1_1).trips), ∀ (k0_h9 : k0_cond9 v1_1 k0_t7 = 1#1), ∀ a, (k0_off81 v1_1 k0_t7) a + S1.size a ≤ S3.size a := fun v1_1 k0_hw2 k0_t7 k0_h9 => k0_hw2.1.2.2.2.2.2.2.2.2.2.2.2.2.2.2.2.2.2.2.2.2.2.2.2.2.2.2.2.2.2.2.2 k0_t7 k0_h9
theorem k0_off82_inb : ∀ (v1_1 : BitVec 32) (k0_hw2 : k0_chk2 v1_1) (k0_t7 : Fin (k0_t7_loop v1_1).trips), ∀ (k0_h9 : k0_cond9 v1_1 k0_t7 = 1#1), ∀ a, (k0_off82 v1_1 k0_t7) a + S1x1x7168x256.size a ≤ S3x2x7168x256.size a := fun v1_1 k0_hw2 k0_t7 k0_h9 => k0_hw2.2.1 k0_t7 k0_h9
theorem k0_off82_wordsfp8e4m3 : ∀ (v1_1 : BitVec 32) (k0_hw2 : k0_chk2 v1_1) (k0_t7 : Fin (k0_t7_loop v1_1).trips), ∀ (k0_h9 : k0_cond9 v1_1 k0_t7 = 1#1), (Rect.unit (s := S3x2x7168x256) (k0_off82 v1_1 k0_t7) S1x1x7168x256.size (k0_off82_inb v1_1 k0_hw2 k0_t7 k0_h9)).WholeWords (EltTy.packing .fp8e4m3) := fun v1_1 k0_hw2 k0_t7 k0_h9 => k0_hw2.2.2.1 k0_t7 k0_h9 (k0_off82_inb v1_1 k0_hw2 k0_t7 k0_h9)
theorem k0_off84_inb : ∀ (v1_1 : BitVec 32) (k0_hw2 : k0_chk2 v1_1) (k0_t7 : Fin (k0_t7_loop v1_1).trips), ∀ (k0_h9 : k0_cond9 v1_1 k0_t7 = 1#1), ∀ a, (k0_off84 v1_1 k0_t7) a + S1.size a ≤ S3.size a := fun v1_1 k0_hw2 k0_t7 k0_h9 => k0_hw2.2.2.2.1 k0_t7 k0_h9
theorem k0_off85_inb : ∀ (v1_1 : BitVec 32) (k0_hw2 : k0_chk2 v1_1) (k0_t7 : Fin (k0_t7_loop v1_1).trips), ∀ (k0_h9 : k0_cond9 v1_1 k0_t7 = 1#1), ∀ a, (k0_off85 v1_1 k0_t7) a + S1x1x7168x256.size a ≤ S3x2x7168x256.size a := fun v1_1 k0_hw2 k0_t7 k0_h9 => k0_hw2.2.2.2.2.1 k0_t7 k0_h9
theorem k0_off85_wordsfp8e4m3 : ∀ (v1_1 : BitVec 32) (k0_hw2 : k0_chk2 v1_1) (k0_t7 : Fin (k0_t7_loop v1_1).trips), ∀ (k0_h9 : k0_cond9 v1_1 k0_t7 = 1#1), (Rect.unit (s := S3x2x7168x256) (k0_off85 v1_1 k0_t7) S1x1x7168x256.size (k0_off85_inb v1_1 k0_hw2 k0_t7 k0_h9)).WholeWords (EltTy.packing .fp8e4m3) := fun v1_1 k0_hw2 k0_t7 k0_h9 => k0_hw2.2.2.2.2.2.1 k0_t7 k0_h9 (k0_off85_inb v1_1 k0_hw2 k0_t7 k0_h9)
theorem k0_mult29_dvd : ∀ (v1_1 : BitVec 32) (k0_hw2 : k0_chk2 v1_1) (k0_t7 : Fin (k0_t7_loop v1_1).trips), 256 ∣ (k0_mult29 v1_1 k0_t7).toNat := fun v1_1 k0_hw2 k0_t7 => k0_hw2.2.2.2.2.2.2.1 k0_t7
theorem k0_mult30_dvd : ∀ (v1_1 : BitVec 32) (k0_hw2 : k0_chk2 v1_1) (k0_t7 : Fin (k0_t7_loop v1_1).trips), 256 ∣ (k0_mult30 v1_1 k0_t7).toNat := fun v1_1 k0_hw2 k0_t7 => k0_hw2.2.2.2.2.2.2.2.1 k0_t7
theorem k0_off86_inb : ∀ (v1_1 : BitVec 32) (k0_hw2 : k0_chk2 v1_1) (k0_t7 : Fin (k0_t7_loop v1_1).trips), ∀ a, (k0_off86 v1_1 k0_t7) a + S1.size a ≤ S3.size a := fun v1_1 k0_hw2 k0_t7 => k0_hw2.2.2.2.2.2.2.2.2.1 k0_t7
theorem k0_off87_inb : ∀ (v1_1 : BitVec 32) (k0_hw2 : k0_chk2 v1_1) (k0_t7 : Fin (k0_t7_loop v1_1).trips), ∀ a, (k0_off87 v1_1 k0_t7) a + S1x1x7168x256.size a ≤ S3x2x7168x256.size a := fun v1_1 k0_hw2 k0_t7 => k0_hw2.2.2.2.2.2.2.2.2.2.1 k0_t7
theorem k0_off87_wordsfp8e4m3 : ∀ (v1_1 : BitVec 32) (k0_hw2 : k0_chk2 v1_1) (k0_t7 : Fin (k0_t7_loop v1_1).trips), (Rect.unit (s := S3x2x7168x256) (k0_off87 v1_1 k0_t7) S1x1x7168x256.size (k0_off87_inb v1_1 k0_hw2 k0_t7)).WholeWords (EltTy.packing .fp8e4m3) := fun v1_1 k0_hw2 k0_t7 => k0_hw2.2.2.2.2.2.2.2.2.2.2.1 k0_t7 (k0_off87_inb v1_1 k0_hw2 k0_t7)
theorem k0_off89_inb : ∀ (v1_1 : BitVec 32) (k0_hw2 : k0_chk2 v1_1) (k0_t7 : Fin (k0_t7_loop v1_1).trips), ∀ a, (k0_off89 v1_1 k0_t7) a + S1x1x7168x256.size a ≤ S3x2x7168x256.size a := fun v1_1 k0_hw2 k0_t7 => k0_hw2.2.2.2.2.2.2.2.2.2.2.2.1 k0_t7
theorem k0_off89_wordsfp8e4m3 : ∀ (v1_1 : BitVec 32) (k0_hw2 : k0_chk2 v1_1) (k0_t7 : Fin (k0_t7_loop v1_1).trips), (Rect.unit (s := S3x2x7168x256) (k0_off89 v1_1 k0_t7) S1x1x7168x256.size (k0_off89_inb v1_1 k0_hw2 k0_t7)).WholeWords (EltTy.packing .fp8e4m3) := fun v1_1 k0_hw2 k0_t7 => k0_hw2.2.2.2.2.2.2.2.2.2.2.2.2.1 k0_t7 (k0_off89_inb v1_1 k0_hw2 k0_t7)
theorem k0_mult31_dvd : ∀ (v1_1 : BitVec 32) (k0_hw2 : k0_chk2 v1_1) (k0_t7 : Fin (k0_t7_loop v1_1).trips), 256 ∣ (k0_mult31 v1_1 k0_t7).toNat := fun v1_1 k0_hw2 k0_t7 => k0_hw2.2.2.2.2.2.2.2.2.2.2.2.2.2.1 k0_t7
theorem k0_mult32_dvd : ∀ (v1_1 : BitVec 32) (k0_hw2 : k0_chk2 v1_1) (k0_t7 : Fin (k0_t7_loop v1_1).trips), 256 ∣ (k0_mult32 v1_1 k0_t7).toNat := fun v1_1 k0_hw2 k0_t7 => k0_hw2.2.2.2.2.2.2.2.2.2.2.2.2.2.2 k0_t7

def k0_off91 (v1_1 : BitVec 32) (k0_t7 : Fin (k0_t7_loop v1_1).trips) (v49 : BitVec 32) : Fin 2 → Nat :=
  let v103 : Index := Scalar.indexCast v49
  let c2048_i32_62 : BitVec 32 := 2048#32
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32_61 : BitVec 32 := 256#32
  let v96 : BitVec 32 := Scalar.muli v46 c256_i32_61
  let v97 : BitVec 32 := v96
  let v101 : BitVec 32 := Scalar.addi c2048_i32_62 v97
  let v102 : BitVec 32 := v101
  let v104 : Index := Scalar.indexCast v102
  ![v103.toNat, v104.toNat]

def k0_chk8 (v1_1 : BitVec 32) (k0_t7 : Fin (k0_t7_loop v1_1).trips) (v49 : BitVec 32) : Prop :=
  (∀ a, (k0_off60 v49) a + S1.size a ≤ S14.size a) ∧
  (∀ a, (k0_off61 v49) a + S1.size a ≤ S14.size a) ∧
  (∀ (r : Fin 2), ∀ a, (k0_off88 v1_1 k0_t7 v49 (BitVec.ofNat 32 (2048 * r.val))) a + S1x7168x256.size a ≤ S13x7168x4096.size a) ∧
  (∀ (r : Fin 2), ∀ (hinb : ∀ a, (k0_off88 v1_1 k0_t7 v49 (BitVec.ofNat 32 (2048 * r.val))) a + S1x7168x256.size a ≤ S13x7168x4096.size a), (Rect.unit (s := S13x7168x4096) (k0_off88 v1_1 k0_t7 v49 (BitVec.ofNat 32 (2048 * r.val))) S1x7168x256.size hinb).WholeWords (EltTy.packing .fp8e4m3)) ∧
  (∀ a, (k0_off90 v1_1 k0_t7 v49) a + S1x256.size a ≤ S13x4096.size a) ∧
  (∀ a, (k0_off91 v1_1 k0_t7 v49) a + S1x256.size a ≤ S13x4096.size a)
theorem k0_off60_inb : ∀ (v1_1 : BitVec 32) (k0_t7 : Fin (k0_t7_loop v1_1).trips) (v49 : BitVec 32) (k0_hw8 : k0_chk8 v1_1 k0_t7 v49), ∀ a, (k0_off60 v49) a + S1.size a ≤ S14.size a := fun v1_1 k0_t7 v49 k0_hw8 => k0_hw8.1
theorem k0_off61_inb : ∀ (v1_1 : BitVec 32) (k0_t7 : Fin (k0_t7_loop v1_1).trips) (v49 : BitVec 32) (k0_hw8 : k0_chk8 v1_1 k0_t7 v49), ∀ a, (k0_off61 v49) a + S1.size a ≤ S14.size a := fun v1_1 k0_t7 v49 k0_hw8 => k0_hw8.2.1
theorem k0_off88_inb : ∀ (v1_1 : BitVec 32) (k0_t7 : Fin (k0_t7_loop v1_1).trips) (v49 : BitVec 32) (k0_hw8 : k0_chk8 v1_1 k0_t7 v49), ∀ (r : Fin 2), ∀ a, (k0_off88 v1_1 k0_t7 v49 (BitVec.ofNat 32 (2048 * r.val))) a + S1x7168x256.size a ≤ S13x7168x4096.size a := fun v1_1 k0_t7 v49 k0_hw8 r => k0_hw8.2.2.1 r
theorem k0_off88_wordsfp8e4m3 : ∀ (v1_1 : BitVec 32) (k0_t7 : Fin (k0_t7_loop v1_1).trips) (v49 : BitVec 32) (k0_hw8 : k0_chk8 v1_1 k0_t7 v49), ∀ (r : Fin 2), (Rect.unit (s := S13x7168x4096) (k0_off88 v1_1 k0_t7 v49 (BitVec.ofNat 32 (2048 * r.val))) S1x7168x256.size (k0_off88_inb v1_1 k0_t7 v49 k0_hw8 r)).WholeWords (EltTy.packing .fp8e4m3) := fun v1_1 k0_t7 v49 k0_hw8 r => k0_hw8.2.2.2.1 r (k0_off88_inb v1_1 k0_t7 v49 k0_hw8 r)
theorem k0_off90_inb : ∀ (v1_1 : BitVec 32) (k0_t7 : Fin (k0_t7_loop v1_1).trips) (v49 : BitVec 32) (k0_hw8 : k0_chk8 v1_1 k0_t7 v49), ∀ a, (k0_off90 v1_1 k0_t7 v49) a + S1x256.size a ≤ S13x4096.size a := fun v1_1 k0_t7 v49 k0_hw8 => k0_hw8.2.2.2.2.1
theorem k0_off91_inb : ∀ (v1_1 : BitVec 32) (k0_t7 : Fin (k0_t7_loop v1_1).trips) (v49 : BitVec 32) (k0_hw8 : k0_chk8 v1_1 k0_t7 v49), ∀ a, (k0_off91 v1_1 k0_t7 v49) a + S1x256.size a ≤ S13x4096.size a := fun v1_1 k0_t7 v49 k0_hw8 => k0_hw8.2.2.2.2.2

@[reducible] def k0_t10_loop (v52 : BitVec 32) (v55 : BitVec 32) : Scf.Loop 32 :=
  let c0_i32_63 : BitVec 32 := 0#32
  let c32_i32 : BitVec 32 := 32#32
  let v90 : BitVec 32 := Scalar.divsi v52 c32_i32
  let c32_i32_58 : BitVec 32 := 32#32
  let v91 : BitVec 32 := Scalar.muli v90 c32_i32_58
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_66 : BitVec 32 := 1#32
  ⟨c0_i32_63, v110, c1_i32_66⟩
def k0_mult33 (v52 : BitVec 32) (v55 : BitVec 32) (k0_t10 : Fin (k0_t10_loop v52 v55).trips) : BitVec 32 :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t10
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  v116
def k0_off92 (v52 : BitVec 32) (v55 : BitVec 32) (k0_t10 : Fin (k0_t10_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t10
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v118 : Index := Scalar.indexCast v117
  let c0_70 : Index := 0#32
  ![v118.toNat, 0]
def k0_off93 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32 : BitVec 32 := 3#32
  let v50 : BitVec 32 := Scalar.remsi arg17 c3_i32
  let v120 : Index := Scalar.indexCast v50
  let c0_71 : Index := 0#32
  let c0_72 : Index := 0#32
  let c0_73 : Index := 0#32
  ![v120.toNat, 0, 0, 0]
def k0_off94 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32 : BitVec 32 := 3#32
  let v50 : BitVec 32 := Scalar.remsi arg17 c3_i32
  let v124 : Index := Scalar.indexCast v50
  let c1 : Index := 1#32
  let c0_75 : Index := 0#32
  let c0_76 : Index := 0#32
  ![v124.toNat, 1, 0, 0]
def k0_off95 (v52 : BitVec 32) (v55 : BitVec 32) (k0_t10 : Fin (k0_t10_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t10
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v128 : Index := Scalar.indexCast v117
  let c0_78 : Index := 0#32
  ![v128.toNat, 0]
def k0_off96 (v1_1 : BitVec 32) (k0_t7 : Fin (k0_t7_loop v1_1).trips) (v52 : BitVec 32) (v55 : BitVec 32) (k0_t10 : Fin (k0_t10_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let c1_i32_66 : BitVec 32 := 1#32
  let arg19 : BitVec 32 := Scf.iv c0_i32_63 c1_i32_66 k0_t10
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v148 : Index := Scalar.indexCast v117
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32_61 : BitVec 32 := 256#32
  let v96 : BitVec 32 := Scalar.muli v46 c256_i32_61
  let v97 : BitVec 32 := v96
  let v149 : Index := Scalar.indexCast v97
  ![v148.toNat, v149.toNat]
@[reducible] def k0_t11_loop (v52 : BitVec 32) (v55 : BitVec 32) : Scf.Loop 32 :=
  let c0_i32_63 : BitVec 32 := 0#32
  let c32_i32 : BitVec 32 := 32#32
  let v90 : BitVec 32 := Scalar.divsi v52 c32_i32
  let c32_i32_58 : BitVec 32 := 32#32
  let v91 : BitVec 32 := Scalar.muli v90 c32_i32_58
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let v107 : BitVec 32 := Scalar.addi c0_i32_63 v106
  let c1_i32_67 : BitVec 32 := 1#32
  ⟨v110, v107, c1_i32_67⟩
def k0_mult34 (v52 : BitVec 32) (v55 : BitVec 32) (k0_t11 : Fin (k0_t11_loop v52 v55).trips) : BitVec 32 :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t11
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  v116
def k0_off97 (v52 : BitVec 32) (v55 : BitVec 32) (k0_t11 : Fin (k0_t11_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t11
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v118 : Index := Scalar.indexCast v117
  let c0_70 : Index := 0#32
  ![v118.toNat, 0]
def k0_off98 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32 : BitVec 32 := 3#32
  let v50 : BitVec 32 := Scalar.remsi arg17 c3_i32
  let v120 : Index := Scalar.indexCast v50
  let c0_71 : Index := 0#32
  let c0_72 : Index := 0#32
  let c0_73 : Index := 0#32
  ![v120.toNat, 0, 0, 0]
def k0_off99 (v1_1 : BitVec 32) (k0_t7 : Fin (k0_t7_loop v1_1).trips) : Fin 4 → Nat :=
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let c3_i32 : BitVec 32 := 3#32
  let v50 : BitVec 32 := Scalar.remsi arg17 c3_i32
  let v124 : Index := Scalar.indexCast v50
  let c1 : Index := 1#32
  let c0_75 : Index := 0#32
  let c0_76 : Index := 0#32
  ![v124.toNat, 1, 0, 0]
def k0_off100 (v52 : BitVec 32) (v55 : BitVec 32) (k0_t11 : Fin (k0_t11_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t11
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v128 : Index := Scalar.indexCast v117
  let c0_78 : Index := 0#32
  ![v128.toNat, 0]
def k0_off101 (v1_1 : BitVec 32) (k0_t7 : Fin (k0_t7_loop v1_1).trips) (v52 : BitVec 32) (v55 : BitVec 32) (k0_t11 : Fin (k0_t11_loop v52 v55).trips) : Fin 2 → Nat :=
  let c32_i32 : BitVec 32 := 32#32
  let v90 : BitVec 32 := Scalar.divsi v52 c32_i32
  let c32_i32_58 : BitVec 32 := 32#32
  let v91 : BitVec 32 := Scalar.muli v90 c32_i32_58
  let c0_i32_63 : BitVec 32 := 0#32
  let v92 : BitVec 32 := Scalar.subi v55 v91
  let c128_i32 : BitVec 32 := 128#32
  let v93 : BitVec 32 := Scalar.addi v92 c128_i32
  let c1_i32_59 : BitVec 32 := 1#32
  let v94 : BitVec 32 := Scalar.subi v93 c1_i32_59
  let c128_i32_60 : BitVec 32 := 128#32
  let v95 : BitVec 32 := Scalar.divsi v94 c128_i32_60
  let v106 : BitVec 32 := Scalar.subi v95 c0_i32_63
  let c1_i32_65 : BitVec 32 := 1#32
  let v108 : BitVec 32 := Scalar.divsi v106 c1_i32_65
  let v109 : BitVec 32 := Scalar.muli v108 c1_i32_65
  let v110 : BitVec 32 := Scalar.addi c0_i32_63 v109
  let c1_i32_67 : BitVec 32 := 1#32
  let arg19 : BitVec 32 := Scf.iv v110 c1_i32_67 k0_t11
  let c128_i32_68 : BitVec 32 := 128#32
  let v114 : BitVec 32 := Scalar.muli arg19 c128_i32_68
  let v115 : BitVec 32 := Scalar.addi v91 v114
  let c2944_i32_69 : BitVec 32 := 2944#32
  let v116 : BitVec 32 := Scalar.minsi v115 c2944_i32_69
  let v117 : BitVec 32 := v116
  let v148 : Index := Scalar.indexCast v117
  let c0_i32_19 : BitVec 32 := 0#32
  let c8_i32 : BitVec 32 := 8#32
  let v3 : BitVec 32 := Scalar.muli v1_1 c8_i32
  let v26 : BitVec 32 := Scalar.subi v3 c0_i32_19
  let c1_i32_21 : BitVec 32 := 1#32
  let v28 : BitVec 32 := Scalar.divsi v26 c1_i32_21
  let v29 : BitVec 32 := Scalar.muli v28 c1_i32_21
  let v30 : BitVec 32 := Scalar.addi c0_i32_19 v29
  let c1_i32_23 : BitVec 32 := 1#32
  let arg17 : BitVec 32 := Scf.iv v30 c1_i32_23 k0_t7
  let v46 : BitVec 32 := Scalar.divsi arg17 v1_1
  let c256_i32_61 : BitVec 32 := 256#32
  let v96 : BitVec 32 := Scalar.muli v46 c256_i32_61
  let v97 : BitVec 32 := v96
  let v149 : Index := Scalar.indexCast v97
  ![v148.toNat, v149.toNat]

def k0_chk9_0 (v1_1 : BitVec 32) (k0_t7 : Fin (k0_t7_loop v1_1).trips) (arg18 : BitVec 32) (v52 : BitVec 32) (v55 : BitVec 32) : Prop :=
  ((k0_t8_loop arg18 v55).OK) ∧
  (∀ k0_t8 : Fin (k0_t8_loop arg18 v55).trips, 64 ∣ (k0_mult21 arg18 v55 k0_t8).toNat) ∧
  (∀ k0_t8 : Fin (k0_t8_loop arg18 v55).trips, ∀ a, (k0_off62 arg18 v55 k0_t8) a + S1.size a ≤ S2.size a) ∧
  (∀ k0_t8 : Fin (k0_t8_loop arg18 v55).trips, ∀ a, (k0_off63 arg18 v55 k0_t8) a + S1x64x7168.size a ≤ S2x64x7168.size a) ∧
  (∀ k0_t8 : Fin (k0_t8_loop arg18 v55).trips, ∀ a, (k0_off64 arg18 v55 k0_t8) a + S64x7168.size a ≤ S3072x7168.size a) ∧
  (∀ k0_t8 : Fin (k0_t8_loop arg18 v55).trips, ∀ (hinb : ∀ a, (k0_off64 arg18 v55 k0_t8) a + S64x7168.size a ≤ S3072x7168.size a), (Rect.unit (s := S3072x7168) (k0_off64 arg18 v55 k0_t8) S64x7168.size hinb).WholeWords (EltTy.packing .bf16)) ∧
  (∀ k0_t8 : Fin (k0_t8_loop arg18 v55).trips, ∀ (hinb : ∀ a, (k0_off63 arg18 v55 k0_t8) a + S1x64x7168.size a ≤ S2x64x7168.size a), (Rect.unit (s := S2x64x7168) (k0_off63 arg18 v55 k0_t8) S1x64x7168.size hinb).WholeWords (EltTy.packing .bf16)) ∧
  (∀ k0_t8 : Fin (k0_t8_loop arg18 v55).trips, ∀ a, (k0_off65 arg18 v55 k0_t8) a + S1x64x7168.size a ≤ S2x64x7168.size a) ∧
  (∀ k0_t8 : Fin (k0_t8_loop arg18 v55).trips, 64 ∣ (k0_mult22 arg18 v55 k0_t8).toNat) ∧
  (∀ k0_t8 : Fin (k0_t8_loop arg18 v55).trips, ∀ a, (k0_off66 arg18 v55 k0_t8) a + S64x128.size a ≤ S3072x128.size a) ∧
  (∀ k0_t8 : Fin (k0_t8_loop arg18 v55).trips, ∀ a, (k0_off67 arg18 v55 k0_t8) a + S64x7168.size a ≤ S3072x7168.size a) ∧
  (∀ k0_t8 : Fin (k0_t8_loop arg18 v55).trips, ∀ (hinb : ∀ a, (k0_off67 arg18 v55 k0_t8) a + S64x7168.size a ≤ S3072x7168.size a), (Rect.unit (s := S3072x7168) (k0_off67 arg18 v55 k0_t8) S64x7168.size hinb).PackedRows (EltTy.packing .fp8e4m3)) ∧
  (∀ k0_t8 : Fin (k0_t8_loop arg18 v55).trips, ∀ (k0_h7 : k0_cond7 arg18 v55 k0_t8 = 1#1), 64 ∣ (k0_mult23 arg18 v55 k0_t8).toNat) ∧
  (∀ k0_t8 : Fin (k0_t8_loop arg18 v55).trips, ∀ (k0_h7 : k0_cond7 arg18 v55 k0_t8 = 1#1), ∀ a, (k0_off68 arg18 v55 k0_t8) a + S1.size a ≤ S2.size a) ∧
  (∀ k0_t8 : Fin (k0_t8_loop arg18 v55).trips, ∀ (k0_h7 : k0_cond7 arg18 v55 k0_t8 = 1#1), ∀ a, (k0_off69 arg18 v55 k0_t8) a + S1x64x7168.size a ≤ S2x64x7168.size a) ∧
  (∀ k0_t8 : Fin (k0_t8_loop arg18 v55).trips, ∀ (k0_h7 : k0_cond7 arg18 v55 k0_t8 = 1#1), ∀ a, (k0_off70 arg18 v55 k0_t8) a + S64x7168.size a ≤ S3072x7168.size a) ∧
  (∀ k0_t8 : Fin (k0_t8_loop arg18 v55).trips, ∀ (k0_h7 : k0_cond7 arg18 v55 k0_t8 = 1#1), ∀ (hinb : ∀ a, (k0_off70 arg18 v55 k0_t8) a + S64x7168.size a ≤ S3072x7168.size a), (Rect.unit (s := S3072x7168) (k0_off70 arg18 v55 k0_t8) S64x7168.size hinb).WholeWords (EltTy.packing .bf16)) ∧
  (∀ k0_t8 : Fin (k0_t8_loop arg18 v55).trips, ∀ (k0_h7 : k0_cond7 arg18 v55 k0_t8 = 1#1), ∀ (hinb : ∀ a, (k0_off69 arg18 v55 k0_t8) a + S1x64x7168.size a ≤ S2x64x7168.size a), (Rect.unit (s := S2x64x7168) (k0_off69 arg18 v55 k0_t8) S1x64x7168.size hinb).WholeWords (EltTy.packing .bf16)) ∧
  ((k0_t9_loop arg18 v55).OK) ∧
  (∀ k0_t9 : Fin (k0_t9_loop arg18 v55).trips, 64 ∣ (k0_mult24 arg18 v55 k0_t9).toNat) ∧
  (∀ k0_t9 : Fin (k0_t9_loop arg18 v55).trips, ∀ a, (k0_off71 arg18 v55 k0_t9) a + S1.size a ≤ S2.size a) ∧
  (∀ k0_t9 : Fin (k0_t9_loop arg18 v55).trips, ∀ a, (k0_off72 arg18 v55 k0_t9) a + S1x64x7168.size a ≤ S2x64x7168.size a) ∧
  (∀ k0_t9 : Fin (k0_t9_loop arg18 v55).trips, ∀ a, (k0_off73 arg18 v55 k0_t9) a + S64x7168.size a ≤ S3072x7168.size a) ∧
  (∀ k0_t9 : Fin (k0_t9_loop arg18 v55).trips, ∀ (hinb : ∀ a, (k0_off73 arg18 v55 k0_t9) a + S64x7168.size a ≤ S3072x7168.size a), (Rect.unit (s := S3072x7168) (k0_off73 arg18 v55 k0_t9) S64x7168.size hinb).WholeWords (EltTy.packing .bf16)) ∧
  (∀ k0_t9 : Fin (k0_t9_loop arg18 v55).trips, ∀ (hinb : ∀ a, (k0_off72 arg18 v55 k0_t9) a + S1x64x7168.size a ≤ S2x64x7168.size a), (Rect.unit (s := S2x64x7168) (k0_off72 arg18 v55 k0_t9) S1x64x7168.size hinb).WholeWords (EltTy.packing .bf16)) ∧
  (∀ k0_t9 : Fin (k0_t9_loop arg18 v55).trips, ∀ a, (k0_off74 arg18 v55 k0_t9) a + S1x64x7168.size a ≤ S2x64x7168.size a) ∧
  (∀ k0_t9 : Fin (k0_t9_loop arg18 v55).trips, 64 ∣ (k0_mult25 arg18 v55 k0_t9).toNat) ∧
  (∀ k0_t9 : Fin (k0_t9_loop arg18 v55).trips, ∀ a, (k0_off75 arg18 v55 k0_t9) a + S64x128.size a ≤ S3072x128.size a) ∧
  (∀ k0_t9 : Fin (k0_t9_loop arg18 v55).trips, ∀ a, (k0_off76 arg18 v55 k0_t9) a + S64x7168.size a ≤ S3072x7168.size a) ∧
  (∀ k0_t9 : Fin (k0_t9_loop arg18 v55).trips, ∀ (hinb : ∀ a, (k0_off76 arg18 v55 k0_t9) a + S64x7168.size a ≤ S3072x7168.size a), (Rect.unit (s := S3072x7168) (k0_off76 arg18 v55 k0_t9) S64x7168.size hinb).PackedRows (EltTy.packing .fp8e4m3)) ∧
  (∀ k0_t9 : Fin (k0_t9_loop arg18 v55).trips, ∀ (k0_h8 : k0_cond8 arg18 v55 k0_t9 = 1#1), 64 ∣ (k0_mult26 arg18 v55 k0_t9).toNat) ∧
  (∀ k0_t9 : Fin (k0_t9_loop arg18 v55).trips, ∀ (k0_h8 : k0_cond8 arg18 v55 k0_t9 = 1#1), ∀ a, (k0_off77 arg18 v55 k0_t9) a + S1.size a ≤ S2.size a)
def k0_chk9_1 (v1_1 : BitVec 32) (k0_t7 : Fin (k0_t7_loop v1_1).trips) (arg18 : BitVec 32) (v52 : BitVec 32) (v55 : BitVec 32) : Prop :=
  (∀ k0_t9 : Fin (k0_t9_loop arg18 v55).trips, ∀ (k0_h8 : k0_cond8 arg18 v55 k0_t9 = 1#1), ∀ a, (k0_off78 arg18 v55 k0_t9) a + S1x64x7168.size a ≤ S2x64x7168.size a) ∧
  (∀ k0_t9 : Fin (k0_t9_loop arg18 v55).trips, ∀ (k0_h8 : k0_cond8 arg18 v55 k0_t9 = 1#1), ∀ a, (k0_off79 arg18 v55 k0_t9) a + S64x7168.size a ≤ S3072x7168.size a) ∧
  (∀ k0_t9 : Fin (k0_t9_loop arg18 v55).trips, ∀ (k0_h8 : k0_cond8 arg18 v55 k0_t9 = 1#1), ∀ (hinb : ∀ a, (k0_off79 arg18 v55 k0_t9) a + S64x7168.size a ≤ S3072x7168.size a), (Rect.unit (s := S3072x7168) (k0_off79 arg18 v55 k0_t9) S64x7168.size hinb).WholeWords (EltTy.packing .bf16)) ∧
  (∀ k0_t9 : Fin (k0_t9_loop arg18 v55).trips, ∀ (k0_h8 : k0_cond8 arg18 v55 k0_t9 = 1#1), ∀ (hinb : ∀ a, (k0_off78 arg18 v55 k0_t9) a + S1x64x7168.size a ≤ S2x64x7168.size a), (Rect.unit (s := S2x64x7168) (k0_off78 arg18 v55 k0_t9) S1x64x7168.size hinb).WholeWords (EltTy.packing .bf16)) ∧
  ((k0_t10_loop v52 v55).OK) ∧
  (∀ k0_t10 : Fin (k0_t10_loop v52 v55).trips, 32 ∣ (k0_mult33 v52 v55 k0_t10).toNat) ∧
  (∀ k0_t10 : Fin (k0_t10_loop v52 v55).trips, ∀ a, (k0_off92 v52 v55 k0_t10) a + S128x7168.size a ≤ S3072x7168.size a) ∧
  (∀ k0_t10 : Fin (k0_t10_loop v52 v55).trips, ∀ a, (k0_off93 v1_1 k0_t7) a + S1x1x7168x256.size a ≤ S3x2x7168x256.size a) ∧
  (∀ k0_t10 : Fin (k0_t10_loop v52 v55).trips, ∀ a, (k0_off94 v1_1 k0_t7) a + S1x1x7168x256.size a ≤ S3x2x7168x256.size a) ∧
  (∀ k0_t10 : Fin (k0_t10_loop v52 v55).trips, ∀ a, (k0_off95 v52 v55 k0_t10) a + S128x128.size a ≤ S3072x128.size a) ∧
  (∀ k0_t10 : Fin (k0_t10_loop v52 v55).trips, ∀ a, (k0_off96 v1_1 k0_t7 v52 v55 k0_t10) a + S128x256.size a ≤ S3072x2048.size a) ∧
  ((k0_t11_loop v52 v55).OK) ∧
  (∀ k0_t11 : Fin (k0_t11_loop v52 v55).trips, 32 ∣ (k0_mult34 v52 v55 k0_t11).toNat) ∧
  (∀ k0_t11 : Fin (k0_t11_loop v52 v55).trips, ∀ a, (k0_off97 v52 v55 k0_t11) a + S128x7168.size a ≤ S3072x7168.size a) ∧
  (∀ k0_t11 : Fin (k0_t11_loop v52 v55).trips, ∀ a, (k0_off98 v1_1 k0_t7) a + S1x1x7168x256.size a ≤ S3x2x7168x256.size a) ∧
  (∀ k0_t11 : Fin (k0_t11_loop v52 v55).trips, ∀ a, (k0_off99 v1_1 k0_t7) a + S1x1x7168x256.size a ≤ S3x2x7168x256.size a) ∧
  (∀ k0_t11 : Fin (k0_t11_loop v52 v55).trips, ∀ a, (k0_off100 v52 v55 k0_t11) a + S128x128.size a ≤ S3072x128.size a) ∧
  (∀ k0_t11 : Fin (k0_t11_loop v52 v55).trips, ∀ a, (k0_off101 v1_1 k0_t7 v52 v55 k0_t11) a + S128x256.size a ≤ S3072x2048.size a)
def k0_chk9 (v1_1 : BitVec 32) (k0_t7 : Fin (k0_t7_loop v1_1).trips) (arg18 : BitVec 32) (v52 : BitVec 32) (v55 : BitVec 32) : Prop :=
  k0_chk9_0 v1_1 k0_t7 arg18 v52 v55 ∧
  k0_chk9_1 v1_1 k0_t7 arg18 v52 v55
theorem k0_t8_ok : ∀ (v1_1 : BitVec 32) (k0_t7 : Fin (k0_t7_loop v1_1).trips) (arg18 : BitVec 32) (v52 : BitVec 32) (v55 : BitVec 32) (k0_hw9 : k0_chk9 v1_1 k0_t7 arg18 v52 v55), (k0_t8_loop arg18 v55).OK := fun v1_1 k0_t7 arg18 v52 v55 k0_hw9 => k0_hw9.1.1
theorem k0_mult21_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), 64 ∣ (k0_mult21 arg18 v55 k0_t8).toNat := fun v1_1 k0_t7 arg18 v52 v55 k0_hw9 k0_t8 => k0_hw9.1.2.1 k0_t8
theorem k0_off62_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ a, (k0_off62 arg18 v55 k0_t8) a + S1.size a ≤ S2.size a := fun v1_1 k0_t7 arg18 v52 v55 k0_hw9 k0_t8 => k0_hw9.1.2.2.1 k0_t8
theorem k0_off63_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ a, (k0_off63 arg18 v55 k0_t8) a + S1x64x7168.size a ≤ S2x64x7168.size a := fun v1_1 k0_t7 arg18 v52 v55 k0_hw9 k0_t8 => k0_hw9.1.2.2.2.1 k0_t8
theorem k0_off64_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ a, (k0_off64 arg18 v55 k0_t8) a + S64x7168.size a ≤ S3072x7168.size a := fun v1_1 k0_t7 arg18 v52 v55 k0_hw9 k0_t8 => k0_hw9.1.2.2.2.2.1 k0_t8
theorem k0_off64_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), (Rect.unit (s := S3072x7168) (k0_off64 arg18 v55 k0_t8) S64x7168.size (k0_off64_inb v1_1 k0_t7 arg18 v52 v55 k0_hw9 k0_t8)).WholeWords (EltTy.packing .bf16) := fun v1_1 k0_t7 arg18 v52 v55 k0_hw9 k0_t8 => k0_hw9.1.2.2.2.2.2.1 k0_t8 (k0_off64_inb v1_1 k0_t7 arg18 v52 v55 k0_hw9 k0_t8)
theorem k0_off63_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), (Rect.unit (s := S2x64x7168) (k0_off63 arg18 v55 k0_t8) S1x64x7168.size (k0_off63_inb v1_1 k0_t7 arg18 v52 v55 k0_hw9 k0_t8)).WholeWords (EltTy.packing .bf16) := fun v1_1 k0_t7 arg18 v52 v55 k0_hw9 k0_t8 => k0_hw9.1.2.2.2.2.2.2.1 k0_t8 (k0_off63_inb v1_1 k0_t7 arg18 v52 v55 k0_hw9 k0_t8)
theorem k0_off65_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ a, (k0_off65 arg18 v55 k0_t8) a + S1x64x7168.size a ≤ S2x64x7168.size a := fun v1_1 k0_t7 arg18 v52 v55 k0_hw9 k0_t8 => k0_hw9.1.2.2.2.2.2.2.2.1 k0_t8
theorem k0_mult22_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), 64 ∣ (k0_mult22 arg18 v55 k0_t8).toNat := fun v1_1 k0_t7 arg18 v52 v55 k0_hw9 k0_t8 => k0_hw9.1.2.2.2.2.2.2.2.2.1 k0_t8
theorem k0_off66_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ a, (k0_off66 arg18 v55 k0_t8) a + S64x128.size a ≤ S3072x128.size a := fun v1_1 k0_t7 arg18 v52 v55 k0_hw9 k0_t8 => k0_hw9.1.2.2.2.2.2.2.2.2.2.1 k0_t8
theorem k0_off67_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ a, (k0_off67 arg18 v55 k0_t8) a + S64x7168.size a ≤ S3072x7168.size a := fun v1_1 k0_t7 arg18 v52 v55 k0_hw9 k0_t8 => k0_hw9.1.2.2.2.2.2.2.2.2.2.2.1 k0_t8
theorem k0_off67_packedfp8e4m3 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), (Rect.unit (s := S3072x7168) (k0_off67 arg18 v55 k0_t8) S64x7168.size (k0_off67_inb v1_1 k0_t7 arg18 v52 v55 k0_hw9 k0_t8)).PackedRows (EltTy.packing .fp8e4m3) := fun v1_1 k0_t7 arg18 v52 v55 k0_hw9 k0_t8 => k0_hw9.1.2.2.2.2.2.2.2.2.2.2.2.1 k0_t8 (k0_off67_inb v1_1 k0_t7 arg18 v52 v55 k0_hw9 k0_t8)
theorem k0_mult23_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ (k0_h7 : k0_cond7 arg18 v55 k0_t8 = 1#1), 64 ∣ (k0_mult23 arg18 v55 k0_t8).toNat := fun v1_1 k0_t7 arg18 v52 v55 k0_hw9 k0_t8 k0_h7 => k0_hw9.1.2.2.2.2.2.2.2.2.2.2.2.2.1 k0_t8 k0_h7
theorem k0_off68_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ (k0_h7 : k0_cond7 arg18 v55 k0_t8 = 1#1), ∀ a, (k0_off68 arg18 v55 k0_t8) a + S1.size a ≤ S2.size a := fun v1_1 k0_t7 arg18 v52 v55 k0_hw9 k0_t8 k0_h7 => k0_hw9.1.2.2.2.2.2.2.2.2.2.2.2.2.2.1 k0_t8 k0_h7
theorem k0_off69_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ (k0_h7 : k0_cond7 arg18 v55 k0_t8 = 1#1), ∀ a, (k0_off69 arg18 v55 k0_t8) a + S1x64x7168.size a ≤ S2x64x7168.size a := fun v1_1 k0_t7 arg18 v52 v55 k0_hw9 k0_t8 k0_h7 => k0_hw9.1.2.2.2.2.2.2.2.2.2.2.2.2.2.2.1 k0_t8 k0_h7
theorem k0_off70_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ (k0_h7 : k0_cond7 arg18 v55 k0_t8 = 1#1), ∀ a, (k0_off70 arg18 v55 k0_t8) a + S64x7168.size a ≤ S3072x7168.size a := fun v1_1 k0_t7 arg18 v52 v55 k0_hw9 k0_t8 k0_h7 => k0_hw9.1.2.2.2.2.2.2.2.2.2.2.2.2.2.2.2.1 k0_t8 k0_h7
theorem k0_off70_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ (k0_h7 : k0_cond7 arg18 v55 k0_t8 = 1#1), (Rect.unit (s := S3072x7168) (k0_off70 arg18 v55 k0_t8) S64x7168.size (k0_off70_inb v1_1 k0_t7 arg18 v52 v55 k0_hw9 k0_t8 k0_h7)).WholeWords (EltTy.packing .bf16) := fun v1_1 k0_t7 arg18 v52 v55 k0_hw9 k0_t8 k0_h7 => k0_hw9.1.2.2.2.2.2.2.2.2.2.2.2.2.2.2.2.2.1 k0_t8 k0_h7 (k0_off70_inb v1_1 k0_t7 arg18 v52 v55 k0_hw9 k0_t8 k0_h7)
theorem k0_off69_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t8 : Fin (k0_t8_loop arg18 v55).trips), ∀ (k0_h7 : k0_cond7 arg18 v55 k0_t8 = 1#1), (Rect.unit (s := S2x64x7168) (k0_off69 arg18 v55 k0_t8) S1x64x7168.size (k0_off69_inb v1_1 k0_t7 arg18 v52 v55 k0_hw9 k0_t8 k0_h7)).WholeWords (EltTy.packing .bf16) := fun v1_1 k0_t7 arg18 v52 v55 k0_hw9 k0_t8 k0_h7 => k0_hw9.1.2.2.2.2.2.2.2.2.2.2.2.2.2.2.2.2.2.1 k0_t8 k0_h7 (k0_off69_inb v1_1 k0_t7 arg18 v52 v55 k0_hw9 k0_t8 k0_h7)
theorem k0_t9_ok : ∀ (v1_1 : BitVec 32) (k0_t7 : Fin (k0_t7_loop v1_1).trips) (arg18 : BitVec 32) (v52 : BitVec 32) (v55 : BitVec 32) (k0_hw9 : k0_chk9 v1_1 k0_t7 arg18 v52 v55), (k0_t9_loop arg18 v55).OK := fun v1_1 k0_t7 arg18 v52 v55 k0_hw9 => k0_hw9.1.2.2.2.2.2.2.2.2.2.2.2.2.2.2.2.2.2.2.1
theorem k0_mult24_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), 64 ∣ (k0_mult24 arg18 v55 k0_t9).toNat := fun v1_1 k0_t7 arg18 v52 v55 k0_hw9 k0_t9 => k0_hw9.1.2.2.2.2.2.2.2.2.2.2.2.2.2.2.2.2.2.2.2.1 k0_t9
theorem k0_off71_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ a, (k0_off71 arg18 v55 k0_t9) a + S1.size a ≤ S2.size a := fun v1_1 k0_t7 arg18 v52 v55 k0_hw9 k0_t9 => k0_hw9.1.2.2.2.2.2.2.2.2.2.2.2.2.2.2.2.2.2.2.2.2.1 k0_t9
theorem k0_off72_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ a, (k0_off72 arg18 v55 k0_t9) a + S1x64x7168.size a ≤ S2x64x7168.size a := fun v1_1 k0_t7 arg18 v52 v55 k0_hw9 k0_t9 => k0_hw9.1.2.2.2.2.2.2.2.2.2.2.2.2.2.2.2.2.2.2.2.2.2.1 k0_t9
theorem k0_off73_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ a, (k0_off73 arg18 v55 k0_t9) a + S64x7168.size a ≤ S3072x7168.size a := fun v1_1 k0_t7 arg18 v52 v55 k0_hw9 k0_t9 => k0_hw9.1.2.2.2.2.2.2.2.2.2.2.2.2.2.2.2.2.2.2.2.2.2.2.1 k0_t9
theorem k0_off73_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), (Rect.unit (s := S3072x7168) (k0_off73 arg18 v55 k0_t9) S64x7168.size (k0_off73_inb v1_1 k0_t7 arg18 v52 v55 k0_hw9 k0_t9)).WholeWords (EltTy.packing .bf16) := fun v1_1 k0_t7 arg18 v52 v55 k0_hw9 k0_t9 => k0_hw9.1.2.2.2.2.2.2.2.2.2.2.2.2.2.2.2.2.2.2.2.2.2.2.2.1 k0_t9 (k0_off73_inb v1_1 k0_t7 arg18 v52 v55 k0_hw9 k0_t9)
theorem k0_off72_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), (Rect.unit (s := S2x64x7168) (k0_off72 arg18 v55 k0_t9) S1x64x7168.size (k0_off72_inb v1_1 k0_t7 arg18 v52 v55 k0_hw9 k0_t9)).WholeWords (EltTy.packing .bf16) := fun v1_1 k0_t7 arg18 v52 v55 k0_hw9 k0_t9 => k0_hw9.1.2.2.2.2.2.2.2.2.2.2.2.2.2.2.2.2.2.2.2.2.2.2.2.2.1 k0_t9 (k0_off72_inb v1_1 k0_t7 arg18 v52 v55 k0_hw9 k0_t9)
theorem k0_off74_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ a, (k0_off74 arg18 v55 k0_t9) a + S1x64x7168.size a ≤ S2x64x7168.size a := fun v1_1 k0_t7 arg18 v52 v55 k0_hw9 k0_t9 => k0_hw9.1.2.2.2.2.2.2.2.2.2.2.2.2.2.2.2.2.2.2.2.2.2.2.2.2.2.1 k0_t9
theorem k0_mult25_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), 64 ∣ (k0_mult25 arg18 v55 k0_t9).toNat := fun v1_1 k0_t7 arg18 v52 v55 k0_hw9 k0_t9 => k0_hw9.1.2.2.2.2.2.2.2.2.2.2.2.2.2.2.2.2.2.2.2.2.2.2.2.2.2.2.1 k0_t9
theorem k0_off75_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ a, (k0_off75 arg18 v55 k0_t9) a + S64x128.size a ≤ S3072x128.size a := fun v1_1 k0_t7 arg18 v52 v55 k0_hw9 k0_t9 => k0_hw9.1.2.2.2.2.2.2.2.2.2.2.2.2.2.2.2.2.2.2.2.2.2.2.2.2.2.2.2.1 k0_t9
theorem k0_off76_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ a, (k0_off76 arg18 v55 k0_t9) a + S64x7168.size a ≤ S3072x7168.size a := fun v1_1 k0_t7 arg18 v52 v55 k0_hw9 k0_t9 => k0_hw9.1.2.2.2.2.2.2.2.2.2.2.2.2.2.2.2.2.2.2.2.2.2.2.2.2.2.2.2.2.1 k0_t9
theorem k0_off76_packedfp8e4m3 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), (Rect.unit (s := S3072x7168) (k0_off76 arg18 v55 k0_t9) S64x7168.size (k0_off76_inb v1_1 k0_t7 arg18 v52 v55 k0_hw9 k0_t9)).PackedRows (EltTy.packing .fp8e4m3) := fun v1_1 k0_t7 arg18 v52 v55 k0_hw9 k0_t9 => k0_hw9.1.2.2.2.2.2.2.2.2.2.2.2.2.2.2.2.2.2.2.2.2.2.2.2.2.2.2.2.2.2.1 k0_t9 (k0_off76_inb v1_1 k0_t7 arg18 v52 v55 k0_hw9 k0_t9)
theorem k0_mult26_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ (k0_h8 : k0_cond8 arg18 v55 k0_t9 = 1#1), 64 ∣ (k0_mult26 arg18 v55 k0_t9).toNat := fun v1_1 k0_t7 arg18 v52 v55 k0_hw9 k0_t9 k0_h8 => k0_hw9.1.2.2.2.2.2.2.2.2.2.2.2.2.2.2.2.2.2.2.2.2.2.2.2.2.2.2.2.2.2.2.1 k0_t9 k0_h8
theorem k0_off77_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ (k0_h8 : k0_cond8 arg18 v55 k0_t9 = 1#1), ∀ a, (k0_off77 arg18 v55 k0_t9) a + S1.size a ≤ S2.size a := fun v1_1 k0_t7 arg18 v52 v55 k0_hw9 k0_t9 k0_h8 => k0_hw9.1.2.2.2.2.2.2.2.2.2.2.2.2.2.2.2.2.2.2.2.2.2.2.2.2.2.2.2.2.2.2.2 k0_t9 k0_h8
theorem k0_off78_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ (k0_h8 : k0_cond8 arg18 v55 k0_t9 = 1#1), ∀ a, (k0_off78 arg18 v55 k0_t9) a + S1x64x7168.size a ≤ S2x64x7168.size a := fun v1_1 k0_t7 arg18 v52 v55 k0_hw9 k0_t9 k0_h8 => k0_hw9.2.1 k0_t9 k0_h8
theorem k0_off79_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ (k0_h8 : k0_cond8 arg18 v55 k0_t9 = 1#1), ∀ a, (k0_off79 arg18 v55 k0_t9) a + S64x7168.size a ≤ S3072x7168.size a := fun v1_1 k0_t7 arg18 v52 v55 k0_hw9 k0_t9 k0_h8 => k0_hw9.2.2.1 k0_t9 k0_h8
theorem k0_off79_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ (k0_h8 : k0_cond8 arg18 v55 k0_t9 = 1#1), (Rect.unit (s := S3072x7168) (k0_off79 arg18 v55 k0_t9) S64x7168.size (k0_off79_inb v1_1 k0_t7 arg18 v52 v55 k0_hw9 k0_t9 k0_h8)).WholeWords (EltTy.packing .bf16) := fun v1_1 k0_t7 arg18 v52 v55 k0_hw9 k0_t9 k0_h8 => k0_hw9.2.2.2.1 k0_t9 k0_h8 (k0_off79_inb v1_1 k0_t7 arg18 v52 v55 k0_hw9 k0_t9 k0_h8)
theorem k0_off78_wordsbf16 : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t9 : Fin (k0_t9_loop arg18 v55).trips), ∀ (k0_h8 : k0_cond8 arg18 v55 k0_t9 = 1#1), (Rect.unit (s := S2x64x7168) (k0_off78 arg18 v55 k0_t9) S1x64x7168.size (k0_off78_inb v1_1 k0_t7 arg18 v52 v55 k0_hw9 k0_t9 k0_h8)).WholeWords (EltTy.packing .bf16) := fun v1_1 k0_t7 arg18 v52 v55 k0_hw9 k0_t9 k0_h8 => k0_hw9.2.2.2.2.1 k0_t9 k0_h8 (k0_off78_inb v1_1 k0_t7 arg18 v52 v55 k0_hw9 k0_t9 k0_h8)
theorem k0_t10_ok : ∀ (v1_1 : BitVec 32) (k0_t7 : Fin (k0_t7_loop v1_1).trips) (arg18 : BitVec 32) (v52 : BitVec 32) (v55 : BitVec 32) (k0_hw9 : k0_chk9 v1_1 k0_t7 arg18 v52 v55), (k0_t10_loop v52 v55).OK := fun v1_1 k0_t7 arg18 v52 v55 k0_hw9 => k0_hw9.2.2.2.2.2.1
theorem k0_mult33_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t10 : Fin (k0_t10_loop v52 v55).trips), 32 ∣ (k0_mult33 v52 v55 k0_t10).toNat := fun v1_1 k0_t7 arg18 v52 v55 k0_hw9 k0_t10 => k0_hw9.2.2.2.2.2.2.1 k0_t10
theorem k0_off92_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t10 : Fin (k0_t10_loop v52 v55).trips), ∀ a, (k0_off92 v52 v55 k0_t10) a + S128x7168.size a ≤ S3072x7168.size a := fun v1_1 k0_t7 arg18 v52 v55 k0_hw9 k0_t10 => k0_hw9.2.2.2.2.2.2.2.1 k0_t10
theorem k0_off93_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t10 : Fin (k0_t10_loop v52 v55).trips), ∀ a, (k0_off93 v1_1 k0_t7) a + S1x1x7168x256.size a ≤ S3x2x7168x256.size a := fun v1_1 k0_t7 arg18 v52 v55 k0_hw9 k0_t10 => k0_hw9.2.2.2.2.2.2.2.2.1 k0_t10
theorem k0_off94_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t10 : Fin (k0_t10_loop v52 v55).trips), ∀ a, (k0_off94 v1_1 k0_t7) a + S1x1x7168x256.size a ≤ S3x2x7168x256.size a := fun v1_1 k0_t7 arg18 v52 v55 k0_hw9 k0_t10 => k0_hw9.2.2.2.2.2.2.2.2.2.1 k0_t10
theorem k0_off95_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t10 : Fin (k0_t10_loop v52 v55).trips), ∀ a, (k0_off95 v52 v55 k0_t10) a + S128x128.size a ≤ S3072x128.size a := fun v1_1 k0_t7 arg18 v52 v55 k0_hw9 k0_t10 => k0_hw9.2.2.2.2.2.2.2.2.2.2.1 k0_t10
theorem k0_off96_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t10 : Fin (k0_t10_loop v52 v55).trips), ∀ a, (k0_off96 v1_1 k0_t7 v52 v55 k0_t10) a + S128x256.size a ≤ S3072x2048.size a := fun v1_1 k0_t7 arg18 v52 v55 k0_hw9 k0_t10 => k0_hw9.2.2.2.2.2.2.2.2.2.2.2.1 k0_t10
theorem k0_t11_ok : ∀ (v1_1 : BitVec 32) (k0_t7 : Fin (k0_t7_loop v1_1).trips) (arg18 : BitVec 32) (v52 : BitVec 32) (v55 : BitVec 32) (k0_hw9 : k0_chk9 v1_1 k0_t7 arg18 v52 v55), (k0_t11_loop v52 v55).OK := fun v1_1 k0_t7 arg18 v52 v55 k0_hw9 => k0_hw9.2.2.2.2.2.2.2.2.2.2.2.2.1
theorem k0_mult34_dvd : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t11 : Fin (k0_t11_loop v52 v55).trips), 32 ∣ (k0_mult34 v52 v55 k0_t11).toNat := fun v1_1 k0_t7 arg18 v52 v55 k0_hw9 k0_t11 => k0_hw9.2.2.2.2.2.2.2.2.2.2.2.2.2.1 k0_t11
theorem k0_off97_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t11 : Fin (k0_t11_loop v52 v55).trips), ∀ a, (k0_off97 v52 v55 k0_t11) a + S128x7168.size a ≤ S3072x7168.size a := fun v1_1 k0_t7 arg18 v52 v55 k0_hw9 k0_t11 => k0_hw9.2.2.2.2.2.2.2.2.2.2.2.2.2.2.1 k0_t11
theorem k0_off98_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t11 : Fin (k0_t11_loop v52 v55).trips), ∀ a, (k0_off98 v1_1 k0_t7) a + S1x1x7168x256.size a ≤ S3x2x7168x256.size a := fun v1_1 k0_t7 arg18 v52 v55 k0_hw9 k0_t11 => k0_hw9.2.2.2.2.2.2.2.2.2.2.2.2.2.2.2.1 k0_t11
theorem k0_off99_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t11 : Fin (k0_t11_loop v52 v55).trips), ∀ a, (k0_off99 v1_1 k0_t7) a + S1x1x7168x256.size a ≤ S3x2x7168x256.size a := fun v1_1 k0_t7 arg18 v52 v55 k0_hw9 k0_t11 => k0_hw9.2.2.2.2.2.2.2.2.2.2.2.2.2.2.2.2.1 k0_t11
theorem k0_off100_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t11 : Fin (k0_t11_loop v52 v55).trips), ∀ a, (k0_off100 v52 v55 k0_t11) a + S128x128.size a ≤ S3072x128.size a := fun v1_1 k0_t7 arg18 v52 v55 k0_hw9 k0_t11 => k0_hw9.2.2.2.2.2.2.2.2.2.2.2.2.2.2.2.2.2.1 k0_t11
theorem k0_off101_inb : ∀ (v1_1 : BitVec 32) (k0_t7 : Fin (k0_t7_loop v1_1).trips) (arg18 : BitVec 32) (v52 : BitVec 32) (v55 : BitVec 32) (k0_hw9 : k0_chk9 v1_1 k0_t7 arg18 v52 v55) (k0_t11 : Fin (k0_t11_loop v52 v55).trips), ∀ a, (k0_off101 v1_1 k0_t7 v52 v55 k0_t11) a + S128x256.size a ≤ S3072x2048.size a := fun v1_1 k0_t7 arg18 v52 v55 k0_hw9 k0_t11 => k0_hw9.2.2.2.2.2.2.2.2.2.2.2.2.2.2.2.2.2.2 k0_t11

@[reducible] def k0_t12_loop : Scf.Loop 32 :=
  let c0_i32_24 : BitVec 32 := 0#32
  let c24_i32 : BitVec 32 := 24#32
  let v33 : BitVec 32 := Scalar.addi c0_i32_24 c24_i32
  let c1_i32_25 : BitVec 32 := 1#32
  ⟨c0_i32_24, v33, c1_i32_25⟩
def k0_cond10 (k0_t12 : Fin k0_t12_loop.trips) : BitVec 1 :=
  let c0_i32_24 : BitVec 32 := 0#32
  let c1_i32_25 : BitVec 32 := 1#32
  let arg17 : BitVec 32 := Scf.iv c0_i32_24 c1_i32_25 k0_t12
  let c2_i32_37 : BitVec 32 := 2#32
  let v47 : BitVec 1 := Scalar.cmpi .sge arg17 c2_i32_37
  let v48 : BitVec 32 := Scalar.extui v47
  let c0_i32_38 : BitVec 32 := 0#32
  let v49 : BitVec 1 := Scalar.cmpi .ne v48 c0_i32_38
  v49

def k0_mult35 (k0_t12 : Fin k0_t12_loop.trips) : BitVec 32 :=
  let c0_i32_24 : BitVec 32 := 0#32
  let c1_i32_25 : BitVec 32 := 1#32
  let arg17 : BitVec 32 := Scf.iv c0_i32_24 c1_i32_25 k0_t12
  let c2_i32_71 : BitVec 32 := 2#32
  let v163 : BitVec 32 := Scalar.subi arg17 c2_i32_71
  let c128_i32_72 : BitVec 32 := 128#32
  let v164 : BitVec 32 := Scalar.muli v163 c128_i32_72
  v164
def k0_off102 (k0_t12 : Fin k0_t12_loop.trips) : Fin 1 → Nat :=
  let c0_i32_24 : BitVec 32 := 0#32
  let c1_i32_25 : BitVec 32 := 1#32
  let arg17 : BitVec 32 := Scf.iv c0_i32_24 c1_i32_25 k0_t12
  let c2_i32 : BitVec 32 := 2#32
  let v46 : BitVec 32 := Scalar.remsi arg17 c2_i32
  ![v46.toNat]
def k0_off103 (k0_t12 : Fin k0_t12_loop.trips) : Fin 2 → Nat :=
  let c0_i32_24 : BitVec 32 := 0#32
  let c1_i32_25 : BitVec 32 := 1#32
  let arg17 : BitVec 32 := Scf.iv c0_i32_24 c1_i32_25 k0_t12
  let c2_i32_71 : BitVec 32 := 2#32
  let v163 : BitVec 32 := Scalar.subi arg17 c2_i32_71
  let c128_i32_72 : BitVec 32 := 128#32
  let v164 : BitVec 32 := Scalar.muli v163 c128_i32_72
  let v165 : BitVec 32 := v164
  let c0_i32_73 : BitVec 32 := 0#32
  ![v165.toNat, 0]
def k0_off104 (k0_t12 : Fin k0_t12_loop.trips) : Fin 3 → Nat :=
  let c0_i32_24 : BitVec 32 := 0#32
  let c1_i32_25 : BitVec 32 := 1#32
  let arg17 : BitVec 32 := Scf.iv c0_i32_24 c1_i32_25 k0_t12
  let c2_i32 : BitVec 32 := 2#32
  let v46 : BitVec 32 := Scalar.remsi arg17 c2_i32
  let c0_i32_74 : BitVec 32 := 0#32
  let c0_i32_75 : BitVec 32 := 0#32
  ![v46.toNat, 0, 0]
def k0_mult36 (k0_t12 : Fin k0_t12_loop.trips) : BitVec 32 :=
  let c0_i32_24 : BitVec 32 := 0#32
  let c1_i32_25 : BitVec 32 := 1#32
  let arg17 : BitVec 32 := Scf.iv c0_i32_24 c1_i32_25 k0_t12
  let c128_i32 : BitVec 32 := 128#32
  let v50 : BitVec 32 := Scalar.muli arg17 c128_i32
  v50
def k0_off105 (k0_t12 : Fin k0_t12_loop.trips) : Fin 2 → Nat :=
  let c0_i32_24 : BitVec 32 := 0#32
  let c1_i32_25 : BitVec 32 := 1#32
  let arg17 : BitVec 32 := Scf.iv c0_i32_24 c1_i32_25 k0_t12
  let c128_i32 : BitVec 32 := 128#32
  let v50 : BitVec 32 := Scalar.muli arg17 c128_i32
  let v51 : BitVec 32 := v50
  let v52 : Index := Scalar.indexCast v51
  let c0_39 : Index := 0#32
  ![v52.toNat, 0]
def k0_off106 (k0_t12 : Fin k0_t12_loop.trips) : Fin 2 → Nat :=
  let c0_62 : Index := 0#32
  let c0_i32_24 : BitVec 32 := 0#32
  let c1_i32_25 : BitVec 32 := 1#32
  let arg17 : BitVec 32 := Scf.iv c0_i32_24 c1_i32_25 k0_t12
  let c128_i32 : BitVec 32 := 128#32
  let v50 : BitVec 32 := Scalar.muli arg17 c128_i32
  let v51 : BitVec 32 := v50
  let v143 : Index := Scalar.indexCast v51
  ![0, v143.toNat]
def k0_off107 (k0_t12 : Fin k0_t12_loop.trips) : Fin 3 → Nat :=
  let c0_i32_24 : BitVec 32 := 0#32
  let c1_i32_25 : BitVec 32 := 1#32
  let arg17 : BitVec 32 := Scf.iv c0_i32_24 c1_i32_25 k0_t12
  let c2_i32 : BitVec 32 := 2#32
  let v46 : BitVec 32 := Scalar.remsi arg17 c2_i32
  let v152 : Index := Scalar.indexCast v46
  let c0_65 : Index := 0#32
  let c0_66 : Index := 0#32
  ![v152.toNat, 0, 0]
def k0_mult37 (k0_t12 : Fin k0_t12_loop.trips) : BitVec 32 :=
  let c0_i32_24 : BitVec 32 := 0#32
  let c1_i32_25 : BitVec 32 := 1#32
  let arg17 : BitVec 32 := Scf.iv c0_i32_24 c1_i32_25 k0_t12
  let c128_i32_67 : BitVec 32 := 128#32
  let v156 : BitVec 32 := Scalar.muli arg17 c128_i32_67
  v156
def k0_off108 (k0_t12 : Fin k0_t12_loop.trips) : Fin 1 → Nat :=
  let c0_i32_24 : BitVec 32 := 0#32
  let c1_i32_25 : BitVec 32 := 1#32
  let arg17 : BitVec 32 := Scf.iv c0_i32_24 c1_i32_25 k0_t12
  let c2_i32 : BitVec 32 := 2#32
  let v46 : BitVec 32 := Scalar.remsi arg17 c2_i32
  ![v46.toNat]
def k0_off109 (k0_t12 : Fin k0_t12_loop.trips) : Fin 2 → Nat :=
  let c0_i32_24 : BitVec 32 := 0#32
  let c1_i32_25 : BitVec 32 := 1#32
  let arg17 : BitVec 32 := Scf.iv c0_i32_24 c1_i32_25 k0_t12
  let c128_i32_67 : BitVec 32 := 128#32
  let v156 : BitVec 32 := Scalar.muli arg17 c128_i32_67
  let v157 : BitVec 32 := v156
  let c0_i32_68 : BitVec 32 := 0#32
  ![v157.toNat, 0]
def k0_off110 (k0_t12 : Fin k0_t12_loop.trips) : Fin 3 → Nat :=
  let c0_i32_24 : BitVec 32 := 0#32
  let c1_i32_25 : BitVec 32 := 1#32
  let arg17 : BitVec 32 := Scf.iv c0_i32_24 c1_i32_25 k0_t12
  let c2_i32 : BitVec 32 := 2#32
  let v46 : BitVec 32 := Scalar.remsi arg17 c2_i32
  let c0_i32_69 : BitVec 32 := 0#32
  let c0_i32_70 : BitVec 32 := 0#32
  ![v46.toNat, 0, 0]
def k0_mult38 : BitVec 32 :=
  let c2816_i32 : BitVec 32 := 2816#32
  c2816_i32
def k0_mult39 : BitVec 32 :=
  let c2944_i32 : BitVec 32 := 2944#32
  c2944_i32
abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S3072x7168 : Shape := ⟨2, ![3072, 7168]⟩
abbrev S13 : Shape := ⟨1, ![13]⟩
abbrev S13x7168x4096 : Shape := ⟨3, ![13, 7168, 4096]⟩
abbrev S13x4096 : Shape := ⟨2, ![13, 4096]⟩
abbrev S3072x2048 : Shape := ⟨2, ![3072, 2048]⟩
abbrev S3072x1 : Shape := ⟨2, ![3072, 1]⟩
abbrev S3072 : Shape := ⟨1, ![3072]⟩
abbrev S3072x256 : Shape := ⟨2, ![3072, 256]⟩
abbrev S3072x4096 : Shape := ⟨2, ![3072, 4096]⟩
abbrev S1 : Shape := ⟨1, ![1]⟩
abbrev S1x7168x4096 : Shape := ⟨3, ![1, 7168, 4096]⟩
abbrev S7168x4096 : Shape := ⟨2, ![7168, 4096]⟩
abbrev S1x4096 : Shape := ⟨2, ![1, 4096]⟩

abbrev nBuf : Space → Nat
  | .hbm => 6
  | .vmem => 5
  | .smem => 1
  | _ => 0

abbrev bufTy : (tb : Table) → Fin (tcTables nBuf tb) → BufTy
  | .hbm, ⟨0, _⟩ => ⟨S3072x7168, .bf16⟩
  | .hbm, ⟨1, _⟩ => ⟨S13, .i32⟩
  | .hbm, ⟨2, _⟩ => ⟨S13x7168x4096, .fp8e4m3⟩
  | .hbm, ⟨3, _⟩ => ⟨S13x4096, .f32⟩
  | .hbm, ⟨4, _⟩ => ⟨S3072x2048, .fp8e4m3⟩
  | .hbm, ⟨5, _⟩ => ⟨S3072x1, .f32⟩
  | .local _ .vmem, ⟨0, _⟩ => ⟨S3072x7168, .bf16⟩
  | .local _ .vmem, ⟨1, _⟩ => ⟨S13x7168x4096, .fp8e4m3⟩
  | .local _ .vmem, ⟨2, _⟩ => ⟨S13x4096, .f32⟩
  | .local _ .vmem, ⟨3, _⟩ => ⟨S3072x2048, .fp8e4m3⟩
  | .local _ .vmem, ⟨4, _⟩ => ⟨S3072x1, .f32⟩
  | .local _ .smem, ⟨0, _⟩ => ⟨S13, .i32⟩
  | _, _ => ⟨S3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13x7168x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
/-
  Arithmetic of 32-bit words written as `BitVec.ofNat 32 n` with `n < 2 ^ 31`: the scalar operations of the kernel act on the
  naturals as expected, and a counted loop with step one has as many trips as its bounds say.
-/
module

public import Idealize.ShloMosaic.Lib.WordCmp
public import Idealize.ShloMosaic.Lib.Routing.Words
public import Idealize.ShloMosaic.Lib.Scf

@[expose] public section

namespace Cert.Words

open Idealize.ShloMosaic Idealize.ShloMosaic.WordCmp

abbrev nw (n : ℕ) : BitVec 32 := BitVec.ofNat 32 n

theorem toInt_nw {n : ℕ} (h : n < 2 ^ 31) : (nw n).toInt = n := by
  exact toInt_ofNat_of_lt (w := 32) h

theorem toNat_nw {n : ℕ} (h : n < 2 ^ 31) : (BitVec.ofNat 32 n).toNat = n := by
  simp; omega

theorem add_nw (a b : ℕ) : Scalar.addi (BitVec.ofNat 32 a) (BitVec.ofNat 32 b) = BitVec.ofNat 32 (a + b) :=
  (BitVec.ofNat_add a b).symm

theorem mul_nw (a b : ℕ) : Scalar.muli (BitVec.ofNat 32 a) (BitVec.ofNat 32 b) = BitVec.ofNat 32 (a * b) :=
  (BitVec.ofNat_mul a b).symm

theorem sub_nw {a b : ℕ} (h : b ≤ a) : Scalar.subi (BitVec.ofNat 32 a) (BitVec.ofNat 32 b) = BitVec.ofNat 32 (a - b) := by
  show BitVec.ofNat 32 a - BitVec.ofNat 32 b = _
  have h2 : a = (a - b) + b := by omega
  conv_lhs => rw [h2, BitVec.ofNat_add, BitVec.add_sub_cancel]

theorem div_nw {a b : ℕ} (ha : a < 2 ^ 31) (h0 : 0 < b) (hb : b < 2 ^ 31) : Scalar.divsi (BitVec.ofNat 32 a) (BitVec.ofNat 32 b) = BitVec.ofNat 32 (a / b) :=
  Routing.divsi_word _ ha h0 hb

theorem rem_nw {a b : ℕ} (ha : a < 2 ^ 31) (h0 : 0 < b) (hb : b < 2 ^ 31) : Scalar.remsi (BitVec.ofNat 32 a) (BitVec.ofNat 32 b) = BitVec.ofNat 32 (a % b) :=
  Routing.remsi_word _ ha h0 hb

theorem min_nw {a b : ℕ} (ha : a < 2 ^ 31) (hb : b < 2 ^ 31) : Scalar.minsi (BitVec.ofNat 32 a) (BitVec.ofNat 32 b) = BitVec.ofNat 32 (min a b) := by
  show (if (BitVec.ofNat 32 a).slt (BitVec.ofNat 32 b) then _ else _) = _
  rw [BitVec.slt_eq_decide, toInt_nw ha, toInt_nw hb]
  by_cases h : a < b
  · simp [h, Nat.min_eq_left h.le]
  · simp [h, Nat.min_eq_right (not_lt.mp h)]

theorem max_nw {a b : ℕ} (ha : a < 2 ^ 31) (hb : b < 2 ^ 31) : Scalar.maxsi (BitVec.ofNat 32 a) (BitVec.ofNat 32 b) = BitVec.ofNat 32 (max a b) := by
  show (if (BitVec.ofNat 32 b).slt (BitVec.ofNat 32 a) then _ else _) = _
  rw [BitVec.slt_eq_decide, toInt_nw ha, toInt_nw hb]
  by_cases h : b < a
  · simp [h, Nat.max_eq_left h.le]
  · simp [h, Nat.max_eq_right (not_lt.mp h)]

theorem iv_nw (a k : ℕ) : Scf.iv (BitVec.ofNat 32 a) 1#32 k = BitVec.ofNat 32 (a + k) := by
  show BitVec.ofNat 32 a + BitVec.ofNat 32 k * 1#32 = _
  rw [BitVec.mul_one, BitVec.ofNat_add]

theorem trips_nw {a b : ℕ} (ha : a < 2 ^ 31) (hb : b < 2 ^ 31) : Scf.trips (BitVec.ofNat 32 a) (BitVec.ofNat 32 b) 1#32 = b - a := by
  unfold Scf.trips
  have h1 : (1#32 : BitVec 32).toInt = 1 := by decide
  rw [toInt_nw ha, toInt_nw hb, h1]; omega

theorem slt_nw {a b : ℕ} (ha : a < 2 ^ 31) (hb : b < 2 ^ 31) : (Scalar.cmpi .slt (BitVec.ofNat 32 a) (BitVec.ofNat 32 b) = 1#1) ↔ a < b := by
  show (IntOp.cmpi .slt (BitVec.ofNat 32 a) (BitVec.ofNat 32 b) = 1#1) ↔ _
  rw [cmpi_slt_ofNat ha hb]; exact ofBool_decide_eq_one_iff _

theorem sgt_nw {a b : ℕ} (ha : a < 2 ^ 31) (hb : b < 2 ^ 31) : (Scalar.cmpi .sgt (BitVec.ofNat 32 a) (BitVec.ofNat 32 b) = 1#1) ↔ b < a := by
  show (IntOp.cmpi .sgt (BitVec.ofNat 32 a) (BitVec.ofNat 32 b) = 1#1) ↔ _
  rw [cmpi_sgt_ofNat ha hb]; exact ofBool_decide_eq_one_iff _

theorem sge_nw {a b : ℕ} (ha : a < 2 ^ 31) (hb : b < 2 ^ 31) : (Scalar.cmpi .sge (BitVec.ofNat 32 a) (BitVec.ofNat 32 b) = 1#1) ↔ b ≤ a := by
  show (IntOp.cmpi .sge (BitVec.ofNat 32 a) (BitVec.ofNat 32 b) = 1#1) ↔ _
  rw [cmpi_sge_ofNat ha hb]; exact ofBool_decide_eq_one_iff _

theorem ext_ne {b : BitVec 1} : (Scalar.cmpi .ne (Scalar.extui b : BitVec 32) (0#32 : BitVec 32) = 1#1) ↔ b = 1#1 := by
  revert b; decide

end Cert.Words
-- ==== Proof.Pre.lean ====
/-
  What the precondition says: every group has at most 3072 rows and the thirteen groups fill the 3072 rows exactly.
-/
module

public import proofs.«01_k».proof.Pre_sizes_fill_rows
public import proofs.«01_k».proof.Proof.Words

@[expose] public section

namespace Cert.Pre_sizes_fill_rows

open Idealize.ShloMosaic

/-- The predicate's shape relations hold. -/
theorem facts_hold : Facts where
  slices_S13_S1_0 := by decide
  shapeCasts_S1_S_ := by decide
  slices_S13_S1_1 := by decide
  slices_S13_S1_2 := by decide
  slices_S13_S1_3 := by decide
  slices_S13_S1_4 := by decide
  slices_S13_S1_5 := by decide
  slices_S13_S1_6 := by decide
  slices_S13_S1_7 := by decide
  slices_S13_S1_8 := by decide
  slices_S13_S1_9 := by decide
  slices_S13_S1_10 := by decide
  slices_S13_S1_11 := by decide
  slices_S13_S1_12 := by decide
  bcast_S_S13 := by decide

/-- The `k`-th of the thirteen places. -/
def i13 (k : Fin 13) : S13.Idx := fun b => ⟨k.val, by rw [Subsingleton.elim b 0]; exact k.isLt⟩

/-- The `k`-th size as a word. -/
def at13 (a : S13.Idx → BitVec 32) (k : Fin 13) : BitVec 32 := a (i13 k)

/-- The `k`-th size as a number (zero past the last). -/
def size (a : S13.Idx → BitVec 32) (k : ℕ) : ℕ := if h : k < 13 then (at13 a ⟨k, h⟩).toNat else 0

theorem ofBool_one {b : Bool} (h : BitVec.ofBool b = 1#1) : b = true := by
  cases b
  · exact absurd h (by decide)
  · rfl

theorem and_one {x y : BitVec 1} (h : x &&& y = 1#1) : x = 1#1 ∧ y = 1#1 := by
  revert x y; decide

theorem le_of_words {x : BitVec 32} (h0 : BitVec.sle 0#32 x = true) (h1 : BitVec.sle x 3072#32 = true) : x.toNat ≤ 3072 := by
  rw [BitVec.sle_eq_decide, decide_eq_true_eq] at h0 h1
  rw [show (0#32 : BitVec 32).toInt = 0 from rfl] at h0
  rw [show (3072#32 : BitVec 32).toInt = 3072 from rfl] at h1
  rw [BitVec.toInt_eq_toNat_cond] at h0 h1
  have := x.isLt
  split at h0 <;> omega

variable {F : FTy → Type} [FloatOps F] [Facts]

theorem bits (x : FVec F S3072x7168 .bf16) (a : IVec S13 32) (w : FVec F S13x7168x4096 .fp8e4m3) (s : FVec F S13x4096 .f32) (i : S13.Idx)
    (h : fn (F := F) x a w s i = 1#1) :
    (BitVec.sle 0#32 (a i) = true ∧ BitVec.sle (a i) 3072#32 = true)
      ∧ at13 a 0 + at13 a 1 + at13 a 2 + at13 a 3 + at13 a 4 + at13 a 5 + at13 a 6 + at13 a 7 + at13 a 8
          + at13 a 9 + at13 a 10 + at13 a 11 + at13 a 12 = 3072#32 := by
  have e (k : Fin 13) (hs : S13.Slices ![k.val] S1) (j : S_.Idx) : shapeCast S_ (extractStridedSlice S1 ![k.val] a hs) Facts.shapeCasts_S1_S_ j = at13 a k := by
    show a _ = a _
    congr 1
    funext b
    have hb : b = 0 := Subsingleton.elim _ _
    subst hb
    apply Fin.ext
    show k.val + ((_ : Fin 1) : ℕ) = k.val
    omega
  have h2 := and_one (show (_ &&& _ : BitVec 1) = 1#1 from h)
  have h3 := and_one (show (_ &&& _ : BitVec 1) = 1#1 from h2.1)
  refine ⟨⟨ofBool_one h3.1, ofBool_one h3.2⟩, ?_⟩
  have h4 := ofBool_one h2.2
  have h5 := eq_of_beq h4
  have j : S_.Idx := fun b => b.elim0
  rw [← e 0 Facts.slices_S13_S1_0 j, ← e 1 Facts.slices_S13_S1_1 j, ← e 2 Facts.slices_S13_S1_2 j, ← e 3 Facts.slices_S13_S1_3 j, ← e 4 Facts.slices_S13_S1_4 j,
    ← e 5 Facts.slices_S13_S1_5 j, ← e 6 Facts.slices_S13_S1_6 j, ← e 7 Facts.slices_S13_S1_7 j, ← e 8 Facts.slices_S13_S1_8 j, ← e 9 Facts.slices_S13_S1_9 j,
    ← e 10 Facts.slices_S13_S1_10 j, ← e 11 Facts.slices_S13_S1_11 j, ← e 12 Facts.slices_S13_S1_12 j]
  exact h5

theorem size_lt (a : S13.Idx → BitVec 32) (k : Fin 13) : size a k.val = (at13 a k).toNat := dif_pos k.isLt

theorem add_le {x y : BitVec 32} {n k : ℕ} (hy : y.toNat ≤ 3072) (hx : x.toNat ≤ k * 3072 ∧ x.toNat = n) (hk : k < 100) :
    (x + y).toNat ≤ (k + 1) * 3072 ∧ (x + y).toNat = n + y.toNat := by
  rw [BitVec.toNat_add]
  omega

/-- THE PRECONDITION: no size is above 3072, and the sizes add up to 3072. -/
theorem sums (x : FVec F S3072x7168 .bf16) (a : IVec S13 32) (w : FVec F S13x7168x4096 .fp8e4m3) (s : FVec F S13x4096 .f32)
    (h : fn (F := F) x a w s = fun _ => 1#1) :
    size a 0 + size a 1 + size a 2 + size a 3 + size a 4 + size a 5 + size a 6 + size a 7 + size a 8 + size a 9 + size a 10 + size a 11 + size a 12 = 3072 := by
  have hl (k : Fin 13) : (at13 a k).toNat ≤ 3072 := by
    have := (bits x a w s (i13 k) (congrFun h _)).1
    exact le_of_words this.1 this.2
  have ht := (bits x a w s (i13 0) (congrFun h _)).2
  have s0 : (at13 a 0).toNat ≤ 1 * 3072 ∧ (at13 a 0).toNat = (at13 a 0).toNat := ⟨hl 0, rfl⟩
  have s1 := add_le (hl 1) s0 (by norm_num)
  have s2 := add_le (hl 2) s1 (by norm_num)
  have s3 := add_le (hl 3) s2 (by norm_num)
  have s4 := add_le (hl 4) s3 (by norm_num)
  have s5 := add_le (hl 5) s4 (by norm_num)
  have s6 := add_le (hl 6) s5 (by norm_num)
  have s7 := add_le (hl 7) s6 (by norm_num)
  have s8 := add_le (hl 8) s7 (by norm_num)
  have s9 := add_le (hl 9) s8 (by norm_num)
  have s10 := add_le (hl 10) s9 (by norm_num)
  have s11 := add_le (hl 11) s10 (by norm_num)
  have s12 := add_le (hl 12) s11 (by norm_num)
  rw [ht] at s12
  rw [show size a 0 = (at13 a 0).toNat from size_lt a 0, show size a 1 = (at13 a 1).toNat from size_lt a 1, show size a 2 = (at13 a 2).toNat from size_lt a 2, show size a 3 = (at13 a 3).toNat from size_lt a 3, show size a 4 = (at13 a 4).toNat from size_lt a 4, show size a 5 = (at13 a 5).toNat from size_lt a 5, show size a 6 = (at13 a 6).toNat from size_lt a 6, show size a 7 = (at13 a 7).toNat from size_lt a 7, show size a 8 = (at13 a 8).toNat from size_lt a 8, show size a 9 = (at13 a 9).toNat from size_lt a 9, show size a 10 = (at13 a 10).toNat from size_lt a 10, show size a 11 = (at13 a 11).toNat from size_lt a 11, show size a 12 = (at13 a 12).toNat from size_lt a 12]
  exact s12.2.symm

theorem size_out (a : S13.Idx → BitVec 32) (e : ℕ) (h : 13 ≤ e) : size a e = 0 := dif_neg (by omega)

theorem size_word (a : S13.Idx → BitVec 32) (i : S13.Idx) : a i = BitVec.ofNat 32 (size a (i 0).val) := by
  have hi : (i 0).val < 13 := (i 0).isLt
  unfold size
  rw [dif_pos hi, BitVec.ofNat_toNat, BitVec.setWidth_eq]
  congr 1
  funext b
  have hb : b = 0 := Subsingleton.elim _ _
  subst hb
  rfl

end Cert.Pre_sizes_fill_rows
-- ==== Proof.Base.lean ====
/-
  The common ground of the proof: the kernel's memrefs, the shape of a step's triple, contents of buffers by coordinates,
  and what a load or a store through a whole buffer does at an index.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ViewIndex

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- The proof's user algebra: the pipeline library's beside the transfers' counters. -/
local notation "𝕄" => MT nD τ sig Unit (Elt F) ℕ (Pipeline.UD sig nD τ) ℕ

/-! ## The kernel's memrefs -/

abbrev A0 : Memref sig .tc .smem S13 .i32 := Memref.whole cc0_stg0_0
abbrev A1 : Memref sig .tc .hbm S3072x7168 .bf16 := Memref.whole main_arg0
abbrev A2 : Memref sig .tc .hbm S13x7168x4096 .fp8e4m3 := Memref.whole main_arg2
abbrev A3 : Memref sig .tc .vmem S13x4096 .f32 := Memref.whole cc0_stg1_0
abbrev A4 : Memref sig .tc .hbm S3072x2048 .fp8e4m3 := Memref.whole main_v0_0
abbrev A5 : Memref sig .tc .vmem S1x3072 .f32 := Memref.whole cc0_stg2_0
abbrev A6 : Memref sig .tc .vmem S3072x7168 .fp8e4m3 := Memref.whole cc0_scratch0
abbrev A7 : Memref sig .tc .vmem S3072x128 .f32 := Memref.whole cc0_scratch1
abbrev A8 : Memref sig .tc .vmem S3072x2048 .f32 := Memref.whole cc0_scratch2
abbrev A9 : Memref sig .tc .vmem S3x2x7168x256 .fp8e4m3 := Memref.whole cc0_scratch3
abbrev A10 : Memref sig .tc .vmem S2x64x7168 .bf16 := Memref.whole cc0_scratch4
abbrev A11 : Memref sig .tc .vmem S2x128x2048 .fp8e4m3 := Memref.whole cc0_scratch5
abbrev A12 : Memref sig .tc .smem S13 .i32 := Memref.whole cc0_scratch6
abbrev A13 : Memref sig .tc .smem S14 .i32 := Memref.whole cc0_scratch7

/-- Some elements of a memref's buffer, held at a share. -/
abbrev pt (c : Dev nD) {sp : Space} {S : Shape} {e : EltTy} (M : Memref sig .tc sp S e) (I : Finset (Idx (M.view.loc (c : Thread nD τ)))) (q : PosShare TreeShare)
    (f : Buf (Elt F) (M.view.loc (c : Thread nD τ))) : sProp 𝕄 :=
  M.view.loc (c : Thread nD τ) ↦[I]{q} f

/-- The weakest precondition of a part of the body on device `c`. -/
abbrev W (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Loads and stores through a whole buffer, at an index -/

theorem read_whole {b : Ref sig .tc} (r : Rect b.ty.shape) (f : b.ty.Contents (Elt F)) (x : r.shape.Idx) :
    ((Memref.whole b).access r).read (Elt F) f x = f (r.emb x) := rfl

theorem write_whole_mem {b : Ref sig .tc} (r : Rect b.ty.shape) (f : b.ty.Contents (Elt F)) (w : r.shape.Idx → Elt F b.ty.elt) (Mk : Finset r.shape.Idx)
    (x : r.shape.Idx) (h : x ∈ Mk) : ((Memref.whole b).access r).write (Elt F) f w Mk (r.emb x) = w x :=
  View.write_emb_of_mem (v := ((Memref.whole b).access r)) f w h

theorem write_whole_not {b : Ref sig .tc} (r : Rect b.ty.shape) (f : b.ty.Contents (Elt F)) (w : r.shape.Idx → Elt F b.ty.elt) (Mk : Finset r.shape.Idx)
    (i : b.ty.shape.Idx) (h : ∀ x ∈ Mk, r.emb x ≠ i) : ((Memref.whole b).access r).write (Elt F) f w Mk i = f i :=
  View.write_of_not_mem (v := ((Memref.whole b).access r)) f w Mk (by
    intro hi
    obtain ⟨x, hx, he⟩ := Finset.mem_map.mp hi
    exact h x hx he)

theorem unit_emb_val {s : Shape} {off size : Fin s.rank → ℕ} (inb : ∀ a, off a + size a ≤ s.size a) (x : (Rect.unit off size inb).shape.Idx) (a : Fin s.rank) :
    ((Rect.unit off size inb).emb x a).val = off a + (x a).val := by
  simp [Rect.emb, Rect.unit]

/-! ## Loads and stores as single operations -/

theorem w_load (c : Dev nD) {cs : CoreSpace} {s : Shape} {e : EltTy} {M : Memref sig .tc cs s e} {r : Rect s} {hl : M.view.LoadsAt r}
    {I : Finset (Idx (M.view.loc (c : Thread nD τ)))} {q : PosShare TreeShare} {f : Buf (Elt F) (M.view.loc (c : Thread nD τ))} {Q : (r.shape.Idx → Elt F e) → sProp 𝕄}
    (hS : (M.access r).set ⊆ I) :
    pt c M I q f ⊢ iprop((pt c M I q f -∗ Q ((M.access r).read (Elt F) f)) -∗ W c (Prog.lift (.load M r hl)) Q) := by
  iintro H K
  iapply (wp_load_rect Variants.none (c : Thread nD τ) none Set.univ (m := M) (r := r) (S := I) (k := fun x => .ret x) hS) $$ H
  iintro H
  simp only [wp_ret]
  imodintro
  iapply K $$ H

theorem w_store (c : Dev nD) {cs : CoreSpace} {s : Shape} {e : EltTy} {M : Memref sig .tc cs s e} {r : Rect s} {w : r.shape.Idx → Elt F e} {Mk : Finset r.shape.Idx}
    {hx : (M.access r).Stores Mk} {hm : Mk = Finset.univ ∨ ∀ a, r.stride a = 1}
    {I : Finset (Idx (M.view.loc (c : Thread nD τ)))} {f : Buf (Elt F) (M.view.loc (c : Thread nD τ))} {Q : PUnit → sProp 𝕄}
    (hS : (M.access r).setOn Mk ⊆ I) :
    pt c M I fullShare f ⊢ iprop((pt c M I fullShare ((M.access r).write (Elt F) f w Mk) -∗ Q ⟨⟩) -∗ W c (Prog.lift (.store M r w Mk hx hm)) Q) := by
  iintro H K
  iapply (wp_store Variants.none (c : Thread nD τ) none Set.univ (m := M) (r := r) (S := I) (k := fun x => .ret x) hS) $$ H
  iintro H
  simp only [wp_ret]
  imodintro
  iapply K $$ H

/-- The buffer of a memref, whole. -/
abbrev ptU (c : Dev nD) {sp : Space} {S : Shape} {e : EltTy} (M : Memref sig .tc sp S e) (f : Buf (Elt F) (M.view.loc (c : Thread nD τ))) : sProp 𝕄 :=
  M.view.loc (c : Thread nD τ) ↦{fullShare} f

theorem w_loadU (c : Dev nD) {cs : CoreSpace} {s : Shape} {e : EltTy} {M : Memref sig .tc cs s e} {r : Rect s} {hl : M.view.LoadsAt r}
    {f : Buf (Elt F) (M.view.loc (c : Thread nD τ))} {Q : (r.shape.Idx → Elt F e) → sProp 𝕄} :
    ptU c M f ⊢ iprop((ptU c M f -∗ Q ((M.access r).read (Elt F) f)) -∗ W c (Prog.lift (.load M r hl)) Q) :=
  w_load c (Finset.subset_univ _)

theorem w_storeU (c : Dev nD) {cs : CoreSpace} {s : Shape} {e : EltTy} {M : Memref sig .tc cs s e} {r : Rect s} {w : r.shape.Idx → Elt F e} {Mk : Finset r.shape.Idx}
    {hx : (M.access r).Stores Mk} {hm : Mk = Finset.univ ∨ ∀ a, r.stride a = 1}
    {f : Buf (Elt F) (M.view.loc (c : Thread nD τ))} {Q : PUnit → sProp 𝕄} :
    ptU c M f ⊢ iprop((ptU c M ((M.access r).write (Elt F) f w Mk) -∗ Q ⟨⟩) -∗ W c (Prog.lift (.store M r w Mk hx hm)) Q) :=
  w_store c (Finset.subset_univ _)

theorem w_pure (c : Dev nD) {α : Type} (a : α) (Q : α → sProp 𝕄) : Q a ⊢ W c (Prog.ret a) Q := by
  iintro H
  simp only [wp_ret]
  imodintro
  iexact H

end Cert.KernelIdeal.Hand
-- ==== Proof.Geom.lean ====
/-
  The pieces of the buffers that the kernel's copies move: which elements a slice of a ring slot, of the expert weights, of the
  activations or of the result is, and what a landed copy leaves there.
-/
module

public import proofs.«01_k».proof.Proof.Base
public import proofs.«01_k».proof.Proof.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (Pipeline.UD sig nD τ) ℕ

/-! ## Indices by coordinates -/

def ix2 {d : Fin 2 → ℕ} (a : Fin (d 0)) (b : Fin (d 1)) : (⟨2, d⟩ : Shape).Idx := fun i => match i with
  | ⟨0, _⟩ => a
  | ⟨1, _⟩ => b

def ix3 {d : Fin 3 → ℕ} (a : Fin (d 0)) (b : Fin (d 1)) (c : Fin (d 2)) : (⟨3, d⟩ : Shape).Idx := fun i => match i with
  | ⟨0, _⟩ => a
  | ⟨1, _⟩ => b
  | ⟨2, _⟩ => c

def ix4 {d : Fin 4 → ℕ} (a : Fin (d 0)) (b : Fin (d 1)) (c : Fin (d 2)) (e : Fin (d 3)) : (⟨4, d⟩ : Shape).Idx := fun i => match i with
  | ⟨0, _⟩ => a
  | ⟨1, _⟩ => b
  | ⟨2, _⟩ => c
  | ⟨3, _⟩ => e

theorem idx2_ext {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem idx4_ext {d : Fin 4 → ℕ} {x y : (⟨4, d⟩ : Shape).Idx} (h0 : (x 0).val = (y 0).val) (h1 : (x 1).val = (y 1).val) (h2 : (x 2).val = (y 2).val)
    (h3 : (x 3).val = (y 3).val) : x = y :=
  funext fun a => by
    match a with
    | ⟨0, _⟩ => exact Fin.ext h0
    | ⟨1, _⟩ => exact Fin.ext h1
    | ⟨2, _⟩ => exact Fin.ext h2
    | ⟨3, _⟩ => exact Fin.ext h3

/-! ## The element sets -/

/-- Half `b` of slot `s` of the weight ring. -/
def setW (s b : ℕ) : Finset S3x2x7168x256.Idx := Finset.univ.filter fun i => (i 0).val = s ∧ (i 1).val = b
/-- The 256 columns of expert `e`'s weights that item column block `n` takes of half `b`. -/
def setS (e b n : ℕ) : Finset S13x7168x4096.Idx := Finset.univ.filter fun i => (i 0).val = e ∧ b * 2048 + 256 * n ≤ (i 2).val ∧ (i 2).val < b * 2048 + 256 * n + 256
/-- Slot `s` of the activation ring. -/
def setX (s : ℕ) : Finset S2x64x7168.Idx := Finset.univ.filter fun i => (i 0).val = s
/-- Chunk `k` of 64 activation rows. -/
def rowsX (k : ℕ) : Finset S3072x7168.Idx := Finset.univ.filter fun i => 64 * k ≤ (i 0).val ∧ (i 0).val < 64 * k + 64
/-- Slot `s` of the result ring. -/
def setY (s : ℕ) : Finset S2x128x2048.Idx := Finset.univ.filter fun i => (i 0).val = s
/-- Chunk `k` of 128 result rows. -/
def rowsY (k : ℕ) : Finset S3072x2048.Idx := Finset.univ.filter fun i => 128 * k ≤ (i 0).val ∧ (i 0).val < 128 * k + 128

theorem rect_setW {off : Fin 4 → ℕ} {s b : ℕ} (h : off = ![s, b, 0, 0]) (inb : ∀ a, off a + S1x1x7168x256.size a ≤ S3x2x7168x256.size a) :
    (Rect.unit (s := S3x2x7168x256) off S1x1x7168x256.size inb).set = setW s b := by
  subst h
  ext i
  rw [Rect.mem_set_unit]
  have h2 := (i 2).isLt
  have h3 := (i 3).isLt
  constructor
  · intro h
    have a0 := h 0
    have a1 := h 1
    simp [setW] at a0 a1 ⊢
    omega
  · intro h a
    simp [setW] at h
    fin_cases a <;> simp at h2 h3 ⊢ <;> omega

theorem rect_setS {off : Fin 3 → ℕ} {e b n : ℕ} (h : off = ![e, 0, b * 2048 + 256 * n]) (inb : ∀ a, off a + S1x7168x256.size a ≤ S13x7168x4096.size a) :
    (Rect.unit (s := S13x7168x4096) off S1x7168x256.size inb).set = setS e b n := by
  subst h
  ext i
  rw [Rect.mem_set_unit]
  have h1 := (i 1).isLt
  constructor
  · intro h
    have a0 := h 0
    have a1 := h 2
    simp [setS] at a0 a1 ⊢
    omega
  · intro h a
    simp [setS] at h
    fin_cases a <;> simp at h1 ⊢ <;> omega

theorem rect_setX {off : Fin 3 → ℕ} {s : ℕ} (h : off = ![s, 0, 0]) (inb : ∀ a, off a + S1x64x7168.size a ≤ S2x64x7168.size a) :
    (Rect.unit (s := S2x64x7168) off S1x64x7168.size inb).set = setX s := by
  subst h
  ext i
  rw [Rect.mem_set_unit]
  have h1 := (i 1).isLt
  have h2 := (i 2).isLt
  constructor
  · intro h
    have a0 := h 0
    simp [setX] at a0 ⊢
    omega
  · intro h a
    simp [setX] at h
    fin_cases a <;> simp at h1 h2 ⊢ <;> omega

theorem rect_setY {off : Fin 3 → ℕ} {s : ℕ} (h : off = ![s, 0, 0]) (inb : ∀ a, off a + S1x128x2048.size a ≤ S2x128x2048.size a) :
    (Rect.unit (s := S2x128x2048) off S1x128x2048.size inb).set = setY s := by
  subst h
  ext i
  rw [Rect.mem_set_unit]
  have h1 := (i 1).isLt
  have h2 := (i 2).isLt
  constructor
  · intro h
    have a0 := h 0
    simp [setY] at a0 ⊢
    omega
  · intro h a
    simp [setY] at h
    fin_cases a <;> simp at h1 h2 ⊢ <;> omega

theorem rect_rowsX {off : Fin 2 → ℕ} {k : ℕ} (h : off = ![64 * k, 0]) (inb : ∀ a, off a + S64x7168.size a ≤ S3072x7168.size a) :
    (Rect.unit (s := S3072x7168) off S64x7168.size inb).set = rowsX k := by
  subst h
  ext i
  rw [Rect.mem_set_unit]
  have h1 := (i 1).isLt
  constructor
  · intro h
    have a0 := h 0
    simp [rowsX] at a0 ⊢
    omega
  · intro h a
    simp [rowsX] at h
    fin_cases a <;> simp at h1 ⊢ <;> omega

theorem rect_rowsY {off : Fin 2 → ℕ} {k : ℕ} (h : off = ![128 * k, 0]) (inb : ∀ a, off a + S128x2048.size a ≤ S3072x2048.size a) :
    (Rect.unit (s := S3072x2048) off S128x2048.size inb).set = rowsY k := by
  subst h
  ext i
  rw [Rect.mem_set_unit]
  have h1 := (i 1).isLt
  constructor
  · intro h
    have a0 := h 0
    simp [rowsY] at a0 ⊢
    omega
  · intro h a
    simp [rowsY] at h
    fin_cases a <;> simp at h1 ⊢ <;> omega

/-! ## What a landed copy leaves -/

/-- A slot half of the weight ring holding the item's weights: expert `e`, column block `n`. -/
def Wcan (fw : S13x7168x4096.Idx → Elt F .fp8e4m3) (e n : ℕ) : S3x2x7168x256.Idx → Elt F .fp8e4m3 := fun i =>
  fw (ix3 (d := ![13, 7168, 4096]) ⟨e % 13, Nat.mod_lt _ (by decide)⟩ (i 2) ⟨((i 1).val * 2048 + 256 * n + (i 3).val) % 4096, Nat.mod_lt _ (by decide)⟩)

/-- A slot of the activation ring holding chunk `k`. -/
def Xcan (fx : S3072x7168.Idx → Elt F .bf16) (k : ℕ) : S2x64x7168.Idx → Elt F .bf16 := fun i =>
  fx (ix2 (d := ![3072, 7168]) ⟨(64 * k + (i 1).val) % 3072, Nat.mod_lt _ (by decide)⟩ (i 2))

abbrev srcW (off : Fin 3 → ℕ) (inb : ∀ a, off a + S1x7168x256.size a ≤ S13x7168x4096.size a) : Memref sig .tc .hbm S7168x256 .fp8e4m3 :=
  (A2.slice (Rect.unit (s := S13x7168x4096) off S1x7168x256.size inb) (fun _ => rfl)).squeeze S7168x256 squeezes_S1x7168x256_S7168x256
abbrev dstW (off : Fin 4 → ℕ) (inb : ∀ a, off a + S1x1x7168x256.size a ≤ S3x2x7168x256.size a) : Memref sig .tc .vmem S7168x256 .fp8e4m3 :=
  (A9.slice (Rect.unit (s := S3x2x7168x256) off S1x1x7168x256.size inb) (fun _ => rfl)).squeeze S7168x256 squeezes_S1x1x7168x256_S7168x256
abbrev srcX (off : Fin 2 → ℕ) (inb : ∀ a, off a + S64x7168.size a ≤ S3072x7168.size a) : Memref sig .tc .hbm S64x7168 .bf16 :=
  A1.slice (Rect.unit (s := S3072x7168) off S64x7168.size inb) (fun _ => rfl)
abbrev dstX (off : Fin 3 → ℕ) (inb : ∀ a, off a + S1x64x7168.size a ≤ S2x64x7168.size a) : Memref sig .tc .vmem S64x7168 .bf16 :=
  (A10.slice (Rect.unit (s := S2x64x7168) off S1x64x7168.size inb) (fun _ => rfl)).squeeze S64x7168 squeezes_S1x64x7168_S64x7168
abbrev srcY (off : Fin 3 → ℕ) (inb : ∀ a, off a + S1x128x2048.size a ≤ S2x128x2048.size a) : Memref sig .tc .vmem S128x2048 .fp8e4m3 :=
  (A11.slice (Rect.unit (s := S2x128x2048) off S1x128x2048.size inb) (fun _ => rfl)).squeeze S128x2048 squeezes_S1x128x2048_S128x2048
abbrev dstY (off : Fin 2 → ℕ) (inb : ∀ a, off a + S128x2048.size a ≤ S3072x2048.size a) : Memref sig .tc .hbm S128x2048 .fp8e4m3 :=
  A4.slice (Rect.unit (s := S3072x2048) off S128x2048.size inb) (fun _ => rfl)

theorem srcW_set {off : Fin 3 → ℕ} {e b n : ℕ} (h : off = ![e, 0, b * 2048 + 256 * n]) (inb) : (srcW off inb).view.set = setS e b n := by
  rw [← rect_setS h inb]; exact (View.set_reshape _ _).trans (View.set_slice_whole _ _)
theorem dstW_set {off : Fin 4 → ℕ} {s b : ℕ} (h : off = ![s, b, 0, 0]) (inb) : (dstW off inb).view.set = setW s b := by
  rw [← rect_setW h inb]; exact (View.set_reshape _ _).trans (View.set_slice_whole _ _)
theorem srcX_set {off : Fin 2 → ℕ} {k : ℕ} (h : off = ![64 * k, 0]) (inb) : (srcX off inb).view.set = rowsX k := by
  rw [← rect_rowsX h inb]; exact View.set_slice_whole _ _
theorem dstX_set {off : Fin 3 → ℕ} {s : ℕ} (h : off = ![s, 0, 0]) (inb) : (dstX off inb).view.set = setX s := by
  rw [← rect_setX h inb]; exact (View.set_reshape _ _).trans (View.set_slice_whole _ _)
theorem srcY_set {off : Fin 3 → ℕ} {s : ℕ} (h : off = ![s, 0, 0]) (inb) : (srcY off inb).view.set = setY s := by
  rw [← rect_setY h inb]; exact (View.set_reshape _ _).trans (View.set_slice_whole _ _)
theorem dstY_set {off : Fin 2 → ℕ} {k : ℕ} (h : off = ![128 * k, 0]) (inb) : (dstY off inb).view.set = rowsY k := by
  rw [← rect_rowsY h inb]; exact View.set_slice_whole _ _

theorem resh_W (x : S7168x256.Idx) : Shape.reshapeEquiv (Shape.Squeezes.numel_eq squeezes_S1x1x7168x256_S7168x256) x
    = ix4 (d := ![1, 1, 7168, 256]) ⟨0, by decide⟩ ⟨0, by decide⟩ (x 0) (x 1) := by
  apply Shape.reshapeEquiv_eq_of_rowMajor
  rw [Shape.rowMajor_val_four, Shape.rowMajor_val_two]
  simp [ix4]
theorem resh_S (x : S7168x256.Idx) : Shape.reshapeEquiv (Shape.Squeezes.numel_eq squeezes_S1x7168x256_S7168x256) x
    = ix3 (d := ![1, 7168, 256]) ⟨0, by decide⟩ (x 0) (x 1) := by
  apply Shape.reshapeEquiv_eq_of_rowMajor
  rw [Shape.rowMajor_val_three, Shape.rowMajor_val_two]
  simp [ix3]
theorem resh_X (x : S64x7168.Idx) : Shape.reshapeEquiv (Shape.Squeezes.numel_eq squeezes_S1x64x7168_S64x7168) x
    = ix3 (d := ![1, 64, 7168]) ⟨0, by decide⟩ (x 0) (x 1) := by
  apply Shape.reshapeEquiv_eq_of_rowMajor
  rw [Shape.rowMajor_val_three, Shape.rowMajor_val_two]
  simp [ix3]
theorem resh_Y (x : S128x2048.Idx) : Shape.reshapeEquiv (Shape.Squeezes.numel_eq squeezes_S1x128x2048_S128x2048) x
    = ix3 (d := ![1, 128, 2048]) ⟨0, by decide⟩ (x 0) (x 1) := by
  apply Shape.reshapeEquiv_eq_of_rowMajor
  rw [Shape.rowMajor_val_three, Shape.rowMajor_val_two]
  simp [ix3]

/-- A landed copy of weights: on its slot half the ring holds `Wcan`. -/
theorem landW {offd : Fin 4 → ℕ} {offs : Fin 3 → ℕ} {s b e n : ℕ} (hd : offd = ![s, b, 0, 0]) (hs : offs = ![e, 0, b * 2048 + 256 * n]) (inbd) (inbs)
    (fd : S3x2x7168x256.Idx → Elt F .fp8e4m3) (fw : S13x7168x4096.Idx → Elt F .fp8e4m3) :
    ∀ i ∈ setW s b, (dstW offd inbd).view.write (Elt F) fd ((srcW offs inbs).view.read (Elt F) fw) Finset.univ i = Wcan fw e n i := by
  intro i hi
  have hi' := hi
  simp only [setW, Finset.mem_filter, Finset.mem_univ, true_and] at hi'
  have he : i = (dstW offd inbd).view.emb (ix2 (d := ![7168, 256]) (i 2) (i 3)) := by
    show i = (Rect.unit (s := S3x2x7168x256) offd S1x1x7168x256.size inbd).emb (Shape.reshapeEquiv _ _)
    rw [resh_W]
    subst hd
    apply idx4_ext <;> rw [unit_emb_val] <;> simp [ix4, ix2, hi'.1, hi'.2]
  have hb := inbs 0
  have hb2 := inbs 2
  rw [he]
  refine (View.write_emb_of_mem (v := (dstW offd inbd).view) fd _ (Finset.mem_univ _)).trans ?_
  show fw ((Rect.unit (s := S13x7168x4096) offs S1x7168x256.size inbs).emb (Shape.reshapeEquiv _ _)) = _
  rw [resh_S, ← he]
  unfold Wcan
  subst hs
  simp at hb hb2
  have h3 := (i 3).isLt
  simp at h3
  congr 1
  apply Shape.idx3_ext <;> rw [unit_emb_val] <;> simp [ix3, ix2, hi'.2]
  · omega
  · omega

/-- A landed copy of activations: on its slot the ring holds `Xcan`. -/
theorem landX {offd : Fin 3 → ℕ} {offs : Fin 2 → ℕ} {s k : ℕ} (hd : offd = ![s, 0, 0]) (hs : offs = ![64 * k, 0]) (inbd) (inbs)
    (fd : S2x64x7168.Idx → Elt F .bf16) (fx : S3072x7168.Idx → Elt F .bf16) :
    ∀ i ∈ setX s, (dstX offd inbd).view.write (Elt F) fd ((srcX offs inbs).view.read (Elt F) fx) Finset.univ i = Xcan fx k i := by
  intro i hi
  have hi' := hi
  simp only [setX, Finset.mem_filter, Finset.mem_univ, true_and] at hi'
  have he : i = (dstX offd inbd).view.emb (ix2 (d := ![64, 7168]) (i 1) (i 2)) := by
    show i = (Rect.unit (s := S2x64x7168) offd S1x64x7168.size inbd).emb (Shape.reshapeEquiv _ _)
    rw [resh_X]
    subst hd
    apply Shape.idx3_ext <;> rw [unit_emb_val] <;> simp [ix3, ix2, hi']
  have hb := inbs 0
  rw [he]
  refine (View.write_emb_of_mem (v := (dstX offd inbd).view) fd _ (Finset.mem_univ _)).trans ?_
  show fx ((Rect.unit (s := S3072x7168) offs S64x7168.size inbs).emb _) = _
  rw [← he]
  unfold Xcan
  subst hs
  simp at hb
  have h3 := (i 1).isLt
  simp at h3
  congr 1
  apply idx2_ext <;> rw [unit_emb_val] <;> simp [ix2]
  · omega

/-- A landed copy of result codes: on its rows the result holds the slot's codes. -/
theorem landY {offd : Fin 2 → ℕ} {offs : Fin 3 → ℕ} {s k : ℕ} (hs : offs = ![s, 0, 0]) (hd : offd = ![128 * k, 0]) (inbd) (inbs)
    (fd g : S3072x2048.Idx → Elt F .fp8e4m3) (fy : S2x128x2048.Idx → Elt F .fp8e4m3)
    (hg : ∀ (i : S3072x2048.Idx) (j : S2x128x2048.Idx), (i 0).val = 128 * k + (j 1).val → (i 1).val = (j 2).val → (j 0).val = s → fy j = g i) :
    ∀ i ∈ rowsY k, (dstY offd inbd).view.write (Elt F) fd ((srcY offs inbs).view.read (Elt F) fy) Finset.univ i = g i := by
  intro i hi
  have hi' := hi
  simp only [rowsY, Finset.mem_filter, Finset.mem_univ, true_and] at hi'
  have he : i = (dstY offd inbd).view.emb (ix2 (d := ![128, 2048]) ⟨(i 0).val - 128 * k, by simp; omega⟩ (i 1)) := by
    show i = (Rect.unit (s := S3072x2048) offd S128x2048.size inbd).emb _
    subst hd
    apply idx2_ext <;> rw [unit_emb_val] <;> simp [ix2]
    omega
  rw [he]
  refine (View.write_emb_of_mem (v := (dstY offd inbd).view) fd _ (Finset.mem_univ _)).trans ?_
  rw [← he]
  show fy ((Rect.unit (s := S2x128x2048) offs S1x128x2048.size inbs).emb (Shape.reshapeEquiv _ _)) = _
  rw [resh_Y]
  subst hs
  apply hg <;> rw [unit_emb_val] <;> simp [ix3, ix2]
  omega

end Cert.KernelIdeal.Hand
-- ==== Proof.Slots.lean ====
/-
  The copies the kernel keeps in flight: per ring slot, the slot at rest and the slot with its copies under way, what starting a
  copy and what waiting for it does.
-/
module

public import proofs.«01_k».proof.Proof.Geom

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Facts]

local notation "𝕄" => MT nD τ sig Unit (Elt F) ℕ (Pipeline.UD sig nD τ) ℕ

/-! ## The semaphores -/

def sW (s : Fin 3) : DmaSem sig := ⟨3 + s.val, by have := s.isLt; show _ < 10; omega⟩
def sX (s : Fin 2) : DmaSem sig := ⟨6 + s.val, by have := s.isLt; show _ < 10; omega⟩
def sY (s : Fin 2) : DmaSem sig := ⟨8 + s.val, by have := s.isLt; show _ < 10; omega⟩

theorem semW_eq {off : Fin 1 → ℕ} (s : Fin 3) (h : off = ![s.val]) (inb) :
    ((cc0_scratch8.slice (Rect.unit (s := S3) off S1.size inb)).squeeze S_ squeezes_S1_S_).sem = sW s := by
  subst h
  apply Fin.ext
  show 3 + (Shape.rowMajor S3 ((Rect.unit (s := S3) ![s.val] S1.size inb).emb (Shape.reshapeEquiv _ _))).val = 3 + s.val
  rw [Shape.rowMajor_val_one, unit_emb_val]
  have hz := (Shape.reshapeEquiv (Shape.Squeezes.numel_eq squeezes_S1_S_) (fun i => i.elim0) 0).isLt
  simp at hz ⊢
  exact hz
theorem semX_eq {off : Fin 1 → ℕ} (s : Fin 2) (h : off = ![s.val]) (inb) :
    ((cc0_scratch9.slice (Rect.unit (s := S2) off S1.size inb)).squeeze S_ squeezes_S1_S_).sem = sX s := by
  subst h
  apply Fin.ext
  show 6 + (Shape.rowMajor S2 ((Rect.unit (s := S2) ![s.val] S1.size inb).emb (Shape.reshapeEquiv _ _))).val = 6 + s.val
  rw [Shape.rowMajor_val_one, unit_emb_val]
  have hz := (Shape.reshapeEquiv (Shape.Squeezes.numel_eq squeezes_S1_S_) (fun i => i.elim0) 0).isLt
  simp at hz ⊢
  exact hz
theorem semY_eq {off : Fin 1 → ℕ} (s : Fin 2) (h : off = ![s.val]) (inb) :
    ((cc0_scratch10.slice (Rect.unit (s := S2) off S1.size inb)).squeeze S_ squeezes_S1_S_).sem = sY s := by
  subst h
  apply Fin.ext
  show 8 + (Shape.rowMajor S2 ((Rect.unit (s := S2) ![s.val] S1.size inb).emb (Shape.reshapeEquiv _ _))).val = 8 + s.val
  rw [Shape.rowMajor_val_one, unit_emb_val]
  have hz := (Shape.reshapeEquiv (Shape.Squeezes.numel_eq squeezes_S1_S_) (fun i => i.elim0) 0).isLt
  simp at hz ⊢
  exact hz

/-- The core's record of what it owes: anything. -/
abbrev OW (c : Dev nD) : sProp 𝕄 := iprop(∃ Wd, owes (c : Thread nD τ) 0 Wd)

abbrev EC : UEmb Counters 𝕄 := countersEmb (U := Pipeline.UD sig nD τ)

/-- One read token of the weights per slot half, one of the activations per slot. -/
def tokW (s : Fin 3) (b : ℕ) : PosShare TreeShare := shareTokN fullShare (2 * s.val + b)
def tokX (s : Fin 2) : PosShare TreeShare := shareTokN fullShare s.val

/-! ## The weight ring -/

variable (c : Dev nD) (fw : S13x7168x4096.Idx → Elt F .fp8e4m3) (fx : S3072x7168.Idx → Elt F .bf16)

def delW (s : Fin 3) (e n : ℕ) : Fin 2 → sProp 𝕄 := fun b =>
  iprop(pt c A9 (setW s b) fullShare (Wcan fw e n) ∗ pt c A2 (setS e b n) (tokW s b) fw)

instance (s : Fin 3) (e n : ℕ) (t : Fin 2) : Storable (upEmb : UEmb _ 𝕄) (delW c fw s e n t) := by
  unfold delW; infer_instance

@[irreducible] def NW : ℕ := (dstW ![0, 0, 0, 0] (by decide)).view.dmaCredit

theorem crW (off) (inb) : (dstW off inb).view.dmaCredit = NW := by unfold NW; rfl

/-- Slot `s` at rest. -/
def idleW (s : Fin 3) : sProp 𝕄 :=
  iprop((∃ f, pt c A9 (setW s 0) fullShare f) ∗ (∃ f, pt c A9 (setW s 1) fullShare f) ∗ semVal ((c : Thread nD τ), .dma (sW s)) 0
    ∗ pt c A2 Finset.univ (tokW s 0) fw ∗ pt c A2 Finset.univ (tokW s 1) fw)

/-- Slot `s` with the first half's copy started. -/
def midW (s : Fin 3) (e n : ℕ) : sProp 𝕄 :=
  iprop(Batch EC (c : Thread nD τ) (.dma (sW s)) () NW (delW c fw s e n) 1 0 ∗ (∃ f, pt c A9 (setW s 1) fullShare f)
    ∗ pt c A2 (Finset.univ \ setS e 0 n) (tokW s 0) fw ∗ pt c A2 Finset.univ (tokW s 1) fw)

/-- Slot `s` with both copies of expert `e`, column block `n`, in flight, `u` units taken. -/
def busyW (s : Fin 3) (e n u : ℕ) : sProp 𝕄 :=
  iprop(Batch EC (c : Thread nD τ) (.dma (sW s)) () NW (delW c fw s e n) 2 u
    ∗ pt c A2 (Finset.univ \ setS e 0 n) (tokW s 0) fw ∗ pt c A2 (Finset.univ \ setS e 1 n) (tokW s 1) fw)

/-- Slot `s` holding the weights. -/
def landedW (s : Fin 3) (e n : ℕ) : sProp 𝕄 :=
  iprop(pt c A9 (setW s 0) fullShare (Wcan fw e n) ∗ pt c A9 (setW s 1) fullShare (Wcan fw e n) ∗ semVal ((c : Thread nD τ), .dma (sW s)) 0
    ∗ pt c A2 Finset.univ (tokW s 0) fw ∗ pt c A2 Finset.univ (tokW s 1) fw)

theorem landedW_idle (s : Fin 3) (e n : ℕ) : landedW c fw s e n ⊢ idleW c fw s := by
  unfold landedW idleW
  iintro ⟨H0, H1, HS, HT⟩
  isplitl [H0]
  · iexists _; iexact H0
  isplitl [H1]
  · iexists _; iexact H1
  isplitl [HS]
  · iexact HS
  · iexact HT

theorem hDW (s : Fin 3) (b : Fin 2) (e n : ℕ) {offd : Fin 4 → ℕ} {offs : Fin 3 → ℕ} (hd : offd = ![s.val, b.val, 0, 0]) (hs : offs = ![e, 0, b.val * 2048 + 256 * n])
    (inbd) (inbs) (fd : S3x2x7168x256.Idx → Elt F .fp8e4m3) :
    iprop(pt c A9 (setW s b) fullShare ((dstW offd inbd).view.write (Elt F) fd ((srcW offs inbs).view.read (Elt F) fw) Finset.univ)
      ∗ pt c A2 (srcW offs inbs).view.set (tokW s b) fw) ⊢ delW c fw s e n b := by
  rw [srcW_set hs inbs]
  unfold delW
  have h := pointsTo_congr (Ix := Unit) (Name := ℕ) (U := Pipeline.UD sig nD τ) (Lvl := ℕ) (ℓ := A9.view.loc (c : Thread nD τ)) (q := fullShare) (I := setW s b) (landW hd hs inbd inbs fd fw)
  unfold pt
  rw [h] <;> exact .rfl

theorem startW0 (s : Fin 3) (e n : ℕ) {offd : Fin 4 → ℕ} {offs : Fin 3 → ℕ} {sm : DmaSem sig} (hsm : sm = sW s) (hd : offd = ![s.val, 0, 0, 0])
    (hs : offs = ![e, 0, 0 * 2048 + 256 * n]) (inbd) (inbs) {h1 h2 h3} {Q : PUnit → sProp 𝕄} :
    idleW c fw s ⊢ iprop((midW c fw s e n -∗ Q ⟨⟩) -∗ W c (Prog.lift (.enqueueDma (srcW offs inbs) (.here (dstW offd inbd)) (.dma sm) h1 h2 h3)) Q) := by
  subst hsm
  unfold idleW midW
  iintro ⟨⟨%f0, H0⟩, H1, HS, T0, T1⟩ K
  iapply fupd_wp
  imod (batch_alloc' EC (c : Thread nD τ) () NW (delW c fw s e n) (sm := .dma (sW s))) $$ HS with HB
  imodintro
  icases (pointsTo_split_subset (Finset.subset_univ (srcW offs inbs).view.set)).1 $$ T0 with ⟨TA, TB⟩
  iapply (wp_dmaBatch EC Variants.none (c : Thread nD τ) none () NW (src := srcW offs inbs) (dst := dstW offd inbd) (sm := .dma (sW s)) (via := ReadAs.same) (Sd := setW s 0) (q := tokW s 0) (fs := fw) (fd := f0)
    (D := delW c fw s e n) (j := 0) (u := 0) (k := fun x => .ret x) (crW _ _) (dstW_set hd inbd).subset (by decide) (Nat.zero_le _) (hDW c fw s 0 e n hd hs inbd inbs f0)) $$ [TA H0 HB]
  · isplitl [TA]
    · iexact TA
    isplitl [H0]
    · iexact H0
    · iexact HB
  iintro HB
  simp only [wp_ret]
  imodintro
  rw [srcW_set hs inbs]
  iapply K
  isplitl [HB]
  · iexact HB
  isplitl [H1]
  · iexact H1
  isplitl [TB]
  · iexact TB
  · iexact T1

theorem startW1 (s : Fin 3) (e n : ℕ) {offd : Fin 4 → ℕ} {offs : Fin 3 → ℕ} {sm : DmaSem sig} (hsm : sm = sW s) (hd : offd = ![s.val, 1, 0, 0])
    (hs : offs = ![e, 0, 1 * 2048 + 256 * n]) (inbd) (inbs) {h1 h2 h3} {Q : PUnit → sProp 𝕄} :
    midW c fw s e n ⊢ iprop((busyW c fw s e n 0 -∗ Q ⟨⟩) -∗ W c (Prog.lift (.enqueueDma (srcW offs inbs) (.here (dstW offd inbd)) (.dma sm) h1 h2 h3)) Q) := by
  subst hsm
  unfold busyW midW
  iintro ⟨HB, ⟨%f1, H1⟩, T0, T1⟩ K
  icases (pointsTo_split_subset (Finset.subset_univ (srcW offs inbs).view.set)).1 $$ T1 with ⟨TA, TB⟩
  iapply (wp_dmaBatch EC Variants.none (c : Thread nD τ) none () NW (src := srcW offs inbs) (dst := dstW offd inbd) (sm := .dma (sW s)) (via := ReadAs.same) (Sd := setW s 1) (q := tokW s 1) (fs := fw) (fd := f1)
    (D := delW c fw s e n) (j := 1) (u := 0) (k := fun x => .ret x) (crW _ _) (dstW_set hd inbd).subset (by decide) (Nat.zero_le _) (hDW c fw s 1 e n hd hs inbd inbs f1)) $$ [TA H1 HB]
  · isplitl [TA]
    · iexact TA
    isplitl [H1]
    · iexact H1
    · iexact HB
  iintro HB
  simp only [wp_ret]
  imodintro
  rw [srcW_set hs inbs]
  iapply K
  isplitl [HB]
  · iexact HB
  isplitl [T0]
  · iexact T0
  · iexact TB

theorem NW_pos : 0 < NW := by unfold NW; exact View.dmaCredit_pos _ (by decide)

theorem waitW0 (s : Fin 3) (e n : ℕ) {offd : Fin 4 → ℕ} {sm : DmaSem sig} (hsm : sm = sW s) (inbd) {srcw : Memref sig .tc .hbm S7168x256 .fp8e4m3} {h1 h2} {Q : PUnit → sProp 𝕄} :
    iprop(busyW c fw s e n 0 ∗ OW c) ⊢ iprop((busyW c fw s e n NW ∗ OW c -∗ Q ⟨⟩) -∗ W c (Prog.lift (.waitDma2 sm srcw (dstW offd inbd) h1 h2)) Q) := by
  subst hsm
  unfold busyW
  iintro ⟨⟨HB, T⟩, %Wd, HO⟩ K
  iapply (wp_waitBatch EC Variants.none (c : Thread nD τ) none () (dstw := dstW offd inbd) (srcw := srcw) (N := NW) (D := delW c fw s e n) (u := 0) (k := fun x => .ret x) (crW _ _) (by have := NW_pos; omega)) $$ [HB HO]
  · isplitl [HB]
    · iexact HB
    · iexact HO
  iintro ⟨HB, HO⟩
  simp only [wp_ret]
  imodintro
  iapply K
  isplitl [HB T]
  · isplitl [HB]
    · rw [Nat.zero_add]; iexact HB
    · iexact T
  · iexists _; iexact HO

theorem waitW1 (s : Fin 3) (e n : ℕ) {offd : Fin 4 → ℕ} {sm : DmaSem sig} (hsm : sm = sW s) (inbd) {srcw : Memref sig .tc .hbm S7168x256 .fp8e4m3} {h1 h2} {Q : PUnit → sProp 𝕄} :
    iprop(busyW c fw s e n NW ∗ OW c) ⊢ iprop((landedW c fw s e n ∗ OW c -∗ Q ⟨⟩) -∗ W c (Prog.lift (.waitDma2 sm srcw (dstW offd inbd) h1 h2)) Q) := by
  subst hsm
  unfold busyW landedW
  iintro ⟨⟨HB, T0, T1⟩, %Wd, HO⟩ K
  iapply (wp_waitBatchLast EC Variants.none (c : Thread nD τ) none () (dstw := dstW offd inbd) (srcw := srcw) (N := NW) (D := delW c fw s e n) (u := NW) (k := fun x => .ret x) (crW _ _) NW_pos (by omega)) $$ [HB HO]
  · isplitl [HB]
    · iexact HB
    · iexact HO
  rw [Ring.bigSep_fin2]
  unfold delW
  iintro ⟨⟨⟨H0, TA⟩, H1, TB⟩, HS, HO⟩
  simp only [wp_ret]
  imodintro
  iapply K
  isplitl [H0 H1 HS TA TB T0 T1]
  · isplitl [H0]
    · iexact H0
    isplitl [H1]
    · iexact H1
    isplitl [HS]
    · iexact HS
    isplitl [TA T0]
    · iapply (pointsTo_split_subset (Finset.subset_univ (setS e 0 n))).2
      isplitl [TA]
      · iexact TA
      · iexact T0
    · iapply (pointsTo_split_subset (Finset.subset_univ (setS e 1 n))).2
      isplitl [TB]
      · iexact TB
      · iexact T1
  · iexists _; iexact HO

/-! ## The activation ring -/

def delX (s : Fin 2) (k : ℕ) : Fin 1 → sProp 𝕄 := fun _ =>
  iprop(pt c A10 (setX s) fullShare (Xcan fx k) ∗ pt c A1 (rowsX k) (tokX s) fx)

instance (s : Fin 2) (k : ℕ) (t : Fin 1) : Storable (upEmb : UEmb _ 𝕄) (delX c fx s k t) := by
  unfold delX; infer_instance

@[irreducible] def NX : ℕ := (dstX ![0, 0, 0] (by decide)).view.dmaCredit
theorem crX (off) (inb) : (dstX off inb).view.dmaCredit = NX := by unfold NX; rfl
theorem NX_pos : 0 < NX := by unfold NX; exact View.dmaCredit_pos _ (by decide)

def idleX (s : Fin 2) : sProp 𝕄 :=
  iprop((∃ f, pt c A10 (setX s) fullShare f) ∗ semVal ((c : Thread nD τ), .dma (sX s)) 0 ∗ pt c A1 Finset.univ (tokX s) fx)

def busyX (s : Fin 2) (k : ℕ) : sProp 𝕄 :=
  iprop(Batch EC (c : Thread nD τ) (.dma (sX s)) () NX (delX c fx s k) 1 0 ∗ pt c A1 (Finset.univ \ rowsX k) (tokX s) fx)

def landedX (s : Fin 2) (k : ℕ) : sProp 𝕄 :=
  iprop(pt c A10 (setX s) fullShare (Xcan fx k) ∗ semVal ((c : Thread nD τ), .dma (sX s)) 0 ∗ pt c A1 Finset.univ (tokX s) fx)

theorem landedX_idle (s : Fin 2) (k : ℕ) : landedX c fx s k ⊢ idleX c fx s := by
  unfold landedX idleX
  iintro ⟨H0, HS, HT⟩
  isplitl [H0]
  · iexists _; iexact H0
  isplitl [HS]
  · iexact HS
  · iexact HT

theorem hDX (s : Fin 2) (k : ℕ) {offd : Fin 3 → ℕ} {offs : Fin 2 → ℕ} (hd : offd = ![s.val, 0, 0]) (hs : offs = ![64 * k, 0])
    (inbd) (inbs) (fd : S2x64x7168.Idx → Elt F .bf16) (t : Fin 1) :
    iprop(pt c A10 (setX s) fullShare ((dstX offd inbd).view.write (Elt F) fd ((srcX offs inbs).view.read (Elt F) fx) Finset.univ)
      ∗ pt c A1 (srcX offs inbs).view.set (tokX s) fx) ⊢ delX c fx s k t := by
  rw [srcX_set hs inbs]
  unfold delX
  have h := pointsTo_congr (Ix := Unit) (Name := ℕ) (U := Pipeline.UD sig nD τ) (Lvl := ℕ) (ℓ := A10.view.loc (c : Thread nD τ)) (q := fullShare) (I := setX s) (landX hd hs inbd inbs fd fx)
  unfold pt
  rw [h] <;> exact .rfl

theorem startX (s : Fin 2) (k : ℕ) {offd : Fin 3 → ℕ} {offs : Fin 2 → ℕ} {sm : DmaSem sig} (hsm : sm = sX s) (hd : offd = ![s.val, 0, 0])
    (hs : offs = ![64 * k, 0]) (inbd) (inbs) {h1 h2 h3} {Q : PUnit → sProp 𝕄} :
    idleX c fx s ⊢ iprop((busyX c fx s k -∗ Q ⟨⟩) -∗ W c (Prog.lift (.enqueueDma (srcX offs inbs) (.here (dstX offd inbd)) (.dma sm) h1 h2 h3)) Q) := by
  subst hsm
  unfold idleX busyX
  iintro ⟨⟨%f0, H0⟩, HS, T0⟩ K
  iapply fupd_wp
  imod (batch_alloc' EC (c : Thread nD τ) () NX (delX c fx s k) (sm := .dma (sX s))) $$ HS with HB
  imodintro
  icases (pointsTo_split_subset (Finset.subset_univ (srcX offs inbs).view.set)).1 $$ T0 with ⟨TA, TB⟩
  iapply (wp_dmaBatch EC Variants.none (c : Thread nD τ) none () NX (src := srcX offs inbs) (dst := dstX offd inbd) (sm := .dma (sX s)) (via := ReadAs.same) (Sd := setX s) (q := tokX s) (fs := fx) (fd := f0)
    (D := delX c fx s k) (j := 0) (u := 0) (k := fun x => .ret x) (crX _ _) (dstX_set hd inbd).subset (by decide) (Nat.zero_le _) (hDX c fx s k hd hs inbd inbs f0 _)) $$ [TA H0 HB]
  · isplitl [TA]
    · iexact TA
    isplitl [H0]
    · iexact H0
    · iexact HB
  iintro HB
  simp only [wp_ret]
  imodintro
  rw [srcX_set hs inbs]
  iapply K
  isplitl [HB]
  · iexact HB
  · iexact TB

theorem waitX (s : Fin 2) (k : ℕ) {offd : Fin 3 → ℕ} {sm : DmaSem sig} (hsm : sm = sX s) (inbd) {srcw : Memref sig .tc .hbm S64x7168 .bf16} {h1 h2} {Q : PUnit → sProp 𝕄} :
    iprop(busyX c fx s k ∗ OW c) ⊢ iprop((landedX c fx s k ∗ OW c -∗ Q ⟨⟩) -∗ W c (Prog.lift (.waitDma2 sm srcw (dstX offd inbd) h1 h2)) Q) := by
  subst hsm
  unfold busyX landedX
  iintro ⟨⟨HB, T0⟩, %Wd, HO⟩ K
  iapply (wp_waitBatchLast EC Variants.none (c : Thread nD τ) none () (dstw := dstX offd inbd) (srcw := srcw) (N := NX) (D := delX c fx s k) (u := 0) (k := fun x => .ret x) (crX _ _) NX_pos (by omega)) $$ [HB HO]
  · isplitl [HB]
    · iexact HB
    · iexact HO
  rw [bigSep_univ_of_subsingleton 0]
  unfold delX
  iintro ⟨⟨H0, TA⟩, HS, HO⟩
  simp only [wp_ret]
  imodintro
  iapply K
  isplitl [H0 HS TA T0]
  · isplitl [H0]
    · iexact H0
    isplitl [HS]
    · iexact HS
    · iapply (pointsTo_split_subset (Finset.subset_univ (rowsX k))).2
      isplitl [TA]
      · iexact TA
      · iexact T0
  · iexists _; iexact HO

/-! ## The result ring -/

/-- Slot `s` of the result ring holding chunk `k` of the result `g`. -/
def HoldsY (g : S3072x2048.Idx → Elt F .fp8e4m3) (s k : ℕ) (fy : S2x128x2048.Idx → Elt F .fp8e4m3) : Prop :=
  ∀ (i : S3072x2048.Idx) (j : S2x128x2048.Idx), (i 0).val = 128 * k + (j 1).val → (i 1).val = (j 2).val → (j 0).val = s → fy j = g i

def delY (g : S3072x2048.Idx → Elt F .fp8e4m3) (fy : S2x128x2048.Idx → Elt F .fp8e4m3) (s : Fin 2) (k : ℕ) : Fin 1 → sProp 𝕄 := fun _ =>
  iprop(pt c A4 (rowsY k) fullShare g ∗ pt c A11 (setY s) fullShare fy)

instance (g : S3072x2048.Idx → Elt F .fp8e4m3) (fy : S2x128x2048.Idx → Elt F .fp8e4m3) (s : Fin 2) (k : ℕ) (t : Fin 1) : Storable (upEmb : UEmb _ 𝕄) (delY c g fy s k t) := by
  unfold delY; infer_instance

@[irreducible] def NY : ℕ := (dstY ![0, 0] (by decide)).view.dmaCredit
theorem crY (off) (inb) : (dstY off inb).view.dmaCredit = NY := by unfold NY; rfl
theorem NY_pos : 0 < NY := by unfold NY; exact View.dmaCredit_pos _ (by decide)

def idleY (s : Fin 2) : sProp 𝕄 := iprop((∃ f, pt c A11 (setY s) fullShare f) ∗ semVal ((c : Thread nD τ), .dma (sY s)) 0)

def busyY (g : S3072x2048.Idx → Elt F .fp8e4m3) (s : Fin 2) (k : ℕ) : sProp 𝕄 :=
  iprop(∃ fy, Batch EC (c : Thread nD τ) (.dma (sY s)) () NY (delY c g fy s k) 1 0)

variable (g : S3072x2048.Idx → Elt F .fp8e4m3)

theorem hDY (s : Fin 2) (k : ℕ) {offd : Fin 2 → ℕ} {offs : Fin 3 → ℕ} (hd : offd = ![128 * k, 0]) (hs : offs = ![s.val, 0, 0])
    (inbd) (inbs) (fd : S3072x2048.Idx → Elt F .fp8e4m3) (fy : S2x128x2048.Idx → Elt F .fp8e4m3) (hg : HoldsY g s k fy) (t : Fin 1) :
    iprop(pt c A4 (rowsY k) fullShare ((dstY offd inbd).view.write (Elt F) fd ((srcY offs inbs).view.read (Elt F) fy) Finset.univ)
      ∗ pt c A11 (srcY offs inbs).view.set fullShare fy) ⊢ delY c g fy s k t := by
  rw [srcY_set hs inbs]
  unfold delY
  have h := pointsTo_congr (Ix := Unit) (Name := ℕ) (U := Pipeline.UD sig nD τ) (Lvl := ℕ) (ℓ := A4.view.loc (c : Thread nD τ)) (q := fullShare) (I := rowsY k) (landY hs hd inbd inbs fd g fy hg)
  unfold pt
  rw [h] <;> exact .rfl

theorem startY (s : Fin 2) (k : ℕ) {offd : Fin 2 → ℕ} {offs : Fin 3 → ℕ} {sm : DmaSem sig} (hsm : sm = sY s) (hd : offd = ![128 * k, 0])
    (hs : offs = ![s.val, 0, 0]) (inbd) (inbs) (fy : S2x128x2048.Idx → Elt F .fp8e4m3) (hg : HoldsY g s k fy) {h1 h2 h3} {Q : PUnit → sProp 𝕄} :
    iprop(pt c A11 (setY s) fullShare fy ∗ semVal ((c : Thread nD τ), .dma (sY s)) 0 ∗ (∃ f, pt c A4 (rowsY k) fullShare f))
      ⊢ iprop((busyY c g s k -∗ Q ⟨⟩) -∗ W c (Prog.lift (.enqueueDma (srcY offs inbs) (.here (dstY offd inbd)) (.dma sm) h1 h2 h3)) Q) := by
  subst hsm
  unfold busyY
  iintro ⟨H0, HS, %fd, HD⟩ K
  iapply fupd_wp
  imod (batch_alloc' EC (c : Thread nD τ) () NY (delY c g fy s k) (sm := .dma (sY s))) $$ HS with HB
  imodintro
  iapply (wp_dmaBatch EC Variants.none (c : Thread nD τ) none () NY (src := srcY offs inbs) (dst := dstY offd inbd) (sm := .dma (sY s)) (via := ReadAs.same) (Sd := rowsY k) (q := fullShare) (fs := fy) (fd := fd)
    (D := delY c g fy s k) (j := 0) (u := 0) (k := fun x => .ret x) (crY _ _) (dstY_set hd inbd).subset (by decide) (Nat.zero_le _) (hDY c g s k hd hs inbd inbs fd fy hg _)) $$ [H0 HD HB]
  · isplitl [H0]
    · rw [srcY_set hs inbs]; iexact H0
    isplitl [HD]
    · iexact HD
    · iexact HB
  iintro HB
  simp only [wp_ret]
  imodintro
  iapply K
  iexists fy
  iexact HB

theorem waitY (s : Fin 2) (k : ℕ) {offd : Fin 2 → ℕ} {sm : DmaSem sig} (hsm : sm = sY s) (inbd) {srcw : Memref sig .tc .vmem S128x2048 .fp8e4m3} {h1 h2} {Q : PUnit → sProp 𝕄} :
    iprop(busyY c g s k ∗ OW c) ⊢ iprop((idleY c s ∗ pt c A4 (rowsY k) fullShare g ∗ OW c -∗ Q ⟨⟩) -∗ W c (Prog.lift (.waitDma2 sm srcw (dstY offd inbd) h1 h2)) Q) := by
  subst hsm
  unfold busyY idleY
  iintro ⟨⟨%fy, HB⟩, %Wd, HO⟩ K
  iapply (wp_waitBatchLast EC Variants.none (c : Thread nD τ) none () (dstw := dstY offd inbd) (srcw := srcw) (N := NY) (D := delY c g fy s k) (u := 0) (k := fun x => .ret x) (crY _ _) NY_pos (by omega)) $$ [HB HO]
  · isplitl [HB]
    · iexact HB
    · iexact HO
  rw [bigSep_univ_of_subsingleton 0]
  unfold delY
  iintro ⟨⟨HD, H0⟩, HS, HO⟩
  simp only [wp_ret]
  imodintro
  iapply K
  isplitl [H0 HS]
  · isplitl [H0]
    · iexists _; iexact H0
    · iexact HS
  isplitl [HD]
  · iexact HD
  · iexists _; iexact HO

end Cert.KernelIdeal.Hand
-- ==== Proof.Offs.lean ====
/-
  The loops' bounds and the offsets of the kernel's slices, as plain numbers.
-/
module

public import proofs.«01_k».proof.Proof.Gen.KernelIdeal.Skeleton
public import proofs.«01_k».proof.Proof.Words

@[expose] public section

set_option maxRecDepth 65536

namespace Cert.KernelIdeal.Hand

open Cert.KernelIdeal Cert.KernelIdeal.Gen Cert.Words
open Idealize.ShloMosaic Idealize.ShloMosaic.TcCoe

/-! ## The loops' bounds as numbers -/

theorem t2_trips {A : ℕ} (hA : A ≤ 13) : (k0_t2_loop (BitVec.ofNat 32 A)).trips = 8 * A := by
  simp (disch := omega) only [Scf.Loop.trips, k0_t2_loop, mul_nw, sub_nw, div_nw, add_nw, trips_nw]
  omega

theorem t3_loop_eq {d r1 : ℕ} (hd : d ≤ 48) (h1 : r1 ≤ 3072) : k0_t3_loop (BitVec.ofNat 32 d) (BitVec.ofNat 32 r1)
    = ⟨BitVec.ofNat 32 d, BitVec.ofNat 32 (max d ((r1 + 63) / 64)), 1#32⟩ := by
  have e : (r1 + 64 - 1) = r1 + 63 := by omega
  have e2 : d + (max d ((r1 + 63) / 64) - d) / 1 * 1 = max d ((r1 + 63) / 64) := by omega
  simp (disch := omega) only [k0_t3_loop, add_nw, sub_nw, div_nw, max_nw, mul_nw, e, e2]

theorem t4_loop_eq {d r1 : ℕ} (hd : d ≤ 48) (h1 : r1 ≤ 3072) : k0_t4_loop (BitVec.ofNat 32 d) (BitVec.ofNat 32 r1)
    = ⟨BitVec.ofNat 32 (max d ((r1 + 63) / 64)), BitVec.ofNat 32 (max d ((r1 + 63) / 64)), 1#32⟩ := by
  have e : (r1 + 64 - 1) = r1 + 63 := by omega
  have e2 : d + (max d ((r1 + 63) / 64) - d) / 1 * 1 = max d ((r1 + 63) / 64) := by omega
  have e3 : d + (max d ((r1 + 63) / 64) - d) = max d ((r1 + 63) / 64) := by omega
  simp (disch := omega) only [k0_t4_loop, add_nw, sub_nw, div_nw, max_nw, mul_nw, e, e2, e3]

/-- How many tiles of 128 rows, from the multiple of 32 at or below `r0`, reach `r1`. -/
def ntile (r0 r1 : ℕ) : ℕ := (r1 - r0 / 32 * 32 + 127) / 128

theorem t5_loop_eq {r0 r1 : ℕ} (h01 : r0 ≤ r1) (h1 : r1 ≤ 3072) : k0_t5_loop (BitVec.ofNat 32 r0) (BitVec.ofNat 32 r1)
    = ⟨BitVec.ofNat 32 0, BitVec.ofNat 32 (ntile r0 r1), 1#32⟩ := by
  have e : (r1 - r0 / 32 * 32 + 128 - 1) = r1 - r0 / 32 * 32 + 127 := by omega
  have e2 : 0 + ((r1 - r0 / 32 * 32 + 127) / 128 - 0) / 1 * 1 = ntile r0 r1 := by unfold ntile; omega
  simp (disch := omega) only [k0_t5_loop, add_nw, sub_nw, div_nw, mul_nw, e, e2]

theorem t6_loop_eq {r0 r1 : ℕ} (h01 : r0 ≤ r1) (h1 : r1 ≤ 3072) : k0_t6_loop (BitVec.ofNat 32 r0) (BitVec.ofNat 32 r1)
    = ⟨BitVec.ofNat 32 (ntile r0 r1), BitVec.ofNat 32 (ntile r0 r1), 1#32⟩ := by
  have e : (r1 - r0 / 32 * 32 + 128 - 1) = r1 - r0 / 32 * 32 + 127 := by omega
  have e2 : 0 + ((r1 - r0 / 32 * 32 + 127) / 128 - 0) / 1 * 1 = ntile r0 r1 := by unfold ntile; omega
  have e3 : 0 + ((r1 - r0 / 32 * 32 + 127) / 128 - 0) = ntile r0 r1 := by unfold ntile; omega
  simp (disch := omega) only [k0_t6_loop, add_nw, sub_nw, div_nw, mul_nw, e, e2, e3]

theorem t3_trips {d r1 : ℕ} (hd : d ≤ 48) (h1 : r1 ≤ 3072) : (k0_t3_loop (BitVec.ofNat 32 d) (BitVec.ofNat 32 r1)).trips = max d ((r1 + 63) / 64) - d := by
  rw [t3_loop_eq hd h1]; exact trips_nw (by omega) (by omega)

theorem t4_trips {d r1 : ℕ} (hd : d ≤ 48) (h1 : r1 ≤ 3072) : (k0_t4_loop (BitVec.ofNat 32 d) (BitVec.ofNat 32 r1)).trips = 0 := by
  rw [t4_loop_eq hd h1]; exact (trips_nw (by omega) (by omega)).trans (Nat.sub_self _)

theorem t5_trips {r0 r1 : ℕ} (h01 : r0 ≤ r1) (h1 : r1 ≤ 3072) : (k0_t5_loop (BitVec.ofNat 32 r0) (BitVec.ofNat 32 r1)).trips = ntile r0 r1 := by
  rw [t5_loop_eq h01 h1]; exact trips_nw (by omega) (by unfold ntile; omega)

theorem t6_trips {r0 r1 : ℕ} (h01 : r0 ≤ r1) (h1 : r1 ≤ 3072) : (k0_t6_loop (BitVec.ofNat 32 r0) (BitVec.ofNat 32 r1)).trips = 0 := by
  rw [t6_loop_eq h01 h1]; exact (trips_nw (by unfold ntile; omega) (by unfold ntile; omega)).trans (Nat.sub_self _)

theorem ok_nw {a b : ℕ} (ha : a < 2 ^ 30) (hb : b < 2 ^ 30) : Scf.OK (BitVec.ofNat 32 a) (BitVec.ofNat 32 b) 1#32 := by
  unfold Scf.OK
  have h1 : (1#32 : BitVec 32).toInt = 1 := by decide
  rw [trips_nw (by omega) (by omega), toInt_nw (n := a) (by omega), h1]
  refine ⟨by omega, ?_⟩
  have : ((b - a : ℕ) : ℤ) ≤ b := by omega
  norm_num; omega

theorem t3_ok {d r1 : ℕ} (hd : d ≤ 48) (h1 : r1 ≤ 3072) : (k0_t3_loop (BitVec.ofNat 32 d) (BitVec.ofNat 32 r1)).OK := by
  rw [t3_loop_eq hd h1]; exact ok_nw (by omega) (by omega)
theorem t4_ok {d r1 : ℕ} (hd : d ≤ 48) (h1 : r1 ≤ 3072) : (k0_t4_loop (BitVec.ofNat 32 d) (BitVec.ofNat 32 r1)).OK := by
  rw [t4_loop_eq hd h1]; exact ok_nw (by omega) (by omega)
theorem t5_ok {r0 r1 : ℕ} (h01 : r0 ≤ r1) (h1 : r1 ≤ 3072) : (k0_t5_loop (BitVec.ofNat 32 r0) (BitVec.ofNat 32 r1)).OK := by
  rw [t5_loop_eq h01 h1]; exact ok_nw (by omega) (by unfold ntile; omega)
theorem t6_ok {r0 r1 : ℕ} (h01 : r0 ≤ r1) (h1 : r1 ≤ 3072) : (k0_t6_loop (BitVec.ofNat 32 r0) (BitVec.ofNat 32 r1)).OK := by
  rw [t6_loop_eq h01 h1]; exact ok_nw (by unfold ntile; omega) (by unfold ntile; omega)

/-! ## The induction variables and the words computed from them -/

theorem v1e {a a' : ℕ} (h : a = a') : (![a] : Fin 1 → ℕ) = ![a'] := by rw [h]
theorem v2e {a a' b b' : ℕ} (h : a = a') (h2 : b = b') : (![a, b] : Fin 2 → ℕ) = ![a', b'] := by rw [h, h2]
theorem v3e {a a' b b' c c' : ℕ} (h : a = a') (h2 : b = b') (h3 : c = c') : (![a, b, c] : Fin 3 → ℕ) = ![a', b', c'] := by rw [h, h2, h3]
theorem v4e {a a' b b' c c' d d' : ℕ} (h : a = a') (h2 : b = b') (h3 : c = c') (h4 : d = d') : (![a, b, c, d] : Fin 4 → ℕ) = ![a', b', c', d'] := by
  rw [h, h2, h3, h4]

theorem ic_nw (n : ℕ) : Scalar.indexCast (BitVec.ofNat 32 n) = BitVec.ofNat 32 n := rfl

theorem iv0_nw (k : ℕ) : Scf.iv 0#32 1#32 k = BitVec.ofNat 32 k := (iv_nw 0 k).trans (by rw [Nat.zero_add])

/-! ## Slices of the quantiser loop: chunk `d + t` -/

theorem t3_lt {d r1 : ℕ} (hd : d ≤ 48) (h1 : r1 ≤ 3072) (t : Fin (k0_t3_loop (BitVec.ofNat 32 d) (BitVec.ofNat 32 r1)).trips) : d + t.val < 48 := by
  have ht := t.isLt.trans_eq (t3_trips hd h1)
  omega

theorem off19_eq {d r1 : ℕ} (hd : d ≤ 48) (h1 : r1 ≤ 3072) (t : Fin (k0_t3_loop (BitVec.ofNat 32 d) (BitVec.ofNat 32 r1)).trips) :
    k0_off19 (BitVec.ofNat 32 d) (BitVec.ofNat 32 r1) t = ![(d + t.val) % 2] := by
  have ht := t.isLt.trans_eq (t3_trips hd h1)
  simp (disch := omega) only [k0_off19, iv0_nw, iv_nw, Nat.zero_add, mul_nw, add_nw, sub_nw, div_nw, rem_nw, min_nw, max_nw, ic_nw, toNat_nw] <;>
  first
  | rfl
  | (apply v1e <;> first | rfl | omega)

theorem off20_eq {d r1 : ℕ} (hd : d ≤ 48) (h1 : r1 ≤ 3072) (t : Fin (k0_t3_loop (BitVec.ofNat 32 d) (BitVec.ofNat 32 r1)).trips) :
    k0_off20 (BitVec.ofNat 32 d) (BitVec.ofNat 32 r1) t = ![(d + t.val) % 2, 0, 0] := by
  have ht := t.isLt.trans_eq (t3_trips hd h1)
  simp (disch := omega) only [k0_off20, iv0_nw, iv_nw, Nat.zero_add, mul_nw, add_nw, sub_nw, div_nw, rem_nw, min_nw, max_nw, ic_nw, toNat_nw] <;>
  first
  | rfl
  | (apply v3e <;> first | rfl | omega)

theorem off21_eq {d r1 : ℕ} (hd : d ≤ 48) (h1 : r1 ≤ 3072) (t : Fin (k0_t3_loop (BitVec.ofNat 32 d) (BitVec.ofNat 32 r1)).trips) :
    k0_off21 (BitVec.ofNat 32 d) (BitVec.ofNat 32 r1) t = ![64 * (d + t.val), 0] := by
  have ht := t.isLt.trans_eq (t3_trips hd h1)
  simp (disch := omega) only [k0_off21, iv0_nw, iv_nw, Nat.zero_add, mul_nw, add_nw, sub_nw, div_nw, rem_nw, min_nw, max_nw, ic_nw, toNat_nw] <;>
  first
  | rfl
  | (apply v2e <;> first | rfl | omega)

theorem off22_eq {d r1 : ℕ} (hd : d ≤ 48) (h1 : r1 ≤ 3072) (t : Fin (k0_t3_loop (BitVec.ofNat 32 d) (BitVec.ofNat 32 r1)).trips) :
    k0_off22 (BitVec.ofNat 32 d) (BitVec.ofNat 32 r1) t = ![(d + t.val) % 2, 0, 0] := by
  have ht := t.isLt.trans_eq (t3_trips hd h1)
  simp (disch := omega) only [k0_off22, iv0_nw, iv_nw, Nat.zero_add, mul_nw, add_nw, sub_nw, div_nw, rem_nw, min_nw, max_nw, ic_nw, toNat_nw] <;>
  first
  | rfl
  | (apply v3e <;> first | rfl | omega)

theorem off23_eq {d r1 : ℕ} (hd : d ≤ 48) (h1 : r1 ≤ 3072) (t : Fin (k0_t3_loop (BitVec.ofNat 32 d) (BitVec.ofNat 32 r1)).trips) :
    k0_off23 (BitVec.ofNat 32 d) (BitVec.ofNat 32 r1) t = ![64 * (d + t.val), 0] := by
  have ht := t.isLt.trans_eq (t3_trips hd h1)
  simp (disch := omega) only [k0_off23, iv0_nw, iv_nw, Nat.zero_add, mul_nw, add_nw, sub_nw, div_nw, rem_nw, min_nw, max_nw, ic_nw, toNat_nw] <;>
  first
  | rfl
  | (apply v2e <;> first | rfl | omega)

theorem off24_eq {d r1 : ℕ} (hd : d ≤ 48) (h1 : r1 ≤ 3072) (t : Fin (k0_t3_loop (BitVec.ofNat 32 d) (BitVec.ofNat 32 r1)).trips) :
    k0_off24 (BitVec.ofNat 32 d) (BitVec.ofNat 32 r1) t = ![64 * (d + t.val), 0] := by
  have ht := t.isLt.trans_eq (t3_trips hd h1)
  simp (disch := omega) only [k0_off24, iv0_nw, iv_nw, Nat.zero_add, mul_nw, add_nw, sub_nw, div_nw, rem_nw, min_nw, max_nw, ic_nw, toNat_nw] <;>
  first
  | rfl
  | (apply v2e <;> first | rfl | omega)

theorem off25_eq {d r1 : ℕ} (hd : d ≤ 48) (h1 : r1 ≤ 3072) (t : Fin (k0_t3_loop (BitVec.ofNat 32 d) (BitVec.ofNat 32 r1)).trips) :
    k0_off25 (BitVec.ofNat 32 d) (BitVec.ofNat 32 r1) t = ![(d + t.val) % 2] := by
  have ht := t.isLt.trans_eq (t3_trips hd h1)
  simp (disch := omega) only [k0_off25, iv0_nw, iv_nw, Nat.zero_add, mul_nw, add_nw, sub_nw, div_nw, rem_nw, min_nw, max_nw, ic_nw, toNat_nw] <;>
  first
  | rfl
  | (apply v1e <;> first | rfl | omega)

theorem off26_eq {d r1 : ℕ} (hd : d ≤ 48) (h1 : r1 ≤ 3072) (t : Fin (k0_t3_loop (BitVec.ofNat 32 d) (BitVec.ofNat 32 r1)).trips) :
    k0_off26 (BitVec.ofNat 32 d) (BitVec.ofNat 32 r1) t = ![(d + t.val) % 2, 0, 0] := by
  have ht := t.isLt.trans_eq (t3_trips hd h1)
  simp (disch := omega) only [k0_off26, iv0_nw, iv_nw, Nat.zero_add, mul_nw, add_nw, sub_nw, div_nw, rem_nw, min_nw, max_nw, ic_nw, toNat_nw] <;>
  first
  | rfl
  | (apply v3e <;> first | rfl | omega)

theorem off27_eq {d r1 : ℕ} (hd : d ≤ 48) (h1 : r1 ≤ 3072) (t : Fin (k0_t3_loop (BitVec.ofNat 32 d) (BitVec.ofNat 32 r1)).trips) :
    k0_off27 (BitVec.ofNat 32 d) (BitVec.ofNat 32 r1) t = ![64 * (d + t.val + 2), 0] := by
  have ht := t.isLt.trans_eq (t3_trips hd h1)
  simp (disch := omega) only [k0_off27, iv0_nw, iv_nw, Nat.zero_add, mul_nw, add_nw, sub_nw, div_nw, rem_nw, min_nw, max_nw, ic_nw, toNat_nw] <;>
  first
  | rfl
  | (apply v2e <;> first | rfl | omega)

theorem mult7_eq {d r1 : ℕ} (hd : d ≤ 48) (h1 : r1 ≤ 3072) (t : Fin (k0_t3_loop (BitVec.ofNat 32 d) (BitVec.ofNat 32 r1)).trips) : (k0_mult7 (BitVec.ofNat 32 d) (BitVec.ofNat 32 r1) t).toNat = 64 * (d + t.val) := by
  have ht := t.isLt.trans_eq (t3_trips hd h1)
  simp (disch := omega) only [k0_mult7, iv0_nw, iv_nw, Nat.zero_add, mul_nw, add_nw, sub_nw, div_nw, rem_nw, min_nw, max_nw, ic_nw, toNat_nw]
  omega

theorem mult8_eq {d r1 : ℕ} (hd : d ≤ 48) (h1 : r1 ≤ 3072) (t : Fin (k0_t3_loop (BitVec.ofNat 32 d) (BitVec.ofNat 32 r1)).trips) : (k0_mult8 (BitVec.ofNat 32 d) (BitVec.ofNat 32 r1) t).toNat = 64 * (d + t.val) := by
  have ht := t.isLt.trans_eq (t3_trips hd h1)
  simp (disch := omega) only [k0_mult8, iv0_nw, iv_nw, Nat.zero_add, mul_nw, add_nw, sub_nw, div_nw, rem_nw, min_nw, max_nw, ic_nw, toNat_nw]
  omega

theorem mult9_eq {d r1 : ℕ} (hd : d ≤ 48) (h1 : r1 ≤ 3072) (t : Fin (k0_t3_loop (BitVec.ofNat 32 d) (BitVec.ofNat 32 r1)).trips) : (k0_mult9 (BitVec.ofNat 32 d) (BitVec.ofNat 32 r1) t).toNat = 64 * (d + t.val + 2) := by
  have ht := t.isLt.trans_eq (t3_trips hd h1)
  simp (disch := omega) only [k0_mult9, iv0_nw, iv_nw, Nat.zero_add, mul_nw, add_nw, sub_nw, div_nw, rem_nw, min_nw, max_nw, ic_nw, toNat_nw]
  omega

theorem cond4_iff {d r1 : ℕ} (hd : d ≤ 48) (h1 : r1 ≤ 3072) (t : Fin (k0_t3_loop (BitVec.ofNat 32 d) (BitVec.ofNat 32 r1)).trips) : k0_cond4 (BitVec.ofNat 32 d) (BitVec.ofNat 32 r1) t = 1#1 ↔ d + t.val + 2 < 48 := by
  have ht := t.isLt.trans_eq (t3_trips hd h1)
  unfold k0_cond4
  simp (disch := omega) only [iv_nw, add_nw, ext_ne, slt_nw]

/-! ## Slices of the tile loop -/

/-- The first row of tile `j` of the rows from `r0`. -/
def trow (r0 j : ℕ) : ℕ := min (r0 / 32 * 32 + j * 128) 2944

theorem t5_lt {r0 r1 : ℕ} (h01 : r0 ≤ r1) (h1 : r1 ≤ 3072) (t : Fin (k0_t5_loop (BitVec.ofNat 32 r0) (BitVec.ofNat 32 r1)).trips) : t.val < ntile r0 r1 := t.isLt.trans_eq (t5_trips h01 h1)

theorem off49_eq {r0 r1 : ℕ} (h01 : r0 ≤ r1) (h1 : r1 ≤ 3072) (t : Fin (k0_t5_loop (BitVec.ofNat 32 r0) (BitVec.ofNat 32 r1)).trips) :
    k0_off49 (BitVec.ofNat 32 r0) (BitVec.ofNat 32 r1) t = ![trow r0 t.val, 0] := by
  have ht := t.isLt.trans_eq (t5_trips h01 h1)
  unfold ntile at ht
  unfold trow
  simp (disch := omega) only [k0_off49, iv0_nw, iv_nw, Nat.zero_add, mul_nw, add_nw, sub_nw, div_nw, rem_nw, min_nw, max_nw, ic_nw, toNat_nw] <;>
  first
  | rfl
  | (apply v2e <;> first | rfl | omega)

theorem off52_eq {r0 r1 : ℕ} (h01 : r0 ≤ r1) (h1 : r1 ≤ 3072) (t : Fin (k0_t5_loop (BitVec.ofNat 32 r0) (BitVec.ofNat 32 r1)).trips) :
    k0_off52 (BitVec.ofNat 32 r0) (BitVec.ofNat 32 r1) t = ![trow r0 t.val, 0] := by
  have ht := t.isLt.trans_eq (t5_trips h01 h1)
  unfold ntile at ht
  unfold trow
  simp (disch := omega) only [k0_off52, iv0_nw, iv_nw, Nat.zero_add, mul_nw, add_nw, sub_nw, div_nw, rem_nw, min_nw, max_nw, ic_nw, toNat_nw] <;>
  first
  | rfl
  | (apply v2e <;> first | rfl | omega)

theorem mult19_eq {r0 r1 : ℕ} (h01 : r0 ≤ r1) (h1 : r1 ≤ 3072) (t : Fin (k0_t5_loop (BitVec.ofNat 32 r0) (BitVec.ofNat 32 r1)).trips) : (k0_mult19 (BitVec.ofNat 32 r0) (BitVec.ofNat 32 r1) t).toNat = trow r0 t.val := by
  have ht := t.isLt.trans_eq (t5_trips h01 h1)
  unfold ntile at ht
  unfold trow
  simp (disch := omega) only [k0_mult19, iv0_nw, iv_nw, Nat.zero_add, mul_nw, add_nw, sub_nw, div_nw, rem_nw, min_nw, max_nw, ic_nw, toNat_nw]

/-! ## Slices of the item loop -/

theorem t2_lt {A : ℕ} (hA0 : 0 < A) (hA : A ≤ 13) (t : Fin (k0_t2_loop (BitVec.ofNat 32 A)).trips) : t.val < 8 * A := t.isLt.trans_eq (t2_trips hA)

theorem off16_eq {A : ℕ} (hA0 : 0 < A) (hA : A ≤ 13) (t : Fin (k0_t2_loop (BitVec.ofNat 32 A)).trips) :
    k0_off16 (BitVec.ofNat 32 A) t = ![t.val % A] := by
  have ht := t.isLt.trans_eq (t2_trips hA)
  have hq := Nat.div_le_self t.val A
  have hr := Nat.mod_lt t.val hA0
  simp (disch := omega) only [k0_off16, iv0_nw, iv_nw, Nat.zero_add, mul_nw, add_nw, sub_nw, div_nw, rem_nw, min_nw, max_nw, ic_nw, toNat_nw] <;>
  first
  | rfl
  | (apply v1e <;> first | rfl | omega)

theorem off43_eq {A : ℕ} (hA0 : 0 < A) (hA : A ≤ 13) (t : Fin (k0_t2_loop (BitVec.ofNat 32 A)).trips) :
    k0_off43 (BitVec.ofNat 32 A) t = ![t.val % 3] := by
  have ht := t.isLt.trans_eq (t2_trips hA)
  have hq := Nat.div_le_self t.val A
  have hr := Nat.mod_lt t.val hA0
  simp (disch := omega) only [k0_off43, iv0_nw, iv_nw, Nat.zero_add, mul_nw, add_nw, sub_nw, div_nw, rem_nw, min_nw, max_nw, ic_nw, toNat_nw] <;>
  first
  | rfl
  | (apply v1e <;> first | rfl | omega)

theorem off44_eq {A : ℕ} (hA0 : 0 < A) (hA : A ≤ 13) (t : Fin (k0_t2_loop (BitVec.ofNat 32 A)).trips) :
    k0_off44 (BitVec.ofNat 32 A) t = ![t.val % 3, 0, 0, 0] := by
  have ht := t.isLt.trans_eq (t2_trips hA)
  have hq := Nat.div_le_self t.val A
  have hr := Nat.mod_lt t.val hA0
  simp (disch := omega) only [k0_off44, iv0_nw, iv_nw, Nat.zero_add, mul_nw, add_nw, sub_nw, div_nw, rem_nw, min_nw, max_nw, ic_nw, toNat_nw] <;>
  first
  | rfl
  | (apply v4e <;> first | rfl | omega)

theorem off46_eq {A : ℕ} (hA0 : 0 < A) (hA : A ≤ 13) (t : Fin (k0_t2_loop (BitVec.ofNat 32 A)).trips) :
    k0_off46 (BitVec.ofNat 32 A) t = ![t.val % 3, 1, 0, 0] := by
  have ht := t.isLt.trans_eq (t2_trips hA)
  have hq := Nat.div_le_self t.val A
  have hr := Nat.mod_lt t.val hA0
  simp (disch := omega) only [k0_off46, iv0_nw, iv_nw, Nat.zero_add, mul_nw, add_nw, sub_nw, div_nw, rem_nw, min_nw, max_nw, ic_nw, toNat_nw] <;>
  first
  | rfl
  | (apply v4e <;> first | rfl | omega)

theorem off50_eq {A : ℕ} (hA0 : 0 < A) (hA : A ≤ 13) (t : Fin (k0_t2_loop (BitVec.ofNat 32 A)).trips) :
    k0_off50 (BitVec.ofNat 32 A) t = ![t.val % 3, 0, 0, 0] := by
  have ht := t.isLt.trans_eq (t2_trips hA)
  have hq := Nat.div_le_self t.val A
  have hr := Nat.mod_lt t.val hA0
  simp (disch := omega) only [k0_off50, iv0_nw, iv_nw, Nat.zero_add, mul_nw, add_nw, sub_nw, div_nw, rem_nw, min_nw, max_nw, ic_nw, toNat_nw] <;>
  first
  | rfl
  | (apply v4e <;> first | rfl | omega)

theorem off51_eq {A : ℕ} (hA0 : 0 < A) (hA : A ≤ 13) (t : Fin (k0_t2_loop (BitVec.ofNat 32 A)).trips) :
    k0_off51 (BitVec.ofNat 32 A) t = ![t.val % 3, 1, 0, 0] := by
  have ht := t.isLt.trans_eq (t2_trips hA)
  have hq := Nat.div_le_self t.val A
  have hr := Nat.mod_lt t.val hA0
  simp (disch := omega) only [k0_off51, iv0_nw, iv_nw, Nat.zero_add, mul_nw, add_nw, sub_nw, div_nw, rem_nw, min_nw, max_nw, ic_nw, toNat_nw] <;>
  first
  | rfl
  | (apply v4e <;> first | rfl | omega)

theorem add3 (n : ℕ) : n + 3 - 1 = n + 2 := by omega

theorem off37_eq {A : ℕ} (hA0 : 0 < A) (hA : A ≤ 13) (t : Fin (k0_t2_loop (BitVec.ofNat 32 A)).trips) :
    k0_off37 (BitVec.ofNat 32 A) t = ![(t.val + 2) % A] := by
  have ht := t.isLt.trans_eq (t2_trips hA)
  have hq := Nat.div_le_self (t.val + 2) A
  have hr := Nat.mod_lt (t.val + 2) hA0
  simp (disch := omega) only [k0_off37, iv0_nw, iv_nw, Nat.zero_add, mul_nw, add_nw, sub_nw, add3, div_nw, rem_nw, min_nw, max_nw, ic_nw, toNat_nw] <;>
  first
  | rfl
  | (apply v1e <;> first | rfl | omega)

theorem off38_eq {A : ℕ} (hA0 : 0 < A) (hA : A ≤ 13) (t : Fin (k0_t2_loop (BitVec.ofNat 32 A)).trips) :
    k0_off38 (BitVec.ofNat 32 A) t = ![(t.val + 2) % 3] := by
  have ht := t.isLt.trans_eq (t2_trips hA)
  have hq := Nat.div_le_self (t.val + 2) A
  have hr := Nat.mod_lt (t.val + 2) hA0
  simp (disch := omega) only [k0_off38, iv0_nw, iv_nw, Nat.zero_add, mul_nw, add_nw, sub_nw, add3, div_nw, rem_nw, min_nw, max_nw, ic_nw, toNat_nw] <;>
  first
  | rfl
  | (apply v1e <;> first | rfl | omega)

theorem off39_eq {A : ℕ} (hA0 : 0 < A) (hA : A ≤ 13) (t : Fin (k0_t2_loop (BitVec.ofNat 32 A)).trips) :
    k0_off39 (BitVec.ofNat 32 A) t = ![(t.val + 2) % 3, 0, 0, 0] := by
  have ht := t.isLt.trans_eq (t2_trips hA)
  have hq := Nat.div_le_self (t.val + 2) A
  have hr := Nat.mod_lt (t.val + 2) hA0
  simp (disch := omega) only [k0_off39, iv0_nw, iv_nw, Nat.zero_add, mul_nw, add_nw, sub_nw, add3, div_nw, rem_nw, min_nw, max_nw, ic_nw, toNat_nw] <;>
  first
  | rfl
  | (apply v4e <;> first | rfl | omega)

theorem off41_eq {A : ℕ} (hA0 : 0 < A) (hA : A ≤ 13) (t : Fin (k0_t2_loop (BitVec.ofNat 32 A)).trips) :
    k0_off41 (BitVec.ofNat 32 A) t = ![(t.val + 2) % 3] := by
  have ht := t.isLt.trans_eq (t2_trips hA)
  have hq := Nat.div_le_self (t.val + 2) A
  have hr := Nat.mod_lt (t.val + 2) hA0
  simp (disch := omega) only [k0_off41, iv0_nw, iv_nw, Nat.zero_add, mul_nw, add_nw, sub_nw, add3, div_nw, rem_nw, min_nw, max_nw, ic_nw, toNat_nw] <;>
  first
  | rfl
  | (apply v1e <;> first | rfl | omega)

theorem off42_eq {A : ℕ} (hA0 : 0 < A) (hA : A ≤ 13) (t : Fin (k0_t2_loop (BitVec.ofNat 32 A)).trips) :
    k0_off42 (BitVec.ofNat 32 A) t = ![(t.val + 2) % 3, 1, 0, 0] := by
  have ht := t.isLt.trans_eq (t2_trips hA)
  have hq := Nat.div_le_self (t.val + 2) A
  have hr := Nat.mod_lt (t.val + 2) hA0
  simp (disch := omega) only [k0_off42, iv0_nw, iv_nw, Nat.zero_add, mul_nw, add_nw, sub_nw, add3, div_nw, rem_nw, min_nw, max_nw, ic_nw, toNat_nw] <;>
  first
  | rfl
  | (apply v4e <;> first | rfl | omega)

theorem off40_eq {A : ℕ} (hA0 : 0 < A) (hA : A ≤ 13) (t : Fin (k0_t2_loop (BitVec.ofNat 32 A)).trips) {e : ℕ} (he : e < 13) (b : Fin 2) :
    k0_off40 (BitVec.ofNat 32 A) t (BitVec.ofNat 32 e) (BitVec.ofNat 32 (b.val * 2048)) = ![e, 0, b.val * 2048 + 256 * ((t.val + 2) / A)] := by
  have ht := t.isLt.trans_eq (t2_trips hA)
  have hq := Nat.div_le_self (t.val + 2) A
  have hr := Nat.mod_lt (t.val + 2) hA0
  have hb := b.isLt
  simp (disch := omega) only [k0_off40, iv0_nw, iv_nw, Nat.zero_add, mul_nw, add_nw, sub_nw, add3, div_nw, rem_nw, min_nw, max_nw, ic_nw, toNat_nw] <;>
  first
  | rfl
  | (apply v3e <;> first | rfl | omega)

theorem off45_eq {A : ℕ} (hA0 : 0 < A) (hA : A ≤ 13) (t : Fin (k0_t2_loop (BitVec.ofNat 32 A)).trips) {e : ℕ} (he : e < 13) (b : Fin 2) :
    k0_off45 (BitVec.ofNat 32 A) t (BitVec.ofNat 32 e) (BitVec.ofNat 32 (b.val * 2048)) = ![e, 0, b.val * 2048 + 256 * (t.val / A)] := by
  have ht := t.isLt.trans_eq (t2_trips hA)
  have hq := Nat.div_le_self t.val A
  have hr := Nat.mod_lt t.val hA0
  have hb := b.isLt
  simp (disch := omega) only [k0_off45, iv0_nw, iv_nw, Nat.zero_add, mul_nw, add_nw, sub_nw, div_nw, rem_nw, min_nw, max_nw, ic_nw, toNat_nw] <;>
  first
  | rfl
  | (apply v3e <;> first | rfl | omega)

theorem off47_eq {A : ℕ} (hA0 : 0 < A) (hA : A ≤ 13) (t : Fin (k0_t2_loop (BitVec.ofNat 32 A)).trips) {e : ℕ} (he : e < 13) :
    k0_off47 (BitVec.ofNat 32 A) t (BitVec.ofNat 32 e) = ![e, 256 * (t.val / A)] := by
  have ht := t.isLt.trans_eq (t2_trips hA)
  have hq := Nat.div_le_self t.val A
  have hr := Nat.mod_lt t.val hA0
  simp (disch := omega) only [k0_off47, iv0_nw, iv_nw, Nat.zero_add, mul_nw, add_nw, sub_nw, div_nw, rem_nw, min_nw, max_nw, ic_nw, toNat_nw] <;>
  first
  | rfl
  | (apply v2e <;> first | rfl | omega)

theorem off48_eq {A : ℕ} (hA0 : 0 < A) (hA : A ≤ 13) (t : Fin (k0_t2_loop (BitVec.ofNat 32 A)).trips) {e : ℕ} (he : e < 13) :
    k0_off48 (BitVec.ofNat 32 A) t (BitVec.ofNat 32 e) = ![e, 2048 + 256 * (t.val / A)] := by
  have ht := t.isLt.trans_eq (t2_trips hA)
  have hq := Nat.div_le_self t.val A
  have hr := Nat.mod_lt t.val hA0
  simp (disch := omega) only [k0_off48, iv0_nw, iv_nw, Nat.zero_add, mul_nw, add_nw, sub_nw, div_nw, rem_nw, min_nw, max_nw, ic_nw, toNat_nw] <;>
  first
  | rfl
  | (apply v2e <;> first | rfl | omega)

theorem off17_eq {e : ℕ} (he : e < 13) :
    k0_off17 (BitVec.ofNat 32 e) = ![e] := by
  simp (disch := omega) only [k0_off17, iv0_nw, iv_nw, Nat.zero_add, mul_nw, add_nw, sub_nw, div_nw, rem_nw, min_nw, max_nw, ic_nw, toNat_nw] <;>
  first
  | rfl
  | (apply v1e <;> first | rfl | omega)

theorem off18_eq {e : ℕ} (he : e < 13) :
    k0_off18 (BitVec.ofNat 32 e) = ![e + 1] := by
  simp (disch := omega) only [k0_off18, iv0_nw, iv_nw, Nat.zero_add, mul_nw, add_nw, sub_nw, div_nw, rem_nw, min_nw, max_nw, ic_nw, toNat_nw] <;>
  first
  | rfl
  | (apply v1e <;> first | rfl | omega)

theorem cond6_iff {A : ℕ} (hA0 : 0 < A) (hA : A ≤ 13) (t : Fin (k0_t2_loop (BitVec.ofNat 32 A)).trips) : k0_cond6 (BitVec.ofNat 32 A) t = 1#1 ↔ t.val + 2 < 8 * A := by
  have ht := t.isLt.trans_eq (t2_trips hA)
  unfold k0_cond6
  simp (disch := omega) only [iv0_nw, add_nw, sub_nw, mul_nw, ext_ne, slt_nw]
  omega

theorem off53_eq {A : ℕ} (hA0 : 0 < A) (hA : A ≤ 13) (t : Fin (k0_t2_loop (BitVec.ofNat 32 A)).trips) {r0 r1 : ℕ} (h01 : r0 ≤ r1) (h1 : r1 ≤ 3072) (u : Fin (k0_t5_loop (BitVec.ofNat 32 r0) (BitVec.ofNat 32 r1)).trips) :
    k0_off53 (BitVec.ofNat 32 A) t (BitVec.ofNat 32 r0) (BitVec.ofNat 32 r1) u = ![min (r0 / 32 * 32 + u.val * 128) 2944, 256 * (t.val / A)] := by
  have hu := u.isLt.trans_eq (t5_trips h01 h1)
  unfold ntile at hu
  have ht := t.isLt.trans_eq (t2_trips hA)
  have hq := Nat.div_le_self t.val A
  have hr := Nat.mod_lt t.val hA0
  simp (disch := omega) only [k0_off53, iv0_nw, iv_nw, Nat.zero_add, mul_nw, add_nw, sub_nw, div_nw, rem_nw, min_nw, max_nw, ic_nw, toNat_nw] <;>
  first
  | rfl
  | (apply v2e <;> first | rfl | omega)

/-! ## Slices of the first two items' starts -/

theorem off4_eq {A : ℕ} (hA0 : 0 < A) (hA : A ≤ 13) :
    k0_off4 (BitVec.ofNat 32 A) = ![0 % A] := by
  have hq := Nat.div_le_self 1 A
  have hr := Nat.mod_lt 1 hA0
  have hq0 := Nat.div_le_self 0 A
  have hr0 := Nat.mod_lt 0 hA0
  simp (disch := omega) only [k0_off4, iv0_nw, iv_nw, Nat.zero_add, mul_nw, add_nw, sub_nw, div_nw, rem_nw, min_nw, max_nw, ic_nw, toNat_nw] <;>
  first
  | rfl
  | (apply v1e <;> first | rfl | omega)

theorem off10_eq {A : ℕ} (hA0 : 0 < A) (hA : A ≤ 13) :
    k0_off10 (BitVec.ofNat 32 A) = ![1 % A] := by
  have hq := Nat.div_le_self 1 A
  have hr := Nat.mod_lt 1 hA0
  have hq0 := Nat.div_le_self 0 A
  have hr0 := Nat.mod_lt 0 hA0
  simp (disch := omega) only [k0_off10, iv0_nw, iv_nw, Nat.zero_add, mul_nw, add_nw, sub_nw, div_nw, rem_nw, min_nw, max_nw, ic_nw, toNat_nw] <;>
  first
  | rfl
  | (apply v1e <;> first | rfl | omega)

theorem off7_eq {A : ℕ} (hA0 : 0 < A) (hA : A ≤ 13) {e : ℕ} (he : e < 13) (b : Fin 2) :
    k0_off7 (BitVec.ofNat 32 A) (BitVec.ofNat 32 e) (BitVec.ofNat 32 (b.val * 2048)) = ![e, 0, b.val * 2048 + 256 * (0 / A)] := by
  have hq := Nat.div_le_self 1 A
  have hr := Nat.mod_lt 1 hA0
  have hq0 := Nat.div_le_self 0 A
  have hr0 := Nat.mod_lt 0 hA0
  have hb := b.isLt
  simp (disch := omega) only [k0_off7, iv0_nw, iv_nw, Nat.zero_add, mul_nw, add_nw, sub_nw, div_nw, rem_nw, min_nw, max_nw, ic_nw, toNat_nw] <;>
  first
  | rfl
  | (apply v3e <;> first | rfl | omega)

theorem off13_eq {A : ℕ} (hA0 : 0 < A) (hA : A ≤ 13) {e : ℕ} (he : e < 13) (b : Fin 2) :
    k0_off13 (BitVec.ofNat 32 A) (BitVec.ofNat 32 e) (BitVec.ofNat 32 (b.val * 2048)) = ![e, 0, b.val * 2048 + 256 * (1 / A)] := by
  have hq := Nat.div_le_self 1 A
  have hr := Nat.mod_lt 1 hA0
  have hq0 := Nat.div_le_self 0 A
  have hr0 := Nat.mod_lt 0 hA0
  have hb := b.isLt
  simp (disch := omega) only [k0_off13, iv0_nw, iv_nw, Nat.zero_add, mul_nw, add_nw, sub_nw, div_nw, rem_nw, min_nw, max_nw, ic_nw, toNat_nw] <;>
  first
  | rfl
  | (apply v3e <;> first | rfl | omega)

theorem off5_eq  :
    k0_off5 = ![0] := by
  simp (disch := omega) only [k0_off5, iv0_nw, iv_nw, Nat.zero_add, mul_nw, add_nw, sub_nw, div_nw, rem_nw, min_nw, max_nw, ic_nw, toNat_nw] <;>
  first
  | rfl
  | (apply v1e <;> first | rfl | omega)

theorem off8_eq  :
    k0_off8 = ![0] := by
  simp (disch := omega) only [k0_off8, iv0_nw, iv_nw, Nat.zero_add, mul_nw, add_nw, sub_nw, div_nw, rem_nw, min_nw, max_nw, ic_nw, toNat_nw] <;>
  first
  | rfl
  | (apply v1e <;> first | rfl | omega)

theorem off6_eq  :
    k0_off6 = ![0, 0, 0, 0] := by
  simp (disch := omega) only [k0_off6, iv0_nw, iv_nw, Nat.zero_add, mul_nw, add_nw, sub_nw, div_nw, rem_nw, min_nw, max_nw, ic_nw, toNat_nw] <;>
  first
  | rfl
  | (apply v4e <;> first | rfl | omega)

theorem off9_eq  :
    k0_off9 = ![0, 1, 0, 0] := by
  simp (disch := omega) only [k0_off9, iv0_nw, iv_nw, Nat.zero_add, mul_nw, add_nw, sub_nw, div_nw, rem_nw, min_nw, max_nw, ic_nw, toNat_nw] <;>
  first
  | rfl
  | (apply v4e <;> first | rfl | omega)

theorem off11_eq  :
    k0_off11 = ![1] := by
  simp (disch := omega) only [k0_off11, iv0_nw, iv_nw, Nat.zero_add, mul_nw, add_nw, sub_nw, div_nw, rem_nw, min_nw, max_nw, ic_nw, toNat_nw] <;>
  first
  | rfl
  | (apply v1e <;> first | rfl | omega)

theorem off14_eq  :
    k0_off14 = ![1] := by
  simp (disch := omega) only [k0_off14, iv0_nw, iv_nw, Nat.zero_add, mul_nw, add_nw, sub_nw, div_nw, rem_nw, min_nw, max_nw, ic_nw, toNat_nw] <;>
  first
  | rfl
  | (apply v1e <;> first | rfl | omega)

theorem off12_eq  :
    k0_off12 = ![1, 0, 0, 0] := by
  simp (disch := omega) only [k0_off12, iv0_nw, iv_nw, Nat.zero_add, mul_nw, add_nw, sub_nw, div_nw, rem_nw, min_nw, max_nw, ic_nw, toNat_nw] <;>
  first
  | rfl
  | (apply v4e <;> first | rfl | omega)

theorem off15_eq  :
    k0_off15 = ![1, 1, 0, 0] := by
  simp (disch := omega) only [k0_off15, iv0_nw, iv_nw, Nat.zero_add, mul_nw, add_nw, sub_nw, div_nw, rem_nw, min_nw, max_nw, ic_nw, toNat_nw] <;>
  first
  | rfl
  | (apply v4e <;> first | rfl | omega)

/-! ## Slices of the result loop -/

theorem t12_trips : k0_t12_loop.trips = 24 := by decide

theorem off102_eq (t : Fin k0_t12_loop.trips) :
    k0_off102 t = ![t.val % 2] := by
  have ht : t.val < 24 := t.isLt.trans_eq t12_trips
  simp (disch := omega) only [k0_off102, iv0_nw, iv_nw, Nat.zero_add, mul_nw, add_nw, sub_nw, div_nw, rem_nw, min_nw, max_nw, ic_nw, toNat_nw] <;>
  first
  | rfl
  | (apply v1e <;> first | rfl | omega)

theorem off104_eq (t : Fin k0_t12_loop.trips) :
    k0_off104 t = ![t.val % 2, 0, 0] := by
  have ht : t.val < 24 := t.isLt.trans_eq t12_trips
  simp (disch := omega) only [k0_off104, iv0_nw, iv_nw, Nat.zero_add, mul_nw, add_nw, sub_nw, div_nw, rem_nw, min_nw, max_nw, ic_nw, toNat_nw] <;>
  first
  | rfl
  | (apply v3e <;> first | rfl | omega)

theorem off105_eq (t : Fin k0_t12_loop.trips) :
    k0_off105 t = ![128 * t.val, 0] := by
  have ht : t.val < 24 := t.isLt.trans_eq t12_trips
  simp (disch := omega) only [k0_off105, iv0_nw, iv_nw, Nat.zero_add, mul_nw, add_nw, sub_nw, div_nw, rem_nw, min_nw, max_nw, ic_nw, toNat_nw] <;>
  first
  | rfl
  | (apply v2e <;> first | rfl | omega)

theorem off106_eq (t : Fin k0_t12_loop.trips) :
    k0_off106 t = ![0, 128 * t.val] := by
  have ht : t.val < 24 := t.isLt.trans_eq t12_trips
  simp (disch := omega) only [k0_off106, iv0_nw, iv_nw, Nat.zero_add, mul_nw, add_nw, sub_nw, div_nw, rem_nw, min_nw, max_nw, ic_nw, toNat_nw] <;>
  first
  | rfl
  | (apply v2e <;> first | rfl | omega)

theorem off107_eq (t : Fin k0_t12_loop.trips) :
    k0_off107 t = ![t.val % 2, 0, 0] := by
  have ht : t.val < 24 := t.isLt.trans_eq t12_trips
  simp (disch := omega) only [k0_off107, iv0_nw, iv_nw, Nat.zero_add, mul_nw, add_nw, sub_nw, div_nw, rem_nw, min_nw, max_nw, ic_nw, toNat_nw] <;>
  first
  | rfl
  | (apply v3e <;> first | rfl | omega)

theorem off108_eq (t : Fin k0_t12_loop.trips) :
    k0_off108 t = ![t.val % 2] := by
  have ht : t.val < 24 := t.isLt.trans_eq t12_trips
  simp (disch := omega) only [k0_off108, iv0_nw, iv_nw, Nat.zero_add, mul_nw, add_nw, sub_nw, div_nw, rem_nw, min_nw, max_nw, ic_nw, toNat_nw] <;>
  first
  | rfl
  | (apply v1e <;> first | rfl | omega)

theorem off109_eq (t : Fin k0_t12_loop.trips) :
    k0_off109 t = ![128 * t.val, 0] := by
  have ht : t.val < 24 := t.isLt.trans_eq t12_trips
  simp (disch := omega) only [k0_off109, iv0_nw, iv_nw, Nat.zero_add, mul_nw, add_nw, sub_nw, div_nw, rem_nw, min_nw, max_nw, ic_nw, toNat_nw] <;>
  first
  | rfl
  | (apply v2e <;> first | rfl | omega)

theorem off110_eq (t : Fin k0_t12_loop.trips) :
    k0_off110 t = ![t.val % 2, 0, 0] := by
  have ht : t.val < 24 := t.isLt.trans_eq t12_trips
  simp (disch := omega) only [k0_off110, iv0_nw, iv_nw, Nat.zero_add, mul_nw, add_nw, sub_nw, div_nw, rem_nw, min_nw, max_nw, ic_nw, toNat_nw] <;>
  first
  | rfl
  | (apply v3e <;> first | rfl | omega)

theorem off103_eq (t : Fin k0_t12_loop.trips) (h : 2 ≤ t.val) :
    k0_off103 t = ![128 * (t.val - 2), 0] := by
  have ht : t.val < 24 := t.isLt.trans_eq t12_trips
  simp (disch := omega) only [k0_off103, iv0_nw, iv_nw, Nat.zero_add, mul_nw, add_nw, sub_nw, div_nw, rem_nw, min_nw, max_nw, ic_nw, toNat_nw] <;>
  first
  | rfl
  | (apply v2e <;> first | rfl | omega)

theorem cond10_iff (t : Fin k0_t12_loop.trips) : k0_cond10 t = 1#1 ↔ 2 ≤ t.val := by
  have ht : t.val < 24 := t.isLt.trans_eq t12_trips
  unfold k0_cond10
  simp (disch := omega) only [iv0_nw, ext_ne, sge_nw]

end Cert.KernelIdeal.Hand
-- ==== Proof.Chk6.lean ====
/-
  The side condition of an item's row range.
-/
module

public import proofs.«01_k».proof.Proof.Offs

@[expose] public section

set_option maxRecDepth 65536

namespace Cert.KernelIdeal.Hand

open Cert.KernelIdeal Cert.KernelIdeal.Gen Cert.Words
open Idealize.ShloMosaic Idealize.ShloMosaic.TcCoe

theorem chk6_of {A d r0 r1 : ℕ} (hA0 : 0 < A) (hA : A ≤ 13) (t2 : Fin (k0_t2_loop (BitVec.ofNat 32 A)).trips) (hd : d ≤ 48) (h01 : r0 ≤ r1) (h1 : r1 ≤ 3072) :
    k0_chk6 (BitVec.ofNat 32 A) t2 (BitVec.ofNat 32 d) (BitVec.ofNat 32 r0) (BitVec.ofNat 32 r1) := by
  constructor
  · unfold k0_chk6_0
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact t3_ok hd h1
    · intro t; have hk := t3_lt hd h1 t; rw [mult7_eq hd h1]; omega
    · intro t; have hk := t3_lt hd h1 t; rw [off19_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off20_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off21_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off21_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off20_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off22_eq hd h1]; generalize d + t.val = k at hk; obtain ⟨k, rfl⟩ : ∃ k' : Fin 48, k = k'.val := ⟨⟨k, by omega⟩, rfl⟩; clear hk; revert k; decide +kernel
    · intro t; have hk := t3_lt hd h1 t; rw [mult8_eq hd h1]; omega
    · intro t; have hk := t3_lt hd h1 t; rw [off23_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off24_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off24_eq hd h1]; generalize d + t.val = k at hk; obtain ⟨k, rfl⟩ : ∃ k' : Fin 48, k = k'.val := ⟨⟨k, by omega⟩, rfl⟩; clear hk; revert k; decide +kernel
    · intro t hc; have hk := (cond4_iff hd h1 t).1 hc; clear hc; rw [mult9_eq hd h1]; omega
    · intro t hc; have hk := (cond4_iff hd h1 t).1 hc; clear hc; rw [off25_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off26_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off27_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off27_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off26_eq hd h1]; generalize d + t.val = k at hk; obtain ⟨k, rfl⟩ : ∃ k' : Fin 46, k = k'.val := ⟨⟨k, by omega⟩, rfl⟩; clear hk; revert k; decide +kernel
    · exact t4_ok hd h1
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
  · unfold k0_chk6_1
    refine ⟨?_, ?_, ?_, ?_, ?_, ?_, ?_, ?_, ?_, ?_, ?_, ?_, ?_, ?_, ?_, ?_, ?_, ?_⟩
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact t5_ok h01 h1
    · intro t; rw [mult19_eq h01 h1]; unfold trow; omega
    · intro t; rw [off49_eq h01 h1]; intro a; fin_cases a <;> simp [trow]
    · intro t; have hk := Nat.mod_lt t2.val (show 0 < 3 by decide); rw [off50_eq hA0 hA]; generalize t2.val % 3 = k at hk; obtain ⟨k, rfl⟩ : ∃ k' : Fin 3, k = k'.val := ⟨⟨k, by omega⟩, rfl⟩; clear hk; revert k; decide +kernel
    · intro t; have hk := Nat.mod_lt t2.val (show 0 < 3 by decide); rw [off51_eq hA0 hA]; generalize t2.val % 3 = k at hk; obtain ⟨k, rfl⟩ : ∃ k' : Fin 3, k = k'.val := ⟨⟨k, by omega⟩, rfl⟩; clear hk; revert k; decide +kernel
    · intro t; rw [off52_eq h01 h1]; intro a; fin_cases a <;> simp [trow]
    · intro t; rw [off53_eq hA0 hA t2 h01 h1 t]; have hn : t2.val / A < 8 := Nat.div_lt_of_lt_mul (by rw [Nat.mul_comm]; exact t2_lt hA0 hA t2); intro a; fin_cases a <;> simp <;> omega
    · exact t6_ok h01 h1
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)

end Cert.KernelIdeal.Hand
-- ==== Proof.Quant.lean ====
/-
  The quantiser loop: each trip takes one chunk of 64 activation rows from the ring, stores its codes and its scales, and starts
  the copy of the chunk after next.
-/
module

public import proofs.«01_k».proof.Proof.Slots
public import proofs.«01_k».proof.Proof.Chk6

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## The chunk's codes and scales -/

/-- The scales a chunk of activations gets, as the kernel computes them. -/
def qS (v : Vec F S1x64x7168 .bf16) : FVec F S64x128 .f32 :=
  let v124 := k0_pay11 v
  let v222 := k0_pay14 v124 (k0_pay12 v) (k0_pay13 v)
  let v282 := k0_pay16 v124 v222 (k0_pay15 v124)
  let v284 := k0_pay17 v124
  k0_pay39 (k0_pay23 (k0_pay18 v124 v282 v284) (k0_pay19 v124 v282 v284) (k0_pay20 v124 v282 v284) (k0_pay21 v124 v282 v284))

/-- The codes a chunk of activations gets, as the kernel computes them. -/
def qX (v : Vec F S1x64x7168 .bf16) : FVec F S64x7168 .fp8e4m3 :=
  let v124 := k0_pay11 v
  let v222 := k0_pay14 v124 (k0_pay12 v) (k0_pay13 v)
  let v282 := k0_pay16 v124 v222 (k0_pay15 v124)
  let v284 := k0_pay17 v124
  k0_pay40 v124 (k0_pay24 (k0_pay18 v124 v282 v284) (k0_pay19 v124 v282 v284) (k0_pay20 v124 v282 v284) (k0_pay21 v124 v282 v284))

/-- Chunk `k` of 64 activation rows. -/
def chunkX (fx : S3072x7168.Idx → Elt F .bf16) (k : ℕ) : Vec F S1x64x7168 .bf16 := fun x =>
  fx (ix2 (d := ![3072, 7168]) ⟨(64 * k + (x 1).val) % 3072, Nat.mod_lt _ (by decide)⟩ (x 2))

/-- All codes. -/
def xqCan (fx : S3072x7168.Idx → Elt F .bf16) : S3072x7168.Idx → Elt F .fp8e4m3 := fun i =>
  qX (chunkX fx ((i 0).val / 64)) (ix2 (d := ![64, 7168]) ⟨(i 0).val % 64, Nat.mod_lt _ (by decide)⟩ (i 1))

/-- All scales, each 128 times. -/
def xsCan (fx : S3072x7168.Idx → Elt F .bf16) : S3072x128.Idx → Elt F .f32 := fun i =>
  qS (chunkX fx ((i 0).val / 64)) (ix2 (d := ![64, 128]) ⟨(i 0).val % 64, Nat.mod_lt _ (by decide)⟩ (i 1))

/-- The first `k` chunks are quantised. -/
def XOK (fx : S3072x7168.Idx → Elt F .bf16) (k : ℕ) (f6 : S3072x7168.Idx → Elt F .fp8e4m3) (f7 : S3072x128.Idx → Elt F .f32) : Prop :=
  (∀ i, (i 0).val < 64 * k → f6 i = xqCan fx i) ∧ ∀ i, (i 0).val < 64 * k → f7 i = xsCan fx i

theorem XOK_step (fx : S3072x7168.Idx → Elt F .bf16) {k : ℕ} (hk : k < 48) {f6 : S3072x7168.Idx → Elt F .fp8e4m3} {f7 : S3072x128.Idx → Elt F .f32}
    (h : XOK fx k f6 f7) {off6 off7 : Fin 2 → ℕ} (h6 : off6 = ![64 * k, 0]) (h7 : off7 = ![64 * k, 0]) (inb6) (inb7) :
    XOK fx (k + 1) ((A6.access (Rect.unit (s := S3072x7168) off6 S64x7168.size inb6)).write (Elt F) f6 (qX (chunkX fx k)) Finset.univ)
      ((A7.access (Rect.unit (s := S3072x128) off7 S64x128.size inb7)).write (Elt F) f7 (qS (chunkX fx k)) Finset.univ) := by
  subst h6 h7
  constructor
  · intro i hi
    by_cases hlt : (i 0).val < 64 * k
    · rw [write_whole_not]
      · exact h.1 i hlt
      · intro x _ he
        have := congrArg (fun j : S3072x7168.Idx => (j 0).val) he
        simp only [unit_emb_val] at this
        simp at this
        omega
    · have he : i = (Rect.unit (s := S3072x7168) ![64 * k, 0] S64x7168.size inb6).emb (ix2 (d := ![64, 7168]) ⟨(i 0).val - 64 * k, by simp; omega⟩ (i 1)) := by
        apply idx2_ext <;> rw [unit_emb_val] <;> simp [ix2]
        omega
      conv_lhs => rw [he]
      rw [write_whole_mem _ _ _ _ _ (Finset.mem_univ _)]
      unfold xqCan
      have e1 : (i 0).val / 64 = k := by omega
      rw [e1]
      congr 1
      apply idx2_ext <;> simp [ix2]
      omega
  · intro i hi
    by_cases hlt : (i 0).val < 64 * k
    · rw [write_whole_not]
      · exact h.2 i hlt
      · intro x _ he
        have := congrArg (fun j : S3072x128.Idx => (j 0).val) he
        simp only [unit_emb_val] at this
        simp at this
        omega
    · have he : i = (Rect.unit (s := S3072x128) ![64 * k, 0] S64x128.size inb7).emb (ix2 (d := ![64, 128]) ⟨(i 0).val - 64 * k, by simp; omega⟩ (i 1)) := by
        apply idx2_ext <;> rw [unit_emb_val] <;> simp [ix2]
        omega
      conv_lhs => rw [he]
      rw [write_whole_mem _ _ _ _ _ (Finset.mem_univ _)]
      unfold xsCan
      have e1 : (i 0).val / 64 = k := by omega
      rw [e1]
      congr 1
      apply idx2_ext <;> simp [ix2]
      omega

theorem read_X (fx : S3072x7168.Idx → Elt F .bf16) (k s : ℕ) {off : Fin 3 → ℕ} (h : off = ![s, 0, 0]) (inb) :
    (fun x => Xcan fx k ((Rect.unit (s := S2x64x7168) off S1x64x7168.size inb).emb x)) = chunkX fx k := by
  subst h
  funext x
  unfold Xcan chunkX
  congr 1
  apply idx2_ext <;> simp only [ix2, unit_emb_val] <;> simp

/-! ## One trip -/

def slotX (c : Dev nD) (fx : S3072x7168.Idx → Elt F .bf16) (s : Fin 2) : Option ℕ → sProp 𝕄
  | none => idleX c fx s
  | some k => busyX c fx s k

def r2 (k : ℕ) : Fin 2 := ⟨k % 2, Nat.mod_lt _ (by decide)⟩
def r3 (k : ℕ) : Fin 3 := ⟨k % 3, Nat.mod_lt _ (by decide)⟩

/-- The chunk copied after chunk `k`'s turn, if there is one. -/
def nx (k : ℕ) : Option ℕ := if k < 48 then some k else none

/-- The quantiser's state before chunk `k`. -/
def stX (c : Dev nD) (fx : S3072x7168.Idx → Elt F .bf16) (k : ℕ) : sProp 𝕄 :=
  iprop(slotX c fx (r2 k) (nx k) ∗ slotX c fx (r2 (k + 1)) (nx (k + 1))
    ∗ (∃ f6 f7, ⌜XOK fx k f6 f7⌝ ∗ ptU c A6 f6 ∗ ptU c A7 f7) ∗ OW c)

theorem quant_trip (c : Dev nD) (fx : S3072x7168.Idx → Elt F .bf16) (v1_1 : BitVec 32) (hw2 : k0_chk2 v1_1) (v3 c0 c1 : BitVec 32) (t2 : Fin (k0_t2_loop v1_1).trips) {d r1 : ℕ}
    (hd : d ≤ 48) (h1 : r1 ≤ 3072) (v52 : Elt F .i32) (hw6 : k0_chk6 v1_1 t2 (BitVec.ofNat 32 d) v52 (BitVec.ofNat 32 r1))
    (t3 : Fin (k0_t3_loop (BitVec.ofNat 32 d) (BitVec.ofNat 32 r1)).trips) (acc : BitVec 32) (Q : BitVec 32 → sProp 𝕄) :
    stX c fx (d + t3.val) ⊢ iprop((∀ r, stX c fx (d + t3.val + 1) -∗ Q r)
      -∗ W c (k0_t3_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 v1_1 hw2 v3 c0 c1 t2 (BitVec.ofNat 32 d) v52 (BitVec.ofNat 32 r1) hw6 t3 acc) Q) := by
  have hk := t3_lt hd h1 t3
  unfold k0_t3_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [wp_bind]
  unfold stX
  have e1 : nx (d + t3.val) = some (d + t3.val) := if_pos hk
  rw [e1]
  simp only [slotX]
  iintro ⟨HX, HX1, ⟨%f6, %f7, %hok, H6, H7⟩, HO⟩ K
  iapply (waitX c fx (r2 (d + t3.val)) (d + t3.val) (semX_eq (r2 (d + t3.val)) (off19_eq hd h1 t3) _)) $$ [HX HO]
  · isplitl [HX]
    · iexact HX
    · iexact HO
  unfold landedX
  iintro ⟨⟨H10, HS, HT⟩, HO⟩
  iapply (w_load c (M := A10) (I := setX (r2 (d + t3.val)).val) (by rw [View.set_slice_whole]; exact (rect_setX (off22_eq hd h1 t3) _).subset)) $$ H10
  iintro H10
  iapply w_pure
  iapply w_pure
  iapply w_pure
  iapply w_pure
  iapply w_pure
  iapply (w_loadU c (M := A7)) $$ H7
  iintro H7
  iapply (w_storeU c (M := A7)) $$ H7
  iintro H7
  iapply (w_loadU c (M := A6)) $$ H6
  iintro H6
  iapply (w_storeU c (M := A6)) $$ H6
  iintro H6
  have hok' := XOK_step fx hk hok (off24_eq hd h1 t3) (off23_eq hd h1 t3) (k0_off24_inb v1_1 t2 _ v52 _ hw6 t3) (k0_off23_inb v1_1 t2 _ v52 _ hw6 t3)
  rw [← read_X fx (d + t3.val) _ (off22_eq hd h1 t3) (k0_off22_inb v1_1 t2 _ v52 _ hw6 t3)] at hok'
  have er : r2 (d + t3.val + 1 + 1) = r2 (d + t3.val) := Fin.ext (by show (d + t3.val + 1 + 1) % 2 = (d + t3.val) % 2; omega)
  by_cases hc : k0_cond4 (BitVec.ofNat 32 d) (BitVec.ofNat 32 r1) t3 = 1#1
  · have hk2 := (cond4_iff hd h1 t3).1 hc
    have e2 : nx (d + t3.val + 1 + 1) = some (d + t3.val + 2) := if_pos hk2
    rw [dif_pos hc]
    simp only [wp_bind]
    iapply (startX c fx (r2 (d + t3.val)) (d + t3.val + 2) (semX_eq (r2 (d + t3.val)) (off25_eq hd h1 t3) _) (off26_eq hd h1 t3) (off27_eq hd h1 t3)) $$ [H10 HS HT]
    · unfold idleX
      isplitl [H10]
      · iexists _; iexact H10
      isplitl [HS]
      · iexact HS
      · iexact HT
    iintro HB
    iapply w_pure
    iapply K
    isplitl [HX1]
    · iexact HX1
    isplitl [HB]
    · rw [er, e2]; iexact HB
    isplitl [H6 H7]
    · iexists _, _
      isplitr
      · ipureintro; exact hok'
      isplitl [H6]
      · iexact H6
      · iexact H7
    · iexact HO
  · have hk2 : ¬ d + t3.val + 2 < 48 := fun h => hc ((cond4_iff hd h1 t3).2 h)
    have e2 : nx (d + t3.val + 1 + 1) = none := if_neg hk2
    rw [dif_neg hc]
    iapply w_pure
    iapply K
    isplitl [HX1]
    · iexact HX1
    isplitl [H10 HS HT]
    · rw [er, e2]
      simp only [slotX, idleX]
      isplitl [H10]
      · iexists _; iexact H10
      isplitl [HS]
      · iexact HS
      · iexact HT
    isplitl [H6 H7]
    · iexists _, _
      isplitr
      · ipureintro; exact hok'
      isplitl [H6]
      · iexact H6
      · iexact H7
    · iexact HO

/-- The whole loop: from chunk `d` to the chunk after the last one that the rows below `r1` need. -/
theorem quant_loop (c : Dev nD) (fx : S3072x7168.Idx → Elt F .bf16) (v1_1 : BitVec 32) (hw2 : k0_chk2 v1_1) (v3 c0 c1 : BitVec 32) (t2 : Fin (k0_t2_loop v1_1).trips) {d r1 : ℕ}
    (hd : d ≤ 48) (h1 : r1 ≤ 3072) (v52 : Elt F .i32) (hw6 : k0_chk6 v1_1 t2 (BitVec.ofNat 32 d) v52 (BitVec.ofNat 32 r1))
    (ok : (k0_t3_loop (BitVec.ofNat 32 d) (BitVec.ofNat 32 r1)).OK) (init : BitVec 32) (Q : BitVec 32 → sProp 𝕄) :
    stX c fx d ⊢ iprop((∀ r, stX c fx (max d ((r1 + 63) / 64)) -∗ Q r)
      -∗ W c (Scf.Loop.for (k0_t3_loop (BitVec.ofNat 32 d) (BitVec.ofNat 32 r1)) ok init
          (k0_t3_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 v1_1 hw2 v3 c0 c1 t2 (BitVec.ofNat 32 d) v52 (BitVec.ofNat 32 r1) hw6)) Q) := by
  have ht := t3_trips hd h1
  iintro H K
  iapply (Scf.wp_for frame (wpE (defs₀ (F := F)) Variants.none (c : Thread nD τ) none) Set.univ _ _ _ ok init _ (fun j _ => stX c fx (d + j)) ?_)
  · intro t acc
    iintro H
    iapply (quant_trip c fx v1_1 hw2 v3 c0 c1 t2 hd h1 v52 hw6 t acc) $$ H
    iintro %r H
    iexact H
  isplitl [H]
  · iexact H
  · iintro %r H
    iapply K
    have e : max d ((r1 + 63) / 64) = d + (k0_t3_loop (BitVec.ofNat 32 d) (BitVec.ofNat 32 r1)).trips := by rw [ht]; omega
    rw [e]
    iexact H

end Cert.KernelIdeal.Hand
-- ==== Proof.Tile.lean ====
/-
  One trip of the tile loop.
-/
module

public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (Pipeline.UD sig nD τ) ℕ

theorem tile_trip (c : Dev nD) (v1_1 : BitVec 32) (t2 : Fin (k0_t2_loop v1_1).trips) (arg18 : BitVec 32) (v52 v55 : Elt F .i32)
    (hw6 : k0_chk6 v1_1 t2 arg18 v52 v55) (v100 v105 : Vec F S1x256 .f32) (t5 : Fin (k0_t5_loop v52 v55).trips) (acc : BitVec 32)
    (f6 : S3072x7168.Idx → Elt F .fp8e4m3) (f7 : S3072x128.Idx → Elt F .f32) (f8 : S3072x2048.Idx → Elt F .f32) (f9 : S3x2x7168x256.Idx → Elt F .fp8e4m3)
    (I0 I1 : Finset S3x2x7168x256.Idx)
    (h0 : (Rect.unit (s := S3x2x7168x256) (k0_off50 v1_1 t2) S1x1x7168x256.size (k0_off50_inb v1_1 t2 arg18 v52 v55 hw6 t5)).set ⊆ I0)
    (h1 : (Rect.unit (s := S3x2x7168x256) (k0_off51 v1_1 t2) S1x1x7168x256.size (k0_off51_inb v1_1 t2 arg18 v52 v55 hw6 t5)).set ⊆ I1)
    (Q : BitVec 32 → sProp 𝕄) :
    iprop(ptU c A6 f6 ∗ ptU c A7 f7 ∗ ptU c A8 f8
        ∗ pt c A9 I0 fullShare f9 ∗ pt c A9 I1 fullShare f9)
      ⊢ iprop((∀ r, iprop(ptU c A6 f6 ∗ ptU c A7 f7 ∗
          ptU c A8 ((A8.access (Rect.unit (s := S3072x2048) (k0_off53 v1_1 t2 v52 v55 t5) S128x256.size (k0_off53_inb v1_1 t2 arg18 v52 v55 hw6 t5))).write (Elt F) f8
            (k0_pay1 v100 v105 (fun x => f6 ((Rect.unit (s := S3072x7168) (k0_off49 v52 v55 t5) S128x7168.size (k0_off49_inb v1_1 t2 arg18 v52 v55 hw6 t5)).emb x))
              (fun x => f9 ((Rect.unit (s := S3x2x7168x256) (k0_off50 v1_1 t2) S1x1x7168x256.size (k0_off50_inb v1_1 t2 arg18 v52 v55 hw6 t5)).emb x))
              (fun x => f9 ((Rect.unit (s := S3x2x7168x256) (k0_off51 v1_1 t2) S1x1x7168x256.size (k0_off51_inb v1_1 t2 arg18 v52 v55 hw6 t5)).emb x))
              (fun x => f7 ((Rect.unit (s := S3072x128) (k0_off52 v52 v55 t5) S128x128.size (k0_off52_inb v1_1 t2 arg18 v52 v55 hw6 t5)).emb x)))
            (IVec.on (k0_pay2 v52 v55 t5)))
          ∗ pt c A9 I0 fullShare f9 ∗ pt c A9 I1 fullShare f9) -∗ Q r)
        -∗ W c (k0_t5_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 v1_1 t2 arg18 v52 v55 hw6 v100 v105 t5 acc) Q) := by
  iintro ⟨H6, H7, H8, H90, H91⟩ K
  unfold k0_t5_body
  simp only [wp_bind]
  iapply (w_loadU c (M := A6)) $$ H6
  iintro H6
  iapply (w_load c (M := A9) (I := I0) (by rw [View.set_slice_whole]; exact h0)) $$ H90
  iintro H90
  iapply (w_load c (M := A9) (I := I1) (by rw [View.set_slice_whole]; exact h1)) $$ H91
  iintro H91
  iapply (w_loadU c (M := A7)) $$ H7
  iintro H7
  iapply (w_loadU c (M := A8)) $$ H8
  iintro H8
  iapply (w_storeU c (M := A8)) $$ H8
  iintro H8
  iapply w_pure
  iapply K
  isplitl [H6]
  · iexact H6
  isplitl [H7]
  · iexact H7
  isplitl [H8]
  · iexact H8
  isplitl [H90]
  · iexact H90
  · iexact H91

end Cert.KernelIdeal.Hand
-- ==== Proof.Tiles.lean ====
/-
  The tile loop of one item: the tiles of 128 rows cover the rows of the item's expert, and what each stores there is the gated
  product of that row.
-/
module

public import proofs.«01_k».proof.Proof.Quant
public import proofs.«01_k».proof.Proof.Tile

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## What an element of the gated product is -/

/-- The scales of 256 output columns: half `b`, column block `n` of expert `e`. -/
def gS (f3 : S13x4096.Idx → Elt F .f32) (e n b : ℕ) : Vec F S1x256 .f32 := fun z =>
  f3 (ix2 (d := ![13, 4096]) ⟨e % 13, Nat.mod_lt _ (by decide)⟩ ⟨(b * 2048 + 256 * n + (z 1).val) % 4096, Nat.mod_lt _ (by decide)⟩)

/-- The weights of those columns. -/
def gW (fw : S13x7168x4096.Idx → Elt F .fp8e4m3) (e n b : ℕ) : Vec F S1x1x7168x256 .fp8e4m3 := fun z =>
  fw (ix3 (d := ![13, 7168, 4096]) ⟨e % 13, Nat.mod_lt _ (by decide)⟩ (z 2) ⟨(b * 2048 + 256 * n + (z 3).val) % 4096, Nat.mod_lt _ (by decide)⟩)

/-- `v` is the gated product at row `x 0`, column `x 1`, of expert `e`: the kernel's product of a tile in which that row holds
    its codes and scales. -/
def hOK (fx : S3072x7168.Idx → Elt F .bf16) (fw : S13x7168x4096.Idx → Elt F .fp8e4m3) (f3 : S13x4096.Idx → Elt F .f32) (e : ℕ) (x : S3072x2048.Idx) (v : Elt F .f32) : Prop :=
  ∃ (v119 : Vec F S128x7168 .fp8e4m3) (v129 : Vec F S128x128 .f32) (y : S128x256.Idx),
    (y 1).val = (x 1).val % 256
    ∧ (∀ z : S128x7168.Idx, (z 0).val = (y 0).val → v119 z = xqCan fx (ix2 (d := ![3072, 7168]) (x 0) (z 1)))
    ∧ (∀ z : S128x128.Idx, (z 0).val = (y 0).val → v129 z = xsCan fx (ix2 (d := ![3072, 128]) (x 0) (z 1)))
    ∧ v = k0_pay1 (gS f3 e ((x 1).val / 256) 0) (gS f3 e ((x 1).val / 256) 1) v119 (gW fw e ((x 1).val / 256) 0) (gW fw e ((x 1).val / 256) 1) v129 y

theorem read_S (f3 : S13x4096.Idx → Elt F .f32) {e n : ℕ} (b : Fin 2) (he : e < 13) (hn : n < 8) {off : Fin 2 → ℕ} (h : off = ![e, b.val * 2048 + 256 * n]) (inb) :
    (fun x => f3 ((Rect.unit (s := S13x4096) off S1x256.size inb).emb x)) = gS f3 e n b.val := by
  subst h
  funext x
  unfold gS
  have h0 := (x 0).isLt
  have h1 := (x 1).isLt
  have hb := b.isLt
  simp at h0 h1
  congr 1
  apply idx2_ext <;> simp only [ix2, unit_emb_val] <;> simp
  · omega
  · omega

theorem read_W (fw : S13x7168x4096.Idx → Elt F .fp8e4m3) (e n s b : ℕ) {off : Fin 4 → ℕ} (h : off = ![s, b, 0, 0]) (inb) :
    (fun x => Wcan fw e n ((Rect.unit (s := S3x2x7168x256) off S1x1x7168x256.size inb).emb x)) = gW fw e n b := by
  subst h
  funext x
  unfold Wcan gW
  have h0 := (x 1).isLt
  simp at h0
  congr 1
  apply Shape.idx3_ext <;> simp only [ix3, unit_emb_val] <;> simp
  rw [h0]; simp

/-! ## The mask -/

theorem pay2_at {r0 r1 : ℕ} (h01 : r0 ≤ r1) (h1 : r1 ≤ 3072) (t : Fin (k0_t5_loop (BitVec.ofNat 32 r0) (BitVec.ofNat 32 r1)).trips) (y : S128x256.Idx) :
    y ∈ IVec.on (k0_pay2 (F := F) (BitVec.ofNat 32 r0) (BitVec.ofNat 32 r1) t) ↔ r0 ≤ trow r0 t.val + (y 0).val ∧ trow r0 t.val + (y 0).val < r1 := by
  have ht := t.isLt.trans_eq (t5_trips h01 h1)
  have hy := (y 0).isLt
  simp at hy
  unfold ntile at ht
  have e : (Scalar.minsi (Scalar.addi (Scalar.muli (Scalar.divsi (BitVec.ofNat 32 r0) 32#32) 32#32) (Scalar.muli (Scf.iv 0#32 1#32 t.val) 128#32)) 2944#32)
      = BitVec.ofNat 32 (trow r0 t.val) := by
    unfold trow
    simp (disch := omega) only [iv0_nw, mul_nw, add_nw, div_nw, min_nw]
  have htr : trow r0 t.val ≤ 2944 := by unfold trow; omega
  have hio : (iota .tc S128x256 32 [0] iota_S128x256_d0_w32 : IVec S128x256 32) y = BitVec.ofNat 32 (y 0).val := by
    show BitVec.ofNat 32 (List.foldl _ _ _) = _
    simp
  rw [IVec.on, Finset.mem_filter]
  have key : k0_pay2 (F := F) (BitVec.ofNat 32 r0) (BitVec.ofNat 32 r1) t y
      = Scalar.andi (Scalar.cmpi .sge (BitVec.ofNat 32 (trow r0 t.val + (y 0).val)) (BitVec.ofNat 32 r0)) (Scalar.cmpi .slt (BitVec.ofNat 32 (trow r0 t.val + (y 0).val)) (BitVec.ofNat 32 r1)) := by
    unfold k0_pay2
    dsimp only
    rw [shapeCast_self]
    show Scalar.andi (Scalar.cmpi .sge (Scalar.addi _ (iota .tc S128x256 32 [0] iota_S128x256_d0_w32 y)) _) (Scalar.cmpi .slt (Scalar.addi _ (iota .tc S128x256 32 [0] iota_S128x256_d0_w32 y)) _) = _
    rw [hio]
    show Scalar.andi (Scalar.cmpi .sge (Scalar.addi (Scalar.minsi (Scalar.addi (Scalar.muli (Scalar.divsi (BitVec.ofNat 32 r0) 32#32) 32#32) (Scalar.muli (Scf.iv 0#32 1#32 t.val) 128#32)) 2944#32) _) _) (Scalar.cmpi .slt (Scalar.addi (Scalar.minsi (Scalar.addi (Scalar.muli (Scalar.divsi (BitVec.ofNat 32 r0) 32#32) 32#32) (Scalar.muli (Scf.iv 0#32 1#32 t.val) 128#32)) 2944#32) _) _) = _
    rw [e, add_nw]
    rfl
  rw [key]
  have a1 : ∀ b c : BitVec 1, Scalar.andi b c = 1#1 ↔ b = 1#1 ∧ c = 1#1 := by decide
  simp only [Finset.mem_univ, _root_.true_and]
  show Scalar.andi _ _ = 1#1 ↔ _
  rw [a1, sge_nw (by omega) (by omega), slt_nw (by omega) (by omega)]

/-! ## The invariant -/

/-- After `j` tiles: the rows `r0 ≤ · < r1` of column block `n` that the tiles reach are done, and everything else is as before. -/
def TOK (fx : S3072x7168.Idx → Elt F .bf16) (fw : S13x7168x4096.Idx → Elt F .fp8e4m3) (f3 : S13x4096.Idx → Elt F .f32) (e n r0 r1 : ℕ)
    (h0 : S3072x2048.Idx → Elt F .f32) (j : ℕ) (f8 : S3072x2048.Idx → Elt F .f32) : Prop :=
  ∀ x, ((x 1).val / 256 = n → r0 ≤ (x 0).val → (x 0).val < r1 → (x 0).val < r0 / 32 * 32 + j * 128 → hOK fx fw f3 e x (f8 x))
    ∧ (¬ ((x 1).val / 256 = n ∧ r0 ≤ (x 0).val ∧ (x 0).val < r1) → f8 x = h0 x)

theorem TOK_zero (fx : S3072x7168.Idx → Elt F .bf16) (fw : S13x7168x4096.Idx → Elt F .fp8e4m3) (f3 : S13x4096.Idx → Elt F .f32) (e n r0 r1 : ℕ)
    (h0 : S3072x2048.Idx → Elt F .f32) : TOK fx fw f3 e n r0 r1 h0 0 h0 := fun x => ⟨fun _ h _ h' => by omega, fun _ => rfl⟩

theorem TOK_step (fx : S3072x7168.Idx → Elt F .bf16) (fw : S13x7168x4096.Idx → Elt F .fp8e4m3) (f3 : S13x4096.Idx → Elt F .f32) {e n r0 r1 d : ℕ}
    (h01 : r0 ≤ r1) (h1 : r1 ≤ 3072) (hr : r1 ≤ 64 * d) (h0 : S3072x2048.Idx → Elt F .f32)
    (t : Fin (k0_t5_loop (BitVec.ofNat 32 r0) (BitVec.ofNat 32 r1)).trips) {f8 : S3072x2048.Idx → Elt F .f32} (h : TOK fx fw f3 e n r0 r1 h0 t.val f8)
    {f6 : S3072x7168.Idx → Elt F .fp8e4m3} {f7 : S3072x128.Idx → Elt F .f32} (hx : XOK fx d f6 f7)
    {off53 off49 off52 : Fin 2 → ℕ} (e53 : off53 = ![trow r0 t.val, 256 * n]) (e49 : off49 = ![trow r0 t.val, 0]) (e52 : off52 = ![trow r0 t.val, 0]) (inb53) (inb49) (inb52) :
    TOK fx fw f3 e n r0 r1 h0 (t.val + 1)
      ((A8.access (Rect.unit (s := S3072x2048) off53 S128x256.size inb53)).write (Elt F) f8
        (k0_pay1 (gS f3 e n 0) (gS f3 e n 1) (fun x => f6 ((Rect.unit (s := S3072x7168) off49 S128x7168.size inb49).emb x)) (gW fw e n 0) (gW fw e n 1)
          (fun x => f7 ((Rect.unit (s := S3072x128) off52 S128x128.size inb52).emb x)))
        (IVec.on (k0_pay2 (F := F) (BitVec.ofNat 32 r0) (BitVec.ofNat 32 r1) t))) := by
  subst e53 e49 e52
  intro x
  have hx0 := (x 0).isLt
  simp at hx0
  by_cases hm : ∃ y : S128x256.Idx, y ∈ IVec.on (k0_pay2 (F := F) (BitVec.ofNat 32 r0) (BitVec.ofNat 32 r1) t) ∧ (Rect.unit (s := S3072x2048) ![trow r0 t.val, 256 * n] S128x256.size inb53).emb y = x
  · obtain ⟨y, hy, rfl⟩ := hm
    have hm := (pay2_at h01 h1 t y).1 hy
    have hy1 := (y 1).isLt
    simp at hy1
    have v0 : ((Rect.unit (s := S3072x2048) ![trow r0 t.val, 256 * n] S128x256.size inb53).emb y 0).val = trow r0 t.val + (y 0).val := unit_emb_val _ _ _
    have v1 : ((Rect.unit (s := S3072x2048) ![trow r0 t.val, 256 * n] S128x256.size inb53).emb y 1).val = 256 * n + (y 1).val := unit_emb_val _ _ _
    have dn : (256 * n + (y 1).val) / 256 = n := by omega
    constructor
    · intro _ _ _ _
      rw [write_whole_mem]
      rotate_left 1
      · exact hy
      refine ⟨(fun x => f6 ((Rect.unit (s := S3072x7168) ![trow r0 t.val, 0] S128x7168.size inb49).emb x)),
        (fun x => f7 ((Rect.unit (s := S3072x128) ![trow r0 t.val, 0] S128x128.size inb52).emb x)), y, ?_, ?_, ?_, ?_⟩
      rotate_left 3
      · rw [v1, dn]
      · rw [v1]; omega
      · intro z hz
        have ez : (Rect.unit (s := S3072x7168) ![trow r0 t.val, 0] S128x7168.size inb49).emb z
            = ix2 (d := ![3072, 7168]) ((Rect.unit (s := S3072x2048) ![trow r0 t.val, 256 * n] S128x256.size inb53).emb y 0) (z 1) := by
          apply idx2_ext <;> rw [unit_emb_val]
          · show _ = ((Rect.unit (s := S3072x2048) ![trow r0 t.val, 256 * n] S128x256.size inb53).emb y 0).val
            rw [v0, hz]; rfl
          · simp [ix2]
        show f6 ((Rect.unit (s := S3072x7168) ![trow r0 t.val, 0] S128x7168.size inb49).emb z) = _
        rw [ez]
        apply hx.1
        show ((Rect.unit (s := S3072x2048) ![trow r0 t.val, 256 * n] S128x256.size inb53).emb y 0).val < _
        rw [v0]; omega
      · intro z hz
        have ez : (Rect.unit (s := S3072x128) ![trow r0 t.val, 0] S128x128.size inb52).emb z
            = ix2 (d := ![3072, 128]) ((Rect.unit (s := S3072x2048) ![trow r0 t.val, 256 * n] S128x256.size inb53).emb y 0) (z 1) := by
          apply idx2_ext <;> rw [unit_emb_val]
          · show _ = ((Rect.unit (s := S3072x2048) ![trow r0 t.val, 256 * n] S128x256.size inb53).emb y 0).val
            rw [v0, hz]; rfl
          · simp [ix2]
        show f7 ((Rect.unit (s := S3072x128) ![trow r0 t.val, 0] S128x128.size inb52).emb z) = _
        rw [ez]
        apply hx.2
        show ((Rect.unit (s := S3072x2048) ![trow r0 t.val, 256 * n] S128x256.size inb53).emb y 0).val < _
        rw [v0]; omega
    · intro hne
      exact absurd ⟨by rw [v1]; omega, by rw [v0]; omega, by rw [v0]; omega⟩ hne
  · rw [write_whole_not]
    rotate_left 1
    · exact fun (y : S128x256.Idx) hy he => hm ⟨y, hy, he⟩
    refine ⟨fun hn hr0 hr1 hj => (h x).1 hn hr0 hr1 ?_, (h x).2⟩
    by_contra hge
    have ht := t5_lt h01 h1 t
    unfold ntile at ht
    have hb : trow r0 t.val ≤ (x 0).val ∧ (x 0).val < trow r0 t.val + 128 := by unfold trow; omega
    refine hm ⟨ix2 (d := ![128, 256]) ⟨(x 0).val - trow r0 t.val, by simp; omega⟩ ⟨(x 1).val % 256, Nat.mod_lt _ (by decide)⟩, ?_, ?_⟩
    · rw [pay2_at h01 h1]
      simp only [ix2]
      omega
    · apply idx2_ext <;> rw [unit_emb_val] <;> simp [ix2]
      · omega
      · omega

/-! ## The loop -/

theorem tile_loop (c : Dev nD) (fx : S3072x7168.Idx → Elt F .bf16) (fw : S13x7168x4096.Idx → Elt F .fp8e4m3) (f3 : S13x4096.Idx → Elt F .f32)
    {A : ℕ} (hA0 : 0 < A) (hA : A ≤ 13) (t2 : Fin (k0_t2_loop (BitVec.ofNat 32 A)).trips) (arg18 : BitVec 32) {e r0 r1 d : ℕ} (h01 : r0 ≤ r1) (h1 : r1 ≤ 3072) (hr : r1 ≤ 64 * d)
    (hw6 : k0_chk6 (BitVec.ofNat 32 A) t2 arg18 (BitVec.ofNat 32 r0) (BitVec.ofNat 32 r1)) (h0 : S3072x2048.Idx → Elt F .f32)
    {f6 : S3072x7168.Idx → Elt F .fp8e4m3} {f7 : S3072x128.Idx → Elt F .f32} (hx : XOK fx d f6 f7)
    (ok : (k0_t5_loop (BitVec.ofNat 32 r0) (BitVec.ofNat 32 r1)).OK) (init : BitVec 32) (Q : BitVec 32 → sProp 𝕄) :
    iprop(ptU c A6 f6 ∗ ptU c A7 f7 ∗ ptU c A8 h0 ∗ pt c A9 (setW (r3 t2.val).val 0) fullShare (Wcan fw e (t2.val / A)) ∗ pt c A9 (setW (r3 t2.val).val 1) fullShare (Wcan fw e (t2.val / A)))
      ⊢ iprop((∀ r, iprop(∃ f8, ⌜TOK fx fw f3 e (t2.val / A) r0 r1 h0 (ntile r0 r1) f8⌝ ∗ ptU c A6 f6 ∗ ptU c A7 f7 ∗ ptU c A8 f8
          ∗ pt c A9 (setW (r3 t2.val).val 0) fullShare (Wcan fw e (t2.val / A)) ∗ pt c A9 (setW (r3 t2.val).val 1) fullShare (Wcan fw e (t2.val / A))) -∗ Q r)
        -∗ W c (Scf.Loop.for (k0_t5_loop (BitVec.ofNat 32 r0) (BitVec.ofNat 32 r1)) ok init
          (k0_t5_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 (BitVec.ofNat 32 A) t2 arg18 (BitVec.ofNat 32 r0) (BitVec.ofNat 32 r1) hw6 (gS f3 e (t2.val / A) 0) (gS f3 e (t2.val / A) 1))) Q) := by
  have ht := t5_trips h01 h1
  iintro ⟨H6, H7, H8, H90, H91⟩ K
  iapply (Scf.wp_for frame (wpE (defs₀ (F := F)) Variants.none (c : Thread nD τ) none) Set.univ _ _ _ ok init _
    (fun j _ => iprop(∃ f8, ⌜TOK fx fw f3 e (t2.val / A) r0 r1 h0 j f8⌝ ∗ ptU c A6 f6 ∗ ptU c A7 f7 ∗ ptU c A8 f8
          ∗ pt c A9 (setW (r3 t2.val).val 0) fullShare (Wcan fw e (t2.val / A)) ∗ pt c A9 (setW (r3 t2.val).val 1) fullShare (Wcan fw e (t2.val / A)))) ?_)
  · intro t acc
    iintro ⟨%f8, %hf, H6, H7, H8, H90, H91⟩
    iapply (tile_trip c (BitVec.ofNat 32 A) t2 arg18 (BitVec.ofNat 32 r0) (BitVec.ofNat 32 r1) hw6 (gS f3 e (t2.val / A) 0) (gS f3 e (t2.val / A) 1) t acc f6 f7 f8
      (Wcan fw e (t2.val / A)) (setW (r3 t2.val).val 0) (setW (r3 t2.val).val 1) (rect_setW (off50_eq hA0 hA t2) _).subset (rect_setW (off51_eq hA0 hA t2) _).subset) $$ [H6 H7 H8 H90 H91]
    · isplitl [H6]
      · iexact H6
      isplitl [H7]
      · iexact H7
      isplitl [H8]
      · iexact H8
      isplitl [H90]
      · iexact H90
      · iexact H91
    iintro %r ⟨H6, H7, H8, H90, H91⟩
    iexists _
    isplitr
    · ipureintro
      have key := TOK_step fx fw f3 h01 h1 hr h0 t hf hx (off53_eq hA0 hA t2 h01 h1 t) (off49_eq h01 h1 t) (off52_eq h01 h1 t)
        (k0_off53_inb (BitVec.ofNat 32 A) t2 arg18 (BitVec.ofNat 32 r0) (BitVec.ofNat 32 r1) hw6 t) (k0_off49_inb (BitVec.ofNat 32 A) t2 arg18 (BitVec.ofNat 32 r0) (BitVec.ofNat 32 r1) hw6 t)
        (k0_off52_inb (BitVec.ofNat 32 A) t2 arg18 (BitVec.ofNat 32 r0) (BitVec.ofNat 32 r1) hw6 t)
      rw [← read_W fw e (t2.val / A) _ 0 (off50_eq hA0 hA t2) (k0_off50_inb (BitVec.ofNat 32 A) t2 arg18 (BitVec.ofNat 32 r0) (BitVec.ofNat 32 r1) hw6 t),
        ← read_W fw e (t2.val / A) _ 1 (off51_eq hA0 hA t2) (k0_off51_inb (BitVec.ofNat 32 A) t2 arg18 (BitVec.ofNat 32 r0) (BitVec.ofNat 32 r1) hw6 t)] at key
      exact key
    isplitl [H6]
    · iexact H6
    isplitl [H7]
    · iexact H7
    isplitl [H8]
    · iexact H8
    isplitl [H90]
    · iexact H90
    · iexact H91
  isplitl [H6 H7 H8 H90 H91]
  · iexists h0
    isplitr
    · ipureintro; exact TOK_zero fx fw f3 e _ r0 r1 h0
    isplitl [H6]
    · iexact H6
    isplitl [H7]
    · iexact H7
    isplitl [H8]
    · iexact H8
    isplitl [H90]
    · iexact H90
    · iexact H91
  · iintro %r H
    iapply K
    rw [show ntile r0 r1 = (k0_t5_loop (BitVec.ofNat 32 r0) (BitVec.ofNat 32 r1)).trips from ht.symm]
    iexact H

end Cert.KernelIdeal.Hand
-- ==== Proof.Chk2.lean ====
/-
  The side conditions of the words the kernel reads, decided over their ranges.
-/
module

public import proofs.«01_k».proof.Proof.Gen.KernelIdeal.Skeleton

@[expose] public section

set_option maxRecDepth 65536

namespace Cert.KernelIdeal.Hand

open Cert.KernelIdeal Cert.KernelIdeal.Gen
open Idealize.ShloMosaic Idealize.ShloMosaic.TcCoe

theorem chk2_dec : ∀ A : Fin 13, k0_chk2 (BitVec.ofNat 32 (A.val + 1)) := by decide +kernel

theorem chk3_dec : ∀ A e : Fin 13, k0_chk3 (BitVec.ofNat 32 (A.val + 1)) (BitVec.ofNat 32 e.val) := by decide +kernel

theorem chk4_dec : ∀ A e : Fin 13, k0_chk4 (BitVec.ofNat 32 (A.val + 1)) (BitVec.ofNat 32 e.val) := by decide +kernel

end Cert.KernelIdeal.Hand
-- ==== Proof.Chk5.lean ====
/-
  The side conditions of an item's expert number, decided over their ranges.
-/
module

public import proofs.«01_k».proof.Proof.Gen.KernelIdeal.Skeleton

@[expose] public section

set_option maxRecDepth 65536

namespace Cert.KernelIdeal.Hand

open Cert.KernelIdeal Cert.KernelIdeal.Gen
open Idealize.ShloMosaic Idealize.ShloMosaic.TcCoe

theorem chk5_dec : ∀ A : Fin 13, ∀ t : Fin (k0_t2_loop (BitVec.ofNat 32 (A.val + 1))).trips, ∀ e : Fin 13,
    k0_chk5 (BitVec.ofNat 32 (A.val + 1)) t (BitVec.ofNat 32 e.val) := by decide +kernel

theorem chk7_dec : ∀ A : Fin 13, ∀ t : Fin (k0_t2_loop (BitVec.ofNat 32 (A.val + 1))).trips, ∀ e : Fin 13,
    k0_chk7 (BitVec.ofNat 32 (A.val + 1)) t (BitVec.ofNat 32 e.val) := by decide +kernel

end Cert.KernelIdeal.Hand
-- ==== Proof.Item.lean ====
/-
  The item loop: item `i` is column block `i / A` of the expert `act (i % A)`. Each trip quantises the activations its rows still
  need, starts the weights of the item two later, waits for its own, and runs the tile loop.
-/
module

public import proofs.«01_k».proof.Proof.Tiles
public import proofs.«01_k».proof.Proof.Chk2
public import proofs.«01_k».proof.Proof.Chk5
public import proofs.«01_k».proof.Proof.Chk6

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## Rules -/

theorem w_smemLoad (c : Dev nD) {N : ℕ} {M : Memref sig .tc .smem (⟨1, ![N]⟩ : Shape) .i32} {off : Fin 1 → ℕ} {k : ℕ} (h : off = ![k]) (inb) {h1 : (Rect.unit (s := (⟨1, ![N]⟩ : Shape)) off S1.size inb).shape.numel = 1} {hp}
    {f : Buf (Elt F) (M.view.loc (c : Thread nD τ))} {v : Elt F .i32}
    (hv : ∀ x, (M.access (Rect.unit (s := (⟨1, ![N]⟩ : Shape)) off S1.size inb)).read (Elt F) f x = v) {Q : Elt F .i32 → sProp 𝕄} :
    ptU c M f ⊢ iprop((ptU c M f -∗ Q v) -∗ W c (smemLoad (p := .tc) M (Rect.unit (s := (⟨1, ![N]⟩ : Shape)) off S1.size inb) h1 hp) Q) := by
  iintro H K
  unfold smemLoad
  iapply (wp_smemLoadElt Variants.none (c : Thread nD τ) none Set.univ (m := M) (r := Rect.unit (s := (⟨1, ![N]⟩ : Shape)) off S1.size inb) (S := Finset.univ) (k := fun x => .ret x) (Finset.subset_univ _)) $$ H
  iintro H
  rw [hv]
  iapply w_pure
  iapply K
  iexact H

theorem w_assume (c : Dev nD) {P : Prop} {d : Decidable P} (h : P) {Q : PLift P → sProp 𝕄} : Q ⟨h⟩ ⊢ W c (Prog.lift (.assume P d)) Q := by
  iintro H
  iapply (wp_assume Variants.none (c : Thread nD τ) none Set.univ (k := fun x => .ret x) h)
  iapply w_pure
  iexact H

/-- A counted loop of no trips. -/
theorem w_for0 (c : Dev nD) {α : Type} {L : Scf.Loop 32} (h : L.trips = 0) {ok} {init : α} {body} {Q : α → sProp 𝕄} :
    Q init ⊢ W c (Scf.Loop.for L ok init body) Q := by
  iintro H
  iapply (Scf.wp_for frame (wpE (defs₀ (F := F)) Variants.none (c : Thread nD τ) none) Set.univ _ _ _ ok init _ (fun j a => iprop(⌜a = init⌝)) ?_)
  · intro t
    exact absurd (t.isLt.trans_eq h) (Nat.not_lt_zero _)
  isplitr
  · ipureintro; rfl
  · iintro %r %hr
    subst hr
    iexact H

/-- A conditional, of which both branches give `Q'`. -/
theorem w_dite (c : Dev nD) {P : Prop} [Decidable P] {α : Type} {a : P → Prog (TpuEff nD τ sig (Elt F) Λ₀ .tc) α} {b : ¬ P → Prog (TpuEff nD τ sig (Elt F) Λ₀ .tc) α} {Q : α → sProp 𝕄}
    (R : sProp 𝕄) (Q' : α → sProp 𝕄) (ha : ∀ h, R ⊢ W c (a h) Q') (hb : ∀ h, R ⊢ W c (b h) Q') :
    R ⊢ iprop((∀ r, Q' r -∗ Q r) -∗ W c (if h : P then a h else b h) Q) := by
  iintro H K
  by_cases h : P
  · rw [dif_pos h]
    iapply (wp_wand frame (wpE (defs₀ (F := F)) Variants.none (c : Thread nD τ) none) (Q := Q')) $$ [H]
    · iapply (ha h) $$ H
    · iexact K
  · rw [dif_neg h]
    iapply (wp_wand frame (wpE (defs₀ (F := F)) Variants.none (c : Thread nD τ) none) (Q := Q')) $$ [H]
    · iapply (hb h) $$ H
    · iexact K

/-! ## The groups -/

/-- The rows of expert `e` are `S e ≤ · < S (e + 1)`; the `A` experts with rows are `act 0, act 1, …`. -/
structure Grp (A : ℕ) (act S : ℕ → ℕ) : Prop where
  A0 : 0 < A
  A13 : A ≤ 13
  act13 : ∀ k, k < A → act k < 13
  mono : ∀ e, S e ≤ S (e + 1)
  zero : S 0 = 0
  top : ∀ e, 13 ≤ e → S e = 3072
  cover : ∀ r, r < 3072 → ∃ k, k < A ∧ S (act k) ≤ r ∧ r < S (act k + 1)

variable {A : ℕ} {act S : ℕ → ℕ}

theorem Grp.mono' (G : Grp A act S) {a b : ℕ} (h : a ≤ b) : S a ≤ S b := monotone_nat_of_le_succ G.mono h

theorem Grp.le (G : Grp A act S) (e : ℕ) : S e ≤ 3072 := by
  have := G.mono' (Nat.le_max_left e 13)
  rwa [G.top _ (Nat.le_max_right e 13)] at this

theorem Grp.uniq (G : Grp A act S) {e e' r : ℕ} (h1 : S e ≤ r) (h2 : r < S (e + 1)) (h3 : S e' ≤ r) (h4 : r < S (e' + 1)) : e = e' := by
  rcases Nat.lt_trichotomy e e' with h | h | h
  · have := G.mono' (show e + 1 ≤ e' from h); omega
  · exact h
  · have := G.mono' (show e' + 1 ≤ e from h); omega

/-- The chunks of activations quantised before item `i`. -/
def dn (A : ℕ) (act S : ℕ → ℕ) : ℕ → ℕ
  | 0 => 0
  | i + 1 => max (dn A act S i) ((S (act (i % A) + 1) + 63) / 64)

theorem dn_le (G : Grp A act S) (i : ℕ) : dn A act S i ≤ 48 := by
  induction i with
  | zero => exact Nat.zero_le _
  | succ i ih =>
    have := G.le (act (i % A) + 1)
    simp only [dn]
    omega

theorem dn_mono {i j : ℕ} (h : i ≤ j) : dn A act S i ≤ dn A act S j := by
  refine monotone_nat_of_le_succ (fun n => ?_) h
  simp only [dn]
  omega

theorem dn_end (G : Grp A act S) : dn A act S (8 * A) = 48 := by
  obtain ⟨k, hk, h1, h2⟩ := G.cover 3071 (by omega)
  have h3 := G.le (act k + 1)
  have h4 : dn A act S (k + 1) ≤ dn A act S (8 * A) := dn_mono (by omega)
  have h5 := dn_le G (8 * A)
  have h6 : (S (act k + 1) + 63) / 64 ≤ dn A act S (k + 1) := by
    simp only [dn]
    rw [Nat.mod_eq_of_lt hk]
    omega
  omega

theorem chk5_of (hA0 : 0 < A) (hA : A ≤ 13) (t : Fin (k0_t2_loop (BitVec.ofNat 32 A)).trips) {e : ℕ} (he : e < 13) : k0_chk5 (BitVec.ofNat 32 A) t (BitVec.ofNat 32 e) := by
  obtain ⟨a, rfl⟩ : ∃ a, A = a + 1 := ⟨A - 1, by omega⟩
  exact chk5_dec ⟨a, by omega⟩ t ⟨e, he⟩

theorem chk7_of (hA0 : 0 < A) (hA : A ≤ 13) (t : Fin (k0_t2_loop (BitVec.ofNat 32 A)).trips) {e : ℕ} (he : e < 13) : k0_chk7 (BitVec.ofNat 32 A) t (BitVec.ofNat 32 e) := by
  obtain ⟨a, rfl⟩ : ∃ a, A = a + 1 := ⟨A - 1, by omega⟩
  exact chk7_dec ⟨a, by omega⟩ t ⟨e, he⟩

/-! ## The state between items -/

/-- The blocks of the items before `i` hold their products. -/
def HInv (fx : S3072x7168.Idx → Elt F .bf16) (fw : S13x7168x4096.Idx → Elt F .fp8e4m3) (f3 : S13x4096.Idx → Elt F .f32) (A : ℕ) (act S : ℕ → ℕ) (i : ℕ)
    (f8 : S3072x2048.Idx → Elt F .f32) : Prop :=
  ∀ i', i' < i → ∀ x, (x 1).val / 256 = i' / A → S (act (i' % A)) ≤ (x 0).val → (x 0).val < S (act (i' % A) + 1) → hOK fx fw f3 (act (i' % A)) x (f8 x)

theorem HInv_step (G : Grp A act S) {fx : S3072x7168.Idx → Elt F .bf16} {fw : S13x7168x4096.Idx → Elt F .fp8e4m3} {f3 : S13x4096.Idx → Elt F .f32} {i : ℕ}
    {f8 f8' : S3072x2048.Idx → Elt F .f32} (h : HInv fx fw f3 A act S i f8)
    (ht : TOK fx fw f3 (act (i % A)) (i / A) (S (act (i % A))) (S (act (i % A) + 1)) f8 (ntile (S (act (i % A))) (S (act (i % A) + 1))) f8') : HInv fx fw f3 A act S (i + 1) f8' := by
  intro i' hi' x h1 h2 h3
  by_cases hx : (x 1).val / 256 = i / A ∧ S (act (i % A)) ≤ (x 0).val ∧ (x 0).val < S (act (i % A) + 1)
  · have e := G.uniq h2 h3 hx.2.1 hx.2.2
    rw [e]
    exact (ht x).1 hx.1 hx.2.1 hx.2.2 (by unfold ntile; omega)
  · rw [(ht x).2 hx]
    refine h i' (lt_of_le_of_ne (Nat.lt_succ_iff.1 hi') ?_) x h1 h2 h3
    rintro rfl
    exact hx ⟨h1, h2, h3⟩

theorem HInv_end (G : Grp A act S) {fx : S3072x7168.Idx → Elt F .bf16} {fw : S13x7168x4096.Idx → Elt F .fp8e4m3} {f3 : S13x4096.Idx → Elt F .f32}
    {f8 : S3072x2048.Idx → Elt F .f32} (h : HInv fx fw f3 A act S (8 * A) f8) (x : S3072x2048.Idx) (e : ℕ) (h1 : S e ≤ (x 0).val) (h2 : (x 0).val < S (e + 1)) : hOK fx fw f3 e x (f8 x) := by
  have hx0 := (x 0).isLt
  have hx1 := (x 1).isLt
  simp at hx0 hx1
  obtain ⟨k, hk, h3, h4⟩ := G.cover (x 0).val hx0
  have hA := G.A0
  have em : (A * ((x 1).val / 256) + k) % A = k := by rw [Nat.mul_add_mod, Nat.mod_eq_of_lt hk]
  have ed : (A * ((x 1).val / 256) + k) / A = (x 1).val / 256 := by rw [Nat.mul_add_div hA, Nat.div_eq_of_lt hk, Nat.add_zero]
  have hlt : A * ((x 1).val / 256) + k < 8 * A := by
    have : A * ((x 1).val / 256) ≤ A * 7 := Nat.mul_le_mul_left _ (by omega)
    omega
  have := h _ hlt x (by rw [ed]) (by rw [em]; exact h3) (by rw [em]; exact h4)
  rw [em] at this
  rwa [G.uniq h1 h2 h3 h4]

def slotW (c : Dev nD) (fw : S13x7168x4096.Idx → Elt F .fp8e4m3) (A : ℕ) (act : ℕ → ℕ) (s : Fin 3) : Option ℕ → sProp 𝕄
  | none => idleW c fw s
  | some j => busyW c fw s (act (j % A)) (j / A) 0

theorem slotW_some (c : Dev nD) (fw : S13x7168x4096.Idx → Elt F .fp8e4m3) (A : ℕ) (act : ℕ → ℕ) (s : Fin 3) (j : ℕ) : slotW c fw A act s (some j) = busyW c fw s (act (j % A)) (j / A) 0 := rfl

theorem slotW_none (c : Dev nD) (fw : S13x7168x4096.Idx → Elt F .fp8e4m3) (A : ℕ) (act : ℕ → ℕ) (s : Fin 3) : slotW c fw A act s none = idleW c fw s := rfl

/-- Item `j`, if there is one. -/
def it (A j : ℕ) : Option ℕ := if j < 8 * A then some j else none

/-- The weight slots before item `i`. -/
def stW (c : Dev nD) (fw : S13x7168x4096.Idx → Elt F .fp8e4m3) (A : ℕ) (act : ℕ → ℕ) (i : ℕ) : sProp 𝕄 :=
  iprop(slotW c fw A act (r3 i) (it A i) ∗ slotW c fw A act (r3 (i + 1)) (it A (i + 1)) ∗ idleW c fw (r3 (i + 2)))

/-- Everything the item loop holds before item `i`. -/
def stI (c : Dev nD) (fx : S3072x7168.Idx → Elt F .bf16) (fw : S13x7168x4096.Idx → Elt F .fp8e4m3) (f3 : S13x4096.Idx → Elt F .f32) (A : ℕ) (act S : ℕ → ℕ)
    (f12 : S13.Idx → Elt F .i32) (f13 : S14.Idx → Elt F .i32) (i : ℕ) : sProp 𝕄 :=
  iprop(stX c fx (dn A act S i) ∗ stW c fw A act i ∗ (∃ f8, ⌜HInv fx fw f3 A act S i f8⌝ ∗ ptU c A8 f8) ∗ ptU c A12 f12 ∗ ptU c A13 f13 ∗ ptU c A3 f3)

theorem rd12 {f12 : S13.Idx → Elt F .i32} (h12 : ∀ i, (i 0).val < A → f12 i = BitVec.ofNat 32 (act (i 0).val)) {off : Fin 1 → ℕ} {k : ℕ} (h : off = ![k]) (hk : k < A) (inb) (x) :
    (A12.access (Rect.unit (s := S13) off S1.size inb)).read (Elt F) f12 x = BitVec.ofNat 32 (act k) := by
  subst h
  have e : ((Rect.unit (s := S13) ![k] S1.size inb).emb x 0).val = k := by
    rw [unit_emb_val]
    have := (x 0).isLt
    simp at this
    simp [this]
  show f12 ((Rect.unit (s := S13) ![k] S1.size inb).emb x) = _
  rw [h12 _ (by rw [e]; exact hk), e]

theorem rd13 {f13 : S14.Idx → Elt F .i32} (h13 : ∀ i, f13 i = BitVec.ofNat 32 (S (i 0).val)) {off : Fin 1 → ℕ} {k : ℕ} (h : off = ![k]) (inb) (x) :
    (A13.access (Rect.unit (s := S14) off S1.size inb)).read (Elt F) f13 x = BitVec.ofNat 32 (S k) := by
  subst h
  have e : ((Rect.unit (s := S14) ![k] S1.size inb).emb x 0).val = k := by
    rw [unit_emb_val]
    have := (x 0).isLt
    simp at this
    simp [this]
  show f13 ((Rect.unit (s := S14) ![k] S1.size inb).emb x) = _
  rw [h13, e]

theorem item_trip (c : Dev nD) (fx : S3072x7168.Idx → Elt F .bf16) (fw : S13x7168x4096.Idx → Elt F .fp8e4m3) (f3 : S13x4096.Idx → Elt F .f32) (G : Grp A act S)
    {f12 : S13.Idx → Elt F .i32} {f13 : S14.Idx → Elt F .i32} (h12 : ∀ i, (i 0).val < A → f12 i = BitVec.ofNat 32 (act (i 0).val)) (h13 : ∀ i, f13 i = BitVec.ofNat 32 (S (i 0).val))
    (hw2 : k0_chk2 (BitVec.ofNat 32 A)) (v3 : BitVec 32) (t : Fin (k0_t2_loop (BitVec.ofNat 32 A)).trips) (Q : BitVec 32 → sProp 𝕄) :
    stI c fx fw f3 A act S f12 f13 t.val ⊢ iprop((stI c fx fw f3 A act S f12 f13 (t.val + 1) -∗ Q (BitVec.ofNat 32 (dn A act S (t.val + 1))))
      -∗ W c (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 (BitVec.ofNat 32 A) hw2 v3 t (BitVec.ofNat 32 (dn A act S t.val))) Q) := by
  have hA0 := G.A0
  have hA := G.A13
  have ht := t.isLt.trans_eq (t2_trips hA)
  have he := G.act13 _ (Nat.mod_lt t.val hA0)
  have he2 := G.act13 _ (Nat.mod_lt (t.val + 2) hA0)
  have hd := dn_le G t.val
  have h01 := G.mono (act (t.val % A))
  have h1 := G.le (act (t.val % A) + 1)
  have e0 : it A t.val = some t.val := if_pos ht
  have er : r3 (t.val + 1 + 2) = r3 t.val := Fin.ext (by show (t.val + 1 + 2) % 3 = t.val % 3; omega)
  unfold k0_t2_body
  simp only [k0_part11_eq_skeleton]
  unfold k0_part11_skel
  simp only [wp_bind]
  unfold stI stW
  rw [e0, slotW_some]
  iintro ⟨HX, ⟨HW0, HW1, HW2⟩, ⟨%f8, %hh, H8⟩, H12, H13, H3⟩ K
  iapply (w_smemLoad c (M := A12) (off16_eq hA0 hA t) _ (fun x => rd12 h12 (off16_eq hA0 hA t) (Nat.mod_lt _ hA0) _ x)) $$ H12
  iintro H12
  iapply (w_assume c (chk5_of hA0 hA t he))
  iapply (w_smemLoad c (M := A13) (off17_eq he) _ (fun x => rd13 h13 (off17_eq he) _ x)) $$ H13
  iintro H13
  iapply (w_smemLoad c (M := A13) (off18_eq he) _ (fun x => rd13 h13 (off18_eq he) _ x)) $$ H13
  iintro H13
  have hw6 := chk6_of hA0 hA t hd h01 h1
  iapply (w_assume c hw6)
  iapply (quant_loop c fx (BitVec.ofNat 32 A) hw2 v3 _ _ t hd h1 (BitVec.ofNat 32 (S (act (t.val % A)))) hw6) $$ HX
  iintro %r3' HX
  iapply (w_for0 c (t4_trips hd h1))
  unfold stX
  icases HX with ⟨HX0, HX1, ⟨%f6, %f7, %hok, H6, H7⟩, HO⟩
  have hv58 : Scalar.maxsi (BitVec.ofNat 32 (dn A act S t.val)) (Scalar.divsi (Scalar.subi (Scalar.addi (BitVec.ofNat 32 (S (act (t.val % A) + 1))) 64#32) 1#32) 64#32) = BitVec.ofNat 32 (dn A act S (t.val + 1)) := by
    rw [show Scalar.addi (BitVec.ofNat 32 (S (act (t.val % A) + 1))) 64#32 = BitVec.ofNat 32 (S (act (t.val % A) + 1) + 64) from add_nw _ _,
      show Scalar.subi (BitVec.ofNat 32 (S (act (t.val % A) + 1) + 64)) 1#32 = BitVec.ofNat 32 (S (act (t.val % A) + 1) + 64 - 1) from sub_nw (by omega),
      show Scalar.divsi (BitVec.ofNat 32 (S (act (t.val % A) + 1) + 64 - 1)) 64#32 = BitVec.ofNat 32 ((S (act (t.val % A) + 1) + 64 - 1) / 64) from div_nw (by omega) (by omega) (by omega),
      max_nw (by omega) (by omega)]
    rfl
  have hrd : S (act (t.val % A) + 1) ≤ 64 * max (dn A act S t.val) ((S (act (t.val % A) + 1) + 63) / 64) := by omega
  iapply (w_dite c iprop(idleW c fw (r3 (t.val + 2)) ∗ ptU c A12 f12) (fun r => iprop(⌜r = ⟨Scalar.divsi (Scf.iv 0#32 1#32 t.val) (BitVec.ofNat 32 A), BitVec.ofNat 32 (act (t.val % A)), chk5_of hA0 hA t he, Scalar.remsi (Scf.iv 0#32 1#32 t.val) 3#32,
      BitVec.ofNat 32 (S (act (t.val % A))), BitVec.ofNat 32 (S (act (t.val % A) + 1)), hw6, Scalar.divsi (Scalar.subi (Scalar.addi (BitVec.ofNat 32 (S (act (t.val % A) + 1))) 64#32) 1#32) 64#32⟩⌝
      ∗ slotW c fw A act (r3 (t.val + 2)) (it A (t.val + 2)) ∗ ptU c A12 f12)) ?ha ?hb) $$ [HW2 H12]
  case ha =>
    intro hc
    have hlt := (cond6_iff hA0 hA t).1 hc
    simp only [wp_bind]
    iintro ⟨HW2, H12⟩
    iapply (w_smemLoad c (M := A12) (off37_eq hA0 hA t) _ (fun x => rd12 h12 (off37_eq hA0 hA t) (Nat.mod_lt _ hA0) _ x)) $$ H12
    iintro H12
    iapply (w_assume c (chk7_of hA0 hA t he2))
    iapply (startW0 c fw (r3 (t.val + 2)) (act ((t.val + 2) % A)) ((t.val + 2) / A) (semW_eq (r3 (t.val + 2)) (off38_eq hA0 hA t) _) (off39_eq hA0 hA t) (off40_eq hA0 hA t he2 0)) $$ HW2
    iintro HW2
    iapply (startW1 c fw (r3 (t.val + 2)) (act ((t.val + 2) % A)) ((t.val + 2) / A) (semW_eq (r3 (t.val + 2)) (off41_eq hA0 hA t) _) (off42_eq hA0 hA t) (off40_eq hA0 hA t he2 1)) $$ HW2
    iintro HW2
    iapply w_pure
    rw [show it A (t.val + 2) = some (t.val + 2) from if_pos hlt, slotW_some]
    isplitr
    · ipureintro; rfl
    isplitl [HW2]
    · iexact HW2
    · iexact H12
  case hb =>
    intro hc
    have hlt : ¬ t.val + 2 < 8 * A := fun h => hc ((cond6_iff hA0 hA t).2 h)
    iintro ⟨HW2, H12⟩
    iapply w_pure
    rw [show it A (t.val + 2) = none from if_neg hlt, slotW_none]
    isplitr
    · ipureintro; rfl
    isplitl [HW2]
    · iexact HW2
    · iexact H12
  · isplitl [HW2]
    · iexact HW2
    · iexact H12
  iintro %u ⟨%hu, HW2, H12⟩
  subst hu
  iapply (waitW0 c fw (r3 t.val) (act (t.val % A)) (t.val / A) (semW_eq (r3 t.val) (off43_eq hA0 hA t) _) _) $$ [HW0 HO]
  · isplitl [HW0]
    · iexact HW0
    · iexact HO
  iintro ⟨HW0, HO⟩
  iapply (waitW1 c fw (r3 t.val) (act (t.val % A)) (t.val / A) (semW_eq (r3 t.val) (off43_eq hA0 hA t) _) _) $$ [HW0 HO]
  · isplitl [HW0]
    · iexact HW0
    · iexact HO
  unfold landedW
  iintro ⟨⟨H90, H91, HS, HT0, HT1⟩, HO⟩
  iapply (w_loadU c (M := A3)) $$ H3
  iintro H3
  iapply (w_loadU c (M := A3)) $$ H3
  iintro H3
  have hnn : t.val / A < 8 := Nat.div_lt_of_lt_mul (by omega)
  have es0 : (A3.access (Rect.unit (s := S13x4096) (k0_off47 (BitVec.ofNat 32 A) t (BitVec.ofNat 32 (act (t.val % A)))) S1x256.size (k0_off47_inb (BitVec.ofNat 32 A) t (BitVec.ofNat 32 (act (t.val % A))) (chk5_of hA0 hA t he)))).read (Elt F) f3
      = gS f3 (act (t.val % A)) (t.val / A) 0 := read_S f3 (0 : Fin 2) he hnn ((off47_eq hA0 hA t he).trans (by simp)) _
  have es1 : (A3.access (Rect.unit (s := S13x4096) (k0_off48 (BitVec.ofNat 32 A) t (BitVec.ofNat 32 (act (t.val % A)))) S1x256.size (k0_off48_inb (BitVec.ofNat 32 A) t (BitVec.ofNat 32 (act (t.val % A))) (chk5_of hA0 hA t he)))).read (Elt F) f3
      = gS f3 (act (t.val % A)) (t.val / A) 1 := read_S f3 (1 : Fin 2) he hnn ((off48_eq hA0 hA t he).trans (by simp)) _
  rw [es0, es1]
  iapply (tile_loop c fx fw f3 hA0 hA t (BitVec.ofNat 32 (dn A act S t.val)) (e := act (t.val % A)) h01 h1 hrd hw6 f8 hok) $$ [H6 H7 H8 H90 H91]
  · isplitl [H6]
    · iexact H6
    isplitl [H7]
    · iexact H7
    isplitl [H8]
    · iexact H8
    isplitl [H90]
    · iexact H90
    · iexact H91
  iintro %r5 ⟨%f8', %ht8, H6, H7, H8, H90, H91⟩
  iapply (w_for0 c (t6_trips h01 h1))
  iapply w_pure
  rw [hv58]
  iapply K
  isplitl [HX0 HX1 H6 H7 HO]
  · isplitl [HX0]
    · iexact HX0
    isplitl [HX1]
    · iexact HX1
    isplitl [H6 H7]
    · iexists f6, f7
      isplitr
      · ipureintro; exact hok
      isplitl [H6]
      · iexact H6
      · iexact H7
    · iexact HO
  isplitl [HW1 HW2 H90 H91 HS HT0 HT1]
  · isplitl [HW1]
    · iexact HW1
    isplitl [HW2]
    · iexact HW2
    rw [er]
    unfold idleW
    isplitl [H90]
    · iexists _; iexact H90
    isplitl [H91]
    · iexists _; iexact H91
    isplitl [HS]
    · iexact HS
    isplitl [HT0]
    · iexact HT0
    · iexact HT1
  isplitl [H8]
  · iexists f8'
    isplitr
    · ipureintro; exact HInv_step G hh ht8
    · iexact H8
  isplitl [H12]
  · iexact H12
  isplitl [H13]
  · iexact H13
  · iexact H3

theorem item_loop (c : Dev nD) (fx : S3072x7168.Idx → Elt F .bf16) (fw : S13x7168x4096.Idx → Elt F .fp8e4m3) (f3 : S13x4096.Idx → Elt F .f32) (G : Grp A act S)
    {f12 : S13.Idx → Elt F .i32} {f13 : S14.Idx → Elt F .i32} (h12 : ∀ i, (i 0).val < A → f12 i = BitVec.ofNat 32 (act (i 0).val)) (h13 : ∀ i, f13 i = BitVec.ofNat 32 (S (i 0).val))
    (hw2 : k0_chk2 (BitVec.ofNat 32 A)) (v3 : BitVec 32) (ok : (k0_t2_loop (BitVec.ofNat 32 A)).OK) (Q : BitVec 32 → sProp 𝕄) :
    stI c fx fw f3 A act S f12 f13 0 ⊢ iprop((stI c fx fw f3 A act S f12 f13 (8 * A) -∗ Q (BitVec.ofNat 32 (dn A act S (8 * A))))
      -∗ W c (Scf.Loop.for (k0_t2_loop (BitVec.ofNat 32 A)) ok 0#32 (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 (BitVec.ofNat 32 A) hw2 v3)) Q) := by
  have ht := t2_trips G.A13
  iintro H K
  iapply (Scf.wp_for frame (wpE (defs₀ (F := F)) Variants.none (c : Thread nD τ) none) Set.univ _ _ _ ok 0#32 _
    (fun j a => iprop(⌜a = BitVec.ofNat 32 (dn A act S j)⌝ ∗ stI c fx fw f3 A act S f12 f13 j)) ?_)
  · intro t acc
    iintro ⟨%ha, H⟩
    subst ha
    iapply (item_trip c fx fw f3 G h12 h13 hw2 v3 t) $$ H
    iintro H
    isplitr
    · ipureintro; rfl
    · iexact H
  isplitl [H]
  · isplitr
    · ipureintro; rfl
    · iexact H
  · iintro %r ⟨%hr, H⟩
    subst hr
    rw [show Scf.trips (k0_t2_loop (BitVec.ofNat 32 A)).lb (k0_t2_loop (BitVec.ofNat 32 A)).ub (k0_t2_loop (BitVec.ofNat 32 A)).st = 8 * A from ht]
    iapply K
    iexact H

end Cert.KernelIdeal.Hand
-- ==== Proof.Scan.lean ====
/-
  The scan over the groups: running row offsets, and the list of the groups that have rows.
-/
module

public import proofs.«01_k».proof.Proof.Item

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## Groups -/

/-- The rows before group `e`. -/
def sz (g : ℕ → ℕ) : ℕ → ℕ
  | 0 => 0
  | e + 1 => sz g e + g e

/-- The groups before `e` that have rows. -/
def cnt (g : ℕ → ℕ) : ℕ → ℕ
  | 0 => 0
  | e + 1 => cnt g e + if 0 < g e then 1 else 0

/-- The group sizes fill the rows. -/
structure GOK (g : ℕ → ℕ) : Prop where
  tot : sz g 13 = 3072
  out : ∀ e, 13 ≤ e → g e = 0

variable {g : ℕ → ℕ}

theorem sz_mono {a b : ℕ} (h : a ≤ b) : sz g a ≤ sz g b :=
  monotone_nat_of_le_succ (fun n => Nat.le_add_right _ _) h

theorem cnt_mono {a b : ℕ} (h : a ≤ b) : cnt g a ≤ cnt g b :=
  monotone_nat_of_le_succ (fun n => Nat.le_add_right _ _) h

theorem cnt_le (e : ℕ) : cnt g e ≤ e := by
  induction e with
  | zero => exact Nat.le_refl _
  | succ e ih =>
    simp only [cnt]
    split <;> omega

theorem cnt_succ {e : ℕ} (h : 0 < g e) : cnt g (e + 1) = cnt g e + 1 := by
  simp only [cnt, if_pos h]

theorem cnt_uniq {a b : ℕ} (ha : 0 < g a) (hb : 0 < g b) (h : cnt g a = cnt g b) : a = b := by
  rcases Nat.lt_trichotomy a b with hl | hl | hl
  · have h1 : cnt g (a + 1) ≤ cnt g b := cnt_mono hl
    rw [cnt_succ ha] at h1; omega
  · exact hl
  · have h1 : cnt g (b + 1) ≤ cnt g a := cnt_mono hl
    rw [cnt_succ hb] at h1; omega

theorem cnt_ex (e k : ℕ) (h : k < cnt g e) : ∃ j, j < e ∧ 0 < g j ∧ cnt g j = k := by
  induction e with
  | zero => exact absurd h (Nat.not_lt_zero _)
  | succ e ih =>
    by_cases hg : 0 < g e
    · rw [cnt_succ hg] at h
      by_cases hk : k < cnt g e
      · obtain ⟨j, h1, h2, h3⟩ := ih hk
        exact ⟨j, by omega, h2, h3⟩
      · exact ⟨e, by omega, hg, by omega⟩
    · simp only [cnt, if_neg hg] at h
      obtain ⟨j, h1, h2, h3⟩ := ih h
      exact ⟨j, by omega, h2, h3⟩

open Classical in
/-- The `k`-th group that has rows. -/
def actv (g : ℕ → ℕ) (k : ℕ) : ℕ :=
  if h : ∃ j, j < 13 ∧ 0 < g j ∧ cnt g j = k then h.choose else 0

theorem actv_spec {k : ℕ} (h : k < cnt g 13) : actv g k < 13 ∧ 0 < g (actv g k) ∧ cnt g (actv g k) = k := by
  have hx := cnt_ex 13 k h
  unfold actv
  rw [dif_pos hx]
  exact hx.choose_spec

theorem sz_find (e r : ℕ) (h : r < sz g e) : ∃ j, j < e ∧ sz g j ≤ r ∧ r < sz g (j + 1) := by
  induction e with
  | zero => exact absurd h (Nat.not_lt_zero _)
  | succ e ih =>
    by_cases hr : r < sz g e
    · obtain ⟨j, h1, h2⟩ := ih hr
      exact ⟨j, by omega, h2⟩
    · exact ⟨e, by omega, by omega, h⟩

theorem sz_top (G : GOK g) (e : ℕ) (h : 13 ≤ e) : sz g e = 3072 := by
  induction e, h using Nat.le_induction with
  | base => exact G.tot
  | succ e he ih => rw [sz, ih, G.out e he]

theorem cover (G : GOK g) (r : ℕ) (h : r < 3072) : ∃ k, k < cnt g 13 ∧ sz g (actv g k) ≤ r ∧ r < sz g (actv g k + 1) := by
  obtain ⟨j, h1, h2, h3⟩ := sz_find 13 r (by rw [G.tot]; exact h)
  have hg : 0 < g j := by
    have : sz g (j + 1) = sz g j + g j := rfl
    omega
  have hk : cnt g j < cnt g 13 := by
    have h4 : cnt g (j + 1) ≤ cnt g 13 := cnt_mono h1
    rw [cnt_succ hg] at h4; omega
  have hs := actv_spec hk
  have he : actv g (cnt g j) = j := cnt_uniq hs.2.1 hg hs.2.2
  exact ⟨cnt g j, hk, by rw [he]; exact h2, by rw [he]; exact h3⟩

theorem grp (G : GOK g) : Grp (cnt g 13) (actv g) (sz g) where
  A0 := by
    obtain ⟨k, h, _⟩ := cover G 0 (by omega)
    omega
  A13 := cnt_le 13
  act13 := fun k h => (actv_spec h).1
  mono := fun e => Nat.le_add_right _ _
  zero := rfl
  top := sz_top G
  cover := cover G

theorem g_le (G : GOK g) (e : ℕ) : g e ≤ 3072 := by
  have h1 := (grp G).le (e + 1)
  have : sz g (e + 1) = sz g e + g e := rfl
  omega

/-! ## Words -/

theorem t1_trips : k0_t1_loop.trips = 13 := by decide

theorem off1_eq (t : Fin k0_t1_loop.trips) :
    k0_off1 t = ![t.val] := by
  have ht : t.val < 13 := t.isLt.trans_eq t1_trips
  simp (disch := omega) only [k0_off1, iv0_nw, iv_nw, Nat.zero_add, mul_nw, add_nw, sub_nw, div_nw, rem_nw, min_nw, max_nw, ic_nw, toNat_nw] <;>
  first
  | rfl
  | (apply v1e <;> first | rfl | omega)

theorem off2_eq (t : Fin k0_t1_loop.trips) :
    k0_off2 t = ![t.val] := by
  have ht : t.val < 13 := t.isLt.trans_eq t1_trips
  simp (disch := omega) only [k0_off2, iv0_nw, iv_nw, Nat.zero_add, mul_nw, add_nw, sub_nw, div_nw, rem_nw, min_nw, max_nw, ic_nw, toNat_nw] <;>
  first
  | rfl
  | (apply v1e <;> first | rfl | omega)

theorem off3_eq {n : ℕ} (hn : n < 2 ^ 31) :
    k0_off3 (BitVec.ofNat 32 n) = ![n] := by
  simp (disch := omega) only [k0_off3, iv0_nw, iv_nw, Nat.zero_add, mul_nw, add_nw, sub_nw, div_nw, rem_nw, min_nw, max_nw, ic_nw, toNat_nw] <;>
  first
  | rfl
  | (apply v1e <;> first | rfl | omega)

theorem cond1_iff {n : ℕ} (hn : n < 2 ^ 31) : k0_cond1 (BitVec.ofNat 32 n) = 1#1 ↔ 0 < n := by
  unfold k0_cond1
  simp (disch := omega) only [ext_ne, sgt_nw]

theorem cond2_true {A : ℕ} (h0 : 0 < A) (hA : A ≤ 13) : k0_cond2 (BitVec.ofNat 32 A) = 1#1 := by
  unfold k0_cond2
  simp (disch := omega) only [ext_ne, mul_nw, sgt_nw]
  omega

theorem cond3_true {A : ℕ} (h0 : 0 < A) (hA : A ≤ 13) : k0_cond3 (BitVec.ofNat 32 A) = 1#1 := by
  unfold k0_cond3
  simp (disch := omega) only [ext_ne, mul_nw, sgt_nw]
  omega

theorem t7_trips {A : ℕ} (hA : A ≤ 13) : (k0_t7_loop (BitVec.ofNat 32 A)).trips = 0 := by
  have h : k0_t7_loop (BitVec.ofNat 32 A) = ⟨BitVec.ofNat 32 (A * 8), BitVec.ofNat 32 (A * 8), 1#32⟩ := by
    simp (disch := omega) only [k0_t7_loop, mul_nw, sub_nw, div_nw, add_nw, Nat.sub_zero, Nat.div_one, Nat.zero_add, Nat.mul_one]
  rw [h]
  exact (trips_nw (by omega) (by omega)).trans (Nat.sub_self _)

theorem chk1_of {n : ℕ} (hn : n < 13) (v : BitVec 32) : k0_chk1 (BitVec.ofNat 32 n) v := by
  intro _ a
  rw [off3_eq (by omega)]
  have ha : a = 0 := Subsingleton.elim _ _
  subst ha
  show n + 1 ≤ 13
  omega

theorem chk2_of {A : ℕ} (h0 : 0 < A) (hA : A ≤ 13) : k0_chk2 (BitVec.ofNat 32 A) := by
  obtain ⟨a, rfl⟩ : ∃ a, A = a + 1 := ⟨A - 1, by omega⟩
  exact chk2_dec ⟨a, by omega⟩

theorem chk3_of {A e : ℕ} (h0 : 0 < A) (hA : A ≤ 13) (he : e < 13) : k0_chk3 (BitVec.ofNat 32 A) (BitVec.ofNat 32 e) := by
  obtain ⟨a, rfl⟩ : ∃ a, A = a + 1 := ⟨A - 1, by omega⟩
  exact chk3_dec ⟨a, by omega⟩ ⟨e, he⟩

theorem chk4_of {A e : ℕ} (h0 : 0 < A) (hA : A ≤ 13) (he : e < 13) : k0_chk4 (BitVec.ofNat 32 A) (BitVec.ofNat 32 e) := by
  obtain ⟨a, rfl⟩ : ∃ a, A = a + 1 := ⟨A - 1, by omega⟩
  exact chk4_dec ⟨a, by omega⟩ ⟨e, he⟩

theorem wr12 (f : S13.Idx → Elt F .i32) (a : BitVec 32) {off : Fin 1 → ℕ} {k : ℕ} (h : off = ![k]) (inb) (i : S13.Idx) :
    (A12.access (Rect.unit (s := S13) off S1.size inb)).write (Elt F) f (fun _ => a) Finset.univ i = if (i 0).val = k then a else f i := by
  subst h
  by_cases hk : (i 0).val = k
  · rw [if_pos hk]
    have e : (Rect.unit (s := S13) ![k] S1.size inb).emb (fun d => ⟨0, by have hd : d = 0 := Subsingleton.elim _ _; subst hd; exact Nat.one_pos⟩) = i := by
      funext d
      have hd : d = 0 := Subsingleton.elim _ _
      subst hd
      apply Fin.ext
      rw [unit_emb_val, hk]
      rfl
    conv_lhs => rw [← e]
    rw [write_whole_mem]
    exact Finset.mem_univ _
  · rw [if_neg hk]
    apply write_whole_not
    intro x _ hx
    apply hk
    rw [← hx, unit_emb_val]
    have hx0 : (x 0).val < 1 := (x 0).isLt
    show k + (x 0).val = k
    omega

theorem wr13 (f : S14.Idx → Elt F .i32) (a : BitVec 32) {off : Fin 1 → ℕ} {k : ℕ} (h : off = ![k]) (inb) (i : S14.Idx) :
    (A13.access (Rect.unit (s := S14) off S1.size inb)).write (Elt F) f (fun _ => a) Finset.univ i = if (i 0).val = k then a else f i := by
  subst h
  by_cases hk : (i 0).val = k
  · rw [if_pos hk]
    have e : (Rect.unit (s := S14) ![k] S1.size inb).emb (fun d => ⟨0, by have hd : d = 0 := Subsingleton.elim _ _; subst hd; exact Nat.one_pos⟩) = i := by
      funext d
      have hd : d = 0 := Subsingleton.elim _ _
      subst hd
      apply Fin.ext
      rw [unit_emb_val, hk]
      rfl
    conv_lhs => rw [← e]
    rw [write_whole_mem]
    exact Finset.mem_univ _
  · rw [if_neg hk]
    apply write_whole_not
    intro x _ hx
    apply hk
    rw [← hx, unit_emb_val]
    have hx0 : (x 0).val < 1 := (x 0).isLt
    show k + (x 0).val = k
    omega

theorem rd0 {f0 : S13.Idx → Elt F .i32} (h0 : ∀ i, f0 i = BitVec.ofNat 32 (g (i 0).val)) {off : Fin 1 → ℕ} {k : ℕ} (h : off = ![k]) (inb) (x) :
    (A0.access (Rect.unit (s := S13) off S1.size inb)).read (Elt F) f0 x = BitVec.ofNat 32 (g k) := by
  subst h
  have e : ((Rect.unit (s := S13) ![k] S1.size inb).emb x 0).val = k := by
    rw [unit_emb_val]
    have := (x 0).isLt
    simp at this
    simp [this]
  show f0 ((Rect.unit (s := S13) ![k] S1.size inb).emb x) = _
  rw [h0, e]

/-- A word read without its value being used. -/
theorem w_smemLoad' (c : Dev nD) {N : ℕ} {M : Memref sig .tc .smem (⟨1, ![N]⟩ : Shape) .i32} {off : Fin 1 → ℕ} (inb) {h1 : (Rect.unit (s := (⟨1, ![N]⟩ : Shape)) off S1.size inb).shape.numel = 1} {hp}
    {f : Buf (Elt F) (M.view.loc (c : Thread nD τ))} {Q : Elt F .i32 → sProp 𝕄} :
    ptU c M f ⊢ iprop((∀ v, ptU c M f -∗ Q v) -∗ W c (smemLoad (p := .tc) M (Rect.unit (s := (⟨1, ![N]⟩ : Shape)) off S1.size inb) h1 hp) Q) := by
  iintro H K
  unfold smemLoad
  iapply (wp_smemLoadElt Variants.none (c : Thread nD τ) none Set.univ (m := M) (r := Rect.unit (s := (⟨1, ![N]⟩ : Shape)) off S1.size inb) (S := Finset.univ) (k := fun x => .ret x) (Finset.subset_univ _)) $$ H
  iintro H
  iapply w_pure
  iapply K
  iexact H

/-! ## The scan -/

/-- What the two tables hold after `t` groups. -/
def SInv (g : ℕ → ℕ) (t : ℕ) (f12 : S13.Idx → BitVec 32) (f13 : S14.Idx → BitVec 32) : Prop :=
  (∀ j, j < t → 0 < g j → ∀ i, (i 0).val = cnt g j → f12 i = BitVec.ofNat 32 j) ∧ ∀ i, (i 0).val < t → f13 i = BitVec.ofNat 32 (sz g (i 0).val)

def stS (c : Dev nD) (g : ℕ → ℕ) (f0 : S13.Idx → Elt F .i32) (t : ℕ) : sProp 𝕄 :=
  iprop(ptU c A0 f0 ∗ ∃ (f12 : S13.Idx → Elt F .i32) (f13 : S14.Idx → Elt F .i32), ⌜SInv g t f12 f13⌝ ∗ ptU c A12 f12 ∗ ptU c A13 f13)

theorem scan_trip (c : Dev nD) (G : GOK g) {f0 : S13.Idx → Elt F .i32} (h0 : ∀ i, f0 i = BitVec.ofNat 32 (g (i 0).val)) (t : Fin k0_t1_loop.trips) (Q : BitVec 32 × BitVec 32 → sProp 𝕄) :
    stS c g f0 t.val ⊢ iprop((stS c g f0 (t.val + 1) -∗ Q (BitVec.ofNat 32 (sz g (t.val + 1)), BitVec.ofNat 32 (cnt g (t.val + 1))))
      -∗ W c (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 t (BitVec.ofNat 32 (sz g t.val), BitVec.ofNat 32 (cnt g t.val))) Q) := by
  have ht : t.val < 13 := t.isLt.trans_eq t1_trips
  have hc := cnt_le (g := g) t.val
  have hg := g_le G t.val
  unfold k0_t1_body
  simp only [wp_bind]
  unfold stS
  iintro ⟨H0, %f12, %f13, %hI, H12, H13⟩ K
  iapply (w_smemLoad' c (M := A13) _) $$ H13
  iintro %u H13
  iapply (w_storeU c (M := A13)) $$ H13
  iintro H13
  iapply (w_smemLoad c (M := A0) (off2_eq t) _ (fun x => rd0 h0 (off2_eq t) _ x)) $$ H0
  iintro H0
  iapply (w_assume c (chk1_of (by omega) _))
  iapply (w_dite c iprop(ptU c A12 f12) (fun r => iprop(⌜r = (BitVec.ofNat 32 (sz g (t.val + 1)), BitVec.ofNat 32 (cnt g (t.val + 1)))⌝
      ∗ ∃ f12' : S13.Idx → Elt F .i32, ⌜∀ j, j < t.val + 1 → 0 < g j → ∀ i, (i 0).val = cnt g j → f12' i = BitVec.ofNat 32 j⌝ ∗ ptU c A12 f12')) ?ha ?hb) $$ H12
  case ha =>
    intro hcd
    have hp := (cond1_iff (by omega)).1 hcd
    simp only [wp_bind]
    iintro H12
    iapply (w_smemLoad' c (M := A12) _) $$ H12
    iintro %u2 H12
    iapply (w_storeU c (M := A12)) $$ H12
    iintro H12
    iapply w_pure
    isplitr
    · ipureintro
      rw [(sgt_nw (by omega) (by omega)).2 hp, cnt_succ hp]
      show (Scalar.addi _ _, Scalar.addi _ 1#32) = _
      rw [add_nw, add_nw]
      rfl
    · iexists _
      isplitr
      rotate_left 1
      · iexact H12
      · ipureintro
        intro j hj hgj i hi
        rw [wr12 f12 _ (off3_eq (by omega)), iv0_nw]
        by_cases hjt : j = t.val
        · rw [if_pos (by rw [hi, hjt]), hjt]
        · have hlt : cnt g (j + 1) ≤ cnt g t.val := cnt_mono (by omega)
          rw [cnt_succ hgj] at hlt
          rw [if_neg (by omega)]
          exact hI.1 j (by omega) hgj i hi
  case hb =>
    intro hcd
    have hp : ¬ 0 < g t.val := fun h => hcd ((cond1_iff (by omega)).2 h)
    simp only [wp_bind]
    iintro H12
    iapply w_pure
    isplitr
    · ipureintro
      have hz : Scalar.cmpi .sgt (BitVec.ofNat 32 (g t.val)) 0#32 = 0#1 := by
        have hn : ¬ Scalar.cmpi .sgt (BitVec.ofNat 32 (g t.val)) 0#32 = 1#1 := fun h => hp ((sgt_nw (by omega) (by omega)).1 h)
        revert hn
        generalize Scalar.cmpi .sgt (BitVec.ofNat 32 (g t.val)) 0#32 = b
        revert b; decide
      rw [hz]
      show (Scalar.addi _ _, Scalar.addi _ 0#32) = _
      rw [add_nw, add_nw]
      simp only [sz, cnt, if_neg hp]
    · iexists f12
      isplitr
      rotate_left 1
      · iexact H12
      · ipureintro
        intro j hj hgj i hi
        by_cases hjt : j = t.val
        · subst hjt; exact absurd hgj hp
        · exact hI.1 j (by omega) hgj i hi
  iintro %r ⟨%hr, %f12', %h12, H12⟩
  subst hr
  iapply K
  isplitl [H0]
  · iexact H0
  iexists f12'
  iexists _
  isplitr
  rotate_left 1
  · isplitl [H12]
    · iexact H12
    · iexact H13
  · ipureintro
    refine ⟨h12, ?_⟩
    intro i hi
    rw [wr13 f13 _ (off1_eq t)]
    by_cases hit : (i 0).val = t.val
    · rw [if_pos hit, hit]
    · rw [if_neg hit]
      exact hI.2 i (by omega)

theorem scan_loop (c : Dev nD) (G : GOK g) {f0 : S13.Idx → Elt F .i32} (h0 : ∀ i, f0 i = BitVec.ofNat 32 (g (i 0).val)) (ok : k0_t1_loop.OK) (Q : BitVec 32 × BitVec 32 → sProp 𝕄) :
    stS c g f0 0 ⊢ iprop((stS c g f0 13 -∗ Q (BitVec.ofNat 32 (sz g 13), BitVec.ofNat 32 (cnt g 13)))
      -∗ W c (Scf.Loop.for k0_t1_loop ok (0#32, 0#32) (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10)) Q) := by
  have ht : Scf.trips k0_t1_loop.lb k0_t1_loop.ub k0_t1_loop.st = 13 := t1_trips
  iintro H K
  iapply (Scf.wp_for frame (wpE (defs₀ (F := F)) Variants.none (c : Thread nD τ) none) Set.univ _ _ _ ok _ _
    (fun j a => iprop(⌜a = (BitVec.ofNat 32 (sz g j), BitVec.ofNat 32 (cnt g j))⌝ ∗ stS c g f0 j)) ?_)
  · intro t acc
    iintro ⟨%ha, H⟩
    subst ha
    iapply (scan_trip c G h0 t) $$ H
    iintro H
    isplitr
    · ipureintro; rfl
    · iexact H
  isplitl [H]
  · isplitr
    · ipureintro; rfl
    · iexact H
  · iintro %r ⟨%hr, H⟩
    subst hr
    rw [ht]
    iapply K
    iexact H

theorem fin13 (c : Dev nD) {f12 : S13.Idx → Elt F .i32} {f13 : S14.Idx → Elt F .i32} (hI : SInv g 13 f12 f13) (inb) :
    ptU c A13 ((A13.access (Rect.unit (s := S14) ![13] S1.size inb)).write (Elt F) f13 (fun _ => BitVec.ofNat 32 (sz g 13)) Finset.univ)
      ⊢ (iprop(∃ f : S14.Idx → Elt F .i32, ⌜∀ i, f i = BitVec.ofNat 32 (sz g (i 0).val)⌝ ∗ ptU c A13 f) : sProp 𝕄) := by
  iintro H
  iexists _
  isplitr
  rotate_left 1
  · iexact H
  · ipureintro
    intro i
    rw [wr13 f13 _ rfl]
    by_cases hi : (i 0).val = 13
    · rw [if_pos hi, hi]
    · rw [if_neg hi]
      have : (i 0).val < 14 := (i 0).isLt
      exact hI.2 i (by omega)

/-! ## From the start to the item loop -/

theorem prologue (c : Dev nD) (fx : S3072x7168.Idx → Elt F .bf16) (fw : S13x7168x4096.Idx → Elt F .fp8e4m3) (f3 : S13x4096.Idx → Elt F .f32) (G : GOK g)
    {f0 : S13.Idx → Elt F .i32} (h0 : ∀ i, f0 i = BitVec.ofNat 32 (g (i 0).val)) (Q : (Σ' (v1_1 : BitVec 32) (k0_hw2 : k0_chk2 v1_1), BitVec 32) → sProp 𝕄) :
    iprop(ptU c A0 f0 ∗ (∃ f, ptU c A12 f) ∗ (∃ f, ptU c A13 f) ∗ idleX c fx 0 ∗ idleX c fx 1 ∗ idleW c fw 0 ∗ idleW c fw 1 ∗ idleW c fw 2
        ∗ (∃ f, ptU c A6 f) ∗ (∃ f, ptU c A7 f) ∗ (∃ f, ptU c A8 f) ∗ ptU c A3 f3 ∗ OW c)
      ⊢ iprop((∀ (f12 : S13.Idx → Elt F .i32) (f13 : S14.Idx → Elt F .i32), ⌜∀ i, (i 0).val < cnt g 13 → f12 i = BitVec.ofNat 32 (actv g (i 0).val)⌝ -∗ ⌜∀ i, f13 i = BitVec.ofNat 32 (sz g (i 0).val)⌝
          -∗ ptU c A0 f0 ∗ stI c fx fw f3 (cnt g 13) (actv g) (sz g) f12 f13 0
          -∗ Q ⟨BitVec.ofNat 32 (cnt g 13), chk2_of (grp G).A0 (grp G).A13, Scalar.muli (BitVec.ofNat 32 (cnt g 13)) 8#32⟩)
        -∗ W c (k0_part25 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10) Q) := by
  have hA0 := (grp G).A0
  have hA := (grp G).A13
  have he0 := (grp G).act13 _ (Nat.mod_lt 0 hA0)
  have he1 := (grp G).act13 _ (Nat.mod_lt 1 hA0)
  rw [k0_part25_eq_skeleton]
  unfold k0_part25_skel
  simp only [wp_bind]
  iintro ⟨H0, ⟨%f12, H12⟩, ⟨%f13, H13⟩, HX0, HX1, HW0, HW1, HW2, ⟨%f6, H6⟩, ⟨%f7, H7⟩, ⟨%f8, H8⟩, H3, HO⟩ K
  iapply (scan_loop c G h0) $$ [H0 H12 H13]
  · unfold stS
    isplitl [H0]
    · iexact H0
    iexists f12
    iexists f13
    isplitr
    · ipureintro
      exact ⟨fun j hj => absurd hj (Nat.not_lt_zero _), fun i hi => absurd hi (Nat.not_lt_zero _)⟩
    isplitl [H12]
    · iexact H12
    · iexact H13
  unfold stS
  iintro ⟨H0, %f12', %f13', %hI, H12, H13⟩
  iapply (w_assume c (chk2_of hA0 hA))
  iapply (w_smemLoad' c (M := A13) _) $$ H13
  iintro %u H13
  iapply (w_storeU c (M := A13)) $$ H13
  iintro H13
  icases (fin13 c hI _) $$ H13 with ⟨%g13, %h13, H13⟩
  iapply (startX c fx 0 0 (semX_eq 0 rfl _) rfl rfl) $$ HX0
  iintro HX0
  iapply (startX c fx 1 1 (semX_eq 1 rfl _) rfl rfl) $$ HX1
  iintro HX1
  have h12 : ∀ i, (i 0).val < cnt g 13 → f12' i = BitVec.ofNat 32 (actv g (i 0).val) := fun i hi =>
    hI.1 _ (actv_spec hi).1 (actv_spec hi).2.1 i (actv_spec hi).2.2.symm
  rw [dif_pos (cond2_true hA0 hA)]
  simp only [wp_bind]
  iapply (w_smemLoad c (M := A12) (off4_eq hA0 hA) _ (fun x => rd12 h12 (off4_eq hA0 hA) (Nat.mod_lt _ hA0) _ x)) $$ H12
  iintro H12
  iapply (w_assume c (chk3_of hA0 hA he0))
  iapply (startW0 c fw 0 (actv g (0 % cnt g 13)) (0 / cnt g 13) (semW_eq 0 off5_eq _) off6_eq (off7_eq hA0 hA he0 0)) $$ HW0
  iintro HW0
  iapply (startW1 c fw 0 (actv g (0 % cnt g 13)) (0 / cnt g 13) (semW_eq 0 off8_eq _) off9_eq (off7_eq hA0 hA he0 1)) $$ HW0
  iintro HW0
  rw [dif_pos (cond3_true hA0 hA)]
  simp only [wp_bind]
  iapply (w_smemLoad c (M := A12) (off10_eq hA0 hA) _ (fun x => rd12 h12 (off10_eq hA0 hA) (Nat.mod_lt _ hA0) _ x)) $$ H12
  iintro H12
  iapply (w_assume c (chk4_of hA0 hA he1))
  iapply (startW0 c fw 1 (actv g (1 % cnt g 13)) (1 / cnt g 13) (semW_eq 1 off11_eq _) off12_eq (off13_eq hA0 hA he1 0)) $$ HW1
  iintro HW1
  iapply (startW1 c fw 1 (actv g (1 % cnt g 13)) (1 / cnt g 13) (semW_eq 1 off14_eq _) off15_eq (off13_eq hA0 hA he1 1)) $$ HW1
  iintro HW1
  iapply (w_loadU c (M := A6)) $$ H6
  iintro H6
  iapply (w_storeU c (M := A6)) $$ H6
  iintro H6
  iapply w_pure
  iapply K $$ %f12' %g13 [] []
  · ipureintro; exact h12
  · ipureintro; exact h13
  · isplitl [H0]
    · iexact H0
    unfold stI stX stW
    rw [show dn (cnt g 13) (actv g) (sz g) 0 = 0 from rfl, show it (cnt g 13) 0 = some 0 from if_pos (by omega), show it (cnt g 13) (0 + 1) = some 1 from if_pos (by omega), slotW_some, slotW_some, show nx 0 = some 0 from if_pos (by decide), show nx (0 + 1) = some 1 from if_pos (by decide), show slotX c fx (r2 0) (some 0) = busyX c fx 0 0 from rfl, show slotX c fx (r2 (0 + 1)) (some 1) = busyX c fx 1 1 from rfl]
    isplitl [HX0 HX1 H6 H7 HO]
    · isplitl [HX0]
      · iexact HX0
      isplitl [HX1]
      · iexact HX1
      isplitl [H6 H7]
      · iexists _
        iexists f7
        isplitr
        rotate_left 1
        · isplitl [H6]
          · iexact H6
          · iexact H7
        · ipureintro
          exact ⟨fun i hi => absurd hi (Nat.not_lt_zero _), fun i hi => absurd hi (Nat.not_lt_zero _)⟩
      · iexact HO
    isplitl [HW0 HW1 HW2]
    · isplitl [HW0]
      · iexact HW0
      isplitl [HW1]
      · iexact HW1
      · iexact HW2
    isplitl [H8]
    · iexists f8
      isplitr
      · ipureintro
        intro i' hi'
        exact absurd hi' (Nat.not_lt_zero _)
      · iexact H8
    isplitl [H12]
    · iexact H12
    isplitl [H13]
    · iexact H13
    · iexact H3

end Cert.KernelIdeal.Hand
-- ==== Proof.Out.lean ====
/-
  The output loop: chunk `t` of 128 rows is quantised, its scales stored, and its codes sent to the result through two slots.
-/
module

public import proofs.«01_k».proof.Proof.Item

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## The values -/

/-- Chunk `k` of 128 rows of the products. -/
def chunkH (h : S3072x2048.Idx → Elt F .f32) (k : ℕ) : Vec F S128x2048 .f32 := fun z =>
  h (ix2 (d := ![3072, 2048]) ⟨(128 * k + (z 0).val) % 3072, Nat.mod_lt _ (by decide)⟩ (z 1))

/-- The codes of a chunk. -/
def qY (v : Vec F S128x2048 .f32) : FVec F S1x128x2048 .fp8e4m3 := k0_pay10 v (k0_pay77 (k0_pay75 v) (k0_pay76 v))

/-- The scales of a chunk. -/
def qT (v : Vec F S128x2048 .f32) : FVec F S1x128 .f32 := k0_pay9 (F := F) (k0_pay78 (k0_pay75 v) (k0_pay76 v)) k0_pay79

/-- All result codes. -/
def yCan (h : S3072x2048.Idx → Elt F .f32) : S3072x2048.Idx → Elt F .fp8e4m3 := fun i =>
  qY (chunkH h ((i 0).val / 128)) (ix3 (d := ![1, 128, 2048]) ⟨0, by decide⟩ ⟨(i 0).val % 128, Nat.mod_lt _ (by decide)⟩ (i 1))

/-- All result scales. -/
def ysCan (h : S3072x2048.Idx → Elt F .f32) : S1x3072.Idx → Elt F .f32 := fun i =>
  qT (chunkH h ((i 1).val / 128)) (ix2 (d := ![1, 128]) ⟨0, by decide⟩ ⟨(i 1).val % 128, Nat.mod_lt _ (by decide)⟩)

/-- The scales of the first `k` chunks are stored. -/
def TSOK (h : S3072x2048.Idx → Elt F .f32) (k : ℕ) (f5 : S1x3072.Idx → Elt F .f32) : Prop := ∀ i, (i 1).val < 128 * k → f5 i = ysCan h i

theorem TSOK_step (h : S3072x2048.Idx → Elt F .f32) {k : ℕ} (hk : k < 24) {f5 : S1x3072.Idx → Elt F .f32} (hf : TSOK h k f5) {off : Fin 2 → ℕ} (e : off = ![0, 128 * k]) (inb) :
    TSOK h (k + 1) ((A5.access (Rect.unit (s := S1x3072) off S1x128.size inb)).write (Elt F) f5 (qT (chunkH h k)) Finset.univ) := by
  subst e
  intro i hi
  have hi0 := (i 0).isLt
  simp at hi0
  by_cases hlt : (i 1).val < 128 * k
  · rw [write_whole_not]
    · exact hf i hlt
    · intro x _ he
      have := congrArg (fun j : S1x3072.Idx => (j 1).val) he
      simp only [unit_emb_val] at this
      simp at this
      omega
  · have he : i = (Rect.unit (s := S1x3072) ![0, 128 * k] S1x128.size inb).emb (ix2 (d := ![1, 128]) ⟨0, by decide⟩ ⟨(i 1).val - 128 * k, by simp; omega⟩) := by
      apply idx2_ext <;> rw [unit_emb_val] <;> simp [ix2]
      · exact hi0
      · omega
    conv_lhs => rw [he]
    rw [write_whole_mem _ _ _ _ _ (Finset.mem_univ _)]
    unfold ysCan
    have e1 : (i 1).val / 128 = k := by omega
    rw [e1]
    congr 1
    apply idx2_ext <;> simp [ix2]
    omega

theorem read_H (h : S3072x2048.Idx → Elt F .f32) {k : ℕ} (hk : k < 24) {off : Fin 2 → ℕ} (e : off = ![128 * k, 0]) (inb) :
    (A8.access (Rect.unit (s := S3072x2048) off S128x2048.size inb)).read (Elt F) h = chunkH h k := by
  subst e
  funext x
  show h ((Rect.unit (s := S3072x2048) ![128 * k, 0] S128x2048.size inb).emb x) = _
  unfold chunkH
  have hx := (x 0).isLt
  simp at hx
  congr 1
  apply idx2_ext <;> simp only [ix2, unit_emb_val] <;> simp
  omega

/-- The slot after the codes of chunk `k` are stored there. -/
theorem holdsY (h : S3072x2048.Idx → Elt F .f32) {s k : ℕ} (hk : k < 24) (fy : S2x128x2048.Idx → Elt F .fp8e4m3) {off : Fin 3 → ℕ} (e : off = ![s, 0, 0]) (inb) :
    HoldsY (yCan h) s k ((A11.access (Rect.unit (s := S2x128x2048) off S1x128x2048.size inb)).write (Elt F) fy (qY (chunkH h k)) Finset.univ) := by
  subst e
  intro i j h0 h1 hs
  have hj := (j 1).isLt
  simp at hj
  have he : j = (Rect.unit (s := S2x128x2048) ![s, 0, 0] S1x128x2048.size inb).emb (ix3 (d := ![1, 128, 2048]) ⟨0, by decide⟩ (j 1) (j 2)) := by
    apply Shape.idx3_ext <;> rw [unit_emb_val] <;> simp [ix3]
    exact hs
  conv_lhs => rw [he]
  rw [write_whole_mem _ _ _ _ _ (Finset.mem_univ _)]
  unfold yCan
  have e1 : (i 0).val / 128 = k := by omega
  rw [e1]
  congr 1
  apply Shape.idx3_ext <;> simp [ix3]
  · omega
  · exact h1.symm

/-! ## The rows of the result -/

def lowY (k : ℕ) : Finset S3072x2048.Idx := Finset.univ.filter fun i => (i 0).val < 128 * k
def highY (k : ℕ) : Finset S3072x2048.Idx := Finset.univ.filter fun i => 128 * k ≤ (i 0).val

theorem lowY_succ (k : ℕ) : lowY (k + 1) = lowY k ∪ rowsY k := by
  ext i; simp only [lowY, rowsY, Finset.mem_union, Finset.mem_filter, Finset.mem_univ, _root_.true_and]; omega

theorem lowY_disj (k : ℕ) : Disjoint (lowY k) (rowsY k) := by
  rw [Finset.disjoint_left]; intro i; simp only [lowY, rowsY, Finset.mem_filter, Finset.mem_univ, _root_.true_and]; omega

theorem lowY_zero : lowY 0 = ∅ := by ext i; simp [lowY]
theorem lowY_all : lowY 24 = Finset.univ := by
  ext i
  have h : (i 0).val < 3072 := (i 0).isLt
  have h2 : (i 0).val < 128 * 24 := h
  simp only [lowY, Finset.mem_filter, Finset.mem_univ, _root_.true_and, iff_true]
  exact h2
theorem highY_zero : highY 0 = Finset.univ := by ext i; simp [highY]
theorem rowsY_sub (k : ℕ) : rowsY k ⊆ highY k := by
  intro i; simp only [highY, rowsY, Finset.mem_filter, Finset.mem_univ, _root_.true_and]; omega
theorem highY_sdiff (k : ℕ) : highY k \ rowsY k = highY (k + 1) := by
  ext i; simp only [highY, rowsY, Finset.mem_sdiff, Finset.mem_filter, Finset.mem_univ, _root_.true_and]; omega

theorem high_split (c : Dev nD) (k : ℕ) : iprop(∃ f, pt c A4 (highY k) fullShare f) ⊢ (iprop((∃ f, pt c A4 (rowsY k) fullShare f) ∗ ∃ f, pt c A4 (highY (k + 1)) fullShare f) : sProp 𝕄) := by
  iintro ⟨%f, H⟩
  icases (pointsTo_split_subset (rowsY_sub k)).1 $$ H with ⟨HA, HB⟩
  rw [highY_sdiff]
  isplitl [HA]
  · iexists f; iexact HA
  · iexists f; iexact HB

theorem low_join (c : Dev nD) (g : S3072x2048.Idx → Elt F .fp8e4m3) (k : ℕ) : iprop(pt c A4 (lowY k) fullShare g ∗ pt c A4 (rowsY k) fullShare g) ⊢ (pt c A4 (lowY (k + 1)) fullShare g : sProp 𝕄) := by
  rw [lowY_succ]
  exact (pointsTo_union (lowY_disj k)).2

/-! ## The loop -/

def slotY (c : Dev nD) (g : S3072x2048.Idx → Elt F .fp8e4m3) (s : Fin 2) : Option ℕ → sProp 𝕄
  | none => idleY c s
  | some k => busyY c g s k

theorem slotY_some (c : Dev nD) (g : S3072x2048.Idx → Elt F .fp8e4m3) (s : Fin 2) (k : ℕ) : slotY c g s (some k) = busyY c g s k := rfl
theorem slotY_none (c : Dev nD) (g : S3072x2048.Idx → Elt F .fp8e4m3) (s : Fin 2) : slotY c g s none = idleY c s := rfl

/-- The chunk sent two before chunk `k`, if there is one. -/
def oy (k : ℕ) : Option ℕ := if 2 ≤ k then some (k - 2) else none

/-- Everything the output loop holds before chunk `k`. -/
def stO (c : Dev nD) (h : S3072x2048.Idx → Elt F .f32) (k : ℕ) : sProp 𝕄 :=
  iprop(slotY c (yCan h) (r2 k) (oy k) ∗ slotY c (yCan h) (r2 (k + 1)) (oy (k + 1)) ∗ (∃ f, pt c A4 (highY k) fullShare f) ∗ pt c A4 (lowY (k - 2)) fullShare (yCan h)
    ∗ (∃ f5, ⌜TSOK h k f5⌝ ∗ ptU c A5 f5) ∗ ptU c A8 h ∗ OW c)

theorem out_trip (c : Dev nD) (h : S3072x2048.Idx → Elt F .f32) (t : Fin k0_t12_loop.trips) (acc : Unit) (Q : Unit → sProp 𝕄) :
    stO c h t.val ⊢ iprop((∀ r, stO c h (t.val + 1) -∗ Q r) -∗ W c (k0_t12_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 t acc) Q) := by
  have ht := t.isLt.trans_eq t12_trips
  have er : r2 (t.val + 1 + 1) = r2 t.val := Fin.ext (by show (t.val + 1 + 1) % 2 = t.val % 2; omega)
  have eo : oy (t.val + 1 + 1) = some t.val := if_pos (by omega)
  unfold k0_t12_body
  simp only [k0_part23_eq_skeleton, k0_part24_eq_skeleton]
  unfold k0_part23_skel k0_part24_skel
  simp only [wp_bind]
  unfold stO
  iintro ⟨HY0, HY1, HH, HL, ⟨%f5, %h5, H5⟩, H8, HO⟩ K
  iapply (w_dite c iprop(slotY c (yCan h) (r2 t.val) (oy t.val) ∗ pt c A4 (lowY (t.val - 2)) fullShare (yCan h) ∗ ptU c A8 h ∗ OW c)
    (fun r => iprop(⌜r = ⟨Scf.iv 0#32 1#32 t.val, Scalar.remsi (Scf.iv 0#32 1#32 t.val) 2#32, Scalar.muli (Scf.iv 0#32 1#32 t.val) 128#32, chunkH h t.val, k0_pay75 (chunkH h t.val), k0_pay76 (chunkH h t.val)⟩⌝
      ∗ idleY c (r2 t.val) ∗ pt c A4 (lowY (t.val + 1 - 2)) fullShare (yCan h) ∗ ptU c A8 h ∗ OW c)) ?ha ?hb) $$ [HY0 HL H8 HO]
  case ha =>
    intro hc
    have hle := (cond10_iff t).1 hc
    rw [show oy t.val = some (t.val - 2) from if_pos hle, slotY_some, show t.val + 1 - 2 = t.val - 2 + 1 by omega]
    simp only [wp_bind]
    iintro ⟨HY0, HL, H8, HO⟩
    iapply (waitY c (yCan h) (r2 t.val) (t.val - 2) (semY_eq (r2 t.val) (off102_eq t) _) _) $$ [HY0 HO]
    · isplitl [HY0]
      · iexact HY0
      · iexact HO
    iintro ⟨HI, HD, HO⟩
    iapply (w_loadU c (M := A8)) $$ H8
    iintro H8
    rw [read_H h ht (off105_eq t)]
    iapply w_pure
    isplitr
    · ipureintro; rfl
    isplitl [HI]
    · iexact HI
    isplitl [HL HD]
    · iapply (low_join c (yCan h) (t.val - 2))
      isplitl [HL]
      · iexact HL
      · iexact HD
    isplitl [H8]
    · iexact H8
    · iexact HO
  case hb =>
    intro hc
    have hle : ¬ 2 ≤ t.val := fun h => hc ((cond10_iff t).2 h)
    rw [show oy t.val = none from if_neg hle, slotY_none, show t.val + 1 - 2 = t.val - 2 by omega]
    simp only [wp_bind]
    iintro ⟨HY0, HL, H8, HO⟩
    iapply (w_loadU c (M := A8)) $$ H8
    iintro H8
    rw [read_H h ht (off105_eq t)]
    iapply w_pure
    isplitr
    · ipureintro; rfl
    isplitl [HY0]
    · iexact HY0
    isplitl [HL]
    · iexact HL
    isplitl [H8]
    · iexact H8
    · iexact HO
  · isplitl [HY0]
    · iexact HY0
    isplitl [HL]
    · iexact HL
    isplitl [H8]
    · iexact H8
    · iexact HO
  iintro %u ⟨%hu, HI, HL, H8, HO⟩
  subst hu
  iapply w_pure
  iapply (w_loadU c (M := A5)) $$ H5
  iintro H5
  iapply (w_storeU c (M := A5)) $$ H5
  iintro H5
  unfold idleY
  icases HI with ⟨⟨%fy, HI⟩, HS⟩
  iapply (w_load c (M := A11) (I := setY (r2 t.val).val) (by rw [View.set_slice_whole]; exact (rect_setY (off107_eq t) _).subset)) $$ HI
  iintro HI
  iapply (w_store c (M := A11) (I := setY (r2 t.val).val) (by rw [View.setOn_univ, View.set_slice_whole]; exact (rect_setY (off107_eq t) _).subset)) $$ HI
  iintro HI
  icases (high_split c t.val) $$ HH with ⟨HR, HH⟩
  iapply (startY c (yCan h) (r2 t.val) t.val (semY_eq (r2 t.val) (off108_eq t) _) (off109_eq t) (off110_eq t) _ _ _ (holdsY h ht fy (off107_eq t) (k0_off107_inb t))) $$ [HI HS HR]
  · isplitl [HI]
    · iexact HI
    isplitl [HS]
    · iexact HS
    · iexact HR
  iintro HB
  iapply w_pure
  iapply K
  rw [er, eo, slotY_some]
  isplitl [HY1]
  · iexact HY1
  isplitl [HB]
  · iexact HB
  isplitl [HH]
  · iexact HH
  isplitl [HL]
  · iexact HL
  isplitl [H5]
  · iexists _
    isplitr
    · ipureintro; exact TSOK_step h ht h5 (off106_eq t) (k0_off106_inb t)
    · iexact H5
  isplitl [H8]
  · iexact H8
  · iexact HO

theorem out_loop (c : Dev nD) (h : S3072x2048.Idx → Elt F .f32) (ok : k0_t12_loop.OK) (Q : Unit → sProp 𝕄) :
    stO c h 0 ⊢ iprop((∀ r, stO c h 24 -∗ Q r) -∗ W c (Scf.Loop.for k0_t12_loop ok ⟨⟩ (k0_t12_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10)) Q) := by
  have ht : Scf.trips k0_t12_loop.lb k0_t12_loop.ub k0_t12_loop.st = 24 := t12_trips
  iintro H K
  iapply (Scf.wp_for frame (wpE (defs₀ (F := F)) Variants.none (c : Thread nD τ) none) Set.univ _ _ _ ok _ _ (fun j _ => stO c h j) ?_)
  · intro t acc
    iintro H
    iapply (out_trip c h t acc) $$ H
    iintro %r H
    iexact H
  isplitl [H]
  · iexact H
  · iintro %r H
    rw [ht]
    iapply K
    iexact H

end Cert.KernelIdeal.Hand
-- ==== Proof.Body.lean ====
/-
  The whole body: the scan and first copies, the item loop, the output loop, the last two waits.
-/
module

public import proofs.«01_k».proof.Proof.Scan
public import proofs.«01_k».proof.Proof.Out

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## Whole buffers and their slots -/

theorem piece_split (c : Dev nD) {sp : Space} {S : Shape} {e : EltTy} {M : Memref sig .tc sp S e} {I J K : Finset (Idx (M.view.loc (c : Thread nD τ)))} (h : I ⊆ J) (hk : J \ I = K) :
    iprop(∃ f, pt (F := F) c M J fullShare f) ⊢ (iprop((∃ f, pt c M I fullShare f) ∗ ∃ f, pt c M K fullShare f) : sProp 𝕄) := by
  subst hk
  iintro ⟨%f, H⟩
  icases (pointsTo_split_subset h).1 $$ H with ⟨HA, HB⟩
  isplitl [HA]
  · iexists f; iexact HA
  · iexists f; iexact HB

theorem piece_join (c : Dev nD) {sp : Space} {S : Shape} {e : EltTy} {M : Memref sig .tc sp S e} {I J K : Finset (Idx (M.view.loc (c : Thread nD τ)))} (h : I ⊆ J) (hk : J \ I = K) :
    (iprop((∃ f, pt (F := F) c M I fullShare f) ∗ ∃ f, pt c M K fullShare f) : sProp 𝕄) ⊢ iprop(∃ f, pt c M J fullShare f) := by
  subst hk
  iintro ⟨⟨%f, HA⟩, %f2, HB⟩
  iexists _
  iapply (pointsTo_join_subset (g := f) (f := f2) h)
  isplitl [HA]
  · iexact HA
  · iexact HB

/-- The slots of the weight ring from the `k`-th on. -/
def restW (k : ℕ) : Finset S3x2x7168x256.Idx := Finset.univ.filter fun i => k ≤ 2 * (i 0).val + (i 1).val

theorem subW0 : setW 0 0 ⊆ (Finset.univ : Finset S3x2x7168x256.Idx) := by
  intro i; have h0 : (i 0).val < 3 := (i 0).isLt; have h1 : (i 1).val < 2 := (i 1).isLt
  simp only [setW, restW, Finset.mem_filter, Finset.mem_univ, _root_.true_and, imp_true_iff]
theorem eqW0 : (Finset.univ : Finset S3x2x7168x256.Idx) \ setW 0 0 = restW 1 := by
  ext i; have h0 : (i 0).val < 3 := (i 0).isLt; have h1 : (i 1).val < 2 := (i 1).isLt
  simp only [setW, restW, Finset.mem_sdiff, Finset.mem_filter, Finset.mem_univ, _root_.true_and]; omega
theorem subW1 : setW 0 1 ⊆ (restW 1 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW1 : (restW 1 : Finset S3x2x7168x256.Idx) \ setW 0 1 = restW 2 := by
  ext i; have h0 : (i 0).val < 3 := (i 0).isLt; have h1 : (i 1).val < 2 := (i 1).isLt
  simp only [setW, restW, Finset.mem_sdiff, Finset.mem_filter, Finset.mem_univ, _root_.true_and]; omega
theorem subW2 : setW 1 0 ⊆ (restW 2 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW2 : (restW 2 : Finset S3x2x7168x256.Idx) \ setW 1 0 = restW 3 := by
  ext i; have h0 : (i 0).val < 3 := (i 0).isLt; have h1 : (i 1).val < 2 := (i 1).isLt
  simp only [setW, restW, Finset.mem_sdiff, Finset.mem_filter, Finset.mem_univ, _root_.true_and]; omega
theorem subW3 : setW 1 1 ⊆ (restW 3 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW3 : (restW 3 : Finset S3x2x7168x256.Idx) \ setW 1 1 = restW 4 := by
  ext i; have h0 : (i 0).val < 3 := (i 0).isLt; have h1 : (i 1).val < 2 := (i 1).isLt
  simp only [setW, restW, Finset.mem_sdiff, Finset.mem_filter, Finset.mem_univ, _root_.true_and]; omega
theorem subW4 : setW 2 0 ⊆ (restW 4 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW4 : (restW 4 : Finset S3x2x7168x256.Idx) \ setW 2 0 = setW 2 1 := by
  ext i; have h0 : (i 0).val < 3 := (i 0).isLt; have h1 : (i 1).val < 2 := (i 1).isLt
  simp only [setW, restW, Finset.mem_sdiff, Finset.mem_filter, Finset.mem_univ, _root_.true_and]; omega

theorem subX : setX 0 ⊆ (Finset.univ : Finset S2x64x7168.Idx) := Finset.subset_univ _
theorem eqX : (Finset.univ : Finset S2x64x7168.Idx) \ setX 0 = setX 1 := by
  ext i; have h0 : (i 0).val < 2 := (i 0).isLt
  simp only [setX, Finset.mem_sdiff, Finset.mem_filter, Finset.mem_univ, _root_.true_and]; omega
theorem subY : setY 0 ⊆ (Finset.univ : Finset S2x128x2048.Idx) := Finset.subset_univ _
theorem eqY : (Finset.univ : Finset S2x128x2048.Idx) \ setY 0 = setY 1 := by
  ext i; have h0 : (i 0).val < 2 := (i 0).isLt
  simp only [setY, Finset.mem_sdiff, Finset.mem_filter, Finset.mem_univ, _root_.true_and]; omega

/-- The shares of the two inputs that the copies read at. -/
def Toks (c : Dev nD) (fx : S3072x7168.Idx → Elt F .bf16) (fw : S13x7168x4096.Idx → Elt F .fp8e4m3) : sProp 𝕄 :=
  iprop(pt c A1 Finset.univ (tokX 0) fx ∗ pt c A1 Finset.univ (tokX 1) fx ∗ pt c A2 Finset.univ (tokW 0 0) fw ∗ pt c A2 Finset.univ (tokW 0 1) fw ∗ pt c A2 Finset.univ (tokW 1 0) fw ∗ pt c A2 Finset.univ (tokW 1 1) fw ∗ pt c A2 Finset.univ (tokW 2 0) fw ∗ pt c A2 Finset.univ (tokW 2 1) fw)

/-- The copies' semaphores at zero. -/
def Sems (c : Dev nD) : sProp (MT nD τ sig Unit (Elt F) ℕ (Pipeline.UD sig nD τ) ℕ) :=
  iprop(semVal ((c : Thread nD τ), .dma (sW 0)) 0 ∗ semVal ((c : Thread nD τ), .dma (sW 1)) 0 ∗ semVal ((c : Thread nD τ), .dma (sW 2)) 0 ∗ semVal ((c : Thread nD τ), .dma (sX 0)) 0 ∗ semVal ((c : Thread nD τ), .dma (sX 1)) 0 ∗ semVal ((c : Thread nD τ), .dma (sY 0)) 0 ∗ semVal ((c : Thread nD τ), .dma (sY 1)) 0)

/-- The scratch buffers at any contents. -/
def Scr (c : Dev nD) : sProp 𝕄 :=
  iprop((∃ f, ptU (F := F) c A6 f) ∗ (∃ f, ptU (F := F) c A7 f) ∗ (∃ f, ptU (F := F) c A8 f) ∗ (∃ f, ptU (F := F) c A9 f) ∗ (∃ f, ptU (F := F) c A10 f) ∗ (∃ f, ptU (F := F) c A11 f) ∗ (∃ f, ptU (F := F) c A12 f) ∗ (∃ f, ptU (F := F) c A13 f))

/-- All rings at rest. -/
def Rings (c : Dev nD) (fx : S3072x7168.Idx → Elt F .bf16) (fw : S13x7168x4096.Idx → Elt F .fp8e4m3) : sProp 𝕄 :=
  iprop(idleX c fx 0 ∗ idleX c fx 1 ∗ idleW c fw 0 ∗ idleW c fw 1 ∗ idleW c fw 2 ∗ idleY c 0 ∗ idleY c 1)

theorem rings_split (c : Dev nD) (fx : S3072x7168.Idx → Elt F .bf16) (fw : S13x7168x4096.Idx → Elt F .fp8e4m3) :
    iprop((∃ f, ptU c A9 f) ∗ (∃ f, ptU c A10 f) ∗ (∃ f, ptU c A11 f) ∗ Toks c fx fw ∗ Sems c) ⊢ Rings c fx fw := by
  unfold Toks Sems Rings idleX idleW idleY
  iintro ⟨H9, H10, H11, ⟨T0, T1, T2, T3, T4, T5, T6, T7⟩, S0, S1, S2, S3, S4, S5, S6⟩
  icases (piece_split c (M := A9) (I := setW 0 0) (J := Finset.univ) (K := restW 1) subW0 eqW0) $$ H9 with ⟨P0, H9⟩
  icases (piece_split c (M := A9) (I := setW 0 1) (J := restW 1) (K := restW 2) subW1 eqW1) $$ H9 with ⟨P1, H9⟩
  icases (piece_split c (M := A9) (I := setW 1 0) (J := restW 2) (K := restW 3) subW2 eqW2) $$ H9 with ⟨P2, H9⟩
  icases (piece_split c (M := A9) (I := setW 1 1) (J := restW 3) (K := restW 4) subW3 eqW3) $$ H9 with ⟨P3, H9⟩
  icases (piece_split c (M := A9) (I := setW 2 0) (J := restW 4) (K := setW 2 1) subW4 eqW4) $$ H9 with ⟨P4, H9⟩
  icases (piece_split c (M := A10) (I := setX 0) (J := Finset.univ) (K := setX 1) subX eqX) $$ H10 with ⟨X0, X1⟩
  icases (piece_split c (M := A11) (I := setY 0) (J := Finset.univ) (K := setY 1) subY eqY) $$ H11 with ⟨Y0, Y1⟩
  isplitl [X0 S3 T0]
  · isplitl [X0]
    · iexact X0
    isplitl [S3]
    · iexact S3
    iexact T0
  isplitl [X1 S4 T1]
  · isplitl [X1]
    · iexact X1
    isplitl [S4]
    · iexact S4
    iexact T1
  isplitl [P0 P1 S0 T2 T3]
  · isplitl [P0]
    · iexact P0
    isplitl [P1]
    · iexact P1
    isplitl [S0]
    · iexact S0
    isplitl [T2]
    · iexact T2
    iexact T3
  isplitl [P2 P3 S1 T4 T5]
  · isplitl [P2]
    · iexact P2
    isplitl [P3]
    · iexact P3
    isplitl [S1]
    · iexact S1
    isplitl [T4]
    · iexact T4
    iexact T5
  isplitl [P4 H9 S2 T6 T7]
  · isplitl [P4]
    · iexact P4
    isplitl [H9]
    · iexact H9
    isplitl [S2]
    · iexact S2
    isplitl [T6]
    · iexact T6
    iexact T7
  isplitl [Y0 S5]
  · isplitl [Y0]
    · iexact Y0
    iexact S5
  isplitl [Y1]
  · iexact Y1
  iexact S6

theorem rings_join (c : Dev nD) (fx : S3072x7168.Idx → Elt F .bf16) (fw : S13x7168x4096.Idx → Elt F .fp8e4m3) :
    Rings c fx fw ⊢ iprop((∃ f, ptU c A9 f) ∗ (∃ f, ptU c A10 f) ∗ (∃ f, ptU c A11 f) ∗ Toks c fx fw ∗ Sems c) := by
  unfold Toks Sems Rings idleX idleW idleY
  iintro ⟨⟨X0, S3, T0⟩, ⟨X1, S4, T1⟩, ⟨P0, P1, S0, T2, T3⟩, ⟨P2, P3, S1, T4, T5⟩, ⟨P4, P5, S2, T6, T7⟩, ⟨Y0, S5⟩, Y1, S6⟩
  icases (piece_join c (M := A9) (I := setW 2 0) (J := restW 4) (K := setW 2 1) subW4 eqW4) $$ [P4 P5] with P5
  · isplitl [P4]
    · iexact P4
    · iexact P5
  icases (piece_join c (M := A9) (I := setW 1 1) (J := restW 3) (K := restW 4) subW3 eqW3) $$ [P3 P5] with P5
  · isplitl [P3]
    · iexact P3
    · iexact P5
  icases (piece_join c (M := A9) (I := setW 1 0) (J := restW 2) (K := restW 3) subW2 eqW2) $$ [P2 P5] with P5
  · isplitl [P2]
    · iexact P2
    · iexact P5
  icases (piece_join c (M := A9) (I := setW 0 1) (J := restW 1) (K := restW 2) subW1 eqW1) $$ [P1 P5] with P5
  · isplitl [P1]
    · iexact P1
    · iexact P5
  icases (piece_join c (M := A9) (I := setW 0 0) (J := Finset.univ) (K := restW 1) subW0 eqW0) $$ [P0 P5] with P5
  · isplitl [P0]
    · iexact P0
    · iexact P5
  icases (piece_join c (M := A10) (I := setX 0) (J := Finset.univ) (K := setX 1) subX eqX) $$ [X0 X1] with X0
  · isplitl [X0]
    · iexact X0
    · iexact X1
  icases (piece_join c (M := A11) (I := setY 0) (J := Finset.univ) (K := setY 1) subY eqY) $$ [Y0 Y1] with Y0
  · isplitl [Y0]
    · iexact Y0
    · iexact Y1
  isplitl [P5]
  · iexact P5
  isplitl [X0]
  · iexact X0
  isplitl [Y0]
  · iexact Y0
  isplitl [T0 T1 T2 T3 T4 T5 T6 T7]
  · isplitl [T0]
    · iexact T0
    isplitl [T1]
    · iexact T1
    isplitl [T2]
    · iexact T2
    isplitl [T3]
    · iexact T3
    isplitl [T4]
    · iexact T4
    isplitl [T5]
    · iexact T5
    isplitl [T6]
    · iexact T6
    iexact T7
  isplitl [S0]
  · iexact S0
  isplitl [S1]
  · iexact S1
  isplitl [S2]
  · iexact S2
  isplitl [S3]
  · iexact S3
  isplitl [S4]
  · iexact S4
  isplitl [S5]
  · iexact S5
  iexact S6

theorem stW_end (c : Dev nD) (fw : S13x7168x4096.Idx → Elt F .fp8e4m3) (A : ℕ) (act : ℕ → ℕ) :
    stW c fw A act (8 * A) ⊢ iprop(idleW c fw 0 ∗ idleW c fw 1 ∗ idleW c fw 2) := by
  unfold stW
  rw [show it A (8 * A) = none from if_neg (by omega), show it A (8 * A + 1) = none from if_neg (by omega), slotW_none, slotW_none]
  rcases (by omega : (8 * A) % 3 = 0 ∨ (8 * A) % 3 = 1 ∨ (8 * A) % 3 = 2) with h | h | h
  · rw [show r3 (8 * A) = 0 from Fin.ext h, show r3 (8 * A + 1) = 1 from Fin.ext (by show (8 * A + 1) % 3 = 1; omega), show r3 (8 * A + 2) = 2 from Fin.ext (by show (8 * A + 2) % 3 = 2; omega)]
  · rw [show r3 (8 * A) = 1 from Fin.ext h, show r3 (8 * A + 1) = 2 from Fin.ext (by show (8 * A + 1) % 3 = 2; omega), show r3 (8 * A + 2) = 0 from Fin.ext (by show (8 * A + 2) % 3 = 0; omega)]
    iintro ⟨H1, H2, H0⟩
    isplitl [H0]
    · iexact H0
    isplitl [H1]
    · iexact H1
    · iexact H2
  · rw [show r3 (8 * A) = 2 from Fin.ext h, show r3 (8 * A + 1) = 0 from Fin.ext (by show (8 * A + 1) % 3 = 0; omega), show r3 (8 * A + 2) = 1 from Fin.ext (by show (8 * A + 2) % 3 = 1; omega)]
    iintro ⟨H2, H0, H1⟩
    isplitl [H0]
    · iexact H0
    isplitl [H1]
    · iexact H1
    · iexact H2

variable {g : ℕ → ℕ}

theorem body_run (c : Dev nD) (fx : S3072x7168.Idx → Elt F .bf16) (fw : S13x7168x4096.Idx → Elt F .fp8e4m3) (f3 : S13x4096.Idx → Elt F .f32) (G : GOK g)
    {f0 : S13.Idx → Elt F .i32} (h0 : ∀ i, f0 i = BitVec.ofNat 32 (g (i 0).val)) (Q : PUnit → sProp 𝕄) :
    iprop(ptU c A0 f0 ∗ ptU c A3 f3 ∗ (∃ f, ptU c A4 f) ∗ (∃ f, ptU c A5 f) ∗ Scr c ∗ Toks c fx fw ∗ Sems c ∗ OW c)
      ⊢ iprop((ptU c A0 f0 ∗ ptU c A3 f3 ∗ (∃ h : S3072x2048.Idx → Elt F .f32, ⌜∀ x e, sz g e ≤ (x 0).val → (x 0).val < sz g (e + 1) → hOK fx fw f3 e x (h x)⌝
            ∗ ptU c A4 (yCan h) ∗ ptU c A5 (ysCan h)) ∗ Scr c ∗ Toks c fx fw ∗ Sems c ∗ OW c -∗ Q ⟨⟩)
        -∗ W c (cc0_moe_gate_up A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10) Q) := by
  rw [cc0_moe_gate_up_eq_skeleton]
  unfold cc0_moe_gate_up_skel
  simp only [wp_bind]
  unfold Scr
  iintro ⟨H0, H3, H4, H5, ⟨H6, H7, H8, H9, H10, H11, H12, H13⟩, HT, HS, HO⟩ K
  icases (rings_split c fx fw) $$ [H9 H10 H11 HT HS] with HR
  · isplitl [H9]
    · iexact H9
    isplitl [H10]
    · iexact H10
    isplitl [H11]
    · iexact H11
    isplitl [HT]
    · iexact HT
    iexact HS
  unfold Rings
  icases HR with ⟨HX0, HX1, HW0, HW1, HW2, HY0, HY1⟩
  iapply (prologue c fx fw f3 G h0) $$ [H0 H12 H13 HX0 HX1 HW0 HW1 HW2 H6 H7 H8 H3 HO]
  · isplitl [H0]
    · iexact H0
    isplitl [H12]
    · iexact H12
    isplitl [H13]
    · iexact H13
    isplitl [HX0]
    · iexact HX0
    isplitl [HX1]
    · iexact HX1
    isplitl [HW0]
    · iexact HW0
    isplitl [HW1]
    · iexact HW1
    isplitl [HW2]
    · iexact HW2
    isplitl [H6]
    · iexact H6
    isplitl [H7]
    · iexact H7
    isplitl [H8]
    · iexact H8
    isplitl [H3]
    · iexact H3
    iexact HO
  iintro %f12 %f13 %h12 %h13 ⟨H0, HI⟩
  iapply (item_loop c fx fw f3 (grp G) h12 h13) $$ HI
  iintro HI
  iapply (w_for0 c (t7_trips (grp G).A13))
  unfold stI stX
  rw [dn_end (grp G), show nx 48 = none from if_neg (by omega), show nx (48 + 1) = none from if_neg (by omega), show slotX c fx (r2 48) none = idleX c fx 0 from rfl, show slotX c fx (r2 (48 + 1)) none = idleX c fx 1 from rfl]
  icases HI with ⟨⟨HX0, HX1, ⟨%f6, %f7, %hx, H6, H7⟩, HO⟩, HW, ⟨%h, %hh, H8⟩, H12, H13, H3⟩
  icases (stW_end c fw _ _) $$ HW with ⟨HW0, HW1, HW2⟩
  iapply (out_loop c h) $$ [HY0 HY1 H4 H5 H8 HO]
  · unfold stO
    rw [show oy 0 = none from if_neg (by omega), show oy (0 + 1) = none from if_neg (by omega), highY_zero, show lowY (0 - 2) = ∅ from lowY_zero,
      show slotY c (yCan h) (r2 0) none = idleY c 0 from rfl, show slotY c (yCan h) (r2 (0 + 1)) none = idleY c 1 from rfl]
    isplitl [HY0]
    · iexact HY0
    isplitl [HY1]
    · iexact HY1
    isplitl [H4]
    · iexact H4
    isplitr
    · unfold pt
      rw [pointsTo_empty]
      itrivial
    isplitl [H5]
    · icases H5 with ⟨%f5, H5⟩
      iexists f5
      isplitr
      · ipureintro
        intro i hi
        exact absurd hi (Nat.not_lt_zero _)
      · iexact H5
    isplitl [H8]
    · iexact H8
    · iexact HO
  iintro %r HP
  unfold stO
  rw [show oy 24 = some 22 from if_pos (by omega), show oy (24 + 1) = some 23 from if_pos (by omega), show slotY c (yCan h) (r2 24) (some 22) = busyY c (yCan h) 0 22 from rfl,
    show slotY c (yCan h) (r2 (24 + 1)) (some 23) = busyY c (yCan h) 1 23 from rfl, show 24 - 2 = 22 from rfl]
  icases HP with ⟨HY0, HY1, -, HL, ⟨%f5, %h5, H5⟩, H8, HO⟩
  iapply (waitY c (yCan h) 0 22 (semY_eq 0 rfl _) _) $$ [HY0 HO]
  · isplitl [HY0]
    · iexact HY0
    · iexact HO
  iintro ⟨HY0, HD, HO⟩
  icases (low_join c (yCan h) 22) $$ [HL HD] with HL
  · isplitl [HL]
    · iexact HL
    · iexact HD
  iapply (waitY c (yCan h) 1 23 (semY_eq 1 rfl _) _) $$ [HY1 HO]
  · isplitl [HY1]
    · iexact HY1
    · iexact HO
  iintro ⟨HY1, HD, HO⟩
  icases (low_join c (yCan h) 23) $$ [HL HD] with HL
  · isplitl [HL]
    · iexact HL
    · iexact HD
  rw [show 23 + 1 = 24 from rfl, lowY_all]
  have e5 : f5 = ysCan h := funext fun i => h5 i (by have : (i 1).val < 3072 := (i 1).isLt; omega)
  subst e5
  iapply w_pure
  icases (rings_join c fx fw) $$ [HX0 HX1 HW0 HW1 HW2 HY0 HY1] with ⟨H9, H10, H11, HT, HS⟩
  · unfold Rings
    isplitl [HX0]
    · iexact HX0
    isplitl [HX1]
    · iexact HX1
    isplitl [HW0]
    · iexact HW0
    isplitl [HW1]
    · iexact HW1
    isplitl [HW2]
    · iexact HW2
    isplitl [HY0]
    · iexact HY0
    iexact HY1
  iapply K
  isplitl [H0]
  · iexact H0
  isplitl [H3]
  · iexact H3
  isplitl [HL H5]
  · iexists h
    isplitr
    · ipureintro
      exact fun x e h1 h2 => HInv_end (grp G) hh x e h1 h2
    isplitl [HL]
    · iexact HL
    · iexact H5
  isplitl [H6 H7 H8 H9 H10 H11 H12 H13]
  · isplitl [H6]
    · iexists _; iexact H6
    isplitl [H7]
    · iexists _; iexact H7
    isplitl [H8]
    · iexists _; iexact H8
    isplitl [H9]
    · iexact H9
    isplitl [H10]
    · iexact H10
    isplitl [H11]
    · iexact H11
    isplitl [H12]
    · iexists _; iexact H12
    · iexists _; iexact H13
  isplitl [HT]
  · iexact HT
  isplitl [HS]
  · iexact HS
  iexact HO

end Cert.KernelIdeal.Hand
-- ==== Proof.Launch.lean ====
/-
  The launch around the body: the program's frame, with the results at contents nothing names.
-/
module

public import proofs.«01_k».proof.Proof.Body
public import proofs.«01_k».proof.Proof.Gen.KernelIdeal.Frame
public import Idealize.ShloMosaic.Lib.Pipeline.FrameSuffixR
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation BodyObligationLoose cellOf)
open Cert.Words

variable {F : FTy → Type} [FloatOps F] [Facts]

local notation "𝕄" => MT nD τ sig Unit (Elt F) ℕ (Pipeline.UD sig nD τ) ℕ

/-! ## The body with the two copied inputs held whole -/

theorem range2 {M : Type} [URA M] (Φ : ℕ → sProp M) : bigSep (Finset.range 2) Φ = iprop(Φ 0 ∗ Φ 1) :=
  (BI.bigSep_eq_bigSepL_of_eq (S := Finset.range 2) [0, 1] (by decide) (by decide) Φ).trans rfl
theorem range6 {M : Type} [URA M] (Φ : ℕ → sProp M) : bigSep (Finset.range 6) Φ = iprop(Φ 0 ∗ Φ 1 ∗ Φ 2 ∗ Φ 3 ∗ Φ 4 ∗ Φ 5) :=
  (BI.bigSep_eq_bigSepL_of_eq (S := Finset.range 6) [0, 1, 2, 3, 4, 5] (by decide) (by decide) Φ).trans rfl

/-- The two inputs whole are the shares the copies read at and what is left. -/
theorem toks_split (c : Dev nD) (fx : S3072x7168.Idx → Elt F .bf16) (fw : S13x7168x4096.Idx → Elt F .fp8e4m3) :
    iprop(ptU c A1 fx ∗ ptU c A2 fw) ⊢ (iprop(Toks c fx fw ∗ pt c A1 Finset.univ (shareDrop fullShare 2) fx ∗ pt c A2 Finset.univ (shareDrop fullShare 6) fw) : sProp 𝕄) := by
  have h1 := (pointsTo_toks_range (Ix := Unit) (Name := ℕ) (U := Pipeline.UD sig nD τ) (Lvl := ℕ) (ℓ := A1.view.loc (c : Thread nD τ)) (S := Finset.univ) (f := fx) fullShare 2).1
  have h2 := (pointsTo_toks_range (Ix := Unit) (Name := ℕ) (U := Pipeline.UD sig nD τ) (Lvl := ℕ) (ℓ := A2.view.loc (c : Thread nD τ)) (S := Finset.univ) (f := fw) fullShare 6).1
  rw [range2] at h1
  rw [range6] at h2
  iintro ⟨H1, H2⟩
  icases h1 $$ H1 with ⟨R1, T1⟩
  icases h2 $$ H2 with ⟨R2, T2⟩
  isplitl [T1 T2]
  · unfold Toks
    icases T1 with ⟨T0, T1⟩
    icases T2 with ⟨U0, U1, U2, U3, U4, U5⟩
    isplitl [T0]
    · iexact T0
    isplitl [T1]
    · iexact T1
    isplitl [U0]
    · iexact U0
    isplitl [U1]
    · iexact U1
    isplitl [U2]
    · iexact U2
    isplitl [U3]
    · iexact U3
    isplitl [U4]
    · iexact U4
    iexact U5
  isplitl [R1]
  · iexact R1
  iexact R2

/-- And back. -/
theorem toks_join (c : Dev nD) (fx : S3072x7168.Idx → Elt F .bf16) (fw : S13x7168x4096.Idx → Elt F .fp8e4m3) :
    (iprop(Toks c fx fw ∗ pt c A1 Finset.univ (shareDrop fullShare 2) fx ∗ pt c A2 Finset.univ (shareDrop fullShare 6) fw) : sProp 𝕄) ⊢ iprop(ptU c A1 fx ∗ ptU c A2 fw) := by
  have h1 := (pointsTo_toks_range (Ix := Unit) (Name := ℕ) (U := Pipeline.UD sig nD τ) (Lvl := ℕ) (ℓ := A1.view.loc (c : Thread nD τ)) (S := Finset.univ) (f := fx) fullShare 2).2
  have h2 := (pointsTo_toks_range (Ix := Unit) (Name := ℕ) (U := Pipeline.UD sig nD τ) (Lvl := ℕ) (ℓ := A2.view.loc (c : Thread nD τ)) (S := Finset.univ) (f := fw) fullShare 6).2
  rw [range2] at h1
  rw [range6] at h2
  unfold Toks
  iintro ⟨⟨T0, T1, U0, U1, U2, U3, U4, U5⟩, R1, R2⟩
  isplitl [R1 T0 T1]
  · iapply h1
    isplitl [R1]
    · iexact R1
    isplitl [T0]
    · iexact T0
    iexact T1
  · iapply h2
    isplitl [R2]
    · iexact R2
    isplitl [U0]
    · iexact U0
    isplitl [U1]
    · iexact U1
    isplitl [U2]
    · iexact U2
    isplitl [U3]
    · iexact U3
    isplitl [U4]
    · iexact U4
    iexact U5

/-- The body's triple with every operand held whole. -/
theorem body_whole (c : Dev nD) (f0 : S13.Idx → Elt F .i32) (fx : S3072x7168.Idx → Elt F .bf16) (fw : S13x7168x4096.Idx → Elt F .fp8e4m3)
    (f3 : S13x4096.Idx → Elt F .f32) {g : ℕ → ℕ} (G : GOK g) (h0 : ∀ i, f0 i = BitVec.ofNat 32 (g (i 0).val)) (Q : PUnit → sProp 𝕄) :
    iprop(ptU c A0 f0 ∗ ptU c A3 f3 ∗ (∃ f, ptU (F := F) c A4 f) ∗ (∃ f, ptU (F := F) c A5 f) ∗ Scr c ∗ ptU c A1 fx ∗ ptU c A2 fw ∗ Sems c ∗ OW c)
      ⊢ iprop(((ptU c A0 f0 ∗ ptU c A3 f3
          ∗ (∃ h : S3072x2048.Idx → Elt F .f32, ⌜∀ (x : S3072x2048.Idx) (e : ℕ), sz g e ≤ (x 0).val → (x 0).val < sz g (e + 1) → hOK fx fw f3 e x (h x)⌝
              ∗ ptU c A4 (yCan h) ∗ ptU c A5 (ysCan h))
          ∗ Scr c ∗ ptU c A1 fx ∗ ptU c A2 fw ∗ Sems c ∗ OW c) -∗ Q ⟨⟩)
        -∗ W c (cc0_moe_gate_up A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10) Q) := by
  iintro ⟨H0, H3, H4, H5, HS, H1, H2, HZ, HO⟩ K
  ihave H12 : iprop(Toks c fx fw ∗ pt c A1 Finset.univ (shareDrop fullShare 2) fx ∗ pt c A2 Finset.univ (shareDrop fullShare 6) fw) $$ [H1 H2]
  · iapply (toks_split c fx fw)
    isplitl [H1]
    · iexact H1
    iexact H2
  icases H12 with ⟨HT, HR⟩
  iapply (body_run c fx fw f3 G h0 Q) $$ [H0 H3 H4 H5 HS HT HZ HO]
  · isplitl [H0]
    · iexact H0
    isplitl [H3]
    · iexact H3
    isplitl [H4]
    · iexact H4
    isplitl [H5]
    · iexact H5
    isplitl [HS]
    · iexact HS
    isplitl [HT]
    · iexact HT
    isplitl [HZ]
    · iexact HZ
    iexact HO
  iintro ⟨H0, H3, H45, HS, HT, HZ, HO⟩
  ihave H12 : iprop(ptU c A1 fx ∗ ptU c A2 fw) $$ [HT HR]
  · iapply (toks_join c fx fw)
    isplitl [HT]
    · iexact HT
    iexact HR
  icases H12 with ⟨H1, H2⟩
  iapply K
  isplitl [H0]
  · iexact H0
  isplitl [H3]
  · iexact H3
  isplitl [H45]
  · iexact H45
  isplitl [HS]
  · iexact HS
  isplitl [H1]
  · iexact H1
  isplitl [H2]
  · iexact H2
  isplitl [HZ]
  · iexact HZ
  iexact HO

/-! ## The launch's facts at this algebra -/

variable (m : (ℓ : Loc nD τ sig) → Buf (Elt F) ℓ) (ρ : Dev nD → PrngReg)

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's own semaphores. -/
abbrev osem0 : Fin 7 → SemLoc sig := fun j => (![SemLoc.dma 3, SemLoc.dma 4, SemLoc.dma 5, SemLoc.dma 6, SemLoc.dma 7, SemLoc.dma 8, SemLoc.dma 9] : Fin 7 → SemLoc sig) j
theorem ownSemFacts0 : Pipeline.OwnSemFacts spec0 osem0 := by decide
theorem ownSems0_sems (c : Dev nD) :
    (Pipeline.ownSems0 (Ix := Unit) (Name := ℕ) (U := Pipeline.UD sig nD τ) (Lvl := ℕ) (Val := Elt F) (τ := τ) osem0 c : sProp 𝕄) = Sems c := by
  rw [Pipeline.ownSems0_eq_of_list c osem0 [0, 1, 2, 3, 4, 5, 6] (by decide) (by decide)]; rfl
/-- The inputs the body copies, and the result it copies out. -/
def H0 : Finset (Ref sig .tc) := {main_arg0, main_arg2}
def R0 : Finset (Ref sig .tc) := {main_v0_0}
theorem H0_sub : H0 ⊆ Pipeline.restRefs sig spec0 := by decide
theorem R0_sub : R0 ⊆ Pipeline.restRefs sig spec0 \ H0 := by decide
theorem hbm_eq (c : Dev nD) (V : (b : Ref sig .tc) → Buf (Elt F) ((c : Thread nD τ).loc b)) :
    (bigSep H0 (fun b => ((c : Thread nD τ).loc b) ↦{fullShare} V b) : sProp 𝕄) = iprop(ptU c A1 (V main_arg0) ∗ ptU c A2 (V main_arg2)) := by
  rw [BI.bigSep_eq_bigSepL_of_eq [main_arg0, main_arg2] (by decide) (by decide)]; rfl
theorem res_eq (c : Dev nD) (V : (b : Ref sig .tc) → Buf (Elt F) ((c : Thread nD τ).loc b)) :
    (bigSep R0 (fun b => ((c : Thread nD τ).loc b) ↦{fullShare} V b) : sProp 𝕄) = ptU c A4 (V main_v0_0) := by
  rw [BI.bigSep_eq_bigSepL_of_eq [main_v0_0] (by decide) (by decide)]; rfl
theorem owned_eq (c : Dev nD) : (Pipeline.owned R0 c : sProp 𝕄) = iprop(∃ f, ptU (F := F) c A4 f) := by
  unfold Pipeline.owned; rw [BI.bigSep_eq_bigSepL_of_eq [main_v0_0] (by decide) (by decide)]; rfl
theorem scr_eq (c : Dev nD) :
    (Pipeline.scopedRest (Ix := Unit) (Name := ℕ) (U := Pipeline.UD sig nD τ) (Lvl := ℕ) (Val := Elt F) spec0 c : sProp 𝕄) = Scr c := by
  rw [scopedRest0_eq]; rfl

/-- The sizes and the scales as the body finds them staged. -/
abbrev f0Of (c : Dev nD) : S13.Idx → Elt F .i32 := iblk m c 0 t0_0
abbrev f3Of (c : Dev nD) : S13x4096.Idx → Elt F .f32 := iblk m c 1 t0_0

theorem bodyAt_eq : bodyAt0 (F := F) t0_0 = cc0_moe_gate_up A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 := rfl

theorem defs₀_row (t : Fin cfg0.N) :
    defs₀ (F := F) .tc cfg0.body (cfg0.bodyArgs t (cfg0.slots t)) = bodyAt0 t := by
  unfold defs₀; rw [Defs.onTc_tc]

/-! ## The frame -/

/-- Which windows' contents nothing names: the scale result's. -/
def fgt : Fin 3 → Bool := ![false, false, true]

def datsF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ _ := Pipeline.ΦDR osem0 spec0 H0 R0 (V m) c
  q _ := fullShare
  owed _ := 0

theorem A_eqF (c : Dev nD) (w : Fin cfg0.W) : (datsF m 0 c).A w = V m c (Pipeline.arrRef spec0 w) := by
  dsimp only [datsF]

theorem own0 (c : Dev nD) (X : S13.Idx → Elt F .i32) : (owns (c : Thread nD τ) (st0_0 t0_0) fullShare X : sProp 𝕄) = ptU c A0 X := by
  show owns (c : Thread nD τ) A0 fullShare X = _
  rw [owns_whole]
theorem own1 (c : Dev nD) (X : S13x4096.Idx → Elt F .f32) : (owns (c : Thread nD τ) (st0_1 t0_0) fullShare X : sProp 𝕄) = ptU c A3 X := by
  show owns (c : Thread nD τ) A3 fullShare X = _
  rw [owns_whole]
theorem own2 (c : Dev nD) (X : S1x3072.Idx → Elt F .f32) : (owns (c : Thread nD τ) (st0_2 t0_0) fullShare X : sProp 𝕄) = ptU c A5 X := by
  show owns (c : Thread nD τ) A5 fullShare X = _
  rw [owns_whole]

/-! ## The first two windows are their whole arrays -/

theorem f0_eq (c : Dev nD) : f0Of m c = V m c main_arg1 := by
  funext x
  unfold f0Of iblk
  show V m c main_arg1 _ = _
  congr 1
  funext a
  apply Fin.ext
  fin_cases a
  show 0 * 13 + 1 * (x 0).val = (x 0).val
  omega
theorem f3_eq (c : Dev nD) : f3Of m c = V m c main_arg3 := by
  funext x
  unfold f3Of iblk
  show V m c main_arg3 _ = _
  congr 1
  funext a
  apply Fin.ext
  fin_cases a
  · show 0 * 13 + 1 * (x 0).val = (x 0).val
    omega
  · show 0 * 4096 + 1 * (x 1).val = (x 1).val
    omega
/-! ## The frame -/

theorem sound_bodyF (c : Dev nD) {g : ℕ → ℕ} (G : GOK g) (h0 : ∀ i, f0Of m c i = BitVec.ofNat 32 (g (i 0).val)) :
    iprop(Pipeline.ΦDR osem0 spec0 H0 R0 (V m) c ∗ (datsF m 0 c).owesAt () (Fin.castSucc t0_0)
        ∗ (∃ d, owns (c : Thread nD τ) (st0_0 t0_0) fullShare ((datsF m 0 c).before 0 t0_0 d))
        ∗ (∃ d, owns (c : Thread nD τ) (st0_1 t0_0) fullShare ((datsF m 0 c).before 1 t0_0 d))
        ∗ (∃ X, owns (c : Thread nD τ) (st0_2 t0_0) fullShare X))
      ⊢ wp frame (wpE (defs₀ (F := F)) Variants.none c none) Set.univ (bodyAt0 t0_0) (fun _ =>
        iprop(Pipeline.ΦDR osem0 spec0 H0 R0 (V m) c ∗ (datsF m 0 c).owesAt () (Fin.succ t0_0)
        ∗ owns (c : Thread nD τ) (st0_0 t0_0) fullShare (f0Of m c)
        ∗ owns (c : Thread nD τ) (st0_1 t0_0) fullShare (f3Of m c)
        ∗ (∃ X, owns (c : Thread nD τ) (st0_2 t0_0) fullShare X))) := by
  simp only [before0 m (datsF m 0 c) (A_eqF m c 0) (fun _ => rfl), before1 m (datsF m 0 c) (A_eqF m c 1) (fun _ => rfl)]
  simp only [own0, own1, own2]
  rw [bodyAt_eq, Pipeline.ΦDR_eq, scr_eq, ownSems0_sems, hbm_eq c (V m c), owned_eq]
  unfold Dat.owesAt Pipeline.owesWithin
  rw [show (datsF m 0 c).owed (Fin.castSucc t0_0) = 0 from rfl, show (datsF m 0 c).owed (Fin.succ t0_0) = 0 from rfl]
  iintro ⟨⟨HS, HP, HZ, ⟨H1, H2⟩, H4⟩, ⟨%Wd, -, HW⟩, ⟨%d0, H0⟩, ⟨%d3, H3⟩, H5⟩
  iapply (body_whole c (f0Of m c) (V m c main_arg0) (V m c main_arg2) (f3Of m c) G h0) $$ [HS HZ H1 H2 H4 HW H0 H3 H5]
  · isplitl [H0]
    · iexact H0
    isplitl [H3]
    · iexact H3
    isplitl [H4]
    · iexact H4
    isplitl [H5]
    · iexact H5
    isplitl [HS]
    · iexact HS
    isplitl [H1]
    · iexact H1
    isplitl [H2]
    · iexact H2
    isplitl [HZ]
    · iexact HZ
    unfold OW
    iexists Wd
    iexact HW
  iintro ⟨H0, H3, ⟨%h, -, H4, H5⟩, HS, H1, H2, HZ, HO⟩
  unfold OW
  icases HO with ⟨%W', HW⟩
  isplitl [HS HP HZ H1 H2 H4]
  · isplitl [HS]
    · iexact HS
    isplitl [HP]
    · iexact HP
    isplitl [HZ]
    · iexact HZ
    isplitl [H1 H2]
    · isplitl [H1]
      · iexact H1
      iexact H2
    iexists _
    iexact H4
  isplitl [HW]
  · iexists W'; isplitr; · ipureintro; exact fun _ _ => Or.inl trivial
    iexact HW
  isplitl [H0]
  · iexact H0
  isplitl [H3]
  · iexact H3
  iexists _
  iexact H5

theorem body_obligationF (c : Dev nD) {g : ℕ → ℕ} (G : GOK g) (h0 : ∀ i, f0Of m c i = BitVec.ofNat 32 (g (i 0).val)) :
    BodyObligation (datsF (F := F) m 0 c) (defs₀ (F := F)) Variants.none () Set.univ fgt := fun t => by
  rw [fin_N0 t, bigSep_W0, bigSep_W0, defs₀_row]
  exact triple_restated (sound_bodyF m c G h0) rfl .rfl fun _ => .rfl

set_option backward.isDefEq.respectTransparency.types false in
theorem run_mainF {g : Dev nD → ℕ → ℕ} (G : ∀ c, GOK (g c)) (h0 : ∀ c i, f0Of m c i = BitVec.ofNat 32 (g c (i 0).val)) :
    θ_run defs (onTc (τ := τ) (main (F := F))) (s₀ m ρ) (fun r => Pipeline.RDat.FramePostR (cfgs 0) (fun c => (datsF m 0 c).toRForget fgt) (R0 ∪ {main_v1}) (V m) r ∧ r.2.sem = fun _ => 0) :=
  Pipeline.θ_run_frame_dmaR_around_T_forget (Q' := _) cfgs (datsF m) (0 : Fin 1) launch0 osem0 defs₀ Variants.none fgt ownSemFacts0 H0 R0 {main_v1} H0_sub R0_sub m ρ main
    (hbody := fun c => (body_obligationF m c (G c) (h0 c)).loose) (hshare := fun c => (datsF m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      by_contra hne
      exact StableHlo.devRef_ne_of_ne (fun h => hne (Finset.mem_singleton.mpr h)) hb)
    (hmain := hmainD m Variants.none) (hA := A_eqF m)
    (hin := fun _ => .rfl) (hout := fun _ => .rfl) (hQ' := fun _ h => h)

theorem rest_main_arg0 : main_arg0 ∈ Pipeline.restRefs sig spec0 \ (R0 ∪ {main_v1}) := by decide
theorem rest_main_arg2 : main_arg2 ∈ Pipeline.restRefs sig spec0 \ (R0 ∪ {main_v1}) := by decide

/-- THE FRAME: from sizes that fill the rows the program runs to an end without a fault, its four argument arrays end
    unchanged, and every semaphore ends at zero. -/
theorem frameK {g : Dev nD → ℕ → ℕ} (G : ∀ c, GOK (g c)) (h0 : ∀ c i, f0Of m c i = BitVec.ofNat 32 (g c (i 0).val)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).2 main_arg0 (rest_main_arg0),
      Pipeline.RDat.FramePostR.arr_in (cfg₁ := cfgs 0) h.1 c 0 rfl,
      (h.1 c).2 main_arg2 (rest_main_arg2),
      Pipeline.RDat.FramePostR.arr_in (cfg₁ := cfgs 0) h.1 c 1 rfl⟩, h.2⟩) (run_mainF m ρ G h0)

end Cert.KernelIdeal.Hand
-- ==== Proof.KBase.lean ====
/-
  The common ground of the proof: the kernel's memrefs, the shape of a step's triple, contents of buffers by coordinates,
  and what a load or a store through a whole buffer does at an index.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ViewIndex

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- The proof's user algebra: the pipeline library's beside the transfers' counters. -/
local notation "𝕄" => MT nD τ sig Unit (Elt F) ℕ (Pipeline.UD sig nD τ) ℕ

/-! ## The kernel's memrefs -/

abbrev A0 : Memref sig .tc .smem S13 .i32 := Memref.whole cc0_stg0_0
abbrev A1 : Memref sig .tc .hbm S3072x7168 .bf16 := Memref.whole main_arg0
abbrev A2 : Memref sig .tc .hbm S13x7168x4096 .fp8e4m3 := Memref.whole main_arg2
abbrev A3 : Memref sig .tc .vmem S13x4096 .f32 := Memref.whole cc0_stg1_0
abbrev A4 : Memref sig .tc .hbm S3072x2048 .fp8e4m3 := Memref.whole main_v0_0
abbrev A5 : Memref sig .tc .vmem S1x3072 .f32 := Memref.whole cc0_stg2_0
abbrev A6 : Memref sig .tc .vmem S3072x7168 .fp8e4m3 := Memref.whole cc0_scratch0
abbrev A7 : Memref sig .tc .vmem S3072x128 .f32 := Memref.whole cc0_scratch1
abbrev A8 : Memref sig .tc .vmem S3072x2048 .f32 := Memref.whole cc0_scratch2
abbrev A9 : Memref sig .tc .vmem S3x2x7168x256 .fp8e4m3 := Memref.whole cc0_scratch3
abbrev A10 : Memref sig .tc .vmem S2x64x7168 .bf16 := Memref.whole cc0_scratch4
abbrev A11 : Memref sig .tc .vmem S2x128x2048 .fp8e4m3 := Memref.whole cc0_scratch5
abbrev A12 : Memref sig .tc .smem S13 .i32 := Memref.whole cc0_scratch6
abbrev A13 : Memref sig .tc .smem S14 .i32 := Memref.whole cc0_scratch7

/-- Some elements of a memref's buffer, held at a share. -/
abbrev pt (c : Dev nD) {sp : Space} {S : Shape} {e : EltTy} (M : Memref sig .tc sp S e) (I : Finset (Idx (M.view.loc (c : Thread nD τ)))) (q : PosShare TreeShare)
    (f : Buf (Elt F) (M.view.loc (c : Thread nD τ))) : sProp 𝕄 :=
  M.view.loc (c : Thread nD τ) ↦[I]{q} f

/-- The weakest precondition of a part of the body on device `c`. -/
abbrev W (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Loads and stores through a whole buffer, at an index -/

theorem read_whole {b : Ref sig .tc} (r : Rect b.ty.shape) (f : b.ty.Contents (Elt F)) (x : r.shape.Idx) :
    ((Memref.whole b).access r).read (Elt F) f x = f (r.emb x) := rfl

theorem write_whole_mem {b : Ref sig .tc} (r : Rect b.ty.shape) (f : b.ty.Contents (Elt F)) (w : r.shape.Idx → Elt F b.ty.elt) (Mk : Finset r.shape.Idx)
    (x : r.shape.Idx) (h : x ∈ Mk) : ((Memref.whole b).access r).write (Elt F) f w Mk (r.emb x) = w x :=
  View.write_emb_of_mem (v := ((Memref.whole b).access r)) f w h

theorem write_whole_not {b : Ref sig .tc} (r : Rect b.ty.shape) (f : b.ty.Contents (Elt F)) (w : r.shape.Idx → Elt F b.ty.elt) (Mk : Finset r.shape.Idx)
    (i : b.ty.shape.Idx) (h : ∀ x ∈ Mk, r.emb x ≠ i) : ((Memref.whole b).access r).write (Elt F) f w Mk i = f i :=
  View.write_of_not_mem (v := ((Memref.whole b).access r)) f w Mk (by
    intro hi
    obtain ⟨x, hx, he⟩ := Finset.mem_map.mp hi
    exact h x hx he)

theorem unit_emb_val {s : Shape} {off size : Fin s.rank → ℕ} (inb : ∀ a, off a + size a ≤ s.size a) (x : (Rect.unit off size inb).shape.Idx) (a : Fin s.rank) :
    ((Rect.unit off size inb).emb x a).val = off a + (x a).val := by
  simp [Rect.emb, Rect.unit]

/-! ## Loads and stores as single operations -/

theorem w_load (c : Dev nD) {cs : CoreSpace} {s : Shape} {e : EltTy} {M : Memref sig .tc cs s e} {r : Rect s} {hl : M.view.LoadsAt r}
    {I : Finset (Idx (M.view.loc (c : Thread nD τ)))} {q : PosShare TreeShare} {f : Buf (Elt F) (M.view.loc (c : Thread nD τ))} {Q : (r.shape.Idx → Elt F e) → sProp 𝕄}
    (hS : (M.access r).set ⊆ I) :
    pt c M I q f ⊢ iprop((pt c M I q f -∗ Q ((M.access r).read (Elt F) f)) -∗ W c (Prog.lift (.load M r hl)) Q) := by
  iintro H K
  iapply (wp_load_rect Variants.none (c : Thread nD τ) none Set.univ (m := M) (r := r) (S := I) (k := fun x => .ret x) hS) $$ H
  iintro H
  simp only [wp_ret]
  imodintro
  iapply K $$ H

theorem w_store (c : Dev nD) {cs : CoreSpace} {s : Shape} {e : EltTy} {M : Memref sig .tc cs s e} {r : Rect s} {w : r.shape.Idx → Elt F e} {Mk : Finset r.shape.Idx}
    {hx : (M.access r).Stores Mk} {hm : Mk = Finset.univ ∨ ∀ a, r.stride a = 1}
    {I : Finset (Idx (M.view.loc (c : Thread nD τ)))} {f : Buf (Elt F) (M.view.loc (c : Thread nD τ))} {Q : PUnit → sProp 𝕄}
    (hS : (M.access r).setOn Mk ⊆ I) :
    pt c M I fullShare f ⊢ iprop((pt c M I fullShare ((M.access r).write (Elt F) f w Mk) -∗ Q ⟨⟩) -∗ W c (Prog.lift (.store M r w Mk hx hm)) Q) := by
  iintro H K
  iapply (wp_store Variants.none (c : Thread nD τ) none Set.univ (m := M) (r := r) (S := I) (k := fun x => .ret x) hS) $$ H
  iintro H
  simp only [wp_ret]
  imodintro
  iapply K $$ H

/-- The buffer of a memref, whole. -/
abbrev ptU (c : Dev nD) {sp : Space} {S : Shape} {e : EltTy} (M : Memref sig .tc sp S e) (f : Buf (Elt F) (M.view.loc (c : Thread nD τ))) : sProp 𝕄 :=
  M.view.loc (c : Thread nD τ) ↦{fullShare} f

theorem w_loadU (c : Dev nD) {cs : CoreSpace} {s : Shape} {e : EltTy} {M : Memref sig .tc cs s e} {r : Rect s} {hl : M.view.LoadsAt r}
    {f : Buf (Elt F) (M.view.loc (c : Thread nD τ))} {Q : (r.shape.Idx → Elt F e) → sProp 𝕄} :
    ptU c M f ⊢ iprop((ptU c M f -∗ Q ((M.access r).read (Elt F) f)) -∗ W c (Prog.lift (.load M r hl)) Q) :=
  w_load c (Finset.subset_univ _)

theorem w_storeU (c : Dev nD) {cs : CoreSpace} {s : Shape} {e : EltTy} {M : Memref sig .tc cs s e} {r : Rect s} {w : r.shape.Idx → Elt F e} {Mk : Finset r.shape.Idx}
    {hx : (M.access r).Stores Mk} {hm : Mk = Finset.univ ∨ ∀ a, r.stride a = 1}
    {f : Buf (Elt F) (M.view.loc (c : Thread nD τ))} {Q : PUnit → sProp 𝕄} :
    ptU c M f ⊢ iprop((ptU c M ((M.access r).write (Elt F) f w Mk) -∗ Q ⟨⟩) -∗ W c (Prog.lift (.store M r w Mk hx hm)) Q) :=
  w_store c (Finset.subset_univ _)

theorem w_pure (c : Dev nD) {α : Type} (a : α) (Q : α → sProp 𝕄) : Q a ⊢ W c (Prog.ret a) Q := by
  iintro H
  simp only [wp_ret]
  imodintro
  iexact H

end Cert.Kernel.Hand
-- ==== Proof.KGeom.lean ====
/-
  The pieces of the buffers that the kernel's copies move: which elements a slice of a ring slot, of the expert weights, of the
  activations or of the result is, and what a landed copy leaves there.
-/
module

public import proofs.«01_k».proof.Proof.KBase
public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (Pipeline.UD sig nD τ) ℕ

/-! ## Indices by coordinates -/

def ix2 {d : Fin 2 → ℕ} (a : Fin (d 0)) (b : Fin (d 1)) : (⟨2, d⟩ : Shape).Idx := fun i => match i with
  | ⟨0, _⟩ => a
  | ⟨1, _⟩ => b

def ix3 {d : Fin 3 → ℕ} (a : Fin (d 0)) (b : Fin (d 1)) (c : Fin (d 2)) : (⟨3, d⟩ : Shape).Idx := fun i => match i with
  | ⟨0, _⟩ => a
  | ⟨1, _⟩ => b
  | ⟨2, _⟩ => c

def ix4 {d : Fin 4 → ℕ} (a : Fin (d 0)) (b : Fin (d 1)) (c : Fin (d 2)) (e : Fin (d 3)) : (⟨4, d⟩ : Shape).Idx := fun i => match i with
  | ⟨0, _⟩ => a
  | ⟨1, _⟩ => b
  | ⟨2, _⟩ => c
  | ⟨3, _⟩ => e

theorem idx2_ext {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem idx4_ext {d : Fin 4 → ℕ} {x y : (⟨4, d⟩ : Shape).Idx} (h0 : (x 0).val = (y 0).val) (h1 : (x 1).val = (y 1).val) (h2 : (x 2).val = (y 2).val)
    (h3 : (x 3).val = (y 3).val) : x = y :=
  funext fun a => by
    match a with
    | ⟨0, _⟩ => exact Fin.ext h0
    | ⟨1, _⟩ => exact Fin.ext h1
    | ⟨2, _⟩ => exact Fin.ext h2
    | ⟨3, _⟩ => exact Fin.ext h3

/-! ## The element sets -/

/-- Half `b` of slot `s` of the weight ring. -/
def setW (s b : ℕ) : Finset S3x2x7168x256.Idx := Finset.univ.filter fun i => (i 0).val = s ∧ (i 1).val = b
/-- The 256 columns of expert `e`'s weights that item column block `n` takes of half `b`. -/
def setS (e b n : ℕ) : Finset S13x7168x4096.Idx := Finset.univ.filter fun i => (i 0).val = e ∧ b * 2048 + 256 * n ≤ (i 2).val ∧ (i 2).val < b * 2048 + 256 * n + 256
/-- Slot `s` of the activation ring. -/
def setX (s : ℕ) : Finset S2x64x7168.Idx := Finset.univ.filter fun i => (i 0).val = s
/-- Chunk `k` of 64 activation rows. -/
def rowsX (k : ℕ) : Finset S3072x7168.Idx := Finset.univ.filter fun i => 64 * k ≤ (i 0).val ∧ (i 0).val < 64 * k + 64
/-- Slot `s` of the result ring. -/
def setY (s : ℕ) : Finset S2x128x2048.Idx := Finset.univ.filter fun i => (i 0).val = s
/-- Chunk `k` of 128 result rows. -/
def rowsY (k : ℕ) : Finset S3072x2048.Idx := Finset.univ.filter fun i => 128 * k ≤ (i 0).val ∧ (i 0).val < 128 * k + 128

theorem rect_setW {off : Fin 4 → ℕ} {s b : ℕ} (h : off = ![s, b, 0, 0]) (inb : ∀ a, off a + S1x1x7168x256.size a ≤ S3x2x7168x256.size a) :
    (Rect.unit (s := S3x2x7168x256) off S1x1x7168x256.size inb).set = setW s b := by
  subst h
  ext i
  rw [Rect.mem_set_unit]
  have h2 := (i 2).isLt
  have h3 := (i 3).isLt
  constructor
  · intro h
    have a0 := h 0
    have a1 := h 1
    simp [setW] at a0 a1 ⊢
    omega
  · intro h a
    simp [setW] at h
    fin_cases a <;> simp at h2 h3 ⊢ <;> omega

theorem rect_setS {off : Fin 3 → ℕ} {e b n : ℕ} (h : off = ![e, 0, b * 2048 + 256 * n]) (inb : ∀ a, off a + S1x7168x256.size a ≤ S13x7168x4096.size a) :
    (Rect.unit (s := S13x7168x4096) off S1x7168x256.size inb).set = setS e b n := by
  subst h
  ext i
  rw [Rect.mem_set_unit]
  have h1 := (i 1).isLt
  constructor
  · intro h
    have a0 := h 0
    have a1 := h 2
    simp [setS] at a0 a1 ⊢
    omega
  · intro h a
    simp [setS] at h
    fin_cases a <;> simp at h1 ⊢ <;> omega

theorem rect_setX {off : Fin 3 → ℕ} {s : ℕ} (h : off = ![s, 0, 0]) (inb : ∀ a, off a + S1x64x7168.size a ≤ S2x64x7168.size a) :
    (Rect.unit (s := S2x64x7168) off S1x64x7168.size inb).set = setX s := by
  subst h
  ext i
  rw [Rect.mem_set_unit]
  have h1 := (i 1).isLt
  have h2 := (i 2).isLt
  constructor
  · intro h
    have a0 := h 0
    simp [setX] at a0 ⊢
    omega
  · intro h a
    simp [setX] at h
    fin_cases a <;> simp at h1 h2 ⊢ <;> omega

theorem rect_setY {off : Fin 3 → ℕ} {s : ℕ} (h : off = ![s, 0, 0]) (inb : ∀ a, off a + S1x128x2048.size a ≤ S2x128x2048.size a) :
    (Rect.unit (s := S2x128x2048) off S1x128x2048.size inb).set = setY s := by
  subst h
  ext i
  rw [Rect.mem_set_unit]
  have h1 := (i 1).isLt
  have h2 := (i 2).isLt
  constructor
  · intro h
    have a0 := h 0
    simp [setY] at a0 ⊢
    omega
  · intro h a
    simp [setY] at h
    fin_cases a <;> simp at h1 h2 ⊢ <;> omega

theorem rect_rowsX {off : Fin 2 → ℕ} {k : ℕ} (h : off = ![64 * k, 0]) (inb : ∀ a, off a + S64x7168.size a ≤ S3072x7168.size a) :
    (Rect.unit (s := S3072x7168) off S64x7168.size inb).set = rowsX k := by
  subst h
  ext i
  rw [Rect.mem_set_unit]
  have h1 := (i 1).isLt
  constructor
  · intro h
    have a0 := h 0
    simp [rowsX] at a0 ⊢
    omega
  · intro h a
    simp [rowsX] at h
    fin_cases a <;> simp at h1 ⊢ <;> omega

theorem rect_rowsY {off : Fin 2 → ℕ} {k : ℕ} (h : off = ![128 * k, 0]) (inb : ∀ a, off a + S128x2048.size a ≤ S3072x2048.size a) :
    (Rect.unit (s := S3072x2048) off S128x2048.size inb).set = rowsY k := by
  subst h
  ext i
  rw [Rect.mem_set_unit]
  have h1 := (i 1).isLt
  constructor
  · intro h
    have a0 := h 0
    simp [rowsY] at a0 ⊢
    omega
  · intro h a
    simp [rowsY] at h
    fin_cases a <;> simp at h1 ⊢ <;> omega

/-! ## What a landed copy leaves -/

/-- A slot half of the weight ring holding the item's weights: expert `e`, column block `n`. -/
def Wcan (fw : S13x7168x4096.Idx → Elt F .fp8e4m3) (e n : ℕ) : S3x2x7168x256.Idx → Elt F .fp8e4m3 := fun i =>
  fw (ix3 (d := ![13, 7168, 4096]) ⟨e % 13, Nat.mod_lt _ (by decide)⟩ (i 2) ⟨((i 1).val * 2048 + 256 * n + (i 3).val) % 4096, Nat.mod_lt _ (by decide)⟩)

/-- A slot of the activation ring holding chunk `k`. -/
def Xcan (fx : S3072x7168.Idx → Elt F .bf16) (k : ℕ) : S2x64x7168.Idx → Elt F .bf16 := fun i =>
  fx (ix2 (d := ![3072, 7168]) ⟨(64 * k + (i 1).val) % 3072, Nat.mod_lt _ (by decide)⟩ (i 2))

abbrev srcW (off : Fin 3 → ℕ) (inb : ∀ a, off a + S1x7168x256.size a ≤ S13x7168x4096.size a) : Memref sig .tc .hbm S7168x256 .fp8e4m3 :=
  (A2.slice (Rect.unit (s := S13x7168x4096) off S1x7168x256.size inb) (fun _ => rfl)).squeeze S7168x256 squeezes_S1x7168x256_S7168x256
abbrev dstW (off : Fin 4 → ℕ) (inb : ∀ a, off a + S1x1x7168x256.size a ≤ S3x2x7168x256.size a) : Memref sig .tc .vmem S7168x256 .fp8e4m3 :=
  (A9.slice (Rect.unit (s := S3x2x7168x256) off S1x1x7168x256.size inb) (fun _ => rfl)).squeeze S7168x256 squeezes_S1x1x7168x256_S7168x256
abbrev srcX (off : Fin 2 → ℕ) (inb : ∀ a, off a + S64x7168.size a ≤ S3072x7168.size a) : Memref sig .tc .hbm S64x7168 .bf16 :=
  A1.slice (Rect.unit (s := S3072x7168) off S64x7168.size inb) (fun _ => rfl)
abbrev dstX (off : Fin 3 → ℕ) (inb : ∀ a, off a + S1x64x7168.size a ≤ S2x64x7168.size a) : Memref sig .tc .vmem S64x7168 .bf16 :=
  (A10.slice (Rect.unit (s := S2x64x7168) off S1x64x7168.size inb) (fun _ => rfl)).squeeze S64x7168 squeezes_S1x64x7168_S64x7168
abbrev srcY (off : Fin 3 → ℕ) (inb : ∀ a, off a + S1x128x2048.size a ≤ S2x128x2048.size a) : Memref sig .tc .vmem S128x2048 .fp8e4m3 :=
  (A11.slice (Rect.unit (s := S2x128x2048) off S1x128x2048.size inb) (fun _ => rfl)).squeeze S128x2048 squeezes_S1x128x2048_S128x2048
abbrev dstY (off : Fin 2 → ℕ) (inb : ∀ a, off a + S128x2048.size a ≤ S3072x2048.size a) : Memref sig .tc .hbm S128x2048 .fp8e4m3 :=
  A4.slice (Rect.unit (s := S3072x2048) off S128x2048.size inb) (fun _ => rfl)

theorem srcW_set {off : Fin 3 → ℕ} {e b n : ℕ} (h : off = ![e, 0, b * 2048 + 256 * n]) (inb) : (srcW off inb).view.set = setS e b n := by
  rw [← rect_setS h inb]; exact (View.set_reshape _ _).trans (View.set_slice_whole _ _)
theorem dstW_set {off : Fin 4 → ℕ} {s b : ℕ} (h : off = ![s, b, 0, 0]) (inb) : (dstW off inb).view.set = setW s b := by
  rw [← rect_setW h inb]; exact (View.set_reshape _ _).trans (View.set_slice_whole _ _)
theorem srcX_set {off : Fin 2 → ℕ} {k : ℕ} (h : off = ![64 * k, 0]) (inb) : (srcX off inb).view.set = rowsX k := by
  rw [← rect_rowsX h inb]; exact View.set_slice_whole _ _
theorem dstX_set {off : Fin 3 → ℕ} {s : ℕ} (h : off = ![s, 0, 0]) (inb) : (dstX off inb).view.set = setX s := by
  rw [← rect_setX h inb]; exact (View.set_reshape _ _).trans (View.set_slice_whole _ _)
theorem srcY_set {off : Fin 3 → ℕ} {s : ℕ} (h : off = ![s, 0, 0]) (inb) : (srcY off inb).view.set = setY s := by
  rw [← rect_setY h inb]; exact (View.set_reshape _ _).trans (View.set_slice_whole _ _)
theorem dstY_set {off : Fin 2 → ℕ} {k : ℕ} (h : off = ![128 * k, 0]) (inb) : (dstY off inb).view.set = rowsY k := by
  rw [← rect_rowsY h inb]; exact View.set_slice_whole _ _

theorem resh_W (x : S7168x256.Idx) : Shape.reshapeEquiv (Shape.Squeezes.numel_eq squeezes_S1x1x7168x256_S7168x256) x
    = ix4 (d := ![1, 1, 7168, 256]) ⟨0, by decide⟩ ⟨0, by decide⟩ (x 0) (x 1) := by
  apply Shape.reshapeEquiv_eq_of_rowMajor
  rw [Shape.rowMajor_val_four, Shape.rowMajor_val_two]
  simp [ix4]
theorem resh_S (x : S7168x256.Idx) : Shape.reshapeEquiv (Shape.Squeezes.numel_eq squeezes_S1x7168x256_S7168x256) x
    = ix3 (d := ![1, 7168, 256]) ⟨0, by decide⟩ (x 0) (x 1) := by
  apply Shape.reshapeEquiv_eq_of_rowMajor
  rw [Shape.rowMajor_val_three, Shape.rowMajor_val_two]
  simp [ix3]
theorem resh_X (x : S64x7168.Idx) : Shape.reshapeEquiv (Shape.Squeezes.numel_eq squeezes_S1x64x7168_S64x7168) x
    = ix3 (d := ![1, 64, 7168]) ⟨0, by decide⟩ (x 0) (x 1) := by
  apply Shape.reshapeEquiv_eq_of_rowMajor
  rw [Shape.rowMajor_val_three, Shape.rowMajor_val_two]
  simp [ix3]
theorem resh_Y (x : S128x2048.Idx) : Shape.reshapeEquiv (Shape.Squeezes.numel_eq squeezes_S1x128x2048_S128x2048) x
    = ix3 (d := ![1, 128, 2048]) ⟨0, by decide⟩ (x 0) (x 1) := by
  apply Shape.reshapeEquiv_eq_of_rowMajor
  rw [Shape.rowMajor_val_three, Shape.rowMajor_val_two]
  simp [ix3]

/-- A landed copy of weights: on its slot half the ring holds `Wcan`. -/
theorem landW {offd : Fin 4 → ℕ} {offs : Fin 3 → ℕ} {s b e n : ℕ} (hd : offd = ![s, b, 0, 0]) (hs : offs = ![e, 0, b * 2048 + 256 * n]) (inbd) (inbs)
    (fd : S3x2x7168x256.Idx → Elt F .fp8e4m3) (fw : S13x7168x4096.Idx → Elt F .fp8e4m3) :
    ∀ i ∈ setW s b, (dstW offd inbd).view.write (Elt F) fd ((srcW offs inbs).view.read (Elt F) fw) Finset.univ i = Wcan fw e n i := by
  intro i hi
  have hi' := hi
  simp only [setW, Finset.mem_filter, Finset.mem_univ, true_and] at hi'
  have he : i = (dstW offd inbd).view.emb (ix2 (d := ![7168, 256]) (i 2) (i 3)) := by
    show i = (Rect.unit (s := S3x2x7168x256) offd S1x1x7168x256.size inbd).emb (Shape.reshapeEquiv _ _)
    rw [resh_W]
    subst hd
    apply idx4_ext <;> rw [unit_emb_val] <;> simp [ix4, ix2, hi'.1, hi'.2]
  have hb := inbs 0
  have hb2 := inbs 2
  rw [he]
  refine (View.write_emb_of_mem (v := (dstW offd inbd).view) fd _ (Finset.mem_univ _)).trans ?_
  show fw ((Rect.unit (s := S13x7168x4096) offs S1x7168x256.size inbs).emb (Shape.reshapeEquiv _ _)) = _
  rw [resh_S, ← he]
  unfold Wcan
  subst hs
  simp at hb hb2
  have h3 := (i 3).isLt
  simp at h3
  congr 1
  apply Shape.idx3_ext <;> rw [unit_emb_val] <;> simp [ix3, ix2, hi'.2]
  · omega
  · omega

/-- A landed copy of activations: on its slot the ring holds `Xcan`. -/
theorem landX {offd : Fin 3 → ℕ} {offs : Fin 2 → ℕ} {s k : ℕ} (hd : offd = ![s, 0, 0]) (hs : offs = ![64 * k, 0]) (inbd) (inbs)
    (fd : S2x64x7168.Idx → Elt F .bf16) (fx : S3072x7168.Idx → Elt F .bf16) :
    ∀ i ∈ setX s, (dstX offd inbd).view.write (Elt F) fd ((srcX offs inbs).view.read (Elt F) fx) Finset.univ i = Xcan fx k i := by
  intro i hi
  have hi' := hi
  simp only [setX, Finset.mem_filter, Finset.mem_univ, true_and] at hi'
  have he : i = (dstX offd inbd).view.emb (ix2 (d := ![64, 7168]) (i 1) (i 2)) := by
    show i = (Rect.unit (s := S2x64x7168) offd S1x64x7168.size inbd).emb (Shape.reshapeEquiv _ _)
    rw [resh_X]
    subst hd
    apply Shape.idx3_ext <;> rw [unit_emb_val] <;> simp [ix3, ix2, hi']
  have hb := inbs 0
  rw [he]
  refine (View.write_emb_of_mem (v := (dstX offd inbd).view) fd _ (Finset.mem_univ _)).trans ?_
  show fx ((Rect.unit (s := S3072x7168) offs S64x7168.size inbs).emb _) = _
  rw [← he]
  unfold Xcan
  subst hs
  simp at hb
  have h3 := (i 1).isLt
  simp at h3
  congr 1
  apply idx2_ext <;> rw [unit_emb_val] <;> simp [ix2]
  · omega

/-- A landed copy of result codes: on its rows the result holds the slot's codes. -/
theorem landY {offd : Fin 2 → ℕ} {offs : Fin 3 → ℕ} {s k : ℕ} (hs : offs = ![s, 0, 0]) (hd : offd = ![128 * k, 0]) (inbd) (inbs)
    (fd g : S3072x2048.Idx → Elt F .fp8e4m3) (fy : S2x128x2048.Idx → Elt F .fp8e4m3)
    (hg : ∀ (i : S3072x2048.Idx) (j : S2x128x2048.Idx), (i 0).val = 128 * k + (j 1).val → (i 1).val = (j 2).val → (j 0).val = s → fy j = g i) :
    ∀ i ∈ rowsY k, (dstY offd inbd).view.write (Elt F) fd ((srcY offs inbs).view.read (Elt F) fy) Finset.univ i = g i := by
  intro i hi
  have hi' := hi
  simp only [rowsY, Finset.mem_filter, Finset.mem_univ, true_and] at hi'
  have he : i = (dstY offd inbd).view.emb (ix2 (d := ![128, 2048]) ⟨(i 0).val - 128 * k, by simp; omega⟩ (i 1)) := by
    show i = (Rect.unit (s := S3072x2048) offd S128x2048.size inbd).emb _
    subst hd
    apply idx2_ext <;> rw [unit_emb_val] <;> simp [ix2]
    omega
  rw [he]
  refine (View.write_emb_of_mem (v := (dstY offd inbd).view) fd _ (Finset.mem_univ _)).trans ?_
  rw [← he]
  show fy ((Rect.unit (s := S2x128x2048) offs S1x128x2048.size inbs).emb (Shape.reshapeEquiv _ _)) = _
  rw [resh_Y]
  subst hs
  apply hg <;> rw [unit_emb_val] <;> simp [ix3, ix2]
  omega

end Cert.Kernel.Hand
-- ==== Proof.KSlots.lean ====
/-
  The copies the kernel keeps in flight: per ring slot, the slot at rest and the slot with its copies under way, what starting a
  copy and what waiting for it does.
-/
module

public import proofs.«01_k».proof.Proof.KGeom

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Facts]

local notation "𝕄" => MT nD τ sig Unit (Elt F) ℕ (Pipeline.UD sig nD τ) ℕ

/-! ## The semaphores -/

def sW (s : Fin 3) : DmaSem sig := ⟨3 + s.val, by have := s.isLt; show _ < 10; omega⟩
def sX (s : Fin 2) : DmaSem sig := ⟨6 + s.val, by have := s.isLt; show _ < 10; omega⟩
def sY (s : Fin 2) : DmaSem sig := ⟨8 + s.val, by have := s.isLt; show _ < 10; omega⟩

theorem semW_eq {off : Fin 1 → ℕ} (s : Fin 3) (h : off = ![s.val]) (inb) :
    ((cc0_scratch8.slice (Rect.unit (s := S3) off S1.size inb)).squeeze S_ squeezes_S1_S_).sem = sW s := by
  subst h
  apply Fin.ext
  show 3 + (Shape.rowMajor S3 ((Rect.unit (s := S3) ![s.val] S1.size inb).emb (Shape.reshapeEquiv _ _))).val = 3 + s.val
  rw [Shape.rowMajor_val_one, unit_emb_val]
  have hz := (Shape.reshapeEquiv (Shape.Squeezes.numel_eq squeezes_S1_S_) (fun i => i.elim0) 0).isLt
  simp at hz ⊢
  exact hz
theorem semX_eq {off : Fin 1 → ℕ} (s : Fin 2) (h : off = ![s.val]) (inb) :
    ((cc0_scratch9.slice (Rect.unit (s := S2) off S1.size inb)).squeeze S_ squeezes_S1_S_).sem = sX s := by
  subst h
  apply Fin.ext
  show 6 + (Shape.rowMajor S2 ((Rect.unit (s := S2) ![s.val] S1.size inb).emb (Shape.reshapeEquiv _ _))).val = 6 + s.val
  rw [Shape.rowMajor_val_one, unit_emb_val]
  have hz := (Shape.reshapeEquiv (Shape.Squeezes.numel_eq squeezes_S1_S_) (fun i => i.elim0) 0).isLt
  simp at hz ⊢
  exact hz
theorem semY_eq {off : Fin 1 → ℕ} (s : Fin 2) (h : off = ![s.val]) (inb) :
    ((cc0_scratch10.slice (Rect.unit (s := S2) off S1.size inb)).squeeze S_ squeezes_S1_S_).sem = sY s := by
  subst h
  apply Fin.ext
  show 8 + (Shape.rowMajor S2 ((Rect.unit (s := S2) ![s.val] S1.size inb).emb (Shape.reshapeEquiv _ _))).val = 8 + s.val
  rw [Shape.rowMajor_val_one, unit_emb_val]
  have hz := (Shape.reshapeEquiv (Shape.Squeezes.numel_eq squeezes_S1_S_) (fun i => i.elim0) 0).isLt
  simp at hz ⊢
  exact hz

/-- The core's record of what it owes: anything. -/
abbrev OW (c : Dev nD) : sProp 𝕄 := iprop(∃ Wd, owes (c : Thread nD τ) 0 Wd)

abbrev EC : UEmb Counters 𝕄 := countersEmb (U := Pipeline.UD sig nD τ)

/-- One read token of the weights per slot half, one of the activations per slot. -/
def tokW (s : Fin 3) (b : ℕ) : PosShare TreeShare := shareTokN fullShare (2 * s.val + b)
def tokX (s : Fin 2) : PosShare TreeShare := shareTokN fullShare s.val

/-! ## The weight ring -/

variable (c : Dev nD) (fw : S13x7168x4096.Idx → Elt F .fp8e4m3) (fx : S3072x7168.Idx → Elt F .bf16)

def delW (s : Fin 3) (e n : ℕ) : Fin 2 → sProp 𝕄 := fun b =>
  iprop(pt c A9 (setW s b) fullShare (Wcan fw e n) ∗ pt c A2 (setS e b n) (tokW s b) fw)

instance (s : Fin 3) (e n : ℕ) (t : Fin 2) : Storable (upEmb : UEmb _ 𝕄) (delW c fw s e n t) := by
  unfold delW; infer_instance

@[irreducible] def NW : ℕ := (dstW ![0, 0, 0, 0] (by decide)).view.dmaCredit

theorem crW (off) (inb) : (dstW off inb).view.dmaCredit = NW := by unfold NW; rfl

/-- Slot `s` at rest. -/
def idleW (s : Fin 3) : sProp 𝕄 :=
  iprop((∃ f, pt c A9 (setW s 0) fullShare f) ∗ (∃ f, pt c A9 (setW s 1) fullShare f) ∗ semVal ((c : Thread nD τ), .dma (sW s)) 0
    ∗ pt c A2 Finset.univ (tokW s 0) fw ∗ pt c A2 Finset.univ (tokW s 1) fw)

/-- Slot `s` with the first half's copy started. -/
def midW (s : Fin 3) (e n : ℕ) : sProp 𝕄 :=
  iprop(Batch EC (c : Thread nD τ) (.dma (sW s)) () NW (delW c fw s e n) 1 0 ∗ (∃ f, pt c A9 (setW s 1) fullShare f)
    ∗ pt c A2 (Finset.univ \ setS e 0 n) (tokW s 0) fw ∗ pt c A2 Finset.univ (tokW s 1) fw)

/-- Slot `s` with both copies of expert `e`, column block `n`, in flight, `u` units taken. -/
def busyW (s : Fin 3) (e n u : ℕ) : sProp 𝕄 :=
  iprop(Batch EC (c : Thread nD τ) (.dma (sW s)) () NW (delW c fw s e n) 2 u
    ∗ pt c A2 (Finset.univ \ setS e 0 n) (tokW s 0) fw ∗ pt c A2 (Finset.univ \ setS e 1 n) (tokW s 1) fw)

/-- Slot `s` holding the weights. -/
def landedW (s : Fin 3) (e n : ℕ) : sProp 𝕄 :=
  iprop(pt c A9 (setW s 0) fullShare (Wcan fw e n) ∗ pt c A9 (setW s 1) fullShare (Wcan fw e n) ∗ semVal ((c : Thread nD τ), .dma (sW s)) 0
    ∗ pt c A2 Finset.univ (tokW s 0) fw ∗ pt c A2 Finset.univ (tokW s 1) fw)

theorem landedW_idle (s : Fin 3) (e n : ℕ) : landedW c fw s e n ⊢ idleW c fw s := by
  unfold landedW idleW
  iintro ⟨H0, H1, HS, HT⟩
  isplitl [H0]
  · iexists _; iexact H0
  isplitl [H1]
  · iexists _; iexact H1
  isplitl [HS]
  · iexact HS
  · iexact HT

theorem hDW (s : Fin 3) (b : Fin 2) (e n : ℕ) {offd : Fin 4 → ℕ} {offs : Fin 3 → ℕ} (hd : offd = ![s.val, b.val, 0, 0]) (hs : offs = ![e, 0, b.val * 2048 + 256 * n])
    (inbd) (inbs) (fd : S3x2x7168x256.Idx → Elt F .fp8e4m3) :
    iprop(pt c A9 (setW s b) fullShare ((dstW offd inbd).view.write (Elt F) fd ((srcW offs inbs).view.read (Elt F) fw) Finset.univ)
      ∗ pt c A2 (srcW offs inbs).view.set (tokW s b) fw) ⊢ delW c fw s e n b := by
  rw [srcW_set hs inbs]
  unfold delW
  have h := pointsTo_congr (Ix := Unit) (Name := ℕ) (U := Pipeline.UD sig nD τ) (Lvl := ℕ) (ℓ := A9.view.loc (c : Thread nD τ)) (q := fullShare) (I := setW s b) (landW hd hs inbd inbs fd fw)
  unfold pt
  rw [h] <;> exact .rfl

theorem startW0 (s : Fin 3) (e n : ℕ) {offd : Fin 4 → ℕ} {offs : Fin 3 → ℕ} {sm : DmaSem sig} (hsm : sm = sW s) (hd : offd = ![s.val, 0, 0, 0])
    (hs : offs = ![e, 0, 0 * 2048 + 256 * n]) (inbd) (inbs) {h1 h2 h3} {Q : PUnit → sProp 𝕄} :
    idleW c fw s ⊢ iprop((midW c fw s e n -∗ Q ⟨⟩) -∗ W c (Prog.lift (.enqueueDma (srcW offs inbs) (.here (dstW offd inbd)) (.dma sm) h1 h2 h3)) Q) := by
  subst hsm
  unfold idleW midW
  iintro ⟨⟨%f0, H0⟩, H1, HS, T0, T1⟩ K
  iapply fupd_wp
  imod (batch_alloc' EC (c : Thread nD τ) () NW (delW c fw s e n) (sm := .dma (sW s))) $$ HS with HB
  imodintro
  icases (pointsTo_split_subset (Finset.subset_univ (srcW offs inbs).view.set)).1 $$ T0 with ⟨TA, TB⟩
  iapply (wp_dmaBatch EC Variants.none (c : Thread nD τ) none () NW (src := srcW offs inbs) (dst := dstW offd inbd) (sm := .dma (sW s)) (via := ReadAs.same) (Sd := setW s 0) (q := tokW s 0) (fs := fw) (fd := f0)
    (D := delW c fw s e n) (j := 0) (u := 0) (k := fun x => .ret x) (crW _ _) (dstW_set hd inbd).subset (by decide) (Nat.zero_le _) (hDW c fw s 0 e n hd hs inbd inbs f0)) $$ [TA H0 HB]
  · isplitl [TA]
    · iexact TA
    isplitl [H0]
    · iexact H0
    · iexact HB
  iintro HB
  simp only [wp_ret]
  imodintro
  rw [srcW_set hs inbs]
  iapply K
  isplitl [HB]
  · iexact HB
  isplitl [H1]
  · iexact H1
  isplitl [TB]
  · iexact TB
  · iexact T1

theorem startW1 (s : Fin 3) (e n : ℕ) {offd : Fin 4 → ℕ} {offs : Fin 3 → ℕ} {sm : DmaSem sig} (hsm : sm = sW s) (hd : offd = ![s.val, 1, 0, 0])
    (hs : offs = ![e, 0, 1 * 2048 + 256 * n]) (inbd) (inbs) {h1 h2 h3} {Q : PUnit → sProp 𝕄} :
    midW c fw s e n ⊢ iprop((busyW c fw s e n 0 -∗ Q ⟨⟩) -∗ W c (Prog.lift (.enqueueDma (srcW offs inbs) (.here (dstW offd inbd)) (.dma sm) h1 h2 h3)) Q) := by
  subst hsm
  unfold busyW midW
  iintro ⟨HB, ⟨%f1, H1⟩, T0, T1⟩ K
  icases (pointsTo_split_subset (Finset.subset_univ (srcW offs inbs).view.set)).1 $$ T1 with ⟨TA, TB⟩
  iapply (wp_dmaBatch EC Variants.none (c : Thread nD τ) none () NW (src := srcW offs inbs) (dst := dstW offd inbd) (sm := .dma (sW s)) (via := ReadAs.same) (Sd := setW s 1) (q := tokW s 1) (fs := fw) (fd := f1)
    (D := delW c fw s e n) (j := 1) (u := 0) (k := fun x => .ret x) (crW _ _) (dstW_set hd inbd).subset (by decide) (Nat.zero_le _) (hDW c fw s 1 e n hd hs inbd inbs f1)) $$ [TA H1 HB]
  · isplitl [TA]
    · iexact TA
    isplitl [H1]
    · iexact H1
    · iexact HB
  iintro HB
  simp only [wp_ret]
  imodintro
  rw [srcW_set hs inbs]
  iapply K
  isplitl [HB]
  · iexact HB
  isplitl [T0]
  · iexact T0
  · iexact TB

theorem NW_pos : 0 < NW := by unfold NW; exact View.dmaCredit_pos _ (by decide)

theorem waitW0 (s : Fin 3) (e n : ℕ) {offd : Fin 4 → ℕ} {sm : DmaSem sig} (hsm : sm = sW s) (inbd) {srcw : Memref sig .tc .hbm S7168x256 .fp8e4m3} {h1 h2} {Q : PUnit → sProp 𝕄} :
    iprop(busyW c fw s e n 0 ∗ OW c) ⊢ iprop((busyW c fw s e n NW ∗ OW c -∗ Q ⟨⟩) -∗ W c (Prog.lift (.waitDma2 sm srcw (dstW offd inbd) h1 h2)) Q) := by
  subst hsm
  unfold busyW
  iintro ⟨⟨HB, T⟩, %Wd, HO⟩ K
  iapply (wp_waitBatch EC Variants.none (c : Thread nD τ) none () (dstw := dstW offd inbd) (srcw := srcw) (N := NW) (D := delW c fw s e n) (u := 0) (k := fun x => .ret x) (crW _ _) (by have := NW_pos; omega)) $$ [HB HO]
  · isplitl [HB]
    · iexact HB
    · iexact HO
  iintro ⟨HB, HO⟩
  simp only [wp_ret]
  imodintro
  iapply K
  isplitl [HB T]
  · isplitl [HB]
    · rw [Nat.zero_add]; iexact HB
    · iexact T
  · iexists _; iexact HO

theorem waitW1 (s : Fin 3) (e n : ℕ) {offd : Fin 4 → ℕ} {sm : DmaSem sig} (hsm : sm = sW s) (inbd) {srcw : Memref sig .tc .hbm S7168x256 .fp8e4m3} {h1 h2} {Q : PUnit → sProp 𝕄} :
    iprop(busyW c fw s e n NW ∗ OW c) ⊢ iprop((landedW c fw s e n ∗ OW c -∗ Q ⟨⟩) -∗ W c (Prog.lift (.waitDma2 sm srcw (dstW offd inbd) h1 h2)) Q) := by
  subst hsm
  unfold busyW landedW
  iintro ⟨⟨HB, T0, T1⟩, %Wd, HO⟩ K
  iapply (wp_waitBatchLast EC Variants.none (c : Thread nD τ) none () (dstw := dstW offd inbd) (srcw := srcw) (N := NW) (D := delW c fw s e n) (u := NW) (k := fun x => .ret x) (crW _ _) NW_pos (by omega)) $$ [HB HO]
  · isplitl [HB]
    · iexact HB
    · iexact HO
  rw [Ring.bigSep_fin2]
  unfold delW
  iintro ⟨⟨⟨H0, TA⟩, H1, TB⟩, HS, HO⟩
  simp only [wp_ret]
  imodintro
  iapply K
  isplitl [H0 H1 HS TA TB T0 T1]
  · isplitl [H0]
    · iexact H0
    isplitl [H1]
    · iexact H1
    isplitl [HS]
    · iexact HS
    isplitl [TA T0]
    · iapply (pointsTo_split_subset (Finset.subset_univ (setS e 0 n))).2
      isplitl [TA]
      · iexact TA
      · iexact T0
    · iapply (pointsTo_split_subset (Finset.subset_univ (setS e 1 n))).2
      isplitl [TB]
      · iexact TB
      · iexact T1
  · iexists _; iexact HO

/-! ## The activation ring -/

def delX (s : Fin 2) (k : ℕ) : Fin 1 → sProp 𝕄 := fun _ =>
  iprop(pt c A10 (setX s) fullShare (Xcan fx k) ∗ pt c A1 (rowsX k) (tokX s) fx)

instance (s : Fin 2) (k : ℕ) (t : Fin 1) : Storable (upEmb : UEmb _ 𝕄) (delX c fx s k t) := by
  unfold delX; infer_instance

@[irreducible] def NX : ℕ := (dstX ![0, 0, 0] (by decide)).view.dmaCredit
theorem crX (off) (inb) : (dstX off inb).view.dmaCredit = NX := by unfold NX; rfl
theorem NX_pos : 0 < NX := by unfold NX; exact View.dmaCredit_pos _ (by decide)

def idleX (s : Fin 2) : sProp 𝕄 :=
  iprop((∃ f, pt c A10 (setX s) fullShare f) ∗ semVal ((c : Thread nD τ), .dma (sX s)) 0 ∗ pt c A1 Finset.univ (tokX s) fx)

def busyX (s : Fin 2) (k : ℕ) : sProp 𝕄 :=
  iprop(Batch EC (c : Thread nD τ) (.dma (sX s)) () NX (delX c fx s k) 1 0 ∗ pt c A1 (Finset.univ \ rowsX k) (tokX s) fx)

def landedX (s : Fin 2) (k : ℕ) : sProp 𝕄 :=
  iprop(pt c A10 (setX s) fullShare (Xcan fx k) ∗ semVal ((c : Thread nD τ), .dma (sX s)) 0 ∗ pt c A1 Finset.univ (tokX s) fx)

theorem landedX_idle (s : Fin 2) (k : ℕ) : landedX c fx s k ⊢ idleX c fx s := by
  unfold landedX idleX
  iintro ⟨H0, HS, HT⟩
  isplitl [H0]
  · iexists _; iexact H0
  isplitl [HS]
  · iexact HS
  · iexact HT

theorem hDX (s : Fin 2) (k : ℕ) {offd : Fin 3 → ℕ} {offs : Fin 2 → ℕ} (hd : offd = ![s.val, 0, 0]) (hs : offs = ![64 * k, 0])
    (inbd) (inbs) (fd : S2x64x7168.Idx → Elt F .bf16) (t : Fin 1) :
    iprop(pt c A10 (setX s) fullShare ((dstX offd inbd).view.write (Elt F) fd ((srcX offs inbs).view.read (Elt F) fx) Finset.univ)
      ∗ pt c A1 (srcX offs inbs).view.set (tokX s) fx) ⊢ delX c fx s k t := by
  rw [srcX_set hs inbs]
  unfold delX
  have h := pointsTo_congr (Ix := Unit) (Name := ℕ) (U := Pipeline.UD sig nD τ) (Lvl := ℕ) (ℓ := A10.view.loc (c : Thread nD τ)) (q := fullShare) (I := setX s) (landX hd hs inbd inbs fd fx)
  unfold pt
  rw [h] <;> exact .rfl

theorem startX (s : Fin 2) (k : ℕ) {offd : Fin 3 → ℕ} {offs : Fin 2 → ℕ} {sm : DmaSem sig} (hsm : sm = sX s) (hd : offd = ![s.val, 0, 0])
    (hs : offs = ![64 * k, 0]) (inbd) (inbs) {h1 h2 h3} {Q : PUnit → sProp 𝕄} :
    idleX c fx s ⊢ iprop((busyX c fx s k -∗ Q ⟨⟩) -∗ W c (Prog.lift (.enqueueDma (srcX offs inbs) (.here (dstX offd inbd)) (.dma sm) h1 h2 h3)) Q) := by
  subst hsm
  unfold idleX busyX
  iintro ⟨⟨%f0, H0⟩, HS, T0⟩ K
  iapply fupd_wp
  imod (batch_alloc' EC (c : Thread nD τ) () NX (delX c fx s k) (sm := .dma (sX s))) $$ HS with HB
  imodintro
  icases (pointsTo_split_subset (Finset.subset_univ (srcX offs inbs).view.set)).1 $$ T0 with ⟨TA, TB⟩
  iapply (wp_dmaBatch EC Variants.none (c : Thread nD τ) none () NX (src := srcX offs inbs) (dst := dstX offd inbd) (sm := .dma (sX s)) (via := ReadAs.same) (Sd := setX s) (q := tokX s) (fs := fx) (fd := f0)
    (D := delX c fx s k) (j := 0) (u := 0) (k := fun x => .ret x) (crX _ _) (dstX_set hd inbd).subset (by decide) (Nat.zero_le _) (hDX c fx s k hd hs inbd inbs f0 _)) $$ [TA H0 HB]
  · isplitl [TA]
    · iexact TA
    isplitl [H0]
    · iexact H0
    · iexact HB
  iintro HB
  simp only [wp_ret]
  imodintro
  rw [srcX_set hs inbs]
  iapply K
  isplitl [HB]
  · iexact HB
  · iexact TB

theorem waitX (s : Fin 2) (k : ℕ) {offd : Fin 3 → ℕ} {sm : DmaSem sig} (hsm : sm = sX s) (inbd) {srcw : Memref sig .tc .hbm S64x7168 .bf16} {h1 h2} {Q : PUnit → sProp 𝕄} :
    iprop(busyX c fx s k ∗ OW c) ⊢ iprop((landedX c fx s k ∗ OW c -∗ Q ⟨⟩) -∗ W c (Prog.lift (.waitDma2 sm srcw (dstX offd inbd) h1 h2)) Q) := by
  subst hsm
  unfold busyX landedX
  iintro ⟨⟨HB, T0⟩, %Wd, HO⟩ K
  iapply (wp_waitBatchLast EC Variants.none (c : Thread nD τ) none () (dstw := dstX offd inbd) (srcw := srcw) (N := NX) (D := delX c fx s k) (u := 0) (k := fun x => .ret x) (crX _ _) NX_pos (by omega)) $$ [HB HO]
  · isplitl [HB]
    · iexact HB
    · iexact HO
  rw [bigSep_univ_of_subsingleton 0]
  unfold delX
  iintro ⟨⟨H0, TA⟩, HS, HO⟩
  simp only [wp_ret]
  imodintro
  iapply K
  isplitl [H0 HS TA T0]
  · isplitl [H0]
    · iexact H0
    isplitl [HS]
    · iexact HS
    · iapply (pointsTo_split_subset (Finset.subset_univ (rowsX k))).2
      isplitl [TA]
      · iexact TA
      · iexact T0
  · iexists _; iexact HO

/-! ## The result ring -/

/-- Slot `s` of the result ring holding chunk `k` of the result `g`. -/
def HoldsY (g : S3072x2048.Idx → Elt F .fp8e4m3) (s k : ℕ) (fy : S2x128x2048.Idx → Elt F .fp8e4m3) : Prop :=
  ∀ (i : S3072x2048.Idx) (j : S2x128x2048.Idx), (i 0).val = 128 * k + (j 1).val → (i 1).val = (j 2).val → (j 0).val = s → fy j = g i

def delY (g : S3072x2048.Idx → Elt F .fp8e4m3) (fy : S2x128x2048.Idx → Elt F .fp8e4m3) (s : Fin 2) (k : ℕ) : Fin 1 → sProp 𝕄 := fun _ =>
  iprop(pt c A4 (rowsY k) fullShare g ∗ pt c A11 (setY s) fullShare fy)

instance (g : S3072x2048.Idx → Elt F .fp8e4m3) (fy : S2x128x2048.Idx → Elt F .fp8e4m3) (s : Fin 2) (k : ℕ) (t : Fin 1) : Storable (upEmb : UEmb _ 𝕄) (delY c g fy s k t) := by
  unfold delY; infer_instance

@[irreducible] def NY : ℕ := (dstY ![0, 0] (by decide)).view.dmaCredit
theorem crY (off) (inb) : (dstY off inb).view.dmaCredit = NY := by unfold NY; rfl
theorem NY_pos : 0 < NY := by unfold NY; exact View.dmaCredit_pos _ (by decide)

def idleY (s : Fin 2) : sProp 𝕄 := iprop((∃ f, pt c A11 (setY s) fullShare f) ∗ semVal ((c : Thread nD τ), .dma (sY s)) 0)

def busyY (g : S3072x2048.Idx → Elt F .fp8e4m3) (s : Fin 2) (k : ℕ) : sProp 𝕄 :=
  iprop(∃ fy, Batch EC (c : Thread nD τ) (.dma (sY s)) () NY (delY c g fy s k) 1 0)

variable (g : S3072x2048.Idx → Elt F .fp8e4m3)

theorem hDY (s : Fin 2) (k : ℕ) {offd : Fin 2 → ℕ} {offs : Fin 3 → ℕ} (hd : offd = ![128 * k, 0]) (hs : offs = ![s.val, 0, 0])
    (inbd) (inbs) (fd : S3072x2048.Idx → Elt F .fp8e4m3) (fy : S2x128x2048.Idx → Elt F .fp8e4m3) (hg : HoldsY g s k fy) (t : Fin 1) :
    iprop(pt c A4 (rowsY k) fullShare ((dstY offd inbd).view.write (Elt F) fd ((srcY offs inbs).view.read (Elt F) fy) Finset.univ)
      ∗ pt c A11 (srcY offs inbs).view.set fullShare fy) ⊢ delY c g fy s k t := by
  rw [srcY_set hs inbs]
  unfold delY
  have h := pointsTo_congr (Ix := Unit) (Name := ℕ) (U := Pipeline.UD sig nD τ) (Lvl := ℕ) (ℓ := A4.view.loc (c : Thread nD τ)) (q := fullShare) (I := rowsY k) (landY hs hd inbd inbs fd g fy hg)
  unfold pt
  rw [h] <;> exact .rfl

theorem startY (s : Fin 2) (k : ℕ) {offd : Fin 2 → ℕ} {offs : Fin 3 → ℕ} {sm : DmaSem sig} (hsm : sm = sY s) (hd : offd = ![128 * k, 0])
    (hs : offs = ![s.val, 0, 0]) (inbd) (inbs) (fy : S2x128x2048.Idx → Elt F .fp8e4m3) (hg : HoldsY g s k fy) {h1 h2 h3} {Q : PUnit → sProp 𝕄} :
    iprop(pt c A11 (setY s) fullShare fy ∗ semVal ((c : Thread nD τ), .dma (sY s)) 0 ∗ (∃ f, pt c A4 (rowsY k) fullShare f))
      ⊢ iprop((busyY c g s k -∗ Q ⟨⟩) -∗ W c (Prog.lift (.enqueueDma (srcY offs inbs) (.here (dstY offd inbd)) (.dma sm) h1 h2 h3)) Q) := by
  subst hsm
  unfold busyY
  iintro ⟨H0, HS, %fd, HD⟩ K
  iapply fupd_wp
  imod (batch_alloc' EC (c : Thread nD τ) () NY (delY c g fy s k) (sm := .dma (sY s))) $$ HS with HB
  imodintro
  iapply (wp_dmaBatch EC Variants.none (c : Thread nD τ) none () NY (src := srcY offs inbs) (dst := dstY offd inbd) (sm := .dma (sY s)) (via := ReadAs.same) (Sd := rowsY k) (q := fullShare) (fs := fy) (fd := fd)
    (D := delY c g fy s k) (j := 0) (u := 0) (k := fun x => .ret x) (crY _ _) (dstY_set hd inbd).subset (by decide) (Nat.zero_le _) (hDY c g s k hd hs inbd inbs fd fy hg _)) $$ [H0 HD HB]
  · isplitl [H0]
    · rw [srcY_set hs inbs]; iexact H0
    isplitl [HD]
    · iexact HD
    · iexact HB
  iintro HB
  simp only [wp_ret]
  imodintro
  iapply K
  iexists fy
  iexact HB

theorem waitY (s : Fin 2) (k : ℕ) {offd : Fin 2 → ℕ} {sm : DmaSem sig} (hsm : sm = sY s) (inbd) {srcw : Memref sig .tc .vmem S128x2048 .fp8e4m3} {h1 h2} {Q : PUnit → sProp 𝕄} :
    iprop(busyY c g s k ∗ OW c) ⊢ iprop((idleY c s ∗ pt c A4 (rowsY k) fullShare g ∗ OW c -∗ Q ⟨⟩) -∗ W c (Prog.lift (.waitDma2 sm srcw (dstY offd inbd) h1 h2)) Q) := by
  subst hsm
  unfold busyY idleY
  iintro ⟨⟨%fy, HB⟩, %Wd, HO⟩ K
  iapply (wp_waitBatchLast EC Variants.none (c : Thread nD τ) none () (dstw := dstY offd inbd) (srcw := srcw) (N := NY) (D := delY c g fy s k) (u := 0) (k := fun x => .ret x) (crY _ _) NY_pos (by omega)) $$ [HB HO]
  · isplitl [HB]
    · iexact HB
    · iexact HO
  rw [bigSep_univ_of_subsingleton 0]
  unfold delY
  iintro ⟨⟨HD, H0⟩, HS, HO⟩
  simp only [wp_ret]
  imodintro
  iapply K
  isplitl [H0 HS]
  · isplitl [H0]
    · iexists _; iexact H0
    · iexact HS
  isplitl [HD]
  · iexact HD
  · iexists _; iexact HO

end Cert.Kernel.Hand
-- ==== Proof.KOffs.lean ====
/-
  The loops' bounds and the offsets of the kernel's slices, as plain numbers.
-/
module

public import proofs.«01_k».proof.Proof.Gen.Kernel.Skeleton
public import proofs.«01_k».proof.Proof.Words

@[expose] public section

set_option maxRecDepth 65536

namespace Cert.Kernel.Hand

open Cert.Kernel Cert.Kernel.Gen Cert.Words
open Idealize.ShloMosaic Idealize.ShloMosaic.TcCoe

/-! ## The loops' bounds as numbers -/

theorem t2_trips {A : ℕ} (hA : A ≤ 13) : (k0_t2_loop (BitVec.ofNat 32 A)).trips = 8 * A := by
  simp (disch := omega) only [Scf.Loop.trips, k0_t2_loop, mul_nw, sub_nw, div_nw, add_nw, trips_nw]
  omega

theorem t3_loop_eq {d r1 : ℕ} (hd : d ≤ 48) (h1 : r1 ≤ 3072) : k0_t3_loop (BitVec.ofNat 32 d) (BitVec.ofNat 32 r1)
    = ⟨BitVec.ofNat 32 d, BitVec.ofNat 32 (max d ((r1 + 63) / 64)), 1#32⟩ := by
  have e : (r1 + 64 - 1) = r1 + 63 := by omega
  have e2 : d + (max d ((r1 + 63) / 64) - d) / 1 * 1 = max d ((r1 + 63) / 64) := by omega
  simp (disch := omega) only [k0_t3_loop, add_nw, sub_nw, div_nw, max_nw, mul_nw, e, e2]

theorem t4_loop_eq {d r1 : ℕ} (hd : d ≤ 48) (h1 : r1 ≤ 3072) : k0_t4_loop (BitVec.ofNat 32 d) (BitVec.ofNat 32 r1)
    = ⟨BitVec.ofNat 32 (max d ((r1 + 63) / 64)), BitVec.ofNat 32 (max d ((r1 + 63) / 64)), 1#32⟩ := by
  have e : (r1 + 64 - 1) = r1 + 63 := by omega
  have e2 : d + (max d ((r1 + 63) / 64) - d) / 1 * 1 = max d ((r1 + 63) / 64) := by omega
  have e3 : d + (max d ((r1 + 63) / 64) - d) = max d ((r1 + 63) / 64) := by omega
  simp (disch := omega) only [k0_t4_loop, add_nw, sub_nw, div_nw, max_nw, mul_nw, e, e2, e3]

/-- How many tiles of 128 rows, from the multiple of 32 at or below `r0`, reach `r1`. -/
def ntile (r0 r1 : ℕ) : ℕ := (r1 - r0 / 32 * 32 + 127) / 128

theorem t5_loop_eq {r0 r1 : ℕ} (h01 : r0 ≤ r1) (h1 : r1 ≤ 3072) : k0_t5_loop (BitVec.ofNat 32 r0) (BitVec.ofNat 32 r1)
    = ⟨BitVec.ofNat 32 0, BitVec.ofNat 32 (ntile r0 r1), 1#32⟩ := by
  have e : (r1 - r0 / 32 * 32 + 128 - 1) = r1 - r0 / 32 * 32 + 127 := by omega
  have e2 : 0 + ((r1 - r0 / 32 * 32 + 127) / 128 - 0) / 1 * 1 = ntile r0 r1 := by unfold ntile; omega
  simp (disch := omega) only [k0_t5_loop, add_nw, sub_nw, div_nw, mul_nw, e, e2]

theorem t6_loop_eq {r0 r1 : ℕ} (h01 : r0 ≤ r1) (h1 : r1 ≤ 3072) : k0_t6_loop (BitVec.ofNat 32 r0) (BitVec.ofNat 32 r1)
    = ⟨BitVec.ofNat 32 (ntile r0 r1), BitVec.ofNat 32 (ntile r0 r1), 1#32⟩ := by
  have e : (r1 - r0 / 32 * 32 + 128 - 1) = r1 - r0 / 32 * 32 + 127 := by omega
  have e2 : 0 + ((r1 - r0 / 32 * 32 + 127) / 128 - 0) / 1 * 1 = ntile r0 r1 := by unfold ntile; omega
  have e3 : 0 + ((r1 - r0 / 32 * 32 + 127) / 128 - 0) = ntile r0 r1 := by unfold ntile; omega
  simp (disch := omega) only [k0_t6_loop, add_nw, sub_nw, div_nw, mul_nw, e, e2, e3]

theorem t3_trips {d r1 : ℕ} (hd : d ≤ 48) (h1 : r1 ≤ 3072) : (k0_t3_loop (BitVec.ofNat 32 d) (BitVec.ofNat 32 r1)).trips = max d ((r1 + 63) / 64) - d := by
  rw [t3_loop_eq hd h1]; exact trips_nw (by omega) (by omega)

theorem t4_trips {d r1 : ℕ} (hd : d ≤ 48) (h1 : r1 ≤ 3072) : (k0_t4_loop (BitVec.ofNat 32 d) (BitVec.ofNat 32 r1)).trips = 0 := by
  rw [t4_loop_eq hd h1]; exact (trips_nw (by omega) (by omega)).trans (Nat.sub_self _)

theorem t5_trips {r0 r1 : ℕ} (h01 : r0 ≤ r1) (h1 : r1 ≤ 3072) : (k0_t5_loop (BitVec.ofNat 32 r0) (BitVec.ofNat 32 r1)).trips = ntile r0 r1 := by
  rw [t5_loop_eq h01 h1]; exact trips_nw (by omega) (by unfold ntile; omega)

theorem t6_trips {r0 r1 : ℕ} (h01 : r0 ≤ r1) (h1 : r1 ≤ 3072) : (k0_t6_loop (BitVec.ofNat 32 r0) (BitVec.ofNat 32 r1)).trips = 0 := by
  rw [t6_loop_eq h01 h1]; exact (trips_nw (by unfold ntile; omega) (by unfold ntile; omega)).trans (Nat.sub_self _)

theorem ok_nw {a b : ℕ} (ha : a < 2 ^ 30) (hb : b < 2 ^ 30) : Scf.OK (BitVec.ofNat 32 a) (BitVec.ofNat 32 b) 1#32 := by
  unfold Scf.OK
  have h1 : (1#32 : BitVec 32).toInt = 1 := by decide
  rw [trips_nw (by omega) (by omega), toInt_nw (n := a) (by omega), h1]
  refine ⟨by omega, ?_⟩
  have : ((b - a : ℕ) : ℤ) ≤ b := by omega
  norm_num; omega

theorem t3_ok {d r1 : ℕ} (hd : d ≤ 48) (h1 : r1 ≤ 3072) : (k0_t3_loop (BitVec.ofNat 32 d) (BitVec.ofNat 32 r1)).OK := by
  rw [t3_loop_eq hd h1]; exact ok_nw (by omega) (by omega)
theorem t4_ok {d r1 : ℕ} (hd : d ≤ 48) (h1 : r1 ≤ 3072) : (k0_t4_loop (BitVec.ofNat 32 d) (BitVec.ofNat 32 r1)).OK := by
  rw [t4_loop_eq hd h1]; exact ok_nw (by omega) (by omega)
theorem t5_ok {r0 r1 : ℕ} (h01 : r0 ≤ r1) (h1 : r1 ≤ 3072) : (k0_t5_loop (BitVec.ofNat 32 r0) (BitVec.ofNat 32 r1)).OK := by
  rw [t5_loop_eq h01 h1]; exact ok_nw (by omega) (by unfold ntile; omega)
theorem t6_ok {r0 r1 : ℕ} (h01 : r0 ≤ r1) (h1 : r1 ≤ 3072) : (k0_t6_loop (BitVec.ofNat 32 r0) (BitVec.ofNat 32 r1)).OK := by
  rw [t6_loop_eq h01 h1]; exact ok_nw (by unfold ntile; omega) (by unfold ntile; omega)

/-! ## The induction variables and the words computed from them -/

theorem v1e {a a' : ℕ} (h : a = a') : (![a] : Fin 1 → ℕ) = ![a'] := by rw [h]
theorem v2e {a a' b b' : ℕ} (h : a = a') (h2 : b = b') : (![a, b] : Fin 2 → ℕ) = ![a', b'] := by rw [h, h2]
theorem v3e {a a' b b' c c' : ℕ} (h : a = a') (h2 : b = b') (h3 : c = c') : (![a, b, c] : Fin 3 → ℕ) = ![a', b', c'] := by rw [h, h2, h3]
theorem v4e {a a' b b' c c' d d' : ℕ} (h : a = a') (h2 : b = b') (h3 : c = c') (h4 : d = d') : (![a, b, c, d] : Fin 4 → ℕ) = ![a', b', c', d'] := by
  rw [h, h2, h3, h4]

theorem ic_nw (n : ℕ) : Scalar.indexCast (BitVec.ofNat 32 n) = BitVec.ofNat 32 n := rfl

theorem iv0_nw (k : ℕ) : Scf.iv 0#32 1#32 k = BitVec.ofNat 32 k := (iv_nw 0 k).trans (by rw [Nat.zero_add])

/-! ## Slices of the quantiser loop: chunk `d + t` -/

theorem t3_lt {d r1 : ℕ} (hd : d ≤ 48) (h1 : r1 ≤ 3072) (t : Fin (k0_t3_loop (BitVec.ofNat 32 d) (BitVec.ofNat 32 r1)).trips) : d + t.val < 48 := by
  have ht := t.isLt.trans_eq (t3_trips hd h1)
  omega

theorem off19_eq {d r1 : ℕ} (hd : d ≤ 48) (h1 : r1 ≤ 3072) (t : Fin (k0_t3_loop (BitVec.ofNat 32 d) (BitVec.ofNat 32 r1)).trips) :
    k0_off19 (BitVec.ofNat 32 d) (BitVec.ofNat 32 r1) t = ![(d + t.val) % 2] := by
  have ht := t.isLt.trans_eq (t3_trips hd h1)
  simp (disch := omega) only [k0_off19, iv0_nw, iv_nw, Nat.zero_add, mul_nw, add_nw, sub_nw, div_nw, rem_nw, min_nw, max_nw, ic_nw, toNat_nw] <;>
  first
  | rfl
  | (apply v1e <;> first | rfl | omega)

theorem off20_eq {d r1 : ℕ} (hd : d ≤ 48) (h1 : r1 ≤ 3072) (t : Fin (k0_t3_loop (BitVec.ofNat 32 d) (BitVec.ofNat 32 r1)).trips) :
    k0_off20 (BitVec.ofNat 32 d) (BitVec.ofNat 32 r1) t = ![(d + t.val) % 2, 0, 0] := by
  have ht := t.isLt.trans_eq (t3_trips hd h1)
  simp (disch := omega) only [k0_off20, iv0_nw, iv_nw, Nat.zero_add, mul_nw, add_nw, sub_nw, div_nw, rem_nw, min_nw, max_nw, ic_nw, toNat_nw] <;>
  first
  | rfl
  | (apply v3e <;> first | rfl | omega)

theorem off21_eq {d r1 : ℕ} (hd : d ≤ 48) (h1 : r1 ≤ 3072) (t : Fin (k0_t3_loop (BitVec.ofNat 32 d) (BitVec.ofNat 32 r1)).trips) :
    k0_off21 (BitVec.ofNat 32 d) (BitVec.ofNat 32 r1) t = ![64 * (d + t.val), 0] := by
  have ht := t.isLt.trans_eq (t3_trips hd h1)
  simp (disch := omega) only [k0_off21, iv0_nw, iv_nw, Nat.zero_add, mul_nw, add_nw, sub_nw, div_nw, rem_nw, min_nw, max_nw, ic_nw, toNat_nw] <;>
  first
  | rfl
  | (apply v2e <;> first | rfl | omega)

theorem off22_eq {d r1 : ℕ} (hd : d ≤ 48) (h1 : r1 ≤ 3072) (t : Fin (k0_t3_loop (BitVec.ofNat 32 d) (BitVec.ofNat 32 r1)).trips) :
    k0_off22 (BitVec.ofNat 32 d) (BitVec.ofNat 32 r1) t = ![(d + t.val) % 2, 0, 0] := by
  have ht := t.isLt.trans_eq (t3_trips hd h1)
  simp (disch := omega) only [k0_off22, iv0_nw, iv_nw, Nat.zero_add, mul_nw, add_nw, sub_nw, div_nw, rem_nw, min_nw, max_nw, ic_nw, toNat_nw] <;>
  first
  | rfl
  | (apply v3e <;> first | rfl | omega)

theorem off23_eq {d r1 : ℕ} (hd : d ≤ 48) (h1 : r1 ≤ 3072) (t : Fin (k0_t3_loop (BitVec.ofNat 32 d) (BitVec.ofNat 32 r1)).trips) :
    k0_off23 (BitVec.ofNat 32 d) (BitVec.ofNat 32 r1) t = ![64 * (d + t.val), 0] := by
  have ht := t.isLt.trans_eq (t3_trips hd h1)
  simp (disch := omega) only [k0_off23, iv0_nw, iv_nw, Nat.zero_add, mul_nw, add_nw, sub_nw, div_nw, rem_nw, min_nw, max_nw, ic_nw, toNat_nw] <;>
  first
  | rfl
  | (apply v2e <;> first | rfl | omega)

theorem off24_eq {d r1 : ℕ} (hd : d ≤ 48) (h1 : r1 ≤ 3072) (t : Fin (k0_t3_loop (BitVec.ofNat 32 d) (BitVec.ofNat 32 r1)).trips) :
    k0_off24 (BitVec.ofNat 32 d) (BitVec.ofNat 32 r1) t = ![64 * (d + t.val), 0] := by
  have ht := t.isLt.trans_eq (t3_trips hd h1)
  simp (disch := omega) only [k0_off24, iv0_nw, iv_nw, Nat.zero_add, mul_nw, add_nw, sub_nw, div_nw, rem_nw, min_nw, max_nw, ic_nw, toNat_nw] <;>
  first
  | rfl
  | (apply v2e <;> first | rfl | omega)

theorem off25_eq {d r1 : ℕ} (hd : d ≤ 48) (h1 : r1 ≤ 3072) (t : Fin (k0_t3_loop (BitVec.ofNat 32 d) (BitVec.ofNat 32 r1)).trips) :
    k0_off25 (BitVec.ofNat 32 d) (BitVec.ofNat 32 r1) t = ![(d + t.val) % 2] := by
  have ht := t.isLt.trans_eq (t3_trips hd h1)
  simp (disch := omega) only [k0_off25, iv0_nw, iv_nw, Nat.zero_add, mul_nw, add_nw, sub_nw, div_nw, rem_nw, min_nw, max_nw, ic_nw, toNat_nw] <;>
  first
  | rfl
  | (apply v1e <;> first | rfl | omega)

theorem off26_eq {d r1 : ℕ} (hd : d ≤ 48) (h1 : r1 ≤ 3072) (t : Fin (k0_t3_loop (BitVec.ofNat 32 d) (BitVec.ofNat 32 r1)).trips) :
    k0_off26 (BitVec.ofNat 32 d) (BitVec.ofNat 32 r1) t = ![(d + t.val) % 2, 0, 0] := by
  have ht := t.isLt.trans_eq (t3_trips hd h1)
  simp (disch := omega) only [k0_off26, iv0_nw, iv_nw, Nat.zero_add, mul_nw, add_nw, sub_nw, div_nw, rem_nw, min_nw, max_nw, ic_nw, toNat_nw] <;>
  first
  | rfl
  | (apply v3e <;> first | rfl | omega)

theorem off27_eq {d r1 : ℕ} (hd : d ≤ 48) (h1 : r1 ≤ 3072) (t : Fin (k0_t3_loop (BitVec.ofNat 32 d) (BitVec.ofNat 32 r1)).trips) :
    k0_off27 (BitVec.ofNat 32 d) (BitVec.ofNat 32 r1) t = ![64 * (d + t.val + 2), 0] := by
  have ht := t.isLt.trans_eq (t3_trips hd h1)
  simp (disch := omega) only [k0_off27, iv0_nw, iv_nw, Nat.zero_add, mul_nw, add_nw, sub_nw, div_nw, rem_nw, min_nw, max_nw, ic_nw, toNat_nw] <;>
  first
  | rfl
  | (apply v2e <;> first | rfl | omega)

theorem mult7_eq {d r1 : ℕ} (hd : d ≤ 48) (h1 : r1 ≤ 3072) (t : Fin (k0_t3_loop (BitVec.ofNat 32 d) (BitVec.ofNat 32 r1)).trips) : (k0_mult7 (BitVec.ofNat 32 d) (BitVec.ofNat 32 r1) t).toNat = 64 * (d + t.val) := by
  have ht := t.isLt.trans_eq (t3_trips hd h1)
  simp (disch := omega) only [k0_mult7, iv0_nw, iv_nw, Nat.zero_add, mul_nw, add_nw, sub_nw, div_nw, rem_nw, min_nw, max_nw, ic_nw, toNat_nw]
  omega

theorem mult8_eq {d r1 : ℕ} (hd : d ≤ 48) (h1 : r1 ≤ 3072) (t : Fin (k0_t3_loop (BitVec.ofNat 32 d) (BitVec.ofNat 32 r1)).trips) : (k0_mult8 (BitVec.ofNat 32 d) (BitVec.ofNat 32 r1) t).toNat = 64 * (d + t.val) := by
  have ht := t.isLt.trans_eq (t3_trips hd h1)
  simp (disch := omega) only [k0_mult8, iv0_nw, iv_nw, Nat.zero_add, mul_nw, add_nw, sub_nw, div_nw, rem_nw, min_nw, max_nw, ic_nw, toNat_nw]
  omega

theorem mult9_eq {d r1 : ℕ} (hd : d ≤ 48) (h1 : r1 ≤ 3072) (t : Fin (k0_t3_loop (BitVec.ofNat 32 d) (BitVec.ofNat 32 r1)).trips) : (k0_mult9 (BitVec.ofNat 32 d) (BitVec.ofNat 32 r1) t).toNat = 64 * (d + t.val + 2) := by
  have ht := t.isLt.trans_eq (t3_trips hd h1)
  simp (disch := omega) only [k0_mult9, iv0_nw, iv_nw, Nat.zero_add, mul_nw, add_nw, sub_nw, div_nw, rem_nw, min_nw, max_nw, ic_nw, toNat_nw]
  omega

theorem cond4_iff {d r1 : ℕ} (hd : d ≤ 48) (h1 : r1 ≤ 3072) (t : Fin (k0_t3_loop (BitVec.ofNat 32 d) (BitVec.ofNat 32 r1)).trips) : k0_cond4 (BitVec.ofNat 32 d) (BitVec.ofNat 32 r1) t = 1#1 ↔ d + t.val + 2 < 48 := by
  have ht := t.isLt.trans_eq (t3_trips hd h1)
  unfold k0_cond4
  simp (disch := omega) only [iv_nw, add_nw, ext_ne, slt_nw]

/-! ## Slices of the tile loop -/

/-- The first row of tile `j` of the rows from `r0`. -/
def trow (r0 j : ℕ) : ℕ := min (r0 / 32 * 32 + j * 128) 2944

theorem t5_lt {r0 r1 : ℕ} (h01 : r0 ≤ r1) (h1 : r1 ≤ 3072) (t : Fin (k0_t5_loop (BitVec.ofNat 32 r0) (BitVec.ofNat 32 r1)).trips) : t.val < ntile r0 r1 := t.isLt.trans_eq (t5_trips h01 h1)

theorem off49_eq {r0 r1 : ℕ} (h01 : r0 ≤ r1) (h1 : r1 ≤ 3072) (t : Fin (k0_t5_loop (BitVec.ofNat 32 r0) (BitVec.ofNat 32 r1)).trips) :
    k0_off49 (BitVec.ofNat 32 r0) (BitVec.ofNat 32 r1) t = ![trow r0 t.val, 0] := by
  have ht := t.isLt.trans_eq (t5_trips h01 h1)
  unfold ntile at ht
  unfold trow
  simp (disch := omega) only [k0_off49, iv0_nw, iv_nw, Nat.zero_add, mul_nw, add_nw, sub_nw, div_nw, rem_nw, min_nw, max_nw, ic_nw, toNat_nw] <;>
  first
  | rfl
  | (apply v2e <;> first | rfl | omega)

theorem off52_eq {r0 r1 : ℕ} (h01 : r0 ≤ r1) (h1 : r1 ≤ 3072) (t : Fin (k0_t5_loop (BitVec.ofNat 32 r0) (BitVec.ofNat 32 r1)).trips) :
    k0_off52 (BitVec.ofNat 32 r0) (BitVec.ofNat 32 r1) t = ![trow r0 t.val, 0] := by
  have ht := t.isLt.trans_eq (t5_trips h01 h1)
  unfold ntile at ht
  unfold trow
  simp (disch := omega) only [k0_off52, iv0_nw, iv_nw, Nat.zero_add, mul_nw, add_nw, sub_nw, div_nw, rem_nw, min_nw, max_nw, ic_nw, toNat_nw] <;>
  first
  | rfl
  | (apply v2e <;> first | rfl | omega)

theorem mult19_eq {r0 r1 : ℕ} (h01 : r0 ≤ r1) (h1 : r1 ≤ 3072) (t : Fin (k0_t5_loop (BitVec.ofNat 32 r0) (BitVec.ofNat 32 r1)).trips) : (k0_mult19 (BitVec.ofNat 32 r0) (BitVec.ofNat 32 r1) t).toNat = trow r0 t.val := by
  have ht := t.isLt.trans_eq (t5_trips h01 h1)
  unfold ntile at ht
  unfold trow
  simp (disch := omega) only [k0_mult19, iv0_nw, iv_nw, Nat.zero_add, mul_nw, add_nw, sub_nw, div_nw, rem_nw, min_nw, max_nw, ic_nw, toNat_nw]

/-! ## Slices of the item loop -/

theorem t2_lt {A : ℕ} (hA0 : 0 < A) (hA : A ≤ 13) (t : Fin (k0_t2_loop (BitVec.ofNat 32 A)).trips) : t.val < 8 * A := t.isLt.trans_eq (t2_trips hA)

theorem off16_eq {A : ℕ} (hA0 : 0 < A) (hA : A ≤ 13) (t : Fin (k0_t2_loop (BitVec.ofNat 32 A)).trips) :
    k0_off16 (BitVec.ofNat 32 A) t = ![t.val % A] := by
  have ht := t.isLt.trans_eq (t2_trips hA)
  have hq := Nat.div_le_self t.val A
  have hr := Nat.mod_lt t.val hA0
  simp (disch := omega) only [k0_off16, iv0_nw, iv_nw, Nat.zero_add, mul_nw, add_nw, sub_nw, div_nw, rem_nw, min_nw, max_nw, ic_nw, toNat_nw] <;>
  first
  | rfl
  | (apply v1e <;> first | rfl | omega)

theorem off43_eq {A : ℕ} (hA0 : 0 < A) (hA : A ≤ 13) (t : Fin (k0_t2_loop (BitVec.ofNat 32 A)).trips) :
    k0_off43 (BitVec.ofNat 32 A) t = ![t.val % 3] := by
  have ht := t.isLt.trans_eq (t2_trips hA)
  have hq := Nat.div_le_self t.val A
  have hr := Nat.mod_lt t.val hA0
  simp (disch := omega) only [k0_off43, iv0_nw, iv_nw, Nat.zero_add, mul_nw, add_nw, sub_nw, div_nw, rem_nw, min_nw, max_nw, ic_nw, toNat_nw] <;>
  first
  | rfl
  | (apply v1e <;> first | rfl | omega)

theorem off44_eq {A : ℕ} (hA0 : 0 < A) (hA : A ≤ 13) (t : Fin (k0_t2_loop (BitVec.ofNat 32 A)).trips) :
    k0_off44 (BitVec.ofNat 32 A) t = ![t.val % 3, 0, 0, 0] := by
  have ht := t.isLt.trans_eq (t2_trips hA)
  have hq := Nat.div_le_self t.val A
  have hr := Nat.mod_lt t.val hA0
  simp (disch := omega) only [k0_off44, iv0_nw, iv_nw, Nat.zero_add, mul_nw, add_nw, sub_nw, div_nw, rem_nw, min_nw, max_nw, ic_nw, toNat_nw] <;>
  first
  | rfl
  | (apply v4e <;> first | rfl | omega)

theorem off46_eq {A : ℕ} (hA0 : 0 < A) (hA : A ≤ 13) (t : Fin (k0_t2_loop (BitVec.ofNat 32 A)).trips) :
    k0_off46 (BitVec.ofNat 32 A) t = ![t.val % 3, 1, 0, 0] := by
  have ht := t.isLt.trans_eq (t2_trips hA)
  have hq := Nat.div_le_self t.val A
  have hr := Nat.mod_lt t.val hA0
  simp (disch := omega) only [k0_off46, iv0_nw, iv_nw, Nat.zero_add, mul_nw, add_nw, sub_nw, div_nw, rem_nw, min_nw, max_nw, ic_nw, toNat_nw] <;>
  first
  | rfl
  | (apply v4e <;> first | rfl | omega)

theorem off50_eq {A : ℕ} (hA0 : 0 < A) (hA : A ≤ 13) (t : Fin (k0_t2_loop (BitVec.ofNat 32 A)).trips) :
    k0_off50 (BitVec.ofNat 32 A) t = ![t.val % 3, 0, 0, 0] := by
  have ht := t.isLt.trans_eq (t2_trips hA)
  have hq := Nat.div_le_self t.val A
  have hr := Nat.mod_lt t.val hA0
  simp (disch := omega) only [k0_off50, iv0_nw, iv_nw, Nat.zero_add, mul_nw, add_nw, sub_nw, div_nw, rem_nw, min_nw, max_nw, ic_nw, toNat_nw] <;>
  first
  | rfl
  | (apply v4e <;> first | rfl | omega)

theorem off51_eq {A : ℕ} (hA0 : 0 < A) (hA : A ≤ 13) (t : Fin (k0_t2_loop (BitVec.ofNat 32 A)).trips) :
    k0_off51 (BitVec.ofNat 32 A) t = ![t.val % 3, 1, 0, 0] := by
  have ht := t.isLt.trans_eq (t2_trips hA)
  have hq := Nat.div_le_self t.val A
  have hr := Nat.mod_lt t.val hA0
  simp (disch := omega) only [k0_off51, iv0_nw, iv_nw, Nat.zero_add, mul_nw, add_nw, sub_nw, div_nw, rem_nw, min_nw, max_nw, ic_nw, toNat_nw] <;>
  first
  | rfl
  | (apply v4e <;> first | rfl | omega)

theorem add3 (n : ℕ) : n + 3 - 1 = n + 2 := by omega

theorem off37_eq {A : ℕ} (hA0 : 0 < A) (hA : A ≤ 13) (t : Fin (k0_t2_loop (BitVec.ofNat 32 A)).trips) :
    k0_off37 (BitVec.ofNat 32 A) t = ![(t.val + 2) % A] := by
  have ht := t.isLt.trans_eq (t2_trips hA)
  have hq := Nat.div_le_self (t.val + 2) A
  have hr := Nat.mod_lt (t.val + 2) hA0
  simp (disch := omega) only [k0_off37, iv0_nw, iv_nw, Nat.zero_add, mul_nw, add_nw, sub_nw, add3, div_nw, rem_nw, min_nw, max_nw, ic_nw, toNat_nw] <;>
  first
  | rfl
  | (apply v1e <;> first | rfl | omega)

theorem off38_eq {A : ℕ} (hA0 : 0 < A) (hA : A ≤ 13) (t : Fin (k0_t2_loop (BitVec.ofNat 32 A)).trips) :
    k0_off38 (BitVec.ofNat 32 A) t = ![(t.val + 2) % 3] := by
  have ht := t.isLt.trans_eq (t2_trips hA)
  have hq := Nat.div_le_self (t.val + 2) A
  have hr := Nat.mod_lt (t.val + 2) hA0
  simp (disch := omega) only [k0_off38, iv0_nw, iv_nw, Nat.zero_add, mul_nw, add_nw, sub_nw, add3, div_nw, rem_nw, min_nw, max_nw, ic_nw, toNat_nw] <;>
  first
  | rfl
  | (apply v1e <;> first | rfl | omega)

theorem off39_eq {A : ℕ} (hA0 : 0 < A) (hA : A ≤ 13) (t : Fin (k0_t2_loop (BitVec.ofNat 32 A)).trips) :
    k0_off39 (BitVec.ofNat 32 A) t = ![(t.val + 2) % 3, 0, 0, 0] := by
  have ht := t.isLt.trans_eq (t2_trips hA)
  have hq := Nat.div_le_self (t.val + 2) A
  have hr := Nat.mod_lt (t.val + 2) hA0
  simp (disch := omega) only [k0_off39, iv0_nw, iv_nw, Nat.zero_add, mul_nw, add_nw, sub_nw, add3, div_nw, rem_nw, min_nw, max_nw, ic_nw, toNat_nw] <;>
  first
  | rfl
  | (apply v4e <;> first | rfl | omega)

theorem off41_eq {A : ℕ} (hA0 : 0 < A) (hA : A ≤ 13) (t : Fin (k0_t2_loop (BitVec.ofNat 32 A)).trips) :
    k0_off41 (BitVec.ofNat 32 A) t = ![(t.val + 2) % 3] := by
  have ht := t.isLt.trans_eq (t2_trips hA)
  have hq := Nat.div_le_self (t.val + 2) A
  have hr := Nat.mod_lt (t.val + 2) hA0
  simp (disch := omega) only [k0_off41, iv0_nw, iv_nw, Nat.zero_add, mul_nw, add_nw, sub_nw, add3, div_nw, rem_nw, min_nw, max_nw, ic_nw, toNat_nw] <;>
  first
  | rfl
  | (apply v1e <;> first | rfl | omega)

theorem off42_eq {A : ℕ} (hA0 : 0 < A) (hA : A ≤ 13) (t : Fin (k0_t2_loop (BitVec.ofNat 32 A)).trips) :
    k0_off42 (BitVec.ofNat 32 A) t = ![(t.val + 2) % 3, 1, 0, 0] := by
  have ht := t.isLt.trans_eq (t2_trips hA)
  have hq := Nat.div_le_self (t.val + 2) A
  have hr := Nat.mod_lt (t.val + 2) hA0
  simp (disch := omega) only [k0_off42, iv0_nw, iv_nw, Nat.zero_add, mul_nw, add_nw, sub_nw, add3, div_nw, rem_nw, min_nw, max_nw, ic_nw, toNat_nw] <;>
  first
  | rfl
  | (apply v4e <;> first | rfl | omega)

theorem off40_eq {A : ℕ} (hA0 : 0 < A) (hA : A ≤ 13) (t : Fin (k0_t2_loop (BitVec.ofNat 32 A)).trips) {e : ℕ} (he : e < 13) (b : Fin 2) :
    k0_off40 (BitVec.ofNat 32 A) t (BitVec.ofNat 32 e) (BitVec.ofNat 32 (b.val * 2048)) = ![e, 0, b.val * 2048 + 256 * ((t.val + 2) / A)] := by
  have ht := t.isLt.trans_eq (t2_trips hA)
  have hq := Nat.div_le_self (t.val + 2) A
  have hr := Nat.mod_lt (t.val + 2) hA0
  have hb := b.isLt
  simp (disch := omega) only [k0_off40, iv0_nw, iv_nw, Nat.zero_add, mul_nw, add_nw, sub_nw, add3, div_nw, rem_nw, min_nw, max_nw, ic_nw, toNat_nw] <;>
  first
  | rfl
  | (apply v3e <;> first | rfl | omega)

theorem off45_eq {A : ℕ} (hA0 : 0 < A) (hA : A ≤ 13) (t : Fin (k0_t2_loop (BitVec.ofNat 32 A)).trips) {e : ℕ} (he : e < 13) (b : Fin 2) :
    k0_off45 (BitVec.ofNat 32 A) t (BitVec.ofNat 32 e) (BitVec.ofNat 32 (b.val * 2048)) = ![e, 0, b.val * 2048 + 256 * (t.val / A)] := by
  have ht := t.isLt.trans_eq (t2_trips hA)
  have hq := Nat.div_le_self t.val A
  have hr := Nat.mod_lt t.val hA0
  have hb := b.isLt
  simp (disch := omega) only [k0_off45, iv0_nw, iv_nw, Nat.zero_add, mul_nw, add_nw, sub_nw, div_nw, rem_nw, min_nw, max_nw, ic_nw, toNat_nw] <;>
  first
  | rfl
  | (apply v3e <;> first | rfl | omega)

theorem off47_eq {A : ℕ} (hA0 : 0 < A) (hA : A ≤ 13) (t : Fin (k0_t2_loop (BitVec.ofNat 32 A)).trips) {e : ℕ} (he : e < 13) :
    k0_off47 (BitVec.ofNat 32 A) t (BitVec.ofNat 32 e) = ![e, 256 * (t.val / A)] := by
  have ht := t.isLt.trans_eq (t2_trips hA)
  have hq := Nat.div_le_self t.val A
  have hr := Nat.mod_lt t.val hA0
  simp (disch := omega) only [k0_off47, iv0_nw, iv_nw, Nat.zero_add, mul_nw, add_nw, sub_nw, div_nw, rem_nw, min_nw, max_nw, ic_nw, toNat_nw] <;>
  first
  | rfl
  | (apply v2e <;> first | rfl | omega)

theorem off48_eq {A : ℕ} (hA0 : 0 < A) (hA : A ≤ 13) (t : Fin (k0_t2_loop (BitVec.ofNat 32 A)).trips) {e : ℕ} (he : e < 13) :
    k0_off48 (BitVec.ofNat 32 A) t (BitVec.ofNat 32 e) = ![e, 2048 + 256 * (t.val / A)] := by
  have ht := t.isLt.trans_eq (t2_trips hA)
  have hq := Nat.div_le_self t.val A
  have hr := Nat.mod_lt t.val hA0
  simp (disch := omega) only [k0_off48, iv0_nw, iv_nw, Nat.zero_add, mul_nw, add_nw, sub_nw, div_nw, rem_nw, min_nw, max_nw, ic_nw, toNat_nw] <;>
  first
  | rfl
  | (apply v2e <;> first | rfl | omega)

theorem off17_eq {e : ℕ} (he : e < 13) :
    k0_off17 (BitVec.ofNat 32 e) = ![e] := by
  simp (disch := omega) only [k0_off17, iv0_nw, iv_nw, Nat.zero_add, mul_nw, add_nw, sub_nw, div_nw, rem_nw, min_nw, max_nw, ic_nw, toNat_nw] <;>
  first
  | rfl
  | (apply v1e <;> first | rfl | omega)

theorem off18_eq {e : ℕ} (he : e < 13) :
    k0_off18 (BitVec.ofNat 32 e) = ![e + 1] := by
  simp (disch := omega) only [k0_off18, iv0_nw, iv_nw, Nat.zero_add, mul_nw, add_nw, sub_nw, div_nw, rem_nw, min_nw, max_nw, ic_nw, toNat_nw] <;>
  first
  | rfl
  | (apply v1e <;> first | rfl | omega)

theorem cond6_iff {A : ℕ} (hA0 : 0 < A) (hA : A ≤ 13) (t : Fin (k0_t2_loop (BitVec.ofNat 32 A)).trips) : k0_cond6 (BitVec.ofNat 32 A) t = 1#1 ↔ t.val + 2 < 8 * A := by
  have ht := t.isLt.trans_eq (t2_trips hA)
  unfold k0_cond6
  simp (disch := omega) only [iv0_nw, add_nw, sub_nw, mul_nw, ext_ne, slt_nw]
  omega

theorem off53_eq {A : ℕ} (hA0 : 0 < A) (hA : A ≤ 13) (t : Fin (k0_t2_loop (BitVec.ofNat 32 A)).trips) {r0 r1 : ℕ} (h01 : r0 ≤ r1) (h1 : r1 ≤ 3072) (u : Fin (k0_t5_loop (BitVec.ofNat 32 r0) (BitVec.ofNat 32 r1)).trips) :
    k0_off53 (BitVec.ofNat 32 A) t (BitVec.ofNat 32 r0) (BitVec.ofNat 32 r1) u = ![min (r0 / 32 * 32 + u.val * 128) 2944, 256 * (t.val / A)] := by
  have hu := u.isLt.trans_eq (t5_trips h01 h1)
  unfold ntile at hu
  have ht := t.isLt.trans_eq (t2_trips hA)
  have hq := Nat.div_le_self t.val A
  have hr := Nat.mod_lt t.val hA0
  simp (disch := omega) only [k0_off53, iv0_nw, iv_nw, Nat.zero_add, mul_nw, add_nw, sub_nw, div_nw, rem_nw, min_nw, max_nw, ic_nw, toNat_nw] <;>
  first
  | rfl
  | (apply v2e <;> first | rfl | omega)

/-! ## Slices of the first two items' starts -/

theorem off4_eq {A : ℕ} (hA0 : 0 < A) (hA : A ≤ 13) :
    k0_off4 (BitVec.ofNat 32 A) = ![0 % A] := by
  have hq := Nat.div_le_self 1 A
  have hr := Nat.mod_lt 1 hA0
  have hq0 := Nat.div_le_self 0 A
  have hr0 := Nat.mod_lt 0 hA0
  simp (disch := omega) only [k0_off4, iv0_nw, iv_nw, Nat.zero_add, mul_nw, add_nw, sub_nw, div_nw, rem_nw, min_nw, max_nw, ic_nw, toNat_nw] <;>
  first
  | rfl
  | (apply v1e <;> first | rfl | omega)

theorem off10_eq {A : ℕ} (hA0 : 0 < A) (hA : A ≤ 13) :
    k0_off10 (BitVec.ofNat 32 A) = ![1 % A] := by
  have hq := Nat.div_le_self 1 A
  have hr := Nat.mod_lt 1 hA0
  have hq0 := Nat.div_le_self 0 A
  have hr0 := Nat.mod_lt 0 hA0
  simp (disch := omega) only [k0_off10, iv0_nw, iv_nw, Nat.zero_add, mul_nw, add_nw, sub_nw, div_nw, rem_nw, min_nw, max_nw, ic_nw, toNat_nw] <;>
  first
  | rfl
  | (apply v1e <;> first | rfl | omega)

theorem off7_eq {A : ℕ} (hA0 : 0 < A) (hA : A ≤ 13) {e : ℕ} (he : e < 13) (b : Fin 2) :
    k0_off7 (BitVec.ofNat 32 A) (BitVec.ofNat 32 e) (BitVec.ofNat 32 (b.val * 2048)) = ![e, 0, b.val * 2048 + 256 * (0 / A)] := by
  have hq := Nat.div_le_self 1 A
  have hr := Nat.mod_lt 1 hA0
  have hq0 := Nat.div_le_self 0 A
  have hr0 := Nat.mod_lt 0 hA0
  have hb := b.isLt
  simp (disch := omega) only [k0_off7, iv0_nw, iv_nw, Nat.zero_add, mul_nw, add_nw, sub_nw, div_nw, rem_nw, min_nw, max_nw, ic_nw, toNat_nw] <;>
  first
  | rfl
  | (apply v3e <;> first | rfl | omega)

theorem off13_eq {A : ℕ} (hA0 : 0 < A) (hA : A ≤ 13) {e : ℕ} (he : e < 13) (b : Fin 2) :
    k0_off13 (BitVec.ofNat 32 A) (BitVec.ofNat 32 e) (BitVec.ofNat 32 (b.val * 2048)) = ![e, 0, b.val * 2048 + 256 * (1 / A)] := by
  have hq := Nat.div_le_self 1 A
  have hr := Nat.mod_lt 1 hA0
  have hq0 := Nat.div_le_self 0 A
  have hr0 := Nat.mod_lt 0 hA0
  have hb := b.isLt
  simp (disch := omega) only [k0_off13, iv0_nw, iv_nw, Nat.zero_add, mul_nw, add_nw, sub_nw, div_nw, rem_nw, min_nw, max_nw, ic_nw, toNat_nw] <;>
  first
  | rfl
  | (apply v3e <;> first | rfl | omega)

theorem off5_eq  :
    k0_off5 = ![0] := by
  simp (disch := omega) only [k0_off5, iv0_nw, iv_nw, Nat.zero_add, mul_nw, add_nw, sub_nw, div_nw, rem_nw, min_nw, max_nw, ic_nw, toNat_nw] <;>
  first
  | rfl
  | (apply v1e <;> first | rfl | omega)

theorem off8_eq  :
    k0_off8 = ![0] := by
  simp (disch := omega) only [k0_off8, iv0_nw, iv_nw, Nat.zero_add, mul_nw, add_nw, sub_nw, div_nw, rem_nw, min_nw, max_nw, ic_nw, toNat_nw] <;>
  first
  | rfl
  | (apply v1e <;> first | rfl | omega)

theorem off6_eq  :
    k0_off6 = ![0, 0, 0, 0] := by
  simp (disch := omega) only [k0_off6, iv0_nw, iv_nw, Nat.zero_add, mul_nw, add_nw, sub_nw, div_nw, rem_nw, min_nw, max_nw, ic_nw, toNat_nw] <;>
  first
  | rfl
  | (apply v4e <;> first | rfl | omega)

theorem off9_eq  :
    k0_off9 = ![0, 1, 0, 0] := by
  simp (disch := omega) only [k0_off9, iv0_nw, iv_nw, Nat.zero_add, mul_nw, add_nw, sub_nw, div_nw, rem_nw, min_nw, max_nw, ic_nw, toNat_nw] <;>
  first
  | rfl
  | (apply v4e <;> first | rfl | omega)

theorem off11_eq  :
    k0_off11 = ![1] := by
  simp (disch := omega) only [k0_off11, iv0_nw, iv_nw, Nat.zero_add, mul_nw, add_nw, sub_nw, div_nw, rem_nw, min_nw, max_nw, ic_nw, toNat_nw] <;>
  first
  | rfl
  | (apply v1e <;> first | rfl | omega)

theorem off14_eq  :
    k0_off14 = ![1] := by
  simp (disch := omega) only [k0_off14, iv0_nw, iv_nw, Nat.zero_add, mul_nw, add_nw, sub_nw, div_nw, rem_nw, min_nw, max_nw, ic_nw, toNat_nw] <;>
  first
  | rfl
  | (apply v1e <;> first | rfl | omega)

theorem off12_eq  :
    k0_off12 = ![1, 0, 0, 0] := by
  simp (disch := omega) only [k0_off12, iv0_nw, iv_nw, Nat.zero_add, mul_nw, add_nw, sub_nw, div_nw, rem_nw, min_nw, max_nw, ic_nw, toNat_nw] <;>
  first
  | rfl
  | (apply v4e <;> first | rfl | omega)

theorem off15_eq  :
    k0_off15 = ![1, 1, 0, 0] := by
  simp (disch := omega) only [k0_off15, iv0_nw, iv_nw, Nat.zero_add, mul_nw, add_nw, sub_nw, div_nw, rem_nw, min_nw, max_nw, ic_nw, toNat_nw] <;>
  first
  | rfl
  | (apply v4e <;> first | rfl | omega)

/-! ## Slices of the result loop -/

theorem t12_trips : k0_t12_loop.trips = 24 := by decide

theorem off102_eq (t : Fin k0_t12_loop.trips) :
    k0_off102 t = ![t.val % 2] := by
  have ht : t.val < 24 := t.isLt.trans_eq t12_trips
  simp (disch := omega) only [k0_off102, iv0_nw, iv_nw, Nat.zero_add, mul_nw, add_nw, sub_nw, div_nw, rem_nw, min_nw, max_nw, ic_nw, toNat_nw] <;>
  first
  | rfl
  | (apply v1e <;> first | rfl | omega)

theorem off104_eq (t : Fin k0_t12_loop.trips) :
    k0_off104 t = ![t.val % 2, 0, 0] := by
  have ht : t.val < 24 := t.isLt.trans_eq t12_trips
  simp (disch := omega) only [k0_off104, iv0_nw, iv_nw, Nat.zero_add, mul_nw, add_nw, sub_nw, div_nw, rem_nw, min_nw, max_nw, ic_nw, toNat_nw] <;>
  first
  | rfl
  | (apply v3e <;> first | rfl | omega)

theorem off105_eq (t : Fin k0_t12_loop.trips) :
    k0_off105 t = ![128 * t.val, 0] := by
  have ht : t.val < 24 := t.isLt.trans_eq t12_trips
  simp (disch := omega) only [k0_off105, iv0_nw, iv_nw, Nat.zero_add, mul_nw, add_nw, sub_nw, div_nw, rem_nw, min_nw, max_nw, ic_nw, toNat_nw] <;>
  first
  | rfl
  | (apply v2e <;> first | rfl | omega)

theorem off106_eq (t : Fin k0_t12_loop.trips) :
    k0_off106 t = ![0, 128 * t.val] := by
  have ht : t.val < 24 := t.isLt.trans_eq t12_trips
  simp (disch := omega) only [k0_off106, iv0_nw, iv_nw, Nat.zero_add, mul_nw, add_nw, sub_nw, div_nw, rem_nw, min_nw, max_nw, ic_nw, toNat_nw] <;>
  first
  | rfl
  | (apply v2e <;> first | rfl | omega)

theorem off107_eq (t : Fin k0_t12_loop.trips) :
    k0_off107 t = ![t.val % 2, 0, 0] := by
  have ht : t.val < 24 := t.isLt.trans_eq t12_trips
  simp (disch := omega) only [k0_off107, iv0_nw, iv_nw, Nat.zero_add, mul_nw, add_nw, sub_nw, div_nw, rem_nw, min_nw, max_nw, ic_nw, toNat_nw] <;>
  first
  | rfl
  | (apply v3e <;> first | rfl | omega)

theorem off108_eq (t : Fin k0_t12_loop.trips) :
    k0_off108 t = ![t.val % 2] := by
  have ht : t.val < 24 := t.isLt.trans_eq t12_trips
  simp (disch := omega) only [k0_off108, iv0_nw, iv_nw, Nat.zero_add, mul_nw, add_nw, sub_nw, div_nw, rem_nw, min_nw, max_nw, ic_nw, toNat_nw] <;>
  first
  | rfl
  | (apply v1e <;> first | rfl | omega)

theorem off109_eq (t : Fin k0_t12_loop.trips) :
    k0_off109 t = ![128 * t.val, 0] := by
  have ht : t.val < 24 := t.isLt.trans_eq t12_trips
  simp (disch := omega) only [k0_off109, iv0_nw, iv_nw, Nat.zero_add, mul_nw, add_nw, sub_nw, div_nw, rem_nw, min_nw, max_nw, ic_nw, toNat_nw] <;>
  first
  | rfl
  | (apply v2e <;> first | rfl | omega)

theorem off110_eq (t : Fin k0_t12_loop.trips) :
    k0_off110 t = ![t.val % 2, 0, 0] := by
  have ht : t.val < 24 := t.isLt.trans_eq t12_trips
  simp (disch := omega) only [k0_off110, iv0_nw, iv_nw, Nat.zero_add, mul_nw, add_nw, sub_nw, div_nw, rem_nw, min_nw, max_nw, ic_nw, toNat_nw] <;>
  first
  | rfl
  | (apply v3e <;> first | rfl | omega)

theorem off103_eq (t : Fin k0_t12_loop.trips) (h : 2 ≤ t.val) :
    k0_off103 t = ![128 * (t.val - 2), 0] := by
  have ht : t.val < 24 := t.isLt.trans_eq t12_trips
  simp (disch := omega) only [k0_off103, iv0_nw, iv_nw, Nat.zero_add, mul_nw, add_nw, sub_nw, div_nw, rem_nw, min_nw, max_nw, ic_nw, toNat_nw] <;>
  first
  | rfl
  | (apply v2e <;> first | rfl | omega)

theorem cond10_iff (t : Fin k0_t12_loop.trips) : k0_cond10 t = 1#1 ↔ 2 ≤ t.val := by
  have ht : t.val < 24 := t.isLt.trans_eq t12_trips
  unfold k0_cond10
  simp (disch := omega) only [iv0_nw, ext_ne, sge_nw]

end Cert.Kernel.Hand
-- ==== Proof.KChk6.lean ====
/-
  The side condition of an item's row range.
-/
module

public import proofs.«01_k».proof.Proof.KOffs

@[expose] public section

set_option maxRecDepth 65536

namespace Cert.Kernel.Hand

open Cert.Kernel Cert.Kernel.Gen Cert.Words
open Idealize.ShloMosaic Idealize.ShloMosaic.TcCoe

theorem chk6_of {A d r0 r1 : ℕ} (hA0 : 0 < A) (hA : A ≤ 13) (t2 : Fin (k0_t2_loop (BitVec.ofNat 32 A)).trips) (hd : d ≤ 48) (h01 : r0 ≤ r1) (h1 : r1 ≤ 3072) :
    k0_chk6 (BitVec.ofNat 32 A) t2 (BitVec.ofNat 32 d) (BitVec.ofNat 32 r0) (BitVec.ofNat 32 r1) := by
  constructor
  · unfold k0_chk6_0
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact t3_ok hd h1
    · intro t; have hk := t3_lt hd h1 t; rw [mult7_eq hd h1]; omega
    · intro t; have hk := t3_lt hd h1 t; rw [off19_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off20_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off21_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off21_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off20_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off22_eq hd h1]; generalize d + t.val = k at hk; obtain ⟨k, rfl⟩ : ∃ k' : Fin 48, k = k'.val := ⟨⟨k, by omega⟩, rfl⟩; clear hk; revert k; decide +kernel
    · intro t; have hk := t3_lt hd h1 t; rw [mult8_eq hd h1]; omega
    · intro t; have hk := t3_lt hd h1 t; rw [off23_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off24_eq hd h1]; generalize d + t.val = k at hk; obtain ⟨k, rfl⟩ : ∃ k' : Fin 48, k = k'.val := ⟨⟨k, by omega⟩, rfl⟩; clear hk; revert k; decide +kernel
    · intro t; have hk := t3_lt hd h1 t; rw [off24_eq hd h1]; generalize d + t.val = k at hk; obtain ⟨k, rfl⟩ : ∃ k' : Fin 48, k = k'.val := ⟨⟨k, by omega⟩, rfl⟩; clear hk; revert k; decide +kernel
    · intro t hc; have hk := (cond4_iff hd h1 t).1 hc; clear hc; rw [mult9_eq hd h1]; omega
    · intro t hc; have hk := (cond4_iff hd h1 t).1 hc; clear hc; rw [off25_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off26_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off27_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off27_eq hd h1]; generalize d + t.val = k at hk; obtain ⟨k, rfl⟩ : ∃ k' : Fin 46, k = k'.val := ⟨⟨k, by omega⟩, rfl⟩; clear hk; revert k; decide +kernel
    · intro t hc; have hk := (cond4_iff hd h1 t).1 hc; clear hc; rw [off26_eq hd h1]; generalize d + t.val = k at hk; obtain ⟨k, rfl⟩ : ∃ k' : Fin 46, k = k'.val := ⟨⟨k, by omega⟩, rfl⟩; clear hk; revert k; decide +kernel
    · exact t4_ok hd h1
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
  · unfold k0_chk6_1
    refine ⟨?_, ?_, ?_, ?_, ?_, ?_, ?_, ?_, ?_, ?_, ?_, ?_, ?_, ?_, ?_, ?_, ?_, ?_⟩
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact fun t => absurd (t.isLt.trans_eq (t4_trips hd h1)) (Nat.not_lt_zero _)
    · exact t5_ok h01 h1
    · intro t; rw [mult19_eq h01 h1]; unfold trow; omega
    · intro t; rw [off49_eq h01 h1]; intro a; fin_cases a <;> simp [trow]
    · intro t; have hk := Nat.mod_lt t2.val (show 0 < 3 by decide); rw [off50_eq hA0 hA]; generalize t2.val % 3 = k at hk; obtain ⟨k, rfl⟩ : ∃ k' : Fin 3, k = k'.val := ⟨⟨k, by omega⟩, rfl⟩; clear hk; revert k; decide +kernel
    · intro t; have hk := Nat.mod_lt t2.val (show 0 < 3 by decide); rw [off51_eq hA0 hA]; generalize t2.val % 3 = k at hk; obtain ⟨k, rfl⟩ : ∃ k' : Fin 3, k = k'.val := ⟨⟨k, by omega⟩, rfl⟩; clear hk; revert k; decide +kernel
    · intro t; rw [off52_eq h01 h1]; intro a; fin_cases a <;> simp [trow]
    · intro t; rw [off53_eq hA0 hA t2 h01 h1 t]; have hn : t2.val / A < 8 := Nat.div_lt_of_lt_mul (by rw [Nat.mul_comm]; exact t2_lt hA0 hA t2); intro a; fin_cases a <;> simp <;> omega
    · exact t6_ok h01 h1
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)
    · exact fun t => absurd (t.isLt.trans_eq (t6_trips h01 h1)) (Nat.not_lt_zero _)

end Cert.Kernel.Hand
-- ==== Proof.KQuant.lean ====
/-
  The quantiser loop: each trip takes one chunk of 64 activation rows from the ring, stores its codes and its scales, and starts
  the copy of the chunk after next.
-/
module

public import proofs.«01_k».proof.Proof.KSlots
public import proofs.«01_k».proof.Proof.KChk6

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## The chunk's codes and scales -/

/-- The scales a chunk of activations gets, as the kernel computes them. -/
def qS (v : Vec F S1x64x7168 .bf16) : FVec F S64x128 .f32 :=
  let v124 := k0_pay11 v
  let v222 := k0_pay14 v124 (k0_pay12 v) (k0_pay13 v)
  let v282 := k0_pay16 v124 v222 (k0_pay15 v124)
  let v284 := k0_pay17 v124
  k0_pay39 (k0_pay23 (k0_pay18 v124 v282 v284) (k0_pay19 v124 v282 v284) (k0_pay20 v124 v282 v284) (k0_pay21 v124 v282 v284))

/-- The codes a chunk of activations gets, as the kernel computes them. -/
def qX (v : Vec F S1x64x7168 .bf16) : FVec F S64x7168 .fp8e4m3 :=
  let v124 := k0_pay11 v
  let v222 := k0_pay14 v124 (k0_pay12 v) (k0_pay13 v)
  let v282 := k0_pay16 v124 v222 (k0_pay15 v124)
  let v284 := k0_pay17 v124
  k0_pay40 v124 (k0_pay24 (k0_pay18 v124 v282 v284) (k0_pay19 v124 v282 v284) (k0_pay20 v124 v282 v284) (k0_pay21 v124 v282 v284))

/-- Chunk `k` of 64 activation rows. -/
def chunkX (fx : S3072x7168.Idx → Elt F .bf16) (k : ℕ) : Vec F S1x64x7168 .bf16 := fun x =>
  fx (ix2 (d := ![3072, 7168]) ⟨(64 * k + (x 1).val) % 3072, Nat.mod_lt _ (by decide)⟩ (x 2))

/-- All codes. -/
def xqCan (fx : S3072x7168.Idx → Elt F .bf16) : S3072x7168.Idx → Elt F .fp8e4m3 := fun i =>
  qX (chunkX fx ((i 0).val / 64)) (ix2 (d := ![64, 7168]) ⟨(i 0).val % 64, Nat.mod_lt _ (by decide)⟩ (i 1))

/-- All scales, each 128 times. -/
def xsCan (fx : S3072x7168.Idx → Elt F .bf16) : S3072x128.Idx → Elt F .f32 := fun i =>
  qS (chunkX fx ((i 0).val / 64)) (ix2 (d := ![64, 128]) ⟨(i 0).val % 64, Nat.mod_lt _ (by decide)⟩ (i 1))

/-- The first `k` chunks are quantised. -/
def XOK (fx : S3072x7168.Idx → Elt F .bf16) (k : ℕ) (f6 : S3072x7168.Idx → Elt F .fp8e4m3) (f7 : S3072x128.Idx → Elt F .f32) : Prop :=
  (∀ i, (i 0).val < 64 * k → f6 i = xqCan fx i) ∧ ∀ i, (i 0).val < 64 * k → f7 i = xsCan fx i

theorem XOK_step (fx : S3072x7168.Idx → Elt F .bf16) {k : ℕ} (hk : k < 48) {f6 : S3072x7168.Idx → Elt F .fp8e4m3} {f7 : S3072x128.Idx → Elt F .f32}
    (h : XOK fx k f6 f7) {off6 off7 : Fin 2 → ℕ} (h6 : off6 = ![64 * k, 0]) (h7 : off7 = ![64 * k, 0]) (inb6) (inb7) :
    XOK fx (k + 1) ((A6.access (Rect.unit (s := S3072x7168) off6 S64x7168.size inb6)).write (Elt F) f6 (qX (chunkX fx k)) Finset.univ)
      ((A7.access (Rect.unit (s := S3072x128) off7 S64x128.size inb7)).write (Elt F) f7 (qS (chunkX fx k)) Finset.univ) := by
  subst h6 h7
  constructor
  · intro i hi
    by_cases hlt : (i 0).val < 64 * k
    · rw [write_whole_not]
      · exact h.1 i hlt
      · intro x _ he
        have := congrArg (fun j : S3072x7168.Idx => (j 0).val) he
        simp only [unit_emb_val] at this
        simp at this
        omega
    · have he : i = (Rect.unit (s := S3072x7168) ![64 * k, 0] S64x7168.size inb6).emb (ix2 (d := ![64, 7168]) ⟨(i 0).val - 64 * k, by simp; omega⟩ (i 1)) := by
        apply idx2_ext <;> rw [unit_emb_val] <;> simp [ix2]
        omega
      conv_lhs => rw [he]
      rw [write_whole_mem _ _ _ _ _ (Finset.mem_univ _)]
      unfold xqCan
      have e1 : (i 0).val / 64 = k := by omega
      rw [e1]
      congr 1
      apply idx2_ext <;> simp [ix2]
      omega
  · intro i hi
    by_cases hlt : (i 0).val < 64 * k
    · rw [write_whole_not]
      · exact h.2 i hlt
      · intro x _ he
        have := congrArg (fun j : S3072x128.Idx => (j 0).val) he
        simp only [unit_emb_val] at this
        simp at this
        omega
    · have he : i = (Rect.unit (s := S3072x128) ![64 * k, 0] S64x128.size inb7).emb (ix2 (d := ![64, 128]) ⟨(i 0).val - 64 * k, by simp; omega⟩ (i 1)) := by
        apply idx2_ext <;> rw [unit_emb_val] <;> simp [ix2]
        omega
      conv_lhs => rw [he]
      rw [write_whole_mem _ _ _ _ _ (Finset.mem_univ _)]
      unfold xsCan
      have e1 : (i 0).val / 64 = k := by omega
      rw [e1]
      congr 1
      apply idx2_ext <;> simp [ix2]
      omega

theorem read_X (fx : S3072x7168.Idx → Elt F .bf16) (k s : ℕ) {off : Fin 3 → ℕ} (h : off = ![s, 0, 0]) (inb) :
    (fun x => Xcan fx k ((Rect.unit (s := S2x64x7168) off S1x64x7168.size inb).emb x)) = chunkX fx k := by
  subst h
  funext x
  unfold Xcan chunkX
  congr 1
  apply idx2_ext <;> simp only [ix2, unit_emb_val] <;> simp

/-! ## One trip -/

def slotX (c : Dev nD) (fx : S3072x7168.Idx → Elt F .bf16) (s : Fin 2) : Option ℕ → sProp 𝕄
  | none => idleX c fx s
  | some k => busyX c fx s k

def r2 (k : ℕ) : Fin 2 := ⟨k % 2, Nat.mod_lt _ (by decide)⟩
def r3 (k : ℕ) : Fin 3 := ⟨k % 3, Nat.mod_lt _ (by decide)⟩

/-- The chunk copied after chunk `k`'s turn, if there is one. -/
def nx (k : ℕ) : Option ℕ := if k < 48 then some k else none

/-- The quantiser's state before chunk `k`. -/
def stX (c : Dev nD) (fx : S3072x7168.Idx → Elt F .bf16) (k : ℕ) : sProp 𝕄 :=
  iprop(slotX c fx (r2 k) (nx k) ∗ slotX c fx (r2 (k + 1)) (nx (k + 1))
    ∗ (∃ f6 f7, ⌜XOK fx k f6 f7⌝ ∗ ptU c A6 f6 ∗ ptU c A7 f7) ∗ OW c)

theorem quant_trip (c : Dev nD) (fx : S3072x7168.Idx → Elt F .bf16) (v1_1 : BitVec 32) (hw2 : k0_chk2 v1_1) (v3 c0 c1 : BitVec 32) (t2 : Fin (k0_t2_loop v1_1).trips) {d r1 : ℕ}
    (hd : d ≤ 48) (h1 : r1 ≤ 3072) (v52 : Elt F .i32) (hw6 : k0_chk6 v1_1 t2 (BitVec.ofNat 32 d) v52 (BitVec.ofNat 32 r1))
    (t3 : Fin (k0_t3_loop (BitVec.ofNat 32 d) (BitVec.ofNat 32 r1)).trips) (acc : BitVec 32) (Q : BitVec 32 → sProp 𝕄) :
    stX c fx (d + t3.val) ⊢ iprop((∀ r, stX c fx (d + t3.val + 1) -∗ Q r)
      -∗ W c (k0_t3_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 v1_1 hw2 v3 c0 c1 t2 (BitVec.ofNat 32 d) v52 (BitVec.ofNat 32 r1) hw6 t3 acc) Q) := by
  have hk := t3_lt hd h1 t3
  unfold k0_t3_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [wp_bind]
  unfold stX
  have e1 : nx (d + t3.val) = some (d + t3.val) := if_pos hk
  rw [e1]
  simp only [slotX]
  iintro ⟨HX, HX1, ⟨%f6, %f7, %hok, H6, H7⟩, HO⟩ K
  iapply (waitX c fx (r2 (d + t3.val)) (d + t3.val) (semX_eq (r2 (d + t3.val)) (off19_eq hd h1 t3) _)) $$ [HX HO]
  · isplitl [HX]
    · iexact HX
    · iexact HO
  unfold landedX
  iintro ⟨⟨H10, HS, HT⟩, HO⟩
  iapply (w_load c (M := A10) (I := setX (r2 (d + t3.val)).val) (by rw [View.set_slice_whole]; exact (rect_setX (off22_eq hd h1 t3) _).subset)) $$ H10
  iintro H10
  iapply w_pure
  iapply w_pure
  iapply w_pure
  iapply w_pure
  iapply w_pure
  iapply (w_loadU c (M := A7)) $$ H7
  iintro H7
  iapply (w_storeU c (M := A7)) $$ H7
  iintro H7
  iapply (w_loadU c (M := A6)) $$ H6
  iintro H6
  iapply (w_storeU c (M := A6)) $$ H6
  iintro H6
  have hok' := XOK_step fx hk hok (off24_eq hd h1 t3) (off23_eq hd h1 t3) (k0_off24_inb v1_1 t2 _ v52 _ hw6 t3) (k0_off23_inb v1_1 t2 _ v52 _ hw6 t3)
  rw [← read_X fx (d + t3.val) _ (off22_eq hd h1 t3) (k0_off22_inb v1_1 t2 _ v52 _ hw6 t3)] at hok'
  have er : r2 (d + t3.val + 1 + 1) = r2 (d + t3.val) := Fin.ext (by show (d + t3.val + 1 + 1) % 2 = (d + t3.val) % 2; omega)
  by_cases hc : k0_cond4 (BitVec.ofNat 32 d) (BitVec.ofNat 32 r1) t3 = 1#1
  · have hk2 := (cond4_iff hd h1 t3).1 hc
    have e2 : nx (d + t3.val + 1 + 1) = some (d + t3.val + 2) := if_pos hk2
    rw [dif_pos hc]
    simp only [wp_bind]
    iapply (startX c fx (r2 (d + t3.val)) (d + t3.val + 2) (semX_eq (r2 (d + t3.val)) (off25_eq hd h1 t3) _) (off26_eq hd h1 t3) (off27_eq hd h1 t3)) $$ [H10 HS HT]
    · unfold idleX
      isplitl [H10]
      · iexists _; iexact H10
      isplitl [HS]
      · iexact HS
      · iexact HT
    iintro HB
    iapply w_pure
    iapply K
    isplitl [HX1]
    · iexact HX1
    isplitl [HB]
    · rw [er, e2]; iexact HB
    isplitl [H6 H7]
    · iexists _, _
      isplitr
      · ipureintro; exact hok'
      isplitl [H6]
      · iexact H6
      · iexact H7
    · iexact HO
  · have hk2 : ¬ d + t3.val + 2 < 48 := fun h => hc ((cond4_iff hd h1 t3).2 h)
    have e2 : nx (d + t3.val + 1 + 1) = none := if_neg hk2
    rw [dif_neg hc]
    iapply w_pure
    iapply K
    isplitl [HX1]
    · iexact HX1
    isplitl [H10 HS HT]
    · rw [er, e2]
      simp only [slotX, idleX]
      isplitl [H10]
      · iexists _; iexact H10
      isplitl [HS]
      · iexact HS
      · iexact HT
    isplitl [H6 H7]
    · iexists _, _
      isplitr
      · ipureintro; exact hok'
      isplitl [H6]
      · iexact H6
      · iexact H7
    · iexact HO

/-- The whole loop: from chunk `d` to the chunk after the last one that the rows below `r1` need. -/
theorem quant_loop (c : Dev nD) (fx : S3072x7168.Idx → Elt F .bf16) (v1_1 : BitVec 32) (hw2 : k0_chk2 v1_1) (v3 c0 c1 : BitVec 32) (t2 : Fin (k0_t2_loop v1_1).trips) {d r1 : ℕ}
    (hd : d ≤ 48) (h1 : r1 ≤ 3072) (v52 : Elt F .i32) (hw6 : k0_chk6 v1_1 t2 (BitVec.ofNat 32 d) v52 (BitVec.ofNat 32 r1))
    (ok : (k0_t3_loop (BitVec.ofNat 32 d) (BitVec.ofNat 32 r1)).OK) (init : BitVec 32) (Q : BitVec 32 → sProp 𝕄) :
    stX c fx d ⊢ iprop((∀ r, stX c fx (max d ((r1 + 63) / 64)) -∗ Q r)
      -∗ W c (Scf.Loop.for (k0_t3_loop (BitVec.ofNat 32 d) (BitVec.ofNat 32 r1)) ok init
          (k0_t3_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 v1_1 hw2 v3 c0 c1 t2 (BitVec.ofNat 32 d) v52 (BitVec.ofNat 32 r1) hw6)) Q) := by
  have ht := t3_trips hd h1
  iintro H K
  iapply (Scf.wp_for frame (wpE (defs₀ (F := F)) Variants.none (c : Thread nD τ) none) Set.univ _ _ _ ok init _ (fun j _ => stX c fx (d + j)) ?_)
  · intro t acc
    iintro H
    iapply (quant_trip c fx v1_1 hw2 v3 c0 c1 t2 hd h1 v52 hw6 t acc) $$ H
    iintro %r H
    iexact H
  isplitl [H]
  · iexact H
  · iintro %r H
    iapply K
    have e : max d ((r1 + 63) / 64) = d + (k0_t3_loop (BitVec.ofNat 32 d) (BitVec.ofNat 32 r1)).trips := by rw [ht]; omega
    rw [e]
    iexact H

end Cert.Kernel.Hand
-- ==== Proof.KTile.lean ====
/-
  One trip of the tile loop.
-/
module

public import proofs.«01_k».proof.Proof.KBase

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (Pipeline.UD sig nD τ) ℕ

theorem tile_trip (c : Dev nD) (v1_1 : BitVec 32) (t2 : Fin (k0_t2_loop v1_1).trips) (arg18 : BitVec 32) (v52 v55 : Elt F .i32)
    (hw6 : k0_chk6 v1_1 t2 arg18 v52 v55) (v100 v105 : Vec F S1x256 .f32) (t5 : Fin (k0_t5_loop v52 v55).trips) (acc : BitVec 32)
    (f6 : S3072x7168.Idx → Elt F .fp8e4m3) (f7 : S3072x128.Idx → Elt F .f32) (f8 : S3072x2048.Idx → Elt F .f32) (f9 : S3x2x7168x256.Idx → Elt F .fp8e4m3)
    (I0 I1 : Finset S3x2x7168x256.Idx)
    (h0 : (Rect.unit (s := S3x2x7168x256) (k0_off50 v1_1 t2) S1x1x7168x256.size (k0_off50_inb v1_1 t2 arg18 v52 v55 hw6 t5)).set ⊆ I0)
    (h1 : (Rect.unit (s := S3x2x7168x256) (k0_off51 v1_1 t2) S1x1x7168x256.size (k0_off51_inb v1_1 t2 arg18 v52 v55 hw6 t5)).set ⊆ I1)
    (Q : BitVec 32 → sProp 𝕄) :
    iprop(ptU c A6 f6 ∗ ptU c A7 f7 ∗ ptU c A8 f8
        ∗ pt c A9 I0 fullShare f9 ∗ pt c A9 I1 fullShare f9)
      ⊢ iprop((∀ r, iprop(ptU c A6 f6 ∗ ptU c A7 f7 ∗
          ptU c A8 ((A8.access (Rect.unit (s := S3072x2048) (k0_off53 v1_1 t2 v52 v55 t5) S128x256.size (k0_off53_inb v1_1 t2 arg18 v52 v55 hw6 t5))).write (Elt F) f8
            (k0_pay1 v100 v105 (fun x => f6 ((Rect.unit (s := S3072x7168) (k0_off49 v52 v55 t5) S128x7168.size (k0_off49_inb v1_1 t2 arg18 v52 v55 hw6 t5)).emb x))
              (fun x => f9 ((Rect.unit (s := S3x2x7168x256) (k0_off50 v1_1 t2) S1x1x7168x256.size (k0_off50_inb v1_1 t2 arg18 v52 v55 hw6 t5)).emb x))
              (fun x => f9 ((Rect.unit (s := S3x2x7168x256) (k0_off51 v1_1 t2) S1x1x7168x256.size (k0_off51_inb v1_1 t2 arg18 v52 v55 hw6 t5)).emb x))
              (fun x => f7 ((Rect.unit (s := S3072x128) (k0_off52 v52 v55 t5) S128x128.size (k0_off52_inb v1_1 t2 arg18 v52 v55 hw6 t5)).emb x)))
            (IVec.on (k0_pay2 v52 v55 t5)))
          ∗ pt c A9 I0 fullShare f9 ∗ pt c A9 I1 fullShare f9) -∗ Q r)
        -∗ W c (k0_t5_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 v1_1 t2 arg18 v52 v55 hw6 v100 v105 t5 acc) Q) := by
  iintro ⟨H6, H7, H8, H90, H91⟩ K
  unfold k0_t5_body
  simp only [wp_bind]
  iapply (w_loadU c (M := A6)) $$ H6
  iintro H6
  iapply (w_load c (M := A9) (I := I0) (by rw [View.set_slice_whole]; exact h0)) $$ H90
  iintro H90
  iapply (w_load c (M := A9) (I := I1) (by rw [View.set_slice_whole]; exact h1)) $$ H91
  iintro H91
  iapply (w_loadU c (M := A7)) $$ H7
  iintro H7
  iapply (w_loadU c (M := A8)) $$ H8
  iintro H8
  iapply (w_storeU c (M := A8)) $$ H8
  iintro H8
  iapply w_pure
  iapply K
  isplitl [H6]
  · iexact H6
  isplitl [H7]
  · iexact H7
  isplitl [H8]
  · iexact H8
  isplitl [H90]
  · iexact H90
  · iexact H91

end Cert.Kernel.Hand
-- ==== Proof.KTiles.lean ====
/-
  The tile loop of one item: the tiles of 128 rows cover the rows of the item's expert, and what each stores there is the gated
  product of that row.
-/
module

public import proofs.«01_k».proof.Proof.KQuant
public import proofs.«01_k».proof.Proof.KTile

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## What an element of the gated product is -/

/-- The scales of 256 output columns: half `b`, column block `n` of expert `e`. -/
def gS (f3 : S13x4096.Idx → Elt F .f32) (e n b : ℕ) : Vec F S1x256 .f32 := fun z =>
  f3 (ix2 (d := ![13, 4096]) ⟨e % 13, Nat.mod_lt _ (by decide)⟩ ⟨(b * 2048 + 256 * n + (z 1).val) % 4096, Nat.mod_lt _ (by decide)⟩)

/-- The weights of those columns. -/
def gW (fw : S13x7168x4096.Idx → Elt F .fp8e4m3) (e n b : ℕ) : Vec F S1x1x7168x256 .fp8e4m3 := fun z =>
  fw (ix3 (d := ![13, 7168, 4096]) ⟨e % 13, Nat.mod_lt _ (by decide)⟩ (z 2) ⟨(b * 2048 + 256 * n + (z 3).val) % 4096, Nat.mod_lt _ (by decide)⟩)

/-- `v` is the gated product at row `x 0`, column `x 1`, of expert `e`: the kernel's product of a tile in which that row holds
    its codes and scales. -/
def hOK (fx : S3072x7168.Idx → Elt F .bf16) (fw : S13x7168x4096.Idx → Elt F .fp8e4m3) (f3 : S13x4096.Idx → Elt F .f32) (e : ℕ) (x : S3072x2048.Idx) (v : Elt F .f32) : Prop :=
  ∃ (v119 : Vec F S128x7168 .fp8e4m3) (v129 : Vec F S128x128 .f32) (y : S128x256.Idx),
    (y 1).val = (x 1).val % 256
    ∧ (∀ z : S128x7168.Idx, (z 0).val = (y 0).val → v119 z = xqCan fx (ix2 (d := ![3072, 7168]) (x 0) (z 1)))
    ∧ (∀ z : S128x128.Idx, (z 0).val = (y 0).val → v129 z = xsCan fx (ix2 (d := ![3072, 128]) (x 0) (z 1)))
    ∧ v = k0_pay1 (gS f3 e ((x 1).val / 256) 0) (gS f3 e ((x 1).val / 256) 1) v119 (gW fw e ((x 1).val / 256) 0) (gW fw e ((x 1).val / 256) 1) v129 y

theorem read_S (f3 : S13x4096.Idx → Elt F .f32) {e n : ℕ} (b : Fin 2) (he : e < 13) (hn : n < 8) {off : Fin 2 → ℕ} (h : off = ![e, b.val * 2048 + 256 * n]) (inb) :
    (fun x => f3 ((Rect.unit (s := S13x4096) off S1x256.size inb).emb x)) = gS f3 e n b.val := by
  subst h
  funext x
  unfold gS
  have h0 := (x 0).isLt
  have h1 := (x 1).isLt
  have hb := b.isLt
  simp at h0 h1
  congr 1
  apply idx2_ext <;> simp only [ix2, unit_emb_val] <;> simp
  · omega
  · omega

theorem read_W (fw : S13x7168x4096.Idx → Elt F .fp8e4m3) (e n s b : ℕ) {off : Fin 4 → ℕ} (h : off = ![s, b, 0, 0]) (inb) :
    (fun x => Wcan fw e n ((Rect.unit (s := S3x2x7168x256) off S1x1x7168x256.size inb).emb x)) = gW fw e n b := by
  subst h
  funext x
  unfold Wcan gW
  have h0 := (x 1).isLt
  simp at h0
  congr 1
  apply Shape.idx3_ext <;> simp only [ix3, unit_emb_val] <;> simp
  rw [h0]; simp

/-! ## The mask -/

theorem pay2_at {r0 r1 : ℕ} (h01 : r0 ≤ r1) (h1 : r1 ≤ 3072) (t : Fin (k0_t5_loop (BitVec.ofNat 32 r0) (BitVec.ofNat 32 r1)).trips) (y : S128x256.Idx) :
    y ∈ IVec.on (k0_pay2 (F := F) (BitVec.ofNat 32 r0) (BitVec.ofNat 32 r1) t) ↔ r0 ≤ trow r0 t.val + (y 0).val ∧ trow r0 t.val + (y 0).val < r1 := by
  have ht := t.isLt.trans_eq (t5_trips h01 h1)
  have hy := (y 0).isLt
  simp at hy
  unfold ntile at ht
  have e : (Scalar.minsi (Scalar.addi (Scalar.muli (Scalar.divsi (BitVec.ofNat 32 r0) 32#32) 32#32) (Scalar.muli (Scf.iv 0#32 1#32 t.val) 128#32)) 2944#32)
      = BitVec.ofNat 32 (trow r0 t.val) := by
    unfold trow
    simp (disch := omega) only [iv0_nw, mul_nw, add_nw, div_nw, min_nw]
  have htr : trow r0 t.val ≤ 2944 := by unfold trow; omega
  have hio : (iota .tc S128x256 32 [0] iota_S128x256_d0_w32 : IVec S128x256 32) y = BitVec.ofNat 32 (y 0).val := by
    show BitVec.ofNat 32 (List.foldl _ _ _) = _
    simp
  rw [IVec.on, Finset.mem_filter]
  have key : k0_pay2 (F := F) (BitVec.ofNat 32 r0) (BitVec.ofNat 32 r1) t y
      = Scalar.andi (Scalar.cmpi .sge (BitVec.ofNat 32 (trow r0 t.val + (y 0).val)) (BitVec.ofNat 32 r0)) (Scalar.cmpi .slt (BitVec.ofNat 32 (trow r0 t.val + (y 0).val)) (BitVec.ofNat 32 r1)) := by
    unfold k0_pay2
    dsimp only
    rw [shapeCast_self]
    show Scalar.andi (Scalar.cmpi .sge (Scalar.addi _ (iota .tc S128x256 32 [0] iota_S128x256_d0_w32 y)) _) (Scalar.cmpi .slt (Scalar.addi _ (iota .tc S128x256 32 [0] iota_S128x256_d0_w32 y)) _) = _
    rw [hio]
    show Scalar.andi (Scalar.cmpi .sge (Scalar.addi (Scalar.minsi (Scalar.addi (Scalar.muli (Scalar.divsi (BitVec.ofNat 32 r0) 32#32) 32#32) (Scalar.muli (Scf.iv 0#32 1#32 t.val) 128#32)) 2944#32) _) _) (Scalar.cmpi .slt (Scalar.addi (Scalar.minsi (Scalar.addi (Scalar.muli (Scalar.divsi (BitVec.ofNat 32 r0) 32#32) 32#32) (Scalar.muli (Scf.iv 0#32 1#32 t.val) 128#32)) 2944#32) _) _) = _
    rw [e, add_nw]
    rfl
  rw [key]
  have a1 : ∀ b c : BitVec 1, Scalar.andi b c = 1#1 ↔ b = 1#1 ∧ c = 1#1 := by decide
  simp only [Finset.mem_univ, _root_.true_and]
  show Scalar.andi _ _ = 1#1 ↔ _
  rw [a1, sge_nw (by omega) (by omega), slt_nw (by omega) (by omega)]

/-! ## The invariant -/

/-- After `j` tiles: the rows `r0 ≤ · < r1` of column block `n` that the tiles reach are done, and everything else is as before. -/
def TOK (fx : S3072x7168.Idx → Elt F .bf16) (fw : S13x7168x4096.Idx → Elt F .fp8e4m3) (f3 : S13x4096.Idx → Elt F .f32) (e n r0 r1 : ℕ)
    (h0 : S3072x2048.Idx → Elt F .f32) (j : ℕ) (f8 : S3072x2048.Idx → Elt F .f32) : Prop :=
  ∀ x, ((x 1).val / 256 = n → r0 ≤ (x 0).val → (x 0).val < r1 → (x 0).val < r0 / 32 * 32 + j * 128 → hOK fx fw f3 e x (f8 x))
    ∧ (¬ ((x 1).val / 256 = n ∧ r0 ≤ (x 0).val ∧ (x 0).val < r1) → f8 x = h0 x)

theorem TOK_zero (fx : S3072x7168.Idx → Elt F .bf16) (fw : S13x7168x4096.Idx → Elt F .fp8e4m3) (f3 : S13x4096.Idx → Elt F .f32) (e n r0 r1 : ℕ)
    (h0 : S3072x2048.Idx → Elt F .f32) : TOK fx fw f3 e n r0 r1 h0 0 h0 := fun x => ⟨fun _ h _ h' => by omega, fun _ => rfl⟩

theorem TOK_step (fx : S3072x7168.Idx → Elt F .bf16) (fw : S13x7168x4096.Idx → Elt F .fp8e4m3) (f3 : S13x4096.Idx → Elt F .f32) {e n r0 r1 d : ℕ}
    (h01 : r0 ≤ r1) (h1 : r1 ≤ 3072) (hr : r1 ≤ 64 * d) (h0 : S3072x2048.Idx → Elt F .f32)
    (t : Fin (k0_t5_loop (BitVec.ofNat 32 r0) (BitVec.ofNat 32 r1)).trips) {f8 : S3072x2048.Idx → Elt F .f32} (h : TOK fx fw f3 e n r0 r1 h0 t.val f8)
    {f6 : S3072x7168.Idx → Elt F .fp8e4m3} {f7 : S3072x128.Idx → Elt F .f32} (hx : XOK fx d f6 f7)
    {off53 off49 off52 : Fin 2 → ℕ} (e53 : off53 = ![trow r0 t.val, 256 * n]) (e49 : off49 = ![trow r0 t.val, 0]) (e52 : off52 = ![trow r0 t.val, 0]) (inb53) (inb49) (inb52) :
    TOK fx fw f3 e n r0 r1 h0 (t.val + 1)
      ((A8.access (Rect.unit (s := S3072x2048) off53 S128x256.size inb53)).write (Elt F) f8
        (k0_pay1 (gS f3 e n 0) (gS f3 e n 1) (fun x => f6 ((Rect.unit (s := S3072x7168) off49 S128x7168.size inb49).emb x)) (gW fw e n 0) (gW fw e n 1)
          (fun x => f7 ((Rect.unit (s := S3072x128) off52 S128x128.size inb52).emb x)))
        (IVec.on (k0_pay2 (F := F) (BitVec.ofNat 32 r0) (BitVec.ofNat 32 r1) t))) := by
  subst e53 e49 e52
  intro x
  have hx0 := (x 0).isLt
  simp at hx0
  by_cases hm : ∃ y : S128x256.Idx, y ∈ IVec.on (k0_pay2 (F := F) (BitVec.ofNat 32 r0) (BitVec.ofNat 32 r1) t) ∧ (Rect.unit (s := S3072x2048) ![trow r0 t.val, 256 * n] S128x256.size inb53).emb y = x
  · obtain ⟨y, hy, rfl⟩ := hm
    have hm := (pay2_at h01 h1 t y).1 hy
    have hy1 := (y 1).isLt
    simp at hy1
    have v0 : ((Rect.unit (s := S3072x2048) ![trow r0 t.val, 256 * n] S128x256.size inb53).emb y 0).val = trow r0 t.val + (y 0).val := unit_emb_val _ _ _
    have v1 : ((Rect.unit (s := S3072x2048) ![trow r0 t.val, 256 * n] S128x256.size inb53).emb y 1).val = 256 * n + (y 1).val := unit_emb_val _ _ _
    have dn : (256 * n + (y 1).val) / 256 = n := by omega
    constructor
    · intro _ _ _ _
      rw [write_whole_mem]
      rotate_left 1
      · exact hy
      refine ⟨(fun x => f6 ((Rect.unit (s := S3072x7168) ![trow r0 t.val, 0] S128x7168.size inb49).emb x)),
        (fun x => f7 ((Rect.unit (s := S3072x128) ![trow r0 t.val, 0] S128x128.size inb52).emb x)), y, ?_, ?_, ?_, ?_⟩
      rotate_left 3
      · rw [v1, dn]
      · rw [v1]; omega
      · intro z hz
        have ez : (Rect.unit (s := S3072x7168) ![trow r0 t.val, 0] S128x7168.size inb49).emb z
            = ix2 (d := ![3072, 7168]) ((Rect.unit (s := S3072x2048) ![trow r0 t.val, 256 * n] S128x256.size inb53).emb y 0) (z 1) := by
          apply idx2_ext <;> rw [unit_emb_val]
          · show _ = ((Rect.unit (s := S3072x2048) ![trow r0 t.val, 256 * n] S128x256.size inb53).emb y 0).val
            rw [v0, hz]; rfl
          · simp [ix2]
        show f6 ((Rect.unit (s := S3072x7168) ![trow r0 t.val, 0] S128x7168.size inb49).emb z) = _
        rw [ez]
        apply hx.1
        show ((Rect.unit (s := S3072x2048) ![trow r0 t.val, 256 * n] S128x256.size inb53).emb y 0).val < _
        rw [v0]; omega
      · intro z hz
        have ez : (Rect.unit (s := S3072x128) ![trow r0 t.val, 0] S128x128.size inb52).emb z
            = ix2 (d := ![3072, 128]) ((Rect.unit (s := S3072x2048) ![trow r0 t.val, 256 * n] S128x256.size inb53).emb y 0) (z 1) := by
          apply idx2_ext <;> rw [unit_emb_val]
          · show _ = ((Rect.unit (s := S3072x2048) ![trow r0 t.val, 256 * n] S128x256.size inb53).emb y 0).val
            rw [v0, hz]; rfl
          · simp [ix2]
        show f7 ((Rect.unit (s := S3072x128) ![trow r0 t.val, 0] S128x128.size inb52).emb z) = _
        rw [ez]
        apply hx.2
        show ((Rect.unit (s := S3072x2048) ![trow r0 t.val, 256 * n] S128x256.size inb53).emb y 0).val < _
        rw [v0]; omega
    · intro hne
      exact absurd ⟨by rw [v1]; omega, by rw [v0]; omega, by rw [v0]; omega⟩ hne
  · rw [write_whole_not]
    rotate_left 1
    · exact fun (y : S128x256.Idx) hy he => hm ⟨y, hy, he⟩
    refine ⟨fun hn hr0 hr1 hj => (h x).1 hn hr0 hr1 ?_, (h x).2⟩
    by_contra hge
    have ht := t5_lt h01 h1 t
    unfold ntile at ht
    have hb : trow r0 t.val ≤ (x 0).val ∧ (x 0).val < trow r0 t.val + 128 := by unfold trow; omega
    refine hm ⟨ix2 (d := ![128, 256]) ⟨(x 0).val - trow r0 t.val, by simp; omega⟩ ⟨(x 1).val % 256, Nat.mod_lt _ (by decide)⟩, ?_, ?_⟩
    · rw [pay2_at h01 h1]
      simp only [ix2]
      omega
    · apply idx2_ext <;> rw [unit_emb_val] <;> simp [ix2]
      · omega
      · omega

/-! ## The loop -/

theorem tile_loop (c : Dev nD) (fx : S3072x7168.Idx → Elt F .bf16) (fw : S13x7168x4096.Idx → Elt F .fp8e4m3) (f3 : S13x4096.Idx → Elt F .f32)
    {A : ℕ} (hA0 : 0 < A) (hA : A ≤ 13) (t2 : Fin (k0_t2_loop (BitVec.ofNat 32 A)).trips) (arg18 : BitVec 32) {e r0 r1 d : ℕ} (h01 : r0 ≤ r1) (h1 : r1 ≤ 3072) (hr : r1 ≤ 64 * d)
    (hw6 : k0_chk6 (BitVec.ofNat 32 A) t2 arg18 (BitVec.ofNat 32 r0) (BitVec.ofNat 32 r1)) (h0 : S3072x2048.Idx → Elt F .f32)
    {f6 : S3072x7168.Idx → Elt F .fp8e4m3} {f7 : S3072x128.Idx → Elt F .f32} (hx : XOK fx d f6 f7)
    (ok : (k0_t5_loop (BitVec.ofNat 32 r0) (BitVec.ofNat 32 r1)).OK) (init : BitVec 32) (Q : BitVec 32 → sProp 𝕄) :
    iprop(ptU c A6 f6 ∗ ptU c A7 f7 ∗ ptU c A8 h0 ∗ pt c A9 (setW (r3 t2.val).val 0) fullShare (Wcan fw e (t2.val / A)) ∗ pt c A9 (setW (r3 t2.val).val 1) fullShare (Wcan fw e (t2.val / A)))
      ⊢ iprop((∀ r, iprop(∃ f8, ⌜TOK fx fw f3 e (t2.val / A) r0 r1 h0 (ntile r0 r1) f8⌝ ∗ ptU c A6 f6 ∗ ptU c A7 f7 ∗ ptU c A8 f8
          ∗ pt c A9 (setW (r3 t2.val).val 0) fullShare (Wcan fw e (t2.val / A)) ∗ pt c A9 (setW (r3 t2.val).val 1) fullShare (Wcan fw e (t2.val / A))) -∗ Q r)
        -∗ W c (Scf.Loop.for (k0_t5_loop (BitVec.ofNat 32 r0) (BitVec.ofNat 32 r1)) ok init
          (k0_t5_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 (BitVec.ofNat 32 A) t2 arg18 (BitVec.ofNat 32 r0) (BitVec.ofNat 32 r1) hw6 (gS f3 e (t2.val / A) 0) (gS f3 e (t2.val / A) 1))) Q) := by
  have ht := t5_trips h01 h1
  iintro ⟨H6, H7, H8, H90, H91⟩ K
  iapply (Scf.wp_for frame (wpE (defs₀ (F := F)) Variants.none (c : Thread nD τ) none) Set.univ _ _ _ ok init _
    (fun j _ => iprop(∃ f8, ⌜TOK fx fw f3 e (t2.val / A) r0 r1 h0 j f8⌝ ∗ ptU c A6 f6 ∗ ptU c A7 f7 ∗ ptU c A8 f8
          ∗ pt c A9 (setW (r3 t2.val).val 0) fullShare (Wcan fw e (t2.val / A)) ∗ pt c A9 (setW (r3 t2.val).val 1) fullShare (Wcan fw e (t2.val / A)))) ?_)
  · intro t acc
    iintro ⟨%f8, %hf, H6, H7, H8, H90, H91⟩
    iapply (tile_trip c (BitVec.ofNat 32 A) t2 arg18 (BitVec.ofNat 32 r0) (BitVec.ofNat 32 r1) hw6 (gS f3 e (t2.val / A) 0) (gS f3 e (t2.val / A) 1) t acc f6 f7 f8
      (Wcan fw e (t2.val / A)) (setW (r3 t2.val).val 0) (setW (r3 t2.val).val 1) (rect_setW (off50_eq hA0 hA t2) _).subset (rect_setW (off51_eq hA0 hA t2) _).subset) $$ [H6 H7 H8 H90 H91]
    · isplitl [H6]
      · iexact H6
      isplitl [H7]
      · iexact H7
      isplitl [H8]
      · iexact H8
      isplitl [H90]
      · iexact H90
      · iexact H91
    iintro %r ⟨H6, H7, H8, H90, H91⟩
    iexists _
    isplitr
    · ipureintro
      have key := TOK_step fx fw f3 h01 h1 hr h0 t hf hx (off53_eq hA0 hA t2 h01 h1 t) (off49_eq h01 h1 t) (off52_eq h01 h1 t)
        (k0_off53_inb (BitVec.ofNat 32 A) t2 arg18 (BitVec.ofNat 32 r0) (BitVec.ofNat 32 r1) hw6 t) (k0_off49_inb (BitVec.ofNat 32 A) t2 arg18 (BitVec.ofNat 32 r0) (BitVec.ofNat 32 r1) hw6 t)
        (k0_off52_inb (BitVec.ofNat 32 A) t2 arg18 (BitVec.ofNat 32 r0) (BitVec.ofNat 32 r1) hw6 t)
      rw [← read_W fw e (t2.val / A) _ 0 (off50_eq hA0 hA t2) (k0_off50_inb (BitVec.ofNat 32 A) t2 arg18 (BitVec.ofNat 32 r0) (BitVec.ofNat 32 r1) hw6 t),
        ← read_W fw e (t2.val / A) _ 1 (off51_eq hA0 hA t2) (k0_off51_inb (BitVec.ofNat 32 A) t2 arg18 (BitVec.ofNat 32 r0) (BitVec.ofNat 32 r1) hw6 t)] at key
      exact key
    isplitl [H6]
    · iexact H6
    isplitl [H7]
    · iexact H7
    isplitl [H8]
    · iexact H8
    isplitl [H90]
    · iexact H90
    · iexact H91
  isplitl [H6 H7 H8 H90 H91]
  · iexists h0
    isplitr
    · ipureintro; exact TOK_zero fx fw f3 e _ r0 r1 h0
    isplitl [H6]
    · iexact H6
    isplitl [H7]
    · iexact H7
    isplitl [H8]
    · iexact H8
    isplitl [H90]
    · iexact H90
    · iexact H91
  · iintro %r H
    iapply K
    rw [show ntile r0 r1 = (k0_t5_loop (BitVec.ofNat 32 r0) (BitVec.ofNat 32 r1)).trips from ht.symm]
    iexact H

end Cert.Kernel.Hand
-- ==== Proof.KChk2.lean ====
/-
  The side conditions of the words the kernel reads, decided over their ranges.
-/
module

public import proofs.«01_k».proof.Proof.Gen.Kernel.Skeleton

@[expose] public section

set_option maxRecDepth 65536

namespace Cert.Kernel.Hand

open Cert.Kernel Cert.Kernel.Gen
open Idealize.ShloMosaic Idealize.ShloMosaic.TcCoe

theorem chk2_dec : ∀ A : Fin 13, k0_chk2 (BitVec.ofNat 32 (A.val + 1)) := by decide +kernel

theorem chk3_dec : ∀ A e : Fin 13, k0_chk3 (BitVec.ofNat 32 (A.val + 1)) (BitVec.ofNat 32 e.val) := by decide +kernel

theorem chk4_dec : ∀ A e : Fin 13, k0_chk4 (BitVec.ofNat 32 (A.val + 1)) (BitVec.ofNat 32 e.val) := by decide +kernel

end Cert.Kernel.Hand
-- ==== Proof.KChk5.lean ====
/-
  The side conditions of an item's expert number, decided over their ranges.
-/
module

public import proofs.«01_k».proof.Proof.Gen.Kernel.Skeleton

@[expose] public section

set_option maxRecDepth 65536

namespace Cert.Kernel.Hand

open Cert.Kernel Cert.Kernel.Gen
open Idealize.ShloMosaic Idealize.ShloMosaic.TcCoe

theorem chk5_dec : ∀ A : Fin 13, ∀ t : Fin (k0_t2_loop (BitVec.ofNat 32 (A.val + 1))).trips, ∀ e : Fin 13,
    k0_chk5 (BitVec.ofNat 32 (A.val + 1)) t (BitVec.ofNat 32 e.val) := by decide +kernel

theorem chk7_dec : ∀ A : Fin 13, ∀ t : Fin (k0_t2_loop (BitVec.ofNat 32 (A.val + 1))).trips, ∀ e : Fin 13,
    k0_chk7 (BitVec.ofNat 32 (A.val + 1)) t (BitVec.ofNat 32 e.val) := by decide +kernel

end Cert.Kernel.Hand
-- ==== Proof.KItem.lean ====
/-
  The item loop: item `i` is column block `i / A` of the expert `act (i % A)`. Each trip quantises the activations its rows still
  need, starts the weights of the item two later, waits for its own, and runs the tile loop.
-/
module

public import proofs.«01_k».proof.Proof.KTiles
public import proofs.«01_k».proof.Proof.KChk2
public import proofs.«01_k».proof.Proof.KChk5
public import proofs.«01_k».proof.Proof.KChk6

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## Rules -/

theorem w_smemLoad (c : Dev nD) {N : ℕ} {M : Memref sig .tc .smem (⟨1, ![N]⟩ : Shape) .i32} {off : Fin 1 → ℕ} {k : ℕ} (h : off = ![k]) (inb) {h1 : (Rect.unit (s := (⟨1, ![N]⟩ : Shape)) off S1.size inb).shape.numel = 1} {hp}
    {f : Buf (Elt F) (M.view.loc (c : Thread nD τ))} {v : Elt F .i32}
    (hv : ∀ x, (M.access (Rect.unit (s := (⟨1, ![N]⟩ : Shape)) off S1.size inb)).read (Elt F) f x = v) {Q : Elt F .i32 → sProp 𝕄} :
    ptU c M f ⊢ iprop((ptU c M f -∗ Q v) -∗ W c (smemLoad (p := .tc) M (Rect.unit (s := (⟨1, ![N]⟩ : Shape)) off S1.size inb) h1 hp) Q) := by
  iintro H K
  unfold smemLoad
  iapply (wp_smemLoadElt Variants.none (c : Thread nD τ) none Set.univ (m := M) (r := Rect.unit (s := (⟨1, ![N]⟩ : Shape)) off S1.size inb) (S := Finset.univ) (k := fun x => .ret x) (Finset.subset_univ _)) $$ H
  iintro H
  rw [hv]
  iapply w_pure
  iapply K
  iexact H

theorem w_assume (c : Dev nD) {P : Prop} {d : Decidable P} (h : P) {Q : PLift P → sProp 𝕄} : Q ⟨h⟩ ⊢ W c (Prog.lift (.assume P d)) Q := by
  iintro H
  iapply (wp_assume Variants.none (c : Thread nD τ) none Set.univ (k := fun x => .ret x) h)
  iapply w_pure
  iexact H

/-- A counted loop of no trips. -/
theorem w_for0 (c : Dev nD) {α : Type} {L : Scf.Loop 32} (h : L.trips = 0) {ok} {init : α} {body} {Q : α → sProp 𝕄} :
    Q init ⊢ W c (Scf.Loop.for L ok init body) Q := by
  iintro H
  iapply (Scf.wp_for frame (wpE (defs₀ (F := F)) Variants.none (c : Thread nD τ) none) Set.univ _ _ _ ok init _ (fun j a => iprop(⌜a = init⌝)) ?_)
  · intro t
    exact absurd (t.isLt.trans_eq h) (Nat.not_lt_zero _)
  isplitr
  · ipureintro; rfl
  · iintro %r %hr
    subst hr
    iexact H

/-- A conditional, of which both branches give `Q'`. -/
theorem w_dite (c : Dev nD) {P : Prop} [Decidable P] {α : Type} {a : P → Prog (TpuEff nD τ sig (Elt F) Λ₀ .tc) α} {b : ¬ P → Prog (TpuEff nD τ sig (Elt F) Λ₀ .tc) α} {Q : α → sProp 𝕄}
    (R : sProp 𝕄) (Q' : α → sProp 𝕄) (ha : ∀ h, R ⊢ W c (a h) Q') (hb : ∀ h, R ⊢ W c (b h) Q') :
    R ⊢ iprop((∀ r, Q' r -∗ Q r) -∗ W c (if h : P then a h else b h) Q) := by
  iintro H K
  by_cases h : P
  · rw [dif_pos h]
    iapply (wp_wand frame (wpE (defs₀ (F := F)) Variants.none (c : Thread nD τ) none) (Q := Q')) $$ [H]
    · iapply (ha h) $$ H
    · iexact K
  · rw [dif_neg h]
    iapply (wp_wand frame (wpE (defs₀ (F := F)) Variants.none (c : Thread nD τ) none) (Q := Q')) $$ [H]
    · iapply (hb h) $$ H
    · iexact K

/-! ## The groups -/

/-- The rows of expert `e` are `S e ≤ · < S (e + 1)`; the `A` experts with rows are `act 0, act 1, …`. -/
structure Grp (A : ℕ) (act S : ℕ → ℕ) : Prop where
  A0 : 0 < A
  A13 : A ≤ 13
  act13 : ∀ k, k < A → act k < 13
  mono : ∀ e, S e ≤ S (e + 1)
  zero : S 0 = 0
  top : ∀ e, 13 ≤ e → S e = 3072
  cover : ∀ r, r < 3072 → ∃ k, k < A ∧ S (act k) ≤ r ∧ r < S (act k + 1)

variable {A : ℕ} {act S : ℕ → ℕ}

theorem Grp.mono' (G : Grp A act S) {a b : ℕ} (h : a ≤ b) : S a ≤ S b := monotone_nat_of_le_succ G.mono h

theorem Grp.le (G : Grp A act S) (e : ℕ) : S e ≤ 3072 := by
  have := G.mono' (Nat.le_max_left e 13)
  rwa [G.top _ (Nat.le_max_right e 13)] at this

theorem Grp.uniq (G : Grp A act S) {e e' r : ℕ} (h1 : S e ≤ r) (h2 : r < S (e + 1)) (h3 : S e' ≤ r) (h4 : r < S (e' + 1)) : e = e' := by
  rcases Nat.lt_trichotomy e e' with h | h | h
  · have := G.mono' (show e + 1 ≤ e' from h); omega
  · exact h
  · have := G.mono' (show e' + 1 ≤ e from h); omega

/-- The chunks of activations quantised before item `i`. -/
def dn (A : ℕ) (act S : ℕ → ℕ) : ℕ → ℕ
  | 0 => 0
  | i + 1 => max (dn A act S i) ((S (act (i % A) + 1) + 63) / 64)

theorem dn_le (G : Grp A act S) (i : ℕ) : dn A act S i ≤ 48 := by
  induction i with
  | zero => exact Nat.zero_le _
  | succ i ih =>
    have := G.le (act (i % A) + 1)
    simp only [dn]
    omega

theorem dn_mono {i j : ℕ} (h : i ≤ j) : dn A act S i ≤ dn A act S j := by
  refine monotone_nat_of_le_succ (fun n => ?_) h
  simp only [dn]
  omega

theorem dn_end (G : Grp A act S) : dn A act S (8 * A) = 48 := by
  obtain ⟨k, hk, h1, h2⟩ := G.cover 3071 (by omega)
  have h3 := G.le (act k + 1)
  have h4 : dn A act S (k + 1) ≤ dn A act S (8 * A) := dn_mono (by omega)
  have h5 := dn_le G (8 * A)
  have h6 : (S (act k + 1) + 63) / 64 ≤ dn A act S (k + 1) := by
    simp only [dn]
    rw [Nat.mod_eq_of_lt hk]
    omega
  omega

theorem chk5_of (hA0 : 0 < A) (hA : A ≤ 13) (t : Fin (k0_t2_loop (BitVec.ofNat 32 A)).trips) {e : ℕ} (he : e < 13) : k0_chk5 (BitVec.ofNat 32 A) t (BitVec.ofNat 32 e) := by
  obtain ⟨a, rfl⟩ : ∃ a, A = a + 1 := ⟨A - 1, by omega⟩
  exact chk5_dec ⟨a, by omega⟩ t ⟨e, he⟩

theorem chk7_of (hA0 : 0 < A) (hA : A ≤ 13) (t : Fin (k0_t2_loop (BitVec.ofNat 32 A)).trips) {e : ℕ} (he : e < 13) : k0_chk7 (BitVec.ofNat 32 A) t (BitVec.ofNat 32 e) := by
  obtain ⟨a, rfl⟩ : ∃ a, A = a + 1 := ⟨A - 1, by omega⟩
  exact chk7_dec ⟨a, by omega⟩ t ⟨e, he⟩

/-! ## The state between items -/

/-- The blocks of the items before `i` hold their products. -/
def HInv (fx : S3072x7168.Idx → Elt F .bf16) (fw : S13x7168x4096.Idx → Elt F .fp8e4m3) (f3 : S13x4096.Idx → Elt F .f32) (A : ℕ) (act S : ℕ → ℕ) (i : ℕ)
    (f8 : S3072x2048.Idx → Elt F .f32) : Prop :=
  ∀ i', i' < i → ∀ x, (x 1).val / 256 = i' / A → S (act (i' % A)) ≤ (x 0).val → (x 0).val < S (act (i' % A) + 1) → hOK fx fw f3 (act (i' % A)) x (f8 x)

theorem HInv_step (G : Grp A act S) {fx : S3072x7168.Idx → Elt F .bf16} {fw : S13x7168x4096.Idx → Elt F .fp8e4m3} {f3 : S13x4096.Idx → Elt F .f32} {i : ℕ}
    {f8 f8' : S3072x2048.Idx → Elt F .f32} (h : HInv fx fw f3 A act S i f8)
    (ht : TOK fx fw f3 (act (i % A)) (i / A) (S (act (i % A))) (S (act (i % A) + 1)) f8 (ntile (S (act (i % A))) (S (act (i % A) + 1))) f8') : HInv fx fw f3 A act S (i + 1) f8' := by
  intro i' hi' x h1 h2 h3
  by_cases hx : (x 1).val / 256 = i / A ∧ S (act (i % A)) ≤ (x 0).val ∧ (x 0).val < S (act (i % A) + 1)
  · have e := G.uniq h2 h3 hx.2.1 hx.2.2
    rw [e]
    exact (ht x).1 hx.1 hx.2.1 hx.2.2 (by unfold ntile; omega)
  · rw [(ht x).2 hx]
    refine h i' (lt_of_le_of_ne (Nat.lt_succ_iff.1 hi') ?_) x h1 h2 h3
    rintro rfl
    exact hx ⟨h1, h2, h3⟩

theorem HInv_end (G : Grp A act S) {fx : S3072x7168.Idx → Elt F .bf16} {fw : S13x7168x4096.Idx → Elt F .fp8e4m3} {f3 : S13x4096.Idx → Elt F .f32}
    {f8 : S3072x2048.Idx → Elt F .f32} (h : HInv fx fw f3 A act S (8 * A) f8) (x : S3072x2048.Idx) (e : ℕ) (h1 : S e ≤ (x 0).val) (h2 : (x 0).val < S (e + 1)) : hOK fx fw f3 e x (f8 x) := by
  have hx0 := (x 0).isLt
  have hx1 := (x 1).isLt
  simp at hx0 hx1
  obtain ⟨k, hk, h3, h4⟩ := G.cover (x 0).val hx0
  have hA := G.A0
  have em : (A * ((x 1).val / 256) + k) % A = k := by rw [Nat.mul_add_mod, Nat.mod_eq_of_lt hk]
  have ed : (A * ((x 1).val / 256) + k) / A = (x 1).val / 256 := by rw [Nat.mul_add_div hA, Nat.div_eq_of_lt hk, Nat.add_zero]
  have hlt : A * ((x 1).val / 256) + k < 8 * A := by
    have : A * ((x 1).val / 256) ≤ A * 7 := Nat.mul_le_mul_left _ (by omega)
    omega
  have := h _ hlt x (by rw [ed]) (by rw [em]; exact h3) (by rw [em]; exact h4)
  rw [em] at this
  rwa [G.uniq h1 h2 h3 h4]

def slotW (c : Dev nD) (fw : S13x7168x4096.Idx → Elt F .fp8e4m3) (A : ℕ) (act : ℕ → ℕ) (s : Fin 3) : Option ℕ → sProp 𝕄
  | none => idleW c fw s
  | some j => busyW c fw s (act (j % A)) (j / A) 0

theorem slotW_some (c : Dev nD) (fw : S13x7168x4096.Idx → Elt F .fp8e4m3) (A : ℕ) (act : ℕ → ℕ) (s : Fin 3) (j : ℕ) : slotW c fw A act s (some j) = busyW c fw s (act (j % A)) (j / A) 0 := rfl

theorem slotW_none (c : Dev nD) (fw : S13x7168x4096.Idx → Elt F .fp8e4m3) (A : ℕ) (act : ℕ → ℕ) (s : Fin 3) : slotW c fw A act s none = idleW c fw s := rfl

/-- Item `j`, if there is one. -/
def it (A j : ℕ) : Option ℕ := if j < 8 * A then some j else none

/-- The weight slots before item `i`. -/
def stW (c : Dev nD) (fw : S13x7168x4096.Idx → Elt F .fp8e4m3) (A : ℕ) (act : ℕ → ℕ) (i : ℕ) : sProp 𝕄 :=
  iprop(slotW c fw A act (r3 i) (it A i) ∗ slotW c fw A act (r3 (i + 1)) (it A (i + 1)) ∗ idleW c fw (r3 (i + 2)))

/-- Everything the item loop holds before item `i`. -/
def stI (c : Dev nD) (fx : S3072x7168.Idx → Elt F .bf16) (fw : S13x7168x4096.Idx → Elt F .fp8e4m3) (f3 : S13x4096.Idx → Elt F .f32) (A : ℕ) (act S : ℕ → ℕ)
    (f12 : S13.Idx → Elt F .i32) (f13 : S14.Idx → Elt F .i32) (i : ℕ) : sProp 𝕄 :=
  iprop(stX c fx (dn A act S i) ∗ stW c fw A act i ∗ (∃ f8, ⌜HInv fx fw f3 A act S i f8⌝ ∗ ptU c A8 f8) ∗ ptU c A12 f12 ∗ ptU c A13 f13 ∗ ptU c A3 f3)

theorem rd12 {f12 : S13.Idx → Elt F .i32} (h12 : ∀ i, (i 0).val < A → f12 i = BitVec.ofNat 32 (act (i 0).val)) {off : Fin 1 → ℕ} {k : ℕ} (h : off = ![k]) (hk : k < A) (inb) (x) :
    (A12.access (Rect.unit (s := S13) off S1.size inb)).read (Elt F) f12 x = BitVec.ofNat 32 (act k) := by
  subst h
  have e : ((Rect.unit (s := S13) ![k] S1.size inb).emb x 0).val = k := by
    rw [unit_emb_val]
    have := (x 0).isLt
    simp at this
    simp [this]
  show f12 ((Rect.unit (s := S13) ![k] S1.size inb).emb x) = _
  rw [h12 _ (by rw [e]; exact hk), e]

theorem rd13 {f13 : S14.Idx → Elt F .i32} (h13 : ∀ i, f13 i = BitVec.ofNat 32 (S (i 0).val)) {off : Fin 1 → ℕ} {k : ℕ} (h : off = ![k]) (inb) (x) :
    (A13.access (Rect.unit (s := S14) off S1.size inb)).read (Elt F) f13 x = BitVec.ofNat 32 (S k) := by
  subst h
  have e : ((Rect.unit (s := S14) ![k] S1.size inb).emb x 0).val = k := by
    rw [unit_emb_val]
    have := (x 0).isLt
    simp at this
    simp [this]
  show f13 ((Rect.unit (s := S14) ![k] S1.size inb).emb x) = _
  rw [h13, e]

theorem item_trip (c : Dev nD) (fx : S3072x7168.Idx → Elt F .bf16) (fw : S13x7168x4096.Idx → Elt F .fp8e4m3) (f3 : S13x4096.Idx → Elt F .f32) (G : Grp A act S)
    {f12 : S13.Idx → Elt F .i32} {f13 : S14.Idx → Elt F .i32} (h12 : ∀ i, (i 0).val < A → f12 i = BitVec.ofNat 32 (act (i 0).val)) (h13 : ∀ i, f13 i = BitVec.ofNat 32 (S (i 0).val))
    (hw2 : k0_chk2 (BitVec.ofNat 32 A)) (v3 : BitVec 32) (t : Fin (k0_t2_loop (BitVec.ofNat 32 A)).trips) (Q : BitVec 32 → sProp 𝕄) :
    stI c fx fw f3 A act S f12 f13 t.val ⊢ iprop((stI c fx fw f3 A act S f12 f13 (t.val + 1) -∗ Q (BitVec.ofNat 32 (dn A act S (t.val + 1))))
      -∗ W c (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 (BitVec.ofNat 32 A) hw2 v3 t (BitVec.ofNat 32 (dn A act S t.val))) Q) := by
  have hA0 := G.A0
  have hA := G.A13
  have ht := t.isLt.trans_eq (t2_trips hA)
  have he := G.act13 _ (Nat.mod_lt t.val hA0)
  have he2 := G.act13 _ (Nat.mod_lt (t.val + 2) hA0)
  have hd := dn_le G t.val
  have h01 := G.mono (act (t.val % A))
  have h1 := G.le (act (t.val % A) + 1)
  have e0 : it A t.val = some t.val := if_pos ht
  have er : r3 (t.val + 1 + 2) = r3 t.val := Fin.ext (by show (t.val + 1 + 2) % 3 = t.val % 3; omega)
  unfold k0_t2_body
  simp only [k0_part11_eq_skeleton]
  unfold k0_part11_skel
  simp only [wp_bind]
  unfold stI stW
  rw [e0, slotW_some]
  iintro ⟨HX, ⟨HW0, HW1, HW2⟩, ⟨%f8, %hh, H8⟩, H12, H13, H3⟩ K
  iapply (w_smemLoad c (M := A12) (off16_eq hA0 hA t) _ (fun x => rd12 h12 (off16_eq hA0 hA t) (Nat.mod_lt _ hA0) _ x)) $$ H12
  iintro H12
  iapply (w_assume c (chk5_of hA0 hA t he))
  iapply (w_smemLoad c (M := A13) (off17_eq he) _ (fun x => rd13 h13 (off17_eq he) _ x)) $$ H13
  iintro H13
  iapply (w_smemLoad c (M := A13) (off18_eq he) _ (fun x => rd13 h13 (off18_eq he) _ x)) $$ H13
  iintro H13
  have hw6 := chk6_of hA0 hA t hd h01 h1
  iapply (w_assume c hw6)
  iapply (quant_loop c fx (BitVec.ofNat 32 A) hw2 v3 _ _ t hd h1 (BitVec.ofNat 32 (S (act (t.val % A)))) hw6) $$ HX
  iintro %r3' HX
  iapply (w_for0 c (t4_trips hd h1))
  unfold stX
  icases HX with ⟨HX0, HX1, ⟨%f6, %f7, %hok, H6, H7⟩, HO⟩
  have hv58 : Scalar.maxsi (BitVec.ofNat 32 (dn A act S t.val)) (Scalar.divsi (Scalar.subi (Scalar.addi (BitVec.ofNat 32 (S (act (t.val % A) + 1))) 64#32) 1#32) 64#32) = BitVec.ofNat 32 (dn A act S (t.val + 1)) := by
    rw [show Scalar.addi (BitVec.ofNat 32 (S (act (t.val % A) + 1))) 64#32 = BitVec.ofNat 32 (S (act (t.val % A) + 1) + 64) from add_nw _ _,
      show Scalar.subi (BitVec.ofNat 32 (S (act (t.val % A) + 1) + 64)) 1#32 = BitVec.ofNat 32 (S (act (t.val % A) + 1) + 64 - 1) from sub_nw (by omega),
      show Scalar.divsi (BitVec.ofNat 32 (S (act (t.val % A) + 1) + 64 - 1)) 64#32 = BitVec.ofNat 32 ((S (act (t.val % A) + 1) + 64 - 1) / 64) from div_nw (by omega) (by omega) (by omega),
      max_nw (by omega) (by omega)]
    rfl
  have hrd : S (act (t.val % A) + 1) ≤ 64 * max (dn A act S t.val) ((S (act (t.val % A) + 1) + 63) / 64) := by omega
  iapply (w_dite c iprop(idleW c fw (r3 (t.val + 2)) ∗ ptU c A12 f12) (fun r => iprop(⌜r = ⟨Scalar.divsi (Scf.iv 0#32 1#32 t.val) (BitVec.ofNat 32 A), BitVec.ofNat 32 (act (t.val % A)), chk5_of hA0 hA t he, Scalar.remsi (Scf.iv 0#32 1#32 t.val) 3#32,
      BitVec.ofNat 32 (S (act (t.val % A))), BitVec.ofNat 32 (S (act (t.val % A) + 1)), hw6, Scalar.divsi (Scalar.subi (Scalar.addi (BitVec.ofNat 32 (S (act (t.val % A) + 1))) 64#32) 1#32) 64#32⟩⌝
      ∗ slotW c fw A act (r3 (t.val + 2)) (it A (t.val + 2)) ∗ ptU c A12 f12)) ?ha ?hb) $$ [HW2 H12]
  case ha =>
    intro hc
    have hlt := (cond6_iff hA0 hA t).1 hc
    simp only [wp_bind]
    iintro ⟨HW2, H12⟩
    iapply (w_smemLoad c (M := A12) (off37_eq hA0 hA t) _ (fun x => rd12 h12 (off37_eq hA0 hA t) (Nat.mod_lt _ hA0) _ x)) $$ H12
    iintro H12
    iapply (w_assume c (chk7_of hA0 hA t he2))
    iapply (startW0 c fw (r3 (t.val + 2)) (act ((t.val + 2) % A)) ((t.val + 2) / A) (semW_eq (r3 (t.val + 2)) (off38_eq hA0 hA t) _) (off39_eq hA0 hA t) (off40_eq hA0 hA t he2 0)) $$ HW2
    iintro HW2
    iapply (startW1 c fw (r3 (t.val + 2)) (act ((t.val + 2) % A)) ((t.val + 2) / A) (semW_eq (r3 (t.val + 2)) (off41_eq hA0 hA t) _) (off42_eq hA0 hA t) (off40_eq hA0 hA t he2 1)) $$ HW2
    iintro HW2
    iapply w_pure
    rw [show it A (t.val + 2) = some (t.val + 2) from if_pos hlt, slotW_some]
    isplitr
    · ipureintro; rfl
    isplitl [HW2]
    · iexact HW2
    · iexact H12
  case hb =>
    intro hc
    have hlt : ¬ t.val + 2 < 8 * A := fun h => hc ((cond6_iff hA0 hA t).2 h)
    iintro ⟨HW2, H12⟩
    iapply w_pure
    rw [show it A (t.val + 2) = none from if_neg hlt, slotW_none]
    isplitr
    · ipureintro; rfl
    isplitl [HW2]
    · iexact HW2
    · iexact H12
  · isplitl [HW2]
    · iexact HW2
    · iexact H12
  iintro %u ⟨%hu, HW2, H12⟩
  subst hu
  iapply (waitW0 c fw (r3 t.val) (act (t.val % A)) (t.val / A) (semW_eq (r3 t.val) (off43_eq hA0 hA t) _) _) $$ [HW0 HO]
  · isplitl [HW0]
    · iexact HW0
    · iexact HO
  iintro ⟨HW0, HO⟩
  iapply (waitW1 c fw (r3 t.val) (act (t.val % A)) (t.val / A) (semW_eq (r3 t.val) (off43_eq hA0 hA t) _) _) $$ [HW0 HO]
  · isplitl [HW0]
    · iexact HW0
    · iexact HO
  unfold landedW
  iintro ⟨⟨H90, H91, HS, HT0, HT1⟩, HO⟩
  iapply (w_loadU c (M := A3)) $$ H3
  iintro H3
  iapply (w_loadU c (M := A3)) $$ H3
  iintro H3
  have hnn : t.val / A < 8 := Nat.div_lt_of_lt_mul (by omega)
  have es0 : (A3.access (Rect.unit (s := S13x4096) (k0_off47 (BitVec.ofNat 32 A) t (BitVec.ofNat 32 (act (t.val % A)))) S1x256.size (k0_off47_inb (BitVec.ofNat 32 A) t (BitVec.ofNat 32 (act (t.val % A))) (chk5_of hA0 hA t he)))).read (Elt F) f3
      = gS f3 (act (t.val % A)) (t.val / A) 0 := read_S f3 (0 : Fin 2) he hnn ((off47_eq hA0 hA t he).trans (by simp)) _
  have es1 : (A3.access (Rect.unit (s := S13x4096) (k0_off48 (BitVec.ofNat 32 A) t (BitVec.ofNat 32 (act (t.val % A)))) S1x256.size (k0_off48_inb (BitVec.ofNat 32 A) t (BitVec.ofNat 32 (act (t.val % A))) (chk5_of hA0 hA t he)))).read (Elt F) f3
      = gS f3 (act (t.val % A)) (t.val / A) 1 := read_S f3 (1 : Fin 2) he hnn ((off48_eq hA0 hA t he).trans (by simp)) _
  rw [es0, es1]
  iapply (tile_loop c fx fw f3 hA0 hA t (BitVec.ofNat 32 (dn A act S t.val)) (e := act (t.val % A)) h01 h1 hrd hw6 f8 hok) $$ [H6 H7 H8 H90 H91]
  · isplitl [H6]
    · iexact H6
    isplitl [H7]
    · iexact H7
    isplitl [H8]
    · iexact H8
    isplitl [H90]
    · iexact H90
    · iexact H91
  iintro %r5 ⟨%f8', %ht8, H6, H7, H8, H90, H91⟩
  iapply (w_for0 c (t6_trips h01 h1))
  iapply w_pure
  rw [hv58]
  iapply K
  isplitl [HX0 HX1 H6 H7 HO]
  · isplitl [HX0]
    · iexact HX0
    isplitl [HX1]
    · iexact HX1
    isplitl [H6 H7]
    · iexists f6, f7
      isplitr
      · ipureintro; exact hok
      isplitl [H6]
      · iexact H6
      · iexact H7
    · iexact HO
  isplitl [HW1 HW2 H90 H91 HS HT0 HT1]
  · isplitl [HW1]
    · iexact HW1
    isplitl [HW2]
    · iexact HW2
    rw [er]
    unfold idleW
    isplitl [H90]
    · iexists _; iexact H90
    isplitl [H91]
    · iexists _; iexact H91
    isplitl [HS]
    · iexact HS
    isplitl [HT0]
    · iexact HT0
    · iexact HT1
  isplitl [H8]
  · iexists f8'
    isplitr
    · ipureintro; exact HInv_step G hh ht8
    · iexact H8
  isplitl [H12]
  · iexact H12
  isplitl [H13]
  · iexact H13
  · iexact H3

theorem item_loop (c : Dev nD) (fx : S3072x7168.Idx → Elt F .bf16) (fw : S13x7168x4096.Idx → Elt F .fp8e4m3) (f3 : S13x4096.Idx → Elt F .f32) (G : Grp A act S)
    {f12 : S13.Idx → Elt F .i32} {f13 : S14.Idx → Elt F .i32} (h12 : ∀ i, (i 0).val < A → f12 i = BitVec.ofNat 32 (act (i 0).val)) (h13 : ∀ i, f13 i = BitVec.ofNat 32 (S (i 0).val))
    (hw2 : k0_chk2 (BitVec.ofNat 32 A)) (v3 : BitVec 32) (ok : (k0_t2_loop (BitVec.ofNat 32 A)).OK) (Q : BitVec 32 → sProp 𝕄) :
    stI c fx fw f3 A act S f12 f13 0 ⊢ iprop((stI c fx fw f3 A act S f12 f13 (8 * A) -∗ Q (BitVec.ofNat 32 (dn A act S (8 * A))))
      -∗ W c (Scf.Loop.for (k0_t2_loop (BitVec.ofNat 32 A)) ok 0#32 (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 (BitVec.ofNat 32 A) hw2 v3)) Q) := by
  have ht := t2_trips G.A13
  iintro H K
  iapply (Scf.wp_for frame (wpE (defs₀ (F := F)) Variants.none (c : Thread nD τ) none) Set.univ _ _ _ ok 0#32 _
    (fun j a => iprop(⌜a = BitVec.ofNat 32 (dn A act S j)⌝ ∗ stI c fx fw f3 A act S f12 f13 j)) ?_)
  · intro t acc
    iintro ⟨%ha, H⟩
    subst ha
    iapply (item_trip c fx fw f3 G h12 h13 hw2 v3 t) $$ H
    iintro H
    isplitr
    · ipureintro; rfl
    · iexact H
  isplitl [H]
  · isplitr
    · ipureintro; rfl
    · iexact H
  · iintro %r ⟨%hr, H⟩
    subst hr
    rw [show Scf.trips (k0_t2_loop (BitVec.ofNat 32 A)).lb (k0_t2_loop (BitVec.ofNat 32 A)).ub (k0_t2_loop (BitVec.ofNat 32 A)).st = 8 * A from ht]
    iapply K
    iexact H

end Cert.Kernel.Hand
-- ==== Proof.KScan.lean ====
/-
  The scan over the groups: running row offsets, and the list of the groups that have rows.
-/
module

public import proofs.«01_k».proof.Proof.KItem

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## Groups -/

/-- The rows before group `e`. -/
def sz (g : ℕ → ℕ) : ℕ → ℕ
  | 0 => 0
  | e + 1 => sz g e + g e

/-- The groups before `e` that have rows. -/
def cnt (g : ℕ → ℕ) : ℕ → ℕ
  | 0 => 0
  | e + 1 => cnt g e + if 0 < g e then 1 else 0

/-- The group sizes fill the rows. -/
structure GOK (g : ℕ → ℕ) : Prop where
  tot : sz g 13 = 3072
  out : ∀ e, 13 ≤ e → g e = 0

variable {g : ℕ → ℕ}

theorem sz_mono {a b : ℕ} (h : a ≤ b) : sz g a ≤ sz g b :=
  monotone_nat_of_le_succ (fun n => Nat.le_add_right _ _) h

theorem cnt_mono {a b : ℕ} (h : a ≤ b) : cnt g a ≤ cnt g b :=
  monotone_nat_of_le_succ (fun n => Nat.le_add_right _ _) h

theorem cnt_le (e : ℕ) : cnt g e ≤ e := by
  induction e with
  | zero => exact Nat.le_refl _
  | succ e ih =>
    simp only [cnt]
    split <;> omega

theorem cnt_succ {e : ℕ} (h : 0 < g e) : cnt g (e + 1) = cnt g e + 1 := by
  simp only [cnt, if_pos h]

theorem cnt_uniq {a b : ℕ} (ha : 0 < g a) (hb : 0 < g b) (h : cnt g a = cnt g b) : a = b := by
  rcases Nat.lt_trichotomy a b with hl | hl | hl
  · have h1 : cnt g (a + 1) ≤ cnt g b := cnt_mono hl
    rw [cnt_succ ha] at h1; omega
  · exact hl
  · have h1 : cnt g (b + 1) ≤ cnt g a := cnt_mono hl
    rw [cnt_succ hb] at h1; omega

theorem cnt_ex (e k : ℕ) (h : k < cnt g e) : ∃ j, j < e ∧ 0 < g j ∧ cnt g j = k := by
  induction e with
  | zero => exact absurd h (Nat.not_lt_zero _)
  | succ e ih =>
    by_cases hg : 0 < g e
    · rw [cnt_succ hg] at h
      by_cases hk : k < cnt g e
      · obtain ⟨j, h1, h2, h3⟩ := ih hk
        exact ⟨j, by omega, h2, h3⟩
      · exact ⟨e, by omega, hg, by omega⟩
    · simp only [cnt, if_neg hg] at h
      obtain ⟨j, h1, h2, h3⟩ := ih h
      exact ⟨j, by omega, h2, h3⟩

open Classical in
/-- The `k`-th group that has rows. -/
def actv (g : ℕ → ℕ) (k : ℕ) : ℕ :=
  if h : ∃ j, j < 13 ∧ 0 < g j ∧ cnt g j = k then h.choose else 0

theorem actv_spec {k : ℕ} (h : k < cnt g 13) : actv g k < 13 ∧ 0 < g (actv g k) ∧ cnt g (actv g k) = k := by
  have hx := cnt_ex 13 k h
  unfold actv
  rw [dif_pos hx]
  exact hx.choose_spec

theorem sz_find (e r : ℕ) (h : r < sz g e) : ∃ j, j < e ∧ sz g j ≤ r ∧ r < sz g (j + 1) := by
  induction e with
  | zero => exact absurd h (Nat.not_lt_zero _)
  | succ e ih =>
    by_cases hr : r < sz g e
    · obtain ⟨j, h1, h2⟩ := ih hr
      exact ⟨j, by omega, h2⟩
    · exact ⟨e, by omega, by omega, h⟩

theorem sz_top (G : GOK g) (e : ℕ) (h : 13 ≤ e) : sz g e = 3072 := by
  induction e, h using Nat.le_induction with
  | base => exact G.tot
  | succ e he ih => rw [sz, ih, G.out e he]

theorem cover (G : GOK g) (r : ℕ) (h : r < 3072) : ∃ k, k < cnt g 13 ∧ sz g (actv g k) ≤ r ∧ r < sz g (actv g k + 1) := by
  obtain ⟨j, h1, h2, h3⟩ := sz_find 13 r (by rw [G.tot]; exact h)
  have hg : 0 < g j := by
    have : sz g (j + 1) = sz g j + g j := rfl
    omega
  have hk : cnt g j < cnt g 13 := by
    have h4 : cnt g (j + 1) ≤ cnt g 13 := cnt_mono h1
    rw [cnt_succ hg] at h4; omega
  have hs := actv_spec hk
  have he : actv g (cnt g j) = j := cnt_uniq hs.2.1 hg hs.2.2
  exact ⟨cnt g j, hk, by rw [he]; exact h2, by rw [he]; exact h3⟩

theorem grp (G : GOK g) : Grp (cnt g 13) (actv g) (sz g) where
  A0 := by
    obtain ⟨k, h, _⟩ := cover G 0 (by omega)
    omega
  A13 := cnt_le 13
  act13 := fun k h => (actv_spec h).1
  mono := fun e => Nat.le_add_right _ _
  zero := rfl
  top := sz_top G
  cover := cover G

theorem g_le (G : GOK g) (e : ℕ) : g e ≤ 3072 := by
  have h1 := (grp G).le (e + 1)
  have : sz g (e + 1) = sz g e + g e := rfl
  omega

/-! ## Words -/

theorem t1_trips : k0_t1_loop.trips = 13 := by decide

theorem off1_eq (t : Fin k0_t1_loop.trips) :
    k0_off1 t = ![t.val] := by
  have ht : t.val < 13 := t.isLt.trans_eq t1_trips
  simp (disch := omega) only [k0_off1, iv0_nw, iv_nw, Nat.zero_add, mul_nw, add_nw, sub_nw, div_nw, rem_nw, min_nw, max_nw, ic_nw, toNat_nw] <;>
  first
  | rfl
  | (apply v1e <;> first | rfl | omega)

theorem off2_eq (t : Fin k0_t1_loop.trips) :
    k0_off2 t = ![t.val] := by
  have ht : t.val < 13 := t.isLt.trans_eq t1_trips
  simp (disch := omega) only [k0_off2, iv0_nw, iv_nw, Nat.zero_add, mul_nw, add_nw, sub_nw, div_nw, rem_nw, min_nw, max_nw, ic_nw, toNat_nw] <;>
  first
  | rfl
  | (apply v1e <;> first | rfl | omega)

theorem off3_eq {n : ℕ} (hn : n < 2 ^ 31) :
    k0_off3 (BitVec.ofNat 32 n) = ![n] := by
  simp (disch := omega) only [k0_off3, iv0_nw, iv_nw, Nat.zero_add, mul_nw, add_nw, sub_nw, div_nw, rem_nw, min_nw, max_nw, ic_nw, toNat_nw] <;>
  first
  | rfl
  | (apply v1e <;> first | rfl | omega)

theorem cond1_iff {n : ℕ} (hn : n < 2 ^ 31) : k0_cond1 (BitVec.ofNat 32 n) = 1#1 ↔ 0 < n := by
  unfold k0_cond1
  simp (disch := omega) only [ext_ne, sgt_nw]

theorem cond2_true {A : ℕ} (h0 : 0 < A) (hA : A ≤ 13) : k0_cond2 (BitVec.ofNat 32 A) = 1#1 := by
  unfold k0_cond2
  simp (disch := omega) only [ext_ne, mul_nw, sgt_nw]
  omega

theorem cond3_true {A : ℕ} (h0 : 0 < A) (hA : A ≤ 13) : k0_cond3 (BitVec.ofNat 32 A) = 1#1 := by
  unfold k0_cond3
  simp (disch := omega) only [ext_ne, mul_nw, sgt_nw]
  omega

theorem t7_trips {A : ℕ} (hA : A ≤ 13) : (k0_t7_loop (BitVec.ofNat 32 A)).trips = 0 := by
  have h : k0_t7_loop (BitVec.ofNat 32 A) = ⟨BitVec.ofNat 32 (A * 8), BitVec.ofNat 32 (A * 8), 1#32⟩ := by
    simp (disch := omega) only [k0_t7_loop, mul_nw, sub_nw, div_nw, add_nw, Nat.sub_zero, Nat.div_one, Nat.zero_add, Nat.mul_one]
  rw [h]
  exact (trips_nw (by omega) (by omega)).trans (Nat.sub_self _)

theorem chk1_of {n : ℕ} (hn : n < 13) (v : BitVec 32) : k0_chk1 (BitVec.ofNat 32 n) v := by
  intro _ a
  rw [off3_eq (by omega)]
  have ha : a = 0 := Subsingleton.elim _ _
  subst ha
  show n + 1 ≤ 13
  omega

theorem chk2_of {A : ℕ} (h0 : 0 < A) (hA : A ≤ 13) : k0_chk2 (BitVec.ofNat 32 A) := by
  obtain ⟨a, rfl⟩ : ∃ a, A = a + 1 := ⟨A - 1, by omega⟩
  exact chk2_dec ⟨a, by omega⟩

theorem chk3_of {A e : ℕ} (h0 : 0 < A) (hA : A ≤ 13) (he : e < 13) : k0_chk3 (BitVec.ofNat 32 A) (BitVec.ofNat 32 e) := by
  obtain ⟨a, rfl⟩ : ∃ a, A = a + 1 := ⟨A - 1, by omega⟩
  exact chk3_dec ⟨a, by omega⟩ ⟨e, he⟩

theorem chk4_of {A e : ℕ} (h0 : 0 < A) (hA : A ≤ 13) (he : e < 13) : k0_chk4 (BitVec.ofNat 32 A) (BitVec.ofNat 32 e) := by
  obtain ⟨a, rfl⟩ : ∃ a, A = a + 1 := ⟨A - 1, by omega⟩
  exact chk4_dec ⟨a, by omega⟩ ⟨e, he⟩

theorem wr12 (f : S13.Idx → Elt F .i32) (a : BitVec 32) {off : Fin 1 → ℕ} {k : ℕ} (h : off = ![k]) (inb) (i : S13.Idx) :
    (A12.access (Rect.unit (s := S13) off S1.size inb)).write (Elt F) f (fun _ => a) Finset.univ i = if (i 0).val = k then a else f i := by
  subst h
  by_cases hk : (i 0).val = k
  · rw [if_pos hk]
    have e : (Rect.unit (s := S13) ![k] S1.size inb).emb (fun d => ⟨0, by have hd : d = 0 := Subsingleton.elim _ _; subst hd; exact Nat.one_pos⟩) = i := by
      funext d
      have hd : d = 0 := Subsingleton.elim _ _
      subst hd
      apply Fin.ext
      rw [unit_emb_val, hk]
      rfl
    conv_lhs => rw [← e]
    rw [write_whole_mem]
    exact Finset.mem_univ _
  · rw [if_neg hk]
    apply write_whole_not
    intro x _ hx
    apply hk
    rw [← hx, unit_emb_val]
    have hx0 : (x 0).val < 1 := (x 0).isLt
    show k + (x 0).val = k
    omega

theorem wr13 (f : S14.Idx → Elt F .i32) (a : BitVec 32) {off : Fin 1 → ℕ} {k : ℕ} (h : off = ![k]) (inb) (i : S14.Idx) :
    (A13.access (Rect.unit (s := S14) off S1.size inb)).write (Elt F) f (fun _ => a) Finset.univ i = if (i 0).val = k then a else f i := by
  subst h
  by_cases hk : (i 0).val = k
  · rw [if_pos hk]
    have e : (Rect.unit (s := S14) ![k] S1.size inb).emb (fun d => ⟨0, by have hd : d = 0 := Subsingleton.elim _ _; subst hd; exact Nat.one_pos⟩) = i := by
      funext d
      have hd : d = 0 := Subsingleton.elim _ _
      subst hd
      apply Fin.ext
      rw [unit_emb_val, hk]
      rfl
    conv_lhs => rw [← e]
    rw [write_whole_mem]
    exact Finset.mem_univ _
  · rw [if_neg hk]
    apply write_whole_not
    intro x _ hx
    apply hk
    rw [← hx, unit_emb_val]
    have hx0 : (x 0).val < 1 := (x 0).isLt
    show k + (x 0).val = k
    omega

theorem rd0 {f0 : S13.Idx → Elt F .i32} (h0 : ∀ i, f0 i = BitVec.ofNat 32 (g (i 0).val)) {off : Fin 1 → ℕ} {k : ℕ} (h : off = ![k]) (inb) (x) :
    (A0.access (Rect.unit (s := S13) off S1.size inb)).read (Elt F) f0 x = BitVec.ofNat 32 (g k) := by
  subst h
  have e : ((Rect.unit (s := S13) ![k] S1.size inb).emb x 0).val = k := by
    rw [unit_emb_val]
    have := (x 0).isLt
    simp at this
    simp [this]
  show f0 ((Rect.unit (s := S13) ![k] S1.size inb).emb x) = _
  rw [h0, e]

/-- A word read without its value being used. -/
theorem w_smemLoad' (c : Dev nD) {N : ℕ} {M : Memref sig .tc .smem (⟨1, ![N]⟩ : Shape) .i32} {off : Fin 1 → ℕ} (inb) {h1 : (Rect.unit (s := (⟨1, ![N]⟩ : Shape)) off S1.size inb).shape.numel = 1} {hp}
    {f : Buf (Elt F) (M.view.loc (c : Thread nD τ))} {Q : Elt F .i32 → sProp 𝕄} :
    ptU c M f ⊢ iprop((∀ v, ptU c M f -∗ Q v) -∗ W c (smemLoad (p := .tc) M (Rect.unit (s := (⟨1, ![N]⟩ : Shape)) off S1.size inb) h1 hp) Q) := by
  iintro H K
  unfold smemLoad
  iapply (wp_smemLoadElt Variants.none (c : Thread nD τ) none Set.univ (m := M) (r := Rect.unit (s := (⟨1, ![N]⟩ : Shape)) off S1.size inb) (S := Finset.univ) (k := fun x => .ret x) (Finset.subset_univ _)) $$ H
  iintro H
  iapply w_pure
  iapply K
  iexact H

/-! ## The scan -/

/-- What the two tables hold after `t` groups. -/
def SInv (g : ℕ → ℕ) (t : ℕ) (f12 : S13.Idx → BitVec 32) (f13 : S14.Idx → BitVec 32) : Prop :=
  (∀ j, j < t → 0 < g j → ∀ i, (i 0).val = cnt g j → f12 i = BitVec.ofNat 32 j) ∧ ∀ i, (i 0).val < t → f13 i = BitVec.ofNat 32 (sz g (i 0).val)

def stS (c : Dev nD) (g : ℕ → ℕ) (f0 : S13.Idx → Elt F .i32) (t : ℕ) : sProp 𝕄 :=
  iprop(ptU c A0 f0 ∗ ∃ (f12 : S13.Idx → Elt F .i32) (f13 : S14.Idx → Elt F .i32), ⌜SInv g t f12 f13⌝ ∗ ptU c A12 f12 ∗ ptU c A13 f13)

theorem scan_trip (c : Dev nD) (G : GOK g) {f0 : S13.Idx → Elt F .i32} (h0 : ∀ i, f0 i = BitVec.ofNat 32 (g (i 0).val)) (t : Fin k0_t1_loop.trips) (Q : BitVec 32 × BitVec 32 → sProp 𝕄) :
    stS c g f0 t.val ⊢ iprop((stS c g f0 (t.val + 1) -∗ Q (BitVec.ofNat 32 (sz g (t.val + 1)), BitVec.ofNat 32 (cnt g (t.val + 1))))
      -∗ W c (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 t (BitVec.ofNat 32 (sz g t.val), BitVec.ofNat 32 (cnt g t.val))) Q) := by
  have ht : t.val < 13 := t.isLt.trans_eq t1_trips
  have hc := cnt_le (g := g) t.val
  have hg := g_le G t.val
  unfold k0_t1_body
  simp only [wp_bind]
  unfold stS
  iintro ⟨H0, %f12, %f13, %hI, H12, H13⟩ K
  iapply (w_smemLoad' c (M := A13) _) $$ H13
  iintro %u H13
  iapply (w_storeU c (M := A13)) $$ H13
  iintro H13
  iapply (w_smemLoad c (M := A0) (off2_eq t) _ (fun x => rd0 h0 (off2_eq t) _ x)) $$ H0
  iintro H0
  iapply (w_assume c (chk1_of (by omega) _))
  iapply (w_dite c iprop(ptU c A12 f12) (fun r => iprop(⌜r = (BitVec.ofNat 32 (sz g (t.val + 1)), BitVec.ofNat 32 (cnt g (t.val + 1)))⌝
      ∗ ∃ f12' : S13.Idx → Elt F .i32, ⌜∀ j, j < t.val + 1 → 0 < g j → ∀ i, (i 0).val = cnt g j → f12' i = BitVec.ofNat 32 j⌝ ∗ ptU c A12 f12')) ?ha ?hb) $$ H12
  case ha =>
    intro hcd
    have hp := (cond1_iff (by omega)).1 hcd
    simp only [wp_bind]
    iintro H12
    iapply (w_smemLoad' c (M := A12) _) $$ H12
    iintro %u2 H12
    iapply (w_storeU c (M := A12)) $$ H12
    iintro H12
    iapply w_pure
    isplitr
    · ipureintro
      rw [(sgt_nw (by omega) (by omega)).2 hp, cnt_succ hp]
      show (Scalar.addi _ _, Scalar.addi _ 1#32) = _
      rw [add_nw, add_nw]
      rfl
    · iexists _
      isplitr
      rotate_left 1
      · iexact H12
      · ipureintro
        intro j hj hgj i hi
        rw [wr12 f12 _ (off3_eq (by omega)), iv0_nw]
        by_cases hjt : j = t.val
        · rw [if_pos (by rw [hi, hjt]), hjt]
        · have hlt : cnt g (j + 1) ≤ cnt g t.val := cnt_mono (by omega)
          rw [cnt_succ hgj] at hlt
          rw [if_neg (by omega)]
          exact hI.1 j (by omega) hgj i hi
  case hb =>
    intro hcd
    have hp : ¬ 0 < g t.val := fun h => hcd ((cond1_iff (by omega)).2 h)
    simp only [wp_bind]
    iintro H12
    iapply w_pure
    isplitr
    · ipureintro
      have hz : Scalar.cmpi .sgt (BitVec.ofNat 32 (g t.val)) 0#32 = 0#1 := by
        have hn : ¬ Scalar.cmpi .sgt (BitVec.ofNat 32 (g t.val)) 0#32 = 1#1 := fun h => hp ((sgt_nw (by omega) (by omega)).1 h)
        revert hn
        generalize Scalar.cmpi .sgt (BitVec.ofNat 32 (g t.val)) 0#32 = b
        revert b; decide
      rw [hz]
      show (Scalar.addi _ _, Scalar.addi _ 0#32) = _
      rw [add_nw, add_nw]
      simp only [sz, cnt, if_neg hp]
    · iexists f12
      isplitr
      rotate_left 1
      · iexact H12
      · ipureintro
        intro j hj hgj i hi
        by_cases hjt : j = t.val
        · subst hjt; exact absurd hgj hp
        · exact hI.1 j (by omega) hgj i hi
  iintro %r ⟨%hr, %f12', %h12, H12⟩
  subst hr
  iapply K
  isplitl [H0]
  · iexact H0
  iexists f12'
  iexists _
  isplitr
  rotate_left 1
  · isplitl [H12]
    · iexact H12
    · iexact H13
  · ipureintro
    refine ⟨h12, ?_⟩
    intro i hi
    rw [wr13 f13 _ (off1_eq t)]
    by_cases hit : (i 0).val = t.val
    · rw [if_pos hit, hit]
    · rw [if_neg hit]
      exact hI.2 i (by omega)

theorem scan_loop (c : Dev nD) (G : GOK g) {f0 : S13.Idx → Elt F .i32} (h0 : ∀ i, f0 i = BitVec.ofNat 32 (g (i 0).val)) (ok : k0_t1_loop.OK) (Q : BitVec 32 × BitVec 32 → sProp 𝕄) :
    stS c g f0 0 ⊢ iprop((stS c g f0 13 -∗ Q (BitVec.ofNat 32 (sz g 13), BitVec.ofNat 32 (cnt g 13)))
      -∗ W c (Scf.Loop.for k0_t1_loop ok (0#32, 0#32) (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10)) Q) := by
  have ht : Scf.trips k0_t1_loop.lb k0_t1_loop.ub k0_t1_loop.st = 13 := t1_trips
  iintro H K
  iapply (Scf.wp_for frame (wpE (defs₀ (F := F)) Variants.none (c : Thread nD τ) none) Set.univ _ _ _ ok _ _
    (fun j a => iprop(⌜a = (BitVec.ofNat 32 (sz g j), BitVec.ofNat 32 (cnt g j))⌝ ∗ stS c g f0 j)) ?_)
  · intro t acc
    iintro ⟨%ha, H⟩
    subst ha
    iapply (scan_trip c G h0 t) $$ H
    iintro H
    isplitr
    · ipureintro; rfl
    · iexact H
  isplitl [H]
  · isplitr
    · ipureintro; rfl
    · iexact H
  · iintro %r ⟨%hr, H⟩
    subst hr
    rw [ht]
    iapply K
    iexact H

theorem fin13 (c : Dev nD) {f12 : S13.Idx → Elt F .i32} {f13 : S14.Idx → Elt F .i32} (hI : SInv g 13 f12 f13) (inb) :
    ptU c A13 ((A13.access (Rect.unit (s := S14) ![13] S1.size inb)).write (Elt F) f13 (fun _ => BitVec.ofNat 32 (sz g 13)) Finset.univ)
      ⊢ (iprop(∃ f : S14.Idx → Elt F .i32, ⌜∀ i, f i = BitVec.ofNat 32 (sz g (i 0).val)⌝ ∗ ptU c A13 f) : sProp 𝕄) := by
  iintro H
  iexists _
  isplitr
  rotate_left 1
  · iexact H
  · ipureintro
    intro i
    rw [wr13 f13 _ rfl]
    by_cases hi : (i 0).val = 13
    · rw [if_pos hi, hi]
    · rw [if_neg hi]
      have : (i 0).val < 14 := (i 0).isLt
      exact hI.2 i (by omega)

/-! ## From the start to the item loop -/

theorem prologue (c : Dev nD) (fx : S3072x7168.Idx → Elt F .bf16) (fw : S13x7168x4096.Idx → Elt F .fp8e4m3) (f3 : S13x4096.Idx → Elt F .f32) (G : GOK g)
    {f0 : S13.Idx → Elt F .i32} (h0 : ∀ i, f0 i = BitVec.ofNat 32 (g (i 0).val)) (Q : (Σ' (v1_1 : BitVec 32) (k0_hw2 : k0_chk2 v1_1), BitVec 32) → sProp 𝕄) :
    iprop(ptU c A0 f0 ∗ (∃ f, ptU c A12 f) ∗ (∃ f, ptU c A13 f) ∗ idleX c fx 0 ∗ idleX c fx 1 ∗ idleW c fw 0 ∗ idleW c fw 1 ∗ idleW c fw 2
        ∗ (∃ f, ptU c A6 f) ∗ (∃ f, ptU c A7 f) ∗ (∃ f, ptU c A8 f) ∗ ptU c A3 f3 ∗ OW c)
      ⊢ iprop((∀ (f12 : S13.Idx → Elt F .i32) (f13 : S14.Idx → Elt F .i32), ⌜∀ i, (i 0).val < cnt g 13 → f12 i = BitVec.ofNat 32 (actv g (i 0).val)⌝ -∗ ⌜∀ i, f13 i = BitVec.ofNat 32 (sz g (i 0).val)⌝
          -∗ ptU c A0 f0 ∗ stI c fx fw f3 (cnt g 13) (actv g) (sz g) f12 f13 0
          -∗ Q ⟨BitVec.ofNat 32 (cnt g 13), chk2_of (grp G).A0 (grp G).A13, Scalar.muli (BitVec.ofNat 32 (cnt g 13)) 8#32⟩)
        -∗ W c (k0_part25 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10) Q) := by
  have hA0 := (grp G).A0
  have hA := (grp G).A13
  have he0 := (grp G).act13 _ (Nat.mod_lt 0 hA0)
  have he1 := (grp G).act13 _ (Nat.mod_lt 1 hA0)
  rw [k0_part25_eq_skeleton]
  unfold k0_part25_skel
  simp only [wp_bind]
  iintro ⟨H0, ⟨%f12, H12⟩, ⟨%f13, H13⟩, HX0, HX1, HW0, HW1, HW2, ⟨%f6, H6⟩, ⟨%f7, H7⟩, ⟨%f8, H8⟩, H3, HO⟩ K
  iapply (scan_loop c G h0) $$ [H0 H12 H13]
  · unfold stS
    isplitl [H0]
    · iexact H0
    iexists f12
    iexists f13
    isplitr
    · ipureintro
      exact ⟨fun j hj => absurd hj (Nat.not_lt_zero _), fun i hi => absurd hi (Nat.not_lt_zero _)⟩
    isplitl [H12]
    · iexact H12
    · iexact H13
  unfold stS
  iintro ⟨H0, %f12', %f13', %hI, H12, H13⟩
  iapply (w_assume c (chk2_of hA0 hA))
  iapply (w_smemLoad' c (M := A13) _) $$ H13
  iintro %u H13
  iapply (w_storeU c (M := A13)) $$ H13
  iintro H13
  icases (fin13 c hI _) $$ H13 with ⟨%g13, %h13, H13⟩
  iapply (startX c fx 0 0 (semX_eq 0 rfl _) rfl rfl) $$ HX0
  iintro HX0
  iapply (startX c fx 1 1 (semX_eq 1 rfl _) rfl rfl) $$ HX1
  iintro HX1
  have h12 : ∀ i, (i 0).val < cnt g 13 → f12' i = BitVec.ofNat 32 (actv g (i 0).val) := fun i hi =>
    hI.1 _ (actv_spec hi).1 (actv_spec hi).2.1 i (actv_spec hi).2.2.symm
  rw [dif_pos (cond2_true hA0 hA)]
  simp only [wp_bind]
  iapply (w_smemLoad c (M := A12) (off4_eq hA0 hA) _ (fun x => rd12 h12 (off4_eq hA0 hA) (Nat.mod_lt _ hA0) _ x)) $$ H12
  iintro H12
  iapply (w_assume c (chk3_of hA0 hA he0))
  iapply (startW0 c fw 0 (actv g (0 % cnt g 13)) (0 / cnt g 13) (semW_eq 0 off5_eq _) off6_eq (off7_eq hA0 hA he0 0)) $$ HW0
  iintro HW0
  iapply (startW1 c fw 0 (actv g (0 % cnt g 13)) (0 / cnt g 13) (semW_eq 0 off8_eq _) off9_eq (off7_eq hA0 hA he0 1)) $$ HW0
  iintro HW0
  rw [dif_pos (cond3_true hA0 hA)]
  simp only [wp_bind]
  iapply (w_smemLoad c (M := A12) (off10_eq hA0 hA) _ (fun x => rd12 h12 (off10_eq hA0 hA) (Nat.mod_lt _ hA0) _ x)) $$ H12
  iintro H12
  iapply (w_assume c (chk4_of hA0 hA he1))
  iapply (startW0 c fw 1 (actv g (1 % cnt g 13)) (1 / cnt g 13) (semW_eq 1 off11_eq _) off12_eq (off13_eq hA0 hA he1 0)) $$ HW1
  iintro HW1
  iapply (startW1 c fw 1 (actv g (1 % cnt g 13)) (1 / cnt g 13) (semW_eq 1 off14_eq _) off15_eq (off13_eq hA0 hA he1 1)) $$ HW1
  iintro HW1
  iapply (w_loadU c (M := A6)) $$ H6
  iintro H6
  iapply (w_storeU c (M := A6)) $$ H6
  iintro H6
  iapply w_pure
  iapply K $$ %f12' %g13 [] []
  · ipureintro; exact h12
  · ipureintro; exact h13
  · isplitl [H0]
    · iexact H0
    unfold stI stX stW
    rw [show dn (cnt g 13) (actv g) (sz g) 0 = 0 from rfl, show it (cnt g 13) 0 = some 0 from if_pos (by omega), show it (cnt g 13) (0 + 1) = some 1 from if_pos (by omega), slotW_some, slotW_some, show nx 0 = some 0 from if_pos (by decide), show nx (0 + 1) = some 1 from if_pos (by decide), show slotX c fx (r2 0) (some 0) = busyX c fx 0 0 from rfl, show slotX c fx (r2 (0 + 1)) (some 1) = busyX c fx 1 1 from rfl]
    isplitl [HX0 HX1 H6 H7 HO]
    · isplitl [HX0]
      · iexact HX0
      isplitl [HX1]
      · iexact HX1
      isplitl [H6 H7]
      · iexists _
        iexists f7
        isplitr
        rotate_left 1
        · isplitl [H6]
          · iexact H6
          · iexact H7
        · ipureintro
          exact ⟨fun i hi => absurd hi (Nat.not_lt_zero _), fun i hi => absurd hi (Nat.not_lt_zero _)⟩
      · iexact HO
    isplitl [HW0 HW1 HW2]
    · isplitl [HW0]
      · iexact HW0
      isplitl [HW1]
      · iexact HW1
      · iexact HW2
    isplitl [H8]
    · iexists f8
      isplitr
      · ipureintro
        intro i' hi'
        exact absurd hi' (Nat.not_lt_zero _)
      · iexact H8
    isplitl [H12]
    · iexact H12
    isplitl [H13]
    · iexact H13
    · iexact H3

end Cert.Kernel.Hand
-- ==== Proof.KOut.lean ====
/-
  The output loop: chunk `t` of 128 rows is quantised, its scales stored, and its codes sent to the result through two slots.
-/
module

public import proofs.«01_k».proof.Proof.KItem

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## The values -/

/-- Chunk `k` of 128 rows of the products. -/
def chunkH (h : S3072x2048.Idx → Elt F .f32) (k : ℕ) : Vec F S128x2048 .f32 := fun z =>
  h (ix2 (d := ![3072, 2048]) ⟨(128 * k + (z 0).val) % 3072, Nat.mod_lt _ (by decide)⟩ (z 1))

/-- The codes of a chunk. -/
def qY (v : Vec F S128x2048 .f32) : FVec F S1x128x2048 .fp8e4m3 := k0_pay10 v (k0_pay77 (k0_pay75 v) (k0_pay76 v))

/-- The scales of a chunk. -/
def qT (v : Vec F S128x2048 .f32) : FVec F S1x128 .f32 := k0_pay9 (F := F) (k0_pay78 (k0_pay75 v) (k0_pay76 v)) k0_pay79

/-- All result codes. -/
def yCan (h : S3072x2048.Idx → Elt F .f32) : S3072x2048.Idx → Elt F .fp8e4m3 := fun i =>
  qY (chunkH h ((i 0).val / 128)) (ix3 (d := ![1, 128, 2048]) ⟨0, by decide⟩ ⟨(i 0).val % 128, Nat.mod_lt _ (by decide)⟩ (i 1))

/-- All result scales. -/
def ysCan (h : S3072x2048.Idx → Elt F .f32) : S1x3072.Idx → Elt F .f32 := fun i =>
  qT (chunkH h ((i 1).val / 128)) (ix2 (d := ![1, 128]) ⟨0, by decide⟩ ⟨(i 1).val % 128, Nat.mod_lt _ (by decide)⟩)

/-- The scales of the first `k` chunks are stored. -/
def TSOK (h : S3072x2048.Idx → Elt F .f32) (k : ℕ) (f5 : S1x3072.Idx → Elt F .f32) : Prop := ∀ i, (i 1).val < 128 * k → f5 i = ysCan h i

theorem TSOK_step (h : S3072x2048.Idx → Elt F .f32) {k : ℕ} (hk : k < 24) {f5 : S1x3072.Idx → Elt F .f32} (hf : TSOK h k f5) {off : Fin 2 → ℕ} (e : off = ![0, 128 * k]) (inb) :
    TSOK h (k + 1) ((A5.access (Rect.unit (s := S1x3072) off S1x128.size inb)).write (Elt F) f5 (qT (chunkH h k)) Finset.univ) := by
  subst e
  intro i hi
  have hi0 := (i 0).isLt
  simp at hi0
  by_cases hlt : (i 1).val < 128 * k
  · rw [write_whole_not]
    · exact hf i hlt
    · intro x _ he
      have := congrArg (fun j : S1x3072.Idx => (j 1).val) he
      simp only [unit_emb_val] at this
      simp at this
      omega
  · have he : i = (Rect.unit (s := S1x3072) ![0, 128 * k] S1x128.size inb).emb (ix2 (d := ![1, 128]) ⟨0, by decide⟩ ⟨(i 1).val - 128 * k, by simp; omega⟩) := by
      apply idx2_ext <;> rw [unit_emb_val] <;> simp [ix2]
      · exact hi0
      · omega
    conv_lhs => rw [he]
    rw [write_whole_mem _ _ _ _ _ (Finset.mem_univ _)]
    unfold ysCan
    have e1 : (i 1).val / 128 = k := by omega
    rw [e1]
    congr 1
    apply idx2_ext <;> simp [ix2]
    omega

theorem read_H (h : S3072x2048.Idx → Elt F .f32) {k : ℕ} (hk : k < 24) {off : Fin 2 → ℕ} (e : off = ![128 * k, 0]) (inb) :
    (A8.access (Rect.unit (s := S3072x2048) off S128x2048.size inb)).read (Elt F) h = chunkH h k := by
  subst e
  funext x
  show h ((Rect.unit (s := S3072x2048) ![128 * k, 0] S128x2048.size inb).emb x) = _
  unfold chunkH
  have hx := (x 0).isLt
  simp at hx
  congr 1
  apply idx2_ext <;> simp only [ix2, unit_emb_val] <;> simp
  omega

/-- The slot after the codes of chunk `k` are stored there. -/
theorem holdsY (h : S3072x2048.Idx → Elt F .f32) {s k : ℕ} (hk : k < 24) (fy : S2x128x2048.Idx → Elt F .fp8e4m3) {off : Fin 3 → ℕ} (e : off = ![s, 0, 0]) (inb) :
    HoldsY (yCan h) s k ((A11.access (Rect.unit (s := S2x128x2048) off S1x128x2048.size inb)).write (Elt F) fy (qY (chunkH h k)) Finset.univ) := by
  subst e
  intro i j h0 h1 hs
  have hj := (j 1).isLt
  simp at hj
  have he : j = (Rect.unit (s := S2x128x2048) ![s, 0, 0] S1x128x2048.size inb).emb (ix3 (d := ![1, 128, 2048]) ⟨0, by decide⟩ (j 1) (j 2)) := by
    apply Shape.idx3_ext <;> rw [unit_emb_val] <;> simp [ix3]
    exact hs
  conv_lhs => rw [he]
  rw [write_whole_mem _ _ _ _ _ (Finset.mem_univ _)]
  unfold yCan
  have e1 : (i 0).val / 128 = k := by omega
  rw [e1]
  congr 1
  apply Shape.idx3_ext <;> simp [ix3]
  · omega
  · exact h1.symm

/-! ## The rows of the result -/

def lowY (k : ℕ) : Finset S3072x2048.Idx := Finset.univ.filter fun i => (i 0).val < 128 * k
def highY (k : ℕ) : Finset S3072x2048.Idx := Finset.univ.filter fun i => 128 * k ≤ (i 0).val

theorem lowY_succ (k : ℕ) : lowY (k + 1) = lowY k ∪ rowsY k := by
  ext i; simp only [lowY, rowsY, Finset.mem_union, Finset.mem_filter, Finset.mem_univ, _root_.true_and]; omega

theorem lowY_disj (k : ℕ) : Disjoint (lowY k) (rowsY k) := by
  rw [Finset.disjoint_left]; intro i; simp only [lowY, rowsY, Finset.mem_filter, Finset.mem_univ, _root_.true_and]; omega

theorem lowY_zero : lowY 0 = ∅ := by ext i; simp [lowY]
theorem lowY_all : lowY 24 = Finset.univ := by
  ext i
  have h : (i 0).val < 3072 := (i 0).isLt
  have h2 : (i 0).val < 128 * 24 := h
  simp only [lowY, Finset.mem_filter, Finset.mem_univ, _root_.true_and, iff_true]
  exact h2
theorem highY_zero : highY 0 = Finset.univ := by ext i; simp [highY]
theorem rowsY_sub (k : ℕ) : rowsY k ⊆ highY k := by
  intro i; simp only [highY, rowsY, Finset.mem_filter, Finset.mem_univ, _root_.true_and]; omega
theorem highY_sdiff (k : ℕ) : highY k \ rowsY k = highY (k + 1) := by
  ext i; simp only [highY, rowsY, Finset.mem_sdiff, Finset.mem_filter, Finset.mem_univ, _root_.true_and]; omega

theorem high_split (c : Dev nD) (k : ℕ) : iprop(∃ f, pt c A4 (highY k) fullShare f) ⊢ (iprop((∃ f, pt c A4 (rowsY k) fullShare f) ∗ ∃ f, pt c A4 (highY (k + 1)) fullShare f) : sProp 𝕄) := by
  iintro ⟨%f, H⟩
  icases (pointsTo_split_subset (rowsY_sub k)).1 $$ H with ⟨HA, HB⟩
  rw [highY_sdiff]
  isplitl [HA]
  · iexists f; iexact HA
  · iexists f; iexact HB

theorem low_join (c : Dev nD) (g : S3072x2048.Idx → Elt F .fp8e4m3) (k : ℕ) : iprop(pt c A4 (lowY k) fullShare g ∗ pt c A4 (rowsY k) fullShare g) ⊢ (pt c A4 (lowY (k + 1)) fullShare g : sProp 𝕄) := by
  rw [lowY_succ]
  exact (pointsTo_union (lowY_disj k)).2

/-! ## The loop -/

def slotY (c : Dev nD) (g : S3072x2048.Idx → Elt F .fp8e4m3) (s : Fin 2) : Option ℕ → sProp 𝕄
  | none => idleY c s
  | some k => busyY c g s k

theorem slotY_some (c : Dev nD) (g : S3072x2048.Idx → Elt F .fp8e4m3) (s : Fin 2) (k : ℕ) : slotY c g s (some k) = busyY c g s k := rfl
theorem slotY_none (c : Dev nD) (g : S3072x2048.Idx → Elt F .fp8e4m3) (s : Fin 2) : slotY c g s none = idleY c s := rfl

/-- The chunk sent two before chunk `k`, if there is one. -/
def oy (k : ℕ) : Option ℕ := if 2 ≤ k then some (k - 2) else none

/-- Everything the output loop holds before chunk `k`. -/
def stO (c : Dev nD) (h : S3072x2048.Idx → Elt F .f32) (k : ℕ) : sProp 𝕄 :=
  iprop(slotY c (yCan h) (r2 k) (oy k) ∗ slotY c (yCan h) (r2 (k + 1)) (oy (k + 1)) ∗ (∃ f, pt c A4 (highY k) fullShare f) ∗ pt c A4 (lowY (k - 2)) fullShare (yCan h)
    ∗ (∃ f5, ⌜TSOK h k f5⌝ ∗ ptU c A5 f5) ∗ ptU c A8 h ∗ OW c)

theorem out_trip (c : Dev nD) (h : S3072x2048.Idx → Elt F .f32) (t : Fin k0_t12_loop.trips) (acc : Unit) (Q : Unit → sProp 𝕄) :
    stO c h t.val ⊢ iprop((∀ r, stO c h (t.val + 1) -∗ Q r) -∗ W c (k0_t12_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 t acc) Q) := by
  have ht := t.isLt.trans_eq t12_trips
  have er : r2 (t.val + 1 + 1) = r2 t.val := Fin.ext (by show (t.val + 1 + 1) % 2 = t.val % 2; omega)
  have eo : oy (t.val + 1 + 1) = some t.val := if_pos (by omega)
  unfold k0_t12_body
  simp only [k0_part23_eq_skeleton, k0_part24_eq_skeleton]
  unfold k0_part23_skel k0_part24_skel
  simp only [wp_bind]
  unfold stO
  iintro ⟨HY0, HY1, HH, HL, ⟨%f5, %h5, H5⟩, H8, HO⟩ K
  iapply (w_dite c iprop(slotY c (yCan h) (r2 t.val) (oy t.val) ∗ pt c A4 (lowY (t.val - 2)) fullShare (yCan h) ∗ ptU c A8 h ∗ OW c)
    (fun r => iprop(⌜r = ⟨Scf.iv 0#32 1#32 t.val, Scalar.remsi (Scf.iv 0#32 1#32 t.val) 2#32, Scalar.muli (Scf.iv 0#32 1#32 t.val) 128#32, chunkH h t.val, k0_pay75 (chunkH h t.val), k0_pay76 (chunkH h t.val)⟩⌝
      ∗ idleY c (r2 t.val) ∗ pt c A4 (lowY (t.val + 1 - 2)) fullShare (yCan h) ∗ ptU c A8 h ∗ OW c)) ?ha ?hb) $$ [HY0 HL H8 HO]
  case ha =>
    intro hc
    have hle := (cond10_iff t).1 hc
    rw [show oy t.val = some (t.val - 2) from if_pos hle, slotY_some, show t.val + 1 - 2 = t.val - 2 + 1 by omega]
    simp only [wp_bind]
    iintro ⟨HY0, HL, H8, HO⟩
    iapply (waitY c (yCan h) (r2 t.val) (t.val - 2) (semY_eq (r2 t.val) (off102_eq t) _) _) $$ [HY0 HO]
    · isplitl [HY0]
      · iexact HY0
      · iexact HO
    iintro ⟨HI, HD, HO⟩
    iapply (w_loadU c (M := A8)) $$ H8
    iintro H8
    rw [read_H h ht (off105_eq t)]
    iapply w_pure
    isplitr
    · ipureintro; rfl
    isplitl [HI]
    · iexact HI
    isplitl [HL HD]
    · iapply (low_join c (yCan h) (t.val - 2))
      isplitl [HL]
      · iexact HL
      · iexact HD
    isplitl [H8]
    · iexact H8
    · iexact HO
  case hb =>
    intro hc
    have hle : ¬ 2 ≤ t.val := fun h => hc ((cond10_iff t).2 h)
    rw [show oy t.val = none from if_neg hle, slotY_none, show t.val + 1 - 2 = t.val - 2 by omega]
    simp only [wp_bind]
    iintro ⟨HY0, HL, H8, HO⟩
    iapply (w_loadU c (M := A8)) $$ H8
    iintro H8
    rw [read_H h ht (off105_eq t)]
    iapply w_pure
    isplitr
    · ipureintro; rfl
    isplitl [HY0]
    · iexact HY0
    isplitl [HL]
    · iexact HL
    isplitl [H8]
    · iexact H8
    · iexact HO
  · isplitl [HY0]
    · iexact HY0
    isplitl [HL]
    · iexact HL
    isplitl [H8]
    · iexact H8
    · iexact HO
  iintro %u ⟨%hu, HI, HL, H8, HO⟩
  subst hu
  iapply w_pure
  iapply (w_loadU c (M := A5)) $$ H5
  iintro H5
  iapply (w_storeU c (M := A5)) $$ H5
  iintro H5
  unfold idleY
  icases HI with ⟨⟨%fy, HI⟩, HS⟩
  iapply (w_load c (M := A11) (I := setY (r2 t.val).val) (by rw [View.set_slice_whole]; exact (rect_setY (off107_eq t) _).subset)) $$ HI
  iintro HI
  iapply (w_store c (M := A11) (I := setY (r2 t.val).val) (by rw [View.setOn_univ, View.set_slice_whole]; exact (rect_setY (off107_eq t) _).subset)) $$ HI
  iintro HI
  icases (high_split c t.val) $$ HH with ⟨HR, HH⟩
  iapply (startY c (yCan h) (r2 t.val) t.val (semY_eq (r2 t.val) (off108_eq t) _) (off109_eq t) (off110_eq t) _ _ _ (holdsY h ht fy (off107_eq t) (k0_off107_inb t))) $$ [HI HS HR]
  · isplitl [HI]
    · iexact HI
    isplitl [HS]
    · iexact HS
    · iexact HR
  iintro HB
  iapply w_pure
  iapply K
  rw [er, eo, slotY_some]
  isplitl [HY1]
  · iexact HY1
  isplitl [HB]
  · iexact HB
  isplitl [HH]
  · iexact HH
  isplitl [HL]
  · iexact HL
  isplitl [H5]
  · iexists _
    isplitr
    · ipureintro; exact TSOK_step h ht h5 (off106_eq t) (k0_off106_inb t)
    · iexact H5
  isplitl [H8]
  · iexact H8
  · iexact HO

theorem out_loop (c : Dev nD) (h : S3072x2048.Idx → Elt F .f32) (ok : k0_t12_loop.OK) (Q : Unit → sProp 𝕄) :
    stO c h 0 ⊢ iprop((∀ r, stO c h 24 -∗ Q r) -∗ W c (Scf.Loop.for k0_t12_loop ok ⟨⟩ (k0_t12_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10)) Q) := by
  have ht : Scf.trips k0_t12_loop.lb k0_t12_loop.ub k0_t12_loop.st = 24 := t12_trips
  iintro H K
  iapply (Scf.wp_for frame (wpE (defs₀ (F := F)) Variants.none (c : Thread nD τ) none) Set.univ _ _ _ ok _ _ (fun j _ => stO c h j) ?_)
  · intro t acc
    iintro H
    iapply (out_trip c h t acc) $$ H
    iintro %r H
    iexact H
  isplitl [H]
  · iexact H
  · iintro %r H
    rw [ht]
    iapply K
    iexact H

end Cert.Kernel.Hand
-- ==== Proof.KBody.lean ====
/-
  The whole body: the scan and first copies, the item loop, the output loop, the last two waits.
-/
module

public import proofs.«01_k».proof.Proof.KScan
public import proofs.«01_k».proof.Proof.KOut

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Words

variable {F : FTy → Type} [FloatOps F] [Facts]

local notation "𝕄" => MT nD τ sig Unit (Elt F) ℕ (Pipeline.UD sig nD τ) ℕ

/-! ## Whole buffers and their slots -/

theorem piece_split (c : Dev nD) {sp : Space} {S : Shape} {e : EltTy} {M : Memref sig .tc sp S e} {I J K : Finset (Idx (M.view.loc (c : Thread nD τ)))} (h : I ⊆ J) (hk : J \ I = K) :
    iprop(∃ f, pt (F := F) c M J fullShare f) ⊢ (iprop((∃ f, pt c M I fullShare f) ∗ ∃ f, pt c M K fullShare f) : sProp 𝕄) := by
  subst hk
  iintro ⟨%f, H⟩
  icases (pointsTo_split_subset h).1 $$ H with ⟨HA, HB⟩
  isplitl [HA]
  · iexists f; iexact HA
  · iexists f; iexact HB

theorem piece_join (c : Dev nD) {sp : Space} {S : Shape} {e : EltTy} {M : Memref sig .tc sp S e} {I J K : Finset (Idx (M.view.loc (c : Thread nD τ)))} (h : I ⊆ J) (hk : J \ I = K) :
    (iprop((∃ f, pt (F := F) c M I fullShare f) ∗ ∃ f, pt c M K fullShare f) : sProp 𝕄) ⊢ iprop(∃ f, pt c M J fullShare f) := by
  subst hk
  iintro ⟨⟨%f, HA⟩, %f2, HB⟩
  iexists _
  iapply (pointsTo_join_subset (g := f) (f := f2) h)
  isplitl [HA]
  · iexact HA
  · iexact HB

/-- The slots of the weight ring from the `k`-th on. -/
def restW (k : ℕ) : Finset S3x2x7168x256.Idx := Finset.univ.filter fun i => k ≤ 2 * (i 0).val + (i 1).val

theorem subW0 : setW 0 0 ⊆ (Finset.univ : Finset S3x2x7168x256.Idx) := by
  intro i; have h0 : (i 0).val < 3 := (i 0).isLt; have h1 : (i 1).val < 2 := (i 1).isLt
  simp only [setW, restW, Finset.mem_filter, Finset.mem_univ, _root_.true_and, imp_true_iff]
theorem eqW0 : (Finset.univ : Finset S3x2x7168x256.Idx) \ setW 0 0 = restW 1 := by
  ext i; have h0 : (i 0).val < 3 := (i 0).isLt; have h1 : (i 1).val < 2 := (i 1).isLt
  simp only [setW, restW, Finset.mem_sdiff, Finset.mem_filter, Finset.mem_univ, _root_.true_and]; omega
theorem subW1 : setW 0 1 ⊆ (restW 1 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW1 : (restW 1 : Finset S3x2x7168x256.Idx) \ setW 0 1 = restW 2 := by
  ext i; have h0 : (i 0).val < 3 := (i 0).isLt; have h1 : (i 1).val < 2 := (i 1).isLt
  simp only [setW, restW, Finset.mem_sdiff, Finset.mem_filter, Finset.mem_univ, _root_.true_and]; omega
theorem subW2 : setW 1 0 ⊆ (restW 2 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW2 : (restW 2 : Finset S3x2x7168x256.Idx) \ setW 1 0 = restW 3 := by
  ext i; have h0 : (i 0).val < 3 := (i 0).isLt; have h1 : (i 1).val < 2 := (i 1).isLt
  simp only [setW, restW, Finset.mem_sdiff, Finset.mem_filter, Finset.mem_univ, _root_.true_and]; omega
theorem subW3 : setW 1 1 ⊆ (restW 3 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW3 : (restW 3 : Finset S3x2x7168x256.Idx) \ setW 1 1 = restW 4 := by
  ext i; have h0 : (i 0).val < 3 := (i 0).isLt; have h1 : (i 1).val < 2 := (i 1).isLt
  simp only [setW, restW, Finset.mem_sdiff, Finset.mem_filter, Finset.mem_univ, _root_.true_and]; omega
theorem subW4 : setW 2 0 ⊆ (restW 4 : Finset S3x2x7168x256.Idx) := by
  intro i; have h0 : (i 0).val < 3 := (i 0).isLt; have h1 : (i 1).val < 2 := (i 1).isLt
  simp only [setW, restW, Finset.mem_filter, Finset.mem_univ, _root_.true_and, imp_true_iff]; omega
theorem eqW4 : (restW 4 : Finset S3x2x7168x256.Idx) \ setW 2 0 = setW 2 1 := by
  ext i; have h0 : (i 0).val < 3 := (i 0).isLt; have h1 : (i 1).val < 2 := (i 1).isLt
  simp only [setW, restW, Finset.mem_sdiff, Finset.mem_filter, Finset.mem_univ, _root_.true_and]; omega

theorem subX : setX 0 ⊆ (Finset.univ : Finset S2x64x7168.Idx) := Finset.subset_univ _
theorem eqX : (Finset.univ : Finset S2x64x7168.Idx) \ setX 0 = setX 1 := by
  ext i; have h0 : (i 0).val < 2 := (i 0).isLt
  simp only [setX, Finset.mem_sdiff, Finset.mem_filter, Finset.mem_univ, _root_.true_and]; omega
theorem subY : setY 0 ⊆ (Finset.univ : Finset S2x128x2048.Idx) := Finset.subset_univ _
theorem eqY : (Finset.univ : Finset S2x128x2048.Idx) \ setY 0 = setY 1 := by
  ext i; have h0 : (i 0).val < 2 := (i 0).isLt
  simp only [setY, Finset.mem_sdiff, Finset.mem_filter, Finset.mem_univ, _root_.true_and]; omega

/-- The shares of the two inputs that the copies read at. -/
def Toks (c : Dev nD) (fx : S3072x7168.Idx → Elt F .bf16) (fw : S13x7168x4096.Idx → Elt F .fp8e4m3) : sProp 𝕄 :=
  iprop(pt c A1 Finset.univ (tokX 0) fx ∗ pt c A1 Finset.univ (tokX 1) fx ∗ pt c A2 Finset.univ (tokW 0 0) fw ∗ pt c A2 Finset.univ (tokW 0 1) fw ∗ pt c A2 Finset.univ (tokW 1 0) fw ∗ pt c A2 Finset.univ (tokW 1 1) fw ∗ pt c A2 Finset.univ (tokW 2 0) fw ∗ pt c A2 Finset.univ (tokW 2 1) fw)

/-- The copies' semaphores at zero. -/
def Sems (c : Dev nD) : sProp (MT nD τ sig Unit (Elt F) ℕ (Pipeline.UD sig nD τ) ℕ) :=
  iprop(semVal ((c : Thread nD τ), .dma (sW 0)) 0 ∗ semVal ((c : Thread nD τ), .dma (sW 1)) 0 ∗ semVal ((c : Thread nD τ), .dma (sW 2)) 0 ∗ semVal ((c : Thread nD τ), .dma (sX 0)) 0 ∗ semVal ((c : Thread nD τ), .dma (sX 1)) 0 ∗ semVal ((c : Thread nD τ), .dma (sY 0)) 0 ∗ semVal ((c : Thread nD τ), .dma (sY 1)) 0)

/-- The scratch buffers at any contents. -/
def Scr (c : Dev nD) : sProp 𝕄 :=
  iprop((∃ f, ptU (F := F) c A6 f) ∗ (∃ f, ptU (F := F) c A7 f) ∗ (∃ f, ptU (F := F) c A8 f) ∗ (∃ f, ptU (F := F) c A9 f) ∗ (∃ f, ptU (F := F) c A10 f) ∗ (∃ f, ptU (F := F) c A11 f) ∗ (∃ f, ptU (F := F) c A12 f) ∗ (∃ f, ptU (F := F) c A13 f))

/-- All rings at rest. -/
def Rings (c : Dev nD) (fx : S3072x7168.Idx → Elt F .bf16) (fw : S13x7168x4096.Idx → Elt F .fp8e4m3) : sProp 𝕄 :=
  iprop(idleX c fx 0 ∗ idleX c fx 1 ∗ idleW c fw 0 ∗ idleW c fw 1 ∗ idleW c fw 2 ∗ idleY c 0 ∗ idleY c 1)

theorem rings_split (c : Dev nD) (fx : S3072x7168.Idx → Elt F .bf16) (fw : S13x7168x4096.Idx → Elt F .fp8e4m3) :
    iprop((∃ f, ptU c A9 f) ∗ (∃ f, ptU c A10 f) ∗ (∃ f, ptU c A11 f) ∗ Toks c fx fw ∗ Sems c) ⊢ Rings c fx fw := by
  unfold Toks Sems Rings idleX idleW idleY
  iintro ⟨H9, H10, H11, ⟨T0, T1, T2, T3, T4, T5, T6, T7⟩, S0, S1, S2, S3, S4, S5, S6⟩
  icases (piece_split c (M := A9) (I := setW 0 0) (J := Finset.univ) (K := restW 1) subW0 eqW0) $$ H9 with ⟨P0, H9⟩
  icases (piece_split c (M := A9) (I := setW 0 1) (J := restW 1) (K := restW 2) subW1 eqW1) $$ H9 with ⟨P1, H9⟩
  icases (piece_split c (M := A9) (I := setW 1 0) (J := restW 2) (K := restW 3) subW2 eqW2) $$ H9 with ⟨P2, H9⟩
  icases (piece_split c (M := A9) (I := setW 1 1) (J := restW 3) (K := restW 4) subW3 eqW3) $$ H9 with ⟨P3, H9⟩
  icases (piece_split c (M := A9) (I := setW 2 0) (J := restW 4) (K := setW 2 1) subW4 eqW4) $$ H9 with ⟨P4, H9⟩
  icases (piece_split c (M := A10) (I := setX 0) (J := Finset.univ) (K := setX 1) subX eqX) $$ H10 with ⟨X0, X1⟩
  icases (piece_split c (M := A11) (I := setY 0) (J := Finset.univ) (K := setY 1) subY eqY) $$ H11 with ⟨Y0, Y1⟩
  isplitl [X0 S3 T0]
  · isplitl [X0]
    · iexact X0
    isplitl [S3]
    · iexact S3
    iexact T0
  isplitl [X1 S4 T1]
  · isplitl [X1]
    · iexact X1
    isplitl [S4]
    · iexact S4
    iexact T1
  isplitl [P0 P1 S0 T2 T3]
  · isplitl [P0]
    · iexact P0
    isplitl [P1]
    · iexact P1
    isplitl [S0]
    · iexact S0
    isplitl [T2]
    · iexact T2
    iexact T3
  isplitl [P2 P3 S1 T4 T5]
  · isplitl [P2]
    · iexact P2
    isplitl [P3]
    · iexact P3
    isplitl [S1]
    · iexact S1
    isplitl [T4]
    · iexact T4
    iexact T5
  isplitl [P4 H9 S2 T6 T7]
  · isplitl [P4]
    · iexact P4
    isplitl [H9]
    · iexact H9
    isplitl [S2]
    · iexact S2
    isplitl [T6]
    · iexact T6
    iexact T7
  isplitl [Y0 S5]
  · isplitl [Y0]
    · iexact Y0
    iexact S5
  isplitl [Y1]
  · iexact Y1
  iexact S6

theorem rings_join (c : Dev nD) (fx : S3072x7168.Idx → Elt F .bf16) (fw : S13x7168x4096.Idx → Elt F .fp8e4m3) :
    Rings c fx fw ⊢ iprop((∃ f, ptU c A9 f) ∗ (∃ f, ptU c A10 f) ∗ (∃ f, ptU c A11 f) ∗ Toks c fx fw ∗ Sems c) := by
  unfold Toks Sems Rings idleX idleW idleY
  iintro ⟨⟨X0, S3, T0⟩, ⟨X1, S4, T1⟩, ⟨P0, P1, S0, T2, T3⟩, ⟨P2, P3, S1, T4, T5⟩, ⟨P4, P5, S2, T6, T7⟩, ⟨Y0, S5⟩, Y1, S6⟩
  icases (piece_join c (M := A9) (I := setW 2 0) (J := restW 4) (K := setW 2 1) subW4 eqW4) $$ [P4 P5] with P5
  · isplitl [P4]
    · iexact P4
    · iexact P5
  icases (piece_join c (M := A9) (I := setW 1 1) (J := restW 3) (K := restW 4) subW3 eqW3) $$ [P3 P5] with P5
  · isplitl [P3]
    · iexact P3
    · iexact P5
  icases (piece_join c (M := A9) (I := setW 1 0) (J := restW 2) (K := restW 3) subW2 eqW2) $$ [P2 P5] with P5
  · isplitl [P2]
    · iexact P2
    · iexact P5
  icases (piece_join c (M := A9) (I := setW 0 1) (J := restW 1) (K := restW 2) subW1 eqW1) $$ [P1 P5] with P5
  · isplitl [P1]
    · iexact P1
    · iexact P5
  icases (piece_join c (M := A9) (I := setW 0 0) (J := Finset.univ) (K := restW 1) subW0 eqW0) $$ [P0 P5] with P5
  · isplitl [P0]
    · iexact P0
    · iexact P5
  icases (piece_join c (M := A10) (I := setX 0) (J := Finset.univ) (K := setX 1) subX eqX) $$ [X0 X1] with X0
  · isplitl [X0]
    · iexact X0
    · iexact X1
  icases (piece_join c (M := A11) (I := setY 0) (J := Finset.univ) (K := setY 1) subY eqY) $$ [Y0 Y1] with Y0
  · isplitl [Y0]
    · iexact Y0
    · iexact Y1
  isplitl [P5]
  · iexact P5
  isplitl [X0]
  · iexact X0
  isplitl [Y0]
  · iexact Y0
  isplitl [T0 T1 T2 T3 T4 T5 T6 T7]
  · isplitl [T0]
    · iexact T0
    isplitl [T1]
    · iexact T1
    isplitl [T2]
    · iexact T2
    isplitl [T3]
    · iexact T3
    isplitl [T4]
    · iexact T4
    isplitl [T5]
    · iexact T5
    isplitl [T6]
    · iexact T6
    iexact T7
  isplitl [S0]
  · iexact S0
  isplitl [S1]
  · iexact S1
  isplitl [S2]
  · iexact S2
  isplitl [S3]
  · iexact S3
  isplitl [S4]
  · iexact S4
  isplitl [S5]
  · iexact S5
  iexact S6

theorem stW_end (c : Dev nD) (fw : S13x7168x4096.Idx → Elt F .fp8e4m3) (A : ℕ) (act : ℕ → ℕ) :
    stW c fw A act (8 * A) ⊢ iprop(idleW c fw 0 ∗ idleW c fw 1 ∗ idleW c fw 2) := by
  unfold stW
  rw [show it A (8 * A) = none from if_neg (by omega), show it A (8 * A + 1) = none from if_neg (by omega), slotW_none, slotW_none]
  rcases (by omega : (8 * A) % 3 = 0 ∨ (8 * A) % 3 = 1 ∨ (8 * A) % 3 = 2) with h | h | h
  · rw [show r3 (8 * A) = 0 from Fin.ext h, show r3 (8 * A + 1) = 1 from Fin.ext (by show (8 * A + 1) % 3 = 1; omega), show r3 (8 * A + 2) = 2 from Fin.ext (by show (8 * A + 2) % 3 = 2; omega)]
  · rw [show r3 (8 * A) = 1 from Fin.ext h, show r3 (8 * A + 1) = 2 from Fin.ext (by show (8 * A + 1) % 3 = 2; omega), show r3 (8 * A + 2) = 0 from Fin.ext (by show (8 * A + 2) % 3 = 0; omega)]
    iintro ⟨H1, H2, H0⟩
    isplitl [H0]
    · iexact H0
    isplitl [H1]
    · iexact H1
    · iexact H2
  · rw [show r3 (8 * A) = 2 from Fin.ext h, show r3 (8 * A + 1) = 0 from Fin.ext (by show (8 * A + 1) % 3 = 0; omega), show r3 (8 * A + 2) = 1 from Fin.ext (by show (8 * A + 2) % 3 = 1; omega)]
    iintro ⟨H2, H0, H1⟩
    isplitl [H0]
    · iexact H0
    isplitl [H1]
    · iexact H1
    · iexact H2

variable {g : ℕ → ℕ}

theorem body_run (c : Dev nD) (fx : S3072x7168.Idx → Elt F .bf16) (fw : S13x7168x4096.Idx → Elt F .fp8e4m3) (f3 : S13x4096.Idx → Elt F .f32) (G : GOK g)
    {f0 : S13.Idx → Elt F .i32} (h0 : ∀ i, f0 i = BitVec.ofNat 32 (g (i 0).val)) (Q : PUnit → sProp 𝕄) :
    iprop(ptU c A0 f0 ∗ ptU c A3 f3 ∗ (∃ f, ptU c A4 f) ∗ (∃ f, ptU c A5 f) ∗ Scr c ∗ Toks c fx fw ∗ Sems c ∗ OW c)
      ⊢ iprop((ptU c A0 f0 ∗ ptU c A3 f3 ∗ (∃ h : S3072x2048.Idx → Elt F .f32, ⌜∀ x e, sz g e ≤ (x 0).val → (x 0).val < sz g (e + 1) → hOK fx fw f3 e x (h x)⌝
            ∗ ptU c A4 (yCan h) ∗ ptU c A5 (ysCan h)) ∗ Scr c ∗ Toks c fx fw ∗ Sems c ∗ OW c -∗ Q ⟨⟩)
        -∗ W c (cc0_moe_gate_up A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10) Q) := by
  rw [cc0_moe_gate_up_eq_skeleton]
  unfold cc0_moe_gate_up_skel
  simp only [wp_bind]
  unfold Scr
  iintro ⟨H0, H3, H4, H5, ⟨H6, H7, H8, H9, H10, H11, H12, H13⟩, HT, HS, HO⟩ K
  icases (rings_split c fx fw) $$ [H9 H10 H11 HT HS] with HR
  · isplitl [H9]
    · iexact H9
    isplitl [H10]
    · iexact H10
    isplitl [H11]
    · iexact H11
    isplitl [HT]
    · iexact HT
    iexact HS
  unfold Rings
  icases HR with ⟨HX0, HX1, HW0, HW1, HW2, HY0, HY1⟩
  iapply (prologue c fx fw f3 G h0) $$ [H0 H12 H13 HX0 HX1 HW0 HW1 HW2 H6 H7 H8 H3 HO]
  · isplitl [H0]
    · iexact H0
    isplitl [H12]
    · iexact H12
    isplitl [H13]
    · iexact H13
    isplitl [HX0]
    · iexact HX0
    isplitl [HX1]
    · iexact HX1
    isplitl [HW0]
    · iexact HW0
    isplitl [HW1]
    · iexact HW1
    isplitl [HW2]
    · iexact HW2
    isplitl [H6]
    · iexact H6
    isplitl [H7]
    · iexact H7
    isplitl [H8]
    · iexact H8
    isplitl [H3]
    · iexact H3
    iexact HO
  iintro %f12 %f13 %h12 %h13 ⟨H0, HI⟩
  iapply (item_loop c fx fw f3 (grp G) h12 h13) $$ HI
  iintro HI
  iapply (w_for0 c (t7_trips (grp G).A13))
  unfold stI stX
  rw [dn_end (grp G), show nx 48 = none from if_neg (by omega), show nx (48 + 1) = none from if_neg (by omega), show slotX c fx (r2 48) none = idleX c fx 0 from rfl, show slotX c fx (r2 (48 + 1)) none = idleX c fx 1 from rfl]
  icases HI with ⟨⟨HX0, HX1, ⟨%f6, %f7, %hx, H6, H7⟩, HO⟩, HW, ⟨%h, %hh, H8⟩, H12, H13, H3⟩
  icases (stW_end c fw _ _) $$ HW with ⟨HW0, HW1, HW2⟩
  iapply (out_loop c h) $$ [HY0 HY1 H4 H5 H8 HO]
  · unfold stO
    rw [show oy 0 = none from if_neg (by omega), show oy (0 + 1) = none from if_neg (by omega), highY_zero, show lowY (0 - 2) = ∅ from lowY_zero,
      show slotY c (yCan h) (r2 0) none = idleY c 0 from rfl, show slotY c (yCan h) (r2 (0 + 1)) none = idleY c 1 from rfl]
    isplitl [HY0]
    · iexact HY0
    isplitl [HY1]
    · iexact HY1
    isplitl [H4]
    · iexact H4
    isplitr
    · unfold pt
      rw [pointsTo_empty]
      itrivial
    isplitl [H5]
    · icases H5 with ⟨%f5, H5⟩
      iexists f5
      isplitr
      · ipureintro
        intro i hi
        exact absurd hi (Nat.not_lt_zero _)
      · iexact H5
    isplitl [H8]
    · iexact H8
    · iexact HO
  iintro %r HP
  unfold stO
  rw [show oy 24 = some 22 from if_pos (by omega), show oy (24 + 1) = some 23 from if_pos (by omega), show slotY c (yCan h) (r2 24) (some 22) = busyY c (yCan h) 0 22 from rfl,
    show slotY c (yCan h) (r2 (24 + 1)) (some 23) = busyY c (yCan h) 1 23 from rfl, show 24 - 2 = 22 from rfl]
  icases HP with ⟨HY0, HY1, -, HL, ⟨%f5, %h5, H5⟩, H8, HO⟩
  iapply (waitY c (yCan h) 0 22 (semY_eq 0 rfl _) _) $$ [HY0 HO]
  · isplitl [HY0]
    · iexact HY0
    · iexact HO
  iintro ⟨HY0, HD, HO⟩
  icases (low_join c (yCan h) 22) $$ [HL HD] with HL
  · isplitl [HL]
    · iexact HL
    · iexact HD
  iapply (waitY c (yCan h) 1 23 (semY_eq 1 rfl _) _) $$ [HY1 HO]
  · isplitl [HY1]
    · iexact HY1
    · iexact HO
  iintro ⟨HY1, HD, HO⟩
  icases (low_join c (yCan h) 23) $$ [HL HD] with HL
  · isplitl [HL]
    · iexact HL
    · iexact HD
  rw [show 23 + 1 = 24 from rfl, lowY_all]
  have e5 : f5 = ysCan h := funext fun i => h5 i (by have : (i 1).val < 3072 := (i 1).isLt; omega)
  subst e5
  iapply w_pure
  icases (rings_join c fx fw) $$ [HX0 HX1 HW0 HW1 HW2 HY0 HY1] with ⟨H9, H10, H11, HT, HS⟩
  · unfold Rings
    isplitl [HX0]
    · iexact HX0
    isplitl [HX1]
    · iexact HX1
    isplitl [HW0]
    · iexact HW0
    isplitl [HW1]
    · iexact HW1
    isplitl [HW2]
    · iexact HW2
    isplitl [HY0]
    · iexact HY0
    iexact HY1
  iapply K
  isplitl [H0]
  · iexact H0
  isplitl [H3]
  · iexact H3
  isplitl [HL H5]
  · iexists h
    isplitr
    · ipureintro
      exact fun x e h1 h2 => HInv_end (grp G) hh x e h1 h2
    isplitl [HL]
    · iexact HL
    · iexact H5
  isplitl [H6 H7 H8 H9 H10 H11 H12 H13]
  · isplitl [H6]
    · iexists _; iexact H6
    isplitl [H7]
    · iexists _; iexact H7
    isplitl [H8]
    · iexists _; iexact H8
    isplitl [H9]
    · iexact H9
    isplitl [H10]
    · iexact H10
    isplitl [H11]
    · iexact H11
    isplitl [H12]
    · iexists _; iexact H12
    · iexists _; iexact H13
  isplitl [HT]
  · iexact HT
  isplitl [HS]
  · iexact HS
  iexact HO

end Cert.Kernel.Hand
-- ==== Proof.KLaunch.lean ====
/-
  The launch around the body: the program's frame, with the results at contents nothing names.
-/
module

public import proofs.«01_k».proof.Proof.KBody
public import proofs.«01_k».proof.Proof.Gen.Kernel.Frame
public import Idealize.ShloMosaic.Lib.Pipeline.FrameSuffixR
public import Idealize.ShloMosaic.Lib.Pipeline.FrameSuffixV

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation BodyObligationLoose cellOf)
open Cert.Words

variable {F : FTy → Type} [FloatOps F] [Facts]

local notation "𝕄" => MT nD τ sig Unit (Elt F) ℕ (Pipeline.UD sig nD τ) ℕ

/-! ## The body with the two copied inputs held whole -/

theorem range2 {M : Type} [URA M] (Φ : ℕ → sProp M) : bigSep (Finset.range 2) Φ = iprop(Φ 0 ∗ Φ 1) :=
  (BI.bigSep_eq_bigSepL_of_eq (S := Finset.range 2) [0, 1] (by decide) (by decide) Φ).trans rfl
theorem range6 {M : Type} [URA M] (Φ : ℕ → sProp M) : bigSep (Finset.range 6) Φ = iprop(Φ 0 ∗ Φ 1 ∗ Φ 2 ∗ Φ 3 ∗ Φ 4 ∗ Φ 5) :=
  (BI.bigSep_eq_bigSepL_of_eq (S := Finset.range 6) [0, 1, 2, 3, 4, 5] (by decide) (by decide) Φ).trans rfl

/-- The two inputs whole are the shares the copies read at and what is left. -/
theorem toks_split (c : Dev nD) (fx : S3072x7168.Idx → Elt F .bf16) (fw : S13x7168x4096.Idx → Elt F .fp8e4m3) :
    iprop(ptU c A1 fx ∗ ptU c A2 fw) ⊢ (iprop(Toks c fx fw ∗ pt c A1 Finset.univ (shareDrop fullShare 2) fx ∗ pt c A2 Finset.univ (shareDrop fullShare 6) fw) : sProp 𝕄) := by
  have h1 := (pointsTo_toks_range (Ix := Unit) (Name := ℕ) (U := Pipeline.UD sig nD τ) (Lvl := ℕ) (ℓ := A1.view.loc (c : Thread nD τ)) (S := Finset.univ) (f := fx) fullShare 2).1
  have h2 := (pointsTo_toks_range (Ix := Unit) (Name := ℕ) (U := Pipeline.UD sig nD τ) (Lvl := ℕ) (ℓ := A2.view.loc (c : Thread nD τ)) (S := Finset.univ) (f := fw) fullShare 6).1
  rw [range2] at h1
  rw [range6] at h2
  iintro ⟨H1, H2⟩
  icases h1 $$ H1 with ⟨R1, T1⟩
  icases h2 $$ H2 with ⟨R2, T2⟩
  isplitl [T1 T2]
  · unfold Toks
    icases T1 with ⟨T0, T1⟩
    icases T2 with ⟨U0, U1, U2, U3, U4, U5⟩
    isplitl [T0]
    · iexact T0
    isplitl [T1]
    · iexact T1
    isplitl [U0]
    · iexact U0
    isplitl [U1]
    · iexact U1
    isplitl [U2]
    · iexact U2
    isplitl [U3]
    · iexact U3
    isplitl [U4]
    · iexact U4
    iexact U5
  isplitl [R1]
  · iexact R1
  iexact R2

/-- And back. -/
theorem toks_join (c : Dev nD) (fx : S3072x7168.Idx → Elt F .bf16) (fw : S13x7168x4096.Idx → Elt F .fp8e4m3) :
    (iprop(Toks c fx fw ∗ pt c A1 Finset.univ (shareDrop fullShare 2) fx ∗ pt c A2 Finset.univ (shareDrop fullShare 6) fw) : sProp 𝕄) ⊢ iprop(ptU c A1 fx ∗ ptU c A2 fw) := by
  have h1 := (pointsTo_toks_range (Ix := Unit) (Name := ℕ) (U := Pipeline.UD sig nD τ) (Lvl := ℕ) (ℓ := A1.view.loc (c : Thread nD τ)) (S := Finset.univ) (f := fx) fullShare 2).2
  have h2 := (pointsTo_toks_range (Ix := Unit) (Name := ℕ) (U := Pipeline.UD sig nD τ) (Lvl := ℕ) (ℓ := A2.view.loc (c : Thread nD τ)) (S := Finset.univ) (f := fw) fullShare 6).2
  rw [range2] at h1
  rw [range6] at h2
  unfold Toks
  iintro ⟨⟨T0, T1, U0, U1, U2, U3, U4, U5⟩, R1, R2⟩
  isplitl [R1 T0 T1]
  · iapply h1
    isplitl [R1]
    · iexact R1
    isplitl [T0]
    · iexact T0
    iexact T1
  · iapply h2
    isplitl [R2]
    · iexact R2
    isplitl [U0]
    · iexact U0
    isplitl [U1]
    · iexact U1
    isplitl [U2]
    · iexact U2
    isplitl [U3]
    · iexact U3
    isplitl [U4]
    · iexact U4
    iexact U5

/-- The body's triple with every operand held whole. -/
theorem body_whole (c : Dev nD) (f0 : S13.Idx → Elt F .i32) (fx : S3072x7168.Idx → Elt F .bf16) (fw : S13x7168x4096.Idx → Elt F .fp8e4m3)
    (f3 : S13x4096.Idx → Elt F .f32) {g : ℕ → ℕ} (G : GOK g) (h0 : ∀ i, f0 i = BitVec.ofNat 32 (g (i 0).val)) (Q : PUnit → sProp 𝕄) :
    iprop(ptU c A0 f0 ∗ ptU c A3 f3 ∗ (∃ f, ptU (F := F) c A4 f) ∗ (∃ f, ptU (F := F) c A5 f) ∗ Scr c ∗ ptU c A1 fx ∗ ptU c A2 fw ∗ Sems c ∗ OW c)
      ⊢ iprop(((ptU c A0 f0 ∗ ptU c A3 f3
          ∗ (∃ h : S3072x2048.Idx → Elt F .f32, ⌜∀ (x : S3072x2048.Idx) (e : ℕ), sz g e ≤ (x 0).val → (x 0).val < sz g (e + 1) → hOK fx fw f3 e x (h x)⌝
              ∗ ptU c A4 (yCan h) ∗ ptU c A5 (ysCan h))
          ∗ Scr c ∗ ptU c A1 fx ∗ ptU c A2 fw ∗ Sems c ∗ OW c) -∗ Q ⟨⟩)
        -∗ W c (cc0_moe_gate_up A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10) Q) := by
  iintro ⟨H0, H3, H4, H5, HS, H1, H2, HZ, HO⟩ K
  ihave H12 : iprop(Toks c fx fw ∗ pt c A1 Finset.univ (shareDrop fullShare 2) fx ∗ pt c A2 Finset.univ (shareDrop fullShare 6) fw) $$ [H1 H2]
  · iapply (toks_split c fx fw)
    isplitl [H1]
    · iexact H1
    iexact H2
  icases H12 with ⟨HT, HR⟩
  iapply (body_run c fx fw f3 G h0 Q) $$ [H0 H3 H4 H5 HS HT HZ HO]
  · isplitl [H0]
    · iexact H0
    isplitl [H3]
    · iexact H3
    isplitl [H4]
    · iexact H4
    isplitl [H5]
    · iexact H5
    isplitl [HS]
    · iexact HS
    isplitl [HT]
    · iexact HT
    isplitl [HZ]
    · iexact HZ
    iexact HO
  iintro ⟨H0, H3, H45, HS, HT, HZ, HO⟩
  ihave H12 : iprop(ptU c A1 fx ∗ ptU c A2 fw) $$ [HT HR]
  · iapply (toks_join c fx fw)
    isplitl [HT]
    · iexact HT
    iexact HR
  icases H12 with ⟨H1, H2⟩
  iapply K
  isplitl [H0]
  · iexact H0
  isplitl [H3]
  · iexact H3
  isplitl [H45]
  · iexact H45
  isplitl [HS]
  · iexact HS
  isplitl [H1]
  · iexact H1
  isplitl [H2]
  · iexact H2
  isplitl [HZ]
  · iexact HZ
  iexact HO

/-! ## The launch's facts at this algebra -/

variable (m : (ℓ : Loc nD τ sig) → Buf (Elt F) ℓ) (ρ : Dev nD → PrngReg)

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's own semaphores. -/
abbrev osem0 : Fin 7 → SemLoc sig := fun j => (![SemLoc.dma 3, SemLoc.dma 4, SemLoc.dma 5, SemLoc.dma 6, SemLoc.dma 7, SemLoc.dma 8, SemLoc.dma 9] : Fin 7 → SemLoc sig) j
theorem ownSemFacts0 : Pipeline.OwnSemFacts spec0 osem0 := by decide
theorem ownSems0_sems (c : Dev nD) :
    (Pipeline.ownSems0 (Ix := Unit) (Name := ℕ) (U := Pipeline.UD sig nD τ) (Lvl := ℕ) (Val := Elt F) (τ := τ) osem0 c : sProp 𝕄) = Sems c := by
  rw [Pipeline.ownSems0_eq_of_list c osem0 [0, 1, 2, 3, 4, 5, 6] (by decide) (by decide)]; rfl
/-- The inputs the body copies, and the result it copies out. -/
def H0 : Finset (Ref sig .tc) := {main_arg0, main_arg2}
def R0 : Finset (Ref sig .tc) := {main_v0_0}
theorem H0_sub : H0 ⊆ Pipeline.restRefs sig spec0 := by decide
theorem R0_sub : R0 ⊆ Pipeline.restRefs sig spec0 \ H0 := by decide
theorem hbm_eq (c : Dev nD) (V : (b : Ref sig .tc) → Buf (Elt F) ((c : Thread nD τ).loc b)) :
    (bigSep H0 (fun b => ((c : Thread nD τ).loc b) ↦{fullShare} V b) : sProp 𝕄) = iprop(ptU c A1 (V main_arg0) ∗ ptU c A2 (V main_arg2)) := by
  rw [BI.bigSep_eq_bigSepL_of_eq [main_arg0, main_arg2] (by decide) (by decide)]; rfl
theorem res_eq (c : Dev nD) (V : (b : Ref sig .tc) → Buf (Elt F) ((c : Thread nD τ).loc b)) :
    (bigSep R0 (fun b => ((c : Thread nD τ).loc b) ↦{fullShare} V b) : sProp 𝕄) = ptU c A4 (V main_v0_0) := by
  rw [BI.bigSep_eq_bigSepL_of_eq [main_v0_0] (by decide) (by decide)]; rfl
theorem owned_eq (c : Dev nD) : (Pipeline.owned R0 c : sProp 𝕄) = iprop(∃ f, ptU (F := F) c A4 f) := by
  unfold Pipeline.owned; rw [BI.bigSep_eq_bigSepL_of_eq [main_v0_0] (by decide) (by decide)]; rfl
theorem scr_eq (c : Dev nD) :
    (Pipeline.scopedRest (Ix := Unit) (Name := ℕ) (U := Pipeline.UD sig nD τ) (Lvl := ℕ) (Val := Elt F) spec0 c : sProp 𝕄) = Scr c := by
  rw [scopedRest0_eq]; rfl

/-- The sizes and the scales as the body finds them staged. -/
abbrev f0Of (c : Dev nD) : S13.Idx → Elt F .i32 := iblk m c 0 t0_0
abbrev f3Of (c : Dev nD) : S13x4096.Idx → Elt F .f32 := iblk m c 1 t0_0

theorem bodyAt_eq : bodyAt0 (F := F) t0_0 = cc0_moe_gate_up A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 := rfl

theorem defs₀_row (t : Fin cfg0.N) :
    defs₀ (F := F) .tc cfg0.body (cfg0.bodyArgs t (cfg0.slots t)) = bodyAt0 t := by
  unfold defs₀; rw [Defs.onTc_tc]

/-! ## The frame -/

/-- Which windows' contents nothing names: the scale result's. -/
def fgt : Fin 3 → Bool := ![false, false, true]

def datsF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ _ := Pipeline.ΦDR osem0 spec0 H0 R0 (V m) c
  q _ := fullShare
  owed _ := 0

theorem A_eqF (c : Dev nD) (w : Fin cfg0.W) : (datsF m 0 c).A w = V m c (Pipeline.arrRef spec0 w) := by
  dsimp only [datsF]

theorem own0 (c : Dev nD) (X : S13.Idx → Elt F .i32) : (owns (c : Thread nD τ) (st0_0 t0_0) fullShare X : sProp 𝕄) = ptU c A0 X := by
  show owns (c : Thread nD τ) A0 fullShare X = _
  rw [owns_whole]
theorem own1 (c : Dev nD) (X : S13x4096.Idx → Elt F .f32) : (owns (c : Thread nD τ) (st0_1 t0_0) fullShare X : sProp 𝕄) = ptU c A3 X := by
  show owns (c : Thread nD τ) A3 fullShare X = _
  rw [owns_whole]
theorem own2 (c : Dev nD) (X : S1x3072.Idx → Elt F .f32) : (owns (c : Thread nD τ) (st0_2 t0_0) fullShare X : sProp 𝕄) = ptU c A5 X := by
  show owns (c : Thread nD τ) A5 fullShare X = _
  rw [owns_whole]

/-! ## The first two windows are their whole arrays -/

theorem f0_eq (c : Dev nD) : f0Of m c = V m c main_arg1 := by
  funext x
  unfold f0Of iblk
  show V m c main_arg1 _ = _
  congr 1
  funext a
  apply Fin.ext
  fin_cases a
  show 0 * 13 + 1 * (x 0).val = (x 0).val
  omega
theorem f3_eq (c : Dev nD) : f3Of m c = V m c main_arg3 := by
  funext x
  unfold f3Of iblk
  show V m c main_arg3 _ = _
  congr 1
  funext a
  apply Fin.ext
  fin_cases a
  · show 0 * 13 + 1 * (x 0).val = (x 0).val
    omega
  · show 0 * 4096 + 1 * (x 1).val = (x 1).val
    omega
/-! ## The frame -/

theorem sound_bodyF (c : Dev nD) {g : ℕ → ℕ} (G : GOK g) (h0 : ∀ i, f0Of m c i = BitVec.ofNat 32 (g (i 0).val)) :
    iprop(Pipeline.ΦDR osem0 spec0 H0 R0 (V m) c ∗ (datsF m 0 c).owesAt () (Fin.castSucc t0_0)
        ∗ (∃ d, owns (c : Thread nD τ) (st0_0 t0_0) fullShare ((datsF m 0 c).before 0 t0_0 d))
        ∗ (∃ d, owns (c : Thread nD τ) (st0_1 t0_0) fullShare ((datsF m 0 c).before 1 t0_0 d))
        ∗ (∃ X, owns (c : Thread nD τ) (st0_2 t0_0) fullShare X))
      ⊢ wp frame (wpE (defs₀ (F := F)) Variants.none c none) Set.univ (bodyAt0 t0_0) (fun _ =>
        iprop(Pipeline.ΦDR osem0 spec0 H0 R0 (V m) c ∗ (datsF m 0 c).owesAt () (Fin.succ t0_0)
        ∗ owns (c : Thread nD τ) (st0_0 t0_0) fullShare (f0Of m c)
        ∗ owns (c : Thread nD τ) (st0_1 t0_0) fullShare (f3Of m c)
        ∗ (∃ X, owns (c : Thread nD τ) (st0_2 t0_0) fullShare X))) := by
  simp only [before0 m (datsF m 0 c) (A_eqF m c 0) (fun _ => rfl), before1 m (datsF m 0 c) (A_eqF m c 1) (fun _ => rfl)]
  simp only [own0, own1, own2]
  rw [bodyAt_eq, Pipeline.ΦDR_eq, scr_eq, ownSems0_sems, hbm_eq c (V m c), owned_eq]
  unfold Dat.owesAt Pipeline.owesWithin
  rw [show (datsF m 0 c).owed (Fin.castSucc t0_0) = 0 from rfl, show (datsF m 0 c).owed (Fin.succ t0_0) = 0 from rfl]
  iintro ⟨⟨HS, HP, HZ, ⟨H1, H2⟩, H4⟩, ⟨%Wd, -, HW⟩, ⟨%d0, H0⟩, ⟨%d3, H3⟩, H5⟩
  iapply (body_whole c (f0Of m c) (V m c main_arg0) (V m c main_arg2) (f3Of m c) G h0) $$ [HS HZ H1 H2 H4 HW H0 H3 H5]
  · isplitl [H0]
    · iexact H0
    isplitl [H3]
    · iexact H3
    isplitl [H4]
    · iexact H4
    isplitl [H5]
    · iexact H5
    isplitl [HS]
    · iexact HS
    isplitl [H1]
    · iexact H1
    isplitl [H2]
    · iexact H2
    isplitl [HZ]
    · iexact HZ
    unfold OW
    iexists Wd
    iexact HW
  iintro ⟨H0, H3, ⟨%h, -, H4, H5⟩, HS, H1, H2, HZ, HO⟩
  unfold OW
  icases HO with ⟨%W', HW⟩
  isplitl [HS HP HZ H1 H2 H4]
  · isplitl [HS]
    · iexact HS
    isplitl [HP]
    · iexact HP
    isplitl [HZ]
    · iexact HZ
    isplitl [H1 H2]
    · isplitl [H1]
      · iexact H1
      iexact H2
    iexists _
    iexact H4
  isplitl [HW]
  · iexists W'; isplitr; · ipureintro; exact fun _ _ => Or.inl trivial
    iexact HW
  isplitl [H0]
  · iexact H0
  isplitl [H3]
  · iexact H3
  iexists _
  iexact H5

theorem body_obligationF (c : Dev nD) {g : ℕ → ℕ} (G : GOK g) (h0 : ∀ i, f0Of m c i = BitVec.ofNat 32 (g (i 0).val)) :
    BodyObligation (datsF (F := F) m 0 c) (defs₀ (F := F)) Variants.none () Set.univ fgt := fun t => by
  rw [fin_N0 t, bigSep_W0, bigSep_W0, defs₀_row]
  exact triple_restated (sound_bodyF m c G h0) rfl .rfl fun _ => .rfl

set_option backward.isDefEq.respectTransparency.types false in
theorem run_mainF {g : Dev nD → ℕ → ℕ} (G : ∀ c, GOK (g c)) (h0 : ∀ c i, f0Of m c i = BitVec.ofNat 32 (g c (i 0).val)) :
    θ_run defs (onTc (τ := τ) (main (F := F))) (s₀ m ρ) (fun r => Pipeline.RDat.FramePostR (cfgs 0) (fun c => (datsF m 0 c).toRForget fgt) (R0 ∪ {main_v1}) (V m) r ∧ r.2.sem = fun _ => 0) :=
  Pipeline.θ_run_frame_dmaR_around_T_forget (Q' := _) cfgs (datsF m) (0 : Fin 1) launch0 osem0 defs₀ Variants.none fgt ownSemFacts0 H0 R0 {main_v1} H0_sub R0_sub m ρ main
    (hbody := fun c => (body_obligationF m c (G c) (h0 c)).loose) (hshare := fun c => (datsF m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      by_contra hne
      exact StableHlo.devRef_ne_of_ne (fun h => hne (Finset.mem_singleton.mpr h)) hb)
    (hmain := hmainD m Variants.none) (hA := A_eqF m)
    (hin := fun _ => .rfl) (hout := fun _ => .rfl) (hQ' := fun _ h => h)

theorem rest_main_arg0 : main_arg0 ∈ Pipeline.restRefs sig spec0 \ (R0 ∪ {main_v1}) := by decide
theorem rest_main_arg2 : main_arg2 ∈ Pipeline.restRefs sig spec0 \ (R0 ∪ {main_v1}) := by decide

/-- THE FRAME: from sizes that fill the rows the program runs to an end without a fault, its four argument arrays end
    unchanged, and every semaphore ends at zero. -/
theorem frameK {g : Dev nD → ℕ → ℕ} (G : ∀ c, GOK (g c)) (h0 : ∀ c i, f0Of m c i = BitVec.ofNat 32 (g c (i 0).val)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).2 main_arg0 (rest_main_arg0),
      Pipeline.RDat.FramePostR.arr_in (cfg₁ := cfgs 0) h.1 c 0 rfl,
      (h.1 c).2 main_arg2 (rest_main_arg2),
      Pipeline.RDat.FramePostR.arr_in (cfg₁ := cfgs 0) h.1 c 1 rfl⟩, h.2⟩) (run_mainF m ρ G h0)

end Cert.Kernel.Hand
-- ==== Proof.LaunchV.lean ====
/-
  The run with both results named: whenever the body's values are determined, the program ends with the codes in its first
  result and the scales, as one column, in its second.
-/
module

public import proofs.«01_k».proof.Proof.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation BodyObligationLoose cellOf)
open Cert.Words

variable {F : FTy → Type} [FloatOps F] [Facts]

local notation "𝕄" => MT nD τ sig Unit (Elt F) ℕ (Pipeline.UD sig nD τ) ℕ

variable (m : (ℓ : Loc nD τ sig) → Buf (Elt F) ℓ) (ρ : Dev nD → PrngReg)

/-! ## The third window is its whole array -/

theorem read2 (f : S1x3072.Idx → Elt F .f32) : ((cfg0.win 2).blk t0_0).view.read (Elt F) f = f := by
  funext (x : S1x3072.Idx)
  show f _ = _
  congr 1
  funext a
  apply Fin.ext
  fin_cases a
  · show 0 * 1 + 1 * (x 0).val = (x 0).val
    omega
  · show 0 * 3072 + 1 * (x 1).val = (x 1).val
    omega
theorem cut2 (f : S1x3072.Idx → Elt F .f32) : (cfg0.win 2).cut (grid0.coords t0_0) f = f := rfl
theorem mem2 (i : S1x3072.Idx) : i ∈ ((cfg0.win 2).blk t0_0).view.set := by
  refine Finset.mem_map.mpr ⟨i, Finset.mem_univ _, ?_⟩
  funext a
  apply Fin.ext
  fin_cases a
  · show 0 * 1 + 1 * (i 0).val = (i 0).val
    omega
  · show 0 * 3072 + 1 * (i 1).val = (i 1).val
    omega

/-! ## The run -/

variable (Y : Dev nD → S3072x2048.Idx → Elt F .fp8e4m3) (YS : Dev nD → S1x3072.Idx → Elt F .f32)

/-- The buffers' contents once the body has run: the first result holds the codes. -/
def GV (c : Dev nD) : (b : Ref sig .tc) → Buf (Elt F) ((c : Thread nD τ).loc b) := Function.update (V m c) main_v0_0 (Y c)

theorem GV_res (c : Dev nD) : GV m Y c main_v0_0 = Y c := by
  unfold GV; rw [Function.update_self]

def PhiV (c : Dev nD) (n : ℕ) : sProp 𝕄 := match n with
  | 0 => Pipeline.ΦDRV osem0 spec0 H0 R0 (V m) (V m) c
  | _ + 1 => Pipeline.ΦDRV osem0 spec0 H0 R0 (V m) (GV m Y) c

def datsV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => YS c
  Φ t := PhiV m Y c t.val
  q _ := fullShare
  owed _ := 0

theorem A_eqV (c : Dev nD) (w : Fin cfg0.W) : (datsV m Y YS 0 c).A w = V m c (Pipeline.arrRef spec0 w) := by
  dsimp only [datsV]

theorem sound_bodyV (c : Dev nD) {g : ℕ → ℕ} (G : GOK g) (h0 : ∀ i, f0Of m c i = BitVec.ofNat 32 (g (i 0).val))
    (hd : ∀ h : S3072x2048.Idx → Elt F .f32, (∀ (x : S3072x2048.Idx) (e : ℕ), sz g e ≤ (x 0).val → (x 0).val < sz g (e + 1) →
        hOK (V m c main_arg0) (V m c main_arg2) (f3Of m c) e x (h x)) → yCan h = Y c ∧ ysCan h = YS c) :
    iprop(Pipeline.ΦDRV osem0 spec0 H0 R0 (V m) (V m) c ∗ (datsV m Y YS 0 c).owesAt () (Fin.castSucc t0_0)
        ∗ (∃ d, owns (c : Thread nD τ) (st0_0 t0_0) fullShare ((datsV m Y YS 0 c).before 0 t0_0 d))
        ∗ (∃ d, owns (c : Thread nD τ) (st0_1 t0_0) fullShare ((datsV m Y YS 0 c).before 1 t0_0 d))
        ∗ (∃ d, owns (c : Thread nD τ) (st0_2 t0_0) fullShare ((datsV m Y YS 0 c).before 2 t0_0 d)))
      ⊢ wp frame (wpE (defs₀ (F := F)) Variants.none c none) Set.univ (bodyAt0 t0_0) (fun _ =>
        iprop(Pipeline.ΦDRV osem0 spec0 H0 R0 (V m) (GV m Y) c ∗ (datsV m Y YS 0 c).owesAt () (Fin.succ t0_0)
        ∗ owns (c : Thread nD τ) (st0_0 t0_0) fullShare (f0Of m c)
        ∗ owns (c : Thread nD τ) (st0_1 t0_0) fullShare (f3Of m c)
        ∗ owns (c : Thread nD τ) (st0_2 t0_0) fullShare (YS c))) := by
  simp only [before0 m (datsV m Y YS 0 c) (A_eqV m Y YS c 0) (fun _ => rfl), before1 m (datsV m Y YS 0 c) (A_eqV m Y YS c 1) (fun _ => rfl)]
  have e5 : ∀ d, (owns (c : Thread nD τ) (st0_2 t0_0) fullShare ((datsV m Y YS 0 c).before 2 t0_0 d) : sProp 𝕄)
      = ptU c A5 ((datsV m Y YS 0 c).before 2 t0_0 d) := fun d => own2 c _
  simp only [own0, own1, own2, e5]
  unfold Pipeline.ΦDRV
  rw [bodyAt_eq, scr_eq, ownSems0_sems, hbm_eq c (V m c), res_eq c (V m c), res_eq c (GV m Y c), GV_res]
  unfold Dat.owesAt Pipeline.owesWithin
  rw [show (datsV m Y YS 0 c).owed (Fin.castSucc t0_0) = 0 from rfl, show (datsV m Y YS 0 c).owed (Fin.succ t0_0) = 0 from rfl]
  iintro ⟨⟨HS, HZ, ⟨H1, H2⟩, H4⟩, ⟨%Wd, -, HW⟩, ⟨%d0, H0⟩, ⟨%d3, H3⟩, ⟨%d5, H5⟩⟩
  iapply (body_whole c (f0Of m c) (V m c main_arg0) (V m c main_arg2) (f3Of m c) G h0) $$ [HS HZ H1 H2 H4 HW H0 H3 H5]
  · isplitl [H0]
    · iexact H0
    isplitl [H3]
    · iexact H3
    isplitl [H4]
    · iexists _
      iexact H4
    isplitl [H5]
    · iexists _
      iexact H5
    isplitl [HS]
    · iexact HS
    isplitl [H1]
    · iexact H1
    isplitl [H2]
    · iexact H2
    isplitl [HZ]
    · iexact HZ
    unfold OW
    iexists Wd
    iexact HW
  iintro ⟨H0, H3, ⟨%h, %hh, H4, H5⟩, HS, H1, H2, HZ, HO⟩
  unfold OW
  icases HO with ⟨%W', HW⟩
  have hd' := hd h hh
  rw [← hd'.1, ← hd'.2]
  isplitl [HS HZ H1 H2 H4]
  · isplitl [HS]
    · iexact HS
    isplitl [HZ]
    · iexact HZ
    isplitl [H1 H2]
    · isplitl [H1]
      · iexact H1
      iexact H2
    iexact H4
  isplitl [HW]
  · iexists W'; isplitr; · ipureintro; exact fun _ _ => Or.inl trivial
    iexact HW
  isplitl [H0]
  · iexact H0
  isplitl [H3]
  · iexact H3
  iexact H5

theorem body_obligationV (c : Dev nD) {g : ℕ → ℕ} (G : GOK g) (h0 : ∀ i, f0Of m c i = BitVec.ofNat 32 (g (i 0).val))
    (hd : ∀ h : S3072x2048.Idx → Elt F .f32, (∀ (x : S3072x2048.Idx) (e : ℕ), sz g e ≤ (x 0).val → (x 0).val < sz g (e + 1) →
        hOK (V m c main_arg0) (V m c main_arg2) (f3Of m c) e x (h x)) → yCan h = Y c ∧ ysCan h = YS c) :
    BodyObligation (datsV m Y YS 0 c) (defs₀ (F := F)) Variants.none () Set.univ := fun t => by
  rw [fin_N0 t, bigSep_W0, bigSep_W0, defs₀_row]
  exact triple_restated (sound_bodyV m Y YS c G h0 hd) rfl .rfl fun _ => .rfl

theorem arr2 (c : Dev nD) : (datsV m Y YS 0 c).arrAt 2 cfg0.N = YS c := by
  funext (i : S1x3072.Idx)
  refine (datsV m Y YS 0 c).arrAt_apply_of_mem 2 (YS c) (fun t ht => ?_) cfg0.N t0_0 i t0_0.isLt (flush0_2 t0_0) (mem2 i)
  rw [fin_N0 t]
  exact (cut2 (YS c)).trans (read2 (YS c)).symm

theorem arr_inj : Function.Injective (Pipeline.arrRef spec0) := by decide
theorem rest_v0 : main_v0_0 ∈ Pipeline.restRefs sig spec0 := by decide
theorem rest_v1 : main_v1 ∈ Pipeline.restRefs sig spec0 := by decide
theorem rest_a0 : main_arg0 ∈ Pipeline.restRefs sig spec0 := by decide
theorem rest_a2 : main_arg2 ∈ Pipeline.restRefs sig spec0 := by decide
theorem mem_R0 : main_v0_0 ∈ R0 := by decide
theorem nmem_a0 : main_arg0 ∉ R0 := by decide
theorem nmem_a2 : main_arg2 ∉ R0 := by decide
theorem ne_v0 : ∀ w, Pipeline.arrRef spec0 w ≠ main_v0_0 := by decide
theorem ne_a0 : ∀ w, Pipeline.arrRef spec0 w ≠ main_arg0 := by decide
theorem ne_a2 : ∀ w, Pipeline.arrRef spec0 w ≠ main_arg2 := by decide

theorem after_ne (U : Valuation τ sig (Elt F)) {b : Ref sig .tc} (h : b ≠ main_v1) :
    StableHlo.after (List.flatten [hostOps1]) U (Proc.devRef .tc b) = U (Proc.devRef .tc b) := by
  show StableHlo.after hostOps1 U (Proc.devRef .tc b) = _
  unfold hostOps1
  rw [StableHlo.after_cons, StableHlo.after_nil]
  exact StableHlo.reshape_result_ne _ _ _ _ _ _ _ h

theorem after_v1 (U : Valuation τ sig (Elt F)) :
    StableHlo.after (List.flatten [hostOps1]) U (Proc.devRef .tc main_v1) = shapeCast S3072x1 (U (Proc.devRef .tc main_v0_1)) shapeCasts_S1x3072_S3072x1 := by
  show StableHlo.after hostOps1 U (Proc.devRef .tc main_v1) = _
  unfold hostOps1
  rw [StableHlo.after_cons, StableHlo.after_nil]
  exact StableHlo.reshape_result _ _ _ _ _ _ _

set_option backward.isDefEq.respectTransparency.types false in
/-- THE RUN: from sizes that fill the rows, and where the rows' values determine the codes `Y` and the scales `YS`, the
    program ends with `Y` and the column of `YS` as its results and its arguments unchanged. -/
theorem run_mainV {g : Dev nD → ℕ → ℕ} (G : ∀ c, GOK (g c)) (h0 : ∀ c i, f0Of m c i = BitVec.ofNat 32 (g c (i 0).val))
    (hd : ∀ c, ∀ h : S3072x2048.Idx → Elt F .f32, (∀ (x : S3072x2048.Idx) (e : ℕ), sz (g c) e ≤ (x 0).val → (x 0).val < sz (g c) (e + 1) →
        hOK (V m c main_arg0) (V m c main_arg2) (f3Of m c) e x (h x)) → yCan h = Y c ∧ ysCan h = YS c) :
    θ_run defs (onTc (τ := τ) (main (F := F))) (s₀ m ρ) (fun r => ∀ c : Dev nD,
      r.2.mem ((c.tc : Thread nD τ).loc main_v0_0) = Y c
      ∧ r.2.mem ((c.tc : Thread nD τ).loc main_v1) = shapeCast S3072x1 (YS c) shapeCasts_S1x3072_S3072x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_dmaR_aroundV (Q' := _) cfgs (datsV m Y YS) (0 : Fin 1) launch0 osem0 defs₀ Variants.none ownSemFacts0 H0 R0 H0_sub R0_sub m ρ main
    (hbody := fun c => (body_obligationV m Y YS c (G c) (h0 c) (hd c)).loose) (hshare := fun c => (datsV m Y YS 0 c).share_full fun _ => rfl)
    (howed := fun _ _ => rfl) (V₀ := V0 m) (opss := [hostOps1]) (hsub := sfx_sub) (hfresh := sfx_fresh) (hkeep := sfx_keeps) (G := GV m Y)
    (hmain := hmainD m Variants.none) (hA := A_eqV m Y YS)
    (hin := fun _ => .rfl) (hout := fun _ => .rfl)
    (hQ' := fun r h c => by
      obtain ⟨ha, hb⟩ := h.1 c
      refine ⟨?_, ?_, ?_, ?_, ?_, ?_⟩
      · rw [hb main_v0_0 rest_v0, after_ne _ (by decide), Pipeline.withArrays_of_ne _ _ _ _ _ ne_v0,
          Pipeline.withR_of_mem _ R0 _ _ main_v0_0 mem_R0, GV_res]
      · rw [hb main_v1 rest_v1, after_v1]
        congr 1
        exact (Pipeline.withArrays_arr _ arr_inj c _ _ 2).trans (arr2 m Y YS c)
      · rw [hb main_arg0 rest_a0, after_ne _ (by decide), Pipeline.withArrays_of_ne _ _ _ _ _ ne_a0,
          Pipeline.withR_of_not_mem _ R0 _ _ main_arg0 nmem_a0]
        rfl
      · exact (ha 0).trans ((datsV m Y YS 0 c).arrAt_in 0 rfl _)
      · rw [hb main_arg2 rest_a2, after_ne _ (by decide), Pipeline.withArrays_of_ne _ _ _ _ _ ne_a2,
          Pipeline.withR_of_not_mem _ R0 _ _ main_arg2 nmem_a2]
        rfl
      · exact (ha 1).trans ((datsV m Y YS 0 c).arrAt_in 1 rfl _))

end Cert.KernelIdeal.Hand
-- ==== Proof.Scale.lean ====
/-
  The power-of-two scale of a row, on the extended reals: the kernel's search for the exponent, bit by bit from the top, and the
  reference's minimum over the powers of two above the value give the same number, and the kernel's second word is its inverse.
-/
module

public import Idealize.ShloMosaic.Lib.WordCmp
public import Idealize.ShloMosaic.Lib.MatmulPlain
public import Idealize.ShloMosaic.Lib.Pointwise.Reduce
public import Idealize.ShloMosaic.PureOps.Ideal

@[expose] public section

noncomputable section

namespace Cert.Scale

open Idealize.ShloMosaic

/-- The number whose 32-bit pattern has `b` in the exponent field. -/
def T (b : BitVec 32) : EReal := Ideal.ofBits .f32 (IntOp.shli .vector b 23#32)

/-- One step of the search: set the bit `k` if the value is at least the number so described. -/
def step (y : EReal) (b k : BitVec 32) : BitVec 32 := Scalar.select (Ideal.cmp .oge y (T (IntOp.addi b k))) (IntOp.addi b k) b

/-- The first four steps. -/
def ladA (y : EReal) : BitVec 32 := step y (step y (step y (step y 0#32 128#32) 64#32) 32#32) 16#32

/-- The last four steps. -/
def ladB (y : EReal) (b : BitVec 32) : BitVec 32 := step y (step y (step y (step y b 8#32) 4#32) 2#32) 1#32

/-- The exponent from the biased one: zero when that is none of a normal number in range. -/
def fin (y : EReal) (b : BitVec 32) : BitVec 32 :=
  let b' := Scalar.select (Ideal.cmp .oge y (Ideal.ofBits .f32 0x7E800000#32)) 255#32 b
  Scalar.select (IntOp.ori (IntOp.cmpi .eq b' 0#32) (IntOp.cmpi .eq b' 255#32)) 0#32 (IntOp.subi b' 126#32)

/-- The kernel's exponent. -/
def kExp (y : EReal) : BitVec 32 := fin y (ladB y (ladA y))

/-- The kernel's scale. -/
def kSc (y : EReal) : EReal := T (IntOp.addi (kExp y) 127#32)

/-- The kernel's inverse scale. -/
def kInv (y : EReal) : EReal := T (IntOp.subi 127#32 (kExp y))

/-- The `i`-th power of two the reference looks at. -/
def L (i : Fin 256) : EReal := Ideal.exp2 (((IntOp.subi (BitVec.ofNat 32 i.val) 126#32).toInt : ℝ) : EReal)

/-- The reference's scale. -/
def rSc (y : EReal) : EReal :=
  Scalar.select (IntOp.andi (Ideal.cmp .oge y (Ideal.ofBits .f32 0x00800000#32)) (Ideal.cmp .olt y (Ideal.ofBits .f32 0x7E800000#32)))
    ((Finset.univ : Finset (Fin 256)).fold min ⊤ fun i => Scalar.select (Ideal.cmp .ogt (L i) y) (L i) (Ideal.ofBits .f32 0x7F800000#32))
    (Ideal.ofBits .f32 0x3F800000#32)

theorem fields : ∀ c : Fin 256, ((IntOp.shli .vector (BitVec.ofNat 32 c.val) 23#32).extractLsb' 31 1 == 1#1) = false
    ∧ ((IntOp.shli .vector (BitVec.ofNat 32 c.val) 23#32).extractLsb' 23 8).toNat = c.val
    ∧ ((IntOp.shli .vector (BitVec.ofNat 32 c.val) 23#32).extractLsb' 0 23).toNat = 0 := by
  decide +kernel

/-- The number of biased exponent `c`. -/
theorem T_val {c : ℕ} (h1 : 1 ≤ c) (h2 : c ≤ 254) : T (BitVec.ofNat 32 c) = (((2 : ℝ) ^ ((c : ℤ) - 127) : ℝ) : EReal) := by
  obtain ⟨a, b, d⟩ := fields ⟨c, by omega⟩
  simp only at a b d
  unfold T
  generalize IntOp.shli .vector (BitVec.ofNat 32 c) 23#32 = w at a b d ⊢
  show Ideal.ieee 8 23 w = _
  unfold Ideal.ieee
  rw [a, b, d]
  simp only [Nat.reducePow, Nat.reduceSub, Bool.false_eq_true, if_false]
  rw [if_neg (by omega), if_neg (by omega), one_mul, show ((c : ℤ) - 127) = 23 + ((c : ℤ) - (2 ^ 7 - 1) - ((23 : ℕ) : ℤ)) by norm_num,
    zpow_add₀ (by norm_num)]
  norm_num

theorem lanes : ∀ i : Fin 256, (IntOp.subi (BitVec.ofNat 32 i.val) 126#32).toInt = (i.val : ℤ) - 126 := by decide +kernel

theorem L_val (i : Fin 256) : L i = (((2 : ℝ) ^ ((i.val : ℤ) - 126) : ℝ) : EReal) := by
  unfold L
  rw [lanes, Ideal.exp2_coe]
  congr 1
  exact Real.rpow_intCast 2 _

theorem c_lo : Ideal.ofBits .f32 0x00800000#32 = (((2 : ℝ) ^ (-126 : ℤ) : ℝ) : EReal) := by
  have h := T_val (c := 1) (by omega) (by omega)
  rw [show ((1 : ℕ) : ℤ) - 127 = -126 by norm_num] at h
  exact h

theorem c_hi : Ideal.ofBits .f32 0x7E800000#32 = (((2 : ℝ) ^ (126 : ℤ) : ℝ) : EReal) := by
  have h := T_val (c := 253) (by omega) (by omega)
  rw [show ((253 : ℕ) : ℤ) - 127 = 126 by norm_num] at h
  exact h

theorem c_one : Ideal.ofBits .f32 0x3F800000#32 = 1 := by
  have h := T_val (c := 127) (by omega) (by omega)
  rw [show ((127 : ℕ) : ℤ) - 127 = 0 by norm_num, zpow_zero] at h
  exact h

theorem c_top : Ideal.ofBits .f32 0x7F800000#32 = ⊤ := by simp [Ideal.ofBits, Ideal.ieee]

theorem c_bot : Ideal.ofBits .f32 0xFF800000#32 = ⊥ := by simp [Ideal.ofBits, Ideal.ieee]

theorem c_zero : Ideal.ofBits .f32 0x00000000#32 = 0 := by simp [Ideal.ofBits, Ideal.ieee]

theorem sel_true {α : Type} {c : BitVec 1} (h : c = 1#1) (a b : α) : Scalar.select c a b = a := by
  unfold Scalar.select; exact if_pos h

theorem sel_false {α : Type} {c : BitVec 1} (h : c ≠ 1#1) (a b : α) : Scalar.select c a b = b := by
  unfold Scalar.select; exact if_neg h

theorem oge_iff (x y : EReal) : Ideal.cmp .oge x y = 1#1 ↔ y ≤ x := by
  unfold Ideal.cmp; by_cases h : y ≤ x <;> simp [h]

theorem ogt_iff (x y : EReal) : Ideal.cmp .ogt x y = 1#1 ↔ y < x := by
  unfold Ideal.cmp; by_cases h : y < x <;> simp [h]

theorem olt_iff (x y : EReal) : Ideal.cmp .olt x y = 1#1 ↔ x < y := by
  unfold Ideal.cmp; by_cases h : x < y <;> simp [h]

theorem and_iff (a b : BitVec 1) : IntOp.andi a b = 1#1 ↔ a = 1#1 ∧ b = 1#1 := by
  revert a b; decide

theorem or_iff (a b : BitVec 1) : IntOp.ori a b = 1#1 ↔ a = 1#1 ∨ b = 1#1 := by
  revert a b; decide

theorem eq_iff (a b : BitVec 32) : IntOp.cmpi .eq a b = 1#1 ↔ a = b := by
  show BitVec.ofBool (a == b) = 1#1 ↔ a = b
  by_cases h : a = b
  · subst h; simp
  · have : (a == b) = false := by simpa using h
    rw [this]; simp [h]

/-- What holds between the steps: `b` is zero or its number is at most the value, and the number of `b + w` is above it. -/
def Inv (y : EReal) (b w : ℕ) : Prop :=
  b + w ≤ 256 ∧ (b = 0 ∨ T (BitVec.ofNat 32 b) ≤ y) ∧ (b + w = 256 ∨ ¬ T (BitVec.ofNat 32 (b + w)) ≤ y)

theorem Inv_step {y : EReal} {b w k : ℕ} (h : Inv y b w) (e : w = k + k) :
    ∃ b', step y (BitVec.ofNat 32 b) (BitVec.ofNat 32 k) = BitVec.ofNat 32 b' ∧ Inv y b' k := by
  obtain ⟨h1, h2, h3⟩ := h
  have ea : IntOp.addi (BitVec.ofNat 32 b) (BitVec.ofNat 32 k) = BitVec.ofNat 32 (b + k) := (BitVec.ofNat_add b k).symm
  unfold step
  rw [ea]
  by_cases c : T (BitVec.ofNat 32 (b + k)) ≤ y
  · refine ⟨b + k, sel_true ((oge_iff _ _).2 c) _ _, ?_, Or.inr c, ?_⟩
    · omega
    · rw [show b + k + k = b + w by omega]; exact h3
  · refine ⟨b, sel_false (fun h => c ((oge_iff _ _).1 h)) _ _, by omega, h2, Or.inr c⟩

/-- The search ends at a `b` with the value between the numbers of `b` and `b + 1`. -/
theorem lad_inv (y : EReal) : ∃ b, ladB y (ladA y) = BitVec.ofNat 32 b ∧ Inv y b 1 := by
  have h0 : Inv y 0 256 := ⟨by omega, Or.inl rfl, Or.inl rfl⟩
  obtain ⟨b1, e1, i1⟩ := Inv_step h0 (k := 128) rfl
  obtain ⟨b2, e2, i2⟩ := Inv_step i1 (k := 64) rfl
  obtain ⟨b3, e3, i3⟩ := Inv_step i2 (k := 32) rfl
  obtain ⟨b4, e4, i4⟩ := Inv_step i3 (k := 16) rfl
  obtain ⟨b5, e5, i5⟩ := Inv_step i4 (k := 8) rfl
  obtain ⟨b6, e6, i6⟩ := Inv_step i5 (k := 4) rfl
  obtain ⟨b7, e7, i7⟩ := Inv_step i6 (k := 2) rfl
  obtain ⟨b8, e8, i8⟩ := Inv_step i7 (k := 1) rfl
  refine ⟨b8, ?_, i8⟩
  unfold ladB ladA
  rw [e1, e2, e3, e4, e5, e6, e7, e8]

theorem zpow_le {a b : ℤ} (h : a ≤ b) : (((2 : ℝ) ^ a : ℝ) : EReal) ≤ (((2 : ℝ) ^ b : ℝ) : EReal) :=
  EReal.coe_le_coe_iff.2 (zpow_le_zpow_right₀ (by norm_num) h)

/-- Either the value is out of the range and the exponent zero, or it lies in the binade the exponent names. -/
theorem kExp_cases (y : EReal) :
    (kExp y = 0#32 ∧ ¬ ((((2 : ℝ) ^ (-126 : ℤ) : ℝ) : EReal) ≤ y ∧ y < (((2 : ℝ) ^ (126 : ℤ) : ℝ) : EReal)))
    ∨ ∃ k : ℕ, 1 ≤ k ∧ k ≤ 252 ∧ (((2 : ℝ) ^ ((k : ℤ) - 127) : ℝ) : EReal) ≤ y ∧ y < (((2 : ℝ) ^ ((k : ℤ) - 126) : ℝ) : EReal)
      ∧ kExp y = IntOp.subi (BitVec.ofNat 32 k) 126#32 := by
  obtain ⟨b, e, i1, i2, i3⟩ := lad_inv y
  unfold kExp fin
  rw [e, c_hi]
  simp only
  by_cases hh : (((2 : ℝ) ^ (126 : ℤ) : ℝ) : EReal) ≤ y
  · left
    rw [sel_true ((oge_iff _ _).2 hh)]
    exact ⟨by decide, fun h => absurd h.2 (not_lt.2 hh)⟩
  · rw [sel_false (fun h => hh ((oge_iff _ _).1 h))]
    have hb : b ≤ 252 := by
      by_contra hc
      rcases i2 with i2 | i2
      · omega
      by_cases hb5 : b = 255
      · subst hb5
        have : T (BitVec.ofNat 32 255) = ⊤ := c_top
        rw [this, top_le_iff] at i2
        exact hh (i2 ▸ le_top)
      · rw [T_val (by omega) (by omega)] at i2
        exact hh (le_trans (zpow_le (by omega)) i2)
    have i3' : ¬ T (BitVec.ofNat 32 (b + 1)) ≤ y := by
      rcases i3 with i3 | i3
      · omega
      · exact i3
    rw [T_val (by omega) (by omega)] at i3'
    by_cases hb0 : b = 0
    · left
      subst hb0
      refine ⟨by decide, fun h => i3' ?_⟩
      exact h.1
    · right
      rcases i2 with i2 | i2
      · exact absurd i2 hb0
      rw [T_val (by omega) (by omega)] at i2
      refine ⟨b, by omega, hb, i2, ?_, ?_⟩
      · have := not_le.1 i3'
        rwa [show (((b + 1 : ℕ) : ℤ) - 127) = (b : ℤ) - 126 by push_cast; ring] at this
      · rw [sel_false]
        intro h
        rcases (or_iff _ _).1 h with h | h
        · have := congrArg BitVec.toNat ((eq_iff _ _).1 h)
          simp only [BitVec.toNat_ofNat] at this; omega
        · have := congrArg BitVec.toNat ((eq_iff _ _).1 h)
          simp only [BitVec.toNat_ofNat] at this; omega

theorem up_word : ∀ k : Fin 253, IntOp.addi (IntOp.subi (BitVec.ofNat 32 k.val) 126#32) 127#32 = BitVec.ofNat 32 (k.val + 1) := by decide +kernel

theorem down_word : ∀ k : Fin 253, IntOp.subi 127#32 (IntOp.subi (BitVec.ofNat 32 k.val) 126#32) = BitVec.ofNat 32 (253 - k.val) := by decide +kernel

/-- The least power of two above a value in a binade is the binade's upper end. -/
theorem fold_binade {y : EReal} {k : ℕ} (h1 : 1 ≤ k) (h2 : k ≤ 252) (h3 : (((2 : ℝ) ^ ((k : ℤ) - 127) : ℝ) : EReal) ≤ y)
    (h4 : y < (((2 : ℝ) ^ ((k : ℤ) - 126) : ℝ) : EReal)) :
    ((Finset.univ : Finset (Fin 256)).fold min ⊤ fun i => Scalar.select (Ideal.cmp .ogt (L i) y) (L i) (Ideal.ofBits .f32 0x7F800000#32))
      = (((2 : ℝ) ^ ((k : ℤ) - 126) : ℝ) : EReal) := by
  apply le_antisymm
  · refine (Finset.fold_min_le _).2 (Or.inr ⟨⟨k, by omega⟩, Finset.mem_univ _, ?_⟩)
    rw [sel_true, L_val]
    exact (ogt_iff _ _).2 (by rw [L_val]; exact h4)
  · refine (Finset.le_fold_min _).2 ⟨le_top, fun i _ => ?_⟩
    by_cases hi : y < L i
    · rw [sel_true ((ogt_iff _ _).2 hi)]
      rw [L_val] at hi ⊢
      apply zpow_le
      by_contra hc
      exact absurd (lt_of_le_of_lt h3 hi) (not_lt.2 (zpow_le (by omega)))
    · rw [sel_false (fun h => hi ((ogt_iff _ _).1 h)), c_top]
      exact le_top

/-- The two scales agree. -/
theorem kSc_eq (y : EReal) : kSc y = rSc y := by
  unfold kSc rSc
  rw [c_lo, c_hi]
  rcases kExp_cases y with ⟨e, h⟩ | ⟨k, h1, h2, h3, h4, e⟩
  · rw [e, sel_false]
    · rfl
    · intro hc
      have := (and_iff _ _).1 hc
      exact h ⟨(oge_iff _ _).1 this.1, (olt_iff _ _).1 this.2⟩
  · rw [e, up_word ⟨k, by omega⟩, T_val (by omega) (by omega), sel_true, fold_binade h1 h2 h3 h4]
    · congr 2; push_cast; ring
    · refine (and_iff _ _).2 ⟨(oge_iff _ _).2 (le_trans (zpow_le (by omega)) h3), (olt_iff _ _).2 (lt_of_lt_of_le h4 (zpow_le (by omega)))⟩

/-- The kernel's inverse is one divided by the scale. -/
theorem kInv_eq (y : EReal) : kInv y = Ideal.div (Ideal.ofBits .f32 0x3F800000#32) (rSc y) := by
  rw [← kSc_eq]
  unfold kInv kSc
  rw [c_one]
  rcases kExp_cases y with ⟨e, h⟩ | ⟨k, h1, h2, h3, h4, e⟩
  · rw [e]
    have : T (IntOp.addi 0#32 127#32) = 1 := c_one
    rw [this]
    have : T (IntOp.subi 127#32 0#32) = 1 := c_one
    rw [this]
    unfold Ideal.div
    rw [if_neg one_ne_zero, one_mul]
    exact (EReal.coe_inv 1 ▸ by norm_num : ((1 : ℝ) : EReal) = ((1 : ℝ) : EReal)⁻¹)
  · rw [e, up_word ⟨k, by omega⟩, down_word ⟨k, by omega⟩, T_val (by simp only; omega) (by simp only; omega), T_val (by omega) (by simp only; omega)]
    unfold Ideal.div
    rw [if_neg, one_mul, ← EReal.coe_inv]
    · congr 1
      rw [← zpow_neg]
      congr 1
      simp only
      push_cast [show k ≤ 253 by omega]
      ring
    · rw [← EReal.coe_zero, EReal.coe_eq_coe_iff]
      positivity

/-- The largest absolute value of a row. -/
def amx {n : ℕ} (f : Fin n → EReal) : EReal := (Finset.univ : Finset (Fin n)).fold max ⊥ fun k => max (f k) (-f k)

/-- What the scale is taken of: the largest absolute value over the largest code. -/
def yOf {n : ℕ} (f : Fin n → EReal) : EReal := amx f * Ideal.ofBits .f32 0x3B124925#32

/-- A code: the scaled value, clipped. -/
def clip (v s : EReal) : EReal := min (Ideal.ofBits .f32 0x43E00000#32) (max (Ideal.ofBits .f32 0xC3E00000#32) (v * s))

/-- A row's maximum as a kernel reduces it. -/
theorem rowMax {m n : ℕ} (src : FVec Ideal ⟨2, ![m, n]⟩ .f32) (h : Shape.Reduces ⟨2, ![m, n]⟩ [1] ⟨1, ![m]⟩) (hφ) (hacc) (r : Fin m) :
    multiReduction .maximumf [1] ⟨1, ![m]⟩ src 0xFF800000#32 h hφ hacc (ix1 r) = (Finset.univ : Finset (Fin n)).fold max ⊥ fun k => src (ix2 r k) := by
  refine (multiReduction_maximumf_eq_reduceFold (F := Ideal) src _ h hφ hacc ▸ rfl : _ = reduceFold h max (Ideal.ofBits .f32 0xFF800000#32) src (ix1 r)).trans ?_
  rw [reduceFold_eq_fold, c_bot, Shape.Reduces.fold_fiber_r2_a1]
  rfl

/-- A row's minimum as the reference reduces it. -/
theorem rowMin {m n : ℕ} (src : FVec Ideal ⟨2, ![m, n]⟩ .f32) (h : Shape.Reduces ⟨2, ![m, n]⟩ [1] ⟨1, ![m]⟩) (hφ) (hacc) (r : Fin m) :
    multiReduction .minimumf [1] ⟨1, ![m]⟩ src 0x7F800000#32 h hφ hacc (ix1 r) = (Finset.univ : Finset (Fin n)).fold min ⊤ fun k => src (ix2 r k) := by
  refine (multiReduction_minimumf_eq_reduceFold (F := Ideal) src _ h hφ hacc ▸ rfl : _ = reduceFold h min (Ideal.ofBits .f32 0x7F800000#32) src (ix1 r)).trans ?_
  rw [reduceFold_eq_fold, c_top, Shape.Reduces.fold_fiber_r2_a1]
  rfl

end Cert.Scale

end
-- ==== Proof.Rows.lean ====
/-
  Changes of shape read at one place: a column or a row repeated, a unit axis dropped or added, a slice of columns, and a plain
  product.
-/
module

public import proofs.«01_k».proof.Proof.Scale
public import Idealize.ShloMosaic.Lib.Pipeline.Value

@[expose] public section

noncomputable section

namespace Cert.Scale

open Idealize.ShloMosaic

variable {α : Type} {m n : ℕ}

/-- A column repeated. -/
theorem bcol (x : (⟨2, ![m, 1]⟩ : Shape).Idx → α) (h : Shape.Broadcasts ⟨2, ![m, 1]⟩ ⟨2, ![m, n]⟩) (r : Fin m) (l : Fin n) :
    broadcastTo ⟨2, ![m, n]⟩ x h (ix2 r l) = x (ix2 r 0) := by
  refine broadcastTo_apply x h _ _ fun a => ?_
  fin_cases a
  · show r.val = if m = 1 then 0 else r.val
    split
    · have := r.isLt; omega
    · rfl
  · show 0 = if 1 = 1 then 0 else l.val
    exact (if_pos rfl).symm

/-- A row repeated. -/
theorem brow (x : (⟨2, ![1, n]⟩ : Shape).Idx → α) (h : Shape.Broadcasts ⟨2, ![1, n]⟩ ⟨2, ![m, n]⟩) (r : Fin m) (l : Fin n) :
    broadcastTo ⟨2, ![m, n]⟩ x h (ix2 r l) = x (ix2 0 l) := by
  refine broadcastTo_apply x h _ _ fun a => ?_
  fin_cases a
  · show 0 = if 1 = 1 then 0 else r.val
    exact (if_pos rfl).symm
  · show l.val = if n = 1 then 0 else l.val
    split
    · have := l.isLt; omega
    · rfl

/-- A vector as a column. -/
theorem scol (x : (⟨1, ![m]⟩ : Shape).Idx → α) (h : Shape.ShapeCasts ⟨1, ![m]⟩ ⟨2, ![m, 1]⟩) (r : Fin m) :
    shapeCast ⟨2, ![m, 1]⟩ x h (ix2 r 0) = x (ix1 r) := by
  refine shapeCast_apply x h _ _ ?_
  show (Shape.rowMajorPi ![m] (ix1 r)).val = (Shape.rowMajorPi ![m, 1] (ix2 r 0)).val
  simp [Shape.rowMajorPi_succ_val, Shape.rowMajorPi_zero, ix1, ix2]

/-- A row as a column. -/
theorem rcol (x : (⟨2, ![1, m]⟩ : Shape).Idx → α) (h : Shape.ShapeCasts ⟨2, ![1, m]⟩ ⟨2, ![m, 1]⟩) (r : Fin m) :
    shapeCast ⟨2, ![m, 1]⟩ x h (ix2 r 0) = x (ix2 0 r) := by
  refine shapeCast_apply x h _ _ ?_
  show (Shape.rowMajorPi ![1, m] (ix2 0 r)).val = (Shape.rowMajorPi ![m, 1] (ix2 r 0)).val
  simp [Shape.rowMajorPi_succ_val, Shape.rowMajorPi_zero, ix1, ix2]

/-- One unit axis in front dropped. -/
theorem drop1 (x : (⟨3, ![1, m, n]⟩ : Shape).Idx → α) (h : Shape.ShapeCasts ⟨3, ![1, m, n]⟩ ⟨2, ![m, n]⟩) (r : Fin m) (l : Fin n) :
    shapeCast ⟨2, ![m, n]⟩ x h (ix2 r l) = x (ix3 0 r l) := by
  refine shapeCast_apply x h _ _ ?_
  show (Shape.rowMajorPi ![1, m, n] (ix3 0 r l)).val = (Shape.rowMajorPi ![m, n] (ix2 r l)).val
  simp [Shape.rowMajorPi_succ_val, Shape.rowMajorPi_zero, ix3, ix2]

/-- Two unit axes in front dropped. -/
theorem drop2 (x : (⟨4, ![1, 1, m, n]⟩ : Shape).Idx → α) (h : Shape.ShapeCasts ⟨4, ![1, 1, m, n]⟩ ⟨2, ![m, n]⟩) (r : Fin m) (l : Fin n) :
    shapeCast ⟨2, ![m, n]⟩ x h (ix2 r l) = x (ix4 0 0 r l) := by
  refine shapeCast_apply x h _ _ ?_
  show (Shape.rowMajorPi ![1, 1, m, n] (ix4 0 0 r l)).val = (Shape.rowMajorPi ![m, n] (ix2 r l)).val
  simp [Shape.rowMajorPi_succ_val, Shape.rowMajorPi_zero, ix4, ix2]

/-- A unit axis added in front. -/
theorem add1 (x : (⟨2, ![m, n]⟩ : Shape).Idx → α) (h : Shape.ShapeCasts ⟨2, ![m, n]⟩ ⟨3, ![1, m, n]⟩) (r : Fin m) (l : Fin n) :
    shapeCast ⟨3, ![1, m, n]⟩ x h (ix3 0 r l) = x (ix2 r l) := by
  refine shapeCast_apply x h _ _ ?_
  show (Shape.rowMajorPi ![m, n] (ix2 r l)).val = (Shape.rowMajorPi ![1, m, n] (ix3 0 r l)).val
  simp [Shape.rowMajorPi_succ_val, Shape.rowMajorPi_zero, ix3, ix2]

/-- A slice of columns. -/
theorem scols {k : ℕ} (o : ℕ) (x : (⟨2, ![m, n]⟩ : Shape).Idx → α) (h : Shape.Slices ⟨2, ![m, n]⟩ ![0, o] ⟨2, ![m, k]⟩) (r : Fin m) (l : Fin k) (hl : o + l.val < n) :
    extractStridedSlice ⟨2, ![m, k]⟩ ![0, o] x h (ix2 r l) = x (ix2 r ⟨o + l.val, hl⟩) := by
  refine extractStridedSlice_apply _ x h _ _ fun a => ?_
  fin_cases a
  · show r.val = 0 + r.val
    omega
  · rfl

/-- A product over the common axis, from zero. -/
theorem prod {K : ℕ} {φ₁ φ₂ : FTy} (prec : Option ContractPrecision) (a : FVec Ideal ⟨2, ![m, K]⟩ φ₁) (b : FVec Ideal ⟨2, ![K, n]⟩ φ₂) (r : Fin m) (l : Fin n) :
    FloatOps.matmul (DotDims.plain m K n) prec a b (constant (F := Ideal) ⟨2, ![m, n]⟩ .f32 0x00000000#32) (ix2 r l) = ∑ k : Fin K, a (ix2 r k) * b (ix2 k l) := by
  have e2 : ∀ {p q : ℕ} (i : Fin p) (j : Fin q), ValueIdx.ix2 i j = ix2 i j := fun i j => by
    funext z; fin_cases z <;> rfl
  have h := Ideal.matmul_plain_apply prec a b (constant (F := Ideal) ⟨2, ![m, n]⟩ .f32 0x00000000#32) r l
  simp only [e2] at h
  rw [h]
  have : constant (F := Ideal) ⟨2, ![m, n]⟩ .f32 0x00000000#32 (ix2 r l) = 0 := c_zero
  rw [this, zero_add]

theorem ix2_eta {a b : ℕ} (i : (⟨2, ![a, b]⟩ : Shape).Idx) : i = ix2 (i 0) (i 1) := by
  funext z; fin_cases z <;> rfl

end Cert.Scale

end
-- ==== Proof.Val.lean ====
/-
  The kernel's chunks on the extended reals: the quantiser's scales and codes of a row, of the activations and of the result.
-/
module

public import proofs.«01_k».proof.Proof.Quant
public import proofs.«01_k».proof.Proof.Out
public import proofs.«01_k».proof.Proof.Rows

@[expose] public section

noncomputable section

namespace Cert.KernelIdeal.Hand

open Cert.KernelIdeal Cert.KernelIdeal.Gen
open Idealize.ShloMosaic
open Cert.Scale

/-- The running maximum of the first `n + 1` numbers. -/
def run (a : ℕ → EReal) : ℕ → EReal
  | 0 => a 0
  | n + 1 => max (run a n) (a (n + 1))

theorem run_le_iff (a : ℕ → EReal) (n : ℕ) (c : EReal) : run a n ≤ c ↔ ∀ j ≤ n, a j ≤ c := by
  induction n with
  | zero => exact ⟨fun h j hj => by obtain rfl : j = 0 := by omega
                                    exact h, fun h => h 0 le_rfl⟩
  | succ n ih =>
    show max (run a n) (a (n + 1)) ≤ c ↔ _
    rw [max_le_iff, ih]
    constructor
    · rintro ⟨h1, h2⟩ j hj
      by_cases e : j = n + 1
      · exact e ▸ h2
      · exact h1 j (by omega)
    · exact fun h => ⟨fun j hj => h j (by omega), h _ le_rfl⟩

/-- The absolute value at column `n` of row `r`, at any number `n`. -/
def aAt (w : FVec Ideal S64x7168 .bf16) (r : Fin 64) (n : ℕ) : EReal :=
  max (w (Idealize.ShloMosaic.ix2 r ⟨n % 7168, Nat.mod_lt _ (by decide)⟩)) (-(w (Idealize.ShloMosaic.ix2 r ⟨n % 7168, Nat.mod_lt _ (by decide)⟩)))

theorem slc (w : FVec Ideal S64x7168 .bf16) (o : ℕ) (h : S64x7168.Slices ![0, o] S64x128) (ho : o + 128 ≤ 7168) (r : Fin 64) (l : Fin 128) :
    absf (extractStridedSlice S64x128 ![0, o] w h) (Idealize.ShloMosaic.ix2 r l) = aAt w r (o + l.val) := by
  have hl := l.isLt
  have e := scols (α := EReal) (m := 64) (n := 7168) (k := 128) o w h r l (by omega)
  have e' : (⟨(o + l.val) % 7168, Nat.mod_lt _ (by decide)⟩ : Fin 7168) = ⟨o + l.val, by omega⟩ := Fin.ext (Nat.mod_eq_of_lt (by omega))
  unfold aAt
  rw [e', ← e]
  rfl

theorem maxAt (a b : FVec Ideal S64x128 .bf16) (i : S64x128.Idx) : maximumf a b i = max (a i) (b i) := rfl

/-- The maxima over the 56 groups of 128 columns, lane by lane. -/
theorem lanes_run (w : FVec Ideal S64x7168 .bf16) (v : Vec Ideal S1x64x7168 .bf16) (hv : k0_pay11 v = w) (r : Fin 64) (l : Fin 128) :
    maximumf (maximumf (maximumf (k0_pay16 w (k0_pay14 w (k0_pay12 v) (k0_pay13 v)) (k0_pay15 w)) (k0_pay17 w))
      (absf (extractStridedSlice S64x128 ![0, 6912] w slices_S64x7168_o0_6912_S64x128)))
      (absf (extractStridedSlice S64x128 ![0, 7040] w slices_S64x7168_o0_7040_S64x128)) (Idealize.ShloMosaic.ix2 r l)
    = run (fun j => aAt w r (128 * j + l.val)) 55 := by
  subst hv
  simp only [k0_pay12, k0_pay13, k0_pay14, k0_pay15, k0_pay16, k0_pay17, maxAt]
  iterate 56 rw [slc _ _ _ (by norm_num)]
  simp only [run, Nat.reduceMul]

theorem run_fold (w : FVec Ideal S64x7168 .bf16) (r : Fin 64) :
    ((Finset.univ : Finset (Fin 128)).fold max ⊥ fun l => run (fun j => aAt w r (128 * j + l.val)) 55) = amx fun k : Fin 7168 => w (Idealize.ShloMosaic.ix2 r k) := by
  apply le_antisymm
  · refine (Finset.fold_max_le _).2 ⟨bot_le, fun l _ => (run_le_iff _ _ _).2 fun j _ => ?_⟩
    exact (Finset.le_fold_max _).2 (Or.inr ⟨⟨(128 * j + l.val) % 7168, Nat.mod_lt _ (by decide)⟩, Finset.mem_univ _, le_rfl⟩)
  · refine (Finset.fold_max_le _).2 ⟨bot_le, fun k _ => ?_⟩
    have hk := k.isLt
    refine (Finset.le_fold_max _).2 (Or.inr ⟨⟨k.val % 128, Nat.mod_lt _ (by decide)⟩, Finset.mem_univ _, ?_⟩)
    refine le_trans (le_of_eq ?_) ((run_le_iff _ _ _).1 le_rfl (k.val / 128) (by omega))
    have e : (⟨(128 * (k.val / 128) + k.val % 128) % 7168, Nat.mod_lt _ (by decide)⟩ : Fin 7168) = k := Fin.ext (by show _ % 7168 = k.val; omega)
    show _ = aAt w r (128 * (k.val / 128) + k.val % 128)
    unfold aAt
    rw [e]

/-- What the scale of a row of a chunk is taken of. -/
theorem pay18_at (v : Vec Ideal S1x64x7168 .bf16) (r : Fin 64) :
    k0_pay18 (k0_pay11 v) (k0_pay16 (k0_pay11 v) (k0_pay14 (k0_pay11 v) (k0_pay12 v) (k0_pay13 v)) (k0_pay15 (k0_pay11 v))) (k0_pay17 (k0_pay11 v)) (Idealize.ShloMosaic.ix2 r 0)
      = yOf fun k : Fin 7168 => v (Idealize.ShloMosaic.ix3 0 r k) := by
  unfold k0_pay18 yOf
  simp only
  refine congrArg (· * Ideal.ofBits .f32 0x3B124925#32) ?_
  refine (scol (α := EReal) (m := 64) _ shapeCasts_S64_S64x1 r).trans ?_
  refine (rowMax (m := 64) (n := 128) _ reduces_S64x128_S64 _ _ r).trans ?_
  refine Eq.trans (congrArg (fun f => (Finset.univ : Finset (Fin 128)).fold max ⊥ f) (funext fun l => lanes_run (k0_pay11 v) v rfl r l)) ?_
  rw [run_fold]
  congr 1
  funext k
  exact drop1 (α := EReal) (m := 64) (n := 7168) v shapeCasts_S1x64x7168_S64x7168 r k

/-- A step of the search on a whole vector. -/
def stepv {s : Shape} (y : FVec Ideal s .f32) (b : IVec s 32) (k : BitVec 32) : IVec s 32 := fun i => step (y i) (b i) k

theorem stepv_eq {s : Shape} (y : FVec Ideal s .f32) (b : IVec s 32) (k : BitVec 32) :
    select (cmpf .oge y (bitcastToFloat .f32 (shli (addi b (broadcast s k)) (broadcast s 23#32) : IVec s 32))) (addi b (broadcast s k)) b = stepv y b k := rfl

/-- The exponent on a whole vector. -/
theorem finv_eq {s : Shape} (y : FVec Ideal s .f32) (b : IVec s 32) (i : s.Idx) :
    select (ori (cmpi .eq (select (cmpf .oge y (broadcast s (Scalar.ofBits .f32 0x7E800000#32 : Ideal .f32))) (broadcast s 255#32) b) (broadcast s 0#32))
      (cmpi .eq (select (cmpf .oge y (broadcast s (Scalar.ofBits .f32 0x7E800000#32 : Ideal .f32))) (broadcast s 255#32) b) (broadcast s 255#32)))
      (broadcast s 0#32) (subi (select (cmpf .oge y (broadcast s (Scalar.ofBits .f32 0x7E800000#32 : Ideal .f32))) (broadcast s 255#32) b) (broadcast s 126#32)) i = fin (y i) (b i) := rfl

theorem pay22_at (a : FVec Ideal S64x7168 .bf16) (b c : FVec Ideal S64x128 .bf16) (i : S64x1.Idx) :
    k0_pay22 (k0_pay18 a b c) (k0_pay19 a b c) (k0_pay20 a b c) (k0_pay21 a b c) i = kExp (k0_pay18 a b c i) := by
  simp only [k0_pay22, k0_pay21, k0_pay20, k0_pay19, stepv_eq, finv_eq]
  have h0 : broadcast S64x1 0#32 i = 0#32 := rfl
  simp only [stepv, h0, kExp, ladB, ladA]

/-- The scale of a row of a chunk. -/
theorem qS_at (v : Vec Ideal S1x64x7168 .bf16) (r : Fin 64) (l : Fin 128) :
    qS v (Idealize.ShloMosaic.ix2 r l) = kSc (yOf fun k : Fin 7168 => v (Idealize.ShloMosaic.ix3 0 r k)) := by
  unfold qS k0_pay39
  rw [shapeCast_self]
  refine (bcol (α := EReal) (m := 64) (n := 128) _ broadcasts_S64x1_S64x128 r l).trans ?_
  rw [shapeCast_self]
  show T (IntOp.addi (k0_pay22 _ _ _ _ (Idealize.ShloMosaic.ix2 r 0)) 127#32) = _
  rw [pay22_at, pay18_at]
  rfl

/-- The codes of a row of a chunk. -/
theorem qX_at (v : Vec Ideal S1x64x7168 .bf16) (r : Fin 64) (l : Fin 7168) :
    qX v (Idealize.ShloMosaic.ix2 r l) = clip (v (Idealize.ShloMosaic.ix3 0 r l)) (kInv (yOf fun k : Fin 7168 => v (Idealize.ShloMosaic.ix3 0 r k))) := by
  unfold qX k0_pay40
  rw [shapeCast_self]
  have e := bcol (α := EReal) (m := 64) (n := 7168) (truncf (F := Ideal) .bf16 (bitcastToFloat .f32 (k0_pay24 (k0_pay18 (k0_pay11 v) (k0_pay16 (k0_pay11 v) (k0_pay14 (k0_pay11 v) (k0_pay12 v) (k0_pay13 v)) (k0_pay15 (k0_pay11 v))) (k0_pay17 (k0_pay11 v)))
    (k0_pay19 (k0_pay11 v) (k0_pay16 (k0_pay11 v) (k0_pay14 (k0_pay11 v) (k0_pay12 v) (k0_pay13 v)) (k0_pay15 (k0_pay11 v))) (k0_pay17 (k0_pay11 v)))
    (k0_pay20 (k0_pay11 v) (k0_pay16 (k0_pay11 v) (k0_pay14 (k0_pay11 v) (k0_pay12 v) (k0_pay13 v)) (k0_pay15 (k0_pay11 v))) (k0_pay17 (k0_pay11 v)))
    (k0_pay21 (k0_pay11 v) (k0_pay16 (k0_pay11 v) (k0_pay14 (k0_pay11 v) (k0_pay12 v) (k0_pay13 v)) (k0_pay15 (k0_pay11 v))) (k0_pay17 (k0_pay11 v))))) bitsLt_bf16_f32) broadcasts_S64x1_S64x7168 r l
  have d := drop1 (α := EReal) (m := 64) (n := 7168) v shapeCasts_S1x64x7168_S64x7168 r l
  show clip (k0_pay11 v (Idealize.ShloMosaic.ix2 r l)) _ = _
  refine congrArg₂ clip d (e.trans ?_)
  show T (IntOp.subi 127#32 (k0_pay22 _ _ _ _ (Idealize.ShloMosaic.ix2 r 0))) = _
  rw [pay22_at, pay18_at]
  rfl

/-- What the scale of a row of the result is taken of. -/
theorem pay75_at (v : Vec Ideal S128x2048 .f32) (r : Fin 128) : k0_pay75 v (Idealize.ShloMosaic.ix2 r 0) = yOf fun k : Fin 2048 => v (Idealize.ShloMosaic.ix2 r k) := by
  unfold k0_pay75 yOf
  simp only
  refine congrArg (· * Ideal.ofBits .f32 0x3B124925#32) ?_
  refine (scol (α := EReal) (m := 128) _ shapeCasts_S128_S128x1 r).trans ?_
  exact rowMax (m := 128) (n := 2048) _ reduces_S128x2048_S128 _ _ r

theorem pay77_at (v : Vec Ideal S128x2048 .f32) (i : S128x1.Idx) : k0_pay77 (k0_pay75 v) (k0_pay76 v) i = kExp (k0_pay75 v i) := by
  simp only [k0_pay77, k0_pay76, stepv_eq, finv_eq]
  have h0 : broadcast S128x1 0#32 i = 0#32 := rfl
  simp only [stepv, h0, kExp, ladB, ladA]

/-- The codes of a row of a chunk of the result. -/
theorem qY_at (v : Vec Ideal S128x2048 .f32) (r : Fin 128) (l : Fin 2048) :
    qY v (Idealize.ShloMosaic.ix3 0 r l) = clip (v (Idealize.ShloMosaic.ix2 r l)) (kInv (yOf fun k : Fin 2048 => v (Idealize.ShloMosaic.ix2 r k))) := by
  unfold qY k0_pay10
  refine (add1 (α := EReal) (m := 128) (n := 2048) _ shapeCasts_S128x2048_S1x128x2048 r l).trans ?_
  refine congrArg (clip (v (Idealize.ShloMosaic.ix2 r l))) ((bcol (α := EReal) (m := 128) (n := 2048) _ broadcasts_S128x1_S128x2048 r l).trans ?_)
  show T (IntOp.subi 127#32 (k0_pay77 _ _ (Idealize.ShloMosaic.ix2 r 0))) = _
  rw [pay77_at, pay75_at]
  rfl

/-- The scales of a chunk of the result. -/
theorem qT_at (v : Vec Ideal S128x2048 .f32) (r : Fin 128) :
    qT v (Idealize.ShloMosaic.ix2 0 r) = kSc (yOf fun k : Fin 2048 => v (Idealize.ShloMosaic.ix2 r k)) := by
  unfold qT k0_pay9
  simp only
  refine (extractStridedSlice_apply _ _ slices_S128x128_o0_0_S1x128 _ (Idealize.ShloMosaic.ix2 (0 : Fin 128) r) fun a => by
    fin_cases a
    · rfl
    · show r.val = 0 + r.val; omega).trans ?_
  refine (transpose_apply _ _ transposes_S128x128_p1_0_S128x128 _ (Idealize.ShloMosaic.ix2 r (0 : Fin 128)) fun b => by
    fin_cases b <;> rfl).trans ?_
  refine (bcol (α := EReal) (m := 128) (n := 128) _ broadcasts_S128x1_S128x128 r 0).trans ?_
  rw [shapeCast_self]
  show T (IntOp.addi (k0_pay77 _ _ (Idealize.ShloMosaic.ix2 r 0)) 127#32) = _
  rw [pay77_at, pay75_at]
  rfl

end Cert.KernelIdeal.Hand

end
-- ==== Proof.Spec.lean ====
/-
  The gated product of a row in closed form, and the quantiser's scales and codes over it.
-/
module

public import proofs.«01_k».proof.Proof.Rows

@[expose] public section

noncomputable section

namespace Cert.Spec

open Idealize.ShloMosaic Cert.Scale

variable (fx : (⟨2, ![3072, 7168]⟩ : Shape).Idx → EReal) (fw : (⟨3, ![13, 7168, 4096]⟩ : Shape).Idx → EReal) (f3 : (⟨2, ![13, 4096]⟩ : Shape).Idx → EReal)

/-- The scale of a row of the activations. -/
def xs (r : Fin 3072) : EReal := kSc (yOf fun k : Fin 7168 => fx (ix2 r k))

/-- A code of the activations. -/
def xq (r : Fin 3072) (k : Fin 7168) : EReal := clip (fx (ix2 r k)) (kInv (yOf fun k : Fin 7168 => fx (ix2 r k)))

/-- A row of the activations times a column of an expert's weights, scaled. -/
def zz (e : Fin 13) (r : Fin 3072) (j : Fin 4096) : EReal := (∑ k : Fin 7168, xq fx r k * fw (ix3 e k j)) * xs fx r * f3 (ix2 e j)

/-- The gate times its logistic, times the other half. -/
def silu (a b : EReal) : EReal := a * Ideal.logistic a * b

/-- The gated product of a row under an expert. -/
def hh (e : Fin 13) (r : Fin 3072) (l : Fin 2048) : EReal :=
  silu (zz fx fw f3 e r ⟨l.val, by omega⟩) (zz fx fw f3 e r ⟨2048 + l.val, by omega⟩)

/-- A code of the result. -/
def yq (H : (⟨2, ![3072, 2048]⟩ : Shape).Idx → EReal) (r : Fin 3072) (l : Fin 2048) : EReal := clip (H (ix2 r l)) (kInv (yOf fun k : Fin 2048 => H (ix2 r k)))

/-- A scale of the result. -/
def ys (H : (⟨2, ![3072, 2048]⟩ : Shape).Idx → EReal) (r : Fin 3072) : EReal := kSc (yOf fun k : Fin 2048 => H (ix2 r k))

end Cert.Spec

end
-- ==== Proof.ValH.lean ====
/-
  The kernel's values in closed form: the quantised activations, the gated product a tile leaves, and the result.
-/
module

public import proofs.«01_k».proof.Proof.Val
public import proofs.«01_k».proof.Proof.Tiles
public import proofs.«01_k».proof.Proof.Spec

@[expose] public section

noncomputable section

namespace Cert.KernelIdeal.Hand

open Cert.KernelIdeal Cert.KernelIdeal.Gen
open Idealize.ShloMosaic
open Cert.Scale Cert.Spec

theorem ix2_two {a b : ℕ} (r : Fin a) (l : Fin b) : ix2 (d := ![a, b]) r l = Idealize.ShloMosaic.ix2 r l := by
  funext z; fin_cases z <;> rfl

theorem ix3_two {a b c : ℕ} (q : Fin a) (r : Fin b) (l : Fin c) : ix3 (d := ![a, b, c]) q r l = Idealize.ShloMosaic.ix3 q r l := by
  funext z; fin_cases z <;> rfl

theorem ix2_to {a b : ℕ} (r r' : Fin a) (l : Fin b) (h : r'.val = r.val) : ix2 (d := ![a, b]) r' l = Idealize.ShloMosaic.ix2 r l :=
  (ix2_two r' l).trans (congrArg (fun q => Idealize.ShloMosaic.ix2 q l) (Fin.ext h))

/-- The scale held for a row is the row's. -/
theorem xsCan_at (fx : S3072x7168.Idx → Elt Ideal .bf16) (r : Fin 3072) (l : Fin 128) : xsCan fx (Idealize.ShloMosaic.ix2 r l) = xs fx r := by
  have hr := r.isLt
  unfold xsCan
  refine (congrArg (qS (chunkX fx (r.val / 64))) (ix2_two (a := 64) (b := 128) ⟨r.val % 64, Nat.mod_lt _ (by decide)⟩ l)).trans ?_
  refine (qS_at _ _ _).trans ?_
  unfold xs chunkX
  congr 2
  funext k
  exact congrArg fx (ix2_to (a := 3072) (b := 7168) r _ k (by show (64 * (r.val / 64) + r.val % 64) % 3072 = r.val; omega))

/-- The codes held for a row are the row's. -/
theorem xqCan_at (fx : S3072x7168.Idx → Elt Ideal .bf16) (r : Fin 3072) (l : Fin 7168) : xqCan fx (Idealize.ShloMosaic.ix2 r l) = xq fx r l := by
  have hr := r.isLt
  unfold xqCan
  refine (congrArg (qX (chunkX fx (r.val / 64))) (ix2_two (a := 64) (b := 7168) ⟨r.val % 64, Nat.mod_lt _ (by decide)⟩ l)).trans ?_
  refine (qX_at _ _ _).trans ?_
  unfold xq chunkX
  have e : ∀ k : Fin 7168, (fx (ix2 (d := ![3072, 7168]) ⟨(64 * (r.val / 64) + r.val % 64) % 3072, Nat.mod_lt _ (by decide)⟩ k) : EReal) = fx (Idealize.ShloMosaic.ix2 r k) := fun k =>
    congrArg fx (ix2_to (a := 3072) (b := 7168) r _ k (by show (64 * (r.val / 64) + r.val % 64) % 3072 = r.val; omega))
  exact congrArg₂ clip (e l) (congrArg (fun f => kInv (yOf f)) (funext e))

theorem silu_at {s : Shape} (A B : FVec Ideal s .f32) (i : s.Idx) : mulf (mulf A (logistic A)) B i = silu (A i) (B i) := rfl

theorem mul3_at {s : Shape} (M C S : FVec Ideal s .f32) (i : s.Idx) : mulf (mulf M C) S i = M i * C i * S i := rfl

/-- A tile's value at a place, from its operands. -/
theorem pay1_at (sg su : Vec Ideal S1x256 .f32) (a : Vec Ideal S128x7168 .fp8e4m3) (wg wu : Vec Ideal S1x1x7168x256 .fp8e4m3) (s : Vec Ideal S128x128 .f32)
    (r : Fin 128) (l : Fin 256) :
    k0_pay1 sg su a wg wu s (Idealize.ShloMosaic.ix2 r l)
      = silu ((∑ k : Fin 7168, a (Idealize.ShloMosaic.ix2 r k) * wg (Idealize.ShloMosaic.ix4 0 0 k l)) * s (Idealize.ShloMosaic.ix2 r ⟨l.val % 128, Nat.mod_lt _ (by decide)⟩) * sg (Idealize.ShloMosaic.ix2 0 l))
          ((∑ k : Fin 7168, a (Idealize.ShloMosaic.ix2 r k) * wu (Idealize.ShloMosaic.ix4 0 0 k l)) * s (Idealize.ShloMosaic.ix2 r ⟨l.val % 128, Nat.mod_lt _ (by decide)⟩) * su (Idealize.ShloMosaic.ix2 0 l)) := by
  have hl := l.isLt
  unfold k0_pay1
  rw [shapeCast_self]
  have pr : ∀ w : FVec Ideal S1x1x7168x256 .fp8e4m3,
      (matmul (φ₁ := .fp8e4m3) (φ₂ := .fp8e4m3) dot_S128x7168_S7168x256_S128x256_1_0_0_1_n_n none a (shapeCast S7168x256 w shapeCasts_S1x1x7168x256_S7168x256) (constant (F := Ideal) S128x256 .f32 0x00000000#32) (Idealize.ShloMosaic.ix2 r l) : EReal)
        = ∑ k : Fin 7168, a (Idealize.ShloMosaic.ix2 r k) * w (Idealize.ShloMosaic.ix4 0 0 k l) := fun w => by
    refine (prod (m := 128) (K := 7168) (n := 256) none a (shapeCast S7168x256 w shapeCasts_S1x1x7168x256_S7168x256) r l).trans ?_
    refine Finset.sum_congr rfl fun k _ => ?_
    exact congrArg (a (Idealize.ShloMosaic.ix2 r k) * ·) (drop2 (α := EReal) (m := 7168) (n := 256) w shapeCasts_S1x1x7168x256_S7168x256 k l)
  have sc : (concatenate S128x256 1 [⟨S128x128, s⟩, ⟨S128x128, s⟩] concatenates_S128x128_S128x128_S128x256_d1 (Idealize.ShloMosaic.ix2 r l) : EReal)
      = s (Idealize.ShloMosaic.ix2 r ⟨l.val % 128, Nat.mod_lt _ (by decide)⟩) := by
    by_cases h : l.val < 128
    · refine concatenate_pair_apply_left (1 : Fin 2) s s concatenates_S128x128_S128x128_S128x256_d1 (Idealize.ShloMosaic.ix2 r l) rfl _ fun z => ?_
      fin_cases z
      · rfl
      · show l.val % 128 = l.val
        omega
    · refine concatenate_pair_apply_right (1 : Fin 2) s s concatenates_S128x128_S128x128_S128x256_d1 (Idealize.ShloMosaic.ix2 r l) rfl rfl _ (fun z hz => ?_) ?_
      · fin_cases z
        · rfl
        · exact absurd rfl hz
      · show l.val % 128 + 128 = l.val
        omega
  have bg := brow (α := EReal) (m := 128) (n := 256) sg broadcasts_S1x256_S128x256 r l
  have bu := brow (α := EReal) (m := 128) (n := 256) su broadcasts_S1x256_S128x256 r l
  rw [silu_at, mul3_at, mul3_at, pr, pr, sc, bg, bu]

/-- What a tile leaves at a row of an expert. -/
theorem hOK_val (fx : S3072x7168.Idx → Elt Ideal .bf16) (fw : S13x7168x4096.Idx → Elt Ideal .fp8e4m3) (f3 : S13x4096.Idx → Elt Ideal .f32) {e : ℕ} (he : e < 13)
    (r : Fin 3072) (l : Fin 2048) (v : Elt Ideal .f32) (h : hOK fx fw f3 e (Idealize.ShloMosaic.ix2 r l) v) : v = hh fx fw f3 ⟨e, he⟩ r l := by
  obtain ⟨a, s, y, hy, ha, hs, hv⟩ := h
  obtain ⟨r', l', rfl⟩ : ∃ (r' : Fin 128) (l' : Fin 256), y = Idealize.ShloMosaic.ix2 r' l' := ⟨y 0, y 1, ix2_eta y⟩
  have hl := l.isLt
  have hl' : l'.val = l.val % 256 := hy
  refine (hv.trans (pay1_at _ _ _ _ _ _ _ _)).trans ?_
  have ea : ∀ k : Fin 7168, (a (Idealize.ShloMosaic.ix2 r' k) : EReal) = xq fx r k := fun k => by
    refine (ha (Idealize.ShloMosaic.ix2 r' k) rfl).trans ?_
    refine Eq.trans ?_ (xqCan_at fx r k)
    exact congrArg (xqCan fx) (ix2_two (a := 3072) (b := 7168) r k)
  have es : ∀ k : Fin 128, (s (Idealize.ShloMosaic.ix2 r' k) : EReal) = xs fx r := fun k => by
    refine (hs (Idealize.ShloMosaic.ix2 r' k) rfl).trans ?_
    refine Eq.trans ?_ (xsCan_at fx r k)
    exact congrArg (xsCan fx) (ix2_two (a := 3072) (b := 128) r k)
  have z : ∀ (b : ℕ) (hb : b < 2), ((∑ k : Fin 7168, a (Idealize.ShloMosaic.ix2 r' k) * gW fw e (l.val / 256) b (Idealize.ShloMosaic.ix4 0 0 k l')) * s (Idealize.ShloMosaic.ix2 r' ⟨l'.val % 128, Nat.mod_lt _ (by decide)⟩)
      * gS f3 e (l.val / 256) b (Idealize.ShloMosaic.ix2 0 l') : EReal) = zz fx fw f3 ⟨e, he⟩ r ⟨b * 2048 + l.val, by omega⟩ := fun b hb => by
    have ec : (⟨(b * 2048 + 256 * (l.val / 256) + l'.val) % 4096, Nat.mod_lt _ (by decide)⟩ : Fin 4096) = ⟨b * 2048 + l.val, by omega⟩ := Fin.ext (by show (b * 2048 + 256 * (l.val / 256) + l'.val) % 4096 = b * 2048 + l.val; omega)
    have ee : (⟨e % 13, Nat.mod_lt _ (by decide)⟩ : Fin 13) = ⟨e, he⟩ := Fin.ext (Nat.mod_eq_of_lt he)
    have eS : (gS f3 e (l.val / 256) b (Idealize.ShloMosaic.ix2 0 l') : EReal) = f3 (Idealize.ShloMosaic.ix2 ⟨e, he⟩ ⟨b * 2048 + l.val, by omega⟩) := by
      rw [← ec, ← ee]
      exact congrArg f3 (ix2_two (a := 13) (b := 4096) _ _)
    have eW : ∀ k : Fin 7168, (gW fw e (l.val / 256) b (Idealize.ShloMosaic.ix4 0 0 k l') : EReal) = fw (Idealize.ShloMosaic.ix3 ⟨e, he⟩ k ⟨b * 2048 + l.val, by omega⟩) := fun k => by
      rw [← ec, ← ee]
      exact congrArg fw (ix3_two (a := 13) (b := 7168) (c := 4096) _ _ _)
    unfold zz
    rw [es, eS]
    simp only [ea, eW]
  have z0 := z 0 (by omega)
  have z1 := z 1 (by omega)
  refine congrArg₂ silu (z0.trans ?_) (z1.trans ?_)
  · exact congrArg (zz fx fw f3 ⟨e, he⟩ r) (Fin.ext (by show 0 * 2048 + l.val = l.val; omega))
  · exact congrArg (zz fx fw f3 ⟨e, he⟩ r) (Fin.ext (by show 1 * 2048 + l.val = 2048 + l.val; omega))

/-- The codes of the result. -/
theorem yCan_at (h : S3072x2048.Idx → Elt Ideal .f32) (r : Fin 3072) (l : Fin 2048) : yCan h (Idealize.ShloMosaic.ix2 r l) = yq h r l := by
  have hr := r.isLt
  unfold yCan
  refine (congrArg (qY (chunkH h (r.val / 128))) (ix3_two (a := 1) (b := 128) (c := 2048) ⟨0, by decide⟩ ⟨r.val % 128, Nat.mod_lt _ (by decide)⟩ l)).trans ?_
  refine (qY_at _ _ _).trans ?_
  unfold yq chunkH
  have e : ∀ k : Fin 2048, (h (ix2 (d := ![3072, 2048]) ⟨(128 * (r.val / 128) + r.val % 128) % 3072, Nat.mod_lt _ (by decide)⟩ k) : EReal) = h (Idealize.ShloMosaic.ix2 r k) := fun k =>
    congrArg h (ix2_to (a := 3072) (b := 2048) r _ k (by show (128 * (r.val / 128) + r.val % 128) % 3072 = r.val; omega))
  exact congrArg₂ clip (e l) (congrArg (fun f => kInv (yOf f)) (funext e))

/-- The scales of the result. -/
theorem ysCan_at (h : S3072x2048.Idx → Elt Ideal .f32) (r : Fin 3072) : ysCan h (Idealize.ShloMosaic.ix2 0 r) = ys h r := by
  have hr := r.isLt
  unfold ysCan
  refine (congrArg (qT (chunkH h (r.val / 128))) (ix2_two (a := 1) (b := 128) ⟨0, by decide⟩ ⟨r.val % 128, Nat.mod_lt _ (by decide)⟩)).trans ?_
  refine (qT_at _ _).trans ?_
  unfold ys chunkH
  congr 2
  funext k
  exact congrArg h (ix2_to (a := 3072) (b := 2048) r _ k (by show (128 * (r.val / 128) + r.val % 128) % 3072 = r.val; omega))

end Cert.KernelIdeal.Hand

end
-- ==== Proof.RefChain.lean ====
/-
  The reference's values as a chain of thirteen selections, one to an expert.
-/
module

public import proofs.«01_k».proof.Proof.Gen.ReferenceIdeal.Value
public import Idealize.ShloMosaic.Lib.WholeRead
public import Idealize.ShloMosaic.Lib.VecWindow
public import Idealize.ShloMosaic.Lib.Pointwise.Index

@[expose] public section

noncomputable section

namespace Cert.ReferenceIdeal.Hand

open Cert.ReferenceIdeal Cert.ReferenceIdeal.Gen
open Idealize.ShloMosaic

variable {F : FTy → Type} [FloatOps F]

/-- An expert's weights. -/
def wOf (x2 : S13x7168x4096.Idx → Elt F .fp8e4m3) (e : ℕ) : Vec F S1x7168x4096 .fp8e4m3 :=
  fun z => x2 (ix3 (⟨e % 13, Nat.mod_lt _ (by decide)⟩ : Fin 13) (z 1 : Fin 7168) (z 2 : Fin 4096))

/-- An expert's weight scales. -/
def sOf (x3 : S13x4096.Idx → Elt F .f32) (e : ℕ) : Vec F S1x4096 .f32 :=
  fun z => x3 (ix2 (⟨e % 13, Nat.mod_lt _ (by decide)⟩ : Fin 13) (z 1 : Fin 4096))

/-- The number of rows of an expert, as a word. -/
def nOf (x0 : S13.Idx → Elt F .i32) (e : ℕ) : BitVec 32 := x0 (ix1 (⟨e % 13, Nat.mod_lt _ (by decide)⟩ : Fin 13))

/-- The first row of an expert, as a word. -/
def pOf (x0 : S13.Idx → Elt F .i32) : ℕ → BitVec 32
  | 0 => 0#32
  | e + 1 => Scalar.addi (pOf x0 e) (nOf x0 e)

/-- An expert's product, scaled. -/
def zV (sx : FVec F S3072x1 .f32) (xc : FVec F S3072x7168 .fp8e4m3) (w : Vec F S1x7168x4096 .fp8e4m3) (s : Vec F S1x4096 .f32) : FVec F S3072x4096 .f32 :=
  mulf (mulf (matmul dot_S3072x7168_S7168x4096_S3072x4096_1_0_0_1_n_n none xc (shapeCast S7168x4096 w shapeCasts_S1x7168x4096_S7168x4096 : FVec F S7168x4096 .fp8e4m3) (constant S3072x4096 .f32 0x00000000#32))
    (broadcastTo S3072x4096 sx broadcasts_S3072x1_S3072x4096)) (broadcastTo S3072x4096 s broadcasts_S1x4096_S3072x4096)

/-- The rows from one word up to another. -/
def mV (lo hi : BitVec 32) : IVec S3072x4096 1 :=
  broadcastTo S3072x4096 (shapeCast S3072x1 (andi (cmpi .sge (iota .tc S3072x1 32 [0] iota_S3072x1_d0_w32) (broadcast S3072x1 lo))
    (cmpi .slt (iota .tc S3072x1 32 [0] iota_S3072x1_d0_w32) (broadcast S3072x1 hi))) shapeCasts_S3072x1_S3072x1) broadcasts_S3072x1_S3072x4096

/-- The products after the first `e` experts. -/
def acc (x0 : S13.Idx → Elt F .i32) (x2 : S13x7168x4096.Idx → Elt F .fp8e4m3) (x3 : S13x4096.Idx → Elt F .f32) (sx : FVec F S3072x1 .f32) (xc : FVec F S3072x7168 .fp8e4m3) :
    ℕ → FVec F S3072x4096 .f32
  | 0 => broadcast S3072x4096 (Scalar.ofBits .f32 0x00000000#32)
  | e + 1 => select (mV (pOf x0 e) (pOf x0 (e + 1))) (zV sx xc (wOf x2 e) (sOf x3 e)) (acc x0 x2 x3 sx xc e)

theorem rdW (a : Memref sig .tc .vmem S13x7168x4096 .fp8e4m3) (h : a.IsWhole) (x2 : Vec F S13x7168x4096 .fp8e4m3) (e : ℕ) (inb) :
    View.readAt (Elt F) a.view (Rect.unit (s := S13x7168x4096) ![e, 0, 0] S1x7168x4096.size inb).toLoadRect (h.unread x2) = wOf x2 e := by
  funext (z : S1x7168x4096.Idx)
  have i0 : e + 1 ≤ 13 := inb 0
  have z0 : (z 0).val < 1 := (z 0).isLt
  refine (h.readAt_unread x2 (Rect.unit (s := S13x7168x4096) ![e, 0, 0] S1x7168x4096.size inb).toLoadRect z).trans ?_
  unfold wOf
  congr 1
  funext q
  apply Fin.ext
  fin_cases q
  · show e + 1 * (z 0).val = e % 13
    omega
  · show 0 + 1 * (z 1).val = (z 1).val
    omega
  · show 0 + 1 * (z 2).val = (z 2).val
    omega

theorem rdS (a : Memref sig .tc .vmem S13x4096 .f32) (h : a.IsWhole) (x3 : Vec F S13x4096 .f32) (e : ℕ) (inb) :
    View.readAt (Elt F) a.view (Rect.unit (s := S13x4096) ![e, 0] S1x4096.size inb).toLoadRect (h.unread x3) = sOf x3 e := by
  funext (z : S1x4096.Idx)
  have i0 : e + 1 ≤ 13 := inb 0
  have z0 : (z 0).val < 1 := (z 0).isLt
  refine (h.readAt_unread x3 (Rect.unit (s := S13x4096) ![e, 0] S1x4096.size inb).toLoadRect z).trans ?_
  unfold sOf
  congr 1
  funext q
  apply Fin.ext
  fin_cases q
  · show e + 1 * (z 0).val = e % 13
    omega
  · show 0 + 1 * (z 1).val = (z 1).val
    omega

theorem rdN (a : Memref sig .tc .smem S13 .i32) (h : a.IsWhole) (x0 : Vec F S13 .i32) (e : ℕ) (inb) (z) :
    View.readAt (Elt F) a.view (Rect.unit (s := S13) ![e] S1.size inb).toLoadRect (h.unread x0) z = nOf x0 e := by
  have i0 : e + 1 ≤ 13 := inb 0
  have z0 : (z 0).val < 1 := (z 0).isLt
  refine (h.readAt_unread x0 _ z).trans ?_
  unfold nOf
  congr 1
  funext q
  apply Fin.ext
  fin_cases q
  show e + 1 * (z 0).val = e % 13
  omega

theorem rdX (a : Memref sig .tc .vmem S3072x7168 .bf16) (h : a.IsWhole) (x1 : Vec F S3072x7168 .bf16) (inb) :
    View.readAt (Elt F) a.view (Rect.unit (s := S3072x7168) ![0, 0] S3072x7168.size inb).toLoadRect (h.unread x1) = x1 := by
  funext (z : S3072x7168.Idx)
  refine (h.readAt_unread x1 (Rect.unit (s := S3072x7168) ![0, 0] S3072x7168.size inb).toLoadRect z).trans ?_
  congr 1
  funext q
  apply Fin.ext
  fin_cases q
  · show 0 + 1 * (z 0).val = (z 0).val
    omega
  · show 0 + 1 * (z 1).val = (z 1).val
    omega

theorem acc_zero (x0 : S13.Idx → Elt F .i32) (x2 : S13x7168x4096.Idx → Elt F .fp8e4m3) (x3 : S13x4096.Idx → Elt F .f32) (sx : FVec F S3072x1 .f32) (xc : FVec F S3072x7168 .fp8e4m3) :
    acc x0 x2 x3 sx xc 0 = broadcast S3072x4096 (Scalar.ofBits .f32 0x00000000#32) := rfl

theorem acc_succ (x0 : S13.Idx → Elt F .i32) (x2 : S13x7168x4096.Idx → Elt F .fp8e4m3) (x3 : S13x4096.Idx → Elt F .f32) (sx : FVec F S3072x1 .f32) (xc : FVec F S3072x7168 .fp8e4m3) (e : ℕ) :
    acc x0 x2 x3 sx xc (e + 1) = select (mV (pOf x0 e) (pOf x0 (e + 1))) (zV sx xc (wOf x2 e) (sOf x3 e)) (acc x0 x2 x3 sx xc e) := rfl

theorem pOf_zero (x0 : S13.Idx → Elt F .i32) : pOf x0 0 = 0#32 := rfl
theorem pOf_succ (x0 : S13.Idx → Elt F .i32) (e : ℕ) : pOf x0 (e + 1) = Scalar.addi (pOf x0 e) (nOf x0 e) := rfl

section
variable (sx : FVec F S3072x1 .f32) (xc : FVec F S3072x7168 .fp8e4m3) (A : FVec F S3072x4096 .f32) (lo n n' n'' hi : BitVec 32)
  (w w' w'' : Vec F S1x7168x4096 .fp8e4m3) (s s' s'' : Vec F S1x4096 .f32)

/-! ## Each stretch of the body, as selections -/

theorem pay7_eq : k0_pay7 sx xc (iota .tc S3072x1 32 [0] iota_S3072x1_d0_w32) A lo (k0_pay6 w) (constant S3072x4096 .f32 0x00000000#32) s n w' s'
    = select (mV lo (Scalar.addi lo n)) (zV sx xc w' s') (select (mV 0#32 lo) (zV sx xc w s) A) := by
  simp only [k0_pay7, k0_pay6, mV, zV]

theorem pay10_eq : k0_pay10 sx xc (iota .tc S3072x1 32 [0] iota_S3072x1_d0_w32) A (Scalar.addi (Scalar.addi lo n) n') (k0_pay8 (F := F) (iota .tc S3072x1 32 [0] iota_S3072x1_d0_w32) lo n n') (k0_pay9 sx xc w) s hi w' s' n'' w'' s''
    = select (mV (Scalar.addi (Scalar.addi (Scalar.addi lo n) n') hi) (Scalar.addi (Scalar.addi (Scalar.addi (Scalar.addi lo n) n') hi) n'')) (zV sx xc w'' s'')
      (select (mV (Scalar.addi (Scalar.addi lo n) n') (Scalar.addi (Scalar.addi (Scalar.addi lo n) n') hi)) (zV sx xc w' s')
        (select (mV (Scalar.addi lo n) (Scalar.addi (Scalar.addi lo n) n')) (zV sx xc w s) A)) := by
  simp only [k0_pay10, k0_pay9, k0_pay8, mV, zV]

theorem pay11_eq : k0_pay11 sx xc (iota .tc S3072x1 32 [0] iota_S3072x1_d0_w32) lo A hi w s n w' s'
    = select (mV hi (Scalar.addi hi n)) (zV sx xc w' s') (select (mV lo hi) (zV sx xc w s) A) := by
  simp only [k0_pay11, mV, zV]

theorem pay15_eq : k0_pay15 sx xc (iota .tc S3072x1 32 [0] iota_S3072x1_d0_w32) A (Scalar.addi (Scalar.addi lo n) n') (k0_pay12 xc w) (k0_pay13 (F := F) (iota .tc S3072x1 32 [0] iota_S3072x1_d0_w32) lo n) (k0_pay14 (F := F) lo n n') s hi w' s'
    = select (mV (Scalar.addi (Scalar.addi lo n) n') (Scalar.addi (Scalar.addi (Scalar.addi lo n) n') hi)) (zV sx xc w' s')
        (select (mV (Scalar.addi lo n) (Scalar.addi (Scalar.addi lo n) n')) (zV sx xc w s) A) := by
  simp only [k0_pay15, k0_pay12, k0_pay13, k0_pay14, mV, zV]

theorem pay18_eq : k0_pay18 sx xc (iota .tc S3072x1 32 [0] iota_S3072x1_d0_w32) A (Scalar.addi (Scalar.addi lo n) n') (k0_pay16 sx xc w s) (k0_pay17 (F := F) (iota .tc S3072x1 32 [0] iota_S3072x1_d0_w32) lo n n') hi w' s' n'' w'' s''
    = select (mV (Scalar.addi (Scalar.addi (Scalar.addi lo n) n') hi) (Scalar.addi (Scalar.addi (Scalar.addi (Scalar.addi lo n) n') hi) n'')) (zV sx xc w'' s'')
      (select (mV (Scalar.addi (Scalar.addi lo n) n') (Scalar.addi (Scalar.addi (Scalar.addi lo n) n') hi)) (zV sx xc w' s')
        (select (mV (Scalar.addi lo n) (Scalar.addi (Scalar.addi lo n) n')) (zV sx xc w s) A)) := by
  simp only [k0_pay18, k0_pay16, k0_pay17, mV, zV]

/-- The gated product, from the thirteenth selection. -/
def gV (z : FVec F S3072x4096 .f32) : FVec F S3072x2048 .f32 :=
  mulf (mulf (extractStridedSlice S3072x2048 ![0, 0] z slices_S3072x4096_o0_0_S3072x2048) (logistic (extractStridedSlice S3072x2048 ![0, 0] z slices_S3072x4096_o0_0_S3072x2048)))
    (extractStridedSlice S3072x2048 ![0, 2048] z slices_S3072x4096_o0_2048_S3072x2048)

theorem pay20_eq : k0_pay20 sx xc (iota .tc S3072x1 32 [0] iota_S3072x1_d0_w32) lo A hi (k0_pay19 w) s = gV (select (mV lo hi) (zV sx xc w s) A) := by
  simp only [k0_pay20, k0_pay19, mV, zV, gV]

end

section
variable (c : Dev nD) (arg0 : Memref sig .tc .smem S13 .i32) (harg0 : arg0.IsWhole) (arg1 : Memref sig .tc .vmem S3072x7168 .bf16) (harg1 : arg1.IsWhole)
  (arg2 : Memref sig .tc .vmem S13x7168x4096 .fp8e4m3) (harg2 : arg2.IsWhole) (arg3 : Memref sig .tc .vmem S13x4096 .f32) (harg3 : arg3.IsWhole)
  (x0 : Vec F S13 .i32) (x1 : Vec F S3072x7168 .bf16) (x2 : Vec F S13x7168x4096 .fp8e4m3) (x3 : Vec F S13x4096 .f32)

theorem r1_eq : kernelRun0_A.sl.r_1 c arg1 harg1 x1 = k0_pay3 x1 := by
  unfold kernelRun0_A.sl.r_1; rw [rdX]

theorem r2_eq : kernelRun0_A.sl.r_2 c arg1 harg1 x1 = k0_pay4 x1 := by
  unfold kernelRun0_A.sl.r_2; rw [rdX]

theorem n0_eq : kernelRun0_A.sl.r c arg0 harg0 x0 = nOf x0 0 := by
  unfold kernelRun0_A.sl.r; rw [rdN]
theorem n1_eq : kernelRun0_A.sl.r_4 c arg0 harg0 x0 = nOf x0 1 := by
  unfold kernelRun0_A.sl.r_4; rw [rdN]
theorem n2_eq : kernelRun0_A.sl.r_5 c arg0 harg0 x0 = nOf x0 2 := by
  unfold kernelRun0_A.sl.r_5; rw [rdN]
theorem n3_eq : kernelRun0_A.sl.r_9 c arg0 harg0 x0 = nOf x0 3 := by
  unfold kernelRun0_A.sl.r_9; rw [rdN]
theorem n4_eq : kernelRun0_A.sl.r_10 c arg0 harg0 x0 = nOf x0 4 := by
  unfold kernelRun0_A.sl.r_10; rw [rdN]
theorem n5_eq : kernelRun0_A.sl.r_11 c arg0 harg0 x0 = nOf x0 5 := by
  unfold kernelRun0_A.sl.r_11; rw [rdN]
theorem n6_eq : kernelRun0_A.sl.r_13 c arg0 harg0 x0 = nOf x0 6 := by
  unfold kernelRun0_A.sl.r_13; rw [rdN]
theorem n7_eq : kernelRun0_A.sl.r_14 c arg0 harg0 x0 = nOf x0 7 := by
  unfold kernelRun0_A.sl.r_14; rw [rdN]
theorem n8_eq : kernelRun0_A.sl.r_19 c arg0 harg0 x0 = nOf x0 8 := by
  unfold kernelRun0_A.sl.r_19; rw [rdN]
theorem n9_eq : kernelRun0_A.sl.r_20 c arg0 harg0 x0 = nOf x0 9 := by
  unfold kernelRun0_A.sl.r_20; rw [rdN]
theorem n10_eq : kernelRun0_A.sl.r_24 c arg0 harg0 x0 = nOf x0 10 := by
  unfold kernelRun0_A.sl.r_24; rw [rdN]
theorem n11_eq : kernelRun0_A.sl.r_25 c arg0 harg0 x0 = nOf x0 11 := by
  unfold kernelRun0_A.sl.r_25; rw [rdN]
theorem n12_eq : kernelRun0_A.sl.r_26 c arg0 harg0 x0 = nOf x0 12 := by
  unfold kernelRun0_A.sl.r_26; rw [rdN]
theorem p1_eq : kernelRun0_A.sl.v37 c arg0 harg0 x0 = pOf x0 1 := by
  unfold kernelRun0_A.sl.v37; rw [n0_eq]; rfl
theorem p2_eq : kernelRun0_A.sl.v55 c arg0 harg0 x0 = pOf x0 2 := by
  unfold kernelRun0_A.sl.v55; rw [n1_eq, p1_eq]; rfl
theorem p3_eq : kernelRun0_A.sl.v73 c arg0 harg0 x0 = pOf x0 3 := by
  unfold kernelRun0_A.sl.v73; rw [n2_eq, p2_eq]; rfl
theorem p4_eq : kernelRun0_A.sl.v91 c arg0 harg0 x0 = pOf x0 4 := by
  unfold kernelRun0_A.sl.v91; rw [n3_eq, p3_eq]; rfl
theorem p5_eq : kernelRun0_A.sl.v109 c arg0 harg0 x0 = pOf x0 5 := by
  unfold kernelRun0_A.sl.v109; rw [n4_eq, p4_eq]; rfl
theorem p6_eq : kernelRun0_A.sl.v127 c arg0 harg0 x0 = pOf x0 6 := by
  unfold kernelRun0_A.sl.v127; rw [n5_eq, p5_eq]; rfl
theorem p7_eq : kernelRun0_A.sl.v145 c arg0 harg0 x0 = pOf x0 7 := by
  unfold kernelRun0_A.sl.v145; rw [n6_eq, p6_eq]; rfl
theorem p8_eq : kernelRun0_A.sl.v163 c arg0 harg0 x0 = pOf x0 8 := by
  unfold kernelRun0_A.sl.v163; rw [n7_eq, p7_eq]; rfl
theorem p9_eq : kernelRun0_A.sl.v181 c arg0 harg0 x0 = pOf x0 9 := by
  unfold kernelRun0_A.sl.v181; rw [n8_eq, p8_eq]; rfl
theorem p10_eq : kernelRun0_A.sl.v199 c arg0 harg0 x0 = pOf x0 10 := by
  unfold kernelRun0_A.sl.v199; rw [n9_eq, p9_eq]; rfl
theorem p11_eq : kernelRun0_A.sl.v217 c arg0 harg0 x0 = pOf x0 11 := by
  unfold kernelRun0_A.sl.v217; rw [n10_eq, p10_eq]; rfl
theorem p12_eq : kernelRun0_A.sl.v235 c arg0 harg0 x0 = pOf x0 12 := by
  unfold kernelRun0_A.sl.v235; rw [n11_eq, p11_eq]; rfl
theorem p13_eq : kernelRun0_A.sl.v253 c arg0 harg0 x0 = pOf x0 13 := by
  unfold kernelRun0_A.sl.v253; rw [n12_eq, p12_eq]; rfl
theorem r6_eq : kernelRun0_A.sl.r_6 c arg0 harg0 arg1 harg1 arg2 harg2 arg3 harg3 x0 x1 x2 x3 = acc x0 x2 x3 (k0_pay3 x1) (k0_pay4 x1) 2 := by
  unfold kernelRun0_A.sl.r_6 kernelRun0_A.sl.r_3 kernelRun0_A.sl.v34 kernelRun0_A.sl.cst_15
  repeat rw [rdW]
  repeat rw [rdS]
  simp only [n0_eq, n1_eq, n2_eq, n3_eq, n4_eq, n5_eq, n6_eq, n7_eq, n8_eq, n9_eq, n10_eq, n11_eq, n12_eq, p1_eq, p2_eq, p3_eq, p4_eq, p5_eq, p6_eq, p7_eq, p8_eq, p9_eq, p10_eq, p11_eq, p12_eq, p13_eq, r1_eq, r2_eq]
  exact pay7_eq (k0_pay3 x1) (k0_pay4 x1) (acc x0 x2 x3 (k0_pay3 x1) (k0_pay4 x1) 0) (pOf x0 1) (nOf x0 1) (wOf x2 0) (wOf x2 1) (sOf x3 0) (sOf x3 1)

theorem r12_eq : kernelRun0_A.sl.r_12 c arg0 harg0 arg1 harg1 arg2 harg2 arg3 harg3 x0 x1 x2 x3 = acc x0 x2 x3 (k0_pay3 x1) (k0_pay4 x1) 5 := by
  unfold kernelRun0_A.sl.r_12 kernelRun0_A.sl.r_7 kernelRun0_A.sl.r_8 kernelRun0_A.sl.v34
  repeat rw [rdW]
  repeat rw [rdS]
  simp only [n0_eq, n1_eq, n2_eq, n3_eq, n4_eq, n5_eq, n6_eq, n7_eq, n8_eq, n9_eq, n10_eq, n11_eq, n12_eq, p1_eq, p2_eq, p3_eq, p4_eq, p5_eq, p6_eq, p7_eq, p8_eq, p9_eq, p10_eq, p11_eq, p12_eq, p13_eq, r1_eq, r2_eq, r6_eq]
  exact pay10_eq (k0_pay3 x1) (k0_pay4 x1) (acc x0 x2 x3 (k0_pay3 x1) (k0_pay4 x1) 2) (pOf x0 1) (nOf x0 1) (nOf x0 2) (nOf x0 4) (nOf x0 3) (wOf x2 2) (wOf x2 3) (wOf x2 4) (sOf x3 2) (sOf x3 3) (sOf x3 4)

theorem r15_eq : kernelRun0_A.sl.r_15 c arg0 harg0 arg1 harg1 arg2 harg2 arg3 harg3 x0 x1 x2 x3 = acc x0 x2 x3 (k0_pay3 x1) (k0_pay4 x1) 7 := by
  unfold kernelRun0_A.sl.r_15 kernelRun0_A.sl.v34
  repeat rw [rdW]
  repeat rw [rdS]
  simp only [n0_eq, n1_eq, n2_eq, n3_eq, n4_eq, n5_eq, n6_eq, n7_eq, n8_eq, n9_eq, n10_eq, n11_eq, n12_eq, p1_eq, p2_eq, p3_eq, p4_eq, p5_eq, p6_eq, p7_eq, p8_eq, p9_eq, p10_eq, p11_eq, p12_eq, p13_eq, r1_eq, r2_eq, r12_eq]
  exact pay11_eq (k0_pay3 x1) (k0_pay4 x1) (acc x0 x2 x3 (k0_pay3 x1) (k0_pay4 x1) 5) (pOf x0 5) (nOf x0 6) (pOf x0 6) (wOf x2 5) (wOf x2 6) (sOf x3 5) (sOf x3 6)

theorem r21_eq : kernelRun0_A.sl.r_21 c arg0 harg0 arg1 harg1 arg2 harg2 arg3 harg3 x0 x1 x2 x3 = acc x0 x2 x3 (k0_pay3 x1) (k0_pay4 x1) 9 := by
  unfold kernelRun0_A.sl.r_21 kernelRun0_A.sl.r_16 kernelRun0_A.sl.r_17 kernelRun0_A.sl.r_18 kernelRun0_A.sl.v34
  repeat rw [rdW]
  repeat rw [rdS]
  simp only [n0_eq, n1_eq, n2_eq, n3_eq, n4_eq, n5_eq, n6_eq, n7_eq, n8_eq, n9_eq, n10_eq, n11_eq, n12_eq, p1_eq, p2_eq, p3_eq, p4_eq, p5_eq, p6_eq, p7_eq, p8_eq, p9_eq, p10_eq, p11_eq, p12_eq, p13_eq, r1_eq, r2_eq, r15_eq]
  exact pay15_eq (k0_pay3 x1) (k0_pay4 x1) (acc x0 x2 x3 (k0_pay3 x1) (k0_pay4 x1) 7) (pOf x0 6) (nOf x0 6) (nOf x0 7) (nOf x0 8) (wOf x2 7) (wOf x2 8) (sOf x3 7) (sOf x3 8)

theorem r27_eq : kernelRun0_A.sl.r_27 c arg0 harg0 arg1 harg1 arg2 harg2 arg3 harg3 x0 x1 x2 x3 = acc x0 x2 x3 (k0_pay3 x1) (k0_pay4 x1) 12 := by
  unfold kernelRun0_A.sl.r_27 kernelRun0_A.sl.r_22 kernelRun0_A.sl.r_23 kernelRun0_A.sl.v34
  repeat rw [rdW]
  repeat rw [rdS]
  simp only [n0_eq, n1_eq, n2_eq, n3_eq, n4_eq, n5_eq, n6_eq, n7_eq, n8_eq, n9_eq, n10_eq, n11_eq, n12_eq, p1_eq, p2_eq, p3_eq, p4_eq, p5_eq, p6_eq, p7_eq, p8_eq, p9_eq, p10_eq, p11_eq, p12_eq, p13_eq, r1_eq, r2_eq, r21_eq]
  exact pay18_eq (k0_pay3 x1) (k0_pay4 x1) (acc x0 x2 x3 (k0_pay3 x1) (k0_pay4 x1) 9) (pOf x0 8) (nOf x0 8) (nOf x0 9) (nOf x0 11) (nOf x0 10) (wOf x2 9) (wOf x2 10) (wOf x2 11) (sOf x3 9) (sOf x3 10) (sOf x3 11)

end

end Cert.ReferenceIdeal.Hand

end
-- ==== Proof.RefQ.lean ====
/-
  The reference's values in closed form on the extended reals.
-/
module

public import proofs.«01_k».proof.Proof.RefChain
public import proofs.«01_k».proof.Proof.Spec
public import proofs.«01_k».proof.Proof.Words

@[expose] public section

noncomputable section

namespace Cert.ReferenceIdeal.Hand

open Cert.ReferenceIdeal Cert.ReferenceIdeal.Gen
open Idealize.ShloMosaic
open Cert.Scale Cert.Spec

/-! ## The quantiser -/

/-- The powers of two, one to a lane. -/
def pwV : FVec Ideal S3072x256 .f32 := exp2 (sitofp .f32 (subi (iota .tc S3072x256 32 [1] iota_S3072x256_d1_w32) (broadcast S3072x256 126#32)))

/-- The reference's scales, from what they are taken of. -/
def selV (y : FVec Ideal S3072x1 .f32) : FVec Ideal S3072x1 .f32 :=
  select (andi (cmpf .oge y (broadcast S3072x1 (Scalar.ofBits .f32 0x00800000#32 : Ideal .f32))) (cmpf .olt y (broadcast S3072x1 (Scalar.ofBits .f32 0x7E800000#32 : Ideal .f32))))
      (shapeCast S3072x1 (multiReduction .minimumf [1] S3072
        (select (cmpf .ogt pwV (broadcastTo S3072x256 y broadcasts_S3072x1_S3072x256)) pwV (broadcast S3072x256 (Scalar.ofBits .f32 0x7F800000#32 : Ideal .f32)))
        0x7F800000#32 reduces_S3072x256_S3072 (.inl rfl) rfl) shapeCasts_S3072_S3072x1)
      (broadcast S3072x1 (Scalar.ofBits .f32 0x3F800000#32 : Ideal .f32))

theorem pwV_at (r : Fin 3072) (i : Fin 256) : pwV (ix2 r i) = L i := by
  have e : iota .tc S3072x256 32 [1] iota_S3072x256_d1_w32 (ix2 r i) = BitVec.ofNat 32 i.val := iota_single_apply _ _ _ _ _ _
  show Ideal.exp2 (((IntOp.subi (iota .tc S3072x256 32 [1] iota_S3072x256_d1_w32 (ix2 r i)) 126#32).toInt : ℝ) : EReal) = _
  rw [e]
  rfl

theorem cand_at (E B T : FVec Ideal S3072x256 .f32) (i : S3072x256.Idx) : select (cmpf .ogt E B) E T i = Scalar.select (Ideal.cmp .ogt (E i) (B i)) (E i) (T i) := rfl

theorem pick_at (y M : FVec Ideal S3072x1 .f32) (i : S3072x1.Idx) :
    select (andi (cmpf .oge y (broadcast S3072x1 (Scalar.ofBits .f32 0x00800000#32 : Ideal .f32))) (cmpf .olt y (broadcast S3072x1 (Scalar.ofBits .f32 0x7E800000#32 : Ideal .f32)))) M
      (broadcast S3072x1 (Scalar.ofBits .f32 0x3F800000#32 : Ideal .f32)) i
    = Scalar.select (IntOp.andi (Ideal.cmp .oge (y i) (Ideal.ofBits .f32 0x00800000#32)) (Ideal.cmp .olt (y i) (Ideal.ofBits .f32 0x7E800000#32))) (M i) (Ideal.ofBits .f32 0x3F800000#32) := rfl

/-- The reference's scale at a row, from what it is taken of. -/
theorem sel_at (y : FVec Ideal S3072x1 .f32) (r : Fin 3072) : selV y (ix2 r 0) = rSc (y (ix2 r 0)) := by
  unfold selV rSc
  rw [pick_at]
  refine congrArg (fun t => Scalar.select (IntOp.andi (Ideal.cmp .oge (y (ix2 r 0)) (Ideal.ofBits .f32 0x00800000#32)) (Ideal.cmp .olt (y (ix2 r 0)) (Ideal.ofBits .f32 0x7E800000#32))) t (Ideal.ofBits .f32 0x3F800000#32)) ?_
  refine (scol (α := EReal) (m := 3072) _ shapeCasts_S3072_S3072x1 r).trans ?_
  refine (rowMin (m := 3072) (n := 256) _ reduces_S3072x256_S3072 _ _ r).trans ?_
  refine congrArg (fun f => (Finset.univ : Finset (Fin 256)).fold min ⊤ f) (funext fun i => ?_)
  have b := bcol (α := EReal) (m := 3072) (n := 256) y broadcasts_S3072x1_S3072x256 r i
  refine (cand_at _ _ _ _).trans ?_
  rw [pwV_at, b]
  rfl

/-- What a row's scale is taken of. -/
def mxV {n : ℕ} (v : FVec Ideal ⟨2, ![3072, n]⟩ .f32) (h : Shape.Reduces ⟨2, ![3072, n]⟩ [1] ⟨1, ![3072]⟩) : FVec Ideal S3072x1 .f32 :=
  mulf (shapeCast S3072x1 (multiReduction .maximumf [1] S3072 (absf v) 0xFF800000#32 h (.inl rfl) rfl) shapeCasts_S3072_S3072x1) (broadcast S3072x1 (Scalar.ofBits .f32 0x3B124925#32 : Ideal .f32))

theorem mxV_at {n : ℕ} (v : FVec Ideal ⟨2, ![3072, n]⟩ .f32) (h : Shape.Reduces ⟨2, ![3072, n]⟩ [1] ⟨1, ![3072]⟩) (r : Fin 3072) : mxV v h (ix2 r 0) = yOf fun k : Fin n => v (ix2 r k) := by
  unfold mxV yOf
  refine congrArg (· * Ideal.ofBits .f32 0x3B124925#32) ?_
  refine (scol (α := EReal) (m := 3072) _ shapeCasts_S3072_S3072x1 r).trans ?_
  exact rowMax (m := 3072) (n := n) _ h _ _ r

theorem ofb (b : BitVec 32) : (Scalar.ofBits .f32 b : Ideal .f32) = FloatOps.ofBits .f32 b := rfl

theorem pay3_eq (v : Vec Ideal S3072x7168 .bf16) : k0_pay3 v = selV (mxV (extf .f32 v bitsLt_bf16_f32) reduces_S3072x7168_S3072) := by
  simp only [k0_pay3, k0_pay2, selV, pwV, mxV]

theorem pay2_at (v : Vec Ideal S3072x7168 .bf16) (i : S3072x7168.Idx) : (extf .f32 v bitsLt_bf16_f32 : FVec Ideal S3072x7168 .f32) i = v i := rfl

/-- The scale of a row of the activations. -/
theorem pay3_at (v : Vec Ideal S3072x7168 .bf16) (r : Fin 3072) : k0_pay3 v (ix2 r 0) = rSc (yOf fun k : Fin 7168 => v (ix2 r k)) := by
  rw [pay3_eq, sel_at, mxV_at]
  simp only [pay2_at]

theorem code_at {s : Shape} (x t : FVec Ideal s .f32) (h) (i : s.Idx) :
    (truncf .fp8e4m3 (minimumf (broadcast s (Scalar.ofBits .f32 0x43E00000#32 : Ideal .f32)) (maximumf (broadcast s (Scalar.ofBits .f32 0xC3E00000#32 : Ideal .f32)) (mulf x t))) h : FVec Ideal s .fp8e4m3) i
      = clip (x i) (t i) := rfl

theorem inv_at (t : FVec Ideal S3072x1 .f32) (i : S3072x1.Idx) :
    divf (broadcast S3072x1 (Scalar.ofBits .f32 0x3F800000#32 : Ideal .f32)) t i = Ideal.div (Ideal.ofBits .f32 0x3F800000#32) (t i) := rfl

theorem pay4_eq (v : Vec Ideal S3072x7168 .bf16) : k0_pay4 v = truncf .fp8e4m3 (minimumf (broadcast S3072x7168 (Scalar.ofBits .f32 0x43E00000#32 : Ideal .f32)) (maximumf (broadcast S3072x7168 (Scalar.ofBits .f32 0xC3E00000#32 : Ideal .f32))
    (mulf (extf .f32 v bitsLt_bf16_f32) (broadcastTo S3072x7168 (divf (broadcast S3072x1 (Scalar.ofBits .f32 0x3F800000#32 : Ideal .f32)) (k0_pay3 v)) broadcasts_S3072x1_S3072x7168)))) bitsLt_fp8e4m3_f32 := by
  simp only [k0_pay4, k0_pay2]

/-- A code of the activations. -/
theorem pay4_at (v : Vec Ideal S3072x7168 .bf16) (r : Fin 3072) (l : Fin 7168) :
    k0_pay4 v (ix2 r l) = clip (v (ix2 r l)) (Ideal.div (Ideal.ofBits .f32 0x3F800000#32) (rSc (yOf fun k : Fin 7168 => v (ix2 r k)))) := by
  have b := bcol (α := EReal) (m := 3072) (n := 7168) (divf (broadcast S3072x1 (Scalar.ofBits .f32 0x3F800000#32 : Ideal .f32)) (k0_pay3 v)) broadcasts_S3072x1_S3072x7168 r l
  rw [pay4_eq, code_at, b, inv_at, pay3_at, pay2_at]

section
variable (sx : FVec Ideal S3072x1 .f32) (xc : FVec Ideal S3072x7168 .fp8e4m3) (q : IVec S3072x1 32) (lo : BitVec 32) (A : FVec Ideal S3072x4096 .f32) (hi : BitVec 32)
  (w : FVec Ideal S7168x4096 .fp8e4m3) (s : Vec Ideal S1x4096 .f32)

theorem pay21_eq : k0_pay21 sx xc q lo A hi w s = selV (mxV (k0_pay20 sx xc q lo A hi w s) reduces_S3072x2048_S3072) := by
  simp only [k0_pay21, selV, pwV, mxV]

/-- The scale of a row of the result. -/
theorem pay21_at (r : Fin 3072) :
    k0_pay21 sx xc q lo A hi w s (ix2 r 0) = rSc (yOf fun k : Fin 2048 => k0_pay20 sx xc q lo A hi w s (ix2 r k)) := by
  rw [pay21_eq, sel_at, mxV_at]

theorem pay22_eq : k0_pay1 (k0_pay22 sx xc q lo A hi w s) (Scalar.ofBits .f32 0xC3E00000#32) (Scalar.ofBits .f32 0x43E00000#32)
    = truncf .fp8e4m3 (minimumf (broadcast S3072x2048 (Scalar.ofBits .f32 0x43E00000#32 : Ideal .f32)) (maximumf (broadcast S3072x2048 (Scalar.ofBits .f32 0xC3E00000#32 : Ideal .f32))
    (mulf (k0_pay20 sx xc q lo A hi w s) (broadcastTo S3072x2048 (divf (broadcast S3072x1 (Scalar.ofBits .f32 0x3F800000#32 : Ideal .f32)) (k0_pay21 sx xc q lo A hi w s)) broadcasts_S3072x1_S3072x2048)))) bitsLt_fp8e4m3_f32 := by
  simp only [k0_pay1, k0_pay22]

/-- A code of the result. -/
theorem pay22_at (r : Fin 3072) (l : Fin 2048) :
    k0_pay1 (k0_pay22 sx xc q lo A hi w s) (Scalar.ofBits .f32 0xC3E00000#32) (Scalar.ofBits .f32 0x43E00000#32) (ix2 r l)
      = clip (k0_pay20 sx xc q lo A hi w s (ix2 r l)) (Ideal.div (Ideal.ofBits .f32 0x3F800000#32) (rSc (yOf fun k : Fin 2048 => k0_pay20 sx xc q lo A hi w s (ix2 r k)))) := by
  have b := bcol (α := EReal) (m := 3072) (n := 2048) (divf (broadcast S3072x1 (Scalar.ofBits .f32 0x3F800000#32 : Ideal .f32)) (k0_pay21 sx xc q lo A hi w s)) broadcasts_S3072x1_S3072x2048 r l
  rw [pay22_eq, code_at, b, inv_at, pay21_at]

end

end Cert.ReferenceIdeal.Hand

end
-- ==== Proof.RefVal.lean ====
/-
  The reference's values in closed form on the extended reals.
-/
module

public import proofs.«01_k».proof.Proof.RefChain
public import proofs.«01_k».proof.Proof.RefQ
public import proofs.«01_k».proof.Proof.Spec
public import proofs.«01_k».proof.Proof.Words

@[expose] public section

noncomputable section

namespace Cert.ReferenceIdeal.Hand

open Cert.ReferenceIdeal Cert.ReferenceIdeal.Gen
open Idealize.ShloMosaic
open Cert.Scale Cert.Spec

/-! ## The selections -/

/-- A row lies from one word up to another. -/
theorem mV_at {lo hi : ℕ} (hlo : lo < 2 ^ 31) (hhi : hi < 2 ^ 31) (r : Fin 3072) (j : Fin 4096) :
    mV (BitVec.ofNat 32 lo) (BitVec.ofNat 32 hi) (ix2 r j) = 1#1 ↔ lo ≤ r.val ∧ r.val < hi := by
  have hr : r.val < 2 ^ 31 := by have := r.isLt; omega
  unfold mV
  rw [shapeCast_self]
  have b := bcol (α := BitVec 1) (m := 3072) (n := 4096) (andi (cmpi .sge (iota .tc S3072x1 32 [0] iota_S3072x1_d0_w32) (broadcast S3072x1 (BitVec.ofNat 32 lo)))
    (cmpi .slt (iota .tc S3072x1 32 [0] iota_S3072x1_d0_w32) (broadcast S3072x1 (BitVec.ofNat 32 hi)))) broadcasts_S3072x1_S3072x4096 r j
  rw [b]
  have io : iota .tc S3072x1 32 [0] iota_S3072x1_d0_w32 (ix2 r 0) = BitVec.ofNat 32 r.val := iota_single_apply _ _ _ _ _ _
  show IntOp.andi (Scalar.cmpi .sge (iota .tc S3072x1 32 [0] iota_S3072x1_d0_w32 (ix2 r 0)) (BitVec.ofNat 32 lo)) (Scalar.cmpi .slt (iota .tc S3072x1 32 [0] iota_S3072x1_d0_w32 (ix2 r 0)) (BitVec.ofNat 32 hi)) = 1#1 ↔ _
  rw [io]
  show IntOp.andi (Scalar.cmpi .sge (BitVec.ofNat 32 r.val) (BitVec.ofNat 32 lo)) (Scalar.cmpi .slt (BitVec.ofNat 32 r.val) (BitVec.ofNat 32 hi)) = 1#1 ↔ _
  rw [and_iff, Cert.Words.sge_nw hr hlo, Cert.Words.slt_nw hr hhi]

/-- An expert's product at a place. -/
theorem zV_at (sx : FVec Ideal S3072x1 .f32) (xc : FVec Ideal S3072x7168 .fp8e4m3) (w : Vec Ideal S1x7168x4096 .fp8e4m3) (s : Vec Ideal S1x4096 .f32) (r : Fin 3072) (j : Fin 4096) :
    zV sx xc w s (ix2 r j) = (∑ k : Fin 7168, xc (ix2 r k) * w (ix3 0 k j)) * sx (ix2 r 0) * s (ix2 0 j) := by
  unfold zV
  have pr : (matmul (φ₁ := .fp8e4m3) (φ₂ := .fp8e4m3) dot_S3072x7168_S7168x4096_S3072x4096_1_0_0_1_n_n none xc (shapeCast S7168x4096 w shapeCasts_S1x7168x4096_S7168x4096 : FVec Ideal S7168x4096 .fp8e4m3)
      (constant (F := Ideal) S3072x4096 .f32 0x00000000#32) (ix2 r j) : EReal) = ∑ k : Fin 7168, xc (ix2 r k) * w (ix3 0 k j) := by
    refine (prod (m := 3072) (K := 7168) (n := 4096) none xc (shapeCast S7168x4096 w shapeCasts_S1x7168x4096_S7168x4096 : FVec Ideal S7168x4096 .fp8e4m3) r j).trans ?_
    refine Finset.sum_congr rfl fun k _ => ?_
    exact congrArg (xc (ix2 r k) * ·) (drop1 (α := EReal) (m := 7168) (n := 4096) w shapeCasts_S1x7168x4096_S7168x4096 k j)
  have bs := bcol (α := EReal) (m := 3072) (n := 4096) sx broadcasts_S3072x1_S3072x4096 r j
  have br := brow (α := EReal) (m := 3072) (n := 4096) s broadcasts_S1x4096_S3072x4096 r j
  exact congrArg₂ (· * ·) (congrArg₂ (· * ·) pr bs) br

variable (x0 : S13.Idx → BitVec 32) (x1 : S3072x7168.Idx → EReal) (x2 : S13x7168x4096.Idx → EReal) (x3 : S13x4096.Idx → EReal)

/-- The gated product the reference quantises. -/
def hR : S3072x2048.Idx → EReal := gV (F := Ideal) (acc (F := Ideal) x0 x2 x3 (k0_pay3 (F := Ideal) x1) (k0_pay4 (F := Ideal) x1) 13)

/-- The selections leave a row its expert's product. -/
theorem acc_at (P : ℕ → ℕ) (hP : ∀ e ≤ 13, pOf (F := Ideal) x0 e = BitVec.ofNat 32 (P e)) (hb : ∀ e ≤ 13, P e < 2 ^ 31) (hm : ∀ e, P e ≤ P (e + 1))
    (e : ℕ) (he : e < 13) (r : Fin 3072) (h1 : P e ≤ r.val) (h2 : r.val < P (e + 1)) (j : Fin 4096) :
    ∀ n, n ≤ 13 → e < n → acc (F := Ideal) x0 x2 x3 (k0_pay3 (F := Ideal) x1) (k0_pay4 (F := Ideal) x1) n (ix2 r j) = zz x1 x2 x3 ⟨e, he⟩ r j := by
  have mono : ∀ a b, a ≤ b → P a ≤ P b := fun a b h => monotone_nat_of_le_succ hm h
  intro n
  induction n with
  | zero => intro _ h; omega
  | succ n ih =>
    intro hn hl
    rw [acc_succ]
    have hmask := mV_at (hb n (by omega)) (hb (n + 1) hn) r j
    rw [← hP n (by omega), ← hP (n + 1) hn] at hmask
    show Scalar.select _ _ _ = _
    by_cases hne : n = e
    · subst hne
      rw [sel_true (hmask.2 ⟨h1, h2⟩), zV_at]
      unfold zz
      have ex : ∀ k : Fin 7168, (k0_pay4 (F := Ideal) x1 (ix2 r k) : EReal) = xq x1 r k := fun k => by
        rw [pay4_at, ← kInv_eq]; rfl
      have es : (k0_pay3 (F := Ideal) x1 (ix2 r 0) : EReal) = xs x1 r := by
        rw [pay3_at, ← kSc_eq]; rfl
      have em : (⟨n % 13, Nat.mod_lt _ (by decide)⟩ : Fin 13) = ⟨n, he⟩ := Fin.ext (Nat.mod_eq_of_lt he)
      have ew : ∀ k : Fin 7168, (wOf (F := Ideal) x2 n (ix3 0 k j) : EReal) = x2 (ix3 ⟨n, he⟩ k j) := fun k => by rw [← em]; rfl
      have e3 : (sOf (F := Ideal) x3 n (ix2 0 j) : EReal) = x3 (ix2 ⟨n, he⟩ j) := by rw [← em]; rfl
      rw [es, e3]
      refine congrArg (fun t => t * xs x1 r * x3 (ix2 ⟨n, he⟩ j)) (Finset.sum_congr rfl fun k _ => ?_)
      rw [ex, ew]
    · have hf : ¬ mV (pOf (F := Ideal) x0 n) (pOf (F := Ideal) x0 (n + 1)) (ix2 r j) = 1#1 := fun h => by
        have := hmask.1 h
        have := mono (e + 1) n (by omega)
        omega
      rw [sel_false hf]
      exact ih (by omega) (by omega)

/-- The gated product of a row is its expert's. -/
theorem hR_at (P : ℕ → ℕ) (hP : ∀ e ≤ 13, pOf (F := Ideal) x0 e = BitVec.ofNat 32 (P e)) (hb : ∀ e ≤ 13, P e < 2 ^ 31) (hm : ∀ e, P e ≤ P (e + 1))
    (e : ℕ) (he : e < 13) (r : Fin 3072) (h1 : P e ≤ r.val) (h2 : r.val < P (e + 1)) (l : Fin 2048) :
    hR x0 x1 x2 x3 (ix2 r l) = hh x1 x2 x3 ⟨e, he⟩ r l := by
  have hl := l.isLt
  unfold hR gV
  have s0 := scols (α := EReal) (m := 3072) (n := 4096) (k := 2048) 0 (acc (F := Ideal) x0 x2 x3 (k0_pay3 (F := Ideal) x1) (k0_pay4 (F := Ideal) x1) 13) slices_S3072x4096_o0_0_S3072x2048 r l (by omega)
  have s1 := scols (α := EReal) (m := 3072) (n := 4096) (k := 2048) 2048 (acc (F := Ideal) x0 x2 x3 (k0_pay3 (F := Ideal) x1) (k0_pay4 (F := Ideal) x1) 13) slices_S3072x4096_o0_2048_S3072x2048 r l (by omega)
  rw [acc_at x0 x1 x2 x3 P hP hb hm e he r h1 h2 _ 13 le_rfl he] at s0 s1
  have e0 : (⟨0 + l.val, by omega⟩ : Fin 4096) = ⟨l.val, by omega⟩ := Fin.ext (Nat.zero_add _)
  rw [e0] at s0
  exact congrArg₂ silu s0 s1

end Cert.ReferenceIdeal.Hand

end
-- ==== Proof.RefRun.lean ====
/-
  The reference's run: what its two results hold.
-/
module

public import proofs.«01_k».proof.Proof.RefVal
public import proofs.«01_k».proof.Proof.RefQ

@[expose] public section

noncomputable section

namespace Cert.ReferenceIdeal.Hand

open Cert.ReferenceIdeal Cert.ReferenceIdeal.Gen
open Idealize.ShloMosaic Idealize.ShloMosaic.TcCoe Idealize.SL.Sem
open Cert.Scale Cert.Spec

section
variable (c : Dev nD) (arg0 : Memref sig .tc .smem S13 .i32) (harg0 : arg0.IsWhole) (arg1 : Memref sig .tc .vmem S3072x7168 .bf16) (harg1 : arg1.IsWhole)
  (arg2 : Memref sig .tc .vmem S13x7168x4096 .fp8e4m3) (harg2 : arg2.IsWhole) (arg3 : Memref sig .tc .vmem S13x4096 .f32) (harg3 : arg3.IsWhole)
  (arg4 : Memref sig .tc .vmem S3072x2048 .fp8e4m3) (harg4 : arg4.IsWhole) (arg5 : Memref sig .tc .vmem S3072x1 .f32) (harg5 : arg5.IsWhole)
  (x0 : Vec Ideal S13 .i32) (x1 : Vec Ideal S3072x7168 .bf16) (x2 : Vec Ideal S13x7168x4096 .fp8e4m3) (x3 : Vec Ideal S13x4096 .f32)

/-- The gated product of the last stretch of the body. -/
theorem last_eq : k0_pay20 (k0_pay3 x1) (k0_pay4 x1) (iota .tc S3072x1 32 [0] iota_S3072x1_d0_w32) (pOf (F := Ideal) x0 12) (acc (F := Ideal) x0 x2 x3 (k0_pay3 x1) (k0_pay4 x1) 12) (pOf (F := Ideal) x0 13) (k0_pay19 (wOf x2 12)) (sOf x3 12)
    = hR x0 x1 x2 x3 := by
  rw [pay20_eq]
  rfl

theorem r29_at (r : Fin 3072) : kernelRun0_A.sl.r_29 (F := Ideal) c arg0 harg0 arg1 harg1 arg2 harg2 arg3 harg3 x0 x1 x2 x3 (ix2 r 0) = ys (hR x0 x1 x2 x3) r := by
  unfold kernelRun0_A.sl.r_29 kernelRun0_A.sl.r_28 kernelRun0_A.sl.v34
  rw [rdW, rdS, r1_eq, r2_eq, r27_eq, p12_eq, p13_eq, pay21_at, last_eq, ← kSc_eq]
  rfl

theorem r30_at (r : Fin 3072) (l : Fin 2048) :
    k0_pay1 (kernelRun0_A.sl.r_30 (F := Ideal) c arg0 harg0 arg1 harg1 arg2 harg2 arg3 harg3 x0 x1 x2 x3) (Scalar.ofBits .f32 0xC3E00000#32) (Scalar.ofBits .f32 0x43E00000#32) (ix2 r l) = yq (hR x0 x1 x2 x3) r l := by
  unfold kernelRun0_A.sl.r_30 kernelRun0_A.sl.r_28 kernelRun0_A.sl.v34
  rw [rdW, rdS, r1_eq, r2_eq, r27_eq, p12_eq, p13_eq, pay22_at, last_eq, ← kInv_eq]
  rfl

theorem out4_at (r : Fin 3072) (l : Fin 2048) : out0_A_4 (F := Ideal) c arg0 harg0 arg1 harg1 arg2 harg2 arg3 harg3 arg4 harg4 arg5 harg5 x0 x1 x2 x3 (ix2 r l) = yq (hR x0 x1 x2 x3) r l := by
  rw [← r30_at c arg0 harg0 arg1 harg1 arg2 harg2 arg3 harg3 x0 x1 x2 x3]
  unfold out0_A_4 kernelRun0_A
  dsimp only
  exact congrFun (View.read_writes_full _ _ _ _ _) _

theorem out5_at (r : Fin 3072) : out0_A_5 (F := Ideal) c arg0 harg0 arg1 harg1 arg2 harg2 arg3 harg3 arg4 harg4 arg5 harg5 x0 x1 x2 x3 (ix2 r 0) = ys (hR x0 x1 x2 x3) r := by
  rw [← r29_at c arg0 harg0 arg1 harg1 arg2 harg2 arg3 harg3 x0 x1 x2 x3]
  unfold out0_A_5 kernelRun0_A
  dsimp only
  exact congrFun (View.read_writes_full _ _ _ _ _) _

end

variable (m : (ℓ : Loc nD τ sig) → Buf (Elt Ideal) ℓ) (ρ : Dev nD → PrngReg)

theorem i0_eq (c : Dev nD) : iblk m c 0 t0_0 = V m c main_arg1 := by
  funext x
  unfold iblk
  show V m c main_arg1 _ = _
  congr 1
  funext a
  apply Fin.ext
  fin_cases a
  show 0 * 13 + 1 * (x 0).val = (x 0).val
  omega

theorem i1_eq (c : Dev nD) : iblk m c 1 t0_0 = V m c main_arg0 := by
  funext x
  unfold iblk
  show V m c main_arg0 _ = _
  congr 1
  funext a
  apply Fin.ext
  fin_cases a
  · show 0 * 3072 + 1 * (x 0).val = (x 0).val
    omega
  · show 0 * 7168 + 1 * (x 1).val = (x 1).val
    omega

theorem i2_eq (c : Dev nD) : iblk m c 2 t0_0 = V m c main_arg2 := by
  funext x
  unfold iblk
  show V m c main_arg2 _ = _
  congr 1
  funext a
  apply Fin.ext
  fin_cases a
  · show 0 * 13 + 1 * (x 0).val = (x 0).val
    omega
  · show 0 * 7168 + 1 * (x 1).val = (x 1).val
    omega
  · show 0 * 4096 + 1 * (x 2).val = (x 2).val
    omega

theorem i3_eq (c : Dev nD) : iblk m c 3 t0_0 = V m c main_arg3 := by
  funext x
  unfold iblk
  show V m c main_arg3 _ = _
  congr 1
  funext a
  apply Fin.ext
  fin_cases a
  · show 0 * 13 + 1 * (x 0).val = (x 0).val
    omega
  · show 0 * 4096 + 1 * (x 1).val = (x 1).val
    omega

theorem rd4 (f : S3072x2048.Idx → Elt Ideal .fp8e4m3) : ((cfg0.win 4).blk t0_0).view.read (Elt Ideal) f = f := by
  funext (x : S3072x2048.Idx)
  show f _ = _
  congr 1
  funext a
  apply Fin.ext
  fin_cases a
  · show 0 * 3072 + 1 * (x 0).val = (x 0).val
    omega
  · show 0 * 2048 + 1 * (x 1).val = (x 1).val
    omega

theorem rd5 (f : S3072x1.Idx → Elt Ideal .f32) : ((cfg0.win 5).blk t0_0).view.read (Elt Ideal) f = f := by
  funext (x : S3072x1.Idx)
  show f _ = _
  congr 1
  funext a
  apply Fin.ext
  fin_cases a
  · show 0 * 3072 + 1 * (x 0).val = (x 0).val
    omega
  · show 0 * 1 + 1 * (x 1).val = (x 1).val
    omega

/-- The gated product of the arguments held at launch. -/
def hM (c : Dev nD) : S3072x2048.Idx → EReal := hR (V m c main_arg1) (V m c main_arg0) (V m c main_arg2) (V m c main_arg3)

theorem arr4 (c : Dev nD) (r : Fin 3072) (l : Fin 2048) : (dats m 0 c).arrAt 4 cfg0.N (ix2 r l) = yq (hM m c) r l := by
  have h := Cert.ReferenceIdeal.Value.blocks4 m c t0_0 rfl
  rw [rd4, Cert.ReferenceIdeal.Value.flushed4_A, i0_eq, i1_eq, i2_eq, i3_eq] at h
  rw [h]
  exact out4_at c _ _ _ _ _ _ _ _ _ _ _ _ _ _ _ _ r l

theorem arr5 (c : Dev nD) (r : Fin 3072) : (dats m 0 c).arrAt 5 cfg0.N (ix2 r 0) = ys (hM m c) r := by
  have h := Cert.ReferenceIdeal.Value.blocks5 m c t0_0 rfl
  rw [rd5, Cert.ReferenceIdeal.Value.flushed5_A, i0_eq, i1_eq, i2_eq, i3_eq] at h
  rw [h]
  exact out5_at c _ _ _ _ _ _ _ _ _ _ _ _ _ _ _ _ r

end Cert.ReferenceIdeal.Hand

end
-- ==== Proof.Alg.lean ====
/-
  The kernel and the reference leave the same results: both are the gated product of each row's own expert, quantised by the row.
-/
module

public import proofs.«01_k».proof.Defs
public import proofs.«01_k».proof.Proof.Pre
public import proofs.«01_k».proof.Proof.LaunchV
public import proofs.«01_k».proof.Proof.ValH
public import proofs.«01_k».proof.Proof.RefRun

@[expose] public section

noncomputable section

namespace Cert.Alg

open Idealize.ShloMosaic Idealize.ShloMosaic.TcCoe Idealize.SL.Sem
open Cert.Spec
open Cert.KernelIdeal.Hand (sz GOK hOK)
open Cert.KernelIdeal (S13 S13x4096 S13x7168x4096 S3072x7168 S3072x2048 S1x3072 S3072x1)

variable [Cert.KernelIdeal.Facts] [Cert.ReferenceIdeal.Facts] [Cert.Pre_sizes_fill_rows.Facts]

/-- Each group's first row, as a word, is the sum of the sizes before it. -/
theorem start_word (a : S13.Idx → BitVec 32) (e : ℕ) (he : e ≤ 13) :
    Cert.ReferenceIdeal.Hand.pOf (F := Ideal) a e = BitVec.ofNat 32 (sz (Cert.Pre_sizes_fill_rows.size a) e) := by
  induction e with
  | zero => rfl
  | succ e ih =>
    rw [Cert.ReferenceIdeal.Hand.pOf_succ, ih (by omega)]
    have hn : Cert.ReferenceIdeal.Hand.nOf (F := Ideal) a e = BitVec.ofNat 32 (Cert.Pre_sizes_fill_rows.size a e) := by
      have h := Cert.Pre_sizes_fill_rows.size_word a (ix1 (⟨e % 13, Nat.mod_lt _ (by decide)⟩ : Fin 13))
      have e' : e % 13 = e := Nat.mod_eq_of_lt (by omega)
      refine h.trans ?_
      show BitVec.ofNat 32 (Cert.Pre_sizes_fill_rows.size a (e % 13)) = _
      rw [e']
    rw [hn, Cert.Words.add_nw]
    rfl

/-- The starts grow. -/
theorem sz_succ (g : ℕ → ℕ) (e : ℕ) : sz g e ≤ sz g (e + 1) := Nat.le_add_right _ _

theorem sz_mono (g : ℕ → ℕ) {a b : ℕ} (h : a ≤ b) : sz g a ≤ sz g b := monotone_nat_of_le_succ (sz_succ g) h

/-- Where the sizes fill the rows every row lies in some group. -/
theorem group_of {g : ℕ → ℕ} (G : GOK g) (r : Fin 3072) : ∃ e, e < 13 ∧ sz g e ≤ r.val ∧ r.val < sz g (e + 1) := by
  by_contra hc
  have key : ∀ n, n ≤ 13 → sz g n ≤ r.val := by
    intro n
    induction n with
    | zero => intro _; exact Nat.zero_le _
    | succ n ih =>
      intro hn
      by_contra h2
      exact hc ⟨n, by omega, ih (by omega), by omega⟩
  have := key 13 le_rfl
  have := G.tot
  have := r.isLt
  omega

/-- A row's gated product, as the kernel determines it, is the reference's. -/
theorem same {g : ℕ → ℕ} (G : GOK g) (x0 : S13.Idx → BitVec 32) (x1 : Vec Ideal S3072x7168 .bf16) (x2 : Vec Ideal S13x7168x4096 .fp8e4m3)
    (x3 : Vec Ideal S13x4096 .f32) (hg : g = Cert.Pre_sizes_fill_rows.size x0) (h : S3072x2048.Idx → Elt Ideal .f32)
    (hh : ∀ (x : S3072x2048.Idx) (e : ℕ), sz g e ≤ (x 0).val → (x 0).val < sz g (e + 1) → hOK (F := Ideal) x1 x2 x3 e x (h x)) :
    h = Cert.ReferenceIdeal.Hand.hR x0 x1 x2 x3 := by
  funext i
  rw [Cert.Scale.ix2_eta i]
  obtain ⟨e, he, h1, h2⟩ := group_of G (i 0)
  have k1 := Cert.KernelIdeal.Hand.hOK_val x1 x2 x3 he (i 0) (i 1) _ (hh (ix2 (i 0) (i 1)) e h1 h2)
  refine k1.trans (Cert.ReferenceIdeal.Hand.hR_at x0 x1 x2 x3 (sz g) (fun e he => ?_) (fun e he => ?_) (sz_succ g) e he (i 0) h1 h2 (i 1)).symm
  · rw [hg]; exact start_word x0 e he
  · have := sz_mono g he
    have := G.tot
    omega

/-- The reference's gated product depends on nothing but the four arguments. -/
theorem hM_of (m : (ℓ : Loc Cert.ReferenceIdeal.nD Cert.ReferenceIdeal.τ Cert.ReferenceIdeal.sig) → Buf (Elt Ideal) ℓ) (c : Dev Cert.ReferenceIdeal.nD)
    (x0 : S13.Idx → BitVec 32) (x1 : Vec Ideal S3072x7168 .bf16) (x2 : Vec Ideal S13x7168x4096 .fp8e4m3) (x3 : Vec Ideal S13x4096 .f32)
    (e0 : Cert.ReferenceIdeal.Gen.V m c Cert.ReferenceIdeal.main_arg1 = x0) (e1 : Cert.ReferenceIdeal.Gen.V m c Cert.ReferenceIdeal.main_arg0 = x1)
    (e2 : Cert.ReferenceIdeal.Gen.V m c Cert.ReferenceIdeal.main_arg2 = x2) (e3 : Cert.ReferenceIdeal.Gen.V m c Cert.ReferenceIdeal.main_arg3 = x3) :
    Cert.ReferenceIdeal.Hand.hM m c = Cert.ReferenceIdeal.Hand.hR x0 x1 x2 x3 := by
  subst e0 e1 e2 e3
  rfl

/-- The program over the extended reals, and the reference, leave the same codes and the same scales. -/
theorem algebraic (gok : ∀ m, Cert.Pre_KernelIdeal m → ∀ c : Dev Cert.KernelIdeal.nD,
      GOK (Cert.Pre_sizes_fill_rows.size (m ((c.tc : Thread Cert.KernelIdeal.nD Cert.KernelIdeal.τ).loc Cert.KernelIdeal.main_arg1)))) :
    Cert.algebraic_KernelIdeal_ReferenceIdeal := by
  intro m ρ m' ρ' hp hm
  let H : Dev Cert.KernelIdeal.nD → S3072x2048.Idx → EReal := fun c => Cert.ReferenceIdeal.Hand.hM m' c
  let Y : Dev Cert.KernelIdeal.nD → S3072x2048.Idx → Elt Ideal .fp8e4m3 := fun c i => yq (H c) (i 0) (i 1)
  let YS : Dev Cert.KernelIdeal.nD → S1x3072.Idx → Elt Ideal .f32 := fun c i => ys (H c) (i 1)
  have run := Cert.KernelIdeal.Hand.run_mainV m ρ Y YS
    (g := fun c => Cert.Pre_sizes_fill_rows.size (m ((c.tc : Thread Cert.KernelIdeal.nD Cert.KernelIdeal.τ).loc Cert.KernelIdeal.main_arg1)))
    (gok m hp)
    (fun c i => by rw [Cert.KernelIdeal.Hand.f0_eq]; exact Cert.Pre_sizes_fill_rows.size_word _ i)
    (fun c h hh => by
      rw [Cert.KernelIdeal.Hand.f3_eq] at hh
      have k := same (gok m hp c) _ _ _ _ rfl h hh
      obtain ⟨a0, a1, a2, a3⟩ := hm c
      have k' : h = H c := k.trans (hM_of m' c _ _ _ _ a1 a0 a2 a3).symm
      subst k'
      constructor
      · funext i
        rw [Cert.Scale.ix2_eta i]
        exact Cert.KernelIdeal.Hand.yCan_at _ _ _
      · funext i
        rw [Cert.Scale.ix2_eta i, show i 0 = (0 : Fin 1) from Subsingleton.elim (α := Fin 1) _ _]
        exact Cert.KernelIdeal.Hand.ysCan_at _ _)
  refine ⟨Y, fun c => shapeCast S3072x1 (YS c) Cert.KernelIdeal.Gen.shapeCasts_S1x3072_S3072x1, run, ?_⟩
  refine θ_run_mono (Cert.ReferenceIdeal.Value.run_blocks m' ρ') ?_
  intro r hr c
  obtain ⟨b0, b1, b2⟩ := hr c
  refine ⟨b0.trans ?_, b1.trans ?_, b2⟩
  · funext i
    rw [Cert.Scale.ix2_eta i]
    exact Cert.ReferenceIdeal.Hand.arr4 m' c _ _
  · funext i
    rw [Cert.Scale.ix2_eta i, show i 1 = (0 : Fin 1) from Subsingleton.elim (α := Fin 1) _ _]
    exact (Cert.ReferenceIdeal.Hand.arr5 m' c _).trans (Cert.Scale.rcol (YS c) _ (i 0)).symm

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Pre
public import proofs.«01_k».proof.Proof.Launch
public import proofs.«01_k».proof.Proof.KLaunch
public import proofs.«01_k».proof.Proof.Alg
public import Idealize.ShloMosaic.Adequacy
public import Idealize.ShloMosaic.Init

@[expose] public section

noncomputable section

namespace Cert.Proof

open Idealize.ShloMosaic Idealize.ShloMosaic.TcCoe Idealize.SL.Sem

/-- Each group's size, read off the second argument. -/
def sizesK (m : (ℓ : Loc Cert.Kernel.nD Cert.Kernel.τ Cert.Kernel.sig) → Buf (Elt Bits) ℓ) (c : Dev Cert.Kernel.nD) : ℕ → ℕ :=
  Cert.Pre_sizes_fill_rows.size (m ((c.tc : Thread Cert.Kernel.nD Cert.Kernel.τ).loc Cert.Kernel.main_arg1))
def sizesI (m : (ℓ : Loc Cert.KernelIdeal.nD Cert.KernelIdeal.τ Cert.KernelIdeal.sig) → Buf (Elt Ideal) ℓ) (c : Dev Cert.KernelIdeal.nD) : ℕ → ℕ :=
  Cert.Pre_sizes_fill_rows.size (m ((c.tc : Thread Cert.KernelIdeal.nD Cert.KernelIdeal.τ).loc Cert.KernelIdeal.main_arg1))

theorem gokK [Cert.Kernel.Facts] [Cert.Pre_sizes_fill_rows.Facts] (m) (h : Cert.Pre_Kernel m) (c : Dev Cert.Kernel.nD) : Cert.Kernel.Hand.GOK (sizesK m c) where
  tot := by
    have h := Cert.Pre_sizes_fill_rows.sums _ _ _ _ (h c)
    simpa only [Cert.Kernel.Hand.sz, Nat.zero_add, sizesK] using h
  out := fun e he => Cert.Pre_sizes_fill_rows.size_out _ e he
theorem gokI [Cert.KernelIdeal.Facts] [Cert.Pre_sizes_fill_rows.Facts] (m) (h : Cert.Pre_KernelIdeal m) (c : Dev Cert.KernelIdeal.nD) : Cert.KernelIdeal.Hand.GOK (sizesI m c) where
  tot := by
    have h := Cert.Pre_sizes_fill_rows.sums _ _ _ _ (h c)
    simpa only [Cert.KernelIdeal.Hand.sz, Nat.zero_add, sizesI] using h
  out := fun e he => Cert.Pre_sizes_fill_rows.size_out _ e he

/-- The kernel, over bits and over extended reals, and the reference run to the end with every semaphore at zero; and over the
    extended reals the kernel and the reference leave the same codes and the same scales. -/
theorem claim : Cert.Claim :=
  ⟨Cert.Kernel.Gen.facts, Cert.KernelIdeal.Gen.facts, Cert.ReferenceIdeal.Gen.facts, Cert.Pre_sizes_fill_rows.facts_hold,
    fun m ρ h => letI := Cert.Pre_sizes_fill_rows.facts_hold
      Cert.Kernel.Hand.frameK m ρ (g := sizesK m) (gokK m h) fun c i => by rw [Cert.Kernel.Hand.f0_eq]; exact Cert.Pre_sizes_fill_rows.size_word _ i,
    fun m ρ h => letI := Cert.Pre_sizes_fill_rows.facts_hold
      Cert.KernelIdeal.Hand.frameK m ρ (g := sizesI m) (gokI m h) fun c i => by rw [Cert.KernelIdeal.Hand.f0_eq]; exact Cert.Pre_sizes_fill_rows.size_word _ i,
    fun m ρ _ => Cert.ReferenceIdeal.Gen.frame m ρ,
    fun m ρ _ => Cert.ReferenceIdeal.Gen.frame m ρ,
    trivial,
    letI := Cert.KernelIdeal.Gen.facts
    letI := Cert.ReferenceIdeal.Gen.facts
    letI := Cert.Pre_sizes_fill_rows.facts_hold
    Cert.Alg.algebraic fun m h c => gokI m h c⟩

end Cert.Proof

end
